-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_finite_ple [hPre_finite_ple : Cert.Pre_finite_ple.Facts] (m : (ℓ : Loc Cert.PleIdeal.nD Cert.PleIdeal.τ Cert.PleIdeal.sig) → Buf (Elt Ideal) ℓ) : Prop :=
  ∀ c : Dev Cert.PleIdeal.nD,
    (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.2.2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.2.2.2.2 = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_finite_ple [hPre_finite_ple : Cert.Pre_finite_ple.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.2.2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.2.2.2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.2.2.2.2 = (fun _ => 1#1)

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruIdeal_finite_lru [hPre_finite_lru : Cert.Pre_finite_lru.Facts] (m : (ℓ : Loc Cert.LruIdeal.nD Cert.LruIdeal.τ Cert.LruIdeal.sig) → Buf (Elt Ideal) ℓ) : Prop :=
  ∀ c : Dev Cert.LruIdeal.nD,
    (Cert.Pre_finite_lru.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).1 = (fun _ => 1#1)
    ∧ (Cert.Pre_finite_lru.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.1 = (fun _ => 1#1)
    ∧ (Cert.Pre_finite_lru.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.1 = (fun _ => 1#1)
    ∧ (Cert.Pre_finite_lru.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.2.1 = (fun _ => 1#1)
    ∧ (Cert.Pre_finite_lru.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.2.2.1 = (fun _ => 1#1)
    ∧ (Cert.Pre_finite_lru.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.2.2.2.1 = (fun _ => 1#1)
    ∧ (Cert.Pre_finite_lru.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.2.2.2.2.1 = (fun _ => 1#1)
    ∧ (Cert.Pre_finite_lru.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.2.2.2.2.2.1 = (fun _ => 1#1)
    ∧ (Cert.Pre_finite_lru.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.2.2.2.2.2.2.1 = (fun _ => 1#1)
    ∧ (Cert.Pre_finite_lru.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.2.2.2.2.2.2.2.1 = (fun _ => 1#1)
    ∧ (Cert.Pre_finite_lru.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7)) (m ((c.tc : Thread Cert.LruIdeal.nD Cert.LruIdeal.τ).loc Cert.LruIdeal.main_arg8)) (m ((c.tc : Thread Cert.LruIdeal.nD Cert.LruIdeal.τ).loc Cert.LruIdeal.main_arg9)) (m ((c.tc : Thread Cert.LruIdeal.nD Cert.LruIdeal.τ).loc Cert.LruIdeal.main_arg10))).2.2.2.2.2.2.2.2.2.2 = (fun _ => 1#1)

def Pre_LruRefIdeal (m : (ℓ : Loc Cert.LruRefIdeal.nD Cert.LruRefIdeal.τ Cert.LruRefIdeal.sig) → Buf (Elt Ideal) ℓ) : Prop :=
  True

def Pre_LruRefIdeal_finite_lru [hPre_finite_lru : Cert.Pre_finite_lru.Facts] (m : (ℓ : Loc Cert.LruRefIdeal.nD Cert.LruRefIdeal.τ Cert.LruRefIdeal.sig) → Buf (Elt Ideal) ℓ) : Prop :=
  ∀ c : Dev Cert.LruRefIdeal.nD,
    (Cert.Pre_finite_lru.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8)) (m ((c.tc : Thread Cert.LruRefIdeal.nD Cert.LruRefIdeal.τ).loc Cert.LruRefIdeal.main_arg9)) (m ((c.tc : Thread Cert.LruRefIdeal.nD Cert.LruRefIdeal.τ).loc Cert.LruRefIdeal.main_arg10))).1 = (fun _ => 1#1)
    ∧ (Cert.Pre_finite_lru.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8)) (m ((c.tc : Thread Cert.LruRefIdeal.nD Cert.LruRefIdeal.τ).loc Cert.LruRefIdeal.main_arg9)) (m ((c.tc : Thread Cert.LruRefIdeal.nD Cert.LruRefIdeal.τ).loc Cert.LruRefIdeal.main_arg10))).2.1 = (fun _ => 1#1)
    ∧ (Cert.Pre_finite_lru.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8)) (m ((c.tc : Thread Cert.LruRefIdeal.nD Cert.LruRefIdeal.τ).loc Cert.LruRefIdeal.main_arg9)) (m ((c.tc : Thread Cert.LruRefIdeal.nD Cert.LruRefIdeal.τ).loc Cert.LruRefIdeal.main_arg10))).2.2.1 = (fun _ => 1#1)
    ∧ (Cert.Pre_finite_lru.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8)) (m ((c.tc : Thread Cert.LruRefIdeal.nD Cert.LruRefIdeal.τ).loc Cert.LruRefIdeal.main_arg9)) (m ((c.tc : Thread Cert.LruRefIdeal.nD Cert.LruRefIdeal.τ).loc Cert.LruRefIdeal.main_arg10))).2.2.2.1 = (fun _ => 1#1)
    ∧ (Cert.Pre_finite_lru.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8)) (m ((c.tc : Thread Cert.LruRefIdeal.nD Cert.LruRefIdeal.τ).loc Cert.LruRefIdeal.main_arg9)) (m ((c.tc : Thread Cert.LruRefIdeal.nD Cert.LruRefIdeal.τ).loc Cert.LruRefIdeal.main_arg10))).2.2.2.2.1 = (fun _ => 1#1)
    ∧ (Cert.Pre_finite_lru.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8)) (m ((c.tc : Thread Cert.LruRefIdeal.nD Cert.LruRefIdeal.τ).loc Cert.LruRefIdeal.main_arg9)) (m ((c.tc : Thread Cert.LruRefIdeal.nD Cert.LruRefIdeal.τ).loc Cert.LruRefIdeal.main_arg10))).2.2.2.2.2.1 = (fun _ => 1#1)
    ∧ (Cert.Pre_finite_lru.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8)) (m ((c.tc : Thread Cert.LruRefIdeal.nD Cert.LruRefIdeal.τ).loc Cert.LruRefIdeal.main_arg9)) (m ((c.tc : Thread Cert.LruRefIdeal.nD Cert.LruRefIdeal.τ).loc Cert.LruRefIdeal.main_arg10))).2.2.2.2.2.2.1 = (fun _ => 1#1)
    ∧ (Cert.Pre_finite_lru.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8)) (m ((c.tc : Thread Cert.LruRefIdeal.nD Cert.LruRefIdeal.τ).loc Cert.LruRefIdeal.main_arg9)) (m ((c.tc : Thread Cert.LruRefIdeal.nD Cert.LruRefIdeal.τ).loc Cert.LruRefIdeal.main_arg10))).2.2.2.2.2.2.2.1 = (fun _ => 1#1)
    ∧ (Cert.Pre_finite_lru.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8)) (m ((c.tc : Thread Cert.LruRefIdeal.nD Cert.LruRefIdeal.τ).loc Cert.LruRefIdeal.main_arg9)) (m ((c.tc : Thread Cert.LruRefIdeal.nD Cert.LruRefIdeal.τ).loc Cert.LruRefIdeal.main_arg10))).2.2.2.2.2.2.2.2.1 = (fun _ => 1#1)
    ∧ (Cert.Pre_finite_lru.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8)) (m ((c.tc : Thread Cert.LruRefIdeal.nD Cert.LruRefIdeal.τ).loc Cert.LruRefIdeal.main_arg9)) (m ((c.tc : Thread Cert.LruRefIdeal.nD Cert.LruRefIdeal.τ).loc Cert.LruRefIdeal.main_arg10))).2.2.2.2.2.2.2.2.2.1 = (fun _ => 1#1)
    ∧ (Cert.Pre_finite_lru.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7)) (m ((c.tc : Thread Cert.LruRefIdeal.nD Cert.LruRefIdeal.τ).loc Cert.LruRefIdeal.main_arg8)) (m ((c.tc : Thread Cert.LruRefIdeal.nD Cert.LruRefIdeal.τ).loc Cert.LruRefIdeal.main_arg9)) (m ((c.tc : Thread Cert.LruRefIdeal.nD Cert.LruRefIdeal.τ).loc Cert.LruRefIdeal.main_arg10))).2.2.2.2.2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.2 = (fun _ => 1#1)

def Pre_LruIn (m : (ℓ : Loc Cert.LruIn.nD Cert.LruIn.τ Cert.LruIn.sig) → Buf (Elt Bits) ℓ) : Prop :=
  True

def Pre_LruInIdeal (m : (ℓ : Loc Cert.LruInIdeal.nD Cert.LruInIdeal.τ Cert.LruInIdeal.sig) → Buf (Elt Ideal) ℓ) : Prop :=
  True

def Pre_LruInIdeal_finite_in [hPre_finite_in : Cert.Pre_finite_in.Facts] (m : (ℓ : Loc Cert.LruInIdeal.nD Cert.LruInIdeal.τ Cert.LruInIdeal.sig) → Buf (Elt Ideal) ℓ) : Prop :=
  ∀ c : Dev Cert.LruInIdeal.nD,
    (Cert.Pre_finite_in.fn (F := Ideal) (m ((c.tc : Thread Cert.LruInIdeal.nD Cert.LruInIdeal.τ).loc Cert.LruInIdeal.main_arg0)) (m ((c.tc : Thread Cert.LruInIdeal.nD Cert.LruInIdeal.τ).loc Cert.LruInIdeal.main_arg1)) (m ((c.tc : Thread Cert.LruInIdeal.nD Cert.LruInIdeal.τ).loc Cert.LruInIdeal.main_arg2)) (m ((c.tc : Thread Cert.LruInIdeal.nD Cert.LruInIdeal.τ).loc Cert.LruInIdeal.main_arg3)) (m ((c.tc : Thread Cert.LruInIdeal.nD Cert.LruInIdeal.τ).loc Cert.LruInIdeal.main_arg4))).1 = (fun _ => 1#1)
    ∧ (Cert.Pre_finite_in.fn (F := Ideal) (m ((c.tc : Thread Cert.LruInIdeal.nD Cert.LruInIdeal.τ).loc Cert.LruInIdeal.main_arg0)) (m ((c.tc : Thread Cert.LruInIdeal.nD Cert.LruInIdeal.τ).loc Cert.LruInIdeal.main_arg1)) (m ((c.tc : Thread Cert.LruInIdeal.nD Cert.LruInIdeal.τ).loc Cert.LruInIdeal.main_arg2)) (m ((c.tc : Thread Cert.LruInIdeal.nD Cert.LruInIdeal.τ).loc Cert.LruInIdeal.main_arg3)) (m ((c.tc : Thread Cert.LruInIdeal.nD Cert.LruInIdeal.τ).loc Cert.LruInIdeal.main_arg4))).2.1 = (fun _ => 1#1)
    ∧ (Cert.Pre_finite_in.fn (F := Ideal) (m ((c.tc : Thread Cert.LruInIdeal.nD Cert.LruInIdeal.τ).loc Cert.LruInIdeal.main_arg0)) (m ((c.tc : Thread Cert.LruInIdeal.nD Cert.LruInIdeal.τ).loc Cert.LruInIdeal.main_arg1)) (m ((c.tc : Thread Cert.LruInIdeal.nD Cert.LruInIdeal.τ).loc Cert.LruInIdeal.main_arg2)) (m ((c.tc : Thread Cert.LruInIdeal.nD Cert.LruInIdeal.τ).loc Cert.LruInIdeal.main_arg3)) (m ((c.tc : Thread Cert.LruInIdeal.nD Cert.LruInIdeal.τ).loc Cert.LruInIdeal.main_arg4))).2.2.1 = (fun _ => 1#1)
    ∧ (Cert.Pre_finite_in.fn (F := Ideal) (m ((c.tc : Thread Cert.LruInIdeal.nD Cert.LruInIdeal.τ).loc Cert.LruInIdeal.main_arg0)) (m ((c.tc : Thread Cert.LruInIdeal.nD Cert.LruInIdeal.τ).loc Cert.LruInIdeal.main_arg1)) (m ((c.tc : Thread Cert.LruInIdeal.nD Cert.LruInIdeal.τ).loc Cert.LruInIdeal.main_arg2)) (m ((c.tc : Thread Cert.LruInIdeal.nD Cert.LruInIdeal.τ).loc Cert.LruInIdeal.main_arg3)) (m ((c.tc : Thread Cert.LruInIdeal.nD Cert.LruInIdeal.τ).loc Cert.LruInIdeal.main_arg4))).2.2.2.1 = (fun _ => 1#1)
    ∧ (Cert.Pre_finite_in.fn (F := Ideal) (m ((c.tc : Thread Cert.LruInIdeal.nD Cert.LruInIdeal.τ).loc Cert.LruInIdeal.main_arg0)) (m ((c.tc : Thread Cert.LruInIdeal.nD Cert.LruInIdeal.τ).loc Cert.LruInIdeal.main_arg1)) (m ((c.tc : Thread Cert.LruInIdeal.nD Cert.LruInIdeal.τ).loc Cert.LruInIdeal.main_arg2)) (m ((c.tc : Thread Cert.LruInIdeal.nD Cert.LruInIdeal.τ).loc Cert.LruInIdeal.main_arg3)) (m ((c.tc : Thread Cert.LruInIdeal.nD Cert.LruInIdeal.τ).loc Cert.LruInIdeal.main_arg4))).2.2.2.2 = (fun _ => 1#1)

def Pre_LruInRefIdeal (m : (ℓ : Loc Cert.LruInRefIdeal.nD Cert.LruInRefIdeal.τ Cert.LruInRefIdeal.sig) → Buf (Elt Ideal) ℓ) : Prop :=
  True

def Pre_LruInRefIdeal_finite_in [hPre_finite_in : Cert.Pre_finite_in.Facts] (m : (ℓ : Loc Cert.LruInRefIdeal.nD Cert.LruInRefIdeal.τ Cert.LruInRefIdeal.sig) → Buf (Elt Ideal) ℓ) : Prop :=
  ∀ c : Dev Cert.LruInRefIdeal.nD,
    (Cert.Pre_finite_in.fn (F := Ideal) (m ((c.tc : Thread Cert.LruInRefIdeal.nD Cert.LruInRefIdeal.τ).loc Cert.LruInRefIdeal.main_arg0)) (m ((c.tc : Thread Cert.LruInRefIdeal.nD Cert.LruInRefIdeal.τ).loc Cert.LruInRefIdeal.main_arg1)) (m ((c.tc : Thread Cert.LruInRefIdeal.nD Cert.LruInRefIdeal.τ).loc Cert.LruInRefIdeal.main_arg2)) (m ((c.tc : Thread Cert.LruInRefIdeal.nD Cert.LruInRefIdeal.τ).loc Cert.LruInRefIdeal.main_arg3)) (m ((c.tc : Thread Cert.LruInRefIdeal.nD Cert.LruInRefIdeal.τ).loc Cert.LruInRefIdeal.main_arg4))).1 = (fun _ => 1#1)
    ∧ (Cert.Pre_finite_in.fn (F := Ideal) (m ((c.tc : Thread Cert.LruInRefIdeal.nD Cert.LruInRefIdeal.τ).loc Cert.LruInRefIdeal.main_arg0)) (m ((c.tc : Thread Cert.LruInRefIdeal.nD Cert.LruInRefIdeal.τ).loc Cert.LruInRefIdeal.main_arg1)) (m ((c.tc : Thread Cert.LruInRefIdeal.nD Cert.LruInRefIdeal.τ).loc Cert.LruInRefIdeal.main_arg2)) (m ((c.tc : Thread Cert.LruInRefIdeal.nD Cert.LruInRefIdeal.τ).loc Cert.LruInRefIdeal.main_arg3)) (m ((c.tc : Thread Cert.LruInRefIdeal.nD Cert.LruInRefIdeal.τ).loc Cert.LruInRefIdeal.main_arg4))).2.1 = (fun _ => 1#1)
    ∧ (Cert.Pre_finite_in.fn (F := Ideal) (m ((c.tc : Thread Cert.LruInRefIdeal.nD Cert.LruInRefIdeal.τ).loc Cert.LruInRefIdeal.main_arg0)) (m ((c.tc : Thread Cert.LruInRefIdeal.nD Cert.LruInRefIdeal.τ).loc Cert.LruInRefIdeal.main_arg1)) (m ((c.tc : Thread Cert.LruInRefIdeal.nD Cert.LruInRefIdeal.τ).loc Cert.LruInRefIdeal.main_arg2)) (m ((c.tc : Thread Cert.LruInRefIdeal.nD Cert.LruInRefIdeal.τ).loc Cert.LruInRefIdeal.main_arg3)) (m ((c.tc : Thread Cert.LruInRefIdeal.nD Cert.LruInRefIdeal.τ).loc Cert.LruInRefIdeal.main_arg4))).2.2.1 = (fun _ => 1#1)
    ∧ (Cert.Pre_finite_in.fn (F := Ideal) (m ((c.tc : Thread Cert.LruInRefIdeal.nD Cert.LruInRefIdeal.τ).loc Cert.LruInRefIdeal.main_arg0)) (m ((c.tc : Thread Cert.LruInRefIdeal.nD Cert.LruInRefIdeal.τ).loc Cert.LruInRefIdeal.main_arg1)) (m ((c.tc : Thread Cert.LruInRefIdeal.nD Cert.LruInRefIdeal.τ).loc Cert.LruInRefIdeal.main_arg2)) (m ((c.tc : Thread Cert.LruInRefIdeal.nD Cert.LruInRefIdeal.τ).loc Cert.LruInRefIdeal.main_arg3)) (m ((c.tc : Thread Cert.LruInRefIdeal.nD Cert.LruInRefIdeal.τ).loc Cert.LruInRefIdeal.main_arg4))).2.2.2.1 = (fun _ => 1#1)
    ∧ (Cert.Pre_finite_in.fn (F := Ideal) (m ((c.tc : Thread Cert.LruInRefIdeal.nD Cert.LruInRefIdeal.τ).loc Cert.LruInRefIdeal.main_arg0)) (m ((c.tc : Thread Cert.LruInRefIdeal.nD Cert.LruInRefIdeal.τ).loc Cert.LruInRefIdeal.main_arg1)) (m ((c.tc : Thread Cert.LruInRefIdeal.nD Cert.LruInRefIdeal.τ).loc Cert.LruInRefIdeal.main_arg2)) (m ((c.tc : Thread Cert.LruInRefIdeal.nD Cert.LruInRefIdeal.τ).loc Cert.LruInRefIdeal.main_arg3)) (m ((c.tc : Thread Cert.LruInRefIdeal.nD Cert.LruInRefIdeal.τ).loc Cert.LruInRefIdeal.main_arg4))).2.2.2.2 = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_pool [hPre_finite_pool : Cert.Pre_finite_pool.Facts] (m : (ℓ : Loc Cert.PoolIdeal.nD Cert.PoolIdeal.τ Cert.PoolIdeal.sig) → Buf (Elt Ideal) ℓ) : Prop :=
  ∀ c : Dev Cert.PoolIdeal.nD,
    (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5))).1 = (fun _ => 1#1)
    ∧ (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5))).2.1 = (fun _ => 1#1)
    ∧ (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5))).2.2.1 = (fun _ => 1#1)
    ∧ (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5))).2.2.2.1 = (fun _ => 1#1)
    ∧ (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5))).2.2.2.2.1 = (fun _ => 1#1)
    ∧ (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5))).2.2.2.2.2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_pool [hPre_finite_pool : Cert.Pre_finite_pool.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5))).1 = (fun _ => 1#1)
    ∧ (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5))).2.1 = (fun _ => 1#1)
    ∧ (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5))).2.2.1 = (fun _ => 1#1)
    ∧ (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5))).2.2.2.1 = (fun _ => 1#1)
    ∧ (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5))).2.2.2.2.1 = (fun _ => 1#1)
    ∧ (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5))).2.2.2.2.2 = (fun _ => 1#1)

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_PleFwdIdeal_finite_ple_fwd [hPre_finite_ple_fwd : Cert.Pre_finite_ple_fwd.Facts] (m : (ℓ : Loc Cert.PleFwdIdeal.nD Cert.PleFwdIdeal.τ Cert.PleFwdIdeal.sig) → Buf (Elt Ideal) ℓ) : Prop :=
  ∀ c : Dev Cert.PleFwdIdeal.nD,
    (Cert.Pre_finite_ple_fwd.fn (F := Ideal) (m ((c.tc : Thread Cert.PleFwdIdeal.nD Cert.PleFwdIdeal.τ).loc Cert.PleFwdIdeal.main_arg0)) (m ((c.tc : Thread Cert.PleFwdIdeal.nD Cert.PleFwdIdeal.τ).loc Cert.PleFwdIdeal.main_arg1)) (m ((c.tc : Thread Cert.PleFwdIdeal.nD Cert.PleFwdIdeal.τ).loc Cert.PleFwdIdeal.main_arg2)) (m ((c.tc : Thread Cert.PleFwdIdeal.nD Cert.PleFwdIdeal.τ).loc Cert.PleFwdIdeal.main_arg3)) (m ((c.tc : Thread Cert.PleFwdIdeal.nD Cert.PleFwdIdeal.τ).loc Cert.PleFwdIdeal.main_arg4))).1 = (fun _ => 1#1)
    ∧ (Cert.Pre_finite_ple_fwd.fn (F := Ideal) (m ((c.tc : Thread Cert.PleFwdIdeal.nD Cert.PleFwdIdeal.τ).loc Cert.PleFwdIdeal.main_arg0)) (m ((c.tc : Thread Cert.PleFwdIdeal.nD Cert.PleFwdIdeal.τ).loc Cert.PleFwdIdeal.main_arg1)) (m ((c.tc : Thread Cert.PleFwdIdeal.nD Cert.PleFwdIdeal.τ).loc Cert.PleFwdIdeal.main_arg2)) (m ((c.tc : Thread Cert.PleFwdIdeal.nD Cert.PleFwdIdeal.τ).loc Cert.PleFwdIdeal.main_arg3)) (m ((c.tc : Thread Cert.PleFwdIdeal.nD Cert.PleFwdIdeal.τ).loc Cert.PleFwdIdeal.main_arg4))).2.1 = (fun _ => 1#1)
    ∧ (Cert.Pre_finite_ple_fwd.fn (F := Ideal) (m ((c.tc : Thread Cert.PleFwdIdeal.nD Cert.PleFwdIdeal.τ).loc Cert.PleFwdIdeal.main_arg0)) (m ((c.tc : Thread Cert.PleFwdIdeal.nD Cert.PleFwdIdeal.τ).loc Cert.PleFwdIdeal.main_arg1)) (m ((c.tc : Thread Cert.PleFwdIdeal.nD Cert.PleFwdIdeal.τ).loc Cert.PleFwdIdeal.main_arg2)) (m ((c.tc : Thread Cert.PleFwdIdeal.nD Cert.PleFwdIdeal.τ).loc Cert.PleFwdIdeal.main_arg3)) (m ((c.tc : Thread Cert.PleFwdIdeal.nD Cert.PleFwdIdeal.τ).loc Cert.PleFwdIdeal.main_arg4))).2.2.1 = (fun _ => 1#1)
    ∧ (Cert.Pre_finite_ple_fwd.fn (F := Ideal) (m ((c.tc : Thread Cert.PleFwdIdeal.nD Cert.PleFwdIdeal.τ).loc Cert.PleFwdIdeal.main_arg0)) (m ((c.tc : Thread Cert.PleFwdIdeal.nD Cert.PleFwdIdeal.τ).loc Cert.PleFwdIdeal.main_arg1)) (m ((c.tc : Thread Cert.PleFwdIdeal.nD Cert.PleFwdIdeal.τ).loc Cert.PleFwdIdeal.main_arg2)) (m ((c.tc : Thread Cert.PleFwdIdeal.nD Cert.PleFwdIdeal.τ).loc Cert.PleFwdIdeal.main_arg3)) (m ((c.tc : Thread Cert.PleFwdIdeal.nD Cert.PleFwdIdeal.τ).loc Cert.PleFwdIdeal.main_arg4))).2.2.2.1 = (fun _ => 1#1)
    ∧ (Cert.Pre_finite_ple_fwd.fn (F := Ideal) (m ((c.tc : Thread Cert.PleFwdIdeal.nD Cert.PleFwdIdeal.τ).loc Cert.PleFwdIdeal.main_arg0)) (m ((c.tc : Thread Cert.PleFwdIdeal.nD Cert.PleFwdIdeal.τ).loc Cert.PleFwdIdeal.main_arg1)) (m ((c.tc : Thread Cert.PleFwdIdeal.nD Cert.PleFwdIdeal.τ).loc Cert.PleFwdIdeal.main_arg2)) (m ((c.tc : Thread Cert.PleFwdIdeal.nD Cert.PleFwdIdeal.τ).loc Cert.PleFwdIdeal.main_arg3)) (m ((c.tc : Thread Cert.PleFwdIdeal.nD Cert.PleFwdIdeal.τ).loc Cert.PleFwdIdeal.main_arg4))).2.2.2.2 = (fun _ => 1#1)

def Pre_PleFwdRefIdeal (m : (ℓ : Loc Cert.PleFwdRefIdeal.nD Cert.PleFwdRefIdeal.τ Cert.PleFwdRefIdeal.sig) → Buf (Elt Ideal) ℓ) : Prop :=
  True

def Pre_PleFwdRefIdeal_finite_ple_fwd [hPre_finite_ple_fwd : Cert.Pre_finite_ple_fwd.Facts] (m : (ℓ : Loc Cert.PleFwdRefIdeal.nD Cert.PleFwdRefIdeal.τ Cert.PleFwdRefIdeal.sig) → Buf (Elt Ideal) ℓ) : Prop :=
  ∀ c : Dev Cert.PleFwdRefIdeal.nD,
    (Cert.Pre_finite_ple_fwd.fn (F := Ideal) (m ((c.tc : Thread Cert.PleFwdRefIdeal.nD Cert.PleFwdRefIdeal.τ).loc Cert.PleFwdRefIdeal.main_arg0)) (m ((c.tc : Thread Cert.PleFwdRefIdeal.nD Cert.PleFwdRefIdeal.τ).loc Cert.PleFwdRefIdeal.main_arg1)) (m ((c.tc : Thread Cert.PleFwdRefIdeal.nD Cert.PleFwdRefIdeal.τ).loc Cert.PleFwdRefIdeal.main_arg2)) (m ((c.tc : Thread Cert.PleFwdRefIdeal.nD Cert.PleFwdRefIdeal.τ).loc Cert.PleFwdRefIdeal.main_arg3)) (m ((c.tc : Thread Cert.PleFwdRefIdeal.nD Cert.PleFwdRefIdeal.τ).loc Cert.PleFwdRefIdeal.main_arg4))).1 = (fun _ => 1#1)
    ∧ (Cert.Pre_finite_ple_fwd.fn (F := Ideal) (m ((c.tc : Thread Cert.PleFwdRefIdeal.nD Cert.PleFwdRefIdeal.τ).loc Cert.PleFwdRefIdeal.main_arg0)) (m ((c.tc : Thread Cert.PleFwdRefIdeal.nD Cert.PleFwdRefIdeal.τ).loc Cert.PleFwdRefIdeal.main_arg1)) (m ((c.tc : Thread Cert.PleFwdRefIdeal.nD Cert.PleFwdRefIdeal.τ).loc Cert.PleFwdRefIdeal.main_arg2)) (m ((c.tc : Thread Cert.PleFwdRefIdeal.nD Cert.PleFwdRefIdeal.τ).loc Cert.PleFwdRefIdeal.main_arg3)) (m ((c.tc : Thread Cert.PleFwdRefIdeal.nD Cert.PleFwdRefIdeal.τ).loc Cert.PleFwdRefIdeal.main_arg4))).2.1 = (fun _ => 1#1)
    ∧ (Cert.Pre_finite_ple_fwd.fn (F := Ideal) (m ((c.tc : Thread Cert.PleFwdRefIdeal.nD Cert.PleFwdRefIdeal.τ).loc Cert.PleFwdRefIdeal.main_arg0)) (m ((c.tc : Thread Cert.PleFwdRefIdeal.nD Cert.PleFwdRefIdeal.τ).loc Cert.PleFwdRefIdeal.main_arg1)) (m ((c.tc : Thread Cert.PleFwdRefIdeal.nD Cert.PleFwdRefIdeal.τ).loc Cert.PleFwdRefIdeal.main_arg2)) (m ((c.tc : Thread Cert.PleFwdRefIdeal.nD Cert.PleFwdRefIdeal.τ).loc Cert.PleFwdRefIdeal.main_arg3)) (m ((c.tc : Thread Cert.PleFwdRefIdeal.nD Cert.PleFwdRefIdeal.τ).loc Cert.PleFwdRefIdeal.main_arg4))).2.2.1 = (fun _ => 1#1)
    ∧ (Cert.Pre_finite_ple_fwd.fn (F := Ideal) (m ((c.tc : Thread Cert.PleFwdRefIdeal.nD Cert.PleFwdRefIdeal.τ).loc Cert.PleFwdRefIdeal.main_arg0)) (m ((c.tc : Thread Cert.PleFwdRefIdeal.nD Cert.PleFwdRefIdeal.τ).loc Cert.PleFwdRefIdeal.main_arg1)) (m ((c.tc : Thread Cert.PleFwdRefIdeal.nD Cert.PleFwdRefIdeal.τ).loc Cert.PleFwdRefIdeal.main_arg2)) (m ((c.tc : Thread Cert.PleFwdRefIdeal.nD Cert.PleFwdRefIdeal.τ).loc Cert.PleFwdRefIdeal.main_arg3)) (m ((c.tc : Thread Cert.PleFwdRefIdeal.nD Cert.PleFwdRefIdeal.τ).loc Cert.PleFwdRefIdeal.main_arg4))).2.2.2.1 = (fun _ => 1#1)
    ∧ (Cert.Pre_finite_ple_fwd.fn (F := Ideal) (m ((c.tc : Thread Cert.PleFwdRefIdeal.nD Cert.PleFwdRefIdeal.τ).loc Cert.PleFwdRefIdeal.main_arg0)) (m ((c.tc : Thread Cert.PleFwdRefIdeal.nD Cert.PleFwdRefIdeal.τ).loc Cert.PleFwdRefIdeal.main_arg1)) (m ((c.tc : Thread Cert.PleFwdRefIdeal.nD Cert.PleFwdRefIdeal.τ).loc Cert.PleFwdRefIdeal.main_arg2)) (m ((c.tc : Thread Cert.PleFwdRefIdeal.nD Cert.PleFwdRefIdeal.τ).loc Cert.PleFwdRefIdeal.main_arg3)) (m ((c.tc : Thread Cert.PleFwdRefIdeal.nD Cert.PleFwdRefIdeal.τ).loc Cert.PleFwdRefIdeal.main_arg4))).2.2.2.2 = (fun _ => 1#1)

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_finite_pool_fwd [hPre_finite_pool_fwd : Cert.Pre_finite_pool_fwd.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_finite_pool_fwd.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2)) (m ((c.tc : Thread Cert.PoolFwdIdeal.nD Cert.PoolFwdIdeal.τ).loc Cert.PoolFwdIdeal.main_arg3)) (m ((c.tc : Thread Cert.PoolFwdIdeal.nD Cert.PoolFwdIdeal.τ).loc Cert.PoolFwdIdeal.main_arg4))).1 = (fun _ => 1#1)
    ∧ (Cert.Pre_finite_pool_fwd.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2)) (m ((c.tc : Thread Cert.PoolFwdIdeal.nD Cert.PoolFwdIdeal.τ).loc Cert.PoolFwdIdeal.main_arg3)) (m ((c.tc : Thread Cert.PoolFwdIdeal.nD Cert.PoolFwdIdeal.τ).loc Cert.PoolFwdIdeal.main_arg4))).2.1 = (fun _ => 1#1)
    ∧ (Cert.Pre_finite_pool_fwd.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2)) (m ((c.tc : Thread Cert.PoolFwdIdeal.nD Cert.PoolFwdIdeal.τ).loc Cert.PoolFwdIdeal.main_arg3)) (m ((c.tc : Thread Cert.PoolFwdIdeal.nD Cert.PoolFwdIdeal.τ).loc Cert.PoolFwdIdeal.main_arg4))).2.2.1 = (fun _ => 1#1)
    ∧ (Cert.Pre_finite_pool_fwd.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2)) (m ((c.tc : Thread Cert.PoolFwdIdeal.nD Cert.PoolFwdIdeal.τ).loc Cert.PoolFwdIdeal.main_arg3)) (m ((c.tc : Thread Cert.PoolFwdIdeal.nD Cert.PoolFwdIdeal.τ).loc Cert.PoolFwdIdeal.main_arg4))).2.2.2.1 = (fun _ => 1#1)
    ∧ (Cert.Pre_finite_pool_fwd.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2)) (m ((c.tc : Thread Cert.PoolFwdIdeal.nD Cert.PoolFwdIdeal.τ).loc Cert.PoolFwdIdeal.main_arg3)) (m ((c.tc : Thread Cert.PoolFwdIdeal.nD Cert.PoolFwdIdeal.τ).loc Cert.PoolFwdIdeal.main_arg4))).2.2.2.2 = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_finite_pool_fwd [hPre_finite_pool_fwd : Cert.Pre_finite_pool_fwd.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_finite_pool_fwd.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2)) (m ((c.tc : Thread Cert.PoolFwdRefIdeal.nD Cert.PoolFwdRefIdeal.τ).loc Cert.PoolFwdRefIdeal.main_arg3)) (m ((c.tc : Thread Cert.PoolFwdRefIdeal.nD Cert.PoolFwdRefIdeal.τ).loc Cert.PoolFwdRefIdeal.main_arg4))).1 = (fun _ => 1#1)
    ∧ (Cert.Pre_finite_pool_fwd.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2)) (m ((c.tc : Thread Cert.PoolFwdRefIdeal.nD Cert.PoolFwdRefIdeal.τ).loc Cert.PoolFwdRefIdeal.main_arg3)) (m ((c.tc : Thread Cert.PoolFwdRefIdeal.nD Cert.PoolFwdRefIdeal.τ).loc Cert.PoolFwdRefIdeal.main_arg4))).2.1 = (fun _ => 1#1)
    ∧ (Cert.Pre_finite_pool_fwd.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2)) (m ((c.tc : Thread Cert.PoolFwdRefIdeal.nD Cert.PoolFwdRefIdeal.τ).loc Cert.PoolFwdRefIdeal.main_arg3)) (m ((c.tc : Thread Cert.PoolFwdRefIdeal.nD Cert.PoolFwdRefIdeal.τ).loc Cert.PoolFwdRefIdeal.main_arg4))).2.2.1 = (fun _ => 1#1)
    ∧ (Cert.Pre_finite_pool_fwd.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2)) (m ((c.tc : Thread Cert.PoolFwdRefIdeal.nD Cert.PoolFwdRefIdeal.τ).loc Cert.PoolFwdRefIdeal.main_arg3)) (m ((c.tc : Thread Cert.PoolFwdRefIdeal.nD Cert.PoolFwdRefIdeal.τ).loc Cert.PoolFwdRefIdeal.main_arg4))).2.2.2.1 = (fun _ => 1#1)
    ∧ (Cert.Pre_finite_pool_fwd.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2)) (m ((c.tc : Thread Cert.PoolFwdRefIdeal.nD Cert.PoolFwdRefIdeal.τ).loc Cert.PoolFwdRefIdeal.main_arg3)) (m ((c.tc : Thread Cert.PoolFwdRefIdeal.nD Cert.PoolFwdRefIdeal.τ).loc Cert.PoolFwdRefIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleIdeal_pre_finite_ple [hPleIdeal : Cert.PleIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg), Pre_PleIdeal_finite_ple m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_PleRefIdeal_pre_finite_ple [hPleRefIdeal : Cert.PleRefIdeal.Facts] [hPre_finite_ple : Cert.Pre_finite_ple.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_finite_ple m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8)
      ∧ r.2.mem ((c.tc : Thread Cert.Lru.nD Cert.Lru.τ).loc Cert.Lru.main_arg9) = m ((c.tc : Thread Cert.Lru.nD Cert.Lru.τ).loc Cert.Lru.main_arg9)
      ∧ r.2.mem ((c.tc : Thread Cert.Lru.nD Cert.Lru.τ).loc Cert.Lru.main_arg10) = m ((c.tc : Thread Cert.Lru.nD Cert.Lru.τ).loc Cert.Lru.main_arg10))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
      ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
      ∧ r.2.mem ((c.tc : Thread Cert.LruIdeal.nD Cert.LruIdeal.τ).loc Cert.LruIdeal.main_arg10) = m ((c.tc : Thread Cert.LruIdeal.nD Cert.LruIdeal.τ).loc Cert.LruIdeal.main_arg10))
      ∧ r.2.sem = fun _ => 0)

def quiescent_LruIdeal_pre_finite_lru [hLruIdeal : Cert.LruIdeal.Facts] [hPre_finite_lru : Cert.Pre_finite_lru.Facts] : Prop :=
  ∀ (m : (ℓ : Loc Cert.LruIdeal.nD Cert.LruIdeal.τ Cert.LruIdeal.sig) → Buf (Elt Ideal) ℓ) (g : Dev Cert.LruIdeal.nD → PrngReg), Pre_LruIdeal_finite_lru m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
      ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
      ∧ r.2.mem ((c.tc : Thread Cert.LruIdeal.nD Cert.LruIdeal.τ).loc Cert.LruIdeal.main_arg10) = m ((c.tc : Thread Cert.LruIdeal.nD Cert.LruIdeal.τ).loc Cert.LruIdeal.main_arg10))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8)
      ∧ r.2.mem ((c.tc : Thread Cert.LruRefIdeal.nD Cert.LruRefIdeal.τ).loc Cert.LruRefIdeal.main_arg9) = m ((c.tc : Thread Cert.LruRefIdeal.nD Cert.LruRefIdeal.τ).loc Cert.LruRefIdeal.main_arg9)
      ∧ r.2.mem ((c.tc : Thread Cert.LruRefIdeal.nD Cert.LruRefIdeal.τ).loc Cert.LruRefIdeal.main_arg10) = m ((c.tc : Thread Cert.LruRefIdeal.nD Cert.LruRefIdeal.τ).loc Cert.LruRefIdeal.main_arg10))
      ∧ r.2.sem = fun _ => 0)

def quiescent_LruRefIdeal_pre_finite_lru [hLruRefIdeal : Cert.LruRefIdeal.Facts] [hPre_finite_lru : Cert.Pre_finite_lru.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal_finite_lru m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8)
      ∧ r.2.mem ((c.tc : Thread Cert.LruRefIdeal.nD Cert.LruRefIdeal.τ).loc Cert.LruRefIdeal.main_arg9) = m ((c.tc : Thread Cert.LruRefIdeal.nD Cert.LruRefIdeal.τ).loc Cert.LruRefIdeal.main_arg9)
      ∧ r.2.mem ((c.tc : Thread Cert.LruRefIdeal.nD Cert.LruRefIdeal.τ).loc Cert.LruRefIdeal.main_arg10) = m ((c.tc : Thread Cert.LruRefIdeal.nD Cert.LruRefIdeal.τ).loc Cert.LruRefIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_LruIn [hLruIn : Cert.LruIn.Facts] : Prop :=
  ∀ (m : (ℓ : Loc Cert.LruIn.nD Cert.LruIn.τ Cert.LruIn.sig) → Buf (Elt Bits) ℓ) (g : Dev Cert.LruIn.nD → PrngReg), Pre_LruIn m →
    θ_run (Cert.LruIn.defs (F := Bits)) (onTc (τ := Cert.LruIn.τ) (Cert.LruIn.main (F := Bits))) ⟨m, fun _ => 0, g⟩ (fun r => (∀ c : Dev Cert.LruIn.nD,
      r.2.mem ((c.tc : Thread Cert.LruIn.nD Cert.LruIn.τ).loc Cert.LruIn.main_arg0) = m ((c.tc : Thread Cert.LruIn.nD Cert.LruIn.τ).loc Cert.LruIn.main_arg0)
      ∧ r.2.mem ((c.tc : Thread Cert.LruIn.nD Cert.LruIn.τ).loc Cert.LruIn.main_arg1) = m ((c.tc : Thread Cert.LruIn.nD Cert.LruIn.τ).loc Cert.LruIn.main_arg1)
      ∧ r.2.mem ((c.tc : Thread Cert.LruIn.nD Cert.LruIn.τ).loc Cert.LruIn.main_arg2) = m ((c.tc : Thread Cert.LruIn.nD Cert.LruIn.τ).loc Cert.LruIn.main_arg2)
      ∧ r.2.mem ((c.tc : Thread Cert.LruIn.nD Cert.LruIn.τ).loc Cert.LruIn.main_arg3) = m ((c.tc : Thread Cert.LruIn.nD Cert.LruIn.τ).loc Cert.LruIn.main_arg3)
      ∧ r.2.mem ((c.tc : Thread Cert.LruIn.nD Cert.LruIn.τ).loc Cert.LruIn.main_arg4) = m ((c.tc : Thread Cert.LruIn.nD Cert.LruIn.τ).loc Cert.LruIn.main_arg4))
      ∧ r.2.sem = fun _ => 0)

def quiescent_LruInIdeal [hLruInIdeal : Cert.LruInIdeal.Facts] : Prop :=
  ∀ (m : (ℓ : Loc Cert.LruInIdeal.nD Cert.LruInIdeal.τ Cert.LruInIdeal.sig) → Buf (Elt Ideal) ℓ) (g : Dev Cert.LruInIdeal.nD → PrngReg), Pre_LruInIdeal m →
    θ_run (Cert.LruInIdeal.defs (F := Ideal)) (onTc (τ := Cert.LruInIdeal.τ) (Cert.LruInIdeal.main (F := Ideal))) ⟨m, fun _ => 0, g⟩ (fun r => (∀ c : Dev Cert.LruInIdeal.nD,
      r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
      ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1)
      ∧ r.2.mem ((c.tc : Thread Cert.LruInIdeal.nD Cert.LruInIdeal.τ).loc Cert.LruInIdeal.main_arg2) = m ((c.tc : Thread Cert.LruInIdeal.nD Cert.LruInIdeal.τ).loc Cert.LruInIdeal.main_arg2)
      ∧ r.2.mem ((c.tc : Thread Cert.LruInIdeal.nD Cert.LruInIdeal.τ).loc Cert.LruInIdeal.main_arg3) = m ((c.tc : Thread Cert.LruInIdeal.nD Cert.LruInIdeal.τ).loc Cert.LruInIdeal.main_arg3)
      ∧ r.2.mem ((c.tc : Thread Cert.LruInIdeal.nD Cert.LruInIdeal.τ).loc Cert.LruInIdeal.main_arg4) = m ((c.tc : Thread Cert.LruInIdeal.nD Cert.LruInIdeal.τ).loc Cert.LruInIdeal.main_arg4))
      ∧ r.2.sem = fun _ => 0)

def quiescent_LruInIdeal_pre_finite_in [hLruInIdeal : Cert.LruInIdeal.Facts] [hPre_finite_in : Cert.Pre_finite_in.Facts] : Prop :=
  ∀ (m : (ℓ : Loc Cert.LruInIdeal.nD Cert.LruInIdeal.τ Cert.LruInIdeal.sig) → Buf (Elt Ideal) ℓ) (g : Dev Cert.LruInIdeal.nD → PrngReg), Pre_LruInIdeal_finite_in m →
    θ_run (Cert.LruInIdeal.defs (F := Ideal)) (onTc (τ := Cert.LruInIdeal.τ) (Cert.LruInIdeal.main (F := Ideal))) ⟨m, fun _ => 0, g⟩ (fun r => (∀ c : Dev Cert.LruInIdeal.nD,
      r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
      ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1)
      ∧ r.2.mem ((c.tc : Thread Cert.LruInIdeal.nD Cert.LruInIdeal.τ).loc Cert.LruInIdeal.main_arg2) = m ((c.tc : Thread Cert.LruInIdeal.nD Cert.LruInIdeal.τ).loc Cert.LruInIdeal.main_arg2)
      ∧ r.2.mem ((c.tc : Thread Cert.LruInIdeal.nD Cert.LruInIdeal.τ).loc Cert.LruInIdeal.main_arg3) = m ((c.tc : Thread Cert.LruInIdeal.nD Cert.LruInIdeal.τ).loc Cert.LruInIdeal.main_arg3)
      ∧ r.2.mem ((c.tc : Thread Cert.LruInIdeal.nD Cert.LruInIdeal.τ).loc Cert.LruInIdeal.main_arg4) = m ((c.tc : Thread Cert.LruInIdeal.nD Cert.LruInIdeal.τ).loc Cert.LruInIdeal.main_arg4))
      ∧ r.2.sem = fun _ => 0)

def quiescent_LruInRefIdeal [hLruInRefIdeal : Cert.LruInRefIdeal.Facts] : Prop :=
  ∀ (m : (ℓ : Loc Cert.LruInRefIdeal.nD Cert.LruInRefIdeal.τ Cert.LruInRefIdeal.sig) → Buf (Elt Ideal) ℓ) (g : Dev Cert.LruInRefIdeal.nD → PrngReg), Pre_LruInRefIdeal m →
    θ_run (Cert.LruInRefIdeal.defs (F := Ideal)) (onTc (τ := Cert.LruInRefIdeal.τ) (Cert.LruInRefIdeal.main (F := Ideal))) ⟨m, fun _ => 0, g⟩ (fun r => (∀ c : Dev Cert.LruInRefIdeal.nD,
      r.2.mem ((c.tc : Thread Cert.LruInRefIdeal.nD Cert.LruInRefIdeal.τ).loc Cert.LruInRefIdeal.main_arg0) = m ((c.tc : Thread Cert.LruInRefIdeal.nD Cert.LruInRefIdeal.τ).loc Cert.LruInRefIdeal.main_arg0)
      ∧ r.2.mem ((c.tc : Thread Cert.LruInRefIdeal.nD Cert.LruInRefIdeal.τ).loc Cert.LruInRefIdeal.main_arg1) = m ((c.tc : Thread Cert.LruInRefIdeal.nD Cert.LruInRefIdeal.τ).loc Cert.LruInRefIdeal.main_arg1)
      ∧ r.2.mem ((c.tc : Thread Cert.LruInRefIdeal.nD Cert.LruInRefIdeal.τ).loc Cert.LruInRefIdeal.main_arg2) = m ((c.tc : Thread Cert.LruInRefIdeal.nD Cert.LruInRefIdeal.τ).loc Cert.LruInRefIdeal.main_arg2)
      ∧ r.2.mem ((c.tc : Thread Cert.LruInRefIdeal.nD Cert.LruInRefIdeal.τ).loc Cert.LruInRefIdeal.main_arg3) = m ((c.tc : Thread Cert.LruInRefIdeal.nD Cert.LruInRefIdeal.τ).loc Cert.LruInRefIdeal.main_arg3)
      ∧ r.2.mem ((c.tc : Thread Cert.LruInRefIdeal.nD Cert.LruInRefIdeal.τ).loc Cert.LruInRefIdeal.main_arg4) = m ((c.tc : Thread Cert.LruInRefIdeal.nD Cert.LruInRefIdeal.τ).loc Cert.LruInRefIdeal.main_arg4))
      ∧ r.2.sem = fun _ => 0)

def quiescent_LruInRefIdeal_pre_finite_in [hLruInRefIdeal : Cert.LruInRefIdeal.Facts] [hPre_finite_in : Cert.Pre_finite_in.Facts] : Prop :=
  ∀ (m : (ℓ : Loc Cert.LruInRefIdeal.nD Cert.LruInRefIdeal.τ Cert.LruInRefIdeal.sig) → Buf (Elt Ideal) ℓ) (g : Dev Cert.LruInRefIdeal.nD → PrngReg), Pre_LruInRefIdeal_finite_in m →
    θ_run (Cert.LruInRefIdeal.defs (F := Ideal)) (onTc (τ := Cert.LruInRefIdeal.τ) (Cert.LruInRefIdeal.main (F := Ideal))) ⟨m, fun _ => 0, g⟩ (fun r => (∀ c : Dev Cert.LruInRefIdeal.nD,
      r.2.mem ((c.tc : Thread Cert.LruInRefIdeal.nD Cert.LruInRefIdeal.τ).loc Cert.LruInRefIdeal.main_arg0) = m ((c.tc : Thread Cert.LruInRefIdeal.nD Cert.LruInRefIdeal.τ).loc Cert.LruInRefIdeal.main_arg0)
      ∧ r.2.mem ((c.tc : Thread Cert.LruInRefIdeal.nD Cert.LruInRefIdeal.τ).loc Cert.LruInRefIdeal.main_arg1) = m ((c.tc : Thread Cert.LruInRefIdeal.nD Cert.LruInRefIdeal.τ).loc Cert.LruInRefIdeal.main_arg1)
      ∧ r.2.mem ((c.tc : Thread Cert.LruInRefIdeal.nD Cert.LruInRefIdeal.τ).loc Cert.LruInRefIdeal.main_arg2) = m ((c.tc : Thread Cert.LruInRefIdeal.nD Cert.LruInRefIdeal.τ).loc Cert.LruInRefIdeal.main_arg2)
      ∧ r.2.mem ((c.tc : Thread Cert.LruInRefIdeal.nD Cert.LruInRefIdeal.τ).loc Cert.LruInRefIdeal.main_arg3) = m ((c.tc : Thread Cert.LruInRefIdeal.nD Cert.LruInRefIdeal.τ).loc Cert.LruInRefIdeal.main_arg3)
      ∧ r.2.mem ((c.tc : Thread Cert.LruInRefIdeal.nD Cert.LruInRefIdeal.τ).loc Cert.LruInRefIdeal.main_arg4) = m ((c.tc : Thread Cert.LruInRefIdeal.nD Cert.LruInRefIdeal.τ).loc Cert.LruInRefIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5))
      ∧ r.2.sem = fun _ => 0)

def quiescent_PoolIdeal_pre_finite_pool [hPoolIdeal : Cert.PoolIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_pool m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5))
      ∧ r.2.sem = fun _ => 0)

def quiescent_PoolRefIdeal_pre_finite_pool [hPoolRefIdeal : Cert.PoolRefIdeal.Facts] [hPre_finite_pool : Cert.Pre_finite_pool.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_pool m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1)
      ∧ r.2.mem ((c.tc : Thread Cert.PleFwd.nD Cert.PleFwd.τ).loc Cert.PleFwd.main_arg2) = m ((c.tc : Thread Cert.PleFwd.nD Cert.PleFwd.τ).loc Cert.PleFwd.main_arg2)
      ∧ r.2.mem ((c.tc : Thread Cert.PleFwd.nD Cert.PleFwd.τ).loc Cert.PleFwd.main_arg3) = m ((c.tc : Thread Cert.PleFwd.nD Cert.PleFwd.τ).loc Cert.PleFwd.main_arg3)
      ∧ r.2.mem ((c.tc : Thread Cert.PleFwd.nD Cert.PleFwd.τ).loc Cert.PleFwd.main_arg4) = m ((c.tc : Thread Cert.PleFwd.nD Cert.PleFwd.τ).loc Cert.PleFwd.main_arg4))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
      ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
      ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4))
      ∧ r.2.sem = fun _ => 0)

def quiescent_PleFwdIdeal_pre_finite_ple_fwd [hPleFwdIdeal : Cert.PleFwdIdeal.Facts] [hPre_finite_ple_fwd : Cert.Pre_finite_ple_fwd.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal_finite_ple_fwd m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
      ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
      ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4))
      ∧ r.2.sem = fun _ => 0)

def quiescent_PleFwdRefIdeal [hPleFwdRefIdeal : Cert.PleFwdRefIdeal.Facts] : Prop :=
  ∀ (m : (ℓ : Loc Cert.PleFwdRefIdeal.nD Cert.PleFwdRefIdeal.τ Cert.PleFwdRefIdeal.sig) → Buf (Elt Ideal) ℓ) (g : Dev Cert.PleFwdRefIdeal.nD → PrngReg), Pre_PleFwdRefIdeal m →
    θ_run (Cert.PleFwdRefIdeal.defs (F := Ideal)) (onTc (τ := Cert.PleFwdRefIdeal.τ) (Cert.PleFwdRefIdeal.main (F := Ideal))) ⟨m, fun _ => 0, g⟩ (fun r => (∀ c : Dev Cert.PleFwdRefIdeal.nD,
      r.2.mem ((c.tc : Thread Cert.PleFwdRefIdeal.nD Cert.PleFwdRefIdeal.τ).loc Cert.PleFwdRefIdeal.main_arg0) = m ((c.tc : Thread Cert.PleFwdRefIdeal.nD Cert.PleFwdRefIdeal.τ).loc Cert.PleFwdRefIdeal.main_arg0)
      ∧ r.2.mem ((c.tc : Thread Cert.PleFwdRefIdeal.nD Cert.PleFwdRefIdeal.τ).loc Cert.PleFwdRefIdeal.main_arg1) = m ((c.tc : Thread Cert.PleFwdRefIdeal.nD Cert.PleFwdRefIdeal.τ).loc Cert.PleFwdRefIdeal.main_arg1)
      ∧ r.2.mem ((c.tc : Thread Cert.PleFwdRefIdeal.nD Cert.PleFwdRefIdeal.τ).loc Cert.PleFwdRefIdeal.main_arg2) = m ((c.tc : Thread Cert.PleFwdRefIdeal.nD Cert.PleFwdRefIdeal.τ).loc Cert.PleFwdRefIdeal.main_arg2)
      ∧ r.2.mem ((c.tc : Thread Cert.PleFwdRefIdeal.nD Cert.PleFwdRefIdeal.τ).loc Cert.PleFwdRefIdeal.main_arg3) = m ((c.tc : Thread Cert.PleFwdRefIdeal.nD Cert.PleFwdRefIdeal.τ).loc Cert.PleFwdRefIdeal.main_arg3)
      ∧ r.2.mem ((c.tc : Thread Cert.PleFwdRefIdeal.nD Cert.PleFwdRefIdeal.τ).loc Cert.PleFwdRefIdeal.main_arg4) = m ((c.tc : Thread Cert.PleFwdRefIdeal.nD Cert.PleFwdRefIdeal.τ).loc Cert.PleFwdRefIdeal.main_arg4))
      ∧ r.2.sem = fun _ => 0)

def quiescent_PleFwdRefIdeal_pre_finite_ple_fwd [hPleFwdRefIdeal : Cert.PleFwdRefIdeal.Facts] [hPre_finite_ple_fwd : Cert.Pre_finite_ple_fwd.Facts] : Prop :=
  ∀ (m : (ℓ : Loc Cert.PleFwdRefIdeal.nD Cert.PleFwdRefIdeal.τ Cert.PleFwdRefIdeal.sig) → Buf (Elt Ideal) ℓ) (g : Dev Cert.PleFwdRefIdeal.nD → PrngReg), Pre_PleFwdRefIdeal_finite_ple_fwd m →
    θ_run (Cert.PleFwdRefIdeal.defs (F := Ideal)) (onTc (τ := Cert.PleFwdRefIdeal.τ) (Cert.PleFwdRefIdeal.main (F := Ideal))) ⟨m, fun _ => 0, g⟩ (fun r => (∀ c : Dev Cert.PleFwdRefIdeal.nD,
      r.2.mem ((c.tc : Thread Cert.PleFwdRefIdeal.nD Cert.PleFwdRefIdeal.τ).loc Cert.PleFwdRefIdeal.main_arg0) = m ((c.tc : Thread Cert.PleFwdRefIdeal.nD Cert.PleFwdRefIdeal.τ).loc Cert.PleFwdRefIdeal.main_arg0)
      ∧ r.2.mem ((c.tc : Thread Cert.PleFwdRefIdeal.nD Cert.PleFwdRefIdeal.τ).loc Cert.PleFwdRefIdeal.main_arg1) = m ((c.tc : Thread Cert.PleFwdRefIdeal.nD Cert.PleFwdRefIdeal.τ).loc Cert.PleFwdRefIdeal.main_arg1)
      ∧ r.2.mem ((c.tc : Thread Cert.PleFwdRefIdeal.nD Cert.PleFwdRefIdeal.τ).loc Cert.PleFwdRefIdeal.main_arg2) = m ((c.tc : Thread Cert.PleFwdRefIdeal.nD Cert.PleFwdRefIdeal.τ).loc Cert.PleFwdRefIdeal.main_arg2)
      ∧ r.2.mem ((c.tc : Thread Cert.PleFwdRefIdeal.nD Cert.PleFwdRefIdeal.τ).loc Cert.PleFwdRefIdeal.main_arg3) = m ((c.tc : Thread Cert.PleFwdRefIdeal.nD Cert.PleFwdRefIdeal.τ).loc Cert.PleFwdRefIdeal.main_arg3)
      ∧ r.2.mem ((c.tc : Thread Cert.PleFwdRefIdeal.nD Cert.PleFwdRefIdeal.τ).loc Cert.PleFwdRefIdeal.main_arg4) = m ((c.tc : Thread Cert.PleFwdRefIdeal.nD Cert.PleFwdRefIdeal.τ).loc Cert.PleFwdRefIdeal.main_arg4))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2)
      ∧ r.2.mem ((c.tc : Thread Cert.PoolFwd.nD Cert.PoolFwd.τ).loc Cert.PoolFwd.main_arg3) = m ((c.tc : Thread Cert.PoolFwd.nD Cert.PoolFwd.τ).loc Cert.PoolFwd.main_arg3)
      ∧ r.2.mem ((c.tc : Thread Cert.PoolFwd.nD Cert.PoolFwd.τ).loc Cert.PoolFwd.main_arg4) = m ((c.tc : Thread Cert.PoolFwd.nD Cert.PoolFwd.τ).loc Cert.PoolFwd.main_arg4))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
      ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3)
      ∧ r.2.mem ((c.tc : Thread Cert.PoolFwdIdeal.nD Cert.PoolFwdIdeal.τ).loc Cert.PoolFwdIdeal.main_arg4) = m ((c.tc : Thread Cert.PoolFwdIdeal.nD Cert.PoolFwdIdeal.τ).loc Cert.PoolFwdIdeal.main_arg4))
      ∧ r.2.sem = fun _ => 0)

def quiescent_PoolFwdIdeal_pre_finite_pool_fwd [hPoolFwdIdeal : Cert.PoolFwdIdeal.Facts] [hPre_finite_pool_fwd : Cert.Pre_finite_pool_fwd.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_finite_pool_fwd m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
      ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3)
      ∧ r.2.mem ((c.tc : Thread Cert.PoolFwdIdeal.nD Cert.PoolFwdIdeal.τ).loc Cert.PoolFwdIdeal.main_arg4) = m ((c.tc : Thread Cert.PoolFwdIdeal.nD Cert.PoolFwdIdeal.τ).loc Cert.PoolFwdIdeal.main_arg4))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2)
      ∧ r.2.mem ((c.tc : Thread Cert.PoolFwdRefIdeal.nD Cert.PoolFwdRefIdeal.τ).loc Cert.PoolFwdRefIdeal.main_arg3) = m ((c.tc : Thread Cert.PoolFwdRefIdeal.nD Cert.PoolFwdRefIdeal.τ).loc Cert.PoolFwdRefIdeal.main_arg3)
      ∧ r.2.mem ((c.tc : Thread Cert.PoolFwdRefIdeal.nD Cert.PoolFwdRefIdeal.τ).loc Cert.PoolFwdRefIdeal.main_arg4) = m ((c.tc : Thread Cert.PoolFwdRefIdeal.nD Cert.PoolFwdRefIdeal.τ).loc Cert.PoolFwdRefIdeal.main_arg4))
      ∧ r.2.sem = fun _ => 0)

def quiescent_PoolFwdRefIdeal_pre_finite_pool_fwd [hPoolFwdRefIdeal : Cert.PoolFwdRefIdeal.Facts] [hPre_finite_pool_fwd : Cert.Pre_finite_pool_fwd.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_finite_pool_fwd m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2)
      ∧ r.2.mem ((c.tc : Thread Cert.PoolFwdRefIdeal.nD Cert.PoolFwdRefIdeal.τ).loc Cert.PoolFwdRefIdeal.main_arg3) = m ((c.tc : Thread Cert.PoolFwdRefIdeal.nD Cert.PoolFwdRefIdeal.τ).loc Cert.PoolFwdRefIdeal.main_arg3)
      ∧ r.2.mem ((c.tc : Thread Cert.PoolFwdRefIdeal.nD Cert.PoolFwdRefIdeal.τ).loc Cert.PoolFwdRefIdeal.main_arg4) = m ((c.tc : Thread Cert.PoolFwdRefIdeal.nD Cert.PoolFwdRefIdeal.τ).loc Cert.PoolFwdRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ple_PleIdeal : Prop :=
  True

def algebraic_PleIdeal_PleRefIdeal_pre_finite_ple [hPleIdeal : Cert.PleIdeal.Facts] [hPleRefIdeal : Cert.PleRefIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_finite_ple m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v8_0)) (v1 : (c : Dev Cert.PleIdeal.nD) → Buf (Elt Ideal) ((c.tc : Thread Cert.PleIdeal.nD Cert.PleIdeal.τ).loc Cert.PleIdeal.main_v9)) (v2 : (c : Dev Cert.PleIdeal.nD) → Buf (Elt Ideal) ((c.tc : Thread Cert.PleIdeal.nD Cert.PleIdeal.τ).loc Cert.PleIdeal.main_v8_1)) (v3 : (c : Dev Cert.PleIdeal.nD) → Buf (Elt Ideal) ((c.tc : Thread Cert.PleIdeal.nD Cert.PleIdeal.τ).loc Cert.PleIdeal.main_v11)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v8_0) = v0 c
          ∧ r.2.mem ((c.tc : Thread Cert.PleIdeal.nD Cert.PleIdeal.τ).loc Cert.PleIdeal.main_v9) = v1 c
          ∧ r.2.mem ((c.tc : Thread Cert.PleIdeal.nD Cert.PleIdeal.τ).loc Cert.PleIdeal.main_v8_1) = v2 c
          ∧ r.2.mem ((c.tc : Thread Cert.PleIdeal.nD Cert.PleIdeal.τ).loc Cert.PleIdeal.main_v11) = v3 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v58) = v0 c
          ∧ r.2.mem ((c.tc : Thread Cert.PleRefIdeal.nD Cert.PleRefIdeal.τ).loc Cert.PleRefIdeal.main_v43) = v1 c
          ∧ r.2.mem ((c.tc : Thread Cert.PleRefIdeal.nD Cert.PleRefIdeal.τ).loc Cert.PleRefIdeal.main_v36) = v2 c
          ∧ r.2.mem ((c.tc : Thread Cert.PleRefIdeal.nD Cert.PleRefIdeal.τ).loc Cert.PleRefIdeal.main_v33) = v3 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Lru_LruIdeal : Prop :=
  IdealRules.named_const.Statement Cert.LruIdeal.κ "gelu_cubic" .f32 0x3D372713#32 ((8943 / 200000 : ℝ) : EReal)
  ∧ IdealRules.named_const.Statement Cert.LruIdeal.κ "gelu_cubic_3" .f32 0x3E095D4F#32 ((26829 / 200000 : ℝ) : EReal)

def algebraic_LruIdeal_LruRefIdeal_pre_finite_lru [hLruIdeal : Cert.LruIdeal.Facts] [hLruRefIdeal : Cert.LruRefIdeal.Facts] [hPre_finite_lru : Cert.Pre_finite_lru.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal_finite_lru m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)
      ∧ m' ((c.tc : Thread Cert.LruRefIdeal.nD Cert.LruRefIdeal.τ).loc Cert.LruRefIdeal.main_arg8) = m ((c.tc : Thread Cert.LruIdeal.nD Cert.LruIdeal.τ).loc Cert.LruIdeal.main_arg8)
      ∧ m' ((c.tc : Thread Cert.LruRefIdeal.nD Cert.LruRefIdeal.τ).loc Cert.LruRefIdeal.main_arg9) = m ((c.tc : Thread Cert.LruIdeal.nD Cert.LruIdeal.τ).loc Cert.LruIdeal.main_arg9)
      ∧ m' ((c.tc : Thread Cert.LruRefIdeal.nD Cert.LruRefIdeal.τ).loc Cert.LruRefIdeal.main_arg10) = m ((c.tc : Thread Cert.LruIdeal.nD Cert.LruIdeal.τ).loc Cert.LruIdeal.main_arg10)) →
    ∃ (v0 : (c : Dev Cert.LruIdeal.nD) → Buf (Elt Ideal) ((c.tc : Thread Cert.LruIdeal.nD Cert.LruIdeal.τ).loc Cert.LruIdeal.main_v113_0)) (v1 : (c : Dev Cert.LruIdeal.nD) → Buf (Elt Ideal) ((c.tc : Thread Cert.LruIdeal.nD Cert.LruIdeal.τ).loc Cert.LruIdeal.main_v113_1)) (v2 : (c : Dev Cert.LruIdeal.nD) → Buf (Elt Ideal) ((c.tc : Thread Cert.LruIdeal.nD Cert.LruIdeal.τ).loc Cert.LruIdeal.main_v113_2)) (v3 : (c : Dev Cert.LruIdeal.nD) → Buf (Elt Ideal) ((c.tc : Thread Cert.LruIdeal.nD Cert.LruIdeal.τ).loc Cert.LruIdeal.main_v113_3)) (v4 : (c : Dev Cert.LruIdeal.nD) → Buf (Elt Ideal) ((c.tc : Thread Cert.LruIdeal.nD Cert.LruIdeal.τ).loc Cert.LruIdeal.main_v115)) (v5 : (c : Dev Cert.LruIdeal.nD) → Buf (Elt Ideal) ((c.tc : Thread Cert.LruIdeal.nD Cert.LruIdeal.τ).loc Cert.LruIdeal.main_v117)) (v6 : (c : Dev Cert.LruIdeal.nD) → Buf (Elt Ideal) ((c.tc : Thread Cert.LruIdeal.nD Cert.LruIdeal.τ).loc Cert.LruIdeal.main_v119)) (v7 : (c : Dev Cert.LruIdeal.nD) → Buf (Elt Ideal) ((c.tc : Thread Cert.LruIdeal.nD Cert.LruIdeal.τ).loc Cert.LruIdeal.main_v121)) (v8 : (c : Dev Cert.LruIdeal.nD) → Buf (Elt Ideal) ((c.tc : Thread Cert.LruIdeal.nD Cert.LruIdeal.τ).loc Cert.LruIdeal.main_v123)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v113_0) = v0 c
          ∧ r.2.mem ((c.tc : Thread Cert.LruIdeal.nD Cert.LruIdeal.τ).loc Cert.LruIdeal.main_v113_1) = v1 c
          ∧ r.2.mem ((c.tc : Thread Cert.LruIdeal.nD Cert.LruIdeal.τ).loc Cert.LruIdeal.main_v113_2) = v2 c
          ∧ r.2.mem ((c.tc : Thread Cert.LruIdeal.nD Cert.LruIdeal.τ).loc Cert.LruIdeal.main_v113_3) = v3 c
          ∧ r.2.mem ((c.tc : Thread Cert.LruIdeal.nD Cert.LruIdeal.τ).loc Cert.LruIdeal.main_v115) = v4 c
          ∧ r.2.mem ((c.tc : Thread Cert.LruIdeal.nD Cert.LruIdeal.τ).loc Cert.LruIdeal.main_v117) = v5 c
          ∧ r.2.mem ((c.tc : Thread Cert.LruIdeal.nD Cert.LruIdeal.τ).loc Cert.LruIdeal.main_v119) = v6 c
          ∧ r.2.mem ((c.tc : Thread Cert.LruIdeal.nD Cert.LruIdeal.τ).loc Cert.LruIdeal.main_v121) = v7 c
          ∧ r.2.mem ((c.tc : Thread Cert.LruIdeal.nD Cert.LruIdeal.τ).loc Cert.LruIdeal.main_v123) = v8 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
          ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
          ∧ r.2.mem ((c.tc : Thread Cert.LruIdeal.nD Cert.LruIdeal.τ).loc Cert.LruIdeal.main_arg10) = m ((c.tc : Thread Cert.LruIdeal.nD Cert.LruIdeal.τ).loc Cert.LruIdeal.main_arg10))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v229) = v0 c
          ∧ r.2.mem ((c.tc : Thread Cert.LruRefIdeal.nD Cert.LruRefIdeal.τ).loc Cert.LruRefIdeal.main_v230) = v1 c
          ∧ r.2.mem ((c.tc : Thread Cert.LruRefIdeal.nD Cert.LruRefIdeal.τ).loc Cert.LruRefIdeal.main_v231) = v2 c
          ∧ r.2.mem ((c.tc : Thread Cert.LruRefIdeal.nD Cert.LruRefIdeal.τ).loc Cert.LruRefIdeal.main_v232) = v3 c
          ∧ r.2.mem ((c.tc : Thread Cert.LruRefIdeal.nD Cert.LruRefIdeal.τ).loc Cert.LruRefIdeal.main_v219) = v4 c
          ∧ r.2.mem ((c.tc : Thread Cert.LruRefIdeal.nD Cert.LruRefIdeal.τ).loc Cert.LruRefIdeal.main_v208) = v5 c
          ∧ r.2.mem ((c.tc : Thread Cert.LruRefIdeal.nD Cert.LruRefIdeal.τ).loc Cert.LruRefIdeal.main_v233) = v6 c
          ∧ r.2.mem ((c.tc : Thread Cert.LruRefIdeal.nD Cert.LruRefIdeal.τ).loc Cert.LruRefIdeal.main_v234) = v7 c
          ∧ r.2.mem ((c.tc : Thread Cert.LruRefIdeal.nD Cert.LruRefIdeal.τ).loc Cert.LruRefIdeal.main_v159) = v8 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7)
          ∧ r.2.mem ((c.tc : Thread Cert.LruRefIdeal.nD Cert.LruRefIdeal.τ).loc Cert.LruRefIdeal.main_arg8) = m' ((c.tc : Thread Cert.LruRefIdeal.nD Cert.LruRefIdeal.τ).loc Cert.LruRefIdeal.main_arg8)
          ∧ r.2.mem ((c.tc : Thread Cert.LruRefIdeal.nD Cert.LruRefIdeal.τ).loc Cert.LruRefIdeal.main_arg9) = m' ((c.tc : Thread Cert.LruRefIdeal.nD Cert.LruRefIdeal.τ).loc Cert.LruRefIdeal.main_arg9)
          ∧ r.2.mem ((c.tc : Thread Cert.LruRefIdeal.nD Cert.LruRefIdeal.τ).loc Cert.LruRefIdeal.main_arg10) = m' ((c.tc : Thread Cert.LruRefIdeal.nD Cert.LruRefIdeal.τ).loc Cert.LruRefIdeal.main_arg10))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v32_0)) (v1 : (c : Dev Cert.FfnIdeal.nD) → Buf (Elt Ideal) ((c.tc : Thread Cert.FfnIdeal.nD Cert.FfnIdeal.τ).loc Cert.FfnIdeal.main_v33)) (v2 : (c : Dev Cert.FfnIdeal.nD) → Buf (Elt Ideal) ((c.tc : Thread Cert.FfnIdeal.nD Cert.FfnIdeal.τ).loc Cert.FfnIdeal.main_v35)) (v3 : (c : Dev Cert.FfnIdeal.nD) → Buf (Elt Ideal) ((c.tc : Thread Cert.FfnIdeal.nD Cert.FfnIdeal.τ).loc Cert.FfnIdeal.main_v37)) (v4 : (c : Dev Cert.FfnIdeal.nD) → Buf (Elt Ideal) ((c.tc : Thread Cert.FfnIdeal.nD Cert.FfnIdeal.τ).loc Cert.FfnIdeal.main_v38)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v32_0) = v0 c
          ∧ r.2.mem ((c.tc : Thread Cert.FfnIdeal.nD Cert.FfnIdeal.τ).loc Cert.FfnIdeal.main_v33) = v1 c
          ∧ r.2.mem ((c.tc : Thread Cert.FfnIdeal.nD Cert.FfnIdeal.τ).loc Cert.FfnIdeal.main_v35) = v2 c
          ∧ r.2.mem ((c.tc : Thread Cert.FfnIdeal.nD Cert.FfnIdeal.τ).loc Cert.FfnIdeal.main_v37) = v3 c
          ∧ r.2.mem ((c.tc : Thread Cert.FfnIdeal.nD Cert.FfnIdeal.τ).loc Cert.FfnIdeal.main_v38) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v60) = v0 c
          ∧ r.2.mem ((c.tc : Thread Cert.FfnRefIdeal.nD Cert.FfnRefIdeal.τ).loc Cert.FfnRefIdeal.main_v45) = v1 c
          ∧ r.2.mem ((c.tc : Thread Cert.FfnRefIdeal.nD Cert.FfnRefIdeal.τ).loc Cert.FfnRefIdeal.main_v37) = v2 c
          ∧ r.2.mem ((c.tc : Thread Cert.FfnRefIdeal.nD Cert.FfnRefIdeal.τ).loc Cert.FfnRefIdeal.main_v33) = v3 c
          ∧ r.2.mem ((c.tc : Thread Cert.FfnRefIdeal.nD Cert.FfnRefIdeal.τ).loc Cert.FfnRefIdeal.main_v28) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_LruIn_LruInIdeal : Prop :=
  True

def algebraic_LruInIdeal_LruInRefIdeal_pre_finite_in [hLruInIdeal : Cert.LruInIdeal.Facts] [hLruInRefIdeal : Cert.LruInRefIdeal.Facts] [hPre_finite_in : Cert.Pre_finite_in.Facts] : Prop :=
  ∀ (m : (ℓ : Loc Cert.LruInIdeal.nD Cert.LruInIdeal.τ Cert.LruInIdeal.sig) → Buf (Elt Ideal) ℓ) (g : Dev Cert.LruInIdeal.nD → PrngReg)
    (m' : (ℓ : Loc Cert.LruInRefIdeal.nD Cert.LruInRefIdeal.τ Cert.LruInRefIdeal.sig) → Buf (Elt Ideal) ℓ) (g' : Dev Cert.LruInRefIdeal.nD → PrngReg), Pre_LruInIdeal_finite_in m →
    (∀ c : Dev Cert.LruInIdeal.nD,
      m' ((c.tc : Thread Cert.LruInRefIdeal.nD Cert.LruInRefIdeal.τ).loc Cert.LruInRefIdeal.main_arg0) = m ((c.tc : Thread Cert.LruInIdeal.nD Cert.LruInIdeal.τ).loc Cert.LruInIdeal.main_arg0)
      ∧ m' ((c.tc : Thread Cert.LruInRefIdeal.nD Cert.LruInRefIdeal.τ).loc Cert.LruInRefIdeal.main_arg1) = m ((c.tc : Thread Cert.LruInIdeal.nD Cert.LruInIdeal.τ).loc Cert.LruInIdeal.main_arg1)
      ∧ m' ((c.tc : Thread Cert.LruInRefIdeal.nD Cert.LruInRefIdeal.τ).loc Cert.LruInRefIdeal.main_arg2) = m ((c.tc : Thread Cert.LruInIdeal.nD Cert.LruInIdeal.τ).loc Cert.LruInIdeal.main_arg2)
      ∧ m' ((c.tc : Thread Cert.LruInRefIdeal.nD Cert.LruInRefIdeal.τ).loc Cert.LruInRefIdeal.main_arg3) = m ((c.tc : Thread Cert.LruInIdeal.nD Cert.LruInIdeal.τ).loc Cert.LruInIdeal.main_arg3)
      ∧ m' ((c.tc : Thread Cert.LruInRefIdeal.nD Cert.LruInRefIdeal.τ).loc Cert.LruInRefIdeal.main_arg4) = m ((c.tc : Thread Cert.LruInIdeal.nD Cert.LruInIdeal.τ).loc Cert.LruInIdeal.main_arg4)) →
    ∃ (v0 : (c : Dev Cert.LruInIdeal.nD) → Buf (Elt Ideal) ((c.tc : Thread Cert.LruInIdeal.nD Cert.LruInIdeal.τ).loc Cert.LruInIdeal.main_v5_0)) (v1 : (c : Dev Cert.LruInIdeal.nD) → Buf (Elt Ideal) ((c.tc : Thread Cert.LruInIdeal.nD Cert.LruInIdeal.τ).loc Cert.LruInIdeal.main_v6)),
      θ_run (Cert.LruInIdeal.defs (F := Ideal)) (onTc (τ := Cert.LruInIdeal.τ) (Cert.LruInIdeal.main (F := Ideal))) ⟨m, fun _ => 0, g⟩ (fun r => ∀ c : Dev Cert.LruInIdeal.nD,
          r.2.mem ((c.tc : Thread Cert.LruInIdeal.nD Cert.LruInIdeal.τ).loc Cert.LruInIdeal.main_v5_0) = v0 c
          ∧ r.2.mem ((c.tc : Thread Cert.LruInIdeal.nD Cert.LruInIdeal.τ).loc Cert.LruInIdeal.main_v6) = v1 c
          ∧ r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
          ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1)
          ∧ r.2.mem ((c.tc : Thread Cert.LruInIdeal.nD Cert.LruInIdeal.τ).loc Cert.LruInIdeal.main_arg2) = m ((c.tc : Thread Cert.LruInIdeal.nD Cert.LruInIdeal.τ).loc Cert.LruInIdeal.main_arg2)
          ∧ r.2.mem ((c.tc : Thread Cert.LruInIdeal.nD Cert.LruInIdeal.τ).loc Cert.LruInIdeal.main_arg3) = m ((c.tc : Thread Cert.LruInIdeal.nD Cert.LruInIdeal.τ).loc Cert.LruInIdeal.main_arg3)
          ∧ r.2.mem ((c.tc : Thread Cert.LruInIdeal.nD Cert.LruInIdeal.τ).loc Cert.LruInIdeal.main_arg4) = m ((c.tc : Thread Cert.LruInIdeal.nD Cert.LruInIdeal.τ).loc Cert.LruInIdeal.main_arg4))
      ∧ θ_run (Cert.LruInRefIdeal.defs (F := Ideal)) (onTc (τ := Cert.LruInRefIdeal.τ) (Cert.LruInRefIdeal.main (F := Ideal))) ⟨m', fun _ => 0, g'⟩ (fun r => ∀ c : Dev Cert.LruInRefIdeal.nD,
          r.2.mem ((c.tc : Thread Cert.LruInRefIdeal.nD Cert.LruInRefIdeal.τ).loc Cert.LruInRefIdeal.main_v39) = v0 c
          ∧ r.2.mem ((c.tc : Thread Cert.LruInRefIdeal.nD Cert.LruInRefIdeal.τ).loc Cert.LruInRefIdeal.main_v24) = v1 c
          ∧ r.2.mem ((c.tc : Thread Cert.LruInRefIdeal.nD Cert.LruInRefIdeal.τ).loc Cert.LruInRefIdeal.main_arg0) = m' ((c.tc : Thread Cert.LruInRefIdeal.nD Cert.LruInRefIdeal.τ).loc Cert.LruInRefIdeal.main_arg0)
          ∧ r.2.mem ((c.tc : Thread Cert.LruInRefIdeal.nD Cert.LruInRefIdeal.τ).loc Cert.LruInRefIdeal.main_arg1) = m' ((c.tc : Thread Cert.LruInRefIdeal.nD Cert.LruInRefIdeal.τ).loc Cert.LruInRefIdeal.main_arg1)
          ∧ r.2.mem ((c.tc : Thread Cert.LruInRefIdeal.nD Cert.LruInRefIdeal.τ).loc Cert.LruInRefIdeal.main_arg2) = m' ((c.tc : Thread Cert.LruInRefIdeal.nD Cert.LruInRefIdeal.τ).loc Cert.LruInRefIdeal.main_arg2)
          ∧ r.2.mem ((c.tc : Thread Cert.LruInRefIdeal.nD Cert.LruInRefIdeal.τ).loc Cert.LruInRefIdeal.main_arg3) = m' ((c.tc : Thread Cert.LruInRefIdeal.nD Cert.LruInRefIdeal.τ).loc Cert.LruInRefIdeal.main_arg3)
          ∧ r.2.mem ((c.tc : Thread Cert.LruInRefIdeal.nD Cert.LruInRefIdeal.τ).loc Cert.LruInRefIdeal.main_arg4) = m' ((c.tc : Thread Cert.LruInRefIdeal.nD Cert.LruInRefIdeal.τ).loc Cert.LruInRefIdeal.main_arg4))

def preserves_Pool_PoolIdeal : Prop :=
  True

def algebraic_PoolIdeal_PoolRefIdeal_pre_finite_pool [hPoolIdeal : Cert.PoolIdeal.Facts] [hPoolRefIdeal : Cert.PoolRefIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite_pool m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)) →
    ∃ (v0 : (c : Dev Cert.PoolIdeal.nD) → Buf (Elt Ideal) ((c.tc : Thread Cert.PoolIdeal.nD Cert.PoolIdeal.τ).loc Cert.PoolIdeal.main_v87_0)) (v1 : (c : Dev Cert.PoolIdeal.nD) → Buf (Elt Ideal) ((c.tc : Thread Cert.PoolIdeal.nD Cert.PoolIdeal.τ).loc Cert.PoolIdeal.main_v87_1)) (v2 : (c : Dev Cert.PoolIdeal.nD) → Buf (Elt Ideal) ((c.tc : Thread Cert.PoolIdeal.nD Cert.PoolIdeal.τ).loc Cert.PoolIdeal.main_v90)) (v3 : (c : Dev Cert.PoolIdeal.nD) → Buf (Elt Ideal) ((c.tc : Thread Cert.PoolIdeal.nD Cert.PoolIdeal.τ).loc Cert.PoolIdeal.main_v92)) (v4 : (c : Dev Cert.PoolIdeal.nD) → Buf (Elt Ideal) ((c.tc : Thread Cert.PoolIdeal.nD Cert.PoolIdeal.τ).loc Cert.PoolIdeal.main_v94)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v87_0) = v0 c
          ∧ r.2.mem ((c.tc : Thread Cert.PoolIdeal.nD Cert.PoolIdeal.τ).loc Cert.PoolIdeal.main_v87_1) = v1 c
          ∧ r.2.mem ((c.tc : Thread Cert.PoolIdeal.nD Cert.PoolIdeal.τ).loc Cert.PoolIdeal.main_v90) = v2 c
          ∧ r.2.mem ((c.tc : Thread Cert.PoolIdeal.nD Cert.PoolIdeal.τ).loc Cert.PoolIdeal.main_v92) = v3 c
          ∧ r.2.mem ((c.tc : Thread Cert.PoolIdeal.nD Cert.PoolIdeal.τ).loc Cert.PoolIdeal.main_v94) = v4 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v189) = v0 c
          ∧ r.2.mem ((c.tc : Thread Cert.PoolRefIdeal.nD Cert.PoolRefIdeal.τ).loc Cert.PoolRefIdeal.main_v190) = v1 c
          ∧ r.2.mem ((c.tc : Thread Cert.PoolRefIdeal.nD Cert.PoolRefIdeal.τ).loc Cert.PoolRefIdeal.main_v174) = v2 c
          ∧ r.2.mem ((c.tc : Thread Cert.PoolRefIdeal.nD Cert.PoolRefIdeal.τ).loc Cert.PoolRefIdeal.main_v108) = v3 c
          ∧ r.2.mem ((c.tc : Thread Cert.PoolRefIdeal.nD Cert.PoolRefIdeal.τ).loc Cert.PoolRefIdeal.main_v105) = v4 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5))

def preserves_PleFwd_PleFwdIdeal : Prop :=
  True

def algebraic_PleFwdIdeal_PleFwdRefIdeal_pre_finite_ple_fwd [hPleFwdIdeal : Cert.PleFwdIdeal.Facts] [hPleFwdRefIdeal : Cert.PleFwdRefIdeal.Facts] [hPre_finite_ple_fwd : Cert.Pre_finite_ple_fwd.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.PleFwdRefIdeal.nD Cert.PleFwdRefIdeal.τ Cert.PleFwdRefIdeal.sig) → Buf (Elt Ideal) ℓ) (g' : Dev Cert.PleFwdRefIdeal.nD → PrngReg), Pre_PleFwdIdeal_finite_ple_fwd m →
    (∀ c : Dev Cert.PleFwdIdeal.nD,
      m' ((c.tc : Thread Cert.PleFwdRefIdeal.nD Cert.PleFwdRefIdeal.τ).loc Cert.PleFwdRefIdeal.main_arg0) = m ((c.tc : Thread Cert.PleFwdIdeal.nD Cert.PleFwdIdeal.τ).loc Cert.PleFwdIdeal.main_arg0)
      ∧ m' ((c.tc : Thread Cert.PleFwdRefIdeal.nD Cert.PleFwdRefIdeal.τ).loc Cert.PleFwdRefIdeal.main_arg1) = m ((c.tc : Thread Cert.PleFwdIdeal.nD Cert.PleFwdIdeal.τ).loc Cert.PleFwdIdeal.main_arg1)
      ∧ m' ((c.tc : Thread Cert.PleFwdRefIdeal.nD Cert.PleFwdRefIdeal.τ).loc Cert.PleFwdRefIdeal.main_arg2) = m ((c.tc : Thread Cert.PleFwdIdeal.nD Cert.PleFwdIdeal.τ).loc Cert.PleFwdIdeal.main_arg2)
      ∧ m' ((c.tc : Thread Cert.PleFwdRefIdeal.nD Cert.PleFwdRefIdeal.τ).loc Cert.PleFwdRefIdeal.main_arg3) = m ((c.tc : Thread Cert.PleFwdIdeal.nD Cert.PleFwdIdeal.τ).loc Cert.PleFwdIdeal.main_arg3)
      ∧ m' ((c.tc : Thread Cert.PleFwdRefIdeal.nD Cert.PleFwdRefIdeal.τ).loc Cert.PleFwdRefIdeal.main_arg4) = m ((c.tc : Thread Cert.PleFwdIdeal.nD Cert.PleFwdIdeal.τ).loc Cert.PleFwdIdeal.main_arg4)) →
    ∃ (v0 : (c : Dev Cert.PleFwdIdeal.nD) → Buf (Elt Ideal) ((c.tc : Thread Cert.PleFwdIdeal.nD Cert.PleFwdIdeal.τ).loc Cert.PleFwdIdeal.main_v8)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v8) = v0 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
          ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
          ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
          ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4))
      ∧ θ_run (Cert.PleFwdRefIdeal.defs (F := Ideal)) (onTc (τ := Cert.PleFwdRefIdeal.τ) (Cert.PleFwdRefIdeal.main (F := Ideal))) ⟨m', fun _ => 0, g'⟩ (fun r => ∀ c : Dev Cert.PleFwdRefIdeal.nD,
          r.2.mem ((c.tc : Thread Cert.PleFwdRefIdeal.nD Cert.PleFwdRefIdeal.τ).loc Cert.PleFwdRefIdeal.main_v22) = v0 c
          ∧ r.2.mem ((c.tc : Thread Cert.PleFwdRefIdeal.nD Cert.PleFwdRefIdeal.τ).loc Cert.PleFwdRefIdeal.main_arg0) = m' ((c.tc : Thread Cert.PleFwdRefIdeal.nD Cert.PleFwdRefIdeal.τ).loc Cert.PleFwdRefIdeal.main_arg0)
          ∧ r.2.mem ((c.tc : Thread Cert.PleFwdRefIdeal.nD Cert.PleFwdRefIdeal.τ).loc Cert.PleFwdRefIdeal.main_arg1) = m' ((c.tc : Thread Cert.PleFwdRefIdeal.nD Cert.PleFwdRefIdeal.τ).loc Cert.PleFwdRefIdeal.main_arg1)
          ∧ r.2.mem ((c.tc : Thread Cert.PleFwdRefIdeal.nD Cert.PleFwdRefIdeal.τ).loc Cert.PleFwdRefIdeal.main_arg2) = m' ((c.tc : Thread Cert.PleFwdRefIdeal.nD Cert.PleFwdRefIdeal.τ).loc Cert.PleFwdRefIdeal.main_arg2)
          ∧ r.2.mem ((c.tc : Thread Cert.PleFwdRefIdeal.nD Cert.PleFwdRefIdeal.τ).loc Cert.PleFwdRefIdeal.main_arg3) = m' ((c.tc : Thread Cert.PleFwdRefIdeal.nD Cert.PleFwdRefIdeal.τ).loc Cert.PleFwdRefIdeal.main_arg3)
          ∧ r.2.mem ((c.tc : Thread Cert.PleFwdRefIdeal.nD Cert.PleFwdRefIdeal.τ).loc Cert.PleFwdRefIdeal.main_arg4) = m' ((c.tc : Thread Cert.PleFwdRefIdeal.nD Cert.PleFwdRefIdeal.τ).loc Cert.PleFwdRefIdeal.main_arg4))

def preserves_PoolFwd_PoolFwdIdeal : Prop :=
  True

def algebraic_PoolFwdIdeal_PoolFwdRefIdeal_pre_finite_pool_fwd [hPoolFwdIdeal : Cert.PoolFwdIdeal.Facts] [hPoolFwdRefIdeal : Cert.PoolFwdRefIdeal.Facts] [hPre_finite_pool_fwd : Cert.Pre_finite_pool_fwd.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_finite_pool_fwd m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)
      ∧ m' ((c.tc : Thread Cert.PoolFwdRefIdeal.nD Cert.PoolFwdRefIdeal.τ).loc Cert.PoolFwdRefIdeal.main_arg3) = m ((c.tc : Thread Cert.PoolFwdIdeal.nD Cert.PoolFwdIdeal.τ).loc Cert.PoolFwdIdeal.main_arg3)
      ∧ m' ((c.tc : Thread Cert.PoolFwdRefIdeal.nD Cert.PoolFwdRefIdeal.τ).loc Cert.PoolFwdRefIdeal.main_arg4) = m ((c.tc : Thread Cert.PoolFwdIdeal.nD Cert.PoolFwdIdeal.τ).loc Cert.PoolFwdIdeal.main_arg4)) →
    ∃ (v0 : (c : Dev Cert.PoolFwdIdeal.nD) → Buf (Elt Ideal) ((c.tc : Thread Cert.PoolFwdIdeal.nD Cert.PoolFwdIdeal.τ).loc Cert.PoolFwdIdeal.main_v5_0)) (v1 : (c : Dev Cert.PoolFwdIdeal.nD) → Buf (Elt Ideal) ((c.tc : Thread Cert.PoolFwdIdeal.nD Cert.PoolFwdIdeal.τ).loc Cert.PoolFwdIdeal.main_v5_1)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v5_0) = v0 c
          ∧ r.2.mem ((c.tc : Thread Cert.PoolFwdIdeal.nD Cert.PoolFwdIdeal.τ).loc Cert.PoolFwdIdeal.main_v5_1) = v1 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
          ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3)
          ∧ r.2.mem ((c.tc : Thread Cert.PoolFwdIdeal.nD Cert.PoolFwdIdeal.τ).loc Cert.PoolFwdIdeal.main_arg4) = m ((c.tc : Thread Cert.PoolFwdIdeal.nD Cert.PoolFwdIdeal.τ).loc Cert.PoolFwdIdeal.main_arg4))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v89) = v0 c
          ∧ r.2.mem ((c.tc : Thread Cert.PoolFwdRefIdeal.nD Cert.PoolFwdRefIdeal.τ).loc Cert.PoolFwdRefIdeal.main_v91) = v1 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2)
          ∧ r.2.mem ((c.tc : Thread Cert.PoolFwdRefIdeal.nD Cert.PoolFwdRefIdeal.τ).loc Cert.PoolFwdRefIdeal.main_arg3) = m' ((c.tc : Thread Cert.PoolFwdRefIdeal.nD Cert.PoolFwdRefIdeal.τ).loc Cert.PoolFwdRefIdeal.main_arg3)
          ∧ r.2.mem ((c.tc : Thread Cert.PoolFwdRefIdeal.nD Cert.PoolFwdRefIdeal.τ).loc Cert.PoolFwdRefIdeal.main_arg4) = m' ((c.tc : Thread Cert.PoolFwdRefIdeal.nD Cert.PoolFwdRefIdeal.τ).loc Cert.PoolFwdRefIdeal.main_arg4))

def Claim : Prop :=
  ∃ (hKernel : Cert.Kernel.Facts) (hKernelIdeal : Cert.KernelIdeal.Facts) (hReferenceIdeal : Cert.ReferenceIdeal.Facts) (hPle : Cert.Ple.Facts) (hPleIdeal : Cert.PleIdeal.Facts) (hPleRefIdeal : Cert.PleRefIdeal.Facts) (hLru : Cert.Lru.Facts) (hLruIdeal : Cert.LruIdeal.Facts) (hLruRefIdeal : Cert.LruRefIdeal.Facts) (hFfn : Cert.Ffn.Facts) (hFfnIdeal : Cert.FfnIdeal.Facts) (hFfnRefIdeal : Cert.FfnRefIdeal.Facts) (hLruIn : Cert.LruIn.Facts) (hLruInIdeal : Cert.LruInIdeal.Facts) (hLruInRefIdeal : Cert.LruInRefIdeal.Facts) (hPool : Cert.Pool.Facts) (hPoolIdeal : Cert.PoolIdeal.Facts) (hPoolRefIdeal : Cert.PoolRefIdeal.Facts) (hPleFwd : Cert.PleFwd.Facts) (hPleFwdIdeal : Cert.PleFwdIdeal.Facts) (hPleFwdRefIdeal : Cert.PleFwdRefIdeal.Facts) (hPoolFwd : Cert.PoolFwd.Facts) (hPoolFwdIdeal : Cert.PoolFwdIdeal.Facts) (hPoolFwdRefIdeal : Cert.PoolFwdRefIdeal.Facts) (hPre_finite : Cert.Pre_finite.Facts) (hPre_finite_ple : Cert.Pre_finite_ple.Facts) (hPre_finite_lru : Cert.Pre_finite_lru.Facts) (hPre_finite_ffn : Cert.Pre_finite_ffn.Facts) (hPre_finite_in : Cert.Pre_finite_in.Facts) (hPre_finite_pool : Cert.Pre_finite_pool.Facts) (hPre_finite_ple_fwd : Cert.Pre_finite_ple_fwd.Facts) (hPre_finite_pool_fwd : Cert.Pre_finite_pool_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ple (hPle := hPle)
    ∧ quiescent_PleIdeal (hPleIdeal := hPleIdeal)
    ∧ quiescent_PleIdeal_pre_finite_ple (hPleIdeal := hPleIdeal) (hPre_finite_ple := hPre_finite_ple)
    ∧ quiescent_PleRefIdeal (hPleRefIdeal := hPleRefIdeal)
    ∧ quiescent_PleRefIdeal_pre_finite_ple (hPleRefIdeal := hPleRefIdeal) (hPre_finite_ple := hPre_finite_ple)
    ∧ quiescent_Lru (hLru := hLru)
    ∧ quiescent_LruIdeal (hLruIdeal := hLruIdeal)
    ∧ quiescent_LruIdeal_pre_finite_lru (hLruIdeal := hLruIdeal) (hPre_finite_lru := hPre_finite_lru)
    ∧ quiescent_LruRefIdeal (hLruRefIdeal := hLruRefIdeal)
    ∧ quiescent_LruRefIdeal_pre_finite_lru (hLruRefIdeal := hLruRefIdeal) (hPre_finite_lru := hPre_finite_lru)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_LruIn (hLruIn := hLruIn)
    ∧ quiescent_LruInIdeal (hLruInIdeal := hLruInIdeal)
    ∧ quiescent_LruInIdeal_pre_finite_in (hLruInIdeal := hLruInIdeal) (hPre_finite_in := hPre_finite_in)
    ∧ quiescent_LruInRefIdeal (hLruInRefIdeal := hLruInRefIdeal)
    ∧ quiescent_LruInRefIdeal_pre_finite_in (hLruInRefIdeal := hLruInRefIdeal) (hPre_finite_in := hPre_finite_in)
    ∧ quiescent_Pool (hPool := hPool)
    ∧ quiescent_PoolIdeal (hPoolIdeal := hPoolIdeal)
    ∧ quiescent_PoolIdeal_pre_finite_pool (hPoolIdeal := hPoolIdeal) (hPre_finite_pool := hPre_finite_pool)
    ∧ quiescent_PoolRefIdeal (hPoolRefIdeal := hPoolRefIdeal)
    ∧ quiescent_PoolRefIdeal_pre_finite_pool (hPoolRefIdeal := hPoolRefIdeal) (hPre_finite_pool := hPre_finite_pool)
    ∧ quiescent_PleFwd (hPleFwd := hPleFwd)
    ∧ quiescent_PleFwdIdeal (hPleFwdIdeal := hPleFwdIdeal)
    ∧ quiescent_PleFwdIdeal_pre_finite_ple_fwd (hPleFwdIdeal := hPleFwdIdeal) (hPre_finite_ple_fwd := hPre_finite_ple_fwd)
    ∧ quiescent_PleFwdRefIdeal (hPleFwdRefIdeal := hPleFwdRefIdeal)
    ∧ quiescent_PleFwdRefIdeal_pre_finite_ple_fwd (hPleFwdRefIdeal := hPleFwdRefIdeal) (hPre_finite_ple_fwd := hPre_finite_ple_fwd)
    ∧ quiescent_PoolFwd (hPoolFwd := hPoolFwd)
    ∧ quiescent_PoolFwdIdeal (hPoolFwdIdeal := hPoolFwdIdeal)
    ∧ quiescent_PoolFwdIdeal_pre_finite_pool_fwd (hPoolFwdIdeal := hPoolFwdIdeal) (hPre_finite_pool_fwd := hPre_finite_pool_fwd)
    ∧ quiescent_PoolFwdRefIdeal (hPoolFwdRefIdeal := hPoolFwdRefIdeal)
    ∧ quiescent_PoolFwdRefIdeal_pre_finite_pool_fwd (hPoolFwdRefIdeal := hPoolFwdRefIdeal) (hPre_finite_pool_fwd := hPre_finite_pool_fwd)
    ∧ preserves_Kernel_KernelIdeal
    ∧ algebraic_KernelIdeal_ReferenceIdeal_pre_finite (hKernelIdeal := hKernelIdeal) (hReferenceIdeal := hReferenceIdeal) (hPre_finite := hPre_finite)
    ∧ preserves_Ple_PleIdeal
    ∧ algebraic_PleIdeal_PleRefIdeal_pre_finite_ple (hPleIdeal := hPleIdeal) (hPleRefIdeal := hPleRefIdeal) (hPre_finite_ple := hPre_finite_ple)
    ∧ preserves_Lru_LruIdeal
    ∧ algebraic_LruIdeal_LruRefIdeal_pre_finite_lru (hLruIdeal := hLruIdeal) (hLruRefIdeal := hLruRefIdeal) (hPre_finite_lru := hPre_finite_lru)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_LruIn_LruInIdeal
    ∧ algebraic_LruInIdeal_LruInRefIdeal_pre_finite_in (hLruInIdeal := hLruInIdeal) (hLruInRefIdeal := hLruInRefIdeal) (hPre_finite_in := hPre_finite_in)
    ∧ preserves_Pool_PoolIdeal
    ∧ algebraic_PoolIdeal_PoolRefIdeal_pre_finite_pool (hPoolIdeal := hPoolIdeal) (hPoolRefIdeal := hPoolRefIdeal) (hPre_finite_pool := hPre_finite_pool)
    ∧ preserves_PleFwd_PleFwdIdeal
    ∧ algebraic_PleFwdIdeal_PleFwdRefIdeal_pre_finite_ple_fwd (hPleFwdIdeal := hPleFwdIdeal) (hPleFwdRefIdeal := hPleFwdRefIdeal) (hPre_finite_ple_fwd := hPre_finite_ple_fwd)
    ∧ preserves_PoolFwd_PoolFwdIdeal
    ∧ algebraic_PoolFwdIdeal_PoolFwdRefIdeal_pre_finite_pool_fwd (hPoolFwdIdeal := hPoolFwdIdeal) (hPoolFwdRefIdeal := hPoolFwdRefIdeal) (hPre_finite_pool_fwd := hPre_finite_pool_fwd)
-- ==== Pre_finite.lean ====
abbrev S8192x1024 : Shape := ⟨2, ![8192, 1024]⟩
abbrev S1024 : Shape := ⟨1, ![1024]⟩
abbrev S1x8192x1024 : Shape := ⟨3, ![1, 8192, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1x8192x1024 : S_.BroadcastsInDim S1x8192x1024 (![] : Fin 0 → Fin S1x8192x1024.rank)

variable [Facts]

def fn {F : FTy → Type} [FloatOps F] (main_arg0 : FVec F S8192x1024 .f32) (main_arg1 : FVec F S1024 .f32) (main_arg2 : FVec F S1x8192x1024 .f32) : IVec S8192x1024 1 × IVec S1024 1 × IVec S1x8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1x8192x1024 .f32 := Host.absf main_arg2
  let main_cst_1 : FVec F S_ .f32 := constant S_ .f32 0x7F800000#32
  let main_v7 : FVec F S1x8192x1024 .f32 := broadcastInDim S1x8192x1024 ![] bcast_S_S1x8192x1024 main_cst_1
  let main_v8 : IVec S1x8192x1024 1 := cmpf .olt main_v6 main_v7
  (main_v2, main_v5, main_v8)
-- ==== Pre_finite_ffn.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x1024 .f32) (main_arg2 : FVec F S1024 .f32) (main_arg3 : FVec F S1024x2816 .f32) (main_arg4 : FVec F S1024x2816 .f32) (main_arg5 : FVec F S2816x1024 .f32) : IVec S8192x1024 1 × IVec S8192x1024 1 × IVec S1024 1 × IVec S1024x2816 1 × IVec S1024x2816 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== Pre_finite_in.lean ====
abbrev S8192x2560 : Shape := ⟨2, ![8192, 2560]⟩
abbrev S8192x1024 : Shape := ⟨2, ![8192, 1024]⟩
abbrev S1024 : Shape := ⟨1, ![1024]⟩
abbrev S1024x2560 : Shape := ⟨2, ![1024, 2560]⟩
abbrev S_ : Shape := ⟨0, ![]⟩

class Facts : Prop where
  bitsLt_bf16_f32 : FTy.bits .bf16 < FTy.bits .f32
  bcast_S_S8192x2560 : S_.BroadcastsInDim S8192x2560 (![] : Fin 0 → Fin S8192x2560.rank)
  bcast_S_S8192x1024 : S_.BroadcastsInDim S8192x1024 (![] : Fin 0 → Fin S8192x1024.rank)
  bcast_S_S1024 : S_.BroadcastsInDim S1024 (![] : Fin 0 → Fin S1024.rank)
  bcast_S_S1024x2560 : S_.BroadcastsInDim S1024x2560 (![] : Fin 0 → Fin S1024x2560.rank)

variable [Facts]

def fn {F : FTy → Type} [FloatOps F] (main_arg0 : FVec F S8192x2560 .bf16) (main_arg1 : FVec F S8192x1024 .f32) (main_arg2 : FVec F S8192x1024 .f32) (main_arg3 : FVec F S1024 .f32) (main_arg4 : FVec F S1024x2560 .f32) : IVec S8192x2560 1 × IVec S8192x1024 1 × IVec S8192x1024 1 × IVec S1024 1 × IVec S1024x2560 1 :=
  let main_v0 : FVec F S8192x2560 .f32 := (extf .f32 · bitsLt_bf16_f32) main_arg0
  let main_v1 : FVec F S8192x2560 .f32 := Host.absf main_v0
  let main_cst : FVec F S_ .f32 := constant S_ .f32 0x7F800000#32
  let main_v2 : FVec F S8192x2560 .f32 := broadcastInDim S8192x2560 ![] bcast_S_S8192x2560 main_cst
  let main_v3 : IVec S8192x2560 1 := cmpf .olt main_v1 main_v2
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S8192x1024 .f32 := Host.absf main_arg2
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  let main_v10 : FVec F S1024 .f32 := Host.absf main_arg3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_v13 : FVec F S1024x2560 .f32 := Host.absf main_arg4
  let main_cst_3 : FVec F S_ .f32 := constant S_ .f32 0x7F800000#32
  let main_v14 : FVec F S1024x2560 .f32 := broadcastInDim S1024x2560 ![] bcast_S_S1024x2560 main_cst_3
  let main_v15 : IVec S1024x2560 1 := cmpf .olt main_v13 main_v14
  (main_v3, main_v6, main_v9, main_v12, main_v15)
-- ==== Pre_finite_lru.lean ====
abbrev S8192x1024 : Shape := ⟨2, ![8192, 1024]⟩
abbrev S1024x2560 : Shape := ⟨2, ![1024, 2560]⟩
abbrev S4x1280 : Shape := ⟨2, ![4, 1280]⟩
abbrev S1280 : Shape := ⟨1, ![1280]⟩
abbrev S16x80x80 : Shape := ⟨3, ![16, 80, 80]⟩
abbrev S1280x1024 : Shape := ⟨2, ![1280, 1024]⟩
abbrev S_ : Shape := ⟨0, ![]⟩

class Facts : Prop where
  bcast_S_S8192x1024 : S_.BroadcastsInDim S8192x1024 (![] : Fin 0 → Fin S8192x1024.rank)
  bcast_S_S1024x2560 : S_.BroadcastsInDim S1024x2560 (![] : Fin 0 → Fin S1024x2560.rank)
  bcast_S_S4x1280 : S_.BroadcastsInDim S4x1280 (![] : Fin 0 → Fin S4x1280.rank)
  bcast_S_S1280 : S_.BroadcastsInDim S1280 (![] : Fin 0 → Fin S1280.rank)
  bcast_S_S16x80x80 : S_.BroadcastsInDim S16x80x80 (![] : Fin 0 → Fin S16x80x80.rank)
  bcast_S_S1280x1024 : S_.BroadcastsInDim S1280x1024 (![] : Fin 0 → Fin S1280x1024.rank)

variable [Facts]

def fn_part1 {F : FTy → Type} [FloatOps F] (main_arg6 : FVec F S1280 .f32) (main_arg7 : FVec F S16x80x80 .f32) (main_arg8 : FVec F S1280 .f32) (main_arg9 : FVec F S1280 .f32) (main_arg10 : FVec F S1280x1024 .f32) (main_v2 : IVec S8192x1024 1) (main_v5 : IVec S8192x1024 1) (main_v8 : IVec S1024x2560 1) (main_v11 : IVec S4x1280 1) (main_v14 : IVec S1280 1) (main_v17 : IVec S16x80x80 1) : IVec S8192x1024 1 × IVec S8192x1024 1 × IVec S1024x2560 1 × IVec S4x1280 1 × IVec S1280 1 × IVec S16x80x80 1 × IVec S1280 1 × IVec S16x80x80 1 × IVec S1280 1 × IVec S1280 1 × IVec S1280x1024 1 :=
  let main_v18 : FVec F S1280 .f32 := Host.absf main_arg6
  let main_cst_5 : FVec F S_ .f32 := constant S_ .f32 0x7F800000#32
  let main_v19 : FVec F S1280 .f32 := broadcastInDim S1280 ![] bcast_S_S1280 main_cst_5
  let main_v20 : IVec S1280 1 := cmpf .olt main_v18 main_v19
  let main_v21 : FVec F S16x80x80 .f32 := Host.absf main_arg7
  let main_cst_6 : FVec F S_ .f32 := constant S_ .f32 0x7F800000#32
  let main_v22 : FVec F S16x80x80 .f32 := broadcastInDim S16x80x80 ![] bcast_S_S16x80x80 main_cst_6
  let main_v23 : IVec S16x80x80 1 := cmpf .olt main_v21 main_v22
  let main_v24 : FVec F S1280 .f32 := Host.absf main_arg8
  let main_cst_7 : FVec F S_ .f32 := constant S_ .f32 0x7F800000#32
  let main_v25 : FVec F S1280 .f32 := broadcastInDim S1280 ![] bcast_S_S1280 main_cst_7
  let main_v26 : IVec S1280 1 := cmpf .olt main_v24 main_v25
  let main_v27 : FVec F S1280 .f32 := Host.absf main_arg9
  let main_cst_8 : FVec F S_ .f32 := constant S_ .f32 0x7F800000#32
  let main_v28 : FVec F S1280 .f32 := broadcastInDim S1280 ![] bcast_S_S1280 main_cst_8
  let main_v29 : IVec S1280 1 := cmpf .olt main_v27 main_v28
  let main_v30 : FVec F S1280x1024 .f32 := Host.absf main_arg10
  let main_cst_9 : FVec F S_ .f32 := constant S_ .f32 0x7F800000#32
  let main_v31 : FVec F S1280x1024 .f32 := broadcastInDim S1280x1024 ![] bcast_S_S1280x1024 main_cst_9
  let main_v32 : IVec S1280x1024 1 := cmpf .olt main_v30 main_v31
  (main_v2, main_v5, main_v8, main_v11, main_v14, main_v17, main_v20, main_v23, main_v26, main_v29, main_v32)

def fn {F : FTy → Type} [FloatOps F] (main_arg0 : FVec F S8192x1024 .f32) (main_arg1 : FVec F S8192x1024 .f32) (main_arg2 : FVec F S1024x2560 .f32) (main_arg3 : FVec F S4x1280 .f32) (main_arg4 : FVec F S1280 .f32) (main_arg5 : FVec F S16x80x80 .f32) (main_arg6 : FVec F S1280 .f32) (main_arg7 : FVec F S16x80x80 .f32) (main_arg8 : FVec F S1280 .f32) (main_arg9 : FVec F S1280 .f32) (main_arg10 : FVec F S1280x1024 .f32) : IVec S8192x1024 1 × IVec S8192x1024 1 × IVec S1024x2560 1 × IVec S4x1280 1 × IVec S1280 1 × IVec S16x80x80 1 × IVec S1280 1 × IVec S16x80x80 1 × IVec S1280 1 × IVec S1280 1 × IVec S1280x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024x2560 .f32 := Host.absf main_arg2
  let main_cst_1 : FVec F S_ .f32 := constant S_ .f32 0x7F800000#32
  let main_v7 : FVec F S1024x2560 .f32 := broadcastInDim S1024x2560 ![] bcast_S_S1024x2560 main_cst_1
  let main_v8 : IVec S1024x2560 1 := cmpf .olt main_v6 main_v7
  let main_v9 : FVec F S4x1280 .f32 := Host.absf main_arg3
  let main_cst_2 : FVec F S_ .f32 := constant S_ .f32 0x7F800000#32
  let main_v10 : FVec F S4x1280 .f32 := broadcastInDim S4x1280 ![] bcast_S_S4x1280 main_cst_2
  let main_v11 : IVec S4x1280 1 := cmpf .olt main_v9 main_v10
  let main_v12 : FVec F S1280 .f32 := Host.absf main_arg4
  let main_cst_3 : FVec F S_ .f32 := constant S_ .f32 0x7F800000#32
  let main_v13 : FVec F S1280 .f32 := broadcastInDim S1280 ![] bcast_S_S1280 main_cst_3
  let main_v14 : IVec S1280 1 := cmpf .olt main_v12 main_v13
  let main_v15 : FVec F S16x80x80 .f32 := Host.absf main_arg5
  let main_cst_4 : FVec F S_ .f32 := constant S_ .f32 0x7F800000#32
  let main_v16 : FVec F S16x80x80 .f32 := broadcastInDim S16x80x80 ![] bcast_S_S16x80x80 main_cst_4
  let main_v17 : IVec S16x80x80 1 := cmpf .olt main_v15 main_v16
  fn_part1 (F := F) main_arg6 main_arg7 main_arg8 main_arg9 main_arg10 main_v2 main_v5 main_v8 main_v11 main_v14 main_v17
-- ==== Pre_finite_ple.lean ====
abbrev S8192x1024 : Shape := ⟨2, ![8192, 1024]⟩
abbrev S1024 : Shape := ⟨1, ![1024]⟩
abbrev S8192x256 : Shape := ⟨2, ![8192, 256]⟩
abbrev S1024x1024 : Shape := ⟨2, ![1024, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S8192x256 : S_.BroadcastsInDim S8192x256 (![] : Fin 0 → Fin S8192x256.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn {F : FTy → Type} [FloatOps F] (main_arg0 : FVec F S8192x1024 .f32) (main_arg1 : FVec F S8192x1024 .f32) (main_arg2 : FVec F S1024 .f32) (main_arg3 : FVec F S8192x256 .f32) (main_arg4 : FVec F S1024x1024 .f32) (main_arg5 : FVec F S256x1024 .f32) : IVec S8192x1024 1 × IVec S8192x1024 1 × IVec S1024 1 × IVec S8192x256 1 × IVec S1024x1024 1 × IVec S256x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S8192x256 .f32 := Host.absf main_arg3
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S256x1024 .f32 := Host.absf main_arg5
  let main_cst_4 : FVec F S_ .f32 := constant S_ .f32 0x7F800000#32
  let main_v16 : FVec F S256x1024 .f32 := broadcastInDim S256x1024 ![] bcast_S_S256x1024 main_cst_4
  let main_v17 : IVec S256x1024 1 := cmpf .olt main_v15 main_v16
  (main_v2, main_v5, main_v8, main_v11, main_v14, main_v17)
-- ==== Pre_finite_ple_fwd.lean ====
abbrev S8192x1024 : Shape := ⟨2, ![8192, 1024]⟩
abbrev S1024 : Shape := ⟨1, ![1024]⟩
abbrev S8192x256 : Shape := ⟨2, ![8192, 256]⟩
abbrev S1024x1024 : Shape := ⟨2, ![1024, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S8192x256 : S_.BroadcastsInDim S8192x256 (![] : Fin 0 → Fin S8192x256.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn {F : FTy → Type} [FloatOps F] (main_arg0 : FVec F S8192x1024 .f32) (main_arg1 : FVec F S1024 .f32) (main_arg2 : FVec F S8192x256 .f32) (main_arg3 : FVec F S1024x1024 .f32) (main_arg4 : FVec F S256x1024 .f32) : IVec S8192x1024 1 × IVec S1024 1 × IVec S8192x256 1 × IVec S1024x1024 1 × IVec S256x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S256x1024 .f32 := Host.absf main_arg4
  let main_cst_3 : FVec F S_ .f32 := constant S_ .f32 0x7F800000#32
  let main_v13 : FVec F S256x1024 .f32 := broadcastInDim S256x1024 ![] bcast_S_S256x1024 main_cst_3
  let main_v14 : IVec S256x1024 1 := cmpf .olt main_v12 main_v13
  (main_v2, main_v5, main_v8, main_v11, main_v14)
-- ==== Pre_finite_pool.lean ====
abbrev S8192x1024 : Shape := ⟨2, ![8192, 1024]⟩
abbrev S1024 : Shape := ⟨1, ![1024]⟩
abbrev S4x256x256 : Shape := ⟨3, ![4, 256, 256]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S4x256x256 : S_.BroadcastsInDim S4x256x256 (![] : Fin 0 → Fin S4x256x256.rank)

variable [Facts]

def fn {F : FTy → Type} [FloatOps F] (main_arg0 : FVec F S8192x1024 .f32) (main_arg1 : FVec F S8192x1024 .f32) (main_arg2 : FVec F S1024 .f32) (main_arg3 : FVec F S4x256x256 .f32) (main_arg4 : FVec F S1024 .f32) (main_arg5 : FVec F S1024 .f32) : IVec S8192x1024 1 × IVec S8192x1024 1 × IVec S1024 1 × IVec S4x256x256 1 × IVec S1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S4x256x256 .f32 := Host.absf main_arg3
  let main_cst_2 : FVec F S_ .f32 := constant S_ .f32 0x7F800000#32
  let main_v10 : FVec F S4x256x256 .f32 := broadcastInDim S4x256x256 ![] bcast_S_S4x256x256 main_cst_2
  let main_v11 : IVec S4x256x256 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_finite_pool_fwd.lean ====
abbrev S8192x1024 : Shape := ⟨2, ![8192, 1024]⟩
abbrev S1024 : Shape := ⟨1, ![1024]⟩
abbrev S4x256x256 : Shape := ⟨3, ![4, 256, 256]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S4x256x256 : S_.BroadcastsInDim S4x256x256 (![] : Fin 0 → Fin S4x256x256.rank)

variable [Facts]

def fn {F : FTy → Type} [FloatOps F] (main_arg0 : FVec F S8192x1024 .f32) (main_arg1 : FVec F S1024 .f32) (main_arg2 : FVec F S4x256x256 .f32) (main_arg3 : FVec F S1024 .f32) (main_arg4 : FVec F S1024 .f32) : IVec S8192x1024 1 × IVec S1024 1 × IVec S4x256x256 1 × IVec S1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4x256x256 .f32 := Host.absf main_arg2
  let main_cst_1 : FVec F S_ .f32 := constant S_ .f32 0x7F800000#32
  let main_v7 : FVec F S4x256x256 .f32 := broadcastInDim S4x256x256 ![] bcast_S_S4x256x256 main_cst_1
  let main_v8 : IVec S4x256x256 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Kernel.lean ====
abbrev S8192x1024 : Shape := ⟨2, ![8192, 1024]⟩
abbrev S1024 : Shape := ⟨1, ![1024]⟩
abbrev S1x8192x1024 : Shape := ⟨3, ![1, 8192, 1024]⟩
abbrev S1x1x1024 : Shape := ⟨3, ![1, 1, 1024]⟩
abbrev S8x1024 : Shape := ⟨2, ![8, 1024]⟩
abbrev S8x128 : Shape := ⟨2, ![8, 128]⟩
abbrev S1024x1024 : Shape := ⟨2, ![1024, 1024]⟩
abbrev S1x1024 : Shape := ⟨2, ![1, 1024]⟩
abbrev S1024x1 : Shape := ⟨2, ![1024, 1]⟩
abbrev S128x8x1024 : Shape := ⟨3, ![128, 8, 1024]⟩
abbrev S_ : Shape := ⟨0, ![]⟩

abbrev nBuf : Space → Nat
  | .hbm => 12
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x8192x1024, .f32⟩
  | .hbm, ⟨3, _⟩ => ⟨S1x1x1024, .f32⟩
  | .hbm, ⟨4, _⟩ => ⟨S8192x1024, .f32⟩
  | .hbm, ⟨5, _⟩ => ⟨S8192x1024, .f32⟩
  | .hbm, ⟨6, _⟩ => ⟨S8x1024, .f32⟩
  | .hbm, ⟨7, _⟩ => ⟨S8x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x1024, .f32⟩
  | .local _ .vmem, ⟨8, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8192x1024 : Shape := ⟨2, ![8192, 1024]⟩
abbrev S1024 : Shape := ⟨1, ![1024]⟩
abbrev S1x8192x1024 : Shape := ⟨3, ![1, 8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Ple.lean ====
abbrev S8192x1024 : Shape := ⟨2, ![8192, 1024]⟩
abbrev S1024 : Shape := ⟨1, ![1024]⟩
abbrev S8192x256 : Shape := ⟨2, ![8192, 256]⟩
abbrev S1024x1024 : Shape := ⟨2, ![1024, 1024]⟩
abbrev S256x1024 : Shape := ⟨2, ![256, 1024]⟩
abbrev S1x1024x1024 : Shape := ⟨3, ![1, 1024, 1024]⟩
abbrev S256x4x256 : Shape := ⟨3, ![256, 4, 256]⟩
abbrev S4x256x256 : Shape := ⟨3, ![4, 256, 256]⟩
abbrev S1x4x256x256 : Shape := ⟨4, ![1, 4, 256, 256]⟩
abbrev S1x1x1024 : Shape := ⟨3, ![1, 1, 1024]⟩
abbrev S1x1x8192x256 : Shape := ⟨4, ![1, 1, 8192, 256]⟩
abbrev S8x1024 : Shape := ⟨2, ![8, 1024]⟩
abbrev S512x1024 : Shape := ⟨2, ![512, 1024]⟩
abbrev S1x1x512x256 : Shape := ⟨4, ![1, 1, 512, 256]⟩
abbrev S1x1024 : Shape := ⟨2, ![1, 1024]⟩
abbrev S512x256 : Shape := ⟨2, ![512, 256]⟩
abbrev S512 : Shape := ⟨1, ![512]⟩
abbrev S512x1 : Shape := ⟨2, ![512, 1]⟩
abbrev S1x1x256x256 : Shape := ⟨4, ![1, 1, 256, 256]⟩
abbrev S256x256 : Shape := ⟨2, ![256, 256]⟩
abbrev S1x256x256 : Shape := ⟨3, ![1, 256, 256]⟩
abbrev S64x8x1024 : Shape := ⟨3, ![64, 8, 1024]⟩
abbrev S_ : Shape := ⟨0, ![]⟩

abbrev nBuf : Space → Nat
  | .hbm => 22
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x256, .f32⟩
  | .hbm, ⟨4, _⟩ => ⟨S1024x1024, .f32⟩
  | .hbm, ⟨5, _⟩ => ⟨S256x1024, .f32⟩
  | .hbm, ⟨6, _⟩ => ⟨S1024x1024, .bf16⟩
  | .hbm, ⟨7, _⟩ => ⟨S1x1024x1024, .bf16⟩
  | .hbm, ⟨8, _⟩ => ⟨S256x1024, .bf16⟩
  | .hbm, ⟨9, _⟩ => ⟨S256x4x256, .bf16⟩
  | .hbm, ⟨10, _⟩ => ⟨S4x256x256, .bf16⟩
  | .hbm, ⟨11, _⟩ => ⟨S1x4x256x256, .bf16⟩
  | .hbm, ⟨12, _⟩ => ⟨S1x1x1024, .f32⟩
  | .hbm, ⟨13, _⟩ => ⟨S1x1x8192x256, .f32⟩
  | .hbm, ⟨14, _⟩ => ⟨S8192x1024, .f32⟩
  | .hbm, ⟨15, _⟩ => ⟨S1024x1024, .f32⟩
  | .hbm, ⟨16, _⟩ => ⟨S4x256x256, .f32⟩
  | .hbm, ⟨17, _⟩ => ⟨S8x1024, .f32⟩
  | .hbm, ⟨18, _⟩ => ⟨S_, .f32⟩
  | .hbm, ⟨19, _⟩ => ⟨S1024, .f32⟩
  | .hbm, ⟨20, _⟩ => ⟨S256x4x256, .f32⟩
  | .hbm, ⟨21, _⟩ => ⟨S256x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x512x256, .f32⟩
  | .local _ .vmem, ⟨6, _⟩ => ⟨S1x1x512x256, .f32⟩
  | .local _ .vmem, ⟨7, _⟩ => ⟨S1x1024x1024, .bf16⟩
  | .local _ .vmem, ⟨8, _⟩ => ⟨S1x4x256x256, .bf16⟩
  | .local _ .vmem, ⟨9, _⟩ => ⟨S512x1024, .f32⟩
  | .local _ .vmem, ⟨10, _⟩ => ⟨S512x1024, .f32⟩
  | .local _ .vmem, ⟨11, _⟩ => ⟨S1024x1024, .f32⟩
  | .local _ .vmem, ⟨12, _⟩ => ⟨S4x256x256, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PleRefIdeal.lean ====
abbrev S8192x1024 : Shape := ⟨2, ![8192, 1024]⟩
abbrev S1024 : Shape := ⟨1, ![1024]⟩
abbrev S8192x256 : Shape := ⟨2, ![8192, 256]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x256 : Shape := ⟨2, ![1024, 256]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x256, .f32⟩
  | .hbm, ⟨4, _⟩ => ⟨S1024x1024, .f32⟩
  | .hbm, ⟨5, _⟩ => ⟨S256x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1024x256, .f32⟩
  | .hbm, ⟨46, _⟩ => ⟨S256x1024, .f32⟩
  | .hbm, ⟨47, _⟩ => ⟨S8192x1024, .f32⟩
  | .hbm, ⟨48, _⟩ => ⟨S1024x1024, .f32⟩
  | .hbm, ⟨49, _⟩ => ⟨S1024x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Lru.lean ====
abbrev S8192x1024 : Shape := ⟨2, ![8192, 1024]⟩
abbrev S1024x2560 : Shape := ⟨2, ![1024, 2560]⟩
abbrev S4x1280 : Shape := ⟨2, ![4, 1280]⟩
abbrev S1280 : Shape := ⟨1, ![1280]⟩
abbrev S16x80x80 : Shape := ⟨3, ![16, 80, 80]⟩
abbrev S1280x1024 : Shape := ⟨2, ![1280, 1024]⟩
abbrev S8192x2560 : Shape := ⟨2, ![8192, 2560]⟩
abbrev S8192x1280 : Shape := ⟨2, ![8192, 1280]⟩
abbrev S_ : Shape := ⟨0, ![]⟩
abbrev S3x1280 : Shape := ⟨2, ![3, 1280]⟩
abbrev S8195x1280 : Shape := ⟨2, ![8195, 1280]⟩
abbrev S1x1280 : Shape := ⟨2, ![1, 1280]⟩
abbrev S8192x16x80 : Shape := ⟨3, ![8192, 16, 80]⟩
abbrev S1x16x80 : Shape := ⟨3, ![1, 16, 80]⟩
abbrev S16x80x8192 : Shape := ⟨3, ![16, 80, 8192]⟩
abbrev S1x8192x16x80 : Shape := ⟨4, ![1, 8192, 16, 80]⟩
abbrev S5x8192x16x80 : Shape := ⟨4, ![5, 8192, 16, 80]⟩
abbrev S5x8192x1280 : Shape := ⟨3, ![5, 8192, 1280]⟩
abbrev S1x4x1280 : Shape := ⟨3, ![1, 4, 1280]⟩
abbrev S8x8 : Shape := ⟨2, ![8, 8]⟩
abbrev S2x8x80x80 : Shape := ⟨4, ![2, 8, 80, 80]⟩
abbrev S2x8x80x1x80 : Shape := ⟨5, ![2, 8, 80, 1, 80]⟩
abbrev S1x8x1x8x1 : Shape := ⟨5, ![1, 8, 1, 8, 1]⟩
abbrev S2x8x80x8x80 : Shape := ⟨5, ![2, 8, 80, 8, 80]⟩
abbrev S2x640x640 : Shape := ⟨3, ![2, 640, 640]⟩
abbrev S2x640x1280 : Shape := ⟨3, ![2, 640, 1280]⟩
abbrev S1x1x1280 : Shape := ⟨3, ![1, 1, 1280]⟩
abbrev S1x1280x1024 : Shape := ⟨3, ![1, 1280, 1024]⟩
abbrev S4x8x1280 : Shape := ⟨3, ![4, 8, 1280]⟩
abbrev S256x1024 : Shape := ⟨2, ![256, 1024]⟩
abbrev S256x2560 : Shape := ⟨2, ![256, 2560]⟩
abbrev S256x1280 : Shape := ⟨2, ![256, 1280]⟩
abbrev S5x256x1280 : Shape := ⟨3, ![5, 256, 1280]⟩
abbrev S8x2560 : Shape := ⟨2, ![8, 2560]⟩
abbrev S8x1280 : Shape := ⟨2, ![8, 1280]⟩
abbrev S264x1280 : Shape := ⟨2, ![264, 1280]⟩
abbrev S1x256x1280 : Shape := ⟨3, ![1, 256, 1280]⟩
abbrev S248x1280 : Shape := ⟨2, ![248, 1280]⟩
abbrev S240x1280 : Shape := ⟨2, ![240, 1280]⟩
abbrev S16x1280 : Shape := ⟨2, ![16, 1280]⟩
abbrev S224x1280 : Shape := ⟨2, ![224, 1280]⟩
abbrev S32x1280 : Shape := ⟨2, ![32, 1280]⟩
abbrev S192x1280 : Shape := ⟨2, ![192, 1280]⟩
abbrev S64x1280 : Shape := ⟨2, ![64, 1280]⟩
abbrev S128x1280 : Shape := ⟨2, ![128, 1280]⟩
abbrev S256x640 : Shape := ⟨2, ![256, 640]⟩
abbrev S1x640x1280 : Shape := ⟨3, ![1, 640, 1280]⟩
abbrev S640x1280 : Shape := ⟨2, ![640, 1280]⟩
abbrev S1x8x1280 : Shape := ⟨3, ![1, 8, 1280]⟩
abbrev S32x8x1280 : Shape := ⟨3, ![32, 8, 1280]⟩

abbrev nBuf : Space → Nat
  | .hbm => 167
  | .vmem => 29
  | .smem => 0
  | _ => 0

abbrev hbmTy0_0 (i : Nat) : BufTy := match i % 128 with
  | 0 => ⟨S8192x1024, .f32⟩
  | 1 => ⟨S8192x1024, .f32⟩
  | 2 => ⟨S1024x2560, .f32⟩
  | 3 => ⟨S4x1280, .f32⟩
  | 4 => ⟨S1280, .f32⟩
  | 5 => ⟨S16x80x80, .f32⟩
  | 6 => ⟨S1280, .f32⟩
  | 7 => ⟨S16x80x80, .f32⟩
  | 8 => ⟨S1280, .f32⟩
  | 9 => ⟨S1280, .f32⟩
  | 10 => ⟨S1280x1024, .f32⟩
  | 11 => ⟨S8192x2560, .f32⟩
  | 12 => ⟨S8192x1280, .f32⟩
  | 13 => ⟨S_, .f32⟩
  | 14 => ⟨S3x1280, .f32⟩
  | 15 => ⟨S8195x1280, .f32⟩
  | 16 => ⟨S1x1280, .f32⟩
  | 17 => ⟨S1280, .f32⟩
  | 18 => ⟨S8192x1280, .f32⟩
  | 19 => ⟨S1x1280, .f32⟩
  | 20 => ⟨S8192x1280, .f32⟩
  | 21 => ⟨S8192x1280, .f32⟩
  | 22 => ⟨S1x1280, .f32⟩
  | 23 => ⟨S8192x1280, .f32⟩
  | 24 => ⟨S8192x1280, .f32⟩
  | 25 => ⟨S1x1280, .f32⟩
  | 26 => ⟨S1280, .f32⟩
  | 27 => ⟨S8192x1280, .f32⟩
  | 28 => ⟨S1x1280, .f32⟩
  | 29 => ⟨S8192x1280, .f32⟩
  | 30 => ⟨S8192x1280, .f32⟩
  | 31 => ⟨S8192x1280, .f32⟩
  | 32 => ⟨S1x1280, .f32⟩
  | 33 => ⟨S1280, .f32⟩
  | 34 => ⟨S8192x1280, .f32⟩
  | 35 => ⟨S1x1280, .f32⟩
  | 36 => ⟨S8192x1280, .f32⟩
  | 37 => ⟨S8192x1280, .f32⟩
  | 38 => ⟨S8192x1280, .f32⟩
  | 39 => ⟨S1x1280, .f32⟩
  | 40 => ⟨S1280, .f32⟩
  | 41 => ⟨S8192x1280, .f32⟩
  | 42 => ⟨S1x1280, .f32⟩
  | 43 => ⟨S8192x1280, .f32⟩
  | 44 => ⟨S8192x1280, .f32⟩
  | 45 => ⟨S8192x1280, .f32⟩
  | 46 => ⟨S8192x16x80, .f32⟩
  | 47 => ⟨S1x16x80, .f32⟩
  | 48 => ⟨S8192x16x80, .f32⟩
  | 49 => ⟨S1x16x80, .f32⟩
  | 50 => ⟨S8192x16x80, .f32⟩
  | 51 => ⟨S1x16x80, .f32⟩
  | 52 => ⟨S16x80x8192, .f32⟩
  | 53 => ⟨S8192x16x80, .f32⟩
  | 54 => ⟨S8192x16x80, .f32⟩
  | 55 => ⟨S8192x16x80, .f32⟩
  | 56 => ⟨S8192x16x80, .f32⟩
  | 57 => ⟨S_, .f32⟩
  | 58 => ⟨S8192x16x80, .f32⟩
  | 59 => ⟨S8192x16x80, .f32⟩
  | 60 => ⟨S_, .f32⟩
  | 61 => ⟨S8192x16x80, .f32⟩
  | 62 => ⟨S8192x16x80, .f32⟩
  | 63 => ⟨S16x80x8192, .f32⟩
  | 64 => ⟨S8192x16x80, .f32⟩
  | 65 => ⟨S8192x16x80, .f32⟩
  | 66 => ⟨S8192x16x80, .f32⟩
  | 67 => ⟨S8192x16x80, .f32⟩
  | 68 => ⟨S_, .f32⟩
  | 69 => ⟨S8192x16x80, .f32⟩
  | 70 => ⟨S8192x16x80, .f32⟩
  | 71 => ⟨S_, .f32⟩
  | 72 => ⟨S8192x16x80, .f32⟩
  | 73 => ⟨S8192x16x80, .f32⟩
  | 74 => ⟨S_, .f32⟩
  | 75 => ⟨S8192x16x80, .f32⟩
  | 76 => ⟨S8192x16x80, .f32⟩
  | 77 => ⟨S1x16x80, .f32⟩
  | 78 => ⟨S_, .f32⟩
  | 79 => ⟨S1x16x80, .f32⟩
  | 80 => ⟨S1x16x80, .f32⟩
  | 81 => ⟨S1x16x80, .f32⟩
  | 82 => ⟨S1x16x80, .f32⟩
  | 83 => ⟨S1x16x80, .i1⟩
  | 84 => ⟨S1x16x80, .f32⟩
  | 85 => ⟨S1x16x80, .f32⟩
  | 86 => ⟨S1x16x80, .f32⟩
  | 87 => ⟨S1x16x80, .f32⟩
  | 88 => ⟨S1x16x80, .f32⟩
  | 89 => ⟨S1x16x80, .f32⟩
  | 90 => ⟨S1x16x80, .f32⟩
  | 91 => ⟨S1x16x80, .f32⟩
  | 92 => ⟨S8192x16x80, .f32⟩
  | 93 => ⟨S8192x16x80, .f32⟩
  | 94 => ⟨S_, .f32⟩
  | 95 => ⟨S8192x16x80, .f32⟩
  | 96 => ⟨S8192x16x80, .f32⟩
  | 97 => ⟨S8192x16x80, .f32⟩
  | 98 => ⟨S8192x16x80, .f32⟩
  | 99 => ⟨S8192x16x80, .f32⟩
  | 100 => ⟨S8192x16x80, .f32⟩
  | 101 => ⟨S8192x16x80, .f32⟩
  | 102 => ⟨S_, .f32⟩
  | 103 => ⟨S_, .f32⟩
  | 104 => ⟨S8192x16x80, .f32⟩
  | 105 => ⟨S8192x16x80, .f32⟩
  | 106 => ⟨S8192x16x80, .f32⟩
  | 107 => ⟨S8192x16x80, .f32⟩
  | 108 => ⟨S8192x16x80, .f32⟩
  | 109 => ⟨S_, .f32⟩
  | 110 => ⟨S_, .f32⟩
  | 111 => ⟨S8192x16x80, .f32⟩
  | 112 => ⟨S8192x16x80, .f32⟩
  | 113 => ⟨S8192x1280, .f32⟩
  | 114 => ⟨S8192x16x80, .f32⟩
  | 115 => ⟨S1x8192x16x80, .f32⟩
  | 116 => ⟨S1x8192x16x80, .f32⟩
  | 117 => ⟨S1x8192x16x80, .f32⟩
  | 118 => ⟨S1x8192x16x80, .f32⟩
  | 119 => ⟨S1x8192x16x80, .f32⟩
  | 120 => ⟨S5x8192x16x80, .f32⟩
  | 121 => ⟨S5x8192x1280, .f32⟩
  | 122 => ⟨S1x4x1280, .f32⟩
  | 123 => ⟨S8x8, .i32⟩
  | 124 => ⟨S8x8, .i32⟩
  | 125 => ⟨S_, .i32⟩
  | 126 => ⟨S8x8, .i32⟩
  | 127 => ⟨S8x8, .i32⟩
  | _ => ⟨S8192x1024, .f32⟩

abbrev hbmTy0_1 (i : Nat) : BufTy := match i % 128 with
  | 0 => ⟨S8x8, .i1⟩
  | 1 => ⟨S8x8, .f32⟩
  | 2 => ⟨S2x8x80x80, .f32⟩
  | 3 => ⟨S2x8x80x1x80, .f32⟩
  | 4 => ⟨S1x8x1x8x1, .f32⟩
  | 5 => ⟨S2x8x80x8x80, .f32⟩
  | 6 => ⟨S2x8x80x8x80, .f32⟩
  | 7 => ⟨S2x8x80x8x80, .f32⟩
  | 8 => ⟨S2x640x640, .f32⟩
  | 9 => ⟨S2x8x80x80, .f32⟩
  | 10 => ⟨S2x8x80x1x80, .f32⟩
  | 11 => ⟨S1x8x1x8x1, .f32⟩
  | 12 => ⟨S2x8x80x8x80, .f32⟩
  | 13 => ⟨S2x8x80x8x80, .f32⟩
  | 14 => ⟨S2x8x80x8x80, .f32⟩
  | 15 => ⟨S2x640x640, .f32⟩
  | 16 => ⟨S2x640x1280, .f32⟩
  | 17 => ⟨S2x640x1280, .bf16⟩
  | 18 => ⟨S1x1x1280, .f32⟩
  | 19 => ⟨S1x1280x1024, .f32⟩
  | 20 => ⟨S1x1280x1024, .bf16⟩
  | 21 => ⟨S8192x2560, .bf16⟩
  | 22 => ⟨S8192x2560, .bf16⟩
  | 23 => ⟨S8192x1280, .bf16⟩
  | 24 => ⟨S8192x1280, .bf16⟩
  | 25 => ⟨S4x8x1280, .f32⟩
  | 26 => ⟨S4x8x1280, .f32⟩
  | 27 => ⟨S_, .f32⟩
  | 28 => ⟨S4x1280, .f32⟩
  | 29 => ⟨S_, .f32⟩
  | 30 => ⟨S4x1280, .f32⟩
  | 31 => ⟨S1x1280, .f32⟩
  | 32 => ⟨S1280, .f32⟩
  | 33 => ⟨S1x1280, .f32⟩
  | 34 => ⟨S1280, .f32⟩
  | 35 => ⟨S1x1280, .f32⟩
  | 36 => ⟨S1280, .f32⟩
  | 37 => ⟨S1x1280, .f32⟩
  | 38 => ⟨S1280, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x2560, .f32⟩
  | .local _ .vmem, ⟨3, _⟩ => ⟨S256x2560, .f32⟩
  | .local _ .vmem, ⟨4, _⟩ => ⟨S256x1280, .f32⟩
  | .local _ .vmem, ⟨5, _⟩ => ⟨S256x1280, .f32⟩
  | .local _ .vmem, ⟨6, _⟩ => ⟨S5x256x1280, .f32⟩
  | .local _ .vmem, ⟨7, _⟩ => ⟨S5x256x1280, .f32⟩
  | .local _ .vmem, ⟨8, _⟩ => ⟨S8x2560, .f32⟩
  | .local _ .vmem, ⟨9, _⟩ => ⟨S8x2560, .f32⟩
  | .local _ .vmem, ⟨10, _⟩ => ⟨S8x1280, .f32⟩
  | .local _ .vmem, ⟨11, _⟩ => ⟨S8x1280, .f32⟩
  | .local _ .vmem, ⟨12, _⟩ => ⟨S1x4x1280, .f32⟩
  | .local _ .vmem, ⟨13, _⟩ => ⟨S2x640x1280, .bf16⟩
  | .local _ .vmem, ⟨14, _⟩ => ⟨S1x1x1280, .f32⟩
  | .local _ .vmem, ⟨15, _⟩ => ⟨S1x1280x1024, .bf16⟩
  | .local _ .vmem, ⟨16, _⟩ => ⟨S256x2560, .bf16⟩
  | .local _ .vmem, ⟨17, _⟩ => ⟨S256x2560, .bf16⟩
  | .local _ .vmem, ⟨18, _⟩ => ⟨S256x2560, .bf16⟩
  | .local _ .vmem, ⟨19, _⟩ => ⟨S256x2560, .bf16⟩
  | .local _ .vmem, ⟨20, _⟩ => ⟨S256x1280, .bf16⟩
  | .local _ .vmem, ⟨21, _⟩ => ⟨S256x1280, .bf16⟩
  | .local _ .vmem, ⟨22, _⟩ => ⟨S256x1280, .bf16⟩
  | .local _ .vmem, ⟨23, _⟩ => ⟨S256x1280, .bf16⟩
  | .local _ .vmem, ⟨24, _⟩ => ⟨S4x8x1280, .f32⟩
  | .local _ .vmem, ⟨25, _⟩ => ⟨S4x8x1280, .f32⟩
  | .local _ .vmem, ⟨26, _⟩ => ⟨S8x1280, .f32⟩
  | .local _ .vmem, ⟨27, _⟩ => ⟨S8x1280, .f32⟩
  | .local _ .vmem, ⟨28, _⟩ => ⟨S8x1280, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_0 : Ref sig .tc := ⟨.hbm, 57, rfl⟩
abbrev main_v45 : Ref sig .tc := ⟨.hbm, 58, rfl⟩
abbrev main_v46 : Ref sig .tc := ⟨.hbm, 59, rfl⟩
abbrev main_cst_1 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_2 : Ref sig .tc := ⟨.hbm, 68, rfl⟩
abbrev main_v54 : Ref sig .tc := ⟨.hbm, 69, rfl⟩
abbrev main_v55 : Ref sig .tc := ⟨.hbm, 70, rfl⟩
abbrev main_cst_3 : Ref sig .tc := ⟨.hbm, 71, rfl⟩
abbrev main_v56 : Ref sig .tc := ⟨.hbm, 72, rfl⟩
abbrev main_v57 : Ref sig .tc := ⟨.hbm, 73, rfl⟩
abbrev main_cst_4 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_v8 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_5 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_call1_call0_cst : Ref sig .tc := ⟨.hbm, 102, rfl⟩
abbrev main_call1_call0_v0 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_call2_call0_cst : Ref sig .tc := ⟨.hbm, 109, rfl⟩
abbrev main_call2_call0_v0 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113_0 : Ref sig .tc := ⟨.hbm, 149, rfl⟩
abbrev main_v113_1 : Ref sig .tc := ⟨.hbm, 150, rfl⟩
abbrev main_v113_2 : Ref sig .tc := ⟨.hbm, 151, rfl⟩
abbrev main_v113_3 : Ref sig .tc := ⟨.hbm, 152, rfl⟩
abbrev main_v113_4 : Ref sig .tc := ⟨.hbm, 153, rfl⟩
abbrev main_v113_5 : Ref sig .tc := ⟨.hbm, 154, rfl⟩
abbrev main_cst_6 : Ref sig .tc := ⟨.hbm, 155, rfl⟩
abbrev main_v114 : Ref sig .tc := ⟨.hbm, 156, rfl⟩
abbrev main_cst_7 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5x256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x640x1280 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1280x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2560 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2560 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1280 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1280 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S4x8x1280 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x8x1280 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== LruIdeal.lean ====
variable {F : FTy → Type} [FloatOps F] [Named F]
def κ : String → Option EReal := fun
  | "gelu_cubic" => some ((8943 / 200000 : ℝ) : EReal)
  | "gelu_cubic_3" => some ((26829 / 200000 : ℝ) : EReal)
  | _ => none
-- ==== LruRefIdeal.lean ====
abbrev S8192x1024 : Shape := ⟨2, ![8192, 1024]⟩
abbrev S1024x2560 : Shape := ⟨2, ![1024, 2560]⟩
abbrev S4x1280 : Shape := ⟨2, ![4, 1280]⟩
abbrev S1280 : Shape := ⟨1, ![1280]⟩
abbrev S16x80x80 : Shape := ⟨3, ![16, 80, 80]⟩
abbrev S1280x1024 : Shape := ⟨2, ![1280, 1024]⟩
abbrev S8192x2560 : Shape := ⟨2, ![8192, 2560]⟩
abbrev S8192x1280 : Shape := ⟨2, ![8192, 1280]⟩
abbrev S_ : Shape := ⟨0, ![]⟩
abbrev S3x1280 : Shape := ⟨2, ![3, 1280]⟩
abbrev S8195x1280 : Shape := ⟨2, ![8195, 1280]⟩
abbrev S1x1280 : Shape := ⟨2, ![1, 1280]⟩
abbrev S8192x16x80 : Shape := ⟨3, ![8192, 16, 80]⟩
abbrev S16x80x8192 : Shape := ⟨3, ![16, 80, 8192]⟩
abbrev S16x8192x80 : Shape := ⟨3, ![16, 8192, 80]⟩
abbrev S8192x640 : Shape := ⟨2, ![8192, 640]⟩

abbrev nBuf : Space → Nat
  | .hbm => 348
  | .vmem => 0
  | .smem => 0
  | _ => 0

abbrev hbmTy0_0 (i : Nat) : BufTy := match i % 128 with
  | 0 => ⟨S8192x1024, .f32⟩
  | 1 => ⟨S8192x1024, .f32⟩
  | 2 => ⟨S1024x2560, .f32⟩
  | 3 => ⟨S4x1280, .f32⟩
  | 4 => ⟨S1280, .f32⟩
  | 5 => ⟨S16x80x80, .f32⟩
  | 6 => ⟨S1280, .f32⟩
  | 7 => ⟨S16x80x80, .f32⟩
  | 8 => ⟨S1280, .f32⟩
  | 9 => ⟨S1280, .f32⟩
  | 10 => ⟨S1280x1024, .f32⟩
  | 11 => ⟨S8192x2560, .f32⟩
  | 12 => ⟨S8192x1280, .f32⟩
  | 13 => ⟨S8192x1280, .f32⟩
  | 14 => ⟨S8192x1280, .f32⟩
  | 15 => ⟨S_, .f32⟩
  | 16 => ⟨S3x1280, .f32⟩
  | 17 => ⟨S8195x1280, .f32⟩
  | 18 => ⟨S_, .f32⟩
  | 19 => ⟨S3x1280, .f32⟩
  | 20 => ⟨S1x1280, .f32⟩
  | 21 => ⟨S1280, .f32⟩
  | 22 => ⟨S8192x1280, .f32⟩
  | 23 => ⟨S1x1280, .f32⟩
  | 24 => ⟨S8192x1280, .f32⟩
  | 25 => ⟨S8192x1280, .f32⟩
  | 26 => ⟨S1x1280, .f32⟩
  | 27 => ⟨S8192x1280, .f32⟩
  | 28 => ⟨S8192x1280, .f32⟩
  | 29 => ⟨S1x1280, .f32⟩
  | 30 => ⟨S1280, .f32⟩
  | 31 => ⟨S8192x1280, .f32⟩
  | 32 => ⟨S1x1280, .f32⟩
  | 33 => ⟨S8192x1280, .f32⟩
  | 34 => ⟨S8192x1280, .f32⟩
  | 35 => ⟨S8192x1280, .f32⟩
  | 36 => ⟨S1x1280, .f32⟩
  | 37 => ⟨S1280, .f32⟩
  | 38 => ⟨S8192x1280, .f32⟩
  | 39 => ⟨S1x1280, .f32⟩
  | 40 => ⟨S8192x1280, .f32⟩
  | 41 => ⟨S8192x1280, .f32⟩
  | 42 => ⟨S8192x1280, .f32⟩
  | 43 => ⟨S1x1280, .f32⟩
  | 44 => ⟨S1280, .f32⟩
  | 45 => ⟨S8192x1280, .f32⟩
  | 46 => ⟨S1x1280, .f32⟩
  | 47 => ⟨S8192x1280, .f32⟩
  | 48 => ⟨S8192x1280, .f32⟩
  | 49 => ⟨S8192x1280, .f32⟩
  | 50 => ⟨S8192x16x80, .f32⟩
  | 51 => ⟨S16x80x8192, .f32⟩
  | 52 => ⟨S8192x16x80, .f32⟩
  | 53 => ⟨S8192x1280, .f32⟩
  | 54 => ⟨S8192x1280, .f32⟩
  | 55 => ⟨S8192x1280, .f32⟩
  | 56 => ⟨S8192x1280, .f32⟩
  | 57 => ⟨S_, .f32⟩
  | 58 => ⟨S8192x1280, .f32⟩
  | 59 => ⟨S8192x1280, .f32⟩
  | 60 => ⟨S_, .f32⟩
  | 61 => ⟨S8192x1280, .f32⟩
  | 62 => ⟨S8192x1280, .f32⟩
  | 63 => ⟨S_, .f32⟩
  | 64 => ⟨S8192x1280, .f32⟩
  | 65 => ⟨S8192x1280, .f32⟩
  | 66 => ⟨S8192x1280, .f32⟩
  | 67 => ⟨S16x80x8192, .f32⟩
  | 68 => ⟨S8192x16x80, .f32⟩
  | 69 => ⟨S8192x1280, .f32⟩
  | 70 => ⟨S8192x1280, .f32⟩
  | 71 => ⟨S8192x1280, .f32⟩
  | 72 => ⟨S8192x1280, .f32⟩
  | 73 => ⟨S_, .f32⟩
  | 74 => ⟨S8192x1280, .f32⟩
  | 75 => ⟨S8192x1280, .f32⟩
  | 76 => ⟨S_, .f32⟩
  | 77 => ⟨S8192x1280, .f32⟩
  | 78 => ⟨S8192x1280, .f32⟩
  | 79 => ⟨S_, .f32⟩
  | 80 => ⟨S8192x1280, .f32⟩
  | 81 => ⟨S8192x1280, .f32⟩
  | 82 => ⟨S8192x1280, .f32⟩
  | 83 => ⟨S_, .f32⟩
  | 84 => ⟨S8192x1280, .f32⟩
  | 85 => ⟨S8192x1280, .f32⟩
  | 86 => ⟨S1280, .f32⟩
  | 87 => ⟨S_, .f32⟩
  | 88 => ⟨S1280, .f32⟩
  | 89 => ⟨S1280, .f32⟩
  | 90 => ⟨S1280, .f32⟩
  | 91 => ⟨S1280, .f32⟩
  | 92 => ⟨S1280, .i1⟩
  | 93 => ⟨S1280, .f32⟩
  | 94 => ⟨S1280, .f32⟩
  | 95 => ⟨S1280, .f32⟩
  | 96 => ⟨S1280, .f32⟩
  | 97 => ⟨S1280, .f32⟩
  | 98 => ⟨S1280, .f32⟩
  | 99 => ⟨S1280, .f32⟩
  | 100 => ⟨S1280, .f32⟩
  | 101 => ⟨S_, .f32⟩
  | 102 => ⟨S1280, .f32⟩
  | 103 => ⟨S1280, .i1⟩
  | 104 => ⟨S_, .f32⟩
  | 105 => ⟨S1280, .f32⟩
  | 106 => ⟨S1280, .f32⟩
  | 107 => ⟨S_, .f32⟩
  | 108 => ⟨S1280, .f32⟩
  | 109 => ⟨S1280, .i1⟩
  | 110 => ⟨S_, .f32⟩
  | 111 => ⟨S1280, .f32⟩
  | 112 => ⟨S1280, .f32⟩
  | 113 => ⟨S1280, .f32⟩
  | 114 => ⟨S1280, .f32⟩
  | 115 => ⟨S_, .f32⟩
  | 116 => ⟨S_, .f32⟩
  | 117 => ⟨S_, .i1⟩
  | 118 => ⟨S_, .f32⟩
  | 119 => ⟨S_, .f32⟩
  | 120 => ⟨S_, .f32⟩
  | 121 => ⟨S_, .f32⟩
  | 122 => ⟨S1280, .f32⟩
  | 123 => ⟨S1280, .i1⟩
  | 124 => ⟨S_, .f32⟩
  | 125 => ⟨S1280, .f32⟩
  | 126 => ⟨S1280, .f32⟩
  | 127 => ⟨S1280, .f32⟩
  | _ => ⟨S8192x1024, .f32⟩

abbrev hbmTy0_1 (i : Nat) : BufTy := match i % 128 with
  | 0 => ⟨S1280, .f32⟩
  | 1 => ⟨S1280, .f32⟩
  | 2 => ⟨S_, .f32⟩
  | 3 => ⟨S1280, .f32⟩
  | 4 => ⟨S1280, .f32⟩
  | 5 => ⟨S1x1280, .f32⟩
  | 6 => ⟨S8192x1280, .f32⟩
  | 7 => ⟨S8192x1280, .f32⟩
  | 8 => ⟨S_, .f32⟩
  | 9 => ⟨S8192x1280, .f32⟩
  | 10 => ⟨S8192x1280, .f32⟩
  | 11 => ⟨S8192x1280, .f32⟩
  | 12 => ⟨S8192x1280, .f32⟩
  | 13 => ⟨S8192x1280, .f32⟩
  | 14 => ⟨S8192x1280, .f32⟩
  | 15 => ⟨S_, .f32⟩
  | 16 => ⟨S8192x1280, .f32⟩
  | 17 => ⟨S8192x1280, .f32⟩
  | 18 => ⟨S8192x1280, .f32⟩
  | 19 => ⟨S8192x1280, .f32⟩
  | 20 => ⟨S_, .f32⟩
  | 21 => ⟨S_, .f32⟩
  | 22 => ⟨S8192x1280, .f32⟩
  | 23 => ⟨S8192x1280, .f32⟩
  | 24 => ⟨S8192x1280, .f32⟩
  | 25 => ⟨S8192x1280, .f32⟩
  | 26 => ⟨S8192x1280, .f32⟩
  | 27 => ⟨S_, .f32⟩
  | 28 => ⟨S_, .f32⟩
  | 29 => ⟨S8192x1280, .f32⟩
  | 30 => ⟨S8192x1280, .f32⟩
  | 31 => ⟨S8192x1280, .f32⟩
  | 32 => ⟨S8192x1280, .f32⟩
  | 33 => ⟨S8192x1280, .f32⟩
  | 34 => ⟨S8192x1280, .f32⟩
  | 35 => ⟨S_, .f32⟩
  | 36 => ⟨S8192x1280, .f32⟩
  | 37 => ⟨S8192x1280, .f32⟩
  | 38 => ⟨S_, .f32⟩
  | 39 => ⟨S8192x1280, .f32⟩
  | 40 => ⟨S8192x1280, .f32⟩
  | 41 => ⟨S_, .f32⟩
  | 42 => ⟨S8192x1280, .f32⟩
  | 43 => ⟨S8192x1280, .f32⟩
  | 44 => ⟨S8192x1280, .f32⟩
  | 45 => ⟨S_, .f32⟩
  | 46 => ⟨S8192x1280, .f32⟩
  | 47 => ⟨S8192x1280, .f32⟩
  | 48 => ⟨S8192x1280, .f32⟩
  | 49 => ⟨S_, .f32⟩
  | 50 => ⟨S8192x1280, .f32⟩
  | 51 => ⟨S8192x1280, .f32⟩
  | 52 => ⟨S_, .f32⟩
  | 53 => ⟨S8192x1280, .f32⟩
  | 54 => ⟨S8192x1280, .f32⟩
  | 55 => ⟨S8192x1280, .f32⟩
  | 56 => ⟨S_, .f32⟩
  | 57 => ⟨S8192x1280, .f32⟩
  | 58 => ⟨S8192x1280, .f32⟩
  | 59 => ⟨S_, .f32⟩
  | 60 => ⟨S8192x1280, .f32⟩
  | 61 => ⟨S8192x1280, .f32⟩
  | 62 => ⟨S8192x1280, .f32⟩
  | 63 => ⟨S8192x1280, .f32⟩
  | 64 => ⟨S8192x1024, .f32⟩
  | 65 => ⟨S8192x1280, .f32⟩
  | 66 => ⟨S8192x1280, .f32⟩
  | 67 => ⟨S8192x1280, .f32⟩
  | 68 => ⟨S8192x1280, .f32⟩
  | 69 => ⟨S8192x1280, .f32⟩
  | 70 => ⟨S_, .f32⟩
  | 71 => ⟨S8192x1280, .f32⟩
  | 72 => ⟨S8192x1280, .f32⟩
  | 73 => ⟨S8192x1280, .f32⟩
  | 74 => ⟨S_, .f32⟩
  | 75 => ⟨S8192x1280, .f32⟩
  | 76 => ⟨S8192x1280, .f32⟩
  | 77 => ⟨S8192x1280, .f32⟩
  | 78 => ⟨S_, .f32⟩
  | 79 => ⟨S8192x1280, .f32⟩
  | 80 => ⟨S8192x1280, .f32⟩
  | 81 => ⟨S_, .f32⟩
  | 82 => ⟨S8192x1280, .f32⟩
  | 83 => ⟨S8192x1280, .f32⟩
  | 84 => ⟨S8192x1280, .f32⟩
  | 85 => ⟨S8192x1280, .f32⟩
  | 86 => ⟨S_, .f32⟩
  | 87 => ⟨S8192x2560, .f32⟩
  | 88 => ⟨S8192x1280, .f32⟩
  | 89 => ⟨S8192x1280, .f32⟩
  | 90 => ⟨S_, .f32⟩
  | 91 => ⟨S_, .f32⟩
  | 92 => ⟨S8192x1280, .f32⟩
  | 93 => ⟨S8192x1280, .f32⟩
  | 94 => ⟨S8192x1280, .f32⟩
  | 95 => ⟨S8192x1280, .f32⟩
  | 96 => ⟨S8192x1280, .f32⟩
  | 97 => ⟨S8192x1280, .f32⟩
  | 98 => ⟨S8192x1280, .f32⟩
  | 99 => ⟨S_, .f32⟩
  | 100 => ⟨S_, .f32⟩
  | 101 => ⟨S8192x1280, .f32⟩
  | 102 => ⟨S8192x1280, .f32⟩
  | 103 => ⟨S8192x1280, .f32⟩
  | 104 => ⟨S8192x1280, .f32⟩
  | 105 => ⟨S8192x1280, .f32⟩
  | 106 => ⟨S8192x1280, .f32⟩
  | 107 => ⟨S8192x1280, .f32⟩
  | 108 => ⟨S8192x1280, .f32⟩
  | 109 => ⟨S_, .f32⟩
  | 110 => ⟨S8192x1280, .f32⟩
  | 111 => ⟨S8192x1280, .f32⟩
  | 112 => ⟨S8192x1280, .f32⟩
  | 113 => ⟨S8192x1280, .f32⟩
  | 114 => ⟨S_, .f32⟩
  | 115 => ⟨S1280, .f32⟩
  | 116 => ⟨S1x1280, .f32⟩
  | 117 => ⟨S8192x1280, .f32⟩
  | 118 => ⟨S8192x1280, .f32⟩
  | 119 => ⟨S_, .f32⟩
  | 120 => ⟨S1280, .f32⟩
  | 121 => ⟨S1280, .f32⟩
  | 122 => ⟨S1280, .f32⟩
  | 123 => ⟨S_, .f32⟩
  | 124 => ⟨S8192x1280, .f32⟩
  | 125 => ⟨S8192x1280, .f32⟩
  | 126 => ⟨S8192x1280, .f32⟩
  | 127 => ⟨S8192x16x80, .f32⟩
  | _ => ⟨S8192x1024, .f32⟩

abbrev hbmTy0_2 (i : Nat) : BufTy := match i % 128 with
  | 0 => ⟨S16x80x8192, .f32⟩
  | 1 => ⟨S16x8192x80, .f32⟩
  | 2 => ⟨S8192x16x80, .f32⟩
  | 3 => ⟨S8192x1280, .f32⟩
  | 4 => ⟨S8192x16x80, .f32⟩
  | 5 => ⟨S16x80x8192, .f32⟩
  | 6 => ⟨S16x8192x80, .f32⟩
  | 7 => ⟨S8192x16x80, .f32⟩
  | 8 => ⟨S8192x16x80, .f32⟩
  | 9 => ⟨S8192x1280, .f32⟩
  | 10 => ⟨S8192x1280, .f32⟩
  | 11 => ⟨S8192x1280, .f32⟩
  | 12 => ⟨S8192x1280, .f32⟩
  | 13 => ⟨S8192x1280, .f32⟩
  | 14 => ⟨S_, .f32⟩
  | 15 => ⟨S1280, .f32⟩
  | 16 => ⟨S1x1280, .f32⟩
  | 17 => ⟨S_, .f32⟩
  | 18 => ⟨S1280, .f32⟩
  | 19 => ⟨S_, .f32⟩
  | 20 => ⟨S8195x1280, .f32⟩
  | 21 => ⟨S1x1280, .f32⟩
  | 22 => ⟨S_, .f32⟩
  | 23 => ⟨S4x1280, .f32⟩
  | 24 => ⟨S8192x1280, .f32⟩
  | 25 => ⟨S8192x1280, .f32⟩
  | 26 => ⟨S8192x1280, .f32⟩
  | 27 => ⟨S_, .f32⟩
  | 28 => ⟨S1280, .f32⟩
  | 29 => ⟨S1x1280, .f32⟩
  | 30 => ⟨S_, .f32⟩
  | 31 => ⟨S1280, .f32⟩
  | 32 => ⟨S_, .f32⟩
  | 33 => ⟨S8195x1280, .f32⟩
  | 34 => ⟨S8195x1280, .f32⟩
  | 35 => ⟨S1x1280, .f32⟩
  | 36 => ⟨S_, .f32⟩
  | 37 => ⟨S4x1280, .f32⟩
  | 38 => ⟨S4x1280, .f32⟩
  | 39 => ⟨S8192x1280, .f32⟩
  | 40 => ⟨S8192x1280, .f32⟩
  | 41 => ⟨S8192x1280, .f32⟩
  | 42 => ⟨S_, .f32⟩
  | 43 => ⟨S1280, .f32⟩
  | 44 => ⟨S1x1280, .f32⟩
  | 45 => ⟨S_, .f32⟩
  | 46 => ⟨S1280, .f32⟩
  | 47 => ⟨S_, .f32⟩
  | 48 => ⟨S8195x1280, .f32⟩
  | 49 => ⟨S8195x1280, .f32⟩
  | 50 => ⟨S1x1280, .f32⟩
  | 51 => ⟨S_, .f32⟩
  | 52 => ⟨S4x1280, .f32⟩
  | 53 => ⟨S4x1280, .f32⟩
  | 54 => ⟨S_, .f32⟩
  | 55 => ⟨S1280, .f32⟩
  | 56 => ⟨S1x1280, .f32⟩
  | 57 => ⟨S_, .f32⟩
  | 58 => ⟨S1280, .f32⟩
  | 59 => ⟨S8192x1280, .f32⟩
  | 60 => ⟨S8192x1280, .f32⟩
  | 61 => ⟨S8192x1280, .f32⟩
  | 62 => ⟨S_, .f32⟩
  | 63 => ⟨S1280, .f32⟩
  | 64 => ⟨S1x1280, .f32⟩
  | 65 => ⟨S_, .f32⟩
  | 66 => ⟨S1280, .f32⟩
  | 67 => ⟨S_, .f32⟩
  | 68 => ⟨S8195x1280, .f32⟩
  | 69 => ⟨S8195x1280, .f32⟩
  | 70 => ⟨S1x1280, .f32⟩
  | 71 => ⟨S_, .f32⟩
  | 72 => ⟨S4x1280, .f32⟩
  | 73 => ⟨S4x1280, .f32⟩
  | 74 => ⟨S3x1280, .f32⟩
  | 75 => ⟨S8192x1280, .f32⟩
  | 76 => ⟨S_, .f32⟩
  | 77 => ⟨S8192x2560, .f32⟩
  | 78 => ⟨S8192x2560, .f32⟩
  | 79 => ⟨S8192x640, .f32⟩
  | 80 => ⟨S8192x640, .f32⟩
  | 81 => ⟨S8192x640, .f32⟩
  | 82 => ⟨S8192x640, .f32⟩
  | 83 => ⟨S8192x2560, .f32⟩
  | 84 => ⟨S8192x2560, .bf16⟩
  | 85 => ⟨S8192x2560, .bf16⟩
  | 86 => ⟨S8192x1280, .bf16⟩
  | 87 => ⟨S8192x1280, .bf16⟩
  | 88 => ⟨S_, .f32⟩
  | 89 => ⟨S1280, .f32⟩
  | 90 => ⟨S_, .f32⟩
  | 91 => ⟨S1280, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_1 : Ref sig .tc := ⟨.hbm, 57, rfl⟩
abbrev main_v44 : Ref sig .tc := ⟨.hbm, 58, rfl⟩
abbrev main_v45 : Ref sig .tc := ⟨.hbm, 59, rfl⟩
abbrev main_cst_2 : Ref sig .tc := ⟨.hbm, 60, rfl⟩
abbrev main_v46 : Ref sig .tc := ⟨.hbm, 61, rfl⟩
abbrev main_v47 : Ref sig .tc := ⟨.hbm, 62, rfl⟩
abbrev main_cst_3 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_4 : Ref sig .tc := ⟨.hbm, 73, rfl⟩
abbrev main_v57 : Ref sig .tc := ⟨.hbm, 74, rfl⟩
abbrev main_v58 : Ref sig .tc := ⟨.hbm, 75, rfl⟩
abbrev main_cst_5 : Ref sig .tc := ⟨.hbm, 76, rfl⟩
abbrev main_v59 : Ref sig .tc := ⟨.hbm, 77, rfl⟩
abbrev main_v60 : Ref sig .tc := ⟨.hbm, 78, rfl⟩
abbrev main_cst_6 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_call0_cst : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_v8 : Ref sig .tc := ⟨.hbm, 96, rfl⟩
abbrev main_call0_v9 : Ref sig .tc := ⟨.hbm, 97, rfl⟩
abbrev main_call0_v10 : Ref sig .tc := ⟨.hbm, 98, rfl⟩
abbrev main_call0_v11 : Ref sig .tc := ⟨.hbm, 99, rfl⟩
abbrev main_v67_0 : Ref sig .tc := ⟨.hbm, 100, rfl⟩
abbrev main_call0_cst_0 : Ref sig .tc := ⟨.hbm, 101, rfl⟩
abbrev main_call0_v13 : Ref sig .tc := ⟨.hbm, 102, rfl⟩
abbrev main_call0_v14 : Ref sig .tc := ⟨.hbm, 103, rfl⟩
abbrev main_call0_cst_1 : Ref sig .tc := ⟨.hbm, 104, rfl⟩
abbrev main_call0_v15 : Ref sig .tc := ⟨.hbm, 105, rfl⟩
abbrev main_call0_v16 : Ref sig .tc := ⟨.hbm, 106, rfl⟩
abbrev main_call0_cst_2 : Ref sig .tc := ⟨.hbm, 107, rfl⟩
abbrev main_call0_v17 : Ref sig .tc := ⟨.hbm, 108, rfl⟩
abbrev main_call0_v18 : Ref sig .tc := ⟨.hbm, 109, rfl⟩
abbrev main_call0_cst_3 : Ref sig .tc := ⟨.hbm, 110, rfl⟩
abbrev main_call0_v19 : Ref sig .tc := ⟨.hbm, 111, rfl⟩
abbrev main_call0_v20 : Ref sig .tc := ⟨.hbm, 112, rfl⟩
abbrev main_call0_v21 : Ref sig .tc := ⟨.hbm, 113, rfl⟩
abbrev main_v67_1 : Ref sig .tc := ⟨.hbm, 114, rfl⟩
abbrev main_call0_cst_4 : Ref sig .tc := ⟨.hbm, 115, rfl⟩
abbrev main_call0_cst_5 : Ref sig .tc := ⟨.hbm, 116, rfl⟩
abbrev main_call0_v23 : Ref sig .tc := ⟨.hbm, 117, rfl⟩
abbrev main_call0_cst_6 : Ref sig .tc := ⟨.hbm, 118, rfl⟩
abbrev main_call0_cst_7 : Ref sig .tc := ⟨.hbm, 119, rfl⟩
abbrev main_call0_v24 : Ref sig .tc := ⟨.hbm, 120, rfl⟩
abbrev main_call0_cst_8 : Ref sig .tc := ⟨.hbm, 121, rfl⟩
abbrev main_call0_v25 : Ref sig .tc := ⟨.hbm, 122, rfl⟩
abbrev main_call0_v26 : Ref sig .tc := ⟨.hbm, 123, rfl⟩
abbrev main_call0_cst_9 : Ref sig .tc := ⟨.hbm, 124, rfl⟩
abbrev main_call0_v27 : Ref sig .tc := ⟨.hbm, 125, rfl⟩
abbrev main_call0_v28 : Ref sig .tc := ⟨.hbm, 126, rfl⟩
abbrev main_call0_v29 : Ref sig .tc := ⟨.hbm, 127, rfl⟩
abbrev main_call0_v30 : Ref sig .tc := ⟨.hbm, 128, rfl⟩
abbrev main_call0_v31 : Ref sig .tc := ⟨.hbm, 129, rfl⟩
abbrev main_call0_cst_10 : Ref sig .tc := ⟨.hbm, 130, rfl⟩
abbrev main_call0_v32 : Ref sig .tc := ⟨.hbm, 131, rfl⟩
abbrev main_v67_2 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_cst_8 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_cst_9 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_call1_call0_cst : Ref sig .tc := ⟨.hbm, 148, rfl⟩
abbrev main_call1_call0_v0 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_call2_call0_cst : Ref sig .tc := ⟨.hbm, 155, rfl⟩
abbrev main_call2_call0_v0 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_cst_10 : Ref sig .tc := ⟨.hbm, 163, rfl⟩
abbrev main_v92 : Ref sig .tc := ⟨.hbm, 164, rfl⟩
abbrev main_v93 : Ref sig .tc := ⟨.hbm, 165, rfl⟩
abbrev main_cst_11 : Ref sig .tc := ⟨.hbm, 166, rfl⟩
abbrev main_v94 : Ref sig .tc := ⟨.hbm, 167, rfl⟩
abbrev main_v95 : Ref sig .tc := ⟨.hbm, 168, rfl⟩
abbrev main_cst_12 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_cst_13 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_cst_14 : Ref sig .tc := ⟨.hbm, 177, rfl⟩
abbrev main_v102 : Ref sig .tc := ⟨.hbm, 178, rfl⟩
abbrev main_v103 : Ref sig .tc := ⟨.hbm, 179, rfl⟩
abbrev main_cst_15 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_cst_16 : Ref sig .tc := ⟨.hbm, 184, rfl⟩
abbrev main_v107 : Ref sig .tc := ⟨.hbm, 185, rfl⟩
abbrev main_v108 : Ref sig .tc := ⟨.hbm, 186, rfl⟩
abbrev main_cst_17 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_cst_18 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_cst_19 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_cst_20 : Ref sig .tc := ⟨.hbm, 206, rfl⟩
abbrev main_v125 : Ref sig .tc := ⟨.hbm, 207, rfl⟩
abbrev main_v126 : Ref sig .tc := ⟨.hbm, 208, rfl⟩
abbrev main_cst_21 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_cst_22 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_call3_call0_cst : Ref sig .tc := ⟨.hbm, 218, rfl⟩
abbrev main_call3_call0_v0 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_call4_call0_cst : Ref sig .tc := ⟨.hbm, 227, rfl⟩
abbrev main_call4_call0_v0 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_23 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_cst_24 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_cst_25 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_cst_26 : Ref sig .tc := ⟨.hbm, 251, rfl⟩
abbrev main_v160 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_cst_27 : Ref sig .tc := ⟨.hbm, 270, rfl⟩
abbrev main_v178 : Ref sig .tc := ⟨.hbm, 271, rfl⟩
abbrev main_v179 : Ref sig .tc := ⟨.hbm, 272, rfl⟩
abbrev main_cst_28 : Ref sig .tc := ⟨.hbm, 273, rfl⟩
abbrev main_v180 : Ref sig .tc := ⟨.hbm, 274, rfl⟩
abbrev main_cst_29 : Ref sig .tc := ⟨.hbm, 275, rfl⟩
abbrev main_v181 : Ref sig .tc := ⟨.hbm, 276, rfl⟩
abbrev main_v182 : Ref sig .tc := ⟨.hbm, 277, rfl⟩
abbrev main_cst_30 : Ref sig .tc := ⟨.hbm, 278, rfl⟩
abbrev main_v183 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_cst_31 : Ref sig .tc := ⟨.hbm, 283, rfl⟩
abbrev main_v187 : Ref sig .tc := ⟨.hbm, 284, rfl⟩
abbrev main_v188 : Ref sig .tc := ⟨.hbm, 285, rfl⟩
abbrev main_cst_32 : Ref sig .tc := ⟨.hbm, 286, rfl⟩
abbrev main_v189 : Ref sig .tc := ⟨.hbm, 287, rfl⟩
abbrev main_cst_33 : Ref sig .tc := ⟨.hbm, 288, rfl⟩
abbrev main_v190 : Ref sig .tc := ⟨.hbm, 289, rfl⟩
abbrev main_v191 : Ref sig .tc := ⟨.hbm, 290, rfl⟩
abbrev main_v192 : Ref sig .tc := ⟨.hbm, 291, rfl⟩
abbrev main_cst_34 : Ref sig .tc := ⟨.hbm, 292, rfl⟩
abbrev main_v193 : Ref sig .tc := ⟨.hbm, 293, rfl⟩
abbrev main_v194 : Ref sig .tc := ⟨.hbm, 294, rfl⟩
abbrev main_v195 : Ref sig .tc := ⟨.hbm, 295, rfl⟩
abbrev main_v196 : Ref sig .tc := ⟨.hbm, 296, rfl⟩
abbrev main_v197 : Ref sig .tc := ⟨.hbm, 297, rfl⟩
abbrev main_cst_35 : Ref sig .tc := ⟨.hbm, 298, rfl⟩
abbrev main_v198 : Ref sig .tc := ⟨.hbm, 299, rfl⟩
abbrev main_v199 : Ref sig .tc := ⟨.hbm, 300, rfl⟩
abbrev main_cst_36 : Ref sig .tc := ⟨.hbm, 301, rfl⟩
abbrev main_v200 : Ref sig .tc := ⟨.hbm, 302, rfl⟩
abbrev main_cst_37 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩
abbrev main_cst_38 : Ref sig .tc := ⟨.hbm, 307, rfl⟩
abbrev main_v204 : Ref sig .tc := ⟨.hbm, 308, rfl⟩
abbrev main_v205 : Ref sig .tc := ⟨.hbm, 309, rfl⟩
abbrev main_cst_39 : Ref sig .tc := ⟨.hbm, 310, rfl⟩
abbrev main_v206 : Ref sig .tc := ⟨.hbm, 311, rfl⟩
abbrev main_v207 : Ref sig .tc := ⟨.hbm, 312, rfl⟩
abbrev main_cst_40 : Ref sig .tc := ⟨.hbm, 313, rfl⟩
abbrev main_v208 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_cst_41 : Ref sig .tc := ⟨.hbm, 318, rfl⟩
abbrev main_v212 : Ref sig .tc := ⟨.hbm, 319, rfl⟩
abbrev main_v213 : Ref sig .tc := ⟨.hbm, 320, rfl⟩
abbrev main_cst_42 : Ref sig .tc := ⟨.hbm, 321, rfl⟩
abbrev main_v214 : Ref sig .tc := ⟨.hbm, 322, rfl⟩
abbrev main_cst_43 : Ref sig .tc := ⟨.hbm, 323, rfl⟩
abbrev main_v215 : Ref sig .tc := ⟨.hbm, 324, rfl⟩
abbrev main_v216 : Ref sig .tc := ⟨.hbm, 325, rfl⟩
abbrev main_v217 : Ref sig .tc := ⟨.hbm, 326, rfl⟩
abbrev main_cst_44 : Ref sig .tc := ⟨.hbm, 327, rfl⟩
abbrev main_v218 : Ref sig .tc := ⟨.hbm, 328, rfl⟩
abbrev main_v219 : Ref sig .tc := ⟨.hbm, 329, rfl⟩
abbrev main_v220 : Ref sig .tc := ⟨.hbm, 330, rfl⟩
abbrev main_v221 : Ref sig .tc := ⟨.hbm, 331, rfl⟩
abbrev main_cst_45 : Ref sig .tc := ⟨.hbm, 332, rfl⟩
abbrev main_v222 : Ref sig .tc := ⟨.hbm, 333, rfl⟩
abbrev main_v223 : Ref sig .tc := ⟨.hbm, 334, rfl⟩
abbrev main_v224 : Ref sig .tc := ⟨.hbm, 335, rfl⟩
abbrev main_v225 : Ref sig .tc := ⟨.hbm, 336, rfl⟩
abbrev main_v226 : Ref sig .tc := ⟨.hbm, 337, rfl⟩
abbrev main_v227 : Ref sig .tc := ⟨.hbm, 338, rfl⟩
abbrev main_v228 : Ref sig .tc := ⟨.hbm, 339, rfl⟩
abbrev main_v229 : Ref sig .tc := ⟨.hbm, 340, rfl⟩
abbrev main_v230 : Ref sig .tc := ⟨.hbm, 341, rfl⟩
abbrev main_v231 : Ref sig .tc := ⟨.hbm, 342, rfl⟩
abbrev main_v232 : Ref sig .tc := ⟨.hbm, 343, rfl⟩
abbrev main_cst_46 : Ref sig .tc := ⟨.hbm, 344, rfl⟩
abbrev main_v233 : Ref sig .tc := ⟨.hbm, 345, rfl⟩
abbrev main_cst_47 : Ref sig .tc := ⟨.hbm, 346, rfl⟩
abbrev main_v234 : Ref sig .tc := ⟨.hbm, 347, rfl⟩

abbrev nD : Nat := 1
abbrev τ : Topo := Topo.v7x

variable {F : FTy → Type} [FloatOps F]
-- ==== Ffn.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S1x4x704x1024 : Shape := ⟨4, ![1, 4, 704, 1024]⟩
abbrev S4x704x1024 : Shape := ⟨3, ![4, 704, 1024]⟩
abbrev S3x8192x1024 : Shape := ⟨3, ![3, 8192, 1024]⟩
abbrev S512x1024 : Shape := ⟨2, ![512, 1024]⟩
abbrev S1x512x704 : Shape := ⟨3, ![1, 512, 704]⟩
abbrev S1x1x704x1024 : Shape := ⟨4, ![1, 1, 704, 1024]⟩
abbrev S1x704x1024 : Shape := ⟨3, ![1, 704, 1024]⟩
abbrev S1x512x1024 : Shape := ⟨3, ![1, 512, 1024]⟩
abbrev S704x1024 : Shape := ⟨2, ![704, 1024]⟩
abbrev S512x704 : Shape := ⟨2, ![512, 704]⟩
abbrev S1x1x1024 : Shape := ⟨3, ![1, 1, 1024]⟩
abbrev S8x1024 : Shape := ⟨2, ![8, 1024]⟩
abbrev S3x512x1024 : Shape := ⟨3, ![3, 512, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 56
  | .vmem => 44
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .bf16⟩
  | .hbm, ⟨24, _⟩ => ⟨S8192x4x704, .bf16⟩
  | .hbm, ⟨25, _⟩ => ⟨S4x8192x704, .bf16⟩
  | .hbm, ⟨26, _⟩ => ⟨S8192x2816, .f32⟩
  | .hbm, ⟨27, _⟩ => ⟨S8192x2816, .bf16⟩
  | .hbm, ⟨28, _⟩ => ⟨S8192x4x704, .bf16⟩
  | .hbm, ⟨29, _⟩ => ⟨S4x8192x704, .bf16⟩
  | .hbm, ⟨30, _⟩ => ⟨S2816x1024, .f32⟩
  | .hbm, ⟨31, _⟩ => ⟨S2816x1024, .bf16⟩
  | .hbm, ⟨32, _⟩ => ⟨S1x4x704x1024, .bf16⟩
  | .hbm, ⟨33, _⟩ => ⟨S2816x1024, .f32⟩
  | .hbm, ⟨34, _⟩ => ⟨S2816x1024, .bf16⟩
  | .hbm, ⟨35, _⟩ => ⟨S1x4x704x1024, .bf16⟩
  | .hbm, ⟨36, _⟩ => ⟨S2816x1024, .bf16⟩
  | .hbm, ⟨37, _⟩ => ⟨S1x4x704x1024, .bf16⟩
  | .hbm, ⟨38, _⟩ => ⟨S8192x1024, .bf16⟩
  | .hbm, ⟨39, _⟩ => ⟨S4x704x1024, .f32⟩
  | .hbm, ⟨40, _⟩ => ⟨S4x704x1024, .f32⟩
  | .hbm, ⟨41, _⟩ => ⟨S4x704x1024, .f32⟩
  | .hbm, ⟨42, _⟩ => ⟨S3x8192x1024, .bf16⟩
  | .hbm, ⟨43, _⟩ => ⟨S1x1x1024, .f32⟩
  | .hbm, ⟨44, _⟩ => ⟨S8192x1024, .f32⟩
  | .hbm, ⟨45, _⟩ => ⟨S8x1024, .f32⟩
  | .hbm, ⟨46, _⟩ => ⟨S4x704x1024, .f32⟩
  | .hbm, ⟨47, _⟩ => ⟨S4x704x1024, .f32⟩
  | .hbm, ⟨48, _⟩ => ⟨S4x704x1024, .f32⟩
  | .hbm, ⟨49, _⟩ => ⟨S_, .f32⟩
  | .hbm, ⟨50, _⟩ => ⟨S1024, .f32⟩
  | .hbm, ⟨51, _⟩ => ⟨S2816x1024, .f32⟩
  | .hbm, ⟨52, _⟩ => ⟨S1024x2816, .f32⟩
  | .hbm, ⟨53, _⟩ => ⟨S2816x1024, .f32⟩
  | .hbm, ⟨54, _⟩ => ⟨S1024x2816, .f32⟩
  | .hbm, ⟨55, _⟩ => ⟨S2816x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x1x704x1024, .bf16⟩
  | .local _ .vmem, ⟨9, _⟩ => ⟨S1x1x704x1024, .bf16⟩
  | .local _ .vmem, ⟨10, _⟩ => ⟨S1x1x704x1024, .bf16⟩
  | .local _ .vmem, ⟨11, _⟩ => ⟨S1x1x704x1024, .bf16⟩
  | .local _ .vmem, ⟨12, _⟩ => ⟨S1x1x704x1024, .bf16⟩
  | .local _ .vmem, ⟨13, _⟩ => ⟨S1x1x704x1024, .bf16⟩
  | .local _ .vmem, ⟨14, _⟩ => ⟨S1x704x1024, .f32⟩
  | .local _ .vmem, ⟨15, _⟩ => ⟨S1x704x1024, .f32⟩
  | .local _ .vmem, ⟨16, _⟩ => ⟨S1x704x1024, .f32⟩
  | .local _ .vmem, ⟨17, _⟩ => ⟨S1x704x1024, .f32⟩
  | .local _ .vmem, ⟨18, _⟩ => ⟨S1x704x1024, .f32⟩
  | .local _ .vmem, ⟨19, _⟩ => ⟨S1x704x1024, .f32⟩
  | .local _ .vmem, ⟨20, _⟩ => ⟨S1x512x1024, .bf16⟩
  | .local _ .vmem, ⟨21, _⟩ => ⟨S1x512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | .local _ .vmem, ⟨25, _⟩ => ⟨S512x1024, .f32⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S1x512x704, .bf16⟩
  | .local _ .vmem, ⟨30, _⟩ => ⟨S1x1x704x1024, .bf16⟩
  | .local _ .vmem, ⟨31, _⟩ => ⟨S1x1x704x1024, .bf16⟩
  | .local _ .vmem, ⟨32, _⟩ => ⟨S1x1x704x1024, .bf16⟩
  | .local _ .vmem, ⟨33, _⟩ => ⟨S3x512x1024, .bf16⟩
  | .local _ .vmem, ⟨34, _⟩ => ⟨S3x512x1024, .bf16⟩
  | .local _ .vmem, ⟨35, _⟩ => ⟨S512x1024, .f32⟩
  | .local _ .vmem, ⟨36, _⟩ => ⟨S512x1024, .f32⟩
  | .local _ .vmem, ⟨37, _⟩ => ⟨S1x1x1024, .f32⟩
  | .local _ .vmem, ⟨38, _⟩ => ⟨S512x1024, .f32⟩
  | .local _ .vmem, ⟨39, _⟩ => ⟨S512x1024, .f32⟩
  | .local _ .vmem, ⟨40, _⟩ => ⟨S8x1024, .f32⟩
  | .local _ .vmem, ⟨41, _⟩ => ⟨S1x704x1024, .f32⟩
  | .local _ .vmem, ⟨42, _⟩ => ⟨S1x704x1024, .f32⟩
  | .local _ .vmem, ⟨43, _⟩ => ⟨S1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v30_3 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev main_v32_2 : Ref sig .tc := ⟨.hbm, 46, rfl⟩
abbrev main_v32_3 : Ref sig .tc := ⟨.hbm, 47, rfl⟩
abbrev main_v32_4 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg11_0 : Ref sig .tc := ⟨.vmem, 40, rfl⟩
abbrev cc1_stg12_0 : Ref sig .tc := ⟨.vmem, 41, rfl⟩
abbrev cc1_stg13_0 : Ref sig .tc := ⟨.vmem, 42, rfl⟩
abbrev cc1_stg14_0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem5_0 : DmaSem sig := 31
abbrev cc1_sem6_0 : DmaSem sig := 32
abbrev cc1_sem7_0 : DmaSem sig := 33
abbrev cc1_sem7_1 : DmaSem sig := 34
abbrev cc1_sem8_0 : DmaSem sig := 35
abbrev cc1_sem8_1 : DmaSem sig := 36
abbrev cc1_sem9_0 : DmaSem sig := 37
abbrev cc1_sem10_0 : DmaSem sig := 38
abbrev cc1_sem10_1 : DmaSem sig := 39
abbrev cc1_sem11_0 : DmaSem sig := 40
abbrev cc1_sem12_0 : DmaSem sig := 41
abbrev cc1_sem13_0 : DmaSem sig := 42
abbrev cc1_sem14_0 : DmaSem sig := 43

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x704x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x704x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc1_transform_5 (i : grid1.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc1_transform_6 (i : grid1.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc1_transform_16 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc1_transform_17 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1x704x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1x704x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1x704x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S3x512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S8x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x704x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x704x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x704x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]
-- ==== FfnRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S1024x2816, .f32⟩
  | .hbm, ⟨52, _⟩ => ⟨S2816x1024, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S2816x1024, .f32⟩
  | .hbm, ⟨57, _⟩ => ⟨S1024x2816, .f32⟩
  | .hbm, ⟨58, _⟩ => ⟨S8192x1024, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S2816x1024, .f32⟩
  | .hbm, ⟨64, _⟩ => ⟨S1024x2816, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩

abbrev nD : Nat := 1
abbrev τ : Topo := Topo.v7x

variable {F : FTy → Type} [FloatOps F]
-- ==== LruIn.lean ====
abbrev S8192x2560 : Shape := ⟨2, ![8192, 2560]⟩
abbrev S8192x1024 : Shape := ⟨2, ![8192, 1024]⟩
abbrev S1024 : Shape := ⟨1, ![1024]⟩
abbrev S1024x2560 : Shape := ⟨2, ![1024, 2560]⟩
abbrev S1024x4x640 : Shape := ⟨3, ![1024, 4, 640]⟩
abbrev S4x1024x640 : Shape := ⟨3, ![4, 1024, 640]⟩
abbrev S1x4x1024x640 : Shape := ⟨4, ![1, 4, 1024, 640]⟩
abbrev S1x1x1024 : Shape := ⟨3, ![1, 1, 1024]⟩
abbrev S8x1024 : Shape := ⟨2, ![8, 1024]⟩
abbrev S512x2560 : Shape := ⟨2, ![512, 2560]⟩
abbrev S512x1024 : Shape := ⟨2, ![512, 1024]⟩
abbrev S512x640 : Shape := ⟨2, ![512, 640]⟩
abbrev S1x1x1024x640 : Shape := ⟨4, ![1, 1, 1024, 640]⟩
abbrev S1024x640 : Shape := ⟨2, ![1024, 640]⟩
abbrev S512 : Shape := ⟨1, ![512]⟩
abbrev S512x1 : Shape := ⟨2, ![512, 1]⟩
abbrev S1x1024 : Shape := ⟨2, ![1, 1024]⟩
abbrev S64x8x1024 : Shape := ⟨3, ![64, 8, 1024]⟩
abbrev S_ : Shape := ⟨0, ![]⟩

abbrev nBuf : Space → Nat
  | .hbm => 14
  | .vmem => 11
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024x2560, .f32⟩
  | .hbm, ⟨5, _⟩ => ⟨S1024x2560, .bf16⟩
  | .hbm, ⟨6, _⟩ => ⟨S1024x4x640, .bf16⟩
  | .hbm, ⟨7, _⟩ => ⟨S4x1024x640, .bf16⟩
  | .hbm, ⟨8, _⟩ => ⟨S1x4x1024x640, .bf16⟩
  | .hbm, ⟨9, _⟩ => ⟨S1x1x1024, .f32⟩
  | .hbm, ⟨10, _⟩ => ⟨S8192x1024, .f32⟩
  | .hbm, ⟨11, _⟩ => ⟨S8x1024, .f32⟩
  | .hbm, ⟨12, _⟩ => ⟨S_, .f32⟩
  | .hbm, ⟨13, _⟩ => ⟨S1024, .f32⟩
  | .local _ .vmem, ⟨0, _⟩ => ⟨S512x2560, .bf16⟩
  | .local _ .vmem, ⟨1, _⟩ => ⟨S512x2560, .bf16⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S512x1024, .f32⟩
  | .local _ .vmem, ⟨6, _⟩ => ⟨S512x1024, .f32⟩
  | .local _ .vmem, ⟨7, _⟩ => ⟨S1x4x1024x640, .bf16⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_cst : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4x1024x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LruInRefIdeal.lean ====
abbrev S8192x2560 : Shape := ⟨2, ![8192, 2560]⟩
abbrev S8192x1024 : Shape := ⟨2, ![8192, 1024]⟩
abbrev S1024 : Shape := ⟨1, ![1024]⟩
abbrev S1024x2560 : Shape := ⟨2, ![1024, 2560]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024x2560, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2560, .f32⟩
  | .hbm, ⟨26, _⟩ => ⟨S8192x2560, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Pool.lean ====
abbrev S8192x1024 : Shape := ⟨2, ![8192, 1024]⟩
abbrev S1024 : Shape := ⟨1, ![1024]⟩
abbrev S4x256x256 : Shape := ⟨3, ![4, 256, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x256 : Shape := ⟨2, ![8192, 256]⟩
abbrev S2x256 : Shape := ⟨2, ![2, 256]⟩
abbrev S8190x256 : Shape := ⟨2, ![8190, 256]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩
abbrev S8192x1x256 : Shape := ⟨3, ![8192, 1, 256]⟩
abbrev S8192x4x256 : Shape := ⟨3, ![8192, 4, 256]⟩
abbrev S1x1x1024 : Shape := ⟨3, ![1, 1, 1024]⟩
abbrev S1x4x256x256 : Shape := ⟨4, ![1, 4, 256, 256]⟩
abbrev S3x8x1024 : Shape := ⟨3, ![3, 8, 1024]⟩
abbrev S512x1024 : Shape := ⟨2, ![512, 1024]⟩
abbrev S16x1024 : Shape := ⟨2, ![16, 1024]⟩
abbrev S512x256 : Shape := ⟨2, ![512, 256]⟩
abbrev S1x1x256x256 : Shape := ⟨4, ![1, 1, 256, 256]⟩
abbrev S256x256 : Shape := ⟨2, ![256, 256]⟩
abbrev S528x1024 : Shape := ⟨2, ![528, 1024]⟩
abbrev S528x768 : Shape := ⟨2, ![528, 768]⟩
abbrev S528x512 : Shape := ⟨2, ![528, 512]⟩
abbrev S528x256 : Shape := ⟨2, ![528, 256]⟩
abbrev S512 : Shape := ⟨1, ![512]⟩
abbrev S512x1 : Shape := ⟨2, ![512, 1]⟩
abbrev S64x8x1024 : Shape := ⟨3, ![64, 8, 1024]⟩
abbrev S8x1024 : Shape := ⟨2, ![8, 1024]⟩
abbrev S1x8x1024 : Shape := ⟨3, ![1, 8, 1024]⟩
abbrev S3x1024 : Shape := ⟨2, ![3, 1024]⟩

abbrev nBuf : Space → Nat
  | .hbm => 121
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S4x256x256, .f32⟩
  | .hbm, ⟨4, _⟩ => ⟨S1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S_, .f32⟩
  | .hbm, ⟨24, _⟩ => ⟨S8192x1024, .f32⟩
  | .hbm, ⟨25, _⟩ => ⟨S8192, .i32⟩
  | .hbm, ⟨26, _⟩ => ⟨S8192x256, .f32⟩
  | .hbm, ⟨27, _⟩ => ⟨S_, .f32⟩
  | .hbm, ⟨28, _⟩ => ⟨S2x256, .f32⟩
  | .hbm, ⟨29, _⟩ => ⟨S8190x256, .f32⟩
  | .hbm, ⟨30, _⟩ => ⟨S8192x256, .f32⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .f32⟩
  | .hbm, ⟨38, _⟩ => ⟨S8192x1, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S8192x256, .f32⟩
  | .hbm, ⟨43, _⟩ => ⟨S8192x256, .f32⟩
  | .hbm, ⟨44, _⟩ => ⟨S8192x256, .f32⟩
  | .hbm, ⟨45, _⟩ => ⟨S_, .f32⟩
  | .hbm, ⟨46, _⟩ => ⟨S4x256, .f32⟩
  | .hbm, ⟨47, _⟩ => ⟨S8188x256, .f32⟩
  | .hbm, ⟨48, _⟩ => ⟨S8192x256, .f32⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S8192, .f32⟩
  | .hbm, ⟨56, _⟩ => ⟨S8192x1, .f32⟩
  | .hbm, ⟨57, _⟩ => ⟨S8192x256, .f32⟩
  | .hbm, ⟨58, _⟩ => ⟨S8192x256, .f32⟩
  | .hbm, ⟨59, _⟩ => ⟨S8192x256, .f32⟩
  | .hbm, ⟨60, _⟩ => ⟨S8192x256, .f32⟩
  | .hbm, ⟨61, _⟩ => ⟨S8192x256, .f32⟩
  | .hbm, ⟨62, _⟩ => ⟨S8192x256, .f32⟩
  | .hbm, ⟨63, _⟩ => ⟨S_, .f32⟩
  | .hbm, ⟨64, _⟩ => ⟨S8x256, .f32⟩
  | .hbm, ⟨65, _⟩ => ⟨S8184x256, .f32⟩
  | .hbm, ⟨66, _⟩ => ⟨S8192x256, .f32⟩
  | .hbm, ⟨67, _⟩ => ⟨S_, .i32⟩
  | .hbm, ⟨68, _⟩ => ⟨S8192, .i32⟩
  | .hbm, ⟨69, _⟩ => ⟨S8192, .i32⟩
  | .hbm, ⟨70, _⟩ => ⟨S_, .i32⟩
  | .hbm, ⟨71, _⟩ => ⟨S8192, .i32⟩
  | .hbm, ⟨72, _⟩ => ⟨S8192, .i32⟩
  | .hbm, ⟨73, _⟩ => ⟨S8192, .f32⟩
  | .hbm, ⟨74, _⟩ => ⟨S8192x1, .f32⟩
  | .hbm, ⟨75, _⟩ => ⟨S8192x256, .f32⟩
  | .hbm, ⟨76, _⟩ => ⟨S8192x256, .f32⟩
  | .hbm, ⟨77, _⟩ => ⟨S8192x256, .f32⟩
  | .hbm, ⟨78, _⟩ => ⟨S8192x256, .f32⟩
  | .hbm, ⟨79, _⟩ => ⟨S8192x256, .f32⟩
  | .hbm, ⟨80, _⟩ => ⟨S8192x256, .f32⟩
  | .hbm, ⟨81, _⟩ => ⟨S_, .f32⟩
  | .hbm, ⟨82, _⟩ => ⟨S16x256, .f32⟩
  | .hbm, ⟨83, _⟩ => ⟨S8176x256, .f32⟩
  | .hbm, ⟨84, _⟩ => ⟨S8192x256, .f32⟩
  | .hbm, ⟨85, _⟩ => ⟨S_, .i32⟩
  | .hbm, ⟨86, _⟩ => ⟨S8192, .i32⟩
  | .hbm, ⟨87, _⟩ => ⟨S8192, .i32⟩
  | .hbm, ⟨88, _⟩ => ⟨S_, .i32⟩
  | .hbm, ⟨89, _⟩ => ⟨S8192, .i32⟩
  | .hbm, ⟨90, _⟩ => ⟨S8192, .i32⟩
  | .hbm, ⟨91, _⟩ => ⟨S8192, .f32⟩
  | .hbm, ⟨92, _⟩ => ⟨S8192x1, .f32⟩
  | .hbm, ⟨93, _⟩ => ⟨S8192x256, .f32⟩
  | .hbm, ⟨94, _⟩ => ⟨S8192x256, .f32⟩
  | .hbm, ⟨95, _⟩ => ⟨S8192x256, .f32⟩
  | .hbm, ⟨96, _⟩ => ⟨S8192x256, .f32⟩
  | .hbm, ⟨97, _⟩ => ⟨S8192x256, .f32⟩
  | .hbm, ⟨98, _⟩ => ⟨S8192x1x256, .f32⟩
  | .hbm, ⟨99, _⟩ => ⟨S8192x1x256, .f32⟩
  | .hbm, ⟨100, _⟩ => ⟨S8192x1x256, .f32⟩
  | .hbm, ⟨101, _⟩ => ⟨S8192x1x256, .f32⟩
  | .hbm, ⟨102, _⟩ => ⟨S8192x4x256, .f32⟩
  | .hbm, ⟨103, _⟩ => ⟨S8192x4x256, .bf16⟩
  | .hbm, ⟨104, _⟩ => ⟨S8192x1024, .bf16⟩
  | .hbm, ⟨105, _⟩ => ⟨S1x1x1024, .f32⟩
  | .hbm, ⟨106, _⟩ => ⟨S4x256x256, .bf16⟩
  | .hbm, ⟨107, _⟩ => ⟨S1x4x256x256, .bf16⟩
  | .hbm, ⟨108, _⟩ => ⟨S1x1x1024, .f32⟩
  | .hbm, ⟨109, _⟩ => ⟨S1x1x1024, .f32⟩
  | .hbm, ⟨110, _⟩ => ⟨S8192x1024, .f32⟩
  | .hbm, ⟨111, _⟩ => ⟨S8192x1024, .bf16⟩
  | .hbm, ⟨112, _⟩ => ⟨S3x8x1024, .f32⟩
  | .hbm, ⟨113, _⟩ => ⟨S_, .f32⟩
  | .hbm, ⟨114, _⟩ => ⟨S3x1024, .f32⟩
  | .hbm, ⟨115, _⟩ => ⟨S1x1024, .f32⟩
  | .hbm, ⟨116, _⟩ => ⟨S1024, .f32⟩
  | .hbm, ⟨117, _⟩ => ⟨S1x1024, .f32⟩
  | .hbm, ⟨118, _⟩ => ⟨S1024, .f32⟩
  | .hbm, ⟨119, _⟩ => ⟨S1x1024, .f32⟩
  | .hbm, ⟨120, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1x1024, .f32⟩
  | .local _ .vmem, ⟨7, _⟩ => ⟨S1x4x256x256, .bf16⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S3x8x1024, .f32⟩
  | .local _ .vmem, ⟨15, _⟩ => ⟨S16x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_call0_cst : Ref sig .tc := ⟨.hbm, 22, rfl⟩
abbrev main_call0_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_8 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_11 : Ref sig .tc := ⟨.hbm, 85, rfl⟩
abbrev main_v64 : Ref sig .tc := ⟨.hbm, 86, rfl⟩
abbrev main_v65 : Ref sig .tc := ⟨.hbm, 87, rfl⟩
abbrev main_c_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87_0 : Ref sig .tc := ⟨.hbm, 110, rfl⟩
abbrev main_v87_1 : Ref sig .tc := ⟨.hbm, 111, rfl⟩
abbrev main_v87_2 : Ref sig .tc := ⟨.hbm, 112, rfl⟩
abbrev main_cst_13 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PoolRefIdeal.lean ====
abbrev S8192x1024 : Shape := ⟨2, ![8192, 1024]⟩
abbrev S1024 : Shape := ⟨1, ![1024]⟩
abbrev S4x256x256 : Shape := ⟨3, ![4, 256, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x256 : Shape := ⟨2, ![8192, 256]⟩
abbrev S2x256 : Shape := ⟨2, ![2, 256]⟩
abbrev S8190x256 : Shape := ⟨2, ![8190, 256]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩
abbrev S8192x1x256 : Shape := ⟨3, ![8192, 1, 256]⟩
abbrev S8192x4x256 : Shape := ⟨3, ![8192, 4, 256]⟩
abbrev S4x256x8192 : Shape := ⟨3, ![4, 256, 8192]⟩
abbrev S4x8192x256 : Shape := ⟨3, ![4, 8192, 256]⟩

abbrev nBuf : Space → Nat
  | .hbm => 243
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S4x256x256, .f32⟩
  | 4 => ⟨S1024, .f32⟩
  | 5 => ⟨S1024, .f32⟩
  | 6 => ⟨S_, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S_, .f32⟩
  | 29 => ⟨S_, .f32⟩
  | 30 => ⟨S8192x1024, .f32⟩
  | 31 => ⟨S8192, .i32⟩
  | 32 => ⟨S8192x256, .f32⟩
  | 33 => ⟨S_, .f32⟩
  | 34 => ⟨S2x256, .f32⟩
  | 35 => ⟨S8190x256, .f32⟩
  | 36 => ⟨S8192x256, .f32⟩
  | 37 => ⟨S_, .f32⟩
  | 38 => ⟨S2x256, .f32⟩
  | 39 => ⟨S_, .i32⟩
  | 40 => ⟨S8192, .i32⟩
  | 41 => ⟨S8192, .i32⟩
  | 42 => ⟨S_, .i32⟩
  | 43 => ⟨S8192, .i32⟩
  | 44 => ⟨S8192, .i32⟩
  | 45 => ⟨S8192, .f32⟩
  | 46 => ⟨S8192x1, .f32⟩
  | 47 => ⟨S8192x256, .f32⟩
  | 48 => ⟨S8192x256, .f32⟩
  | 49 => ⟨S8192x256, .f32⟩
  | 50 => ⟨S8192x256, .f32⟩
  | 51 => ⟨S8192x256, .f32⟩
  | 52 => ⟨S8192x256, .f32⟩
  | 53 => ⟨S_, .f32⟩
  | 54 => ⟨S4x256, .f32⟩
  | 55 => ⟨S8188x256, .f32⟩
  | 56 => ⟨S8192x256, .f32⟩
  | 57 => ⟨S_, .f32⟩
  | 58 => ⟨S4x256, .f32⟩
  | 59 => ⟨S_, .i32⟩
  | 60 => ⟨S8192, .i32⟩
  | 61 => ⟨S8192, .i32⟩
  | 62 => ⟨S_, .i32⟩
  | 63 => ⟨S8192, .i32⟩
  | 64 => ⟨S8192, .i32⟩
  | 65 => ⟨S8192, .f32⟩
  | 66 => ⟨S8192x1, .f32⟩
  | 67 => ⟨S8192x256, .f32⟩
  | 68 => ⟨S8192x256, .f32⟩
  | 69 => ⟨S8192x256, .f32⟩
  | 70 => ⟨S8192x256, .f32⟩
  | 71 => ⟨S8192x256, .f32⟩
  | 72 => ⟨S8192x256, .f32⟩
  | 73 => ⟨S_, .f32⟩
  | 74 => ⟨S8x256, .f32⟩
  | 75 => ⟨S8184x256, .f32⟩
  | 76 => ⟨S8192x256, .f32⟩
  | 77 => ⟨S_, .f32⟩
  | 78 => ⟨S8x256, .f32⟩
  | 79 => ⟨S_, .i32⟩
  | 80 => ⟨S8192, .i32⟩
  | 81 => ⟨S8192, .i32⟩
  | 82 => ⟨S_, .i32⟩
  | 83 => ⟨S8192, .i32⟩
  | 84 => ⟨S8192, .i32⟩
  | 85 => ⟨S8192, .f32⟩
  | 86 => ⟨S8192x1, .f32⟩
  | 87 => ⟨S8192x256, .f32⟩
  | 88 => ⟨S8192x256, .f32⟩
  | 89 => ⟨S8192x256, .f32⟩
  | 90 => ⟨S8192x256, .f32⟩
  | 91 => ⟨S8192x256, .f32⟩
  | 92 => ⟨S8192x256, .f32⟩
  | 93 => ⟨S_, .f32⟩
  | 94 => ⟨S16x256, .f32⟩
  | 95 => ⟨S8176x256, .f32⟩
  | 96 => ⟨S8192x256, .f32⟩
  | 97 => ⟨S_, .f32⟩
  | 98 => ⟨S16x256, .f32⟩
  | 99 => ⟨S_, .i32⟩
  | 100 => ⟨S8192, .i32⟩
  | 101 => ⟨S8192, .i32⟩
  | 102 => ⟨S_, .i32⟩
  | 103 => ⟨S8192, .i32⟩
  | 104 => ⟨S8192, .i32⟩
  | 105 => ⟨S8192, .f32⟩
  | 106 => ⟨S8192x1, .f32⟩
  | 107 => ⟨S8192x256, .f32⟩
  | 108 => ⟨S8192x256, .f32⟩
  | 109 => ⟨S8192x256, .f32⟩
  | 110 => ⟨S8192x256, .f32⟩
  | 111 => ⟨S8192x256, .f32⟩
  | 112 => ⟨S8192x1x256, .f32⟩
  | 113 => ⟨S8192x1x256, .f32⟩
  | 114 => ⟨S8192x1x256, .f32⟩
  | 115 => ⟨S8192x1x256, .f32⟩
  | 116 => ⟨S8192x4x256, .f32⟩
  | 117 => ⟨S4x256x8192, .f32⟩
  | 118 => ⟨S8192x4x256, .f32⟩
  | 119 => ⟨S8192x1024, .f32⟩
  | 120 => ⟨S8192x1024, .f32⟩
  | 121 => ⟨S1x1024, .f32⟩
  | 122 => ⟨S8192x1024, .f32⟩
  | 123 => ⟨S8192x1024, .f32⟩
  | 124 => ⟨S1x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S_, .f32⟩
  | 3 => ⟨S1024, .f32⟩
  | 4 => ⟨S1x1024, .f32⟩
  | 5 => ⟨S8192x1024, .f32⟩
  | 6 => ⟨S8192x1024, .f32⟩
  | 7 => ⟨S_, .f32⟩
  | 8 => ⟨S1024, .f32⟩
  | 9 => ⟨S_, .f32⟩
  | 10 => ⟨S1024, .f32⟩
  | 11 => ⟨S1x1024, .f32⟩
  | 12 => ⟨S_, .f32⟩
  | 13 => ⟨S1024, .f32⟩
  | 14 => ⟨S8192x4x256, .f32⟩
  | 15 => ⟨S4x256x8192, .f32⟩
  | 16 => ⟨S4x8192x256, .f32⟩
  | 17 => ⟨S8192x4x256, .f32⟩
  | 18 => ⟨S8192x1x256, .f32⟩
  | 19 => ⟨S8192x256, .f32⟩
  | 20 => ⟨S8192x1x256, .f32⟩
  | 21 => ⟨S8192x256, .f32⟩
  | 22 => ⟨S8192x1x256, .f32⟩
  | 23 => ⟨S8192x256, .f32⟩
  | 24 => ⟨S8192x1x256, .f32⟩
  | 25 => ⟨S8192x256, .f32⟩
  | 26 => ⟨S8192x256, .f32⟩
  | 27 => ⟨S_, .f32⟩
  | 28 => ⟨S8192x1024, .f32⟩
  | 29 => ⟨S8192x256, .f32⟩
  | 30 => ⟨S8192x256, .f32⟩
  | 31 => ⟨S8192x256, .f32⟩
  | 32 => ⟨S16x256, .f32⟩
  | 33 => ⟨S8176x256, .f32⟩
  | 34 => ⟨S_, .f32⟩
  | 35 => ⟨S8192x256, .f32⟩
  | 36 => ⟨S8192x256, .f32⟩
  | 37 => ⟨S_, .f32⟩
  | 38 => ⟨S8192x1024, .f32⟩
  | 39 => ⟨S8192x256, .f32⟩
  | 40 => ⟨S_, .f32⟩
  | 41 => ⟨S8192x1024, .f32⟩
  | 42 => ⟨S8192x1024, .f32⟩
  | 43 => ⟨S8192x256, .f32⟩
  | 44 => ⟨S8192x256, .f32⟩
  | 45 => ⟨S8192x256, .f32⟩
  | 46 => ⟨S8x256, .f32⟩
  | 47 => ⟨S8184x256, .f32⟩
  | 48 => ⟨S_, .f32⟩
  | 49 => ⟨S8192x256, .f32⟩
  | 50 => ⟨S8192x256, .f32⟩
  | 51 => ⟨S_, .f32⟩
  | 52 => ⟨S8192x1024, .f32⟩
  | 53 => ⟨S8192x1024, .f32⟩
  | 54 => ⟨S8192x256, .f32⟩
  | 55 => ⟨S_, .f32⟩
  | 56 => ⟨S8192x1024, .f32⟩
  | 57 => ⟨S8192x1024, .f32⟩
  | 58 => ⟨S8192x256, .f32⟩
  | 59 => ⟨S8192x256, .f32⟩
  | 60 => ⟨S8192x256, .f32⟩
  | 61 => ⟨S4x256, .f32⟩
  | 62 => ⟨S8188x256, .f32⟩
  | 63 => ⟨S_, .f32⟩
  | 64 => ⟨S8192x256, .f32⟩
  | 65 => ⟨S8192x256, .f32⟩
  | 66 => ⟨S_, .f32⟩
  | 67 => ⟨S8192x1024, .f32⟩
  | 68 => ⟨S8192x1024, .f32⟩
  | 69 => ⟨S8192x256, .f32⟩
  | 70 => ⟨S_, .f32⟩
  | 71 => ⟨S8192x1024, .f32⟩
  | 72 => ⟨S8192x1024, .f32⟩
  | 73 => ⟨S8192x256, .f32⟩
  | 74 => ⟨S8192x256, .f32⟩
  | 75 => ⟨S8192x256, .f32⟩
  | 76 => ⟨S2x256, .f32⟩
  | 77 => ⟨S8190x256, .f32⟩
  | 78 => ⟨S_, .f32⟩
  | 79 => ⟨S8192x256, .f32⟩
  | 80 => ⟨S8192x256, .f32⟩
  | 81 => ⟨S_, .f32⟩
  | 82 => ⟨S8192x1024, .f32⟩
  | 83 => ⟨S8192x1024, .f32⟩
  | 84 => ⟨S_, .f32⟩
  | 85 => ⟨S_, .f32⟩
  | 86 => ⟨S8192x1024, .f32⟩
  | 87 => ⟨S8192x1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S_, .f32⟩
  | 95 => ⟨S1024, .f32⟩
  | 96 => ⟨S8192x1024, .f32⟩
  | 97 => ⟨S_, .f32⟩
  | 98 => ⟨S8192, .f32⟩
  | 99 => ⟨S8192x1, .f32⟩
  | 100 => ⟨S8192x1024, .f32⟩
  | 101 => ⟨S8192x1024, .f32⟩
  | 102 => ⟨S8192x1024, .f32⟩
  | 103 => ⟨S8192x1, .f32⟩
  | 104 => ⟨S_, .f32⟩
  | 105 => ⟨S8192x1, .f32⟩
  | 106 => ⟨S8192x1, .f32⟩
  | 107 => ⟨S_, .f32⟩
  | 108 => ⟨S8192, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_call0_cst : Ref sig .tc := ⟨.hbm, 28, rfl⟩
abbrev main_call0_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_c_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_c_13 : Ref sig .tc := ⟨.hbm, 79, rfl⟩
abbrev main_v56 : Ref sig .tc := ⟨.hbm, 80, rfl⟩
abbrev main_v57 : Ref sig .tc := ⟨.hbm, 81, rfl⟩
abbrev main_c_14 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_16 : Ref sig .tc := ⟨.hbm, 97, rfl⟩
abbrev main_v71 : Ref sig .tc := ⟨.hbm, 98, rfl⟩
abbrev main_c_17 : Ref sig .tc := ⟨.hbm, 99, rfl⟩
abbrev main_v72 : Ref sig .tc := ⟨.hbm, 100, rfl⟩
abbrev main_v73 : Ref sig .tc := ⟨.hbm, 101, rfl⟩
abbrev main_c_18 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_19 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_20 : Ref sig .tc := ⟨.hbm, 135, rfl⟩
abbrev main_v105 : Ref sig .tc := ⟨.hbm, 136, rfl⟩
abbrev main_cst_21 : Ref sig .tc := ⟨.hbm, 137, rfl⟩
abbrev main_v106 : Ref sig .tc := ⟨.hbm, 138, rfl⟩
abbrev main_v107 : Ref sig .tc := ⟨.hbm, 139, rfl⟩
abbrev main_cst_22 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_23 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_cst_24 : Ref sig .tc := ⟨.hbm, 162, rfl⟩
abbrev main_v128 : Ref sig .tc := ⟨.hbm, 163, rfl⟩
abbrev main_v129 : Ref sig .tc := ⟨.hbm, 164, rfl⟩
abbrev main_cst_25 : Ref sig .tc := ⟨.hbm, 165, rfl⟩
abbrev main_v130 : Ref sig .tc := ⟨.hbm, 166, rfl⟩
abbrev main_v131 : Ref sig .tc := ⟨.hbm, 167, rfl⟩
abbrev main_cst_26 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_cst_27 : Ref sig .tc := ⟨.hbm, 176, rfl⟩
abbrev main_v139 : Ref sig .tc := ⟨.hbm, 177, rfl⟩
abbrev main_v140 : Ref sig .tc := ⟨.hbm, 178, rfl⟩
abbrev main_cst_28 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_cst_29 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_cst_30 : Ref sig .tc := ⟨.hbm, 191, rfl⟩
abbrev main_v151 : Ref sig .tc := ⟨.hbm, 192, rfl⟩
abbrev main_v152 : Ref sig .tc := ⟨.hbm, 193, rfl⟩
abbrev main_cst_31 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_cst_32 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_cst_33 : Ref sig .tc := ⟨.hbm, 206, rfl⟩
abbrev main_v163 : Ref sig .tc := ⟨.hbm, 207, rfl⟩
abbrev main_v164 : Ref sig .tc := ⟨.hbm, 208, rfl⟩
abbrev main_cst_34 : Ref sig .tc := ⟨.hbm, 209, rfl⟩
abbrev main_v165 : Ref sig .tc := ⟨.hbm, 210, rfl⟩
abbrev main_v166 : Ref sig .tc := ⟨.hbm, 211, rfl⟩
abbrev main_call1_call0_cst : Ref sig .tc := ⟨.hbm, 212, rfl⟩
abbrev main_call1_call0_v0 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_cst_35 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_cst_36 : Ref sig .tc := ⟨.hbm, 222, rfl⟩
abbrev main_v174 : Ref sig .tc := ⟨.hbm, 223, rfl⟩
abbrev main_v175 : Ref sig .tc := ⟨.hbm, 224, rfl⟩
abbrev main_cst_37 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_cst_38 : Ref sig .tc := ⟨.hbm, 232, rfl⟩
abbrev main_v182 : Ref sig .tc := ⟨.hbm, 233, rfl⟩
abbrev main_v183 : Ref sig .tc := ⟨.hbm, 234, rfl⟩
abbrev main_cst_39 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩

abbrev nD : Nat := 1
abbrev τ : Topo := Topo.v7x

variable {F : FTy → Type} [FloatOps F]
-- ==== PleFwd.lean ====
abbrev S8192x1024 : Shape := ⟨2, ![8192, 1024]⟩
abbrev S1024 : Shape := ⟨1, ![1024]⟩
abbrev S8192x256 : Shape := ⟨2, ![8192, 256]⟩
abbrev S1024x1024 : Shape := ⟨2, ![1024, 1024]⟩
abbrev S256x1024 : Shape := ⟨2, ![256, 1024]⟩
abbrev S1x1x1024 : Shape := ⟨3, ![1, 1, 1024]⟩
abbrev S1x1x8192x256 : Shape := ⟨4, ![1, 1, 8192, 256]⟩
abbrev S1x1024x1024 : Shape := ⟨3, ![1, 1024, 1024]⟩
abbrev S256x4x256 : Shape := ⟨3, ![256, 4, 256]⟩
abbrev S4x256x256 : Shape := ⟨3, ![4, 256, 256]⟩
abbrev S1x4x256x256 : Shape := ⟨4, ![1, 4, 256, 256]⟩
abbrev S1x1x1024x256 : Shape := ⟨4, ![1, 1, 1024, 256]⟩
abbrev S1x1024 : Shape := ⟨2, ![1, 1024]⟩
abbrev S1024x256 : Shape := ⟨2, ![1024, 256]⟩
abbrev S1024x1 : Shape := ⟨2, ![1024, 1]⟩
abbrev S1x1x256x256 : Shape := ⟨4, ![1, 1, 256, 256]⟩
abbrev S256x256 : Shape := ⟨2, ![256, 256]⟩

abbrev nBuf : Space → Nat
  | .hbm => 14
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x256, .f32⟩
  | .hbm, ⟨3, _⟩ => ⟨S1024x1024, .f32⟩
  | .hbm, ⟨4, _⟩ => ⟨S256x1024, .f32⟩
  | .hbm, ⟨5, _⟩ => ⟨S1x1x1024, .f32⟩
  | .hbm, ⟨6, _⟩ => ⟨S1x1x8192x256, .f32⟩
  | .hbm, ⟨7, _⟩ => ⟨S1024x1024, .bf16⟩
  | .hbm, ⟨8, _⟩ => ⟨S1x1024x1024, .bf16⟩
  | .hbm, ⟨9, _⟩ => ⟨S256x1024, .bf16⟩
  | .hbm, ⟨10, _⟩ => ⟨S256x4x256, .bf16⟩
  | .hbm, ⟨11, _⟩ => ⟨S4x256x256, .bf16⟩
  | .hbm, ⟨12, _⟩ => ⟨S1x4x256x256, .bf16⟩
  | .hbm, ⟨13, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1024x1024, .bf16⟩
  | .local _ .vmem, ⟨6, _⟩ => ⟨S1x4x256x256, .bf16⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleFwdRefIdeal.lean ====
abbrev S8192x1024 : Shape := ⟨2, ![8192, 1024]⟩
abbrev S1024 : Shape := ⟨1, ![1024]⟩
abbrev S8192x256 : Shape := ⟨2, ![8192, 256]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x256, .f32⟩
  | .hbm, ⟨3, _⟩ => ⟨S1024x1024, .f32⟩
  | .hbm, ⟨4, _⟩ => ⟨S256x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== PoolFwd.lean ====
abbrev S8192x1024 : Shape := ⟨2, ![8192, 1024]⟩
abbrev S1024 : Shape := ⟨1, ![1024]⟩
abbrev S4x256x256 : Shape := ⟨3, ![4, 256, 256]⟩
abbrev S1x1x1024 : Shape := ⟨3, ![1, 1, 1024]⟩
abbrev S1x4x256x256 : Shape := ⟨4, ![1, 4, 256, 256]⟩
abbrev S512x1024 : Shape := ⟨2, ![512, 1024]⟩
abbrev S16x1024 : Shape := ⟨2, ![16, 1024]⟩
abbrev S1x1024 : Shape := ⟨2, ![1, 1024]⟩
abbrev S512 : Shape := ⟨1, ![512]⟩
abbrev S512x1 : Shape := ⟨2, ![512, 1]⟩
abbrev S528x1024 : Shape := ⟨2, ![528, 1024]⟩
abbrev S528x768 : Shape := ⟨2, ![528, 768]⟩
abbrev S528x512 : Shape := ⟨2, ![528, 512]⟩
abbrev S528x256 : Shape := ⟨2, ![528, 256]⟩
abbrev S512x256 : Shape := ⟨2, ![512, 256]⟩
abbrev S1x1x256x256 : Shape := ⟨4, ![1, 1, 256, 256]⟩
abbrev S256x256 : Shape := ⟨2, ![256, 256]⟩

abbrev nBuf : Space → Nat
  | .hbm => 12
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S4x256x256, .f32⟩
  | .hbm, ⟨3, _⟩ => ⟨S1024, .f32⟩
  | .hbm, ⟨4, _⟩ => ⟨S1024, .f32⟩
  | .hbm, ⟨5, _⟩ => ⟨S1x1x1024, .f32⟩
  | .hbm, ⟨6, _⟩ => ⟨S4x256x256, .bf16⟩
  | .hbm, ⟨7, _⟩ => ⟨S1x4x256x256, .bf16⟩
  | .hbm, ⟨8, _⟩ => ⟨S1x1x1024, .f32⟩
  | .hbm, ⟨9, _⟩ => ⟨S1x1x1024, .f32⟩
  | .hbm, ⟨10, _⟩ => ⟨S8192x1024, .f32⟩
  | .hbm, ⟨11, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x4x256x256, .bf16⟩
  | .local _ .vmem, ⟨4, _⟩ => ⟨S1x1x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S16x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolFwdRefIdeal.lean ====
abbrev S8192x1024 : Shape := ⟨2, ![8192, 1024]⟩
abbrev S1024 : Shape := ⟨1, ![1024]⟩
abbrev S4x256x256 : Shape := ⟨3, ![4, 256, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x256 : Shape := ⟨2, ![8192, 256]⟩
abbrev S2x256 : Shape := ⟨2, ![2, 256]⟩
abbrev S8190x256 : Shape := ⟨2, ![8190, 256]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩
abbrev S8192x1x256 : Shape := ⟨3, ![8192, 1, 256]⟩
abbrev S8192x4x256 : Shape := ⟨3, ![8192, 4, 256]⟩
abbrev S4x256x8192 : Shape := ⟨3, ![4, 256, 8192]⟩

abbrev nBuf : Space → Nat
  | .hbm => 114
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S4x256x256, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S_, .f32⟩
  | .hbm, ⟨23, _⟩ => ⟨S8192x1024, .f32⟩
  | .hbm, ⟨24, _⟩ => ⟨S8192, .i32⟩
  | .hbm, ⟨25, _⟩ => ⟨S8192x256, .f32⟩
  | .hbm, ⟨26, _⟩ => ⟨S_, .f32⟩
  | .hbm, ⟨27, _⟩ => ⟨S2x256, .f32⟩
  | .hbm, ⟨28, _⟩ => ⟨S8190x256, .f32⟩
  | .hbm, ⟨29, _⟩ => ⟨S8192x256, .f32⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .f32⟩
  | .hbm, ⟨37, _⟩ => ⟨S8192x1, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S8192x256, .f32⟩
  | .hbm, ⟨43, _⟩ => ⟨S8192x256, .f32⟩
  | .hbm, ⟨44, _⟩ => ⟨S_, .f32⟩
  | .hbm, ⟨45, _⟩ => ⟨S4x256, .f32⟩
  | .hbm, ⟨46, _⟩ => ⟨S8188x256, .f32⟩
  | .hbm, ⟨47, _⟩ => ⟨S8192x256, .f32⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .f32⟩
  | .hbm, ⟨55, _⟩ => ⟨S8192x1, .f32⟩
  | .hbm, ⟨56, _⟩ => ⟨S8192x256, .f32⟩
  | .hbm, ⟨57, _⟩ => ⟨S8192x256, .f32⟩
  | .hbm, ⟨58, _⟩ => ⟨S8192x256, .f32⟩
  | .hbm, ⟨59, _⟩ => ⟨S8192x256, .f32⟩
  | .hbm, ⟨60, _⟩ => ⟨S8192x256, .f32⟩
  | .hbm, ⟨61, _⟩ => ⟨S8192x256, .f32⟩
  | .hbm, ⟨62, _⟩ => ⟨S_, .f32⟩
  | .hbm, ⟨63, _⟩ => ⟨S8x256, .f32⟩
  | .hbm, ⟨64, _⟩ => ⟨S8184x256, .f32⟩
  | .hbm, ⟨65, _⟩ => ⟨S8192x256, .f32⟩
  | .hbm, ⟨66, _⟩ => ⟨S_, .i32⟩
  | .hbm, ⟨67, _⟩ => ⟨S8192, .i32⟩
  | .hbm, ⟨68, _⟩ => ⟨S8192, .i32⟩
  | .hbm, ⟨69, _⟩ => ⟨S_, .i32⟩
  | .hbm, ⟨70, _⟩ => ⟨S8192, .i32⟩
  | .hbm, ⟨71, _⟩ => ⟨S8192, .i32⟩
  | .hbm, ⟨72, _⟩ => ⟨S8192, .f32⟩
  | .hbm, ⟨73, _⟩ => ⟨S8192x1, .f32⟩
  | .hbm, ⟨74, _⟩ => ⟨S8192x256, .f32⟩
  | .hbm, ⟨75, _⟩ => ⟨S8192x256, .f32⟩
  | .hbm, ⟨76, _⟩ => ⟨S8192x256, .f32⟩
  | .hbm, ⟨77, _⟩ => ⟨S8192x256, .f32⟩
  | .hbm, ⟨78, _⟩ => ⟨S8192x256, .f32⟩
  | .hbm, ⟨79, _⟩ => ⟨S8192x256, .f32⟩
  | .hbm, ⟨80, _⟩ => ⟨S_, .f32⟩
  | .hbm, ⟨81, _⟩ => ⟨S16x256, .f32⟩
  | .hbm, ⟨82, _⟩ => ⟨S8176x256, .f32⟩
  | .hbm, ⟨83, _⟩ => ⟨S8192x256, .f32⟩
  | .hbm, ⟨84, _⟩ => ⟨S_, .i32⟩
  | .hbm, ⟨85, _⟩ => ⟨S8192, .i32⟩
  | .hbm, ⟨86, _⟩ => ⟨S8192, .i32⟩
  | .hbm, ⟨87, _⟩ => ⟨S_, .i32⟩
  | .hbm, ⟨88, _⟩ => ⟨S8192, .i32⟩
  | .hbm, ⟨89, _⟩ => ⟨S8192, .i32⟩
  | .hbm, ⟨90, _⟩ => ⟨S8192, .f32⟩
  | .hbm, ⟨91, _⟩ => ⟨S8192x1, .f32⟩
  | .hbm, ⟨92, _⟩ => ⟨S8192x256, .f32⟩
  | .hbm, ⟨93, _⟩ => ⟨S8192x256, .f32⟩
  | .hbm, ⟨94, _⟩ => ⟨S8192x256, .f32⟩
  | .hbm, ⟨95, _⟩ => ⟨S8192x256, .f32⟩
  | .hbm, ⟨96, _⟩ => ⟨S8192x256, .f32⟩
  | .hbm, ⟨97, _⟩ => ⟨S8192x1x256, .f32⟩
  | .hbm, ⟨98, _⟩ => ⟨S8192x1x256, .f32⟩
  | .hbm, ⟨99, _⟩ => ⟨S8192x1x256, .f32⟩
  | .hbm, ⟨100, _⟩ => ⟨S8192x1x256, .f32⟩
  | .hbm, ⟨101, _⟩ => ⟨S8192x4x256, .f32⟩
  | .hbm, ⟨102, _⟩ => ⟨S4x256x8192, .f32⟩
  | .hbm, ⟨103, _⟩ => ⟨S8192x4x256, .f32⟩
  | .hbm, ⟨104, _⟩ => ⟨S8192x1024, .f32⟩
  | .hbm, ⟨105, _⟩ => ⟨S1x1024, .f32⟩
  | .hbm, ⟨106, _⟩ => ⟨S8192x1024, .f32⟩
  | .hbm, ⟨107, _⟩ => ⟨S8192x1024, .f32⟩
  | .hbm, ⟨108, _⟩ => ⟨S1x1024, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_call0_cst : Ref sig .tc := ⟨.hbm, 21, rfl⟩
abbrev main_call0_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_8 : Ref sig .tc := ⟨.hbm, 66, rfl⟩
abbrev main_v49 : Ref sig .tc := ⟨.hbm, 67, rfl⟩
abbrev main_v50 : Ref sig .tc := ⟨.hbm, 68, rfl⟩
abbrev main_c_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_11 : Ref sig .tc := ⟨.hbm, 84, rfl⟩
abbrev main_v64 : Ref sig .tc := ⟨.hbm, 85, rfl⟩
abbrev main_v65 : Ref sig .tc := ⟨.hbm, 86, rfl⟩
abbrev main_c_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩

abbrev nD : Nat := 1
abbrev τ : Topo := Topo.v7x

variable {F : FTy → Type} [FloatOps F]
-- ==== Proof.Lift.lean ====
module

public import Idealize.ShloMosaic.PureOps.Ideal
public import Idealize.ShloMosaic.Lib.IdealHost
public import Idealize.ShloMosaic.Lib.Pointwise

@[expose] public section

/-! Finite extended reals as real numbers: the sums, quotients and roots of casts of reals, and the constants
    that the programs write as bit patterns. -/

noncomputable section
namespace Cert.Lift
open Idealize.ShloMosaic

/-- The cast of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero. -/
theorem div_coe_coe {y : ℝ} (h : y ≠ 0) (x : ℝ) : Ideal.div (x : EReal) (y : EReal) = ((x / y : ℝ) : EReal) := by
  rw [Ideal.div_coe h, ← EReal.coe_mul, mul_one_div]

/-- The reciprocal root of a positive real. -/
theorem rsqrt_coe_pos {v : ℝ} (h : 0 < v) : Ideal.rsqrt (v : EReal) = (((Real.sqrt v)⁻¹ : ℝ) : EReal) := by
  rw [Ideal.rsqrt_coe, if_neg h.not_gt, if_neg h.ne']

/-- An extended real of magnitude below infinity is a real. -/
theorem exists_real {x : EReal} (h : Ideal.cmp .olt (max x (-x)) ⊤ = 1#1) : ∃ r : ℝ, x = r := by
  induction x with
  | bot => simp [Ideal.cmp] at h
  | top => simp [Ideal.cmp] at h
  | coe r => exact ⟨r, rfl⟩

/-- The three literals of the programs, and the bound of the precondition. -/
theorem inf : Ideal.ofBits .f32 2139095040#32 = ⊤ := by
  simp [Ideal.ofBits, Ideal.ieee]
theorem c1024 : Ideal.ofBits .f32 1149239296#32 = ((1024 : ℝ) : EReal) := by
  simp [Ideal.ofBits, Ideal.ieee, -EReal.coe_mul]; norm_num
theorem ceps : Ideal.ofBits .f32 897988541#32 = ((8796093 / 8796093022208 : ℝ) : EReal) := by
  simp [Ideal.ofBits, Ideal.ieee, -EReal.coe_mul]; norm_num
theorem cinv1024 : Ideal.ofBits .f32 981467136#32 = ((1 / 1024 : ℝ) : EReal) := by
  simp [Ideal.ofBits, Ideal.ieee, -EReal.coe_mul]; norm_num
theorem cinv2048 : Ideal.ofBits .f32 973078528#32 = ((1 / 2048 : ℝ) : EReal) := by
  simp [Ideal.ofBits, Ideal.ieee, -EReal.coe_mul]; norm_num
theorem ctwo : Ideal.ofBits .f32 1073741824#32 = ((2 : ℝ) : EReal) := by
  simp [Ideal.ofBits, Ideal.ieee, -EReal.coe_mul]; norm_num
theorem chalf : Ideal.ofBits .f32 1056964608#32 = ((1 / 2 : ℝ) : EReal) := by
  simp [Ideal.ofBits, Ideal.ieee, -EReal.coe_mul]; norm_num
theorem cneghalf : Ideal.ofBits .f32 3204448256#32 = ((-(1 / 2) : ℝ) : EReal) := by
  simp [Ideal.ofBits, Ideal.ieee, -EReal.coe_mul]; norm_num

end Cert.Lift
-- ==== Proof.Rms.lean ====
module

public import proofs.«01_k».proof.Proof.Lift

@[expose] public section

/-! The normalisation of one row over the reals: its mean square, the reciprocal root of it, and the gradient of the
    normalised row, in the form of the closed formula and in the form of the chain rule. -/

noncomputable section
namespace Cert.Lift
open Idealize.ShloMosaic

/-- The mean square of a row of 1024 entries, plus the norm's epsilon. -/
def ms (x : Fin 1024 → ℝ) : ℝ := (∑ j, x j * x j) / 1024 + 8796093 / 8796093022208
/-- The reciprocal root of `ms`. -/
def rho (x : Fin 1024 → ℝ) : ℝ := (Real.sqrt (ms x))⁻¹

theorem ms_pos (x : Fin 1024 → ℝ) : 0 < ms x := by
  have : 0 ≤ ∑ j, x j * x j := Finset.sum_nonneg fun j _ => mul_self_nonneg (x j)
  unfold ms; positivity
theorem rho_div_ms (x : Fin 1024 → ℝ) : rho x / ms x = rho x * (rho x * rho x) := by
  have h : rho x * rho x = (ms x)⁻¹ := by
    rw [rho, ← mul_inv, Real.mul_self_sqrt (ms_pos x).le]
  rw [h, div_eq_mul_inv]

/-- The normalised and scaled row. -/
def nrm (x g : Fin 1024 → ℝ) (j : Fin 1024) : ℝ := x j * rho x * g j

/-- The gradient of the normalised row at a cotangent `d` (the scale already in it). -/
def rmsBwd (x d : Fin 1024 → ℝ) (j : Fin 1024) : ℝ :=
  rho x * (d j - x j * rho x * ((∑ k, d k * (x k * rho x)) / 1024))

end Cert.Lift
-- ==== Proof.FinalSpec.lean ====
module

public import proofs.«01_k».proof.Proof.Rms

@[expose] public section

/-! The loss of the last norm and its gradients over the reals: what both programs compute. -/

noncomputable section
namespace Cert.Lift

/-- A row's error: the normalised row times the scale, minus the target. -/
def errRow (x g t : Fin 1024 → ℝ) (j : Fin 1024) : ℝ := x j * rho x * g j - t j
/-- The cotangent of the normalised row. -/
def cot (x g t : Fin 1024 → ℝ) (j : Fin 1024) : ℝ := errRow x g t j * (1 / 1024) * g j

section
variable {n : ℕ} (X : Fin n → Fin 1024 → ℝ) (g : Fin 1024 → ℝ) (T : Fin n → Fin 1024 → ℝ)
/-- Half the sum over the rows of the mean square error. -/
def lossOf : ℝ := 1 / 2 * ∑ i, (∑ j, errRow (X i) g (T i) j * errRow (X i) g (T i) j) / 1024
/-- Its gradient at the rows. -/
def dH (i : Fin n) (j : Fin 1024) : ℝ := rmsBwd (X i) (cot (X i) g (T i)) j
/-- Its gradient at the scale. -/
def dG (j : Fin 1024) : ℝ := ∑ i, errRow (X i) g (T i) j * (1 / 1024) * (X i j * rho (X i))
end

/-- The chain rule's form of the gradient at a row is the closed formula. -/
theorem dH_chain (x g t : Fin 1024 → ℝ) (j : Fin 1024) :
    1 / 2 * 1 / 1024 * (2 * (x j * rho x * g j - t j)) * g j * rho x
      + x j * (∑ _k : Fin 1, (∑ k, x k * (1 / 2 * 1 / 1024 * (2 * (x k * rho x * g k - t k)) * g k)) * (-(1 / 2) * (rho x / ms x)) / 1024)
      + (∑ _k : Fin 1, (∑ k, x k * (1 / 2 * 1 / 1024 * (2 * (x k * rho x * g k - t k)) * g k)) * (-(1 / 2) * (rho x / ms x)) / 1024) * x j
    = rmsBwd x (cot x g t) j := by
  have h1 : (∑ k, x k * (1 / 2 * 1 / 1024 * (2 * (x k * rho x * g k - t k)) * g k)) = ∑ k, x k * cot x g t k :=
    Finset.sum_congr rfl fun k _ => by simp only [cot, errRow]; ring
  have h2 : ∑ k, cot x g t k * (x k * rho x) = rho x * ∑ k, x k * cot x g t k := by
    rw [Finset.mul_sum]; exact Finset.sum_congr rfl fun k _ => by ring
  rw [rmsBwd, h1, h2, Fin.sum_univ_one, rho_div_ms]
  simp only [cot, errRow]
  ring

end Cert.Lift
-- ==== Proof.Tensor.lean ====
module

public import Idealize.ShloMosaic.Lib.Pointwise
public import Idealize.ShloMosaic.Lib.ValueLayout
public import Idealize.ShloMosaic.Lib.ValueLayoutCasts
public import proofs.«01_k».proof.Proof.Lift

@[expose] public section

/-! Arrays of finite extended reals as real tensors. `Cv f` is the array whose entries are the casts of the reals
    `f i`; `u1 f`, `u2 f`, … build `f` from a function of its coordinates. An operation of the host on such arrays is
    again such an array: the lemmas here move the cast outwards, one operation at a time. -/

noncomputable section
namespace Cert.Lift
open Idealize.ShloMosaic

section
variable {s : Shape} {φ : FTy}

/-- The array of the casts of `f`'s values. -/
def Cv (f : s.Idx → ℝ) : FVec Ideal s φ := fun i => ((f i : ℝ) : EReal)

variable (f g : s.Idx → ℝ)
theorem Cv_apply (i : s.Idx) : (Cv f : FVec Ideal s φ) i = ((f i : ℝ) : EReal) := rfl
theorem mulf_Cv : mulf (Cv f : FVec Ideal s φ) (Cv g) = Cv (f * g) := funext fun i => (EReal.coe_mul (f i) (g i)).symm
theorem addf_Cv : addf (Cv f : FVec Ideal s φ) (Cv g) = Cv (f + g) := funext fun i => (EReal.coe_add (f i) (g i)).symm
theorem subf_Cv : subf (Cv f : FVec Ideal s φ) (Cv g) = Cv (f - g) := funext fun i => (EReal.coe_sub (f i) (g i)).symm
theorem negf_Cv : Host.negf (Cv f : FVec Ideal s φ) = Cv (-f) := funext fun i => (EReal.coe_neg (f i)).symm
theorem hdivf_Cv (h : ∀ i, g i ≠ 0) : Host.divf (Cv f : FVec Ideal s φ) (Cv g) = Cv (f / g) :=
  funext fun i => div_coe_coe (h i) (f i)
theorem hrsqrt_Cv (h : ∀ i, 0 < f i) : Host.rsqrt (Cv f : FVec Ideal s φ) = Cv fun i => (Real.sqrt (f i))⁻¹ :=
  funext fun i => rsqrt_coe_pos (h i)
theorem htanh_Cv : Host.tanh (Cv f : FVec Ideal s φ) = Cv fun i => Real.tanh (f i) := funext fun _ => rfl
theorem hexp_Cv : Host.exp (Cv f : FVec Ideal s φ) = Cv fun i => Real.exp (f i) := funext fun _ => rfl
theorem broadcastInDim_Cv (t : Shape) (d : Fin s.rank → Fin t.rank) (h : s.BroadcastsInDim t d) :
    broadcastInDim t d h (Cv f : FVec Ideal s φ) = (Cv (broadcastInDim t d h f) : FVec Ideal t φ) := rfl
theorem shapeCast_Cv (t : Shape) (h : s.ShapeCasts t) :
    shapeCast t (Cv f : FVec Ideal s φ) h = (Cv (shapeCast t f h) : FVec Ideal t φ) := rfl

/-- The sum of the entries that reduce to each index. -/
def rsum {axes : List (Fin s.rank)} {t : Shape} (h : s.ReducesTo axes t) (f : s.Idx → ℝ) : t.Idx → ℝ :=
  fun j => ∑ i ∈ Finset.univ.filter (fun i => h.drop i = j), f i
theorem reduceAdd_Cv {axes : List (Fin s.rank)} {t u : Shape} (h : s.ReducesTo axes t) (hu : 0 < u.numel)
    (init : u.Idx → Ideal φ) (h0 : init (Shape.Idx.first hu) = (0 : EReal)) :
    Host.reduceAdd (Cv f : FVec Ideal s φ) init h hu = Cv (rsum h f) := by
  funext j
  rw [Host.reduceAdd_apply, Ideal.hostReduceAdd_def, h0, Cv_apply, rsum, coe_sum]
  exact zero_add _
end

/-! ## Tensors by their coordinates -/

section
variable {a b c : ℕ}
/-- A number as a tensor of rank 0. -/
def u0 (r : ℝ) : (⟨0, ![]⟩ : Shape).Idx → ℝ := fun _ => r
def u1 (f : Fin a → ℝ) : (⟨1, ![a]⟩ : Shape).Idx → ℝ := fun i => f (i 0)
def u2 (f : Fin a → Fin b → ℝ) : (⟨2, ![a, b]⟩ : Shape).Idx → ℝ := fun i => f (i 0) (i 1)
def u3 (f : Fin a → Fin b → Fin c → ℝ) : (⟨3, ![a, b, c]⟩ : Shape).Idx → ℝ := fun i => f (i 0) (i 1) (i 2)

variable (f1 g1 : Fin a → ℝ) (f2 g2 : Fin a → Fin b → ℝ)
theorem u0_mul (r q : ℝ) : u0 r * u0 q = u0 (r * q) := rfl
theorem u1_mul : u1 f1 * u1 g1 = u1 fun i => f1 i * g1 i := rfl
theorem u2_mul : u2 f2 * u2 g2 = u2 fun i j => f2 i j * g2 i j := rfl
theorem u2_add : u2 f2 + u2 g2 = u2 fun i j => f2 i j + g2 i j := rfl
theorem u2_sub : u2 f2 - u2 g2 = u2 fun i j => f2 i j - g2 i j := rfl
theorem u2_neg : -u2 f2 = u2 fun i j => -f2 i j := rfl

/-- A quotient by a constant. -/
theorem hdivf1 {φ : FTy} (r : ℝ) (h : r ≠ 0) :
    Host.divf (Cv (u1 f1) : FVec Ideal _ φ) (Cv (u1 fun _ => r)) = Cv (u1 fun i => f1 i / r) := hdivf_Cv _ _ fun _ => h
theorem hdivf2 {φ : FTy} (r : ℝ) (h : r ≠ 0) :
    Host.divf (Cv (u2 f2) : FVec Ideal _ φ) (Cv (u2 fun _ _ => r)) = Cv (u2 fun i j => f2 i j / r) :=
  hdivf_Cv _ _ fun _ => h

theorem bcast0_1 (r : ℝ) (d) (h) : broadcastInDim ⟨1, ![a]⟩ d h (u0 r) = u1 fun _ => r := rfl
theorem bcast0_2 (r : ℝ) (d) (h) : broadcastInDim ⟨2, ![a, b]⟩ d h (u0 r) = u2 fun _ _ => r := rfl
theorem bcast1_2_0 (d : Fin 1 → Fin 2) (hd : d = ![0]) (h) :
    broadcastInDim ⟨2, ![a, b]⟩ d h (u1 f1) = u2 fun i _ => f1 i := by
  subst hd
  funext j; simp only [broadcastInDim, u1, u2]; congr 1
  split
  · have : a = 1 := by assumption
    subst this; exact Subsingleton.elim _ _
  · rfl
theorem bcast1_2_1 (f : Fin b → ℝ) (d : Fin 1 → Fin 2) (hd : d = ![1]) (h) :
    broadcastInDim ⟨2, ![a, b]⟩ d h (u1 f) = u2 fun _ j => f j := by
  subst hd
  funext j; simp only [broadcastInDim, u1, u2]; congr 1
  split
  · have : b = 1 := by assumption
    subst this; exact Subsingleton.elim _ _
  · rfl
theorem bcast2_col (f : Fin a → Fin 1 → ℝ) (d : Fin 2 → Fin 2) (hd : d = ![0, 1]) (h) :
    broadcastInDim ⟨2, ![a, b]⟩ d h (u2 f) = u2 fun i _ => f i 0 := by
  subst hd
  funext j; simp only [broadcastInDim, u2]; congr 1
  · congr 1
    split
    · have : a = 1 := by assumption
      subst this; exact Subsingleton.elim _ _
    · rfl
theorem bcast2_row (f : Fin 1 → Fin b → ℝ) (d : Fin 2 → Fin 2) (hd : d = ![0, 1]) (h) :
    broadcastInDim ⟨2, ![a, b]⟩ d h (u2 f) = u2 fun _ j => f 0 j := by
  subst hd
  funext j; simp only [broadcastInDim, u2]; congr 1
  split
  · have : b = 1 := by assumption
    subst this; exact Subsingleton.elim _ _
  · rfl

theorem u2_ext (x : (⟨2, ![a, b]⟩ : Shape).Idx → ℝ) (h : ∀ i j, x (ValueIdx.ix2 i j) = f2 i j) : x = u2 f2 :=
  funext fun j => (congrArg x (ValueIdx.eq_ix2 j)).trans (h (j 0) (j 1))
theorem cast1_col (h) : shapeCast ⟨2, ![a, 1]⟩ (u1 f1) h = u2 fun i _ => f1 i :=
  u2_ext _ _ fun i j => ValueIdx.shapeCast_a_a1_apply _ h i j
theorem cast1_row (f : Fin b → ℝ) (h) : shapeCast ⟨2, ![1, b]⟩ (u1 f) h = u2 fun _ j => f j :=
  u2_ext _ _ fun i j => ValueIdx.shapeCast_a_1a_apply _ h i j
theorem cast3_2 (f : Fin 1 → Fin a → Fin b → ℝ) (h) : shapeCast ⟨2, ![a, b]⟩ (u3 f) h = u2 fun i j => f 0 i j :=
  u2_ext _ _ fun i j => ValueIdx.shapeCast_1ab_ab_apply _ h i j

theorem rsum1 {ax} (hx : ax = [0]) (h : (⟨1, ![a]⟩ : Shape).ReducesTo ax ⟨0, ![]⟩) : rsum h (u1 f1) = u0 (∑ i, f1 i) := by
  subst hx; funext j
  have := Ideal.hostReduceAdd_r1_a0 h (Cv (u1 f1) : FVec Ideal _ .f32) 0 j
  rw [zero_add] at this
  exact_mod_cast ((coe_sum _ _).trans (zero_add _).symm).trans (this.trans (coe_sum _ _).symm)
theorem rsum2_1 {ax} (hx : ax = [1]) (h : (⟨2, ![a, b]⟩ : Shape).ReducesTo ax ⟨1, ![a]⟩) : rsum h (u2 f2) = u1 fun i => ∑ j, f2 i j := by
  subst hx; funext j
  have := Ideal.hostReduceAdd_r2_a1 h (Cv (u2 f2) : FVec Ideal _ .f32) 0 j
  rw [zero_add] at this
  exact_mod_cast ((coe_sum _ _).trans (zero_add _).symm).trans (this.trans (coe_sum _ _).symm)
theorem rsum2_0 {ax} (hx : ax = [0]) (h : (⟨2, ![a, b]⟩ : Shape).ReducesTo ax ⟨1, ![b]⟩) : rsum h (u2 f2) = u1 fun j => ∑ i, f2 i j := by
  subst hx; funext j
  have := Ideal.hostReduceAdd_r2_a0 h (Cv (u2 f2) : FVec Ideal _ .f32) 0 j
  rw [zero_add] at this
  exact_mod_cast ((coe_sum _ _).trans (zero_add _).symm).trans (this.trans (coe_sum _ _).symm)
theorem rsum2_01 {ax} (hx : ax = [0, 1]) (h : (⟨2, ![a, b]⟩ : Shape).ReducesTo ax ⟨0, ![]⟩) : rsum h (u2 f2) = u0 (∑ i, ∑ j, f2 i j) := by
  subst hx; funext j
  have := Ideal.hostReduceAdd_r2_a01 h (Cv (u2 f2) : FVec Ideal _ .f32) 0 j
  rw [zero_add] at this
  have e := ((coe_sum _ _).trans (zero_add _).symm).trans this
  simp only [Cv_apply, ← coe_sum] at e
  exact_mod_cast e
end

/-! ## An array of finite entries -/

section
variable {s : Shape} {d} {hb : (⟨0, ![]⟩ : Shape).BroadcastsInDim s d}
theorem finite_Cv (x : FVec Ideal s .f32)
    (h : cmpf .olt (Host.absf x) (broadcastInDim s d hb (constant (F := Ideal) ⟨0, ![]⟩ .f32 0x7F800000#32)) = fun _ => 1#1) :
    x = Cv fun i => (x i).toReal := by
  funext i
  have h1 : Ideal.cmp .olt (max (x i) (-(x i))) (Ideal.ofBits .f32 2139095040#32) = 1#1 := congrFun h i
  rw [inf] at h1
  obtain ⟨r, hr⟩ := exists_real h1
  rw [Cv_apply, hr, EReal.toReal_coe]
end
/-- A real function of the indices, by coordinates. -/
theorem exists_u1 {a : ℕ} (f : (⟨1, ![a]⟩ : Shape).Idx → ℝ) : ∃ X, f = u1 X :=
  ⟨fun i => f (ValueIdx.ix1 i), funext fun j => congrArg f (ValueIdx.eq_ix1 j)⟩
theorem exists_u2 {a b : ℕ} (f : (⟨2, ![a, b]⟩ : Shape).Idx → ℝ) : ∃ X, f = u2 X :=
  ⟨fun i j => f (ValueIdx.ix2 i j), funext fun j => congrArg f (ValueIdx.eq_ix2 j)⟩
theorem exists_u3 {a b c : ℕ} (f : (⟨3, ![a, b, c]⟩ : Shape).Idx → ℝ) : ∃ X, f = u3 X :=
  ⟨fun i j k => f (ValueIdx.ix3 i j k), funext fun j => congrArg f (ValueIdx.eq_ix3 j)⟩

end Cert.Lift
-- ==== Proof.Dot.lean ====
module

public import proofs.«01_k».proof.Proof.Tensor
public import Idealize.ShloMosaic.PureOps.Ideal.Laws
public import Idealize.ShloMosaic.Lib.KernelVsHost
public import Idealize.ShloMosaic.Lib.ValueIdx

@[expose] public section

/-! Products of casts of real matrices: the host's and the kernel's, over either axis of the left operand and of the
    right one. -/

noncomputable section
namespace Cert.Lift
open Idealize.ShloMosaic ValueIdx

section
variable {sl sr so : Shape} (d : DotDims sl sr so)
/-- The product of two real tensors. -/
def rdot (f : sl.Idx → ℝ) (g : sr.Idx → ℝ) : so.Idx → ℝ := fun j => ∑ k : d.contr.Idx, f (d.lhsIdx j k) * g (d.rhsIdx j k)
theorem hdot_Cv {φ ψ : FTy} (prec) (f : sl.Idx → ℝ) (g : sr.Idx → ℝ) :
    Host.dotGeneral d prec (Cv f : FVec Ideal sl φ) (Cv g : FVec Ideal sr ψ) = Cv (rdot d f g) := by
  funext j
  show FloatOps.dotGeneral _ prec _ (Cv f : FVec Ideal sl φ) (Cv g : FVec Ideal sr ψ) j = _
  rw [Ideal.dotGeneral_apply, Cv_apply, rdot, coe_sum]
  exact Finset.sum_congr rfl fun k _ => (EReal.coe_mul _ _).symm
theorem matmul_Cv {φ ψ : FTy} (prec) (f : sl.Idx → ℝ) (g : sr.Idx → ℝ) :
    matmul d prec (Cv f : FVec Ideal sl φ) (Cv g : FVec Ideal sr ψ) (constant so .f32 0#32) = Cv (rdot d f g) := by
  funext j
  show FloatOps.matmul d prec (Cv f : FVec Ideal sl φ) (Cv g : FVec Ideal sr ψ) _ j = _
  rw [Ideal.matmul_apply, Cv_apply, rdot, coe_sum]
  refine (congrArg (· + _) (Ideal.ofBits_zero_f32)).trans ((zero_add (M := EReal) _).trans ?_)
  exact Finset.sum_congr rfl fun k _ => (EReal.coe_mul _ _).symm
end

section
variable {M K N : ℕ}
theorem rdot_nn (d : DotDims ⟨2, ![M, K]⟩ ⟨2, ![K, N]⟩ ⟨2, ![M, N]⟩) (f : Fin M → Fin K → ℝ) (g : Fin K → Fin N → ℝ)
    (h1 : d.lhsContracting = [1]) (h2 : d.rhsContracting = [0]) (h3 : d.lhsNonContracting = [0])
    (h4 : d.rhsNonContracting = [1]) (h5 : d.lhsBatch = []) (h6 : d.rhsBatch = []) :
    rdot d (u2 f) (u2 g) = u2 fun i j => ∑ k, f i k * g k j := by
  obtain ⟨lc, rc, ln, rn, lb, rb, wf⟩ := d
  subst h1 h2 h3 h4 h5 h6
  funext j
  rw [rdot, ← Equiv.sum_comp (contrEquiv1 (⟨[1], [0], [0], [1], [], [], wf⟩ : DotDims _ _ _) K rfl rfl).symm]
  refine Finset.sum_congr rfl fun k _ => ?_
  rfl
theorem rdot_nt (d : DotDims ⟨2, ![M, K]⟩ ⟨2, ![N, K]⟩ ⟨2, ![M, N]⟩) (f : Fin M → Fin K → ℝ) (g : Fin N → Fin K → ℝ)
    (h1 : d.lhsContracting = [1]) (h2 : d.rhsContracting = [1]) (h3 : d.lhsNonContracting = [0])
    (h4 : d.rhsNonContracting = [0]) (h5 : d.lhsBatch = []) (h6 : d.rhsBatch = []) :
    rdot d (u2 f) (u2 g) = u2 fun i j => ∑ k, f i k * g j k := by
  obtain ⟨lc, rc, ln, rn, lb, rb, wf⟩ := d
  subst h1 h2 h3 h4 h5 h6
  funext j
  rw [rdot, ← Equiv.sum_comp (contrEquiv1 (⟨[1], [1], [0], [0], [], [], wf⟩ : DotDims _ _ _) K rfl rfl).symm]
  refine Finset.sum_congr rfl fun k _ => ?_
  rfl
theorem rdot_tn (d : DotDims ⟨2, ![K, M]⟩ ⟨2, ![K, N]⟩ ⟨2, ![M, N]⟩) (f : Fin K → Fin M → ℝ) (g : Fin K → Fin N → ℝ)
    (h1 : d.lhsContracting = [0]) (h2 : d.rhsContracting = [0]) (h3 : d.lhsNonContracting = [1])
    (h4 : d.rhsNonContracting = [1]) (h5 : d.lhsBatch = []) (h6 : d.rhsBatch = []) :
    rdot d (u2 f) (u2 g) = u2 fun i j => ∑ k, f k i * g k j := by
  obtain ⟨lc, rc, ln, rn, lb, rb, wf⟩ := d
  subst h1 h2 h3 h4 h5 h6
  funext j
  rw [rdot, ← Equiv.sum_comp (contrEquiv1 (⟨[0], [0], [1], [1], [], [], wf⟩ : DotDims _ _ _) K rfl rfl).symm]
  refine Finset.sum_congr rfl fun k _ => ?_
  rfl
end
end Cert.Lift
-- ==== Proof.KTensor.lean ====
module

public import proofs.«01_k».proof.Proof.Tensor
public import Idealize.ShloMosaic.PureOps.Ideal.Laws

@[expose] public section

/-! The operations of a kernel's body on the casts of real tensors: the quotients, roots, broadcasts, sums and
    slices, each again the cast of a real tensor. -/

noncomputable section
namespace Cert.Lift
open Idealize.ShloMosaic ValueIdx

section
variable {s : Shape} {φ : FTy} (f g : s.Idx → ℝ)
theorem divf_Cv (h : ∀ i, g i ≠ 0) : divf (Cv f : FVec Ideal s φ) (Cv g) = Cv (f / g) :=
  funext fun i => div_coe_coe (h i) (f i)
theorem rsqrt_Cv (h : ∀ i, 0 < f i) : rsqrt (Cv f : FVec Ideal s φ) = Cv fun i => (Real.sqrt (f i))⁻¹ :=
  funext fun i => rsqrt_coe_pos (h i)
theorem broadcastTo_Cv (t : Shape) (h : s.Broadcasts t) :
    broadcastTo t (Cv f : FVec Ideal s φ) h = (Cv (broadcastTo t f h) : FVec Ideal t φ) := rfl
theorem slice_Cv (t : Shape) (o : Fin s.rank → ℕ) (h : s.Slices o t) :
    extractStridedSlice t o (Cv f : FVec Ideal s φ) h = (Cv (extractStridedSlice t o f h) : FVec Ideal t φ) := rfl
/-- A kernel's sum over one axis. -/
def ksum {a : Fin s.rank} {t : Shape} (h : s.Reduces [a] t) (f : s.Idx → ℝ) : t.Idx → ℝ :=
  fun j => ∑ k : Fin (s.size a), f (h.lift j k)
theorem multiReduction_Cv {a : Fin s.rank} {t : Shape} (h : s.Reduces [a] t) :
    multiReduction .add [a] t (Cv f : FVec Ideal s .f32) 0x00000000#32 h (.inl rfl) rfl = Cv (ksum h f) :=
  funext fun j => (Ideal.multiReduction_add_single _ _ h _ _ j).trans (coe_sum _ _).symm
theorem cast_same {α : Type} (f : s.Idx → α) (h) : shapeCast s f h = f := funext fun j => shapeCast_apply f h j j rfl
end

section
variable {a b c n : ℕ} {φ : FTy} (f2 : Fin a → Fin b → ℝ)
/-- A splat constant. -/
theorem splat2 {w : BitVec 32} {r : ℝ} (h : Ideal.ofBits .f32 w = ((r : ℝ) : EReal)) :
    broadcast ⟨2, ![a, b]⟩ (FloatOps.ofBits (F := Ideal) .f32 w) = (Cv (u2 fun _ _ => r) : FVec Ideal _ .f32) :=
  funext fun _ => h
theorem divf2 (r : ℝ) (h : r ≠ 0) :
    divf (Cv (u2 f2) : FVec Ideal _ φ) (Cv (u2 fun _ _ => r)) = Cv (u2 fun i j => f2 i j / r) :=
  divf_Cv _ _ fun _ => h
theorem bto_col (f : Fin a → Fin 1 → ℝ) (h) : broadcastTo ⟨2, ![a, b]⟩ (u2 f) h = u2 fun i _ => f i 0 := by
  funext j
  simp only [broadcastTo, u2]
  congr 1
  · congr 1
    split
    · have : a = 1 := by assumption
      subst this; exact Subsingleton.elim _ _
    · rfl
theorem bto_row (f : Fin 1 → Fin b → ℝ) (h) : broadcastTo ⟨2, ![a, b]⟩ (u2 f) h = u2 fun _ j => f 0 j := by
  funext j
  simp only [broadcastTo, u2]
  congr 1
  split
  · have : b = 1 := by assumption
    subst this; exact Subsingleton.elim _ _
  · rfl
theorem mred2_1 {ax} (hx : ax = [1]) (h : (⟨2, ![a, b]⟩ : Shape).Reduces ax ⟨1, ![a]⟩) (hφ) (hacc : (0#32 : BitVec 32) = 0#32) :
    multiReduction .add ax ⟨1, ![a]⟩ (Cv (u2 f2) : FVec Ideal _ .f32) 0x00000000#32 h hφ hacc = Cv (u1 fun i => ∑ j, f2 i j) := by
  subst hx
  exact (multiReduction_Cv _ h).trans rfl
theorem mred3_0 (f : Fin a → Fin b → Fin c → ℝ) {ax} (hx : ax = [0]) (h : (⟨3, ![a, b, c]⟩ : Shape).Reduces ax ⟨2, ![b, c]⟩) (hφ) (hacc : (0#32 : BitVec 32) = 0#32) :
    multiReduction .add ax ⟨2, ![b, c]⟩ (Cv (u3 f) : FVec Ideal _ .f32) 0x00000000#32 h hφ hacc = Cv (u2 fun j k => ∑ i, f i j k) := by
  subst hx
  exact (multiReduction_Cv _ h).trans rfl
theorem cast3_2' (f : Fin 1 → Fin 1 → Fin b → ℝ) (h) : shapeCast ⟨2, ![1, b]⟩ (u3 f) h = u2 fun _ j => f 0 0 j :=
  u2_ext _ _ fun i j => by
    have : i = 0 := Subsingleton.elim _ _
    subst this
    exact shapeCast_1ab_ab_apply _ h 0 j
theorem u3_ext (x : (⟨3, ![a, b, c]⟩ : Shape).Idx → ℝ) (f : Fin a → Fin b → Fin c → ℝ) (h : ∀ i j k, x (ValueIdx.ix3 i j k) = f i j k) : x = u3 f :=
  funext fun j => (congrArg x (ValueIdx.eq_ix3 j)).trans (h (j 0) (j 1) (j 2))
theorem cast1_3 (f : Fin b → ℝ) (h) : shapeCast ⟨3, ![1, 1, b]⟩ (u1 f) h = u3 fun _ _ j => f j :=
  u3_ext _ _ fun i k j => (shapeCast_apply _ h _ (ValueIdx.ix1 j) (by
    have hi : i.val = 0 := by omega
    have hk : k.val = 0 := by omega
    rw [Shape.rowMajor_val_three, Shape.rowMajor_val_one]
    show j.val = (i.val * 1 + k.val) * b + j.val
    rw [hi, hk]; omega)).trans rfl
/-- Rows cut into groups of `b`. -/
theorem cast2_3 {n : ℕ} (f : Fin n → Fin c → ℝ) (hn : n = a * b) (h) :
    shapeCast ⟨3, ![a, b, c]⟩ (u2 f) h
      = u3 fun i k j => f ⟨i.val * b + k.val, by have := i.isLt; have := k.isLt; nlinarith⟩ j := by
  subst hn
  refine u3_ext _ _ fun i k j => ?_
  refine (shapeCast_apply _ h _ (ValueIdx.ix2 ⟨i.val * b + k.val, by have := i.isLt; have := k.isLt; nlinarith⟩ j) ?_).trans rfl
  rw [Shape.rowMajor_val_three, Shape.rowMajor_val_two]; rfl
/-- The columns from `o` on. -/
theorem slice2 (o : ℕ) (q : Fin 2 → ℕ) (hq : q = ![0, o]) (h) (hc : o + c ≤ b):
    extractStridedSlice ⟨2, ![a, c]⟩ q (u2 f2) h = u2 fun i j => f2 i ⟨o + j.val, by omega⟩ := by
  subst hq
  funext j
  simp only [extractStridedSlice, u2]
  congr 1
  exact Fin.ext (Nat.zero_add _)
end
end Cert.Lift
-- ==== Proof.Shapes.lean ====
module

public import proofs.«01_k».proof.Proof.Dot
public import proofs.«01_k».proof.Proof.KTensor
public import proofs.«01_k».proof.Proof.Rms

@[expose] public section

/-! Further operations on casts of real tensors: changes of format, exponentials, the logistic function, transposes,
    casts between shapes of rank two, three and four, and matrices laid side by side. -/

noncomputable section
namespace Cert.Lift
open Idealize.ShloMosaic ValueIdx

/-- The logistic function. -/
def sig (x : ℝ) : ℝ := 1 / (1 + Real.exp (-x))
theorem sig_den (x : ℝ) : 1 + Real.exp (-x) ≠ 0 := by positivity
theorem czero : Ideal.ofBits .f32 0#32 = ((0 : ℝ) : EReal) := Ideal.ofBits_zero_f32
theorem cone : Ideal.ofBits .f32 1065353216#32 = ((1 : ℝ) : EReal) := Ideal.ofBits_one_f32

section
variable {s : Shape} {φ ψ : FTy} (f g : s.Idx → ℝ)
theorem exp_Cv : exp (Cv f : FVec Ideal s φ) = Cv fun i => Real.exp (f i) := funext fun _ => rfl
theorem truncf_Cv (h) : truncf ψ (Cv f : FVec Ideal s φ) h = Cv f := rfl
theorem extf_Cv (h) : extf ψ (Cv f : FVec Ideal s φ) h = Cv f := rfl
theorem transpose_Cv (t : Shape) (p : List (Fin s.rank)) (h) :
    transpose t p (Cv f : FVec Ideal s φ) h = (Cv (transpose t p f h) : FVec Ideal t φ) := rfl
end

section
variable {a b c d n : ℕ} {φ : FTy} (f2 : Fin a → Fin b → ℝ)
theorem exp2 : exp (Cv (u2 f2) : FVec Ideal _ φ) = Cv (u2 fun i j => Real.exp (f2 i j)) := rfl
theorem hexp2 : Host.exp (Cv (u2 f2) : FVec Ideal _ φ) = Cv (u2 fun i j => Real.exp (f2 i j)) := rfl
/-- One over one plus an exponential, as a kernel and as the host write it. -/
theorem sig2 : divf (Cv (u2 fun _ _ => 1) : FVec Ideal _ φ) (Cv (u2 fun i j => 1 + Real.exp (-f2 i j))) = Cv (u2 fun i j => sig (f2 i j)) :=
  divf_Cv _ _ fun _ => sig_den _
theorem hsig2 : Host.divf (Cv (u2 fun _ _ => 1) : FVec Ideal _ φ) (Cv (u2 fun i j => 1 + Real.exp (-f2 i j))) = Cv (u2 fun i j => sig (f2 i j)) :=
  hdivf_Cv _ _ fun _ => sig_den _
theorem trans2 (p : List (Fin 2)) (hp : p = [1, 0]) (h) : transpose ⟨2, ![b, a]⟩ p (u2 f2) h = u2 fun i j => f2 j i := by
  subst hp
  exact u2_ext _ _ fun i j => transpose_ix2_apply _ h i j
/-- The first two axes of three exchanged. -/
theorem trans3 (f : Fin a → Fin b → Fin c → ℝ) (p : List (Fin 3)) (hp : p = [1, 0, 2]) (h) :
    transpose ⟨3, ![b, a, c]⟩ p (u3 f) h = u3 fun i j k => f j i k := by
  subst hp
  exact u3_ext _ _ fun i j k => (transpose_apply _ _ h _ (Idealize.ShloMosaic.ix3 j i k) fun c => match c with | ⟨0, _⟩ => rfl | ⟨1, _⟩ => rfl | ⟨2, _⟩ => rfl).trans rfl
theorem cast2_same (h) : shapeCast ⟨2, ![a, b]⟩ (u2 f2) h = u2 f2 := cast_same _ _

def u4 (f : Fin a → Fin b → Fin c → Fin d → ℝ) : (⟨4, ![a, b, c, d]⟩ : Shape).Idx → ℝ := fun i => f (i 0) (i 1) (i 2) (i 3)
theorem u4_ext (x : (⟨4, ![a, b, c, d]⟩ : Shape).Idx → ℝ) (f : Fin a → Fin b → Fin c → Fin d → ℝ)
    (h : ∀ i j k l, x (Idealize.ShloMosaic.ix4 i j k l) = f i j k l) : x = u4 f :=
  funext fun j => (congrArg x (Idealize.ShloMosaic.eq_ix4 j)).trans (h (j 0) (j 1) (j 2) (j 3))

theorem cast4_2 (f : Fin 1 → Fin 1 → Fin a → Fin b → ℝ) (h) : shapeCast ⟨2, ![a, b]⟩ (u4 f) h = u2 fun i j => f 0 0 i j :=
  u2_ext _ _ fun i j => (shapeCast_apply _ h _ (Idealize.ShloMosaic.ix4 0 0 i j) (by
    rw [Shape.rowMajor_val_four, Shape.rowMajor_val_two]
    show ((0 * 1 + 0) * a + i.val) * b + j.val = i.val * b + j.val
    simp)).trans rfl
theorem cast2_4 (h) : shapeCast ⟨4, ![1, 1, a, b]⟩ (u2 f2) h = u4 fun _ _ i j => f2 i j :=
  u4_ext _ _ fun u v i j => (shapeCast_apply _ h _ (Idealize.ShloMosaic.ix2 i j) (by
    rw [Shape.rowMajor_val_four, Shape.rowMajor_val_two]
    show i.val * b + j.val = ((u.val * 1 + v.val) * a + i.val) * b + j.val
    rw [show u.val = 0 by omega, show v.val = 0 by omega]; simp)).trans rfl
theorem cast3_4 (f : Fin a → Fin b → Fin c → ℝ) (h) : shapeCast ⟨4, ![1, a, b, c]⟩ (u3 f) h = u4 fun _ i j k => f i j k :=
  u4_ext _ _ fun u i j k => (shapeCast_apply _ h _ (Idealize.ShloMosaic.ix3 i j k) (by
    rw [Shape.rowMajor_val_four, Shape.rowMajor_val_three]
    show (i.val * b + j.val) * c + k.val = ((u.val * a + i.val) * b + j.val) * c + k.val
    rw [show u.val = 0 by omega]; simp)).trans rfl
theorem cast2_3u (h) : shapeCast ⟨3, ![1, a, b]⟩ (u2 f2) h = u3 fun _ i j => f2 i j :=
  u3_ext _ _ fun u i j => (shapeCast_ab_1ab_apply _ h u i j).trans rfl
/-- Columns cut into groups of `c`. -/
theorem cast2_3c (f : Fin a → Fin n → ℝ) (hn : n = b * c) (h) :
    shapeCast ⟨3, ![a, b, c]⟩ (u2 f) h
      = u3 fun i k j => f i ⟨k.val * c + j.val, by have := k.isLt; have := j.isLt; nlinarith⟩ := by
  subst hn
  refine u3_ext _ _ fun i k j => ?_
  refine (shapeCast_apply _ h _ (Idealize.ShloMosaic.ix2 i ⟨k.val * c + j.val, by have := k.isLt; have := j.isLt; nlinarith⟩) ?_).trans rfl
  rw [Shape.rowMajor_val_three, Shape.rowMajor_val_two]
  show i.val * (b * c) + (k.val * c + j.val) = (i.val * b + k.val) * c + j.val
  ring
theorem div_lt {n b c : ℕ} (hn : n = b * c) (hc : 0 < c) (j : Fin n) : j.val / c < b :=
  (Nat.div_lt_iff_lt_mul hc).2 (lt_of_lt_of_eq j.isLt hn)
/-- Groups of columns laid side by side. -/
theorem cast3_2c (f : Fin a → Fin b → Fin c → ℝ) (hn : n = b * c) (hc : 0 < c) (h) :
    shapeCast ⟨2, ![a, n]⟩ (u3 f) h
      = u2 fun i j => f i ⟨j.val / c, div_lt hn hc j⟩ ⟨j.val % c, Nat.mod_lt _ hc⟩ := by
  subst hn
  refine u2_ext _ _ fun i j => ?_
  refine (shapeCast_apply _ h _ (Idealize.ShloMosaic.ix3 i ⟨j.val / c, (Nat.div_lt_iff_lt_mul hc).2 j.isLt⟩ ⟨j.val % c, Nat.mod_lt _ hc⟩) ?_).trans rfl
  rw [Shape.rowMajor_val_three, Shape.rowMajor_val_two]
  show (i.val * b + j.val / c) * c + j.val % c = i.val * (b * c) + j.val
  have := Nat.div_add_mod' j.val c
  calc _ = i.val * (b * c) + (j.val / c * c + j.val % c) := by ring
    _ = _ := by rw [this]
/-- Groups of rows cut and joined. -/
theorem cast3_2r (f : Fin a → Fin b → Fin c → ℝ) (hn : n = a * b) (hb : 0 < b) (h) :
    shapeCast ⟨2, ![n, c]⟩ (u3 f) h
      = u2 fun i j => f ⟨i.val / b, div_lt hn hb i⟩ ⟨i.val % b, Nat.mod_lt _ hb⟩ j := by
  subst hn
  refine u2_ext _ _ fun i j => ?_
  refine (shapeCast_apply _ h _ (Idealize.ShloMosaic.ix3 ⟨i.val / b, (Nat.div_lt_iff_lt_mul hb).2 i.isLt⟩ ⟨i.val % b, Nat.mod_lt _ hb⟩ j) ?_).trans rfl
  rw [Shape.rowMajor_val_three, Shape.rowMajor_val_two]
  show (i.val / b * b + i.val % b) * c + j.val = i.val * c + j.val
  rw [Nat.div_add_mod' i.val b]
/-- Four matrices laid side by side. -/
theorem concat4 {e : ℕ} (f : Fin 4 → Fin a → Fin b → ℝ) (he : e = 4 * b) (hb : 0 < b) (h) :
    concatenate ⟨2, ![a, e]⟩ 1 [⟨⟨2, ![a, b]⟩, (Cv (u2 (f 0)) : FVec Ideal _ φ)⟩, ⟨⟨2, ![a, b]⟩, (Cv (u2 (f 1)) : FVec Ideal _ φ)⟩, ⟨⟨2, ![a, b]⟩, (Cv (u2 (f 2)) : FVec Ideal _ φ)⟩, ⟨⟨2, ![a, b]⟩, (Cv (u2 (f 3)) : FVec Ideal _ φ)⟩] h
      = (Cv (u2 fun i j => f ⟨j.val / b, div_lt he hb j⟩ i ⟨j.val % b, Nat.mod_lt _ hb⟩) : FVec Ideal _ φ) := by
  subst he
  funext j
  exact (concatenate_ofFn_apply (t := ⟨2, ![a, 4 * b]⟩) (s₁ := ⟨2, ![a, b]⟩) 1 (fun n : Fin 4 => (Cv (u2 (f n)) : FVec Ideal _ φ)) h rfl b rfl j
    ⟨(j 1).val / b, (Nat.div_lt_iff_lt_mul hb).2 (j 1).isLt⟩ rfl (Idealize.ShloMosaic.ix2 (j 0) ⟨(j 1).val % b, Nat.mod_lt _ hb⟩) rfl
    (fun k hk => match k with | ⟨0, _⟩ => rfl | ⟨1, _⟩ => absurd rfl hk)).trans rfl
end

/-- The kernel's reciprocal root of a row's mean square. -/
theorem ms_fold {a b : ℕ} (X : Fin a → Fin 1024 → ℝ) :
    rsqrt (Cv (u2 fun r (_ : Fin b) => (∑ j, X r j * X r j) / 1024 + 8796093 / 8796093022208) : FVec Ideal _ .f32)
      = Cv (u2 fun r _ => rho (X r)) := rsqrt_Cv _ fun i => ms_pos _
theorem cast3_2h {a b : ℕ} {φ : FTy} (f : Fin 1 → Fin a → Fin b → ℝ) (h) :
    shapeCast ⟨2, ![a, b]⟩ (Cv (u3 f) : FVec Ideal _ φ) h = Cv (u2 (f 0)) := by
  show (Cv (shapeCast ⟨2, ![a, b]⟩ (u3 f) h) : FVec Ideal _ φ) = _
  exact congrArg Cv (u2_ext _ _ fun i j => (shapeCast_1ab_ab_apply (u3 f) h i j).trans rfl)
end Cert.Lift
-- ==== Proof.HostRef.lean ====
module

public import proofs.«01_k».proof.Proof.Dot
public import proofs.«01_k».proof.Proof.Shapes

@[expose] public section

/-! Operations of the references' host programs on real arrays: the constants that they name, sums from zero, the
    logistic function, and the root mean square of a row. -/

noncomputable section
namespace Cert.Lift
open Idealize.ShloMosaic
local notation "F32 " s:max => FVec Ideal s FTy.f32
theorem k1024 : (constant ⟨0, ![]⟩ .f32 1149239296#32 : F32 ⟨0, ![]⟩) = Cv (u0 1024) := funext fun _ => c1024
theorem keps : (constant ⟨0, ![]⟩ .f32 897988541#32 : F32 ⟨0, ![]⟩) = Cv (u0 (8796093 / 8796093022208)) := funext fun _ => ceps
theorem khalf : (constant ⟨0, ![]⟩ .f32 1056964608#32 : F32 ⟨0, ![]⟩) = Cv (u0 (1/2)) := funext fun _ => chalf
theorem kneghalf : (constant ⟨0, ![]⟩ .f32 3204448256#32 : F32 ⟨0, ![]⟩) = Cv (u0 (-(1/2))) := funext fun _ => cneghalf
theorem kone : (constant ⟨0, ![]⟩ .f32 1065353216#32 : F32 ⟨0, ![]⟩) = Cv (u0 1) := funext fun _ => Ideal.ofBits_one_f32
theorem kzero : (constant ⟨0, ![]⟩ .f32 0#32 : F32 ⟨0, ![]⟩) = Cv (u0 0) := funext fun _ => Ideal.ofBits_zero_f32
theorem reduceAdd_Cv0 {s : Shape} (f : s.Idx → ℝ) {axes : List (Fin s.rank)} {t : Shape} (h : s.ReducesTo axes t) (hu) :
    Host.reduceAdd (Cv f : F32 s) (Cv (u0 0)) h hu = Cv (rsum h f) := reduceAdd_Cv f h hu _ rfl
theorem rsqrt_ms2 {n b : ℕ} (X : Fin n → Fin 1024 → ℝ) :
    Host.rsqrt (Cv (u2 fun r (_ : Fin b) => (∑ j, X r j * X r j) / 1024 + 8796093 / 8796093022208) : F32 _)
      = Cv (u2 fun r _ => rho (X r)) := hrsqrt_Cv _ fun i => ms_pos _
theorem div_ms2 {n b : ℕ} (X : Fin n → Fin 1024 → ℝ) (f : Fin n → Fin b → ℝ) :
    Host.divf (Cv (u2 f) : F32 _) (Cv (u2 fun r (_ : Fin b) => (∑ j, X r j * X r j) / 1024 + 8796093 / 8796093022208) : F32 _)
      = Cv (u2 fun r i => f r i / ms (X r)) := hdivf_Cv _ _ fun i => (ms_pos _).ne'
/-- An array of finite magnitudes is an array of real numbers. -/
theorem real1 {a : ℕ} {d : Fin 0 → Fin 1} {hb} (x : F32 ⟨1, ![a]⟩)
    (h : cmpf .olt (Host.absf x) (broadcastInDim ⟨1, ![a]⟩ d hb (constant (F := Ideal) ⟨0, ![]⟩ .f32 0x7F800000#32)) = fun _ => 1#1) :
    ∃ X, x = (Cv (u1 X) : F32 ⟨1, ![a]⟩) := by
  obtain ⟨X, hX⟩ := exists_u1 fun i => (x i).toReal
  exact ⟨X, (finite_Cv x h).trans (congrArg Cv hX)⟩
theorem real2 {a b : ℕ} {d : Fin 0 → Fin 2} {hb} (x : F32 ⟨2, ![a, b]⟩)
    (h : cmpf .olt (Host.absf x) (broadcastInDim ⟨2, ![a, b]⟩ d hb (constant (F := Ideal) ⟨0, ![]⟩ .f32 0x7F800000#32)) = fun _ => 1#1) :
    ∃ X, x = (Cv (u2 X) : F32 ⟨2, ![a, b]⟩) := by
  obtain ⟨X, hX⟩ := exists_u2 fun i => (x i).toReal
  exact ⟨X, (finite_Cv x h).trans (congrArg Cv hX)⟩
/-- The chain rule's form of the gradient through the norm is the closed formula. -/
theorem rms_chain (x c : Fin 1024 → ℝ) (e : ℝ) (j : Fin 1024) :
    e + c j * rho x + x j * (∑ _k : Fin 1, (∑ k, x k * c k) * (-(1 / 2) * (rho x / ms x)) / 1024)
      + (∑ _k : Fin 1, (∑ k, x k * c k) * (-(1 / 2) * (rho x / ms x)) / 1024) * x j = e + rmsBwd x c j := by
  have h : ∑ k, c k * (x k * rho x) = rho x * ∑ k, x k * c k := by
    rw [Finset.mul_sum]; exact Finset.sum_congr rfl fun k _ => by ring
  rw [rmsBwd, h, Fin.sum_univ_one, rho_div_ms]
  ring
end Cert.Lift
-- ==== Proof.FinalRef.lean ====
module

public import proofs.«01_k».proof.Proof.Gen.ReferenceIdeal.Run
public import proofs.«01_k».proof.Proof.Gen.ReferenceIdeal
public import Idealize.ShloMosaic.Lib.Pipeline.ValueKit
public import proofs.«01_k».proof.Proof.FinalSpec
public import proofs.«01_k».proof.Proof.HostRef

@[expose] public section

/-! The reference of the last norm and loss: its loss and its two gradients as real functions of real arguments. -/

set_option maxRecDepth 16384
noncomputable section
namespace Cert.ReferenceIdeal.Value
open Cert.ReferenceIdeal Cert.ReferenceIdeal.Gen Idealize.ShloMosaic Idealize.ShloMosaic.TcCoe Idealize.SL.Sem Idealize.ShloMosaic.StableHlo
local notation "F32 " s:max => FVec Ideal s FTy.f32
open Cert.Lift
variable (m : (ℓ : Loc nD τ sig) → Buf (Elt Ideal) ℓ)

theorem ty0 (c : Dev nD) : ((c.tc : Thread nD τ).loc main_arg0).ty = ⟨S8192x1024, .f32⟩ := rfl
theorem ty1 (c : Dev nD) : ((c.tc : Thread nD τ).loc main_v51).ty = ⟨S8192x1024, .f32⟩ := rfl
theorem ktwo : (constant S_ .f32 1073741824#32 : F32 S_) = Cv (u0 2) := funext fun _ => ctwo
theorem khalf : (constant S_ .f32 1056964608#32 : F32 S_) = Cv (u0 (1/2)) := funext fun _ => chalf

set_option maxHeartbeats 4000000
theorem runR (ρ : Dev nD → PrngReg) (X : Fin 8192 → Fin 1024 → ℝ) (g : Fin 1024 → ℝ) (T : Fin 1 → Fin 8192 → Fin 1024 → ℝ)
   (hX : ∀ (c : Dev nD), m ((c.tc : Thread nD τ).loc main_arg0) = (Cv (u2 X) : F32 S8192x1024))
   (hg : ∀ (c : Dev nD), m ((c.tc : Thread nD τ).loc main_arg1) = (Cv (u1 g) : F32 S1024))
   (hT : ∀ (c : Dev nD), m ((c.tc : Thread nD τ).loc main_arg2) = (Cv (u3 T) : F32 S1x8192x1024)) :
    θ_run defs (onTc (τ := τ) (main (F := Ideal))) ⟨m, fun _ => 0, ρ⟩ fun r => ∀ c : Dev nD,
      r.2.mem ((c.tc : Thread nD τ).loc main_v25) = (Cv (u0 (lossOf X g (T 0))) : F32 S_)
      ∧ r.2.mem ((c.tc : Thread nD τ).loc main_v51) = (Cv (u2 (dH X g (T 0))) : F32 S8192x1024)
      ∧ r.2.mem ((c.tc : Thread nD τ).loc main_v37) = (Cv (u1 (dG X g (T 0))) : F32 S1024) := by
  refine (θ_run defs _ _).mono (fun r h c => ⟨(h c).1.trans ?_, (h c).2.1.trans ?_, (h c).2.2.1.trans ?_⟩) (run m ρ)
  · rw [hX, hg, hT]
    dsimp only [ty0, ty1, S8192x1024, S8192x1, S1x1024, S8192, S1024, S_, S1x8192x1024]
    simp (disch := first | rfl | norm_num1) only [k1024, keps, ktwo, khalf, kneghalf, kone, kzero, mulf_Cv, addf_Cv, subf_Cv, reduceAdd_Cv0, broadcastInDim_Cv, shapeCast_Cv, bcast0_1, bcast0_2, bcast1_2_0, bcast1_2_1, bcast2_row, bcast2_col,
     cast1_col, cast1_row, cast3_2, rsum1, rsum2_1, rsum2_0, u0_mul, u1_mul, u2_mul, u2_add, u2_sub, rsqrt_ms2, div_ms2, hdivf1, hdivf2]
    rfl
  · unfold res_main_v51
    rw [hX, hg, hT]
    dsimp only [ty0, ty1, S8192x1024, S8192x1, S1x1024, S8192, S1024, S_, S1x8192x1024]
    simp (disch := first | rfl | norm_num1) only [k1024, keps, ktwo, khalf, kneghalf, kone, kzero, mulf_Cv, addf_Cv, subf_Cv, reduceAdd_Cv0, broadcastInDim_Cv, shapeCast_Cv, bcast0_1, bcast0_2, bcast1_2_0, bcast1_2_1, bcast2_row, bcast2_col,
     cast1_col, cast1_row, cast3_2, rsum1, rsum2_1, rsum2_0, u0_mul, u1_mul, u2_mul, u2_add, u2_sub, rsqrt_ms2, div_ms2, hdivf1, hdivf2]
    refine congrArg Cv (congrArg u2 (funext fun i => funext fun j => ?_))
    exact dH_chain (X i) g (T 0 i) j
  · rw [hX, hg, hT]
    dsimp only [ty0, ty1, S8192x1024, S8192x1, S1x1024, S8192, S1024, S_, S1x8192x1024]
    simp (disch := first | rfl | norm_num1) only [k1024, keps, ktwo, khalf, kneghalf, kone, kzero, mulf_Cv, addf_Cv, subf_Cv, reduceAdd_Cv0, broadcastInDim_Cv, shapeCast_Cv, bcast0_1, bcast0_2, bcast1_2_0, bcast1_2_1, bcast2_row, bcast2_col,
     cast1_col, cast1_row, cast3_2, rsum1, rsum2_1, rsum2_0, u0_mul, u1_mul, u2_mul, u2_add, u2_sub, rsqrt_ms2, div_ms2, hdivf1, hdivf2]
    refine congrArg Cv (congrArg u1 (funext fun j => ?_))
    rw [Fin.sum_univ_one]
    exact Finset.sum_congr rfl fun i _ => by simp only [errRow]; ring
end Cert.ReferenceIdeal.Value
-- ==== Proof.FinalKernel.lean ====
module

public import proofs.«01_k».proof.Proof.Gen.KernelIdeal.Frame
public import proofs.«01_k».proof.Proof.FinalSpec
public import proofs.«01_k».proof.Proof.KTensor
public import Idealize.ShloMosaic.Lib.Pipeline.ValueKit

@[expose] public section

/-! The kernel of the last norm and loss: one block of 1024 rows per grid point writes its rows of the gradient and adds
    its parts of the loss and of the gradient of the scale; the host adds up what is left of the two sums. -/

set_option maxRecDepth 16384
noncomputable section
namespace Cert.KernelIdeal.Value
open Idealize.ShloMosaic Idealize.ShloMosaic.TcCoe Idealize.SL.Sem Cert.Lift
local notation "F32 " s:max => FVec Ideal s FTy.f32
open Idealize.ShloMosaic.Pipeline (Dat)
open Cert.KernelIdeal Cert.KernelIdeal.Gen
variable (m : (ℓ : Loc nD τ sig) → Buf (Elt Ideal) ℓ)

/-! ## The body's results on real blocks -/
section
variable (X T : Fin 1024 → Fin 1024 → ℝ) (G : Fin 1 → Fin 1 → Fin 1024 → ℝ)
theorem ms_fold {a b : ℕ} (X : Fin a → Fin 1024 → ℝ) :
    rsqrt (Cv (u2 fun r (_ : Fin b) => (∑ j, X r j * X r j) / 1024 + 8796093 / 8796093022208) : F32 _)
      = Cv (u2 fun r _ => rho (X r)) := rsqrt_Cv _ fun i => ms_pos _
theorem pay5 : k0_pay5 (F := Ideal) (Cv (φ := .f32) (u2 X)) = Cv (u2 fun r _ => rho (X r)) := by
  dsimp only [k0_pay5, S1024x1024, S1024x1, S1024]
  simp (disch := first | rfl | norm_num1) only [splat2 c1024, splat2 ceps, mulf_Cv, u2_mul, mred2_1, shapeCast_Cv, cast1_col, divf2, addf_Cv, u2_add, ms_fold]
theorem pay6 : k0_pay6 (F := Ideal) (Cv (φ := .f32) (u2 X)) = Cv (u2 fun r j => X r j * rho (X r)) := by
  dsimp only [k0_pay6, S1024x1024]
  rw [pay5]
  simp only [broadcastTo_Cv, bto_col, mulf_Cv, u2_mul]
theorem pay7 : k0_pay7 (F := Ideal) (Cv (φ := .f32) (u2 X)) (Cv (φ := .f32) (u3 G)) (Cv (φ := .f32) (u2 T)) = Cv (u2 fun r j => errRow (X r) (G 0 0) (T r) j) := by
  dsimp only [k0_pay7, S1024x1024, S1x1024]
  rw [pay6]
  simp only [shapeCast_Cv, cast3_2', cast_same, broadcastTo_Cv, bto_row, mulf_Cv, u2_mul, subf_Cv, u2_sub]
  rfl
theorem pay8 : k0_pay8 (F := Ideal) (Cv (φ := .f32) (u2 X)) (Cv (φ := .f32) (u3 G)) (Cv (φ := .f32) (u2 T)) = Cv (u2 fun r j => errRow (X r) (G 0 0) (T r) j * (1 / 1024)) := by
  dsimp only [k0_pay8]
  rw [pay7]
  dsimp only [S1024x1024]
  simp only [splat2 cinv1024, mulf_Cv, u2_mul]
theorem pay9 : k0_pay9 (F := Ideal) (Cv (φ := .f32) (u2 X)) (Cv (φ := .f32) (u3 G)) (Cv (φ := .f32) (u2 T)) (Cv (φ := .f32) (u3 G)) = Cv (u2 fun r j => rmsBwd (X r) (cot (X r) (G 0 0) (T r)) j) := by
  dsimp only [k0_pay9]
  rw [pay8, pay6, pay5]
  dsimp only [S1024x1024, S1024x1, S1024, S1x1024]
  simp (disch := first | rfl | norm_num1) only [splat2 c1024, shapeCast_Cv, cast3_2', cast1_col, broadcastTo_Cv, bto_row, bto_col, mulf_Cv, u2_mul, mred2_1, divf2, subf_Cv, u2_sub]
  rfl
/-- Row `8 i + k` of a block of 1024 rows. -/
def row8 (i : Fin 128) (k : Fin 8) : Fin 1024 := ⟨i.val * 8 + k.val, by omega⟩
theorem pay10 : k0_pay10 (F := Ideal) (Cv (φ := .f32) (u2 X)) (Cv (φ := .f32) (u3 G)) (Cv (φ := .f32) (u2 T))
    = Cv (u2 fun k j => ∑ i : Fin 128, errRow (X (row8 i k)) (G 0 0) (T (row8 i k)) j * (1 / 1024) * (X (row8 i k) j * rho (X (row8 i k)))) := by
  dsimp only [k0_pay10]
  rw [pay8, pay6]
  dsimp only [S1024x1024, S128x8x1024, S8x1024]
  simp (disch := first | rfl | norm_num1) only [shapeCast_Cv, mulf_Cv, u2_mul, cast2_3, mred3_0]
  rfl
theorem pay11 : k0_pay11 (F := Ideal) (Cv (φ := .f32) (u2 X)) (Cv (φ := .f32) (u3 G)) (Cv (φ := .f32) (u2 T)) = Cv (u2 fun r j => errRow (X r) (G 0 0) (T r) j * errRow (X r) (G 0 0) (T r) j) := by
  dsimp only [k0_pay11]
  rw [pay7]
  rfl
theorem pay4 (Q : Fin 1024 → Fin 1024 → ℝ) (B : F32 S8x128) (y : S8x128.Idx) : k0_pay4 (F := Ideal) (Cv (φ := .f32) (u2 Q)) B y
    = B y + (((∑ g : Fin 8, ∑ i, Q (row8 i (y 0)) ⟨g.val * 128 + (y 1).val, by have := (y 1).isLt; change _ < 128 at this; omega⟩) * (1 / 2048) : ℝ) : EReal) := by
  dsimp only [k0_pay4]
  rw [cast_same]
  dsimp only [S1024x1024, S128x8x1024, S8x1024, S8x128]
  simp (disch := first | rfl | norm_num1 | omega) only [splat2 cinv2048, shapeCast_Cv, cast2_3, mred3_0, slice_Cv, slice2, mulf_Cv, u2_mul, addf_Cv, u2_add]
  simp only [Fin.sum_univ_eight]
  rfl
end

theorem idx : ∀ t : Fin cfg0.N, win0_0.index t = ![t.val, 0] ∧ win0_1.index t = ![0, 0, 0] ∧ win0_2.index t = ![t.val, 0] ∧ win0_3.index t = ![t.val, 0] :=
  (by decide +kernel : ∀ t : Fin grid0.N, win0_0.index t = ![t.val, 0] ∧ win0_1.index t = ![0, 0, 0] ∧ win0_2.index t = ![t.val, 0] ∧ win0_3.index t = ![t.val, 0])

section
variable (X : Fin 8192 → Fin 1024 → ℝ) (g : Fin 1024 → ℝ) (T : Fin 1 → Fin 8192 → Fin 1024 → ℝ)
   (hX : ∀ (c : Dev nD), m ((c.tc : Thread nD τ).loc main_arg0) = (Cv (u2 X) : F32 S8192x1024))
   (hg : ∀ (c : Dev nD), m ((c.tc : Thread nD τ).loc main_arg1) = (Cv (u1 g) : F32 S1024))
   (hT : ∀ (c : Dev nD), m ((c.tc : Thread nD τ).loc main_arg2) = (Cv (u3 T) : F32 S1x8192x1024))
   (c : Dev nD) (t : Fin cfg0.N)
include hX in
theorem V_x : V m c main_arg0 = (Cv (u2 X) : F32 S8192x1024) := by
  rw [V_main_arg0]; exact hX c
include hT in
theorem V_t : V m c main_v1 = (Cv (u2 (T 0)) : F32 S8192x1024) := by
  show StableHlo.after hostOps0 (fun b => m (c, b)) (Proc.tc.devRef main_v1) = _
  unfold_abbrev_sides
  after_results
  rw [hT c]; exact congrArg Cv (cast3_2 T _)
include hg in
theorem V_g : V m c main_v0 = (Cv (u3 fun _ _ j => g j) : F32 S1x1x1024) := by
  show StableHlo.after hostOps0 (fun b => m (c, b)) (Proc.tc.devRef main_v0) = _
  unfold_abbrev_sides
  after_results
  rw [hg c]; exact congrArg Cv (cast1_3 g _)
/-- Row `r` of block `t`. -/
def rowAt (r : Fin 1024) : Fin 8192 := ⟨t.val * 1024 + r.val, by have := lt_of_lt_of_eq t.isLt N_0; omega⟩
include hX in
theorem blk0 : (iblk m c 0 t : F32 S1024x1024) = (Cv (u2 fun r j => X (rowAt t r) j) : F32 S1024x1024) := by
  refine funext fun (y : S1024x1024.Idx) => ?_
  unfold iblk
  rw [show V m c (Pipeline.arrRef spec0 0) = _ from V_x m X hX c]
  refine congrArg Real.toEReal (congrArg₂ X (Fin.ext ?_) (Fin.ext ?_)) <;> blk_simp [idx t] <;> simp only [rowAt] <;> omega
include hT in
theorem blk2 : (iblk m c 2 t : F32 S1024x1024) = (Cv (u2 fun r j => T 0 (rowAt t r) j) : F32 S1024x1024) := by
  refine funext fun (y : S1024x1024.Idx) => ?_
  unfold iblk
  rw [show V m c (Pipeline.arrRef spec0 2) = _ from V_t m T hT c]
  refine congrArg Real.toEReal (congrArg₂ (T 0) (Fin.ext ?_) (Fin.ext ?_)) <;> blk_simp [idx t] <;> simp only [rowAt] <;> omega
include hg in
theorem blk1 : (iblk m c 1 t : F32 S1x1x1024) = (Cv (u3 fun _ _ j => g j) : F32 S1x1x1024) := by
  refine funext fun (y : S1x1x1024.Idx) => ?_
  unfold iblk
  rw [show V m c (Pipeline.arrRef spec0 1) = _ from V_g m g hg c]
  refine congrArg Real.toEReal (congrArg g (Fin.ext ?_))
  blk_simp [idx t]
include hX hg hT in
theorem final3 : (dats m 0 c).arrAt 3 (cfgs 0).N = (Cv (u2 (dH X g (T 0))) : F32 S8192x1024) := by
  refine (dats m 0 c).arrAt_eq_of_covers 3 _ (by decide +kernel) fun t hf y => ?_
  blk_simp
  rw [after0_3]
  have e : (outsAt0 m c t.val t.isLt).1 = (Cv (u2 fun r j => dH X g (T 0) (rowAt t r) j) : F32 S1024x1024) := by
    refine funext fun (y : S1024x1024.Idx) => ?_
    by_cases h : t.val % 8 = 0
    · rw [outsAt0_A m c t h]; frame_out
      rw [blk0 m X hX, blk1 m g hg, blk2 m T hT, pay9]; rfl
    · rw [outsAt0_B m c t h]; frame_out
      rw [blk0 m X hX, blk1 m g hg, blk2 m T hT, pay9]; rfl
  rw [e]
  refine congrArg Real.toEReal (congrArg₂ (dH X g (T 0)) (Fin.ext ?_) (Fin.ext ?_)) <;> blk_simp [idx t] <;> simp only [rowAt] <;> omega
/-- What block `t` adds to the gradient of the scale, by its eight groups of rows. -/
def part4 (k : Fin 8) (j : Fin 1024) : ℝ :=
  ∑ i : Fin 128, errRow (X (rowAt t (row8 i k))) g (T 0 (rowAt t (row8 i k))) j * (1 / 1024) * (X (rowAt t (row8 i k)) j * rho (X (rowAt t (row8 i k))))
def part5 (k : Fin 8) (l : Fin 128) : ℝ :=
  (∑ q : Fin 8, ∑ i : Fin 128, errRow (X (rowAt t (row8 i k))) g (T 0 (rowAt t (row8 i k))) ⟨q.val * 128 + l.val, by omega⟩ * errRow (X (rowAt t (row8 i k))) g (T 0 (rowAt t (row8 i k))) ⟨q.val * 128 + l.val, by omega⟩) * (1 / 2048)
theorem pay3 (A : Fin 8 → Fin 1024 → ℝ) (B : F32 S8x1024) (y : S8x1024.Idx) :
    k0_pay3 (F := Ideal) (Cv (φ := .f32) (u2 A)) B y = B y + ((A (y 0) (y 1) : ℝ) : EReal) := by
  dsimp only [k0_pay3]
  rw [cast_same]; rfl
theorem pay1 : k0_pay1 (F := Ideal) = Cv (u2 fun _ _ => 0) := by
  funext y; exact Ideal.ofBits_zero_f32
theorem pay2 : k0_pay2 (F := Ideal) = Cv (u2 fun _ _ => 0) := by
  funext y; exact Ideal.ofBits_zero_f32
include hX hg hT in
theorem final4 : (dats m 0 c).arrAt 4 (cfgs 0).N = (Cv (u2 fun k j => ∑ t : Fin cfg0.N, part4 X g T t k j) : F32 S8x1024) := by
  refine (dats m 0 c).arrAt_eq_of_after_last 4 t0_7 (by decide +kernel) _ fun j => ?_
  blk_simp
  rw [after0_4, Pipeline.eq_sum_fin_of_reset_step_apply_last (fun n h => (outsAt0 m c n h).2.1) 8 (fun _ => 0)
    (fun t j => ((part4 X g T t (j 0) (j 1) : ℝ) : EReal))
    (fun t h j => by
      rw [outsAt0_A m c t h]; frame_out
      rw [blk0 m X hX, blk1 m g hg, blk2 m T hT, pay10, pay3, pay1]; rfl)
    (fun t h j => by
      rw [outsAt0_B m c t h]; frame_out
      rw [blk0 m X hX, blk1 m g hg, blk2 m T hT, pay10, pay3]; rfl)
    (le_of_eq N_0) t0_7 rfl j]
  exact (zero_add (M := EReal) _).trans (coe_sum _ _).symm
include hX hg hT in
theorem final5 : (dats m 0 c).arrAt 5 (cfgs 0).N = (Cv (u2 fun k j => ∑ t : Fin cfg0.N, part5 X g T t k j) : F32 S8x128) := by
  refine (dats m 0 c).arrAt_eq_of_after_last 5 t0_7 (by decide +kernel) _ fun j => ?_
  blk_simp
  rw [after0_5, Pipeline.eq_sum_fin_of_reset_step_apply_last (fun n h => (outsAt0 m c n h).2.2) 8 (fun _ => 0)
    (fun t j => ((part5 X g T t (j 0) (j 1) : ℝ) : EReal))
    (fun t h j => by
      rw [outsAt0_A m c t h]; frame_out
      rw [blk0 m X hX, blk1 m g hg, blk2 m T hT, pay11, pay4, pay2]; rfl)
    (fun t h j => by
      rw [outsAt0_B m c t h]; frame_out
      rw [blk0 m X hX, blk1 m g hg, blk2 m T hT, pay11, pay4]; rfl)
    (le_of_eq N_0) t0_7 rfl j]
  exact (zero_add (M := EReal) _).trans (coe_sum _ _).symm

theorem arrs_inj : Function.Injective (Pipeline.arrRef (cfgs 0).spec) := (by decide +kernel : Function.Injective (Pipeline.arrRef spec0))
theorem sum_rows (F : Fin 8192 → ℝ) : ∑ r, F r = ∑ t : Fin cfg0.N, ∑ i : Fin 128, ∑ k : Fin 8, F (rowAt t (row8 i k)) := by
  refine (Fin.sum_univ_tiles 8 1024 rfl F).trans ?_
  refine Fintype.sum_equiv (finCongr N_0.symm) _ _ fun t => ?_
  refine (Fin.sum_univ_tiles 128 8 rfl _).trans ?_
  rfl
theorem loss_eq : ∑ k : Fin 8, ∑ l : Fin 128, ∑ t : Fin cfg0.N, part5 X g T t k l = lossOf X g (T 0) := by
  simp only [lossOf, sum_rows, part5, ← Finset.sum_mul, ← Finset.sum_div]
  have h (t : Fin cfg0.N) (i : Fin 128) (k : Fin 8) : (∑ j, errRow (X (rowAt t (row8 i k))) g (T 0 (rowAt t (row8 i k))) j * errRow (X (rowAt t (row8 i k))) g (T 0 (rowAt t (row8 i k))) j)
      = ∑ q : Fin 8, ∑ l : Fin 128, errRow (X (rowAt t (row8 i k))) g (T 0 (rowAt t (row8 i k))) ⟨q.val * 128 + l.val, by omega⟩ * errRow (X (rowAt t (row8 i k))) g (T 0 (rowAt t (row8 i k))) ⟨q.val * 128 + l.val, by omega⟩ :=
    Fin.sum_univ_tiles 8 128 rfl _
  simp only [h]
  have e : ∀ G : Fin cfg0.N → Fin 128 → Fin 8 → Fin 8 → Fin 128 → ℝ, ∑ k, ∑ l, ∑ t, ∑ q, ∑ i, G t i k q l = ∑ t, ∑ i, ∑ k, ∑ q, ∑ l, G t i k q l := fun G => by
    calc ∑ k, ∑ l, ∑ t, ∑ q, ∑ i, G t i k q l = ∑ k, ∑ t, ∑ l, ∑ q, ∑ i, G t i k q l := Finset.sum_congr rfl fun _ _ => Finset.sum_comm
      _ = ∑ t, ∑ k, ∑ l, ∑ q, ∑ i, G t i k q l := Finset.sum_comm
      _ = _ := Finset.sum_congr rfl fun t _ => by
        calc ∑ k, ∑ l, ∑ q, ∑ i, G t i k q l = ∑ k, ∑ i, ∑ q, ∑ l, G t i k q l := Finset.sum_congr rfl fun k _ => by
              calc ∑ l, ∑ q, ∑ i, G t i k q l = ∑ l, ∑ i, ∑ q, G t i k q l := Finset.sum_congr rfl fun _ _ => Finset.sum_comm
                _ = ∑ i, ∑ l, ∑ q, G t i k q l := Finset.sum_comm
                _ = _ := Finset.sum_congr rfl fun _ _ => Finset.sum_comm
          _ = _ := Finset.sum_comm
  rw [e (fun t i k q l => errRow (X (rowAt t (row8 i k))) g (T 0 (rowAt t (row8 i k))) ⟨q.val * 128 + l.val, by omega⟩ * errRow (X (rowAt t (row8 i k))) g (T 0 (rowAt t (row8 i k))) ⟨q.val * 128 + l.val, by omega⟩)]
  ring
theorem dG_eq (j : Fin 1024) : ∑ k : Fin 8, ∑ t : Fin cfg0.N, part4 X g T t k j = dG X g (T 0) j := by
  simp only [dG, sum_rows, part4]
  rw [Finset.sum_comm]
  exact Finset.sum_congr rfl fun t _ => Finset.sum_comm
include hX hg hT in
theorem runK (ρ : Dev nD → PrngReg) : θ_run defs (onTc (τ := τ) (main (F := Ideal))) ⟨m, fun _ => 0, ρ⟩ fun r => ∀ c : Dev nD,
      r.2.mem ((c.tc : Thread nD τ).loc main_v3) = (Cv (u0 (lossOf X g (T 0))) : F32 S_)
      ∧ r.2.mem ((c.tc : Thread nD τ).loc main_v2_0) = (Cv (u2 (dH X g (T 0))) : F32 S8192x1024)
      ∧ r.2.mem ((c.tc : Thread nD τ).loc main_v4) = (Cv (u1 (dG X g (T 0))) : F32 S1024) := by
  refine (θ_run defs _ _).mono (fun r h c => ⟨((h c).2 main_v3 (by decide)).trans ?_, ((h c).1 3).trans (final3 m X g T hX hg hT c), ((h c).2 main_v4 (by decide)).trans ?_⟩) (run_main m ρ)
  · unfold Pipeline.afterTail₀
    show StableHlo.after hostOps1 _ (Proc.tc.devRef main_v3) = _
    unfold_abbrev_sides
    after_results
    rw [show Pipeline.withArrays _ _ _ _ (Proc.tc.devRef main_v2_2) = _ from (Pipeline.withArrays_arr (cfgs 0).spec arrs_inj c _ _ 5).trans (final5 m X g T hX hg hT c)]
    refine (reduceAdd_Cv _ _ _ _ Ideal.ofBits_zero_f32).trans (congrArg Cv ?_)
    rw [rsum2_01 _ rfl, loss_eq]
  · unfold Pipeline.afterTail₀
    show StableHlo.after hostOps1 _ (Proc.tc.devRef main_v4) = _
    unfold_abbrev_sides
    after_results
    rw [show Pipeline.withArrays _ _ _ _ (Proc.tc.devRef main_v2_1) = _ from (Pipeline.withArrays_arr (cfgs 0).spec arrs_inj c _ _ 4).trans (final4 m X g T hX hg hT c)]
    refine (reduceAdd_Cv _ _ _ _ Ideal.ofBits_zero_f32).trans (congrArg Cv ?_)
    rw [rsum2_0 _ rfl]
    exact congrArg u1 (funext fun j => dG_eq X g T j)
end
end Cert.KernelIdeal.Value
-- ==== Proof.FinalClaim.lean ====
module

public import proofs.«01_k».proof.Defs
public import proofs.«01_k».proof.Proof.Gen.Kernel.Frame
public import proofs.«01_k».proof.Proof.FinalRef
public import proofs.«01_k».proof.Proof.FinalKernel
public import Idealize.ShloMosaic.Lib.Claim

@[expose] public section

/-! The claims of the last norm and loss, put together. -/

set_option maxRecDepth 16384
noncomputable section
namespace Cert.Final
open Idealize.ShloMosaic Idealize.ShloMosaic.TcCoe Idealize.SL.Sem Cert.Lift

instance : Cert.Pre_finite.Facts where
  bcast_S_S8192x1024 := by decide
  bcast_S_S1024 := by decide
  bcast_S_S1x8192x1024 := by decide

theorem frame_R (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2.2, sem_eq_zero_of_no_sems (by decide) r.2⟩) (Cert.ReferenceIdeal.Value.run m g)

/-- Both programs return the loss, its gradient in the activations and its gradient in the weights. -/
theorem value : algebraic_KernelIdeal_ReferenceIdeal_pre_finite := by
  intro m g m' g' hpre hm
  obtain ⟨h0, h1, h2⟩ := hpre 0
  obtain ⟨X, hX⟩ := exists_u2 (a := 8192) (b := 1024) (fun i => (m ((0 : Dev 1).tc.loc Cert.KernelIdeal.main_arg0) i).toReal)
  obtain ⟨G, hG⟩ := exists_u1 (a := 1024) (fun i => (m ((0 : Dev 1).tc.loc Cert.KernelIdeal.main_arg1) i).toReal)
  obtain ⟨T, hT⟩ := exists_u3 (a := 1) (b := 8192) (c := 1024) (fun i => (m ((0 : Dev 1).tc.loc Cert.KernelIdeal.main_arg2) i).toReal)
  have e0 := (finite_Cv _ h0).trans (congrArg Cv hX)
  have e1 := (finite_Cv _ h1).trans (congrArg Cv hG)
  have e2 := (finite_Cv _ h2).trans (congrArg Cv hT)
  have a0 : ∀ c : Dev Cert.KernelIdeal.nD, m (c.tc.loc Cert.KernelIdeal.main_arg0) = (Cv (u2 X) : FVec Ideal Cert.KernelIdeal.S8192x1024 .f32) := fun c => by
    obtain rfl : c = 0 := Subsingleton.elim (α := Fin 1) c 0
    exact e0
  have a1 : ∀ c : Dev Cert.KernelIdeal.nD, m (c.tc.loc Cert.KernelIdeal.main_arg1) = (Cv (u1 G) : FVec Ideal Cert.KernelIdeal.S1024 .f32) := fun c => by
    obtain rfl : c = 0 := Subsingleton.elim (α := Fin 1) c 0
    exact e1
  have a2 : ∀ c : Dev Cert.KernelIdeal.nD, m (c.tc.loc Cert.KernelIdeal.main_arg2) = (Cv (u3 T) : FVec Ideal Cert.KernelIdeal.S1x8192x1024 .f32) := fun c => by
    obtain rfl : c = 0 := Subsingleton.elim (α := Fin 1) c 0
    exact e2
  refine ⟨fun _ => (Cv (u0 (lossOf X G (T 0))) : FVec Ideal Cert.KernelIdeal.S_ .f32), fun _ => (Cv (u2 (dH X G (T 0))) : FVec Ideal Cert.KernelIdeal.S8192x1024 .f32),
    fun _ => (Cv (u1 (dG X G (T 0))) : FVec Ideal Cert.KernelIdeal.S1024 .f32), ?_, ?_⟩
  · exact (θ_run _ _ _).mono (fun r h c => ⟨(h.1 c).1, (h.1 c).2.1, (h.1 c).2.2, h.2 c⟩)
      (θ_run_and (Cert.KernelIdeal.Value.runK m X G T a0 a1 a2 g) (Cert.KernelIdeal.Gen.unchanged m g))
  · exact (θ_run _ _ _).mono (fun r h c => ⟨(h.1 c).1, (h.1 c).2.1, (h.1 c).2.2, h.2.1 c⟩)
      (θ_run_and (Cert.ReferenceIdeal.Value.runR m' g' X G T (fun c => (hm c).1.trans (a0 c)) (fun c => (hm c).2.1.trans (a1 c)) (fun c => (hm c).2.2.trans (a2 c))) (frame_R m' g'))

end Cert.Final
-- ==== Proof.PleSpec.lean ====
module

public import proofs.«01_k».proof.Proof.Shapes

@[expose] public section

/-! The gradients of the per-layer embedding block over the reals: what both programs compute. A row `x` is normalised and
    scaled by `g`, a gate is the logistic function of its product with `Wg`, and the block adds the gate times the
    embedding's product `p Wp` to the row. `d` is the cotangent of the block's result. -/

noncomputable section
namespace Cert.Lift
open Idealize.ShloMosaic Idealize.ShloMosaic.TcCoe

namespace Ple
/-- Column `j` of the `q`-th group of 256. -/
def col (q : Fin 4) (j : Fin 256) : Fin 1024 := ⟨q.val * 256 + j.val, by omega⟩
theorem proj_concat {n : ℕ} (P : Fin n → Fin 256 → ℝ) (W : Fin 256 → Fin 1024 → ℝ) (h) :
    concatenate ⟨2, ![n, 1024]⟩ 1 [⟨⟨2, ![n, 256]⟩, (Cv (u2 fun i j => ∑ k, P i k * W k (col 0 j)) : FVec Ideal _ .f32)⟩,
      ⟨⟨2, ![n, 256]⟩, (Cv (u2 fun i j => ∑ k, P i k * W k (col 1 j)) : FVec Ideal _ .f32)⟩,
      ⟨⟨2, ![n, 256]⟩, (Cv (u2 fun i j => ∑ k, P i k * W k (col 2 j)) : FVec Ideal _ .f32)⟩,
      ⟨⟨2, ![n, 256]⟩, (Cv (u2 fun i j => ∑ k, P i k * W k (col 3 j)) : FVec Ideal _ .f32)⟩] h
      = (Cv (u2 fun i j => ∑ k, P i k * W k j) : FVec Ideal _ .f32) := by
  refine (concat4 (fun q i j => ∑ k, P i k * W k (col q j)) rfl (by norm_num) h).trans ?_
  refine congrArg Cv (congrArg u2 (funext fun i => funext fun j => Finset.sum_congr rfl fun k _ => ?_))
  rw [show col ⟨j.val / 256, div_lt rfl (by norm_num) j⟩ ⟨j.val % 256, Nat.mod_lt _ (by norm_num)⟩ = j from Fin.ext (Nat.div_add_mod' _ _)]
theorem wp_congr (Wp : Fin 256 → Fin 1024 → ℝ) {q q' : Fin 4} {k k' j j' : Fin 256} (hq : q = q') (hk : k = k') (hj : j = j') : Wp k (col q j) = Wp k' (col q' j') := by
  subst hq hk hj; rfl
/-- The block's result, row by row. -/
def out (g : Fin 1024 → ℝ) (Wg : Fin 1024 → Fin 1024 → ℝ) (Wp : Fin 256 → Fin 1024 → ℝ) {n : ℕ} (X : Fin n → Fin 1024 → ℝ) (P : Fin n → Fin 256 → ℝ) (r : Fin n) (j : Fin 1024) : ℝ :=
  X r j + sig (∑ k, nrm (X r) g k * Wg k j) * ∑ k, P r k * Wp k j
section
variable (g : Fin 1024 → ℝ) (Wg : Fin 1024 → Fin 1024 → ℝ) (Wp : Fin 256 → Fin 1024 → ℝ)
variable (d x : Fin 1024 → ℝ) (p : Fin 256 → ℝ)
def gate (j : Fin 1024) : ℝ := sig (∑ k, nrm x g k * Wg k j)
def proj (j : Fin 1024) : ℝ := ∑ k, p k * Wp k j
/-- The cotangent of the projected embedding, -/
def dproj (j : Fin 1024) : ℝ := d j * gate g Wg x j
/-- of the gate's argument, -/
def dpre (j : Fin 1024) : ℝ := d j * proj Wp p j * gate g Wg x j * (1 - gate g Wg x j)
/-- of the normalised and scaled row, -/
def dxn (j : Fin 1024) : ℝ := ∑ k, dpre g Wg Wp d x p k * Wg j k
/-- and of the row. -/
def dx (j : Fin 1024) : ℝ := d j + rmsBwd x (fun j => dxn g Wg Wp d x p j * g j) j
end
section
variable {n : ℕ} (g : Fin 1024 → ℝ) (Wg : Fin 1024 → Fin 1024 → ℝ) (Wp : Fin 256 → Fin 1024 → ℝ)
variable (D X : Fin n → Fin 1024 → ℝ) (P : Fin n → Fin 256 → ℝ)
def dH (r : Fin n) (j : Fin 1024) : ℝ := dx g Wg Wp (D r) (X r) (P r) j
def dG (j : Fin 1024) : ℝ := ∑ r, dxn g Wg Wp (D r) (X r) (P r) j * (X r j * rho (X r))
def dWg (i j : Fin 1024) : ℝ := ∑ r, nrm (X r) g i * dpre g Wg Wp (D r) (X r) (P r) j
def dWp (i : Fin 256) (j : Fin 1024) : ℝ := ∑ r, P r i * dproj g Wg (D r) (X r) j
end
end Ple
end Cert.Lift
-- ==== Proof.PleRef.lean ====
module

public import proofs.«01_k».proof.Proof.Gen.PleRefIdeal.Run
public import proofs.«01_k».proof.Proof.Gen.PleRefIdeal
public import Idealize.ShloMosaic.Lib.Pipeline.ValueKit
public import proofs.«01_k».proof.Proof.PleSpec
public import proofs.«01_k».proof.Proof.HostRef

@[expose] public section

/-! The reference of the embedding block: its gradients as real functions of real arguments. -/

set_option maxRecDepth 16384
noncomputable section
namespace Cert.PleRefIdeal.Value
open Cert.PleRefIdeal Cert.PleRefIdeal.Gen Idealize.ShloMosaic Idealize.ShloMosaic.TcCoe Idealize.SL.Sem Idealize.ShloMosaic.StableHlo
local notation "F32 " s:max => FVec Ideal s FTy.f32
open Cert.Lift
variable (m : (ℓ : Loc nD τ sig) → Buf (Elt Ideal) ℓ)

theorem ty0 (c : Dev nD) : ((c.tc : Thread nD τ).loc main_arg0).ty = ⟨S8192x1024, .f32⟩ := rfl
theorem ty1 (c : Dev nD) : ((c.tc : Thread nD τ).loc main_arg1).ty = ⟨S8192x1024, .f32⟩ := rfl
theorem ty2 (c : Dev nD) : ((c.tc : Thread nD τ).loc main_arg2).ty = ⟨S1024, .f32⟩ := rfl
theorem ty3 (c : Dev nD) : ((c.tc : Thread nD τ).loc main_arg3).ty = ⟨S8192x256, .f32⟩ := rfl
theorem ty4 (c : Dev nD) : ((c.tc : Thread nD τ).loc main_arg4).ty = ⟨S1024x1024, .f32⟩ := rfl
theorem ty5 (c : Dev nD) : ((c.tc : Thread nD τ).loc main_arg5).ty = ⟨S256x1024, .f32⟩ := rfl
theorem ty6 (c : Dev nD) : ((c.tc : Thread nD τ).loc main_v58).ty = ⟨S8192x1024, .f32⟩ := rfl

theorem dpre_eq (g : Fin 1024 → ℝ) (Wg : Fin 1024 → Fin 1024 → ℝ) (Wp : Fin 256 → Fin 1024 → ℝ) (d x : Fin 1024 → ℝ) (p : Fin 256 → ℝ) (k : Fin 1024) :
    Ple.dpre g Wg Wp d x p k = (d k * ∑ l, p l * Wp l k) * (Lift.sig (∑ l, x l * rho x * g l * Wg l k) * (1 - Lift.sig (∑ l, x l * rho x * g l * Wg l k))) :=
  mul_assoc _ _ _
set_option maxHeartbeats 4000000
theorem runR (ρ : Dev nD → PrngReg)
   (D X : Fin 8192 → Fin 1024 → ℝ) (g : Fin 1024 → ℝ) (P : Fin 8192 → Fin 256 → ℝ) (Wg : Fin 1024 → Fin 1024 → ℝ) (Wp : Fin 256 → Fin 1024 → ℝ)
   (hD : ∀ (c : Dev nD), m ((c.tc : Thread nD τ).loc main_arg0) = (Cv (u2 D) : F32 S8192x1024))
   (hX : ∀ (c : Dev nD), m ((c.tc : Thread nD τ).loc main_arg1) = (Cv (u2 X) : F32 S8192x1024))
   (hg : ∀ (c : Dev nD), m ((c.tc : Thread nD τ).loc main_arg2) = (Cv (u1 g) : F32 S1024))
   (hP : ∀ (c : Dev nD), m ((c.tc : Thread nD τ).loc main_arg3) = (Cv (u2 P) : F32 S8192x256))
   (hWg : ∀ (c : Dev nD), m ((c.tc : Thread nD τ).loc main_arg4) = (Cv (u2 Wg) : F32 S1024x1024))
   (hWp : ∀ (c : Dev nD), m ((c.tc : Thread nD τ).loc main_arg5) = (Cv (u2 Wp) : F32 S256x1024)) :
    θ_run defs (onTc (τ := τ) (main (F := Ideal))) ⟨m, fun _ => 0, ρ⟩ fun r => ∀ c : Dev nD,
      r.2.mem ((c.tc : Thread nD τ).loc main_v58) = (Cv (u2 (Ple.dH g Wg Wp D X P)) : F32 S8192x1024)
      ∧ r.2.mem ((c.tc : Thread nD τ).loc main_v43) = (Cv (u1 (Ple.dG g Wg Wp D X P)) : F32 S1024)
      ∧ r.2.mem ((c.tc : Thread nD τ).loc main_v36) = (Cv (u2 (Ple.dWg g Wg Wp D X P)) : F32 S1024x1024)
      ∧ r.2.mem ((c.tc : Thread nD τ).loc main_v33) = (Cv (u2 (Ple.dWp g Wg D X P)) : F32 S256x1024) := by
  refine (θ_run defs _ _).mono (fun r h c => ⟨(h c).1.trans ?_, (h c).2.1.trans ?_, (h c).2.2.1.trans ?_, (h c).2.2.2.1.trans ?_⟩) (run m ρ)
  on_goal 1 => clear h; unfold res_main_v58; rw [hD, hX, hg, hP, hWg, hWp]
  on_goal 2 => clear h; rw [hD, hX, hg, hP, hWg, hWp]
  on_goal 3 => clear h; rw [hD, hX, hg, hP, hWg, hWp]
  on_goal 4 => clear h; rw [hD, hX, hg, hP, hWg]
  all_goals
    dsimp only [ty0, ty1, ty2, ty3, ty4, ty5, ty6, S8192x1024, S8192x1, S1x1024, S8192, S1024, S_, S8192x256, S1024x256, S256x1024, S1024x1024]
    simp (disch := first | rfl | decide | norm_num1) only [k1024, keps, kneghalf, kone, kzero, mulf_Cv, addf_Cv, subf_Cv, negf_Cv, u2_neg, reduceAdd_Cv0, broadcastInDim_Cv, shapeCast_Cv, bcast0_1, bcast0_2, bcast1_2_0, bcast1_2_1, bcast2_row, bcast2_col,
      cast1_col, cast1_row, cast2_same, rsum1, rsum2_1, rsum2_0, u1_mul, u2_mul, u2_add, u2_sub, rsqrt_ms2, div_ms2, hdivf2, hexp2, hsig2, transpose_Cv, trans2, hdot_Cv, rdot_nn, rdot_nt, rdot_tn]
  · refine congrArg Cv (congrArg u2 (funext fun i => funext fun j => ?_))
    refine (rms_chain (X i) (fun j => (∑ k, (D i k * ∑ l, P i l * Wp l k) * (Lift.sig (∑ l, X i l * rho (X i) * g l * Wg l k) * (1 - Lift.sig (∑ l, X i l * rho (X i) * g l * Wg l k))) * Wg j k) * g j) (D i j) j).trans ?_
    simp only [Ple.dH, Ple.dx, Ple.dxn, dpre_eq]
  · refine congrArg Cv (congrArg u1 (funext fun j => ?_))
    rw [Fin.sum_univ_one]
    simp only [Ple.dG, Ple.dxn, dpre_eq, mul_comm]
  · refine congrArg Cv (congrArg u2 (funext fun i => funext fun j => Finset.sum_congr rfl fun k _ => ?_))
    simp only [dpre_eq, nrm, mul_comm]
  · refine congrArg Cv (congrArg u2 (funext fun i => funext fun j => Finset.sum_congr rfl fun k _ => ?_))
    simp only [Ple.dproj, Ple.gate, nrm]
    ring
end Cert.PleRefIdeal.Value
-- ==== Proof.PleKernel.lean ====
module

public import proofs.«01_k».proof.Proof.Gen.PleIdeal.Frame
public import proofs.«01_k».proof.Proof.PleSpec
public import Idealize.ShloMosaic.Lib.Pipeline.ValueKit
public import Idealize.ShloMosaic.Lib.Pipeline.ReadBack

@[expose] public section

/-! The kernel of the embedding block's gradients: one block of 512 rows per grid point writes its rows of the gradient and
    adds its parts of the gradients of the two weights and of the scale. -/

set_option maxRecDepth 16384
noncomputable section
namespace Cert.PleIdeal.Value
open Idealize.ShloMosaic Idealize.ShloMosaic.TcCoe Idealize.SL.Sem Cert.Lift
local notation "F32 " s:max => FVec Ideal s FTy.f32
local notation "B16 " s:max => FVec Ideal s FTy.bf16
open Idealize.ShloMosaic.Pipeline (Dat)
open Cert.PleIdeal Cert.PleIdeal.Gen
open Cert.Lift.Ple (col proj_concat wp_congr)
variable (m : (ℓ : Loc nD τ sig) → Buf (Elt Ideal) ℓ)

/-! ## The body's results on real blocks -/
section
variable (X D : Fin 512 → Fin 1024 → ℝ) (g : Fin 1024 → ℝ) (P : Fin 512 → Fin 256 → ℝ) (Wg : Fin 1024 → Fin 1024 → ℝ) (Wp : Fin 256 → Fin 1024 → ℝ)
theorem pay7 : k0_pay7 (F := Ideal) (Cv (φ := .f32) (u2 X)) = Cv (u2 fun r _ => rho (X r)) := by
  dsimp only [k0_pay7, S512x1024, S512x1, S512]
  simp (disch := first | rfl | decide | norm_num1) only [splat2 c1024, splat2 ceps, mulf_Cv, u2_mul, mred2_1, shapeCast_Cv, cast1_col, divf2, addf_Cv, u2_add, ms_fold]
theorem pay8 : k0_pay8 (F := Ideal) (Cv (φ := .f32) (u2 X)) = Cv (u2 fun r j => X r j * rho (X r)) := by
  dsimp only [k0_pay8, S512x1024]
  rw [pay7]
  simp only [broadcastTo_Cv, bto_col, mulf_Cv, u2_mul]
theorem pay9 : k0_pay9 (F := Ideal) (Cv (φ := .f32) (u2 X)) (Cv (φ := .f32) (u3 fun _ _ => g)) = Cv (u2 fun r => nrm (X r) g) := by
  dsimp only [k0_pay9, S512x1024, S1x1024]
  rw [pay8]
  simp only [shapeCast_Cv, cast3_2', broadcastTo_Cv, bto_row, mulf_Cv, u2_mul, truncf_Cv]
  rfl
theorem pay10 : k0_pay10 (F := Ideal) (Cv (φ := .f32) (u2 X)) (Cv (φ := .f32) (u3 fun _ _ => g)) (Cv (φ := .bf16) (u3 fun _ => Wg)) = Cv (u2 fun r => Ple.gate g Wg (X r)) := by
  dsimp only [k0_pay10]
  rw [pay9]
  dsimp only [S512x1024, S1024x1024]
  simp (disch := first | rfl | decide | norm_num1) only [splat2 czero, splat2 cone, cast3_2h, matmul_Cv, rdot_nn, subf_Cv, u2_sub, zero_sub, exp2, addf_Cv, u2_add, sig2]
  rfl
theorem pay11 : k0_pay11 (F := Ideal) (Cv (φ := .f32) (u4 fun _ _ => P)) = Cv (u2 P) := by
  dsimp only [k0_pay11, S512x256]
  simp only [shapeCast_Cv, cast4_2, truncf_Cv]
theorem pay12 : k0_pay12 (F := Ideal) (Cv (φ := .f32) (u2 D)) (Cv (φ := .f32) (u2 fun r => Ple.gate g Wg (X r))) = Cv (u2 fun r => Ple.dproj g Wg (D r) (X r)) := by
  dsimp only [k0_pay12, S512x1024]
  simp only [mulf_Cv, u2_mul, truncf_Cv]
  rfl
theorem group (h) (q : Fin 4) : matmul (φ₁ := .bf16) (φ₂ := .bf16) dot_S512x256_S256x256_S512x256_1_0_0_1_n_n none (Cv (u2 P))
    (shapeCast ⟨2, ![256, 256]⟩ (Cv (φ := .bf16) (u4 fun (_ : Fin 1) (_ : Fin 1) k j => Wp k (col q j))) h) (constant ⟨2, ![512, 256]⟩ .f32 0#32)
    = Cv (u2 fun i j => ∑ k, P i k * Wp k (col q j)) := by
  simp (disch := first | rfl | decide) only [shapeCast_Cv, cast4_2, matmul_Cv, rdot_nn]
theorem pay13 : k0_pay13 (F := Ideal) (Cv (φ := .f32) (u2 D)) (Cv (φ := .f32) (u2 fun r => Ple.gate g Wg (X r))) (Cv (φ := .bf16) (u2 P))
    (Cv (φ := .bf16) (u4 fun _ _ k j => Wp k (col 0 j))) (Cv (φ := .bf16) (u4 fun _ _ k j => Wp k (col 1 j))) (Cv (φ := .bf16) (u4 fun _ _ k j => Wp k (col 2 j))) (Cv (φ := .bf16) (u4 fun _ _ k j => Wp k (col 3 j)))
    = Cv (u2 fun r => Ple.dpre g Wg Wp (D r) (X r) (P r)) := by
  dsimp only [k0_pay13, S512x1024, S512x256, S256x256, S1x1x256x256]
  rw [group P Wp _ 0, group P Wp _ 1, group P Wp _ 2, group P Wp _ 3]
  simp (disch := first | rfl | decide | norm_num1) only [splat2 cone, shapeCast_Cv, cast4_2, matmul_Cv, rdot_nn, proj_concat, mulf_Cv, u2_mul, subf_Cv, u2_sub, truncf_Cv]
  rfl
theorem pay1 (V : Fin 512 → Fin 1024 → ℝ) : k0_pay1 (F := Ideal) (Cv (φ := .bf16) (u2 V)) (Cv (φ := .bf16) (u3 fun _ => Wg)) = Cv (u2 fun r j => ∑ k, V r k * Wg j k) := by
  dsimp only [k0_pay1, S512x1024, S1024x1024]
  simp (disch := first | rfl | decide | norm_num1) only [cast3_2h, matmul_Cv, rdot_nt]
theorem pay20 : k0_pay20 (F := Ideal) (Cv (φ := .f32) (u3 fun _ _ => g)) = Cv (u2 fun _ => g) := by
  dsimp only [k0_pay20, S1x1024]
  simp only [shapeCast_Cv, cast3_2']
theorem pay2 : k0_pay2 (F := Ideal) (Cv (φ := .f32) (u2 D)) (Cv (φ := .f32) (u2 fun r _ => rho (X r))) (Cv (φ := .f32) (u2 fun r j => X r j * rho (X r)))
    (Cv (φ := .bf16) (u2 fun r => Ple.dpre g Wg Wp (D r) (X r) (P r))) (Cv (φ := .f32) (u2 fun _ => g)) (Cv (φ := .bf16) (u3 fun _ => Wg))
    = Cv (u2 (Ple.dH g Wg Wp D X P)) := by
  dsimp only [k0_pay2]
  rw [pay1]
  dsimp only [S512x1024, S512x1, S512, S1x1024]
  simp (disch := first | rfl | decide | norm_num1) only [splat2 c1024, shapeCast_Cv, cast1_col, broadcastTo_Cv, bto_row, bto_col, mulf_Cv, u2_mul, mred2_1, divf2, subf_Cv, u2_sub, addf_Cv, u2_add]
  rfl
/-- Row `8 i + k` of a block of 512 rows. -/
def row8 (i : Fin 64) (k : Fin 8) : Fin 512 := ⟨i.val * 8 + k.val, by omega⟩
theorem pay3 (B : F32 S8x1024) (y : S8x1024.Idx) : k0_pay3 (F := Ideal) (Cv (φ := .f32) (u2 fun r j => X r j * rho (X r)))
    (Cv (φ := .bf16) (u2 fun r => Ple.dpre g Wg Wp (D r) (X r) (P r))) (Cv (φ := .bf16) (u3 fun _ => Wg)) B y
    = B y + ((∑ i : Fin 64, Ple.dxn g Wg Wp (D (row8 i (y 0))) (X (row8 i (y 0))) (P (row8 i (y 0))) (y 1) * (X (row8 i (y 0)) (y 1) * rho (X (row8 i (y 0)))) : ℝ) : EReal) := by
  dsimp only [k0_pay3]
  rw [pay1, cast_same]
  dsimp only [S512x1024, S64x8x1024, S8x1024]
  simp (disch := first | rfl | decide | norm_num1) only [shapeCast_Cv, mulf_Cv, u2_mul, cast2_3, mred3_0]
  rfl
theorem pay14 (B : F32 S1024x1024) (y : S1024x1024.Idx) : k0_pay14 (F := Ideal) (Cv (φ := .f32) (u2 D)) (Cv (φ := .bf16) (u2 fun r => nrm (X r) g)) (Cv (φ := .f32) (u2 fun r => Ple.gate g Wg (X r))) (Cv (φ := .bf16) (u2 P))
    (Cv (φ := .bf16) (u4 fun _ _ k j => Wp k (col 0 j))) (Cv (φ := .bf16) (u4 fun _ _ k j => Wp k (col 1 j))) (Cv (φ := .bf16) (u4 fun _ _ k j => Wp k (col 2 j))) (Cv (φ := .bf16) (u4 fun _ _ k j => Wp k (col 3 j))) B y
    = B y + ((Ple.dWg g Wg Wp D X P (y 0) (y 1) : ℝ) : EReal) := by
  dsimp only [k0_pay14]
  rw [pay13, cast_same]
  dsimp only [S512x1024, S1024x1024]
  simp (disch := first | rfl | decide | norm_num1) only [matmul_Cv, rdot_tn]
  rfl
theorem part_dWp (V : Fin 512 → Fin 1024 → ℝ) (q : Fin 4) (o : Fin 2 → ℕ) (ho : o = ![0, q.val * 256]) (h) (h2) (B : F32 S1x256x256) (h3) (y : S1x256x256.Idx)
    (d : DotDims ⟨2, ![512, 256]⟩ ⟨2, ![512, 256]⟩ ⟨2, ![256, 256]⟩)
    (h1 : d.lhsContracting = [0]) (h2' : d.rhsContracting = [0]) (h3' : d.lhsNonContracting = [1])
    (h4 : d.rhsNonContracting = [1]) (h5 : d.lhsBatch = []) (h6 : d.rhsBatch = []) :
    shapeCast (⟨3, ![1, 256, 256]⟩ : Shape) (addf (shapeCast (⟨2, ![256, 256]⟩ : Shape) B h2 : F32 _) (matmul d none (Cv (u2 P) : B16 _) (extractStridedSlice ⟨2, ![512, 256]⟩ o (Cv (u2 V) : B16 ⟨2, ![512, 1024]⟩) h) (constant _ .f32 0#32))) h3 y
      = B y + ((∑ r, P r (y 1) * V r (col q (y 2)) : ℝ) : EReal) := by
  subst ho
  simp (disch := first | rfl | assumption | omega) only [slice_Cv, slice2, matmul_Cv, rdot_tn]
  obtain ⟨u, i, j, rfl⟩ : ∃ u i j, y = ValueIdx.ix3 u i j := ⟨y 0, y 1, y 2, ValueIdx.eq_ix3 y⟩
  obtain rfl : u = 0 := Subsingleton.elim _ _
  refine (ValueIdx.shapeCast_ab_1ab_apply _ h3 0 i j).trans ?_
  refine congrArg₂ (HAdd.hAdd (α := EReal)) ((ValueIdx.shapeCast_1ab_ab_apply _ h2 i j).trans rfl) rfl
end

theorem idx : ∀ t : Fin cfg0.N, win0_0.index t = ![t.val, 0] ∧ win0_1.index t = ![t.val, 0] ∧ win0_2.index t = ![0, 0, 0] ∧ win0_3.index t = ![0, 0, t.val, 0]
    ∧ win0_4.index t = ![0, 0, 0] ∧ win0_5.index t = ![0, 0, 0, 0] ∧ win0_6.index t = ![t.val, 0] :=
  (by decide +kernel : ∀ t : Fin grid0.N, win0_0.index t = ![t.val, 0] ∧ win0_1.index t = ![t.val, 0] ∧ win0_2.index t = ![0, 0, 0] ∧ win0_3.index t = ![0, 0, t.val, 0]
    ∧ win0_4.index t = ![0, 0, 0] ∧ win0_5.index t = ![0, 0, 0, 0] ∧ win0_6.index t = ![t.val, 0])

section
variable (D X : Fin 8192 → Fin 1024 → ℝ) (g : Fin 1024 → ℝ) (P : Fin 8192 → Fin 256 → ℝ) (Wg : Fin 1024 → Fin 1024 → ℝ) (Wp : Fin 256 → Fin 1024 → ℝ)
   (hD : ∀ (c : Dev nD), m ((c.tc : Thread nD τ).loc main_arg0) = (Cv (u2 D) : F32 S8192x1024))
   (hX : ∀ (c : Dev nD), m ((c.tc : Thread nD τ).loc main_arg1) = (Cv (u2 X) : F32 S8192x1024))
   (hg : ∀ (c : Dev nD), m ((c.tc : Thread nD τ).loc main_arg2) = (Cv (u1 g) : F32 S1024))
   (hP : ∀ (c : Dev nD), m ((c.tc : Thread nD τ).loc main_arg3) = (Cv (u2 P) : F32 S8192x256))
   (hWg : ∀ (c : Dev nD), m ((c.tc : Thread nD τ).loc main_arg4) = (Cv (u2 Wg) : F32 S1024x1024))
   (hWp : ∀ (c : Dev nD), m ((c.tc : Thread nD τ).loc main_arg5) = (Cv (u2 Wp) : F32 S256x1024))
   (c : Dev nD) (t : Fin cfg0.N)
include hD in
theorem V_d : V m c main_arg0 = (Cv (u2 D) : F32 S8192x1024) := by
  rw [V_main_arg0]; exact hD c
include hX in
theorem V_x : V m c main_arg1 = (Cv (u2 X) : F32 S8192x1024) := by
  rw [V_main_arg1]; exact hX c
include hg in
theorem V_g : V m c main_v6 = (Cv (u3 fun _ _ j => g j) : F32 S1x1x1024) := by
  show StableHlo.after hostOps0 (fun b => m (c, b)) (Proc.tc.devRef main_v6) = _
  unfold_abbrev_sides
  after_results
  rw [hg c]; exact congrArg Cv (cast1_3 g _)
include hP in
theorem V_p : V m c main_v7 = (Cv (u4 fun _ _ => P) : F32 S1x1x8192x256) := by
  show StableHlo.after hostOps0 (fun b => m (c, b)) (Proc.tc.devRef main_v7) = _
  unfold_abbrev_sides
  after_results
  rw [hP c]; exact congrArg Cv (cast2_4 P _)
include hWg in
theorem V_wg : V m c main_v1 = (Cv (u3 fun _ => Wg) : B16 S1x1024x1024) := by
  show StableHlo.after hostOps0 (fun b => m (c, b)) (Proc.tc.devRef main_v1) = _
  unfold_abbrev_sides
  after_results
  rw [hWg c]; exact congrArg Cv (cast2_3u Wg _)
include hWp in
theorem V_wp : V m c main_v5 = (Cv (u4 fun _ q k j => Wp k (col q j)) : B16 S1x4x256x256) := by
  show StableHlo.after hostOps0 (fun b => m (c, b)) (Proc.tc.devRef main_v5) = _
  unfold_abbrev_sides
  after_results
  rw [hWp c]
  refine (show _ = shapeCast S1x4x256x256 (transpose S4x256x256 [1, 0, 2] (shapeCast S256x4x256 (Cv (u2 Wp) : B16 S256x1024) shapeCasts_S256x1024_S256x4x256)
    transposes_S256x4x256_S4x256x256_1_0_2) shapeCasts_S4x256x256_S1x4x256x256 from rfl).trans ?_
  dsimp only [S256x1024, S256x4x256, S4x256x256, S1x4x256x256]
  simp (disch := first | rfl | decide) only [shapeCast_Cv, cast2_3c, transpose_Cv, trans3, cast3_4]
  rfl
/-- Row `r` of block `t`. -/
def rowAt (r : Fin 512) : Fin 8192 := ⟨t.val * 512 + r.val, by have := lt_of_lt_of_eq t.isLt N_0; omega⟩
include hD in
theorem blk0 : (iblk m c 0 t : F32 S512x1024) = (Cv (u2 fun r => D (rowAt t r)) : F32 S512x1024) := by
  refine funext fun (y : S512x1024.Idx) => ?_
  unfold iblk
  rw [show V m c (Pipeline.arrRef spec0 0) = _ from V_d m D hD c]
  refine congrArg Real.toEReal (congrArg₂ D (Fin.ext ?_) (Fin.ext ?_)) <;> blk_simp [idx t] <;> simp only [rowAt] <;> omega
include hX in
theorem blk1 : (iblk m c 1 t : F32 S512x1024) = (Cv (u2 fun r => X (rowAt t r)) : F32 S512x1024) := by
  refine funext fun (y : S512x1024.Idx) => ?_
  unfold iblk
  rw [show V m c (Pipeline.arrRef spec0 1) = _ from V_x m X hX c]
  refine congrArg Real.toEReal (congrArg₂ X (Fin.ext ?_) (Fin.ext ?_)) <;> blk_simp [idx t] <;> simp only [rowAt] <;> omega
include hg in
theorem blk2 : (iblk m c 2 t : F32 S1x1x1024) = (Cv (u3 fun _ _ => g) : F32 S1x1x1024) := by
  refine funext fun (y : S1x1x1024.Idx) => ?_
  unfold iblk
  rw [show V m c (Pipeline.arrRef spec0 2) = _ from V_g m g hg c]
  refine congrArg Real.toEReal (congrArg g (Fin.ext ?_))
  blk_simp [idx t]
include hP in
theorem blk3 : (iblk m c 3 t : F32 S1x1x512x256) = (Cv (u4 fun _ _ r => P (rowAt t r)) : F32 S1x1x512x256) := by
  refine funext fun (y : S1x1x512x256.Idx) => ?_
  unfold iblk
  rw [show V m c (Pipeline.arrRef spec0 3) = _ from V_p m P hP c]
  refine congrArg Real.toEReal (congrArg₂ P (Fin.ext ?_) (Fin.ext ?_)) <;> blk_simp [idx t] <;> simp only [rowAt] <;> omega
include hWg in
theorem blk4 : (iblk m c 4 t : B16 S1x1024x1024) = (Cv (u3 fun _ => Wg) : B16 S1x1024x1024) := by
  refine funext fun (y : S1x1024x1024.Idx) => ?_
  unfold iblk
  rw [show V m c (Pipeline.arrRef spec0 4) = _ from V_wg m Wg hWg c]
  refine congrArg Real.toEReal (congrArg₂ Wg (Fin.ext ?_) (Fin.ext ?_)) <;> blk_simp [idx t]
include hWp in
theorem blk5 : (iblk m c 5 t : B16 S1x4x256x256) = (Cv (u4 fun _ q k j => Wp k (col q j)) : B16 S1x4x256x256) := by
  refine funext fun (y : S1x4x256x256.Idx) => ?_
  unfold iblk
  rw [show V m c (Pipeline.arrRef spec0 5) = _ from V_wp m Wp hWp c]
  refine congrArg Real.toEReal (wp_congr Wp (Fin.ext ?_) (Fin.ext ?_) (Fin.ext ?_)) <;> blk_simp [idx t]
/-- The `q`-th group of columns of the block of projection weights. -/
theorem ld5 (q : Fin 4) (n : ℕ) (hn : n = q.val) (inb) : View.ld (Val := Elt Ideal) (e' := .bf16) (S := S1x4x256x256) (Cv (u4 fun _ q k j => Wp k (col q j)) : B16 S1x4x256x256) (Rect.unit (s := S1x4x256x256) ![0, n, 0, 0] ![1, 1, 256, 256] inb)
    = (Cv (u4 fun _ _ k j => Wp k (col q j)) : B16 S1x1x256x256) := by
  subst hn
  refine funext fun (y : S1x1x256x256.Idx) => ?_
  show (Cv (u4 fun _ q k j => Wp k (col q j)) : B16 S1x4x256x256) ((Rect.unit (s := S1x4x256x256) ![0, q.val, 0, 0] ![1, 1, 256, 256] inb).emb y) = _
  refine congrArg Real.toEReal (wp_congr Wp (Fin.ext ?_) (Fin.ext ?_) (Fin.ext ?_)) <;> blk_simp
include hD hX hg hP hWg hWp in
theorem final6 : (dats m 0 c).arrAt 6 (cfgs 0).N = (Cv (u2 (Ple.dH g Wg Wp D X P)) : F32 S8192x1024) := by
  refine (dats m 0 c).arrAt_eq_of_covers 6 _ (by decide +kernel) fun t hf y => ?_
  blk_simp
  rw [after0_6]
  have e : (outsAt0 m c t.val t.isLt).1 = (Cv (u2 fun r => Ple.dH g Wg Wp D X P (rowAt t r)) : F32 S512x1024) := by
    refine funext fun (y : S512x1024.Idx) => ?_
    by_cases h : t.val % 16 = 0
    · rw [outsAt0_A m c t h]; frame_out
      rw [blk0 m D hD, blk1 m X hX, blk2 m g hg, blk3 m P hP, blk4 m Wg hWg, blk5 m Wp hWp, ld5 Wp 0 0 rfl, ld5 Wp 1 1 rfl, ld5 Wp 2 2 rfl, ld5 Wp 3 3 rfl,
        pay10, pay11, pay13, pay20, pay7, pay8, pay2]; rfl
    · rw [outsAt0_B m c t h]; frame_out
      rw [blk0 m D hD, blk1 m X hX, blk2 m g hg, blk3 m P hP, blk4 m Wg hWg, blk5 m Wp hWp, ld5 Wp 0 0 rfl, ld5 Wp 1 1 rfl, ld5 Wp 2 2 rfl, ld5 Wp 3 3 rfl,
        pay10, pay11, pay13, pay20, pay7, pay8, pay2]; rfl
  rw [e]
  refine congrArg Real.toEReal (congrArg₂ (Ple.dH g Wg Wp D X P) (Fin.ext ?_) (Fin.ext ?_)) <;> blk_simp [idx t] <;> simp only [rowAt] <;> omega
/-- What block `t` adds to the gradients of the gate's weights, the projection's weights and the scale. -/
def part7 (i j : Fin 1024) : ℝ := Ple.dWg g Wg Wp (fun r => D (rowAt t r)) (fun r => X (rowAt t r)) (fun r => P (rowAt t r)) i j
def part8 (q : Fin 4) (k j : Fin 256) : ℝ := Ple.dWp g Wg (fun r => D (rowAt t r)) (fun r => X (rowAt t r)) (fun r => P (rowAt t r)) k (col q j)
def part9 (k : Fin 8) (j : Fin 1024) : ℝ :=
  ∑ i : Fin 64, Ple.dxn g Wg Wp (D (rowAt t (row8 i k))) (X (rowAt t (row8 i k))) (P (rowAt t (row8 i k))) j * (X (rowAt t (row8 i k)) j * rho (X (rowAt t (row8 i k))))
theorem pay4 : k0_pay4 (F := Ideal) = Cv (u2 fun _ _ => 0) := by
  funext y; exact Ideal.ofBits_zero_f32
theorem pay5 : k0_pay5 (F := Ideal) = Cv (u2 fun _ _ => 0) := by
  funext y; exact Ideal.ofBits_zero_f32
theorem pay6 : k0_pay6 (F := Ideal) = Cv (u3 fun _ _ _ => 0) := by
  funext y; exact Ideal.ofBits_zero_f32
include hD hX hg hP hWg hWp in
theorem final7 : (dats m 0 c).arrAt 7 (cfgs 0).N = (Cv (u2 fun i j => ∑ t : Fin cfg0.N, part7 D X g P Wg Wp t i j) : F32 S1024x1024) := by
  refine (dats m 0 c).arrAt_eq_of_after_last 7 t0_15 (by decide +kernel) _ fun j => ?_
  blk_simp
  rw [after0_7, Pipeline.eq_sum_fin_of_reset_step_apply_last (fun n h => (outsAt0 m c n h).2.1) 16 (fun _ => 0)
    (fun t j => ((part7 D X g P Wg Wp t (j 0) (j 1) : ℝ) : EReal))
    (fun t h j => by
      rw [outsAt0_A m c t h]; frame_out
      rw [blk0 m D hD, blk1 m X hX, blk2 m g hg, blk3 m P hP, blk4 m Wg hWg, blk5 m Wp hWp, ld5 Wp 0 0 rfl, ld5 Wp 1 1 rfl, ld5 Wp 2 2 rfl, ld5 Wp 3 3 rfl,
        pay9, pay10, pay11, pay14, pay5]; rfl)
    (fun t h j => by
      rw [outsAt0_B m c t h]; frame_out
      rw [blk0 m D hD, blk1 m X hX, blk2 m g hg, blk3 m P hP, blk4 m Wg hWg, blk5 m Wp hWp, ld5 Wp 0 0 rfl, ld5 Wp 1 1 rfl, ld5 Wp 2 2 rfl, ld5 Wp 3 3 rfl,
        pay9, pay10, pay11, pay14]; rfl)
    (le_of_eq N_0) t0_15 rfl j]
  exact (zero_add (M := EReal) _).trans (coe_sum _ _).symm
include hD hX hg hP hWg hWp in
theorem final9 : (dats m 0 c).arrAt 9 (cfgs 0).N = (Cv (u2 fun k j => ∑ t : Fin cfg0.N, part9 D X g P Wg Wp t k j) : F32 S8x1024) := by
  refine (dats m 0 c).arrAt_eq_of_after_last 9 t0_15 (by decide +kernel) _ fun j => ?_
  blk_simp
  rw [after0_9, Pipeline.eq_sum_fin_of_reset_step_apply_last (fun n h => (outsAt0 m c n h).2.2.2) 16 (fun _ => 0)
    (fun t j => ((part9 D X g P Wg Wp t (j 0) (j 1) : ℝ) : EReal))
    (fun t h j => by
      rw [outsAt0_A m c t h]; frame_out
      rw [blk0 m D hD, blk1 m X hX, blk2 m g hg, blk3 m P hP, blk4 m Wg hWg, blk5 m Wp hWp, ld5 Wp 0 0 rfl, ld5 Wp 1 1 rfl, ld5 Wp 2 2 rfl, ld5 Wp 3 3 rfl,
        pay10, pay11, pay13, pay8, pay3, pay4]; rfl)
    (fun t h j => by
      rw [outsAt0_B m c t h]; frame_out
      rw [blk0 m D hD, blk1 m X hX, blk2 m g hg, blk3 m P hP, blk4 m Wg hWg, blk5 m Wp hWp, ld5 Wp 0 0 rfl, ld5 Wp 1 1 rfl, ld5 Wp 2 2 rfl, ld5 Wp 3 3 rfl,
        pay10, pay11, pay13, pay8, pay3]; rfl)
    (le_of_eq N_0) t0_15 rfl j]
  exact (zero_add (M := EReal) _).trans (coe_sum _ _).symm
/-- The four products that block `t` adds to the groups of columns, in any array `B` read group by group, are `part8`. -/
theorem pieces (B : F32 S4x256x256) (V : Fin 512 → Fin 1024 → ℝ) (Q : Fin 512 → Fin 256 → ℝ) (q : ℕ) (hq : q < 4) (inb) (W : F32 S1x256x256)
    (hW : ∀ y : S1x256x256.Idx, W y = View.ld (Val := Elt Ideal) (e' := .f32) B (Rect.unit (s := S4x256x256) ![q, 0, 0] ![1, 256, 256] inb) y + ((∑ r, Q r (y 1) * V r (col ⟨q, hq⟩ (y 2)) : ℝ) : EReal)) (x : S1x256x256.Idx) :
    W x = (fun y : S4x256x256.Idx => B y + ((∑ r, Q r (y 1) * V r (col (y 0) (y 2)) : ℝ) : EReal)) ((Rect.unit (s := S4x256x256) ![q, 0, 0] ![1, 256, 256] inb).emb x) := by
  refine (hW x).trans (congrArg₂ (HAdd.hAdd (α := EReal)) rfl (congrArg Real.toEReal (Finset.sum_congr rfl fun r _ => congrArg₂ (HMul.hMul (α := ℝ)) (congrArg (Q r) (Fin.ext ?_)) (congrArg (V r) (congrArg₂ col (Fin.ext ?_) (Fin.ext ?_)))))) <;> blk_simp
/-- Four stores of groups of columns of one array, over any earlier stores, leave the array. -/
abbrev four (W0 W1 W2 W3 : F32 S1x256x256) (inb0 : ∀ a, (![0, 0, 0] : Fin 3 → ℕ) a + (![1, 256, 256] : Fin 3 → ℕ) a ≤ S4x256x256.size a) (inb1 : ∀ a, (![1, 0, 0] : Fin 3 → ℕ) a + (![1, 256, 256] : Fin 3 → ℕ) a ≤ S4x256x256.size a) (inb2 : ∀ a, (![2, 0, 0] : Fin 3 → ℕ) a + (![1, 256, 256] : Fin 3 → ℕ) a ≤ S4x256x256.size a) (inb3 : ∀ a, (![3, 0, 0] : Fin 3 → ℕ) a + (![1, 256, 256] : Fin 3 → ℕ) a ≤ S4x256x256.size a) : List (View.Piece (Elt Ideal) S4x256x256 .f32) :=
  [⟨Rect.unit (s := S4x256x256) ![3, 0, 0] ![1, 256, 256] inb3, W3⟩, ⟨Rect.unit (s := S4x256x256) ![2, 0, 0] ![1, 256, 256] inb2, W2⟩,
    ⟨Rect.unit (s := S4x256x256) ![1, 0, 0] ![1, 256, 256] inb1, W1⟩, ⟨Rect.unit (s := S4x256x256) ![0, 0, 0] ![1, 256, 256] inb0, W0⟩]
theorem canon4 (G : F32 S4x256x256) (W0 W1 W2 W3 : F32 S1x256x256) (L : List (View.Piece (Elt Ideal) S4x256x256 .f32)) (inb0 inb1 inb2 inb3)
    (h0 : ∀ x : S1x256x256.Idx, W0 x = G ((Rect.unit (s := S4x256x256) ![0, 0, 0] ![1, 256, 256] inb0).emb x))
    (h1 : ∀ x : S1x256x256.Idx, W1 x = G ((Rect.unit (s := S4x256x256) ![1, 0, 0] ![1, 256, 256] inb1).emb x))
    (h2 : ∀ x : S1x256x256.Idx, W2 x = G ((Rect.unit (s := S4x256x256) ![2, 0, 0] ![1, 256, 256] inb2).emb x))
    (h3 : ∀ x : S1x256x256.Idx, W3 x = G ((Rect.unit (s := S4x256x256) ![3, 0, 0] ![1, 256, 256] inb3).emb x)) (y : S4x256x256.Idx) :
    View.canon (four W0 W1 W2 W3 inb0 inb1 inb2 inb3 ++ L) y = G y := by
  have hp : View.PiecesOf (Val := Elt Ideal) (s := S4x256x256) (e := .f32) G (four W0 W1 W2 W3 inb0 inb1 inb2 inb3) := ⟨h3, h2, h1, h0, trivial⟩
  exact View.canon_append_of_piecesOf G L _ hp y (View.cover_of_tiledL (four W0 W1 W2 W3 inb0 inb1 inb2 inb3) ![1, 256, 256] (by sl_kernel_rfl) y)
include hD hX hg hP hWg hWp in
theorem out8_later (h : ¬ t.val % 16 = 0) (y : S4x256x256.Idx) :
    (outsAt0 m c t.val t.isLt).2.2.1 y = (outsAt0 m c (t.val - 1) (Nat.lt_of_le_of_lt (Nat.sub_le _ _) t.isLt)).2.2.1 y + ((part8 D X g P Wg t (y 0) (y 1) (y 2) : ℝ) : EReal) := by
  rw [outsAt0_B m c t h]; frame_out
  rw [blk0 m D hD, blk1 m X hX, blk2 m g hg, blk3 m P hP, blk4 m Wg hWg, pay10, pay11]
  generalize (outsAt0 m c (t.val - 1) _).2.2.1 = B
  refine (canon4 (fun y => B y + ((∑ r, P (rowAt t r) (y 1) * Ple.dproj g Wg (D (rowAt t r)) (X (rowAt t r)) (col (y 0) (y 2)) : ℝ) : EReal)) _ _ _ _ [] _ _ _ _
    (pieces B _ _ 0 (by decide) _ _ fun y => ?_) (pieces B _ _ 1 (by decide) _ _ fun y => ?_) (pieces B _ _ 2 (by decide) _ _ fun y => ?_) (pieces B _ _ 3 (by decide) _ _ fun y => ?_) y).trans rfl
  · dsimp only [k0_pay16, k0_pay15]
    rw [pay12]
    exact part_dWp _ _ 0 _ rfl _ _ _ _ y _ rfl rfl rfl rfl rfl rfl
  · rw [pay12]; exact part_dWp _ _ 1 _ rfl _ _ _ _ y _ rfl rfl rfl rfl rfl rfl
  · rw [pay12]; exact part_dWp _ _ 2 _ rfl _ _ _ _ y _ rfl rfl rfl rfl rfl rfl
  · rw [pay12]; exact part_dWp _ _ 3 _ rfl _ _ _ _ y _ rfl rfl rfl rfl rfl rfl
include hD hX hg hP hWg hWp in
theorem out8_first (h : t.val % 16 = 0) (y : S4x256x256.Idx) :
    (outsAt0 m c t.val t.isLt).2.2.1 y = 0 + ((part8 D X g P Wg t (y 0) (y 1) (y 2) : ℝ) : EReal) := by
  rw [outsAt0_A m c t h]; frame_out
  rw [blk0 m D hD, blk1 m X hX, blk2 m g hg, blk3 m P hP, blk4 m Wg hWg, pay10, pay11]
  simp (disch := first | rfl | decide) only [↓View.readCov_skip, ↓View.readCov_fill]
  rw [pay6]
  refine (canon4 (fun y => (Cv (u3 fun _ _ _ => 0) : F32 S4x256x256) y + ((∑ r, P (rowAt t r) (y 1) * Ple.dproj g Wg (D (rowAt t r)) (X (rowAt t r)) (col (y 0) (y 2)) : ℝ) : EReal)) _ _ _ _ _ _ _ _ _
    (pieces _ _ _ 0 (by decide) _ _ fun y => ?_) (pieces _ _ _ 1 (by decide) _ _ fun y => ?_) (pieces _ _ _ 2 (by decide) _ _ fun y => ?_) (pieces _ _ _ 3 (by decide) _ _ fun y => ?_) y).trans rfl
  · dsimp only [k0_pay16, k0_pay15]
    rw [pay12]
    exact part_dWp _ _ 0 _ rfl _ _ _ _ y _ rfl rfl rfl rfl rfl rfl
  · rw [pay12]; exact part_dWp _ _ 1 _ rfl _ _ _ _ y _ rfl rfl rfl rfl rfl rfl
  · rw [pay12]; exact part_dWp _ _ 2 _ rfl _ _ _ _ y _ rfl rfl rfl rfl rfl rfl
  · rw [pay12]; exact part_dWp _ _ 3 _ rfl _ _ _ _ y _ rfl rfl rfl rfl rfl rfl
include hD hX hg hP hWg hWp in
theorem final8 : (dats m 0 c).arrAt 8 (cfgs 0).N = (Cv (u3 fun q k j => ∑ t : Fin cfg0.N, part8 D X g P Wg t q k j) : F32 S4x256x256) := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => 0)
    (fun t j => ((part8 D X g P Wg t (j 0) (j 1) (j 2) : ℝ) : EReal))
    (fun t h j => out8_first m D X g P Wg Wp hD hX hg hP hWg hWp c t h j)
    (fun t h j => out8_later m D X g P Wg Wp hD hX hg hP hWg hWp c t h j)
    (le_of_eq N_0) t0_15 rfl j]
  exact (zero_add (M := EReal) _).trans (coe_sum _ _).symm

theorem arrs_inj : Function.Injective (Pipeline.arrRef (cfgs 0).spec) := (by decide +kernel : Function.Injective (Pipeline.arrRef spec0))
theorem sum_rows (F : Fin 8192 → ℝ) : ∑ r, F r = ∑ t : Fin cfg0.N, ∑ i : Fin 512, F (rowAt t i) := by
  refine (Fin.sum_univ_tiles 16 512 rfl F).trans ?_
  exact Fintype.sum_equiv (finCongr N_0.symm) _ _ fun t => rfl
theorem dWg_eq (i j : Fin 1024) : ∑ t : Fin cfg0.N, part7 D X g P Wg Wp t i j = Ple.dWg g Wg Wp D X P i j := by
  simp only [Ple.dWg, part7, sum_rows]
theorem dWp_eq (k : Fin 256) (j : Fin 1024) : ∑ t : Fin cfg0.N, part8 D X g P Wg t ⟨j.val / 256, by omega⟩ k ⟨j.val % 256, by omega⟩ = Ple.dWp g Wg D X P k j := by
  simp only [Ple.dWp, part8, sum_rows]
  rw [show col ⟨j.val / 256, by omega⟩ ⟨j.val % 256, by omega⟩ = j from Fin.ext (Nat.div_add_mod' _ _)]
theorem dG_eq (j : Fin 1024) : ∑ k : Fin 8, ∑ t : Fin cfg0.N, part9 D X g P Wg Wp t k j = Ple.dG g Wg Wp D X P j := by
  simp only [Ple.dG, part9, sum_rows]
  rw [Finset.sum_comm]
  exact Finset.sum_congr rfl fun t _ => Finset.sum_comm.trans (Fin.sum_univ_tiles 64 8 rfl fun r : Fin 512 =>
    Ple.dxn g Wg Wp (D (rowAt t r)) (X (rowAt t r)) (P (rowAt t r)) j * (X (rowAt t r) j * rho (X (rowAt t r)))).symm
include hD hX hg hP hWg hWp in
theorem runK (ρ : Dev nD → PrngReg) : θ_run defs (onTc (τ := τ) (main (F := Ideal))) ⟨m, fun _ => 0, ρ⟩ fun r => ∀ c : Dev nD,
      r.2.mem ((c.tc : Thread nD τ).loc main_v8_0) = (Cv (u2 (Ple.dH g Wg Wp D X P)) : F32 S8192x1024)
      ∧ r.2.mem ((c.tc : Thread nD τ).loc main_v9) = (Cv (u1 (Ple.dG g Wg Wp D X P)) : F32 S1024)
      ∧ r.2.mem ((c.tc : Thread nD τ).loc main_v8_1) = (Cv (u2 (Ple.dWg g Wg Wp D X P)) : F32 S1024x1024)
      ∧ r.2.mem ((c.tc : Thread nD τ).loc main_v11) = (Cv (u2 (Ple.dWp g Wg D X P)) : F32 S256x1024) := by
  refine (θ_run defs _ _).mono (fun r h c => ⟨((h c).1 6).trans (final6 m D X g P Wg Wp hD hX hg hP hWg hWp c), ((h c).2 main_v9 (by decide)).trans ?_,
    (((h c).1 7).trans (final7 m D X g P Wg Wp hD hX hg hP hWg hWp c)).trans (congrArg Cv (congrArg u2 (funext fun i => funext fun j => dWg_eq D X g P Wg Wp i j))),
    ((h c).2 main_v11 (by decide)).trans ?_⟩) (run_main m ρ)
  · unfold Pipeline.afterTail₀
    show StableHlo.after hostOps1 _ (Proc.tc.devRef main_v9) = _
    unfold_abbrev_sides
    after_results
    rw [show Pipeline.withArrays _ _ _ _ (Proc.tc.devRef main_v8_3) = _ from (Pipeline.withArrays_arr (cfgs 0).spec arrs_inj c _ _ 9).trans (final9 m D X g P Wg Wp hD hX hg hP hWg hWp c)]
    refine (reduceAdd_Cv _ _ _ _ Ideal.ofBits_zero_f32).trans (congrArg Cv ?_)
    rw [rsum2_0 _ rfl]
    exact congrArg u1 (funext fun j => dG_eq D X g P Wg Wp j)
  · unfold Pipeline.afterTail₀
    show StableHlo.after hostOps1 _ (Proc.tc.devRef main_v11) = _
    unfold_abbrev_sides
    after_results
    rw [show Pipeline.withArrays _ _ _ _ (Proc.tc.devRef main_v8_2) = _ from (Pipeline.withArrays_arr (cfgs 0).spec arrs_inj c _ _ 8).trans (final8 m D X g P Wg Wp hD hX hg hP hWg hWp c)]
    refine (show _ = shapeCast S256x1024 (transpose S256x4x256 [1, 0, 2] (Cv (u3 fun q k j => ∑ t : Fin cfg0.N, part8 D X g P Wg t q k j) : F32 S4x256x256)
      transposes_S4x256x256_S256x4x256_1_0_2) shapeCasts_S256x4x256_S256x1024 from rfl).trans ?_
    dsimp only [S256x1024, S256x4x256, S4x256x256]
    simp (disch := first | rfl | decide | norm_num1) only [transpose_Cv, trans3, shapeCast_Cv, cast3_2c]
    exact congrArg Cv (congrArg u2 (funext fun i => funext fun j => dWp_eq D X g P Wg i j))
end
end Cert.PleIdeal.Value
-- ==== Proof.PleClaim.lean ====
module

public import proofs.«01_k».proof.Defs
public import proofs.«01_k».proof.Proof.Gen.Ple.Frame
public import proofs.«01_k».proof.Proof.Gen.Pre_finite_ple
public import proofs.«01_k».proof.Proof.PleRef
public import proofs.«01_k».proof.Proof.PleKernel
public import Idealize.ShloMosaic.Lib.Claim

@[expose] public section

/-! The claims of the per-layer embedding block's gradients, put together. -/

set_option maxRecDepth 16384
noncomputable section
namespace Cert.Ple
open Idealize.ShloMosaic Idealize.ShloMosaic.TcCoe Idealize.SL.Sem Cert.Lift
local notation "F32 " s:max => FVec Ideal s FTy.f32

theorem frame_reference : Cert.quiescent_PleRefIdeal := fun m g _ =>
  (θ_run _ _ _).mono (fun r h => ⟨fun c => (h c).2.2.2.2, sem_eq_zero_of_no_sems (by decide) r.2⟩) (Cert.PleRefIdeal.Value.run m g)

/-- Both programs return the same gradients of the same real arguments. -/
theorem value : algebraic_PleIdeal_PleRefIdeal_pre_finite_ple := by
  intro m g m' g' hpre hm
  have one (c : Dev 1) : c = 0 := Subsingleton.elim (α := Fin 1) c 0
  obtain ⟨h0, h1, h2, h3, h4, h5⟩ := hpre 0
  obtain ⟨D, e0⟩ := real2 _ h0
  obtain ⟨X, e1⟩ := real2 _ h1
  obtain ⟨G, e2⟩ := real1 _ h2
  obtain ⟨P, e3⟩ := real2 _ h3
  obtain ⟨Wg, e4⟩ := real2 _ h4
  obtain ⟨Wp, e5⟩ := real2 _ h5
  have a0 (c : Dev Cert.PleIdeal.nD) : m (c.tc.loc Cert.PleIdeal.main_arg0) = (Cv (u2 D) : F32 Cert.PleIdeal.S8192x1024) := by
    rw [one c]; exact e0
  have a1 (c : Dev Cert.PleIdeal.nD) : m (c.tc.loc Cert.PleIdeal.main_arg1) = (Cv (u2 X) : F32 Cert.PleIdeal.S8192x1024) := by
    rw [one c]; exact e1
  have a2 (c : Dev Cert.PleIdeal.nD) : m (c.tc.loc Cert.PleIdeal.main_arg2) = (Cv (u1 G) : F32 Cert.PleIdeal.S1024) := by
    rw [one c]; exact e2
  have a3 (c : Dev Cert.PleIdeal.nD) : m (c.tc.loc Cert.PleIdeal.main_arg3) = (Cv (u2 P) : F32 Cert.PleIdeal.S8192x256) := by
    rw [one c]; exact e3
  have a4 (c : Dev Cert.PleIdeal.nD) : m (c.tc.loc Cert.PleIdeal.main_arg4) = (Cv (u2 Wg) : F32 Cert.PleIdeal.S1024x1024) := by
    rw [one c]; exact e4
  have a5 (c : Dev Cert.PleIdeal.nD) : m (c.tc.loc Cert.PleIdeal.main_arg5) = (Cv (u2 Wp) : F32 Cert.PleIdeal.S256x1024) := by
    rw [one c]; exact e5
  refine ⟨fun _ => (Cv (u2 (Ple.dH G Wg Wp D X P)) : F32 Cert.PleIdeal.S8192x1024), fun _ => (Cv (u1 (Ple.dG G Wg Wp D X P)) : F32 Cert.PleIdeal.S1024), fun _ => (Cv (u2 (Ple.dWg G Wg Wp D X P)) : F32 Cert.PleIdeal.S1024x1024), fun _ => (Cv (u2 (Ple.dWp G Wg D X P)) : F32 Cert.PleIdeal.S256x1024), ?_, ?_⟩
  · exact (θ_run _ _ _).mono (fun r h c => ⟨(h.1 c).1, (h.1 c).2.1, (h.1 c).2.2.1, (h.1 c).2.2.2, h.2 c⟩)
      (θ_run_and (Cert.PleIdeal.Value.runK m D X G P Wg Wp a0 a1 a2 a3 a4 a5 g) (Cert.PleIdeal.Gen.unchanged m g))
  · exact (θ_run _ _ _).mono (fun r h c => ⟨(h.1 c).1, (h.1 c).2.1, (h.1 c).2.2.1, (h.1 c).2.2.2, (h.2 c).2.2.2.2⟩)
      (θ_run_and (Cert.PleRefIdeal.Value.runR m' g' D X G P Wg Wp (fun c => (hm c).1.trans (a0 c)) (fun c => (hm c).2.1.trans (a1 c)) (fun c => (hm c).2.2.1.trans (a2 c)) (fun c => (hm c).2.2.2.1.trans (a3 c)) (fun c => (hm c).2.2.2.2.1.trans (a4 c)) (fun c => (hm c).2.2.2.2.2.trans (a5 c))) (Cert.PleRefIdeal.Value.run m' g'))

end Cert.Ple
-- ==== Proof.LruFrame.lean ====
module

public import proofs.«01_k».proof.Proof.Gen.LruIdeal.Frame.RunB
public import Idealize.ShloMosaic.Lib.Claim

@[expose] public section

/-! The run of the recurrence's gradient, over any float values. The grid goes back in time; a point finds in three scratch
    buffers the first rows of what the point before it in the grid (the later tile in time) left there, and in two outputs
    the sums so far. -/

set_option maxRecDepth 16384
noncomputable section
namespace Cert.LruIdeal.Run
open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

/-! ## What one point leaves -/

/-- What pieces written one after the other leave in a buffer that they cover. -/
def readBack {s : Shape} {e : EltTy} (V : View sig .tc .vmem s e) (L : List (View.Piece (Elt F) s e)) : Vec F s e :=
  V.read (Elt F) (V.writes (Elt F) V.junk L)

/-- A buffer written with pieces that cover it holds what they leave, wherever it lies and whatever it held. -/
theorem handed (c : Dev nD) {s : Shape} {e : EltTy} (M : Memref sig .tc .vmem s e) (V : View sig .tc .vmem s e)
    {L : List (View.Piece (Elt F) s e)} (hL : ∀ y, ∃ p ∈ L, y ∈ p.1.set) :
    iprop(∃ f, M.view.loc (c : Thread nD τ) ↦[M.view.set]{fullShare} M.view.writes (Elt F) f L)
      ⊢ (owns (c : Thread nD τ) M fullShare (readBack V L) : sProp 𝕄) := by
  iintro ⟨%f, H⟩
  unfold owns; iexists _; isplitr
  swap; · iexact H
  ipureintro; exact View.read_writes_of_cover _ _ _ _ _ hL

/-- The two outputs by rows, their two copies for the weights' gradients, the two sums, and the three carried scratches. -/
abbrev Left (F : FTy → Type) := Vec F S256x2560 .bf16 × Vec F S256x2560 .bf16 × Vec F S256x1280 .bf16 × Vec F S256x1280 .bf16 × Vec F S4x8x1280 .f32 × Vec F S4x8x1280 .f32 × Vec F S8x1280 .f32 × Vec F S8x1280 .f32 × Vec F S8x1280 .f32

/-- The body at the first point. -/
def runA (c : Dev nD) (t : Fin cfg0.N) (h : cond0_0 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t)
/-- The body at a later point, after what the point before left. -/
def runB (c : Dev nD) (t : Fin cfg0.N) (h : ¬cond0_0 (grid0.coords t)) (prev : Left F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) prev.2.2.2.2.1 prev.2.2.2.2.2.1 prev.2.2.2.2.2.2.1 prev.2.2.2.2.2.2.2.1 prev.2.2.2.2.2.2.2.2
/-- Everything that the first point stores covers what it is stored into. -/
theorem coverA (c : Dev nD) (t : Fin cfg0.N) (h : cond0_0 (grid0.coords t)) :
    (∀ y, ∃ p ∈ (runA m c t h).1, y ∈ p.1.set)
    ∧ (∀ y, ∃ p ∈ (runA m c t h).2.1, y ∈ p.1.set)
    ∧ (∀ y, ∃ p ∈ (runA m c t h).2.2.1, y ∈ p.1.set)
    ∧ (∀ y, ∃ p ∈ (runA m c t h).2.2.2.1, y ∈ p.1.set)
    ∧ (∀ y, ∃ p ∈ (runA m c t h).2.2.2.2.1, y ∈ p.1.set)
    ∧ (∀ y, ∃ p ∈ (runA m c t h).2.2.2.2.2.1, y ∈ p.1.set)
    ∧ (∀ y, ∃ p ∈ (runA m c t h).2.2.2.2.2.2.1, y ∈ p.1.set)
    ∧ (∀ y, ∃ p ∈ (runA m c t h).2.2.2.2.2.2.2.1, y ∈ p.1.set)
    ∧ (∀ y, ∃ p ∈ (runA m c t h).2.2.2.2.2.2.2.2.1, y ∈ p.1.set) :=
  ⟨fun y => View.cover_of_tiledL (runA m c t h).1 S256x1280.size (by sl_kernel_rfl) y,
   fun y => View.cover_of_tiledL (runA m c t h).2.1 S256x1280.size (by sl_kernel_rfl) y,
   fun y => View.cover_of_tiledL (runA m c t h).2.2.1 S256x1280.size (by sl_kernel_rfl) y,
   fun y => View.cover_of_tiledL (runA m c t h).2.2.2.1 S256x1280.size (by sl_kernel_rfl) y,
   fun y => View.cover_of_tiledBy (runA m c t h).2.2.2.2.1 ![1, 8, 1280] (by sl_kernel_rfl) y,
   fun y => View.cover_of_tiledBy (runA m c t h).2.2.2.2.2.1 ![1, 8, 1280] (by sl_kernel_rfl) y,
   fun y => View.cover_of_tiledL (runA m c t h).2.2.2.2.2.2.1 S8x1280.size (by sl_kernel_rfl) y,
   fun y => View.cover_of_tiledL (runA m c t h).2.2.2.2.2.2.2.1 S8x1280.size (by sl_kernel_rfl) y,
   fun y => View.cover_of_tiledL (runA m c t h).2.2.2.2.2.2.2.2.1 S8x1280.size (by sl_kernel_rfl) y⟩

/-- Everything that a later point stores covers what it is stored into. -/
theorem coverB (c : Dev nD) (t : Fin cfg0.N) (h : ¬cond0_0 (grid0.coords t)) (prev : Left F) :
    (∀ y, ∃ p ∈ (runB m c t h prev).1, y ∈ p.1.set)
    ∧ (∀ y, ∃ p ∈ (runB m c t h prev).2.1, y ∈ p.1.set)
    ∧ (∀ y, ∃ p ∈ (runB m c t h prev).2.2.1, y ∈ p.1.set)
    ∧ (∀ y, ∃ p ∈ (runB m c t h prev).2.2.2.1, y ∈ p.1.set)
    ∧ (∀ y, ∃ p ∈ (runB m c t h prev).2.2.2.2.1, y ∈ p.1.set)
    ∧ (∀ y, ∃ p ∈ (runB m c t h prev).2.2.2.2.2.1, y ∈ p.1.set)
    ∧ (∀ y, ∃ p ∈ (runB m c t h prev).2.2.2.2.2.2.1, y ∈ p.1.set)
    ∧ (∀ y, ∃ p ∈ (runB m c t h prev).2.2.2.2.2.2.2.1, y ∈ p.1.set)
    ∧ (∀ y, ∃ p ∈ (runB m c t h prev).2.2.2.2.2.2.2.2.1, y ∈ p.1.set) :=
  ⟨fun y => View.cover_of_tiledL (runB m c t h prev).1 S256x1280.size (by sl_kernel_rfl) y,
   fun y => View.cover_of_tiledL (runB m c t h prev).2.1 S256x1280.size (by sl_kernel_rfl) y,
   fun y => View.cover_of_tiledL (runB m c t h prev).2.2.1 S256x1280.size (by sl_kernel_rfl) y,
   fun y => View.cover_of_tiledL (runB m c t h prev).2.2.2.1 S256x1280.size (by sl_kernel_rfl) y,
   fun y => View.cover_of_tiledL (runB m c t h prev).2.2.2.2.1 S1x8x1280.size (by sl_kernel_rfl) y,
   fun y => View.cover_of_tiledL (runB m c t h prev).2.2.2.2.2.1 S1x8x1280.size (by sl_kernel_rfl) y,
   fun y => View.cover_of_tiledL (runB m c t h prev).2.2.2.2.2.2.1 S8x1280.size (by sl_kernel_rfl) y,
   fun y => View.cover_of_tiledL (runB m c t h prev).2.2.2.2.2.2.2.1 S8x1280.size (by sl_kernel_rfl) y,
   fun y => View.cover_of_tiledL (runB m c t h prev).2.2.2.2.2.2.2.2.1 S8x1280.size (by sl_kernel_rfl) y⟩

attribute [local irreducible] runA runB

/-- What the first point leaves. -/
def leftA (c : Dev nD) (t : Fin cfg0.N) (h : cond0_0 (grid0.coords t)) : Left F :=
  (readBack VO0_10 (runA m c t h).1,
   readBack VO0_11 (runA m c t h).2.1,
   readBack VO0_12 (runA m c t h).2.2.1,
   readBack VO0_13 (runA m c t h).2.2.2.1,
   readBack VO0_14 (runA m c t h).2.2.2.2.1,
   readBack VO0_15 (runA m c t h).2.2.2.2.2.1,
   readBack VS0_0 (runA m c t h).2.2.2.2.2.2.1,
   readBack VS0_1 (runA m c t h).2.2.2.2.2.2.2.1,
   readBack VS0_2 (runA m c t h).2.2.2.2.2.2.2.2.1)

/-- What a later point leaves. -/
def leftB (c : Dev nD) (t : Fin cfg0.N) (h : ¬cond0_0 (grid0.coords t)) (prev : Left F) : Left F :=
  (readBack VO0_10 (runB m c t h prev).1,
   readBack VO0_11 (runB m c t h prev).2.1,
   readBack VO0_12 (runB m c t h prev).2.2.1,
   readBack VO0_13 (runB m c t h prev).2.2.2.1,
   readBack VO0_14 (runB m c t h prev).2.2.2.2.1,
   readBack VO0_15 (runB m c t h prev).2.2.2.2.2.1,
   readBack VS0_0 (runB m c t h prev).2.2.2.2.2.2.1,
   readBack VS0_1 (runB m c t h prev).2.2.2.2.2.2.2.1,
   readBack VS0_2 (runB m c t h prev).2.2.2.2.2.2.2.2.1)

theorem later (t : Fin cfg0.N) (h : t.val ≠ 0) : ¬cond0_0 (grid0.coords t) := fun k => by
  have hN : t.val < 32 := lt_of_lt_of_eq t.isLt (show cfg0.N = 32 from N_0)
  have := (hcond0_0 t).mp k; omega

/-- What the points up to the `n`-th leave. -/
def outsAt (c : Dev nD) : (n : ℕ) → n < cfg0.N → Left F
  | 0, hn => leftA m c ⟨0, hn⟩ ((hcond0_0 ⟨0, hn⟩).mpr (Nat.zero_mod _))
  | n + 1, hn => leftB m c ⟨n + 1, hn⟩ (later ⟨n + 1, hn⟩ n.succ_ne_zero) (outsAt c n (Nat.lt_of_succ_lt hn))

theorem outsAt_zero (c : Dev nD) (hn : 0 < cfg0.N) :
    outsAt m c 0 hn = leftA m c ⟨0, hn⟩ ((hcond0_0 ⟨0, hn⟩).mpr (Nat.zero_mod _)) := rfl
theorem outsAt_succ (c : Dev nD) (n : ℕ) (hn : n + 1 < cfg0.N) :
    outsAt m c (n + 1) hn = leftB m c ⟨n + 1, hn⟩ (later ⟨n + 1, hn⟩ n.succ_ne_zero) (outsAt m c n (Nat.lt_of_succ_lt hn)) := rfl

/-- Before the first point the scratch is anything; later the carried scratches hold what the point before left. -/
def PhiS (c : Dev nD) : (n : ℕ) → n ≤ cfg0.N → sProp 𝕄
  | 0, _ => Pipeline.ΦA spec0 c
  | n + 1, hn => iprop(iprop(owns (c : Thread nD τ) scM0_0 fullShare (outsAt m c n hn).2.2.2.2.2.2.1 ∗ owns (c : Thread nD τ) scM0_1 fullShare (outsAt m c n hn).2.2.2.2.2.2.2.1
      ∗ owns (c : Thread nD τ) scM0_2 fullShare (outsAt m c n hn).2.2.2.2.2.2.2.2) ∗ (∃ r, prngReg c r))
theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) : PhiS m c n h =
    iprop(iprop(owns (c : Thread nD τ) scM0_0 fullShare (outsAt m c (n - 1) (by omega)).2.2.2.2.2.2.1 ∗ owns (c : Thread nD τ) scM0_1 fullShare (outsAt m c (n - 1) (by omega)).2.2.2.2.2.2.2.1
      ∗ owns (c : Thread nD τ) scM0_2 fullShare (outsAt m c (n - 1) (by omega)).2.2.2.2.2.2.2.2) ∗ (∃ r, prngReg c r)) := by
  cases n with
  | zero => exact absurd rfl hz
  | succ n => rfl

theorem PhiS_succ (c : Dev nD) (n : ℕ) (hn : n < cfg0.N) : PhiS m c (n + 1) hn =
    iprop(iprop(owns (c : Thread nD τ) scM0_0 fullShare (outsAt m c n hn).2.2.2.2.2.2.1 ∗ owns (c : Thread nD τ) scM0_1 fullShare (outsAt m c n hn).2.2.2.2.2.2.2.1
      ∗ owns (c : Thread nD τ) scM0_2 fullShare (outsAt m c n hn).2.2.2.2.2.2.2.2) ∗ (∃ r, prngReg c r)) := rfl

/-- The data of the launch: each input's block, and what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt m c t.val t.isLt).1
    | ⟨11, _⟩ => (outsAt m c t.val t.isLt).2.1
    | ⟨12, _⟩ => (outsAt m c t.val t.isLt).2.2.1
    | ⟨13, _⟩ => (outsAt m c t.val t.isLt).2.2.2.1
    | ⟨14, _⟩ => (outsAt m c t.val t.isLt).2.2.2.2.1
    | ⟨15, _⟩ => (outsAt m c t.val t.isLt).2.2.2.2.2.1
    | ⟨_ + 16, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What each buffer holds after the body. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = (outsAt m c t.val t.isLt).1 := by dsimp only [dats]
theorem after11 (c : Dev nD) (t : Fin cfg0.N) : (dats m 0 c).after 11 t = (outsAt m c t.val t.isLt).2.1 := by dsimp only [dats]
theorem after12 (c : Dev nD) (t : Fin cfg0.N) : (dats m 0 c).after 12 t = (outsAt m c t.val t.isLt).2.2.1 := by dsimp only [dats]
theorem after13 (c : Dev nD) (t : Fin cfg0.N) : (dats m 0 c).after 13 t = (outsAt m c t.val t.isLt).2.2.2.1 := by dsimp only [dats]
theorem after14 (c : Dev nD) (t : Fin cfg0.N) : (dats m 0 c).after 14 t = (outsAt m c t.val t.isLt).2.2.2.2.1 := by dsimp only [dats]
theorem after15 (c : Dev nD) (t : Fin cfg0.N) : (dats m 0 c).after 15 t = (outsAt m c t.val t.isLt).2.2.2.2.2.1 := by dsimp only [dats]
/-- Each input's buffer holds its block at every point. -/
theorem before0 (c : Dev nD) (t : Fin cfg0.N) (d) : (dats m 0 c).before 0 t d = iblk m c 0 t :=
  before0_0_of m (dats m 0 c) (A_eq m c 0) (fun _ => by dsimp only [dats]) t d
theorem before1 (c : Dev nD) (t : Fin cfg0.N) (d) : (dats m 0 c).before 1 t d = iblk m c 1 t :=
  before0_1_of m (dats m 0 c) (A_eq m c 1) (fun _ => by dsimp only [dats]) t d
theorem before2 (c : Dev nD) (t : Fin cfg0.N) (d) : (dats m 0 c).before 2 t d = iblk m c 2 t :=
  before0_2_of m (dats m 0 c) (A_eq m c 2) (fun _ => by dsimp only [dats]) t d
theorem before3 (c : Dev nD) (t : Fin cfg0.N) (d) : (dats m 0 c).before 3 t d = iblk m c 3 t :=
  before0_3_of m (dats m 0 c) (A_eq m c 3) (fun _ => by dsimp only [dats]) t d
theorem before4 (c : Dev nD) (t : Fin cfg0.N) (d) : (dats m 0 c).before 4 t d = iblk m c 4 t :=
  before0_4_of m (dats m 0 c) (A_eq m c 4) (fun _ => by dsimp only [dats]) t d
theorem before5 (c : Dev nD) (t : Fin cfg0.N) (d) : (dats m 0 c).before 5 t d = iblk m c 5 t :=
  before0_5_of m (dats m 0 c) (A_eq m c 5) (fun _ => by dsimp only [dats]) t d
theorem before6 (c : Dev nD) (t : Fin cfg0.N) (d) : (dats m 0 c).before 6 t d = iblk m c 6 t :=
  before0_6_of m (dats m 0 c) (A_eq m c 6) (fun _ => by dsimp only [dats]) t d
theorem before7 (c : Dev nD) (t : Fin cfg0.N) (d) : (dats m 0 c).before 7 t d = iblk m c 7 t :=
  before0_7_of m (dats m 0 c) (A_eq m c 7) (fun _ => by dsimp only [dats]) t d
theorem before8 (c : Dev nD) (t : Fin cfg0.N) (d) : (dats m 0 c).before 8 t d = iblk m c 8 t :=
  before0_8_of m (dats m 0 c) (A_eq m c 8) (fun _ => by dsimp only [dats]) t d
theorem before9 (c : Dev nD) (t : Fin cfg0.N) (d) : (dats m 0 c).before 9 t d = iblk m c 9 t :=
  before0_9_of m (dats m 0 c) (A_eq m c 9) (fun _ => by dsimp only [dats]) t d
/-- At a later point the two sums' buffers hold the sums so far. -/
theorem before14 (c : Dev nD) (t : Fin cfg0.N) (h0 : t.val ≠ 0) (d) :
    (dats m 0 c).before 14 t d = (outsAt m c (t.val - 1) (Nat.lt_of_le_of_lt (Nat.sub_le _ _) t.isLt)).2.2.2.2.1 := by
  have hN : t.val < 32 := lt_of_lt_of_eq t.isLt (show cfg0.N = 32 from N_0)
  rw [Dat.before_out_kept _ 14 rfl t h0 (Bool.eq_false_iff.mpr fun h => by have := (flush0_14 _).mp h; dsimp only at this; omega)
    (fun _ => rfl) (fun _ _ => rfl)]
  dsimp only [dats]
theorem before15 (c : Dev nD) (t : Fin cfg0.N) (h0 : t.val ≠ 0) (d) :
    (dats m 0 c).before 15 t d = (outsAt m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 15 rfl t h0 (Bool.eq_false_iff.mpr fun h => by have := (flush0_15 _).mp h; dsimp only at this; omega)
    (fun _ => rfl) (fun _ _ => rfl)]
  dsimp only [dats]

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 4000000 in
/-- The body at a point takes the one to the other. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0 m c, before1 m c, before2 m c, before3 m c, before4 m c, before5 m c, before6 m c, before7 m c, before8 m c, before9 m c]
  rw [show (dats m 0 c).owesAt () t.succ = (dats m 0 c).owesAt () t.castSucc from rfl,
    show (dats m 0 c).Φ t.succ = PhiS m c (t.val + 1) t.isLt from rfl, PhiS_succ,
    after0, after1, after2, after3, after4, after5, after6, after7, after8, after9, after10, after11, after12, after13, after14, after15]
  obtain ⟨_ | n, hn⟩ := t
  · rw [PhiS_castSucc m c, PhiS_zero m c _ _ rfl, PhiA0_eq, outsAt_zero]
    dsimp only [leftA]
    have C := coverA m c ⟨0, hn⟩ ((hcond0_0 ⟨0, hn⟩).mpr (Nat.zero_mod _))
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((runA m c ⟨0, hn⟩ ((hcond0_0 ⟨0, hn⟩).mpr (Nat.zero_mod _))).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    isplitl [HS2]; · iexact HS2
    iintro ⟨H0, H1, H2, H3, H4, H5, H6, H7, H8, H9, H10, H11, H12, H13, H14, H15, HS0, HS1, HS2⟩
    isplitl [HS0 HS1 HS2 Hg]
    · isplitl [HS0 HS1 HS2]
      · isplitl [HS0]; · iapply (handed c scM0_0 VS0_0 C.2.2.2.2.2.2.1); iexact HS0
        isplitl [HS1]; · iapply (handed c scM0_1 VS0_1 C.2.2.2.2.2.2.2.1); iexact HS1
        iapply (handed c scM0_2 VS0_2 C.2.2.2.2.2.2.2.2); iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (handed c _ VO0_10 C.1); iexact H10
    isplitl [H11]; · iapply (handed c _ VO0_11 C.2.1); iexact H11
    isplitl [H12]; · iapply (handed c _ VO0_12 C.2.2.1); iexact H12
    isplitl [H13]; · iapply (handed c _ VO0_13 C.2.2.2.1); iexact H13
    isplitl [H14]; · iapply (handed c _ VO0_14 C.2.2.2.2.1); iexact H14
    iapply (handed c _ VO0_15 C.2.2.2.2.2.1); iexact H15
  · rw [PhiS_castSucc m c, PhiS_pos m c _ _ n.succ_ne_zero]
    simp only [before14 m c ⟨n + 1, hn⟩ n.succ_ne_zero, before15 m c ⟨n + 1, hn⟩ n.succ_ne_zero]
    rw [outsAt_succ]
    dsimp only [leftB, Nat.add_sub_cancel]
    have C := coverB m c ⟨n + 1, hn⟩ (later ⟨n + 1, hn⟩ n.succ_ne_zero) (outsAt m c n (Nat.lt_of_succ_lt hn))
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((runB m c ⟨n + 1, hn⟩ (later ⟨n + 1, hn⟩ n.succ_ne_zero) (outsAt m c n (Nat.lt_of_succ_lt hn))).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexact H14
    isplitl [H15]; · iexact H15
    isplitl [HS0]; · iexact HS0
    isplitl [HS1]; · iexact HS1
    isplitl [HS2]; · iexact HS2
    iintro ⟨H0, H1, H2, H3, H4, H5, H6, H7, H8, H9, H10, H11, H12, H13, H14, H15, HS0, HS1, HS2⟩
    isplitl [HS0 HS1 HS2 Hg]
    · isplitl [HS0 HS1 HS2]
      · isplitl [HS0]; · iapply (handed c scM0_0 VS0_0 C.2.2.2.2.2.2.1); iexact HS0
        isplitl [HS1]; · iapply (handed c scM0_1 VS0_1 C.2.2.2.2.2.2.2.1); iexact HS1
        iapply (handed c scM0_2 VS0_2 C.2.2.2.2.2.2.2.2); iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (handed c _ VO0_10 C.1); iexact H10
    isplitl [H11]; · iapply (handed c _ VO0_11 C.2.1); iexact H11
    isplitl [H12]; · iapply (handed c _ VO0_12 C.2.2.1); iexact H12
    isplitl [H13]; · iapply (handed c _ VO0_13 C.2.2.2.1); iexact H13
    isplitl [H14]; · iapply (handed c _ VO0_14 C.2.2.2.2.1); iexact H14
    iapply (handed c _ VO0_15 C.2.2.2.2.2.1); iexact H15

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (body_at m c t) rfl .rfl fun _ => .rfl

theorem hin (c : Dev nD) : Pipeline.ΦA spec0 c ⊢ (dats m 0 c).Φ 0 := Idealize.SL.BI.Entails.refl _
/-- After the last point the scratch is given back. -/
theorem hout (c : Dev nD) : (dats m 0 c).Φ (Fin.last cfg0.N) ⊢ Pipeline.ΦA spec0 c := by
  rw [show (dats m 0 c).Φ (Fin.last cfg0.N) = PhiS m c cfg0.N le_rfl from rfl,
    PhiS_pos m c _ _ (by have : cfg0.N = 32 := N_0; omega), PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run -/

set_option backward.isDefEq.respectTransparency.types false in
set_option maxHeartbeats 800000 in
/-- Every run ends with the pipeline's arrays at what its data say, the rest as the host's last lines leave it, and the
    counters at zero. -/
theorem run_quiescent : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arguments end as they began and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.LruIdeal.Run
end
-- ==== Proof.LruBits.lean ====
module

public import proofs.«01_k».proof.Defs
public import proofs.«01_k».proof.Proof.LruFrame
public import proofs.«01_k».proof.Proof.Gen.LruRefIdeal
public import proofs.«01_k».proof.Proof.Gen.LruRefIdeal.Run
public import Idealize.ShloMosaic.Lib.Tactic

@[expose] public section

/-! At the printed program's values, where a named constant is its word, the printed program of the recurrence's gradient
    makes the same effects as its ideal, so its frame is the ideal's, taken there; and the frame of the reference. -/

set_option maxRecDepth 16384
noncomputable section
namespace Cert.LruPair
open Idealize.ShloMosaic Idealize.ShloMosaic.TcCoe Idealize.SL.Sem

/-- At the printed program's values a named constant is the word it was printed with. -/
local instance words : Named Bits where
  named := fun _ _ {φ} w => FloatOps.ofBits φ w

theorem same_main [Cert.Lru.Facts] [Cert.LruIdeal.Facts] : (Cert.LruIdeal.main (F := Bits)) = Cert.Lru.main (F := Bits) := by sl_kernel_rfl
theorem same_defs [Cert.Lru.Facts] [Cert.LruIdeal.Facts] : (Cert.LruIdeal.defs (F := Bits)) = Cert.Lru.defs (F := Bits) := by sl_kernel_rfl

theorem frame_kernel [Cert.Lru.Facts] : Cert.quiescent_Lru := fun m ρ _ => by
  rw [← same_main, ← same_defs]
  exact Cert.LruIdeal.Run.frame (F := Bits) m ρ

theorem frame_reference : Cert.quiescent_LruRefIdeal := fun m g _ =>
  (θ_run _ _ _).mono (fun r h => ⟨fun c => (h c).2.2.2.2.2.2.2.2.2, sem_eq_zero_of_no_sems (by decide) r.2⟩)
    (Cert.LruRefIdeal.Value.run m g)

end Cert.LruPair
-- ==== Proof.LruSpec.lean ====
module

public import proofs.«01_k».proof.Proof.Lift

@[expose] public section

/-! The mathematics of the recurrence's gradient, in real numbers: the causal convolution, the gates, the gated
    recurrence and its solution by sums, and every gradient in one form that both programs reach. -/

set_option maxRecDepth 16384
noncomputable section
namespace Cert.Lift.Lru

/-- The arguments of both programs. -/
structure In where
  dout : Fin 8192 → Fin 1024 → ℝ
  x : Fin 8192 → Fin 1024 → ℝ
  win : Fin 1024 → Fin 2560 → ℝ
  cw : Fin 4 → Fin 1280 → ℝ
  cb : Fin 1280 → ℝ
  wa : Fin 16 → Fin 80 → Fin 80 → ℝ
  ba : Fin 1280 → ℝ
  wx : Fin 16 → Fin 80 → Fin 80 → ℝ
  bx : Fin 1280 → ℝ
  ap : Fin 1280 → ℝ
  wo : Fin 1280 → Fin 1024 → ℝ

/-- A matrix of one number for each position and channel. -/
abbrev Mat := Fin 8192 → Fin 1280 → ℝ

/-- The sum of the entries up to position `t`. -/
def csum {n : ℕ} (f : Fin n → ℝ) (t : Fin n) : ℝ := ∑ u, if u.val ≤ t.val then f u else 0
/-- The sum of the entries from position `t` on. -/
def rcs {n : ℕ} (f : Fin n → ℝ) (t : Fin n) : ℝ := ∑ u, if t.val ≤ u.val then f u else 0

/-- Row `t` of `f`, and zeros past its end. -/
def ext (f : Mat) (t : ℕ) (j : Fin 1280) : ℝ := if h : t < 8192 then f ⟨t, h⟩ j else 0
/-- `f` moved down by `k` rows, with zeros above. -/
def back (f : Mat) (k : ℕ) (t : Fin 8192) (j : Fin 1280) : ℝ := if k ≤ t.val then ext f (t.val - k) j else 0

/-- The logistic function, the softplus and GELU with its slope. -/
def sg (x : ℝ) : ℝ := 1 / (1 + Real.exp (-x))
def sp (x : ℝ) : ℝ := Real.log (1 + Real.exp x)
/-- The literal for the root of two over pi, and GELU's cubic coefficient. -/
def kap : ℝ := 13386282 / 16777216
def cub : ℝ := 8943 / 200000
def th (g : ℝ) : ℝ := Real.tanh (kap * (g + cub * (g * g * g)))
def gel (g : ℝ) : ℝ := g * (1 / 2 * (1 + th g))
def dgel (g : ℝ) : ℝ := 1 / 2 * (1 + th g) + 1 / 2 * g * (1 - th g * th g) * kap * (1 + 3 * cub * g * g)

/-- The head of a channel, and its place there. -/
def hd (j : Fin 1280) : Fin 16 := ⟨j.val / 80, by omega⟩
def pl (j : Fin 1280) : Fin 80 := ⟨j.val % 80, by omega⟩
def ch (h : Fin 16) (i : Fin 80) : Fin 1280 := ⟨h.val * 80 + i.val, by omega⟩

variable (p : In)
def z (t : Fin 8192) (j : Fin 2560) : ℝ := ∑ k, p.x t k * p.win k j
def gate : Mat := fun t j => z p t ⟨j.val, by omega⟩
def xb : Mat := fun t j => z p t ⟨1280 + j.val, by omega⟩
def xc : Mat := fun t j =>
  p.cb j + p.cw 0 j * back (xb p) 3 t j + p.cw 1 j * back (xb p) 2 t j + p.cw 2 j * back (xb p) 1 t j + p.cw 3 j * back (xb p) 0 t j
/-- A gate's product by heads. -/
def lin (w : Fin 16 → Fin 80 → Fin 80 → ℝ) (X : Mat) : Mat := fun t j => ∑ i, w (hd j) i (pl j) * X t (ch (hd j) i)
def r : Mat := fun t j => sg (lin p.wa (xc p) t j + p.ba j)
def ig : Mat := fun t j => sg (lin p.wx (xc p) t j + p.bx j)
def la : Mat := fun t j => -8 * r p t j * sp (-p.ap j)
def a : Mat := fun t j => Real.exp (la p t j)
def mult : Mat := fun t j => Real.sqrt (-(Real.exp (2 * la p t j) - 1))
/-- What enters the recurrence. -/
def inn : Mat := fun t j => mult p t j * (ig p t j * xc p t j)
/-- The sum of the logarithms of the coefficients. -/
def cs : Mat := fun t j => csum (fun u => la p u j) t
def hs : Mat := fun t j => Real.exp (cs p t j) * csum (fun u => Real.exp (-cs p u j) * inn p u j) t
def y : Mat := fun t j => hs p t j * gel (gate p t j)
def dy : Mat := fun t j => ∑ k, p.dout t k * p.wo j k
def dh : Mat := fun t j => dy p t j * gel (gate p t j)
/-- The gradient of the recurrence's state. -/
def G : Mat := fun t j => Real.exp (-cs p t j) * rcs (fun u => Real.exp (cs p u j) * dh p u j) t
def dlog : Mat := fun t j => G p t j * back (hs p) 1 t j * a p t j - G p t j * ig p t j * xc p t j * (a p t j * a p t j) / mult p t j
def dpa : Mat := fun t j => (0 - dlog p t j * (8 * sp (-p.ap j))) * r p t j * (1 - r p t j)
def dpx : Mat := fun t j => G p t j * mult p t j * xc p t j * ig p t j * (1 - ig p t j)
/-- The gradient of a gate's product by heads. -/
def tlin (w : Fin 16 → Fin 80 → Fin 80 → ℝ) (X : Mat) : Mat := fun t j => ∑ i, X t (ch (hd j) i) * w (hd j) (pl j) i
def dxc : Mat := fun t j => G p t j * mult p t j * ig p t j + (tlin p.wa (dpa p) t j + tlin p.wx (dpx p) t j)
def dz0 : Mat := fun t j => dy p t j * hs p t j * dgel (gate p t j)
def dz1 : Mat := fun t j =>
  p.cw 3 j * dxc p t j + p.cw 2 j * ext (dxc p) (t.val + 1) j + p.cw 1 j * ext (dxc p) (t.val + 2) j + p.cw 0 j * ext (dxc p) (t.val + 3) j
def dz (t : Fin 8192) (j : Fin 2560) : ℝ := if h : j.val < 1280 then dz0 p t ⟨j.val, h⟩ else dz1 p t ⟨j.val - 1280, by omega⟩
/-- The gates' gradients, laid by groups of 640 channels: of the first gate, of the second, and so on. -/
def dpre (t : Fin 8192) (j : Fin 2560) : ℝ :=
  if j.val / 640 % 2 = 0 then dpa p t ⟨j.val / 640 / 2 * 640 + j.val % 640, by omega⟩
  else dpx p t ⟨j.val / 640 / 2 * 640 + j.val % 640, by omega⟩
def dcw (k : Fin 4) (j : Fin 1280) : ℝ := ∑ t, dxc p t j * back (xb p) (3 - k.val) t j
def dcb (j : Fin 1280) : ℝ := ∑ t, dxc p t j
def dba (j : Fin 1280) : ℝ := ∑ t, dpa p t j
def dbx (j : Fin 1280) : ℝ := ∑ t, dpx p t j
def dap (j : Fin 1280) : ℝ := ∑ t, dlog p t j * r p t j * (8 * sg (-p.ap j))

/-! ## The gates lie where the formulas need them -/

theorem sg_pos (x : ℝ) : 0 < sg x := by unfold sg; positivity
theorem sp_pos (x : ℝ) : 0 < sp x := Real.log_pos (by have := Real.exp_pos x; linarith)
theorem la_neg (t j) : la p t j < 0 := by
  have h1 := sg_pos (lin p.wa (xc p) t j + p.ba j)
  have h2 := sp_pos (-p.ap j)
  unfold la r; nlinarith [mul_pos h1 h2]
theorem rad_pos (t j) : 0 < -(Real.exp (2 * la p t j) - 1) := by
  have : Real.exp (2 * la p t j) < 1 := Real.exp_lt_one_iff.2 (by have := la_neg p t j; linarith)
  linarith
theorem mult_pos (t j) : 0 < mult p t j := Real.sqrt_pos.2 (rad_pos p t j)
theorem sp_stable (x : ℝ) : max x 0 + Real.log (1 + Real.exp (-|x|)) = sp x := by
  unfold sp
  rcases le_total 0 x with h | h
  · rw [max_eq_left h, abs_of_nonneg h]
    have : (1 : ℝ) + Real.exp x = Real.exp x * (1 + Real.exp (-x)) := by rw [mul_add, ← Real.exp_add]; simp [add_comm]
    rw [this, Real.log_mul (Real.exp_pos x).ne' (by positivity), Real.log_exp]
  · rw [max_eq_right h, abs_of_nonpos h, neg_neg, zero_add]
theorem sp_slope (x : ℝ) : Real.exp (x - sp x) = sg x := by
  have hp : 0 < 1 + Real.exp x := by positivity
  unfold sp sg
  rw [Real.exp_sub, Real.exp_log hp, Real.exp_neg]
  have := Real.exp_pos x
  field_simp
  ring

/-! ## The recurrence -/

section
variable {n : ℕ} (f : Fin n → ℝ)
theorem csum_zero (h : 0 < n) : csum f ⟨0, h⟩ = f ⟨0, h⟩ := by
  unfold csum
  rw [Finset.sum_eq_single ⟨0, h⟩ (fun u _ hu => if_neg fun hl => hu (Fin.ext (Nat.le_zero.1 hl))) (by simp), if_pos le_rfl]
theorem csum_succ (t : ℕ) (h : t + 1 < n) : csum f ⟨t + 1, h⟩ = csum f ⟨t, by omega⟩ + f ⟨t + 1, h⟩ := by
  unfold csum
  have : f ⟨t + 1, h⟩ = ∑ u, if u = (⟨t + 1, h⟩ : Fin n) then f u else 0 := by simp
  rw [this, ← Finset.sum_add_distrib]
  refine Finset.sum_congr rfl fun u _ => ?_
  rcases lt_trichotomy u.val (t + 1) with hu | hu | hu
  · rw [if_pos (show u.val ≤ t + 1 by omega), if_pos (show u.val ≤ t by omega), if_neg (fun e => by rw [e] at hu; exact lt_irrefl _ hu), add_zero]
  · rw [if_pos (show u.val ≤ t + 1 by omega), if_neg (show ¬ u.val ≤ t by omega), if_pos (Fin.ext hu), zero_add]
  · rw [if_neg (show ¬ u.val ≤ t + 1 by omega), if_neg (show ¬ u.val ≤ t by omega), if_neg (fun e => by rw [e] at hu; exact lt_irrefl _ hu), add_zero]
theorem rcs_last (t : Fin n) (h : n = t.val + 1) : rcs f t = f t := by
  unfold rcs
  rw [Finset.sum_eq_single t (fun u _ hu => if_neg fun hl => hu (Fin.ext (by have := u.isLt; have : t.val ≤ u.val := hl; omega))) (by simp), if_pos le_rfl]
theorem rcs_step (t : ℕ) (h : t + 1 < n) : rcs f ⟨t, by omega⟩ = f ⟨t, by omega⟩ + rcs f ⟨t + 1, h⟩ := by
  unfold rcs
  have : f ⟨t, by omega⟩ = ∑ u, if u = (⟨t, by omega⟩ : Fin n) then f u else 0 := by simp
  rw [this, ← Finset.sum_add_distrib]
  refine Finset.sum_congr rfl fun u _ => ?_
  rcases lt_trichotomy u.val t with hu | hu | hu
  · rw [if_neg (show ¬ t ≤ u.val by omega), if_neg (show ¬ t + 1 ≤ u.val by omega), if_neg (fun e => by rw [e] at hu; exact lt_irrefl _ hu), add_zero]
  · rw [if_pos (show t ≤ u.val by omega), if_neg (show ¬ t + 1 ≤ u.val by omega), if_pos (Fin.ext hu), add_zero]
  · rw [if_pos (show t ≤ u.val by omega), if_pos (show t + 1 ≤ u.val by omega), if_neg (fun e => by rw [e] at hu; exact lt_irrefl _ hu), zero_add]
/-- What differs by steps is the sum of its steps from each place on. -/
theorem rcs_tele (g : ℕ → ℝ) (hn : g n = 0) (h : ∀ t : Fin n, f t = g t.val - g (t.val + 1)) (t : Fin n) : rcs f t = g t.val := by
  obtain ⟨t, ht⟩ := t
  obtain ⟨k, hk⟩ : ∃ k, n = t + 1 + k := ⟨n - (t + 1), by omega⟩
  induction k generalizing t with
  | zero => rw [rcs_last f ⟨t, ht⟩ (by simpa using hk), h]; simp only; rw [show t + 1 = n by omega, hn, sub_zero]
  | succ k ih => rw [rcs_step f t (by omega), h, ih (t + 1) (by omega) (by omega)]; simp only; ring
end

section
variable (t : Fin 8192) (j : Fin 1280)
/-- The state follows the recurrence. -/
theorem hs_step : hs p t j = a p t j * back (hs p) 1 t j + inn p t j := by
  obtain ⟨t, ht⟩ := t
  cases t with
  | zero =>
    unfold back hs cs
    rw [csum_zero, csum_zero, csum_zero, if_neg (by simp), mul_zero, zero_add, ← mul_assoc, ← Real.exp_add, add_neg_cancel, Real.exp_zero, one_mul]
  | succ t =>
    unfold back ext
    rw [if_pos (by simp), dif_pos (show t + 1 - 1 < 8192 by omega)]
    unfold hs
    rw [csum_succ _ t ht, mul_add, ← mul_assoc (Real.exp (cs p ⟨t + 1, ht⟩ j)) (Real.exp _), ← Real.exp_add, add_neg_cancel, Real.exp_zero, one_mul]
    congr 1
    rw [← mul_assoc]
    congr 1
    unfold a cs
    rw [← Real.exp_add, csum_succ _ t ht, add_comm]
    rfl
/-- The state's gradient follows the recurrence from the end. -/
theorem G_step : G p t j = dh p t j + ext (a p) (t.val + 1) j * ext (G p) (t.val + 1) j := by
  obtain ⟨t, ht⟩ := t
  unfold ext
  by_cases h : t + 1 < 8192
  · rw [dif_pos h, dif_pos h]
    unfold G
    rw [rcs_step _ t h, mul_add, ← mul_assoc (Real.exp (-cs p ⟨t, ht⟩ j)), ← Real.exp_add, neg_add_cancel, Real.exp_zero, one_mul]
    congr 1
    rw [← mul_assoc]
    congr 1
    unfold a cs
    rw [← Real.exp_add, csum_succ _ t h]
    congr 1; ring
  · rw [dif_neg h, dif_neg h, mul_zero, add_zero]
    unfold G
    rw [rcs_last _ _ (show 8192 = t + 1 by omega), ← mul_assoc, ← Real.exp_add, neg_add_cancel, Real.exp_zero, one_mul]
/-- The gradient of the logarithms that the sums' own gradients add up to. -/
theorem G_sums : rcs (fun u => -(rcs (fun v => Real.exp (cs p v j) * dh p v j) u * inn p u j * Real.exp (-cs p u j))
      + dh p u j * csum (fun v => Real.exp (-cs p v j) * inn p v j) u * Real.exp (cs p u j)) t
    = G p t j * back (hs p) 1 t j * a p t j := by
  set U := fun v => Real.exp (cs p v j) * dh p v j with hU
  set W := fun v => Real.exp (-cs p v j) * inn p v j with hW
  have e := rcs_tele (n := 8192) (fun u => -(rcs U u * inn p u j * Real.exp (-cs p u j)) + dh p u j * csum W u * Real.exp (cs p u j))
    (fun s => if h : s < 8192 then (if hs : 1 ≤ s then rcs U ⟨s, h⟩ * csum W ⟨s - 1, by omega⟩ else 0) else 0) (dif_neg (lt_irrefl _)) ?_ t
  · rw [e, dif_pos t.isLt]
    obtain ⟨t, ht⟩ := t
    cases t with
    | zero => simp [back]
    | succ t =>
      rw [dif_pos (by simp)]
      unfold back ext
      rw [if_pos (by simp), dif_pos (show t + 1 - 1 < 8192 by omega)]
      show rcs U ⟨t + 1, ht⟩ * csum W ⟨t, _⟩ = Real.exp (-cs p ⟨t + 1, ht⟩ j) * rcs U ⟨t + 1, ht⟩ * (Real.exp (cs p ⟨t, _⟩ j) * csum W ⟨t, _⟩) * Real.exp (la p ⟨t + 1, ht⟩ j)
      have : Real.exp (-cs p ⟨t + 1, ht⟩ j) * Real.exp (cs p ⟨t, by omega⟩ j) * Real.exp (la p ⟨t + 1, ht⟩ j) = 1 := by
        rw [← Real.exp_add, ← Real.exp_add, Real.exp_eq_one_iff]
        unfold cs
        rw [csum_succ _ t ht]; ring
      linear_combination (-rcs U ⟨t + 1, ht⟩ * csum W ⟨t, by omega⟩) * this
  · intro u
    rw [dif_pos u.isLt]
    obtain ⟨u, hu⟩ := u
    have key : ∀ A B : ℝ, dh p ⟨u, hu⟩ j * A * Real.exp (cs p ⟨u, hu⟩ j) = U ⟨u, hu⟩ * A ∧ B * inn p ⟨u, hu⟩ j * Real.exp (-cs p ⟨u, hu⟩ j) = B * W ⟨u, hu⟩ := fun A B => by
      simp only [hU, hW]; constructor <;> ring
    show -(rcs U ⟨u, hu⟩ * inn p ⟨u, hu⟩ j * Real.exp (-cs p ⟨u, hu⟩ j)) + dh p ⟨u, hu⟩ j * csum W ⟨u, hu⟩ * Real.exp (cs p ⟨u, hu⟩ j)
      = (if hs : 1 ≤ u then rcs U ⟨u, hu⟩ * csum W ⟨u - 1, by omega⟩ else 0) - (if h : u + 1 < 8192 then (if hs : 1 ≤ u + 1 then rcs U ⟨u + 1, h⟩ * csum W ⟨u + 1 - 1, by omega⟩ else 0) else 0)
    rw [(key (csum W ⟨u, hu⟩) 0).1, (key 0 (rcs U ⟨u, hu⟩)).2]
    have hnext : (if h : u + 1 < 8192 then (if hs : 1 ≤ u + 1 then rcs U ⟨u + 1, h⟩ * csum W ⟨u + 1 - 1, by omega⟩ else 0) else 0) = (rcs U ⟨u, hu⟩ - U ⟨u, hu⟩) * csum W ⟨u, hu⟩ := by
      by_cases h : u + 1 < 8192
      · rw [dif_pos h, dif_pos (by simp), rcs_step U u h]
        simp only [Nat.add_sub_cancel]; ring
      · rw [dif_neg h, rcs_last U ⟨u, hu⟩ (show 8192 = u + 1 by omega)]; ring
    rw [hnext]
    cases u with
    | zero => rw [dif_neg (by simp), csum_zero]; ring
    | succ u => rw [dif_pos (by simp), csum_succ W u hu]; simp only [Nat.add_sub_cancel]; ring
end

/-! ## A tile's recurrence by doubling -/

/-- The coefficients and the sums over windows twice as long, inside a tile of 256 rows. -/
def stepC (s : ℕ) (C : Fin 256 → Fin 1280 → ℝ) (r : Fin 256) (j : Fin 1280) : ℝ := if h : r.val + s < 256 then C r j * C ⟨r.val + s, h⟩ j else C r j
def stepD (s : ℕ) (C D : Fin 256 → Fin 1280 → ℝ) (r : Fin 256) (j : Fin 1280) : ℝ := if h : r.val + s < 256 then D r j + C r j * D ⟨r.val + s, h⟩ j else D r j
/-- `g` is the sum over a window of `s` rows and the window's coefficient times what follows. -/
def Window (s : ℕ) (C D g : Fin 256 → Fin 1280 → ℝ) (g0 : Fin 1280 → ℝ) : Prop :=
  ∀ r j, g r j = D r j + C r j * (if h : r.val + s < 256 then g ⟨r.val + s, h⟩ j else g0 j)
theorem Window.step {s : ℕ} {C D g : Fin 256 → Fin 1280 → ℝ} {g0 : Fin 1280 → ℝ} (w : Window s C D g g0) : Window (s + s) (stepC s C) (stepD s C D) g g0 := by
  intro r j
  rw [w r j]
  unfold stepC stepD
  by_cases h : r.val + s < 256
  · rw [dif_pos h, dif_pos h, dif_pos h, w ⟨r.val + s, h⟩ j]
    simp only [← add_assoc]
    ring
  · rw [dif_neg h, dif_neg h, dif_neg h, dif_neg (by omega)]
def C1 (C : Fin 256 → Fin 1280 → ℝ) := stepC 1 C
def C2 (C : Fin 256 → Fin 1280 → ℝ) := stepC 2 (C1 C)
def C4 (C : Fin 256 → Fin 1280 → ℝ) := stepC 4 (C2 C)
def C8 (C : Fin 256 → Fin 1280 → ℝ) := stepC 8 (C4 C)
def C16 (C : Fin 256 → Fin 1280 → ℝ) := stepC 16 (C8 C)
def C32 (C : Fin 256 → Fin 1280 → ℝ) := stepC 32 (C16 C)
def C64 (C : Fin 256 → Fin 1280 → ℝ) := stepC 64 (C32 C)
def C128 (C : Fin 256 → Fin 1280 → ℝ) := stepC 128 (C64 C)
def D1 (C D : Fin 256 → Fin 1280 → ℝ) := stepD 1 C D
def D2 (C D : Fin 256 → Fin 1280 → ℝ) := stepD 2 (C1 C) (D1 C D)
def D4 (C D : Fin 256 → Fin 1280 → ℝ) := stepD 4 (C2 C) (D2 C D)
def D8 (C D : Fin 256 → Fin 1280 → ℝ) := stepD 8 (C4 C) (D4 C D)
def D16 (C D : Fin 256 → Fin 1280 → ℝ) := stepD 16 (C8 C) (D8 C D)
def D32 (C D : Fin 256 → Fin 1280 → ℝ) := stepD 32 (C16 C) (D16 C D)
def D64 (C D : Fin 256 → Fin 1280 → ℝ) := stepD 64 (C32 C) (D32 C D)
def D128 (C D : Fin 256 → Fin 1280 → ℝ) := stepD 128 (C64 C) (D64 C D)
theorem scan {C D g : Fin 256 → Fin 1280 → ℝ} {g0 : Fin 1280 → ℝ} (w : Window 1 C D g g0) (r : Fin 256) (j : Fin 1280) :
    D128 C D r j + C128 C r j * g0 j = g r j := by
  have := w.step.step.step.step.step.step.step.step r j
  rw [dif_neg (by omega)] at this
  exact this.symm
end Cert.Lift.Lru
-- ==== Proof.LruOps.lean ====
module

public import proofs.«01_k».proof.Proof.Shapes
public import proofs.«01_k».proof.Proof.HostRef
public import proofs.«01_k».proof.Proof.LruSpec

@[expose] public section

/-! Further operations on casts of real tensors: running sums, products by groups, changes of axes, rows moved and
    padded, and the functions of the recurrence's gates. -/

noncomputable section
namespace Cert.Lift.Lru
open Idealize.ShloMosaic ValueIdx

/-! ## Running sums -/

theorem foldl_coe {n : ℕ} (F : Fin n → EReal) (g : Fin n → ℝ) (h : ∀ k, F k = ((g k : ℝ) : EReal)) :
    (List.finRange n).foldl (fun r k => r + F k) (0 : EReal) = ((∑ k, g k : ℝ) : EReal) := by
  have key : ∀ (l : List (Fin n)) (x : ℝ), l.foldl (fun r k => r + F k) (x : EReal) = ((x + (l.map g).sum : ℝ) : EReal) := by
    intro l
    induction l with
    | nil => intro x; simp
    | cons k l ih =>
      intro x
      rw [List.foldl_cons, h, ← EReal.coe_add, ih, List.map_cons, List.sum_cons, add_assoc]
  have := key (List.finRange n) 0
  rw [zero_add, ← Fin.sum_univ_def] at this
  exact_mod_cast this

/-- A window's sum. -/
theorem window_Cv {s t : Shape} {φ : FTy} (w st lo hi : Fin s.rank → ℕ) (f : s.Idx → ℝ) (init : (⟨0, ![]⟩ : Shape).Idx → Ideal φ)
    (h : s.ReduceWindows w st lo hi t) (hu) (h0 : ∀ i, init i = (0 : EReal)) (j : t.Idx) :
    Host.reduceWindowAdd w st lo hi (Cv f : FVec Ideal s φ) init h hu j
      = ((∑ k : (⟨s.rank, w⟩ : Shape).Idx, (if hin : ∀ a, lo a ≤ (j (a.cast h.1.symm)).val * st a + (k a).val
            ∧ (j (a.cast h.1.symm)).val * st a + (k a).val - lo a < s.size a
          then f (fun a => ⟨(j (a.cast h.1.symm)).val * st a + (k a).val - lo a, (hin a).2⟩) else 0) : ℝ) : EReal) := by
  show Host.reduceWindow (· + ·) w st lo hi (Cv f : FVec Ideal s φ) init h hu j = _
  unfold Host.reduceWindow
  rw [← Equiv.sum_comp (Shape.rowMajor (⟨s.rank, w⟩ : Shape)).symm]
  dsimp only
  rw [h0]
  refine foldl_coe _ _ fun k => ?_
  split
  · rfl
  · exact EReal.coe_zero.symm

/-- A sum over a window of the whole height that ends at a position. -/
theorem sum_down {n : ℕ} (F : Fin n → ℝ) (t : Fin n) :
    ∑ k : Fin n, (if h : n - 1 ≤ t.val + k.val ∧ t.val + k.val - (n - 1) < n then F ⟨t.val + k.val - (n - 1), h.2⟩ else 0) = csum F t := by
  have hn : 0 < n := t.pos
  refine Fintype.sum_equiv ⟨fun k => ⟨if n ≤ t.val + k.val + 1 then t.val + k.val + 1 - n else t.val + k.val + 1, by have := k.isLt; have := t.isLt; split <;> omega⟩,
    fun u => ⟨if u.val ≤ t.val then u.val + n - t.val - 1 else u.val - t.val - 1, by have := u.isLt; have := t.isLt; split <;> omega⟩, fun k => ?_, fun u => ?_⟩ _ _ fun k => ?_
  · refine Fin.ext ?_
    have := k.isLt
    have := t.isLt
    dsimp only
    split_ifs <;> omega
  · refine Fin.ext ?_
    have := u.isLt
    have := t.isLt
    dsimp only
    split_ifs <;> omega
  · have := k.isLt
    have := t.isLt
    show _ = if (if n ≤ t.val + k.val + 1 then t.val + k.val + 1 - n else t.val + k.val + 1) ≤ t.val then _ else _
    by_cases hc : n ≤ t.val + k.val + 1
    · rw [dif_pos (by omega), if_pos (by rw [if_pos hc]; omega)]
      exact congrArg F (Fin.ext (by show t.val + k.val - (n - 1) = if n ≤ t.val + k.val + 1 then _ else _; rw [if_pos hc]; omega))
    · rw [dif_neg (by omega), if_neg (by rw [if_neg hc]; omega)]
/-- A sum over a window of the whole height that starts at a position. -/
theorem sum_up {n : ℕ} (F : Fin n → ℝ) (t : Fin n) :
    ∑ k : Fin n, (if h : t.val + k.val < n then F ⟨t.val + k.val, h⟩ else 0) = rcs F t := by
  refine Fintype.sum_equiv ⟨fun k => ⟨if n ≤ t.val + k.val then t.val + k.val - n else t.val + k.val, by have := k.isLt; have := t.isLt; split <;> omega⟩,
    fun u => ⟨if t.val ≤ u.val then u.val - t.val else u.val + n - t.val, by have := u.isLt; have := t.isLt; split <;> omega⟩, fun k => ?_, fun u => ?_⟩ _ _ fun k => ?_
  · refine Fin.ext ?_
    have := k.isLt
    have := t.isLt
    dsimp only
    split_ifs <;> omega
  · refine Fin.ext ?_
    have := u.isLt
    have := t.isLt
    dsimp only
    split_ifs <;> omega
  · have := k.isLt
    have := t.isLt
    show _ = if t.val ≤ (if n ≤ t.val + k.val then t.val + k.val - n else t.val + k.val) then _ else _
    by_cases hc : n ≤ t.val + k.val
    · rw [dif_neg (by omega), if_neg (by rw [if_pos hc]; omega)]
    · rw [dif_pos (by omega), if_pos (by rw [if_neg hc]; omega)]
      exact congrArg F (Fin.ext (by show _ = if n ≤ t.val + k.val then _ else _; rw [if_neg hc]))

section
variable {n m b c : ℕ} {φ : FTy}
def colIdx : (⟨2, ![n, 1]⟩ : Shape).Idx ≃ Fin n where
  toFun k := k 0
  invFun t := Idealize.ShloMosaic.ix2 t 0
  left_inv k := funext fun a => match a with | ⟨0, _⟩ => rfl | ⟨1, _⟩ => Subsingleton.elim (α := Fin 1) _ _
  right_inv _ := rfl
def colIdx3 : (⟨3, ![n, 1, 1]⟩ : Shape).Idx ≃ Fin n where
  toFun k := k 0
  invFun t := Idealize.ShloMosaic.ix3 t 0 0
  left_inv k := funext fun a => match a with
    | ⟨0, _⟩ => rfl | ⟨1, _⟩ => Subsingleton.elim (α := Fin 1) _ _ | ⟨2, _⟩ => Subsingleton.elim (α := Fin 1) _ _
  right_inv _ := rfl

/-- The running sum of each column. -/
theorem cumsum2 (f : Fin n → Fin c → ℝ) (hm : m = n - 1) (init : (⟨0, ![]⟩ : Shape).Idx → Ideal φ) (h) (hu) (h0 : ∀ i, init i = (0 : EReal)) :
    Host.reduceWindowAdd ![n, 1] ![1, 1] ![m, 0] ![0, 0] (Cv (u2 f) : FVec Ideal ⟨2, ![n, c]⟩ φ) init h hu
      = (Cv (u2 fun t j => csum (fun u => f u j) t) : FVec Ideal ⟨2, ![n, c]⟩ φ) := by
  subst hm
  funext j
  rw [window_Cv _ _ _ _ _ _ _ _ h0]
  refine congrArg Real.toEReal (Eq.trans ?_ (sum_down (fun u => f u (j 1)) (j 0)))
  refine Fintype.sum_equiv colIdx _ _ fun k => ?_
  have hj1 : (j 1).val < c := (j 1).isLt
  have hk1 : (k 1).val < 1 := (k 1).isLt
  by_cases hc : n - 1 ≤ (j 0).val + (colIdx k).val ∧ (j 0).val + (colIdx k).val - (n - 1) < n
  · refine (dif_pos (fun a => match a with
      | ⟨0, _⟩ => by
        show n - 1 ≤ (j 0).val * 1 + (k 0).val ∧ (j 0).val * 1 + (k 0).val - (n - 1) < n
        change n - 1 ≤ (j 0).val + (k 0).val ∧ (j 0).val + (k 0).val - (n - 1) < n at hc
        omega
      | ⟨1, _⟩ => by
        show 0 ≤ (j 1).val * 1 + (k 1).val ∧ (j 1).val * 1 + (k 1).val - 0 < c
        omega)).trans (Eq.trans ?_ (dif_pos hc).symm)
    refine congrArg₂ f (Fin.ext ?_) (Fin.ext ?_)
    · show (j 0).val * 1 + (k 0).val - (n - 1) = (j 0).val + (k 0).val - (n - 1)
      omega
    · show (j 1).val * 1 + (k 1).val - 0 = (j 1).val
      omega
  · exact (dif_neg (fun hin => hc (by
      have h0' := hin 0
      change n - 1 ≤ (j 0).val * 1 + (k 0).val ∧ (j 0).val * 1 + (k 0).val - (n - 1) < n at h0'
      show n - 1 ≤ (j 0).val + (k 0).val ∧ (j 0).val + (k 0).val - (n - 1) < n
      omega))).trans (by symm; apply dif_neg hc)
/-- The running sum of each column from its end. -/
theorem rcumsum2 (f : Fin n → Fin c → ℝ) (hm : m = n - 1) (init : (⟨0, ![]⟩ : Shape).Idx → Ideal φ) (h) (hu) (h0 : ∀ i, init i = (0 : EReal)) :
    Host.reduceWindowAdd ![n, 1] ![1, 1] ![0, 0] ![m, 0] (Cv (u2 f) : FVec Ideal ⟨2, ![n, c]⟩ φ) init h hu
      = (Cv (u2 fun t j => rcs (fun u => f u j) t) : FVec Ideal ⟨2, ![n, c]⟩ φ) := by
  subst hm
  funext j
  rw [window_Cv _ _ _ _ _ _ _ _ h0]
  refine congrArg Real.toEReal (Eq.trans ?_ (sum_up (fun u => f u (j 1)) (j 0)))
  refine Fintype.sum_equiv colIdx _ _ fun k => ?_
  have hj1 : (j 1).val < c := (j 1).isLt
  have hk1 : (k 1).val < 1 := (k 1).isLt
  by_cases hc : (j 0).val + (colIdx k).val < n
  · refine (dif_pos (fun a => match a with
      | ⟨0, _⟩ => by
        show 0 ≤ (j 0).val * 1 + (k 0).val ∧ (j 0).val * 1 + (k 0).val - (0) < n
        change (j 0).val + (k 0).val < n at hc
        omega
      | ⟨1, _⟩ => by
        show 0 ≤ (j 1).val * 1 + (k 1).val ∧ (j 1).val * 1 + (k 1).val - 0 < c
        omega)).trans (Eq.trans ?_ (dif_pos hc).symm)
    refine congrArg₂ f (Fin.ext ?_) (Fin.ext ?_)
    · show (j 0).val * 1 + (k 0).val - 0 = (j 0).val + (k 0).val
      omega
    · show (j 1).val * 1 + (k 1).val - 0 = (j 1).val
      omega
  · exact (dif_neg (fun hin => hc (by
      have h0' := hin 0
      change 0 ≤ (j 0).val * 1 + (k 0).val ∧ (j 0).val * 1 + (k 0).val - (0) < n at h0'
      show (j 0).val + (k 0).val < n
      omega))).trans (by symm; apply dif_neg hc)
/-- The running sum of each column of a tensor of rank three. -/
theorem cumsum3 (f : Fin n → Fin b → Fin c → ℝ) (hm : m = n - 1) (init : (⟨0, ![]⟩ : Shape).Idx → Ideal φ) (h) (hu) (h0 : ∀ i, init i = (0 : EReal)) :
    Host.reduceWindowAdd ![n, 1, 1] ![1, 1, 1] ![m, 0, 0] ![0, 0, 0] (Cv (u3 f) : FVec Ideal ⟨3, ![n, b, c]⟩ φ) init h hu
      = (Cv (u3 fun t g j => csum (fun u => f u g j) t) : FVec Ideal ⟨3, ![n, b, c]⟩ φ) := by
  subst hm
  funext j
  rw [window_Cv _ _ _ _ _ _ _ _ h0]
  refine congrArg Real.toEReal (Eq.trans ?_ (sum_down (fun u => f u (j 1) (j 2)) (j 0)))
  refine Fintype.sum_equiv colIdx3 _ _ fun k => ?_
  have hj1 : (j 1).val < b := (j 1).isLt
  have hk1 : (k 1).val < 1 := (k 1).isLt
  have hj2 : (j 2).val < c := (j 2).isLt
  have hk2 : (k 2).val < 1 := (k 2).isLt
  by_cases hc : n - 1 ≤ (j 0).val + (colIdx3 k).val ∧ (j 0).val + (colIdx3 k).val - (n - 1) < n
  · refine (dif_pos (fun a => match a with
      | ⟨0, _⟩ => by
        show n - 1 ≤ (j 0).val * 1 + (k 0).val ∧ (j 0).val * 1 + (k 0).val - (n - 1) < n
        change n - 1 ≤ (j 0).val + (k 0).val ∧ (j 0).val + (k 0).val - (n - 1) < n at hc
        omega
      | ⟨1, _⟩ => by
        show 0 ≤ (j 1).val * 1 + (k 1).val ∧ (j 1).val * 1 + (k 1).val - 0 < b
        omega
      | ⟨2, _⟩ => by
        show 0 ≤ (j 2).val * 1 + (k 2).val ∧ (j 2).val * 1 + (k 2).val - 0 < c
        omega)).trans (Eq.trans ?_ (dif_pos hc).symm)
    refine congr (congrArg₂ f (Fin.ext ?_) (Fin.ext ?_)) (Fin.ext ?_)
    · show (j 0).val * 1 + (k 0).val - (n - 1) = (j 0).val + (k 0).val - (n - 1)
      omega
    · show (j 1).val * 1 + (k 1).val - 0 = (j 1).val
      omega
    · show (j 2).val * 1 + (k 2).val - 0 = (j 2).val
      omega
  · exact (dif_neg (fun hin => hc (by
      have h0' := hin 0
      change n - 1 ≤ (j 0).val * 1 + (k 0).val ∧ (j 0).val * 1 + (k 0).val - (n - 1) < n at h0'
      show n - 1 ≤ (j 0).val + (k 0).val ∧ (j 0).val + (k 0).val - (n - 1) < n
      omega))).trans (by symm; apply dif_neg hc)
end

/-! ## Products by groups -/

section
variable {M K N B : ℕ}
/-- `[B, K, M] · [N, B, K]` over `K` by `B`, laid `[B, M, N]`. -/
theorem rdot_b1 (d : DotDims ⟨3, ![B, K, M]⟩ ⟨3, ![N, B, K]⟩ ⟨3, ![B, M, N]⟩) (f : Fin B → Fin K → Fin M → ℝ) (g : Fin N → Fin B → Fin K → ℝ)
    (h1 : d.lhsContracting = [1]) (h2 : d.rhsContracting = [2]) (h3 : d.lhsNonContracting = [2])
    (h4 : d.rhsNonContracting = [0]) (h5 : d.lhsBatch = [0]) (h6 : d.rhsBatch = [1]) :
    rdot d (u3 f) (u3 g) = u3 fun h i j => ∑ k, f h k i * g j h k := by
  obtain ⟨lc, rc, ln, rn, lb, rb, wf⟩ := d
  subst h1 h2 h3 h4 h5 h6
  funext j
  rw [rdot, ← Equiv.sum_comp (contrEquiv1 (⟨[1], [2], [2], [0], [0], [1], wf⟩ : DotDims _ _ _) K rfl rfl).symm]
  refine Finset.sum_congr rfl fun k _ => ?_
  rfl
/-- `[B, K, M] · [B, N, K]` over `K` by `B`, laid `[B, M, N]`. -/
theorem rdot_b2 (d : DotDims ⟨3, ![B, K, M]⟩ ⟨3, ![B, N, K]⟩ ⟨3, ![B, M, N]⟩) (f : Fin B → Fin K → Fin M → ℝ) (g : Fin B → Fin N → Fin K → ℝ)
    (h1 : d.lhsContracting = [1]) (h2 : d.rhsContracting = [2]) (h3 : d.lhsNonContracting = [2])
    (h4 : d.rhsNonContracting = [1]) (h5 : d.lhsBatch = [0]) (h6 : d.rhsBatch = [0]) :
    rdot d (u3 f) (u3 g) = u3 fun h i j => ∑ k, f h k i * g h j k := by
  obtain ⟨lc, rc, ln, rn, lb, rb, wf⟩ := d
  subst h1 h2 h3 h4 h5 h6
  funext j
  rw [rdot, ← Equiv.sum_comp (contrEquiv1 (⟨[1], [2], [2], [1], [0], [0], wf⟩ : DotDims _ _ _) K rfl rfl).symm]
  refine Finset.sum_congr rfl fun k _ => ?_
  rfl
end

/-! ## Changes of axes, rows moved, joined and padded -/

section
variable {a b c n m k : ℕ} {φ : FTy} (f3 g3 : Fin a → Fin b → Fin c → ℝ) (f2 : Fin a → Fin b → ℝ)
theorem trans3_201 (h) : transpose ⟨3, ![c, a, b]⟩ [2, 0, 1] (u3 f3) h = u3 fun k i j => f3 i j k := rfl
theorem trans3_120 (h) : transpose ⟨3, ![b, c, a]⟩ [1, 2, 0] (u3 f3) h = u3 fun j k i => f3 i j k := rfl
theorem u3_mul : u3 f3 * u3 g3 = u3 fun i j k => f3 i j k * g3 i j k := rfl
theorem u3_add : u3 f3 + u3 g3 = u3 fun i j k => f3 i j k + g3 i j k := rfl
/-- Rows from `o` on. -/
theorem slice2r (o : ℕ) (q : Fin 2 → ℕ) (hq : q = ![o, 0]) (h) (hc : o + c ≤ a) :
    extractStridedSlice ⟨2, ![c, b]⟩ q (u2 f2) h = u2 fun i j => f2 ⟨o + i.val, by omega⟩ j := by
  subst hq
  funext j
  simp only [extractStridedSlice, u2]
  congr 1
  exact Fin.ext (Nat.zero_add _)

/-- The rows of `f`, then the rows of `g`. -/
def rcat (hk : k = m + n) (f : Fin m → Fin c → ℝ) (g : Fin n → Fin c → ℝ) : Fin k → Fin c → ℝ :=
  fun i j => if h : i.val < m then f ⟨i.val, h⟩ j else g ⟨i.val - m, by omega⟩ j
theorem concat_rows (hk : k = m + n) {f : Fin m → Fin c → ℝ} {g : Fin n → Fin c → ℝ} {x : FVec Ideal ⟨2, ![m, c]⟩ φ} {y : FVec Ideal ⟨2, ![n, c]⟩ φ}
    (hx : x = Cv (u2 f)) (hy : y = Cv (u2 g)) (h) :
    concatenate ⟨2, ![k, c]⟩ 0 [⟨⟨2, ![m, c]⟩, x⟩, ⟨⟨2, ![n, c]⟩, y⟩] h = (Cv (u2 (rcat hk f g)) : FVec Ideal ⟨2, ![k, c]⟩ φ) := by
  subst hx hy
  funext j
  rw [concatenate_pair_apply]
  by_cases hlt : (j 0).val < m
  · exact (dif_pos hlt).trans (congrArg Real.toEReal (dif_pos hlt : rcat hk f g (j 0) (j 1) = _).symm)
  · exact (dif_neg hlt).trans (congrArg Real.toEReal (dif_neg hlt : rcat hk f g (j 0) (j 1) = _).symm)
/-- The columns of `f`, then the columns of `g`. -/
def ccat (hk : k = m + n) (f : Fin a → Fin m → ℝ) (g : Fin a → Fin n → ℝ) : Fin a → Fin k → ℝ :=
  fun i j => if h : j.val < m then f i ⟨j.val, h⟩ else g i ⟨j.val - m, by omega⟩
theorem concat_cols (hk : k = m + n) {f : Fin a → Fin m → ℝ} {g : Fin a → Fin n → ℝ} {x : FVec Ideal ⟨2, ![a, m]⟩ φ} {y : FVec Ideal ⟨2, ![a, n]⟩ φ}
    (hx : x = Cv (u2 f)) (hy : y = Cv (u2 g)) (h) :
    concatenate ⟨2, ![a, k]⟩ 1 [⟨⟨2, ![a, m]⟩, x⟩, ⟨⟨2, ![a, n]⟩, y⟩] h = (Cv (u2 (ccat hk f g)) : FVec Ideal ⟨2, ![a, k]⟩ φ) := by
  subst hx hy
  funext j
  rw [concatenate_pair_apply]
  by_cases hlt : (j 1).val < m
  · exact (dif_pos hlt).trans (congrArg Real.toEReal (dif_pos hlt : ccat hk f g (j 0) (j 1) = _).symm)
  · exact (dif_neg hlt).trans (congrArg Real.toEReal (dif_neg hlt : ccat hk f g (j 0) (j 1) = _).symm)
/-- Rows moved down by `w`, those past the end to the front. -/
theorem roll2 (w : BitVec 32) (s : ℕ) (hs : w.toNat % a = s) (ha : 0 < a) (h) :
    dynamicRotate 0 w none (Cv (u2 f2) : FVec Ideal ⟨2, ![a, b]⟩ φ) h
      = (Cv (u2 fun i j => f2 ⟨(i.val + a - s) % a, Nat.mod_lt _ ha⟩ j) : FVec Ideal ⟨2, ![a, b]⟩ φ) := by
  subst hs
  funext j
  exact (dynamicRotate_apply 0 w _ h j (Idealize.ShloMosaic.ix2 ⟨((j 0).val + a - w.toNat % a) % a, Nat.mod_lt _ ha⟩ (j 1))
    (fun x => match x with | ⟨0, _⟩ => rfl | ⟨1, _⟩ => rfl)).trans rfl
/-- Zeros above and below. -/
theorem pad_rows (lo hi : ℕ) (hk : k = lo + a + hi) (v : (⟨0, ![]⟩ : Shape).Idx → Ideal φ) (h) (hu) (h0 : ∀ i, v i = (0 : EReal)) :
    pad ⟨2, ![k, b]⟩ ![lo, 0] ![hi, 0] ![0, 0] (Cv (u2 f2) : FVec Ideal ⟨2, ![a, b]⟩ φ) v h hu
      = (Cv (u2 fun i j => if h : lo ≤ i.val ∧ i.val - lo < a then f2 ⟨i.val - lo, h.2⟩ j else 0) : FVec Ideal ⟨2, ![k, b]⟩ φ) := by
  subst hk
  funext j
  show _ = ((if h : lo ≤ (j 0).val ∧ (j 0).val - lo < a then f2 ⟨(j 0).val - lo, h.2⟩ (j 1) else 0 : ℝ) : EReal)
  by_cases hc : lo ≤ (j 0).val ∧ (j 0).val - lo < a
  · rw [dif_pos hc]
    refine (pad_apply_of_inside _ _ _ _ _ h hu j (Idealize.ShloMosaic.ix2 ⟨(j 0).val - lo, hc.2⟩ (j 1)) (fun x => match x with
      | ⟨0, _⟩ => ?_ | ⟨1, _⟩ => ?_)).trans rfl
    · show (j 0).val = lo + ((j 0).val - lo) * (0 + 1)
      omega
    · show (j 1).val = 0 + (j 1).val * (0 + 1)
      omega
  · rw [dif_neg hc]
    refine (pad_apply_of_not_inside _ _ _ _ _ h hu j 0 (fun hin => hc ⟨hin.1, ?_⟩)).trans ((h0 _).trans EReal.coe_zero.symm)
    have := hin.2.2
    change ((j 0).val - lo) / (0 + 1) < a at this
    rwa [Nat.zero_add, Nat.div_one] at this
/-- Zeros to the left and to the right. -/
theorem pad_cols (lo hi : ℕ) (hk : k = lo + b + hi) (v : (⟨0, ![]⟩ : Shape).Idx → Ideal φ) (h) (hu) (h0 : ∀ i, v i = (0 : EReal)) :
    pad ⟨2, ![a, k]⟩ ![0, lo] ![0, hi] ![0, 0] (Cv (u2 f2) : FVec Ideal ⟨2, ![a, b]⟩ φ) v h hu
      = (Cv (u2 fun i j => if h : lo ≤ j.val ∧ j.val - lo < b then f2 i ⟨j.val - lo, h.2⟩ else 0) : FVec Ideal ⟨2, ![a, k]⟩ φ) := by
  subst hk
  funext j
  show _ = ((if h : lo ≤ (j 1).val ∧ (j 1).val - lo < b then f2 (j 0) ⟨(j 1).val - lo, h.2⟩ else 0 : ℝ) : EReal)
  by_cases hc : lo ≤ (j 1).val ∧ (j 1).val - lo < b
  · rw [dif_pos hc]
    refine (pad_apply_of_inside _ _ _ _ _ h hu j (Idealize.ShloMosaic.ix2 (j 0) ⟨(j 1).val - lo, hc.2⟩) (fun x => match x with
      | ⟨0, _⟩ => ?_ | ⟨1, _⟩ => ?_)).trans rfl
    · show (j 0).val = 0 + (j 0).val * (0 + 1)
      omega
    · show (j 1).val = lo + ((j 1).val - lo) * (0 + 1)
      omega
  · rw [dif_neg hc]
    refine (pad_apply_of_not_inside _ _ _ _ _ h hu j 1 (fun hin => hc ⟨hin.1, ?_⟩)).trans ((h0 _).trans EReal.coe_zero.symm)
    have := hin.2.2
    change ((j 1).val - lo) / (0 + 1) < b at this
    rwa [Nat.zero_add, Nat.div_one] at this
end

/-! ## Functions -/

section
variable {s : Shape} {φ : FTy} (f g : s.Idx → ℝ)
theorem coe_max (x y : ℝ) : max (x : EReal) y = ((max x y : ℝ) : EReal) := (EReal.coe_strictMono.monotone.map_max).symm
theorem coe_abs (x : ℝ) : max (x : EReal) (-x) = ((|x| : ℝ) : EReal) := by
  rw [← EReal.coe_neg, coe_max]; rfl
theorem maximumf_Cv : maximumf (Cv f : FVec Ideal s φ) (Cv g) = Cv fun i => max (f i) (g i) := funext fun _ => coe_max _ _
theorem habsf_Cv : Host.absf (Cv f : FVec Ideal s φ) = Cv fun i => |f i| := funext fun _ => coe_abs _
theorem absf_Cv : absf (Cv f : FVec Ideal s φ) = Cv fun i => |f i| := funext fun _ => coe_abs _
theorem hlog1p_exp : Host.log1p (Cv fun i => Real.exp (f i) : FVec Ideal s φ) = Cv fun i => Real.log (1 + Real.exp (f i)) := by
  funext i
  show Ideal.log ((1 : EReal) + ((Real.exp (f i) : ℝ) : EReal)) = _
  have h : ¬ 1 + Real.exp (f i) ≤ 0 := not_le.2 (by positivity)
  rw [← EReal.coe_one, ← EReal.coe_add, Ideal.log_coe, if_neg h]
  rfl
theorem log_Cv (h : ∀ i, 0 < f i) : log (Cv f : FVec Ideal s φ) = Cv fun i => Real.log (f i) := by
  funext i
  show Ideal.log ((f i : ℝ) : EReal) = _
  rw [Ideal.log_coe, if_neg (not_le.2 (h i))]
  rfl
theorem hexpm1_Cv : Host.expm1 (Cv f : FVec Ideal s φ) = Cv fun i => Real.exp (f i) - 1 := by
  funext i
  show Ideal.exp ((f i : ℝ) : EReal) - 1 = _
  rw [Ideal.exp_coe, ← EReal.coe_one, ← EReal.coe_sub]
  rfl
theorem hsqrt_Cv (h : ∀ i, 0 ≤ f i) : Host.sqrt (Cv f : FVec Ideal s φ) = Cv fun i => Real.sqrt (f i) := by
  funext i
  show Ideal.sqrt ((f i : ℝ) : EReal) = _
  rw [Ideal.sqrt_coe, if_neg (not_lt.2 (h i))]
  rfl
theorem tanh_Cv : tanh (Cv f : FVec Ideal s φ) = Cv fun i => Real.tanh (f i) := funext fun _ => rfl
theorem select_une (x u v : FVec Ideal s φ) : select (cmpf .une x x) u v = v := by
  funext i
  show (if BitVec.ofBool (decide (x i ≠ x i)) = 1#1 then u i else v i) = v i
  simp
theorem select_oeq (h : ∀ i, f i ≠ g i) (u v : FVec Ideal s φ) : select (cmpf .oeq (Cv f : FVec Ideal s φ) (Cv g)) u v = v := by
  funext i
  show (if BitVec.ofBool (decide (((f i : ℝ) : EReal) = ((g i : ℝ) : EReal))) = 1#1 then u i else v i) = v i
  rw [decide_eq_false (fun e => h i (EReal.coe_injective e))]
  rfl
theorem select_top (t u v : FVec Ideal s φ) (ht : ∀ i, t i = (⊤ : EReal)) : select (cmpf .oeq (Cv f : FVec Ideal s φ) t) u v = v := by
  funext i
  show (if BitVec.ofBool (decide (((f i : ℝ) : EReal) = t i)) = 1#1 then u i else v i) = v i
  rw [ht, decide_eq_false (EReal.coe_ne_top _)]
  rfl
end

/-! ## Constants -/

theorem cneg8 : Ideal.ofBits .f32 0xC1000000#32 = ((-8 : ℝ) : EReal) := by
  simp [Ideal.ofBits, Ideal.ieee, -EReal.coe_mul]; norm_num
theorem cthree : Ideal.ofBits .f32 0x40400000#32 = ((3 : ℝ) : EReal) := by
  simp [Ideal.ofBits, Ideal.ieee, -EReal.coe_mul]; norm_num
theorem ceight : Ideal.ofBits .f32 0x41000000#32 = ((8 : ℝ) : EReal) := by
  simp [Ideal.ofBits, Ideal.ieee, -EReal.coe_mul]; norm_num
theorem ckap : Ideal.ofBits .f32 0x3F4C422A#32 = ((kap : ℝ) : EReal) := by
  unfold kap
  simp [Ideal.ofBits, Ideal.ieee, -EReal.coe_mul]; norm_num
theorem c44715 : Ideal.ofBits .f32 0x472EAB00#32 = ((44715 : ℝ) : EReal) := by
  simp [Ideal.ofBits, Ideal.ieee, -EReal.coe_mul]; norm_num
theorem cmillion : Ideal.ofBits .f32 0x49742400#32 = ((1000000 : ℝ) : EReal) := by
  simp [Ideal.ofBits, Ideal.ieee, -EReal.coe_mul]; norm_num
theorem kneg8 : (constant ⟨0, ![]⟩ .f32 0xC1000000#32 : FVec Ideal ⟨0, ![]⟩ .f32) = Cv (u0 (-8)) := funext fun _ => cneg8
theorem ktwo : (constant ⟨0, ![]⟩ .f32 0x40000000#32 : FVec Ideal ⟨0, ![]⟩ .f32) = Cv (u0 2) := funext fun _ => ctwo
theorem kthree : (constant ⟨0, ![]⟩ .f32 0x40400000#32 : FVec Ideal ⟨0, ![]⟩ .f32) = Cv (u0 3) := funext fun _ => cthree
theorem kkap : (constant ⟨0, ![]⟩ .f32 0x3F4C422A#32 : FVec Ideal ⟨0, ![]⟩ .f32) = Cv (u0 kap) := funext fun _ => ckap
theorem k44715 : (constant ⟨0, ![]⟩ .f32 0x472EAB00#32 : FVec Ideal ⟨0, ![]⟩ .f32) = Cv (u0 44715) := funext fun _ => c44715
theorem kmillion : (constant ⟨0, ![]⟩ .f32 0x49742400#32 : FVec Ideal ⟨0, ![]⟩ .f32) = Cv (u0 1000000) := funext fun _ => cmillion

section
variable {b : ℕ}
theorem cast2_1 (f : Fin 1 → Fin b → ℝ) (h) : shapeCast ⟨1, ![b]⟩ (u2 f) h = u1 fun j => f 0 j := by
  funext j
  refine (shapeCast_apply _ h _ (Idealize.ShloMosaic.ix2 (0 : Fin 1) (j 0)) ?_).trans rfl
  rw [Shape.rowMajor_val_two, Shape.rowMajor_val_one]
  show 0 * b + (j 0).val = (j 0).val
  omega
end

end Cert.Lift.Lru
-- ==== Proof.LruRef.lean ====
module

public import proofs.«01_k».proof.Proof.Gen.LruRefIdeal.Run
public import proofs.«01_k».proof.Proof.Gen.LruRefIdeal
public import Idealize.ShloMosaic.Lib.Pipeline.ValueKit
public import proofs.«01_k».proof.Proof.LruOps

@[expose] public section

/-! The reference of the gated recurrence: each of its arrays as a real function of the arguments. -/

set_option maxRecDepth 16384
noncomputable section
namespace Cert.LruRefIdeal.Value
open Cert.LruRefIdeal Cert.LruRefIdeal.Gen Idealize.ShloMosaic Idealize.ShloMosaic.TcCoe Idealize.SL.Sem Idealize.ShloMosaic.StableHlo
local notation "F32 " s:max => FVec Ideal s FTy.f32
open Cert.Lift
open Cert.Lift.Lru

/-- The arguments are the casts of `p`. -/
structure Args (V : Valuation τ sig (Elt Ideal)) (p : Lru.In) : Prop where
  h0 : V (Proc.devRef .tc main_arg0) = (Cv (u2 p.dout) : F32 S8192x1024)
  h1 : V (Proc.devRef .tc main_arg1) = (Cv (u2 p.x) : F32 S8192x1024)
  h2 : V (Proc.devRef .tc main_arg2) = (Cv (u2 p.win) : F32 S1024x2560)
  h3 : V (Proc.devRef .tc main_arg3) = (Cv (u2 p.cw) : F32 S4x1280)
  h4 : V (Proc.devRef .tc main_arg4) = (Cv (u1 p.cb) : F32 S1280)
  h5 : V (Proc.devRef .tc main_arg5) = (Cv (u3 p.wa) : F32 S16x80x80)
  h6 : V (Proc.devRef .tc main_arg6) = (Cv (u1 p.ba) : F32 S1280)
  h7 : V (Proc.devRef .tc main_arg7) = (Cv (u3 p.wx) : F32 S16x80x80)
  h8 : V (Proc.devRef .tc main_arg8) = (Cv (u1 p.bx) : F32 S1280)
  h9 : V (Proc.devRef .tc main_arg9) = (Cv (u1 p.ap) : F32 S1280)
  h10 : V (Proc.devRef .tc main_arg10) = (Cv (u2 p.wo) : F32 S1280x1024)

variable {V : Valuation τ sig (Elt Ideal)} {p : Lru.In} (A : Args V p)
include A

theorem r0 : res_main_v0 V = (Cv (u2 (Lru.z p)) : F32 ⟨2, ![8192, 2560]⟩) := by
  unfold res_main_v0; rw [A.h1, A.h2]
  refine (hdot_Cv _ _ _ _).trans (congrArg Cv ?_)
  exact rdot_nn _ _ _ rfl rfl rfl rfl rfl rfl
/-- The second half under three rows of zeros. -/
theorem r5 : res_main_v5 V = (Cv (u2 (rcat (k := 8195) (m := 3) rfl (fun _ _ => 0) (Lru.xb p))) : F32 ⟨2, ![8195, 1280]⟩) := by
  unfold res_main_v5; rw [r0 A]
  refine concat_rows (φ := .f32) (m := 3) (n := 8192) (k := 8195) (c := 1280) rfl ?_ ?_ _
  · dsimp only [S_, S3x1280]
    rw [kzero, broadcastInDim_Cv, bcast0_2]
  · refine (slice_Cv _ _ _ _).trans (congrArg Cv ?_)
    exact slice2 _ 1280 _ rfl _ (by norm_num)
theorem row5 (o : ℕ) (ho : o ≤ 3) (q : Fin 2 → ℕ) (hq : q = ![o, 0]) (h) :
    extractStridedSlice ⟨2, ![8192, 1280]⟩ q (Cv (u2 (rcat (k := 8195) (m := 3) rfl (fun _ _ => 0) (Lru.xb p))) : F32 ⟨2, ![8195, 1280]⟩) h
      = (Cv (u2 (back (Lru.xb p) (3 - o))) : F32 ⟨2, ![8192, 1280]⟩) := by
  refine (slice_Cv _ _ _ _).trans (congrArg Cv ((slice2r _ o _ hq _ (by omega)).trans (congrArg u2 (funext fun i => funext fun j => ?_))))
  unfold rcat back
  by_cases hc : o + i.val < 3
  · rw [dif_pos hc, if_neg (by omega)]
  · rw [dif_neg hc, if_pos (by omega)]
    unfold ext
    rw [dif_pos (by omega)]
    exact congrArg₂ (Lru.xb p) (Fin.ext (by show o + i.val - 3 = i.val - (3 - o); omega)) rfl
theorem r9 : res_main_v9 V = (Cv (u2 (back (Lru.xb p) 3)) : F32 ⟨2, ![8192, 1280]⟩) := by
  unfold res_main_v9; rw [r5 A]; exact row5 A 0 (by norm_num) _ rfl _
theorem r18 : res_main_v18 V = (Cv (u2 (back (Lru.xb p) 2)) : F32 ⟨2, ![8192, 1280]⟩) := by
  unfold res_main_v18; rw [r5 A]; exact row5 A 1 (by norm_num) _ rfl _
theorem r25 : res_main_v25 V = (Cv (u2 (back (Lru.xb p) 1)) : F32 ⟨2, ![8192, 1280]⟩) := by
  unfold res_main_v25; rw [r5 A]; exact row5 A 2 (by norm_num) _ rfl _
theorem r32 : res_main_v32 V = (Cv (u2 (back (Lru.xb p) 0)) : F32 ⟨2, ![8192, 1280]⟩) := by
  unfold res_main_v32; rw [r5 A]; exact row5 A 3 (by norm_num) _ rfl _
theorem rcw (o : ℕ) (ho : o < 4) (q : Fin 2 → ℕ) (hq : q = ![o, 0]) (h h') (d : Fin 1 → Fin 2) (hd : d = ![1]) (hb) :
    broadcastInDim ⟨2, ![1, 1280]⟩ d hb (shapeCast ⟨1, ![1280]⟩ (extractStridedSlice ⟨2, ![1, 1280]⟩ q (Cv (u2 p.cw) : F32 ⟨2, ![4, 1280]⟩) h) h')
      = (Cv (u2 fun _ j => p.cw ⟨o, ho⟩ j) : F32 ⟨2, ![1, 1280]⟩) := by
  rw [slice_Cv, slice2r _ o _ hq _ (by omega), shapeCast_Cv, cast2_1, broadcastInDim_Cv, bcast1_2_1 _ _ hd]
  rfl
theorem r10 : res_main_v10 V = (Cv (u2 fun _ j => p.cw 0 j) : F32 ⟨2, ![1, 1280]⟩) := by
  unfold res_main_v10; rw [A.h3]; exact rcw A 0 (by norm_num) _ rfl _ _ _ rfl _
theorem r19 : res_main_v19 V = (Cv (u2 fun _ j => p.cw 1 j) : F32 ⟨2, ![1, 1280]⟩) := by
  unfold res_main_v19; rw [A.h3]; exact rcw A 1 (by norm_num) _ rfl _ _ _ rfl _
theorem r26 : res_main_v26 V = (Cv (u2 fun _ j => p.cw 2 j) : F32 ⟨2, ![1, 1280]⟩) := by
  unfold res_main_v26; rw [A.h3]; exact rcw A 2 (by norm_num) _ rfl _ _ _ rfl _
theorem r33 : res_main_v33 V = (Cv (u2 fun _ j => p.cw 3 j) : F32 ⟨2, ![1, 1280]⟩) := by
  unfold res_main_v33; rw [A.h3]; exact rcw A 3 (by norm_num) _ rfl _ _ _ rfl _
theorem r36 : res_main_v36 V = (Cv (u2 (Lru.xc p)) : F32 ⟨2, ![8192, 1280]⟩) := by
  unfold res_main_v36; rw [A.h4, r9 A, r10 A, r18 A, r19 A, r25 A, r26 A, r32 A, r33 A]
  dsimp only [S8192x1280, S1x1280, S1280]
  simp (disch := first | rfl | decide) only [broadcastInDim_Cv, bcast1_2_1, bcast2_row, mulf_Cv, addf_Cv, u2_mul, u2_add]
  rfl
theorem r37 : res_main_v37 V = (Cv (u3 fun t h i => Lru.xc p t (ch h i)) : F32 ⟨3, ![8192, 16, 80]⟩) := by
  unfold res_main_v37; rw [r36 A]
  exact congrArg Cv (cast2_3c _ rfl _)
/-- A gate: its product by heads, its bias, and the logistic function. -/
theorem rgate {w : Fin 16 → Fin 80 → Fin 80 → ℝ} {b : Fin 1280 → ℝ} :
    Host.divf (broadcastInDim S8192x1280 ![] bcast_S_S8192x1280 (constant S_ .f32 0x3F800000#32)) (addf (broadcastInDim S8192x1280 ![] bcast_S_S8192x1280 (constant S_ .f32 0x3F800000#32)) (Host.exp (Host.negf (addf (shapeCast S8192x1280 (transpose S8192x16x80 [2, 0, 1] (Host.dotGeneral dot_S16x80x80_S8192x16x80_S16x80x8192_1_2_2_0_0_1 none (Cv (u3 w) : F32 S16x80x80) (Cv (u3 fun t h i => Lru.xc p t (ch h i)) : F32 S8192x16x80)) transposes_S16x80x8192_S8192x16x80_2_0_1) shapeCasts_S8192x16x80_S8192x1280) (broadcastInDim S8192x1280 ![1] bcast_S1280_S8192x1280_1 (Cv (u1 b) : F32 S1280))))))
      = (Cv (u2 fun t j => sg (lin w (Lru.xc p) t j + b j)) : F32 ⟨2, ![8192, 1280]⟩) := by
  rw [hdot_Cv, rdot_b1 _ _ _ rfl rfl rfl rfl rfl rfl]
  dsimp only [S8192x16x80, S8192x1280, S16x80x8192, S1280, S_]
  rw [transpose_Cv, trans3_201, shapeCast_Cv, cast3_2c _ (show 1280 = 16 * 80 by norm_num) (by norm_num)]
  simp (disch := first | rfl | decide) only [kone, broadcastInDim_Cv, bcast0_2, bcast1_2_1, addf_Cv, negf_Cv, u2_add, u2_neg, hexp2, hsig2]
  rfl
theorem r47 : res_main_v47 V = (Cv (u2 (Lru.r p)) : F32 ⟨2, ![8192, 1280]⟩) := by
  unfold res_main_v47; rw [A.h5, A.h6, r37 A]; exact rgate A
theorem r60 : res_main_v60 V = (Cv (u2 (Lru.ig p)) : F32 ⟨2, ![8192, 1280]⟩) := by
  unfold res_main_v60; rw [A.h7, A.h8, r37 A]; exact rgate A
theorem r65 : res_main_v65 V = (Cv (u2 fun t j => -8 * Lru.r p t j) : F32 ⟨2, ![8192, 1280]⟩) := by
  unfold res_main_v65; rw [r47 A]
  dsimp only [S8192x1280, S_]
  rw [kneg8, broadcastInDim_Cv, bcast0_2, mulf_Cv, u2_mul]
theorem r66 : res_main_v66 V = (Cv (u1 fun j => -p.ap j) : F32 ⟨1, ![1280]⟩) := by
  unfold res_main_v66; rw [A.h9]; rfl
theorem rc0 : res_main_call0_cst V = (Cv (u0 0) : F32 ⟨0, ![]⟩) := kzero
theorem rc3 : res_main_call0_v3 V = (Cv (u1 fun j => -p.ap j) : F32 ⟨1, ![1280]⟩) := by
  unfold res_main_call0_v3; rw [r66 A, rc0 A]
  dsimp only [S1280, S_]
  rw [broadcastInDim_Cv, bcast0_1, subf_Cv]
  exact congrArg Cv (funext fun j => sub_zero _)
theorem r67 : res_main_v67_0 V = (Cv (u1 fun j => sp (-p.ap j)) : F32 ⟨1, ![1280]⟩) := by
  unfold res_main_v67_0; rw [r66 A, rc0 A, rc3 A]
  refine (select_une _ _ _).trans ?_
  dsimp only [S1280, S_]
  rw [habsf_Cv, negf_Cv, hexp_Cv, broadcastInDim_Cv, bcast0_1, maximumf_Cv]
  refine (congrArg (addf _) (hlog1p_exp _)).trans ?_
  rw [addf_Cv]
  exact congrArg Cv (funext fun j => sp_stable _)
theorem r68 : res_main_v68 V = (Cv (u2 fun _ j => sp (-p.ap j)) : F32 ⟨2, ![1, 1280]⟩) := by
  unfold res_main_v68; rw [r67 A]
  exact (broadcastInDim_Cv _ _ _ _).trans (congrArg Cv (bcast1_2_1 _ _ rfl _))
theorem r70 : res_main_v70 V = (Cv (u2 (Lru.la p)) : F32 ⟨2, ![8192, 1280]⟩) := by
  unfold res_main_v70; rw [r65 A, r68 A]
  dsimp only [S8192x1280, S1x1280]
  rw [broadcastInDim_Cv, bcast2_row _ _ rfl, mulf_Cv, u2_mul]
  rfl
theorem r72 : res_main_v72 V = (Cv (u2 fun t j => 2 * Lru.la p t j) : F32 ⟨2, ![8192, 1280]⟩) := by
  unfold res_main_v72; rw [r70 A]
  dsimp only [S8192x1280, S_]
  rw [ktwo, broadcastInDim_Cv, bcast0_2, mulf_Cv, u2_mul]
theorem r76 : res_main_v76 V = (Cv (u2 (Lru.mult p)) : F32 ⟨2, ![8192, 1280]⟩) := by
  unfold res_main_v76; rw [r72 A]
  rw [hexpm1_Cv, negf_Cv]
  exact hsqrt_Cv _ fun i => (rad_pos p (i 0) (i 1)).le
theorem r79 : res_main_v79 V = (Cv (u2 fun t j => Lru.ig p t j * Lru.xc p t j) : F32 ⟨2, ![8192, 1280]⟩) := by
  unfold res_main_v79; rw [r60 A, r36 A]; exact mulf_Cv _ _
theorem r80 : res_main_v80 V = (Cv (u2 (Lru.inn p)) : F32 ⟨2, ![8192, 1280]⟩) := by
  unfold res_main_v80; rw [r76 A, r79 A]; exact mulf_Cv _ _
/-- The zero that the sums start from. -/
theorem rzero (i) : broadcastInDim S_ ![] bcast_S_S_ (constant (F := Ideal) S_ .f32 0x00000000#32) i = (0 : EReal) := Ideal.ofBits_zero_f32
theorem sums2 (f : Fin 8192 → Fin 1280 → ℝ) :
    Host.reduceWindowAdd ![8192, 1] ![1, 1] ![8191, 0] ![0, 0] (Cv (u2 f) : F32 S8192x1280) (broadcastInDim S_ ![] bcast_S_S_ (constant S_ .f32 0x00000000#32)) reduceWindows_S8192x1280_S8192x1280_w8192s1p8191_0_w1s1p0_0 h_S_
      = (Cv (u2 fun t j => csum (fun u => f u j) t) : F32 S8192x1280) := by
  refine cumsum2 f ?_ _ _ _ (rzero A)
  norm_num
theorem rsums2 (f : Fin 8192 → Fin 1280 → ℝ) :
    Host.reduceWindowAdd ![8192, 1] ![1, 1] ![0, 0] ![8191, 0] (Cv (u2 f) : F32 S8192x1280) (broadcastInDim S_ ![] bcast_S_S_ (constant S_ .f32 0x00000000#32)) reduceWindows_S8192x1280_S8192x1280_w8192s1p0_8191_w1s1p0_0 h_S_
      = (Cv (u2 fun t j => rcs (fun u => f u j) t) : F32 S8192x1280) := by
  refine rcumsum2 f ?_ _ _ _ (rzero A)
  norm_num
theorem r81 : res_main_v81 V = (Cv (u2 (Lru.cs p)) : F32 ⟨2, ![8192, 1280]⟩) := by
  unfold res_main_v81; rw [r70 A]; exact sums2 A _
theorem r82 : res_main_v82 V = (Cv (u2 fun t j => Real.exp (Lru.cs p t j)) : F32 ⟨2, ![8192, 1280]⟩) := by
  unfold res_main_v82; rw [r81 A]; exact hexp_Cv _
theorem r84 : res_main_v84 V = (Cv (u2 fun t j => Real.exp (-Lru.cs p t j)) : F32 ⟨2, ![8192, 1280]⟩) := by
  unfold res_main_v84; rw [r81 A]; exact (congrArg Host.exp (negf_Cv _)).trans (hexp_Cv _)
theorem r86 : res_main_v86 V = (Cv (u2 fun t j => csum (fun u => Real.exp (-Lru.cs p u j) * Lru.inn p u j) t) : F32 ⟨2, ![8192, 1280]⟩) := by
  unfold res_main_v86; rw [r84 A, r80 A, mulf_Cv]; exact sums2 A fun t j => Real.exp (-Lru.cs p t j) * Lru.inn p t j
theorem r87 : res_main_v87 V = (Cv (u2 (Lru.hs p)) : F32 ⟨2, ![8192, 1280]⟩) := by
  unfold res_main_v87; rw [r82 A, r86 A]; exact mulf_Cv _ _
theorem r88 : res_main_v88 V = (Cv (u2 (Lru.gate p)) : F32 ⟨2, ![8192, 1280]⟩) := by
  unfold res_main_v88; rw [r0 A]
  refine (slice_Cv _ _ _ _).trans (congrArg Cv ((slice2 _ 0 _ rfl _ (by norm_num)).trans (congrArg u2 (funext fun i => funext fun j => ?_))))
  exact congrArg (Lru.z p i) (Fin.ext (Nat.zero_add _))
/-- The tensor form of GELU's tanh. -/
theorem th_host (g : Fin 8192 → Fin 1280 → ℝ) :
    Host.tanh (mulf (broadcastInDim S8192x1280 ![] bcast_S_S8192x1280 (constant S_ .f32 0x3F4C422A#32)) (addf (Cv (u2 g) : F32 S8192x1280) (Host.divf (mulf (broadcastInDim S8192x1280 ![] bcast_S_S8192x1280 (constant S_ .f32 0x472EAB00#32)) (mulf (mulf (Cv (u2 g) : F32 S8192x1280) (Cv (u2 g) : F32 S8192x1280)) (Cv (u2 g) : F32 S8192x1280))) (broadcastInDim S8192x1280 ![] bcast_S_S8192x1280 (constant S_ .f32 0x49742400#32)))))
      = (Cv (u2 fun t j => th (g t j)) : F32 ⟨2, ![8192, 1280]⟩) := by
  dsimp only [S8192x1280, S_]
  simp (disch := norm_num1) only [kkap, k44715, kmillion, broadcastInDim_Cv, bcast0_2, mulf_Cv, addf_Cv, u2_mul, u2_add, hdivf2, htanh_Cv]
  refine congrArg Cv (funext fun i => congrArg Real.tanh ?_)
  change kap * (g (i 0) (i 1) + 44715 * (g (i 0) (i 1) * g (i 0) (i 1) * g (i 0) (i 1)) / 1000000)
    = kap * (g (i 0) (i 1) + cub * (g (i 0) (i 1) * g (i 0) (i 1) * g (i 0) (i 1)))
  unfold cub; ring
theorem r101 : res_main_v101 V = (Cv (u2 fun t j => th (Lru.gate p t j)) : F32 ⟨2, ![8192, 1280]⟩) := by
  unfold res_main_v101; rw [r88 A]; exact th_host A _
theorem half_host (g : Fin 8192 → Fin 1280 → ℝ) :
    mulf (broadcastInDim S8192x1280 ![] bcast_S_S8192x1280 (constant S_ .f32 0x3F000000#32)) (addf (broadcastInDim S8192x1280 ![] bcast_S_S8192x1280 (constant S_ .f32 0x3F800000#32)) (Cv (u2 g) : F32 S8192x1280)) = (Cv (u2 fun t j => 1 / 2 * (1 + g t j)) : F32 ⟨2, ![8192, 1280]⟩) := by
  dsimp only [S8192x1280, S_]
  simp only [kone, khalf, broadcastInDim_Cv, bcast0_2, mulf_Cv, addf_Cv, u2_mul, u2_add]
theorem r110 : res_main_v110 V = (Cv (u2 fun t j => 1 / 2 * (1 + th (Lru.gate p t j))) : F32 ⟨2, ![8192, 1280]⟩) := by
  unfold res_main_v110; rw [r101 A]; exact half_host A _
theorem r111 : res_main_v111 V = (Cv (u2 fun t j => gel (Lru.gate p t j)) : F32 ⟨2, ![8192, 1280]⟩) := by
  unfold res_main_v111; rw [r88 A, r110 A]; exact mulf_Cv _ _
theorem r112 : res_main_v112 V = (Cv (u2 (Lru.y p)) : F32 ⟨2, ![8192, 1280]⟩) := by
  unfold res_main_v112; rw [r87 A, r111 A]; exact mulf_Cv _ _
theorem r114 : res_main_v114 V = (Cv (u2 (Lru.dy p)) : F32 ⟨2, ![8192, 1280]⟩) := by
  unfold res_main_v114; rw [A.h0, A.h10]
  exact (hdot_Cv _ _ _ _).trans (congrArg Cv (rdot_nt _ _ _ rfl rfl rfl rfl rfl rfl))
theorem r115 : res_main_v115 V = (Cv (u2 fun t j => Lru.hs p t j * Lru.dy p t j) : F32 ⟨2, ![8192, 1280]⟩) := by
  unfold res_main_v115; rw [r87 A, r114 A]; exact mulf_Cv _ _
theorem r116 : res_main_v116 V = (Cv (u2 (Lru.dh p)) : F32 ⟨2, ![8192, 1280]⟩) := by
  unfold res_main_v116; rw [r114 A, r111 A]; exact mulf_Cv _ _
theorem slope_host (g e t : Fin 8192 → Fin 1280 → ℝ) :
    mulf (broadcastInDim S8192x1280 ![] bcast_S_S8192x1280 (constant S_ .f32 0x3F4C422A#32)) (mulf (mulf (broadcastInDim S8192x1280 ![] bcast_S_S8192x1280 (constant S_ .f32 0x3F000000#32)) (mulf (Cv (u2 g) : F32 S8192x1280) (Cv (u2 e) : F32 S8192x1280))) (mulf (addf (broadcastInDim S8192x1280 ![] bcast_S_S8192x1280 (constant S_ .f32 0x3F800000#32)) (Cv (u2 t) : F32 S8192x1280)) (subf (broadcastInDim S8192x1280 ![] bcast_S_S8192x1280 (constant S_ .f32 0x3F800000#32)) (Cv (u2 t) : F32 S8192x1280))))
      = (Cv (u2 fun i j => kap * (1 / 2 * (g i j * e i j) * ((1 + t i j) * (1 - t i j)))) : F32 ⟨2, ![8192, 1280]⟩) := by
  dsimp only [S8192x1280, S_]
  simp only [kone, khalf, kkap, broadcastInDim_Cv, bcast0_2, mulf_Cv, addf_Cv, subf_Cv, u2_mul, u2_add, u2_sub]
/-- The gradient through GELU's tanh, down to its argument. -/
def gth (p : Lru.In) : Lru.Mat := fun t j =>
  kap * (1 / 2 * (Lru.gate p t j * (Lru.hs p t j * Lru.dy p t j)) * ((1 + th (Lru.gate p t j)) * (1 - th (Lru.gate p t j))))
theorem r123 : res_main_v123 V = (Cv (u2 (gth p)) : F32 ⟨2, ![8192, 1280]⟩) := by
  unfold res_main_v123; rw [r88 A, r115 A, r101 A]; exact slope_host A _ _ _
theorem r134 : res_main_v134 V = (Cv (u2 fun t j => rcs (fun u => Real.exp (Lru.cs p u j) * Lru.dh p u j) t) : F32 ⟨2, ![8192, 1280]⟩) := by
  unfold res_main_v134; rw [r82 A, r116 A, mulf_Cv]; exact rsums2 A fun t j => Real.exp (Lru.cs p t j) * Lru.dh p t j
theorem r135 : res_main_v135 V = (Cv (u2 (Lru.G p)) : F32 ⟨2, ![8192, 1280]⟩) := by
  unfold res_main_v135; rw [r84 A, r134 A]; exact mulf_Cv _ _
theorem r142 : res_main_v142 V = (Cv (u2 fun t j => Lru.mult p t j * Lru.G p t j) : F32 ⟨2, ![8192, 1280]⟩) := by
  unfold res_main_v142; rw [r76 A, r135 A]; exact mulf_Cv _ _

end Cert.LruRefIdeal.Value
-- ==== Proof.LruRef2.lean ====
module

public import proofs.«01_k».proof.Proof.Gen.LruRefIdeal.Run
public import proofs.«01_k».proof.Proof.Gen.LruRefIdeal
public import Idealize.ShloMosaic.Lib.Pipeline.ValueKit
public import proofs.«01_k».proof.Proof.LruRef

@[expose] public section

/-! The reference of the gated recurrence: its gradients as real functions of the arguments. -/

set_option maxRecDepth 16384
noncomputable section
namespace Cert.LruRefIdeal.Value
open Cert.LruRefIdeal Cert.LruRefIdeal.Gen Idealize.ShloMosaic Idealize.ShloMosaic.TcCoe Idealize.SL.Sem Idealize.ShloMosaic.StableHlo
local notation "F32 " s:max => FVec Ideal s FTy.f32
open Cert.Lift
open Cert.Lift.Lru

/-- The products of one gate's gradient, by heads. -/
theorem tl_host (w : Fin 16 → Fin 80 → Fin 80 → ℝ) (X : Lru.Mat) :
    transpose S8192x16x80 [1, 0, 2] (Host.dotGeneral dot_S16x80x8192_S16x80x80_S16x8192x80_1_2_2_1_0_0 none (transpose S16x80x8192 [1, 2, 0] (shapeCast _ (Cv (u2 X) : F32 S8192x1280) shapeCasts_S8192x1280_S8192x16x80) transposes_S8192x16x80_S16x80x8192_1_2_0) (Cv (u3 w) : F32 S16x80x80)) transposes_S16x8192x80_S8192x16x80_1_0_2
      = (Cv (u3 fun t h i => ∑ k, X t (ch h k) * w h i k) : F32 ⟨3, ![8192, 16, 80]⟩) := by
  dsimp only [S8192x16x80, S16x80x8192, S8192x1280, S16x80x80, S16x8192x80]
  rw [shapeCast_Cv, cast2_3c X (show 1280 = 16 * 80 by norm_num), transpose_Cv, trans3_120, hdot_Cv, rdot_b2 _ _ _ rfl rfl rfl rfl rfl rfl, transpose_Cv, trans3 _ _ rfl]
  rfl
theorem dlog_eq (p : Lru.In) (t : Fin 8192) (j : Fin 1280) :
    Lru.G p t j * back (Lru.hs p) 1 t j * Lru.a p t j
      + 2 * (-(Lru.G p t j * (Lru.ig p t j * Lru.xc p t j) * (1 / 2 / Lru.mult p t j)) * Real.exp (2 * Lru.la p t j)) = Lru.dlog p t j := by
  have e : Real.exp (2 * Lru.la p t j) = Lru.a p t j * Lru.a p t j := by
    unfold Lru.a; rw [← Real.exp_add, two_mul]
  have hm := (mult_pos p t j).ne'
  rw [e]; unfold Lru.dlog
  field_simp
  ring
/-- The sum down a matrix of which each row is one number per channel, kept as a row. -/
theorem sum_host (f : Lru.Mat) :
    Host.reduceAdd (Cv (u2 f) : F32 S8192x1280) (constant S_ .f32 0x00000000#32) reducesTo_S8192x1280_S1280_d0 h_S_
      = (Cv (u1 fun j => ∑ t, f t j) : F32 ⟨1, ![1280]⟩) := by
  dsimp only [S8192x1280, S1280, S_]
  rw [kzero, reduceAdd_Cv0]
  exact congrArg Cv (rsum2_0 _ rfl _)
theorem sum_host' (f : Lru.Mat) :
    Host.reduceAdd (shapeCast _ (Host.reduceAdd (Cv (u2 f) : F32 S8192x1280) (constant S_ .f32 0x00000000#32) reducesTo_S8192x1280_S1280_d0 h_S_) shapeCasts_S1280_S1x1280) (constant S_ .f32 0x00000000#32) reducesTo_S1x1280_S1280_d0 h_S_
      = (Cv (u1 fun j => ∑ t, f t j) : F32 ⟨1, ![1280]⟩) := by
  rw [sum_host]
  dsimp only [S1x1280, S1280, S_]
  rw [kzero, shapeCast_Cv, cast1_row, reduceAdd_Cv0]
  refine congrArg Cv ((rsum2_0 _ rfl _).trans ?_)
  simp only [Fin.sum_univ_one]
theorem cw_host (b : Fin 1280 → ℝ) (D : Lru.Mat) :
    mulf (broadcastInDim S8192x1280 ![0, 1] bcast_S1x1280_S8192x1280_0_1 (Cv (u2 fun _ j => b j) : F32 S1x1280)) (Cv (u2 D))
      = (Cv (u2 fun t j => b j * D t j) : F32 ⟨2, ![8192, 1280]⟩) := by
  dsimp only [S8192x1280, S1x1280]
  rw [broadcastInDim_Cv, bcast2_row _ _ rfl, mulf_Cv, u2_mul]
theorem zero_ (i) : constant (F := Ideal) S_ .f32 0x00000000#32 i = (0 : EReal) := Ideal.ofBits_zero_f32

theorem sumand_host (a b c d e f : Lru.Mat) :
    addf (Host.negf (mulf (mulf (Cv (u2 a) : F32 S8192x1280) (Cv (u2 b))) (Cv (u2 c)))) (mulf (mulf (Cv (u2 d)) (Cv (u2 e))) (Cv (u2 f)))
      = (Cv (u2 fun t j => -(a t j * b t j * c t j) + d t j * e t j * f t j) : F32 S8192x1280) := by
  simp only [mulf_Cv, negf_Cv, addf_Cv]; rfl
theorem mult_ne (p : Lru.In) (i : (⟨2, ![8192, 1280]⟩ : Shape).Idx) : u2 (Lru.mult p) i ≠ 0 := (mult_pos p (i 0) (i 1)).ne'
theorem rest_host (a b c d : Lru.Mat) :
    mulf (Cv (broadcastInDim S8192x1280 ![] bcast_S_S8192x1280 (u0 2)) : F32 S8192x1280)
      (mulf (Host.negf (mulf (mulf (Cv (u2 a)) (Cv (u2 b))) (Cv (broadcastInDim S8192x1280 ![] bcast_S_S8192x1280 (u0 (1 / 2)) / u2 c)))) (Cv fun i => Real.exp (u2 d i)))
      = (Cv (u2 fun t j => 2 * (-(a t j * b t j * (1 / 2 / c t j)) * Real.exp (d t j))) : F32 S8192x1280) := by
  simp only [mulf_Cv, negf_Cv]; rfl

variable {V : Valuation τ sig (Elt Ideal)} {p : Lru.In} (A : Args V p)
include A

theorem r151 : res_main_v151 V = (Cv (u2 (Lru.dlog p)) : F32 ⟨2, ![8192, 1280]⟩) := by
  unfold res_main_v151; rw [r134 A, r80 A, r84 A, r116 A, r86 A, r82 A, r135 A, r79 A, r76 A, r72 A]
  rw [show constant (F := Ideal) S_ .f32 0x3F000000#32 = Cv (u0 (1 / 2)) from khalf, show constant (F := Ideal) S_ .f32 0x40000000#32 = Cv (u0 2) from ktwo]
  rw [broadcastInDim_Cv, broadcastInDim_Cv, hdivf_Cv _ _ (mult_ne p), hexp_Cv]
  rw [sumand_host, rsums2 A]
  refine (congrArg (addf _) (rest_host (Lru.G p) (fun t j => Lru.ig p t j * Lru.xc p t j) (Lru.mult p) fun t j => 2 * Lru.la p t j)).trans ?_
  refine (addf_Cv _ _).trans (congrArg Cv (u2_ext _ _ fun t j => ?_))
  refine Eq.trans ?_ (dlog_eq p t j)
  exact congrArg (· + _) (G_sums p t j)
theorem r162 : res_main_v162 V = (Cv (u2 (Lru.dpx p)) : F32 ⟨2, ![8192, 1280]⟩) := by
  unfold res_main_v162; rw [r142 A, r36 A, r60 A]
  rw [show constant (F := Ideal) S_ .f32 0x3F800000#32 = Cv (u0 1) from kone, broadcastInDim_Cv]
  simp only [mulf_Cv, subf_Cv]
  refine congrArg Cv (funext fun i => ?_)
  change Lru.mult p (i 0) (i 1) * Lru.G p (i 0) (i 1) * Lru.xc p (i 0) (i 1) * (Lru.ig p (i 0) (i 1) * (1 - Lru.ig p (i 0) (i 1))) = Lru.dpx p (i 0) (i 1)
  unfold Lru.dpx; ring
theorem r167 : res_main_v167 V = (Cv (u2 (Lru.dpa p)) : F32 ⟨2, ![8192, 1280]⟩) := by
  unfold res_main_v167; rw [r151 A, r68 A, r47 A]
  rw [show constant (F := Ideal) S_ .f32 0x3F800000#32 = Cv (u0 1) from kone, show constant (F := Ideal) S_ .f32 0xC1000000#32 = Cv (u0 (-8)) from kneg8]
  rw [broadcastInDim_Cv, broadcastInDim_Cv, broadcastInDim_Cv, bcast2_row _ _ rfl]
  simp only [mulf_Cv, subf_Cv]
  refine congrArg Cv (funext fun i => ?_)
  change -8 * (Lru.dlog p (i 0) (i 1) * sp (-p.ap (i 1))) * (Lru.r p (i 0) (i 1) * (1 - Lru.r p (i 0) (i 1))) = Lru.dpa p (i 0) (i 1)
  unfold Lru.dpa; ring
theorem r174 : res_main_v174 V = (Cv (u2 (Lru.dxc p)) : F32 ⟨2, ![8192, 1280]⟩) := by
  unfold res_main_v174; rw [r60 A, r142 A, r162 A, r167 A, A.h5, A.h7, tl_host, tl_host]
  rw [addf_Cv, u3_add, shapeCast_Cv]
  refine (congrArg (fun x => addf _ (Cv x)) (cast3_2c _ (show 1280 = 16 * 80 by norm_num) (by norm_num) _)).trans ?_
  rw [mulf_Cv]
  refine (addf_Cv _ _).trans (congrArg Cv (funext fun i => ?_))
  change Lru.ig p (i 0) (i 1) * (Lru.mult p (i 0) (i 1) * Lru.G p (i 0) (i 1)) + (tlin p.wx (Lru.dpx p) (i 0) (i 1) + tlin p.wa (Lru.dpa p) (i 0) (i 1)) = Lru.dxc p (i 0) (i 1)
  unfold Lru.dxc; ring
/-- The convolution's gradient, its rows moved down by three. -/
def conv (p : Lru.In) (i : Fin 8195) (j : Fin 1280) : ℝ :=
  (if h : 3 ≤ i.val ∧ i.val - 3 < 8192 then p.cw 3 j * Lru.dxc p ⟨i.val - 3, h.2⟩ j else 0)
  + (if h : 2 ≤ i.val ∧ i.val - 2 < 8192 then p.cw 2 j * Lru.dxc p ⟨i.val - 2, h.2⟩ j else 0)
  + (if h : 1 ≤ i.val ∧ i.val - 1 < 8192 then p.cw 1 j * Lru.dxc p ⟨i.val - 1, h.2⟩ j else 0)
  + (if h : 0 ≤ i.val ∧ i.val - 0 < 8192 then p.cw 0 j * Lru.dxc p ⟨i.val - 0, h.2⟩ j else 0)
theorem r216 : res_main_v216 V = (Cv (u2 (conv p)) : F32 ⟨2, ![8195, 1280]⟩) := by
  unfold res_main_v216; rw [r174 A, r33 A, r26 A, r19 A, r10 A]
  rw [cw_host, cw_host, cw_host, cw_host]
  dsimp only [S8195x1280]
  rw [pad_rows (a := 8192) (k := 8195) _ 3 0 rfl _ _ _ zero_, pad_rows (a := 8192) (k := 8195) _ 2 1 rfl _ _ _ zero_, pad_rows (a := 8192) (k := 8195) _ 1 2 rfl _ _ _ zero_, pad_rows (a := 8192) (k := 8195) _ 0 3 rfl _ _ _ zero_]
  simp only [addf_Cv]
  rfl

end Cert.LruRefIdeal.Value
-- ==== Proof.LruRef3.lean ====
module

public import proofs.«01_k».proof.Proof.Gen.LruRefIdeal.Run
public import proofs.«01_k».proof.Proof.Gen.LruRefIdeal
public import Idealize.ShloMosaic.Lib.Pipeline.ValueKit
public import proofs.«01_k».proof.Proof.LruRef2

@[expose] public section

/-! The reference of the gated recurrence: its results as real functions of the arguments. -/

set_option maxRecDepth 16384
noncomputable section
namespace Cert.LruRefIdeal.Value
open Cert.LruRefIdeal Cert.LruRefIdeal.Gen Idealize.ShloMosaic Idealize.ShloMosaic.TcCoe Idealize.SL.Sem Idealize.ShloMosaic.StableHlo
local notation "F32 " s:max => FVec Ideal s FTy.f32
open Cert.Lift
open Cert.Lift.Lru

theorem dz0_host (h g t q : Lru.Mat) :
    addf (addf (mulf (Cv (u2 h) : F32 S8192x1280) (Cv (u2 t))) (Cv (u2 q)))
      (mulf (mulf (broadcastInDim S8192x1280 ![] bcast_S_S8192x1280 (constant S_ .f32 0x472EAB00#32)) (Host.divf (Cv (u2 q)) (broadcastInDim S8192x1280 ![] bcast_S_S8192x1280 (constant S_ .f32 0x49742400#32))))
        (mulf (broadcastInDim S8192x1280 ![] bcast_S_S8192x1280 (constant S_ .f32 0x40400000#32)) (mulf (Cv (u2 g)) (Cv (u2 g)))))
      = (Cv (u2 fun i j => h i j * t i j + q i j + 44715 * (q i j / 1000000) * (3 * (g i j * g i j))) : F32 S8192x1280) := by
  dsimp only [S8192x1280, S_]
  simp (disch := norm_num1) only [kthree, k44715, kmillion, broadcastInDim_Cv, bcast0_2, mulf_Cv, addf_Cv, u2_mul, u2_add, hdivf2]
theorem dz0_eq (p : Lru.In) (t : Fin 8192) (j : Fin 1280) :
    Lru.hs p t j * Lru.dy p t j * (1 / 2 * (1 + th (Lru.gate p t j))) + gth p t j + 44715 * (gth p t j / 1000000) * (3 * (Lru.gate p t j * Lru.gate p t j)) = Lru.dz0 p t j := by
  unfold Lru.dz0 dgel gth cub; ring
theorem dz1_eq (p : Lru.In) (t : Fin 8192) (j : Fin 1280) : conv p ⟨3 + t.val, by omega⟩ j = Lru.dz1 p t j := by
  have key : ∀ (k : ℕ) (c : ℝ), (if h : k ≤ 3 + t.val ∧ 3 + t.val - k < 8192 then c * Lru.dxc p ⟨3 + t.val - k, h.2⟩ j else 0)
      = c * (if h : 3 + t.val - k < 8192 then if k ≤ 3 + t.val then Lru.dxc p ⟨3 + t.val - k, h⟩ j else 0 else 0) := by
    intro k c
    by_cases h1 : k ≤ 3 + t.val <;> by_cases h2 : 3 + t.val - k < 8192 <;> simp [h1, h2]
  unfold conv Lru.dz1 ext
  rw [key, key, key, key]
  rw [dif_pos (show 3 + t.val - 3 < 8192 by omega), if_pos (show 3 ≤ 3 + t.val by omega)]
  simp only [show 2 ≤ 3 + t.val by omega, show 1 ≤ 3 + t.val by omega, show 0 ≤ 3 + t.val by omega, if_true]
  have e3 : (⟨3 + t.val - 3, by omega⟩ : Fin 8192) = t := Fin.ext (by show 3 + t.val - 3 = t.val; omega)
  rw [e3]
  simp only [show 3 + t.val - 2 = t.val + 1 by omega, show 3 + t.val - 1 = t.val + 2 by omega, show 3 + t.val - 0 = t.val + 3 by omega]
/-- The rows of the convolution's weight gradient, each padded into its place. -/
theorem rows_host (f : Fin 4 → Fin 1280 → ℝ) :
    addf (addf (addf (pad S4x1280 ![3, 0] ![0, 0] ![0, 0] (broadcastInDim S1x1280 ![1] bcast_S1280_S1x1280_1 (Cv (u1 (f 3)) : F32 S1280)) (constant S_ .f32 0x00000000#32) pads_S1x1280_S4x1280_300_000 h_S_)
      (pad S4x1280 ![2, 0] ![1, 0] ![0, 0] (broadcastInDim S1x1280 ![1] bcast_S1280_S1x1280_1 (Cv (u1 (f 2)) : F32 S1280)) (constant S_ .f32 0x00000000#32) pads_S1x1280_S4x1280_210_000 h_S_))
      (pad S4x1280 ![1, 0] ![2, 0] ![0, 0] (broadcastInDim S1x1280 ![1] bcast_S1280_S1x1280_1 (Cv (u1 (f 1)) : F32 S1280)) (constant S_ .f32 0x00000000#32) pads_S1x1280_S4x1280_120_000 h_S_))
      (pad S4x1280 ![0, 0] ![3, 0] ![0, 0] (broadcastInDim S1x1280 ![1] bcast_S1280_S1x1280_1 (Cv (u1 (f 0)) : F32 S1280)) (constant S_ .f32 0x00000000#32) pads_S1x1280_S4x1280_030_000 h_S_)
      = (Cv (u2 f) : F32 ⟨2, ![4, 1280]⟩) := by
  dsimp only [S4x1280, S1x1280, S1280]
  simp only [broadcastInDim_Cv, bcast1_2_1 _ ![1] rfl]
  rw [pad_rows (a := 1) (k := 4) _ 3 0 rfl _ _ _ zero_, pad_rows (a := 1) (k := 4) _ 2 1 rfl _ _ _ zero_, pad_rows (a := 1) (k := 4) _ 1 2 rfl _ _ _ zero_, pad_rows (a := 1) (k := 4) _ 0 3 rfl _ _ _ zero_]
  simp only [addf_Cv]
  refine congrArg Cv (u2_ext _ _ fun i j => ?_)
  match i with
  | ⟨0, _⟩ => simp [u2, Idealize.ShloMosaic.ValueIdx.ix2]
  | ⟨1, _⟩ => simp [u2, Idealize.ShloMosaic.ValueIdx.ix2]
  | ⟨2, _⟩ => simp [u2, Idealize.ShloMosaic.ValueIdx.ix2]
  | ⟨3, _⟩ => simp [u2, Idealize.ShloMosaic.ValueIdx.ix2]
theorem ap_eq (p : Lru.In) (j : Fin 1280) : -((∑ t, -8 * Lru.r p t j * Lru.dlog p t j) * sg (-p.ap j)) = Lru.dap p j := by
  unfold Lru.dap
  rw [Finset.sum_mul, ← Finset.sum_neg_distrib]
  exact Finset.sum_congr rfl fun t _ => by ring
theorem top_ (i : S1280.Idx) : broadcastInDim S1280 ![] bcast_S_S1280 (constant (F := Ideal) S_ .f32 0x7F800000#32) i = (⊤ : EReal) := inf
/-- The row of four blocks of 640 channels. -/
def four (p : Lru.In) (q : Fin 4) (t : Fin 8192) (j : Fin 640) : ℝ :=
  if q.val % 2 = 0 then Lru.dpa p t ⟨q.val / 2 * 640 + j.val, by omega⟩ else Lru.dpx p t ⟨q.val / 2 * 640 + j.val, by omega⟩
theorem cut (f : Lru.Mat) (o : ℕ) (ho : o = 0 ∨ o = 640) (q : Fin 2 → ℕ) (hq : q = ![0, o]) (h) :
    extractStridedSlice S8192x640 q (Cv (u2 f) : F32 S8192x1280) h
      = (Cv (u2 fun t (j : Fin 640) => f t ⟨o + j.val, by omega⟩) : F32 ⟨2, ![8192, 640]⟩) :=
  (slice_Cv _ _ _ _).trans (congrArg Cv (slice2 _ o _ hq _ (by omega)))

theorem runR (m : (ℓ : Loc nD τ sig) → Buf (Elt Ideal) ℓ) (ρ : Dev nD → PrngReg) (p : Lru.In) (hA : ∀ c : Dev nD, Args (launchContents m c) p) :
    θ_run defs (onTc (τ := τ) (main (F := Ideal))) ⟨m, fun _ => 0, ρ⟩ fun r => ∀ c : Dev nD,
      r.2.mem ((c.tc : Thread nD τ).loc main_v229) = (Cv (u2 (Lru.dz p)) : FVec Ideal S8192x2560 .bf16)
      ∧ r.2.mem ((c.tc : Thread nD τ).loc main_v230) = (Cv (u2 (Lru.dpre p)) : FVec Ideal S8192x2560 .bf16)
      ∧ r.2.mem ((c.tc : Thread nD τ).loc main_v231) = (Cv (u2 (Lru.xc p)) : FVec Ideal S8192x1280 .bf16)
      ∧ r.2.mem ((c.tc : Thread nD τ).loc main_v232) = (Cv (u2 (Lru.y p)) : FVec Ideal S8192x1280 .bf16)
      ∧ r.2.mem ((c.tc : Thread nD τ).loc main_v219) = (Cv (u2 (Lru.dcw p)) : F32 S4x1280)
      ∧ r.2.mem ((c.tc : Thread nD τ).loc main_v208) = (Cv (u1 (Lru.dcb p)) : F32 S1280)
      ∧ r.2.mem ((c.tc : Thread nD τ).loc main_v233) = (Cv (u1 (Lru.dba p)) : F32 S1280)
      ∧ r.2.mem ((c.tc : Thread nD τ).loc main_v234) = (Cv (u1 (Lru.dbx p)) : F32 S1280)
      ∧ r.2.mem ((c.tc : Thread nD τ).loc main_v159) = (Cv (u1 (Lru.dap p)) : F32 S1280) := by
  refine (θ_run defs _ _).mono (fun r h c => ⟨(h c).1.trans ?_, (h c).2.1.trans ?_, (h c).2.2.1.trans ?_, (h c).2.2.2.1.trans ?_, (h c).2.2.2.2.1.trans ?_,
    (h c).2.2.2.2.2.1.trans ?_, (h c).2.2.2.2.2.2.1.trans ?_, (h c).2.2.2.2.2.2.2.1.trans ?_, (h c).2.2.2.2.2.2.2.2.1.trans ?_⟩) (run m ρ)
  all_goals clear h
  all_goals have A := hA c
  · rw [r115 A, r110 A, r123 A, r88 A, r216 A, dz0_host]
    rw [slice_Cv]
    refine (congrArg (fun x => truncf .bf16 (addf _ (pad S8192x2560 ![0, 1280] ![0, 0] ![0, 0] (Cv x) _ _ _)) _) (slice2r (a := 8195) (b := 1280) (c := 8192) _ 3 _ rfl _ (by norm_num))).trans ?_
    dsimp only [S8192x2560]
    rw [pad_cols (b := 1280) (k := 2560) _ 0 1280 rfl _ _ _ zero_, pad_cols (b := 1280) (k := 2560) _ 1280 0 rfl _ _ _ zero_, addf_Cv, truncf_Cv]
    refine congrArg Cv (u2_ext _ _ fun t j => ?_)
    change (if h : 0 ≤ j.val ∧ j.val - 0 < 1280 then Lru.hs p t ⟨j.val - 0, h.2⟩ * Lru.dy p t ⟨j.val - 0, h.2⟩ * (1 / 2 * (1 + th (Lru.gate p t ⟨j.val - 0, h.2⟩))) + gth p t ⟨j.val - 0, h.2⟩
        + 44715 * (gth p t ⟨j.val - 0, h.2⟩ / 1000000) * (3 * (Lru.gate p t ⟨j.val - 0, h.2⟩ * Lru.gate p t ⟨j.val - 0, h.2⟩)) else 0)
      + (if h : 1280 ≤ j.val ∧ j.val - 1280 < 1280 then conv p ⟨3 + t.val, _⟩ ⟨j.val - 1280, h.2⟩ else 0) = Lru.dz p t j
    unfold Lru.dz
    by_cases hj : j.val < 1280
    · rw [dif_pos (show 0 ≤ j.val ∧ j.val - 0 < 1280 by omega), dif_neg (show ¬(1280 ≤ j.val ∧ j.val - 1280 < 1280) by omega), dif_pos hj, add_zero, dz0_eq]
      rfl
    · rw [dif_neg (show ¬(0 ≤ j.val ∧ j.val - 0 < 1280) by omega), dif_pos (show 1280 ≤ j.val ∧ j.val - 1280 < 1280 by omega), dif_neg hj, zero_add, dz1_eq]
  · rw [r167 A, r162 A, cut _ 0 (Or.inl rfl) _ rfl, cut _ 640 (Or.inr rfl) _ rfl, cut _ 0 (Or.inl rfl) _ rfl, cut _ 640 (Or.inr rfl) _ rfl]
    refine (congrArg (fun x => truncf .bf16 x _) (concat4 (four p) (show 2560 = 4 * 640 by norm_num) (by norm_num) _)).trans ?_
    rfl
  · rw [r36 A]; rfl
  · rw [r112 A]; rfl
  · rw [r174 A, r32 A, r25 A, r18 A, r9 A, mulf_Cv, mulf_Cv, mulf_Cv, mulf_Cv, u2_mul, u2_mul, u2_mul, u2_mul, sum_host', sum_host', sum_host', sum_host']
    exact rows_host (Lru.dcw p)
  · rw [r174 A]; exact sum_host' _
  · rw [r167 A]; exact sum_host _
  · rw [r162 A]; exact sum_host _
  · rw [r65 A, r151 A, r66 A, r67 A, select_top _ _ _ _ top_, select_top _ _ _ _ top_, mulf_Cv, u2_mul, sum_host', subf_Cv, hexp_Cv, mulf_Cv, negf_Cv]
    have key : ∀ j : Fin 1280, -((∑ t, -8 * Lru.r p t j * Lru.dlog p t j) * Real.exp (-p.ap j - sp (-p.ap j))) = Lru.dap p j := fun j => by
      rw [sp_slope, ap_eq]
    exact congrArg Cv (funext fun i => key (i 0))

end Cert.LruRefIdeal.Value
-- ==== Proof.LruTileOps.lean ====
module

public import proofs.«01_k».proof.Proof.LruOps

@[expose] public section

/-! Operations on tiles of 256 rows: the rows before and after a tile's own, one doubling of the backward scan, and sums of
    rows by their places in groups of eight. -/

noncomputable section
namespace Cert.Lift.Lru
open Idealize.ShloMosaic ValueIdx

/-- A tile's rows moved up by `s`, rows of `Y` coming in at the end. -/
def up (s : ℕ) (X : Fin 256 → Fin 1280 → ℝ) (Y : Fin 8 → Fin 1280 → ℝ) (r : Fin 256) (j : Fin 1280) : ℝ :=
  if h : r.val + s < 256 then X ⟨r.val + s, h⟩ j else Y ⟨(r.val + s - 256) % 8, Nat.mod_lt _ (by norm_num)⟩ j
/-- A tile's rows moved down by `s`, rows of `Y` coming in at the start. -/
def dn (s : ℕ) (Y : Fin 8 → Fin 1280 → ℝ) (X : Fin 256 → Fin 1280 → ℝ) (r : Fin 256) (j : Fin 1280) : ℝ :=
  if h : s ≤ r.val then X ⟨r.val - s, by omega⟩ j else Y ⟨(8 + r.val - s) % 8, Nat.mod_lt _ (by norm_num)⟩ j

section
variable {φ : FTy} {X : Fin 256 → Fin 1280 → ℝ} {Y : Fin 8 → Fin 1280 → ℝ} {x : FVec Ideal ⟨2, ![256, 1280]⟩ φ} {y : FVec Ideal ⟨2, ![8, 1280]⟩ φ}
theorem up_cat (s : ℕ) (w : BitVec 32) (hw : w.toNat % 264 = 264 - s) (h0 : 0 < s) (h8 : s ≤ 8) (hx : x = Cv (u2 X)) (hy : y = Cv (u2 Y)) (h1 h2 h3) :
    extractStridedSlice ⟨2, ![256, 1280]⟩ ![0, 0] (dynamicRotate 0 w none (concatenate ⟨2, ![264, 1280]⟩ 0 [⟨⟨2, ![256, 1280]⟩, x⟩, ⟨⟨2, ![8, 1280]⟩, y⟩] h1) h2) h3
      = Cv (u2 (up s X Y)) := by
  rw [concat_rows (by norm_num) hx hy, roll2 _ w (264 - s) hw (by norm_num), slice_Cv, slice2r _ 0 _ rfl _ (by norm_num)]
  refine congrArg Cv (u2_ext _ _ fun r j => ?_)
  show rcat (show 264 = 256 + 8 by norm_num) X Y ⟨(0 + r.val + 264 - (264 - s)) % 264, _⟩ j = up s X Y r j
  have e : (0 + r.val + 264 - (264 - s)) % 264 = r.val + s := by omega
  unfold rcat up
  by_cases h : r.val + s < 256
  · refine (dif_pos (by simpa only [e] using h)).trans (Eq.trans ?_ (dif_pos h).symm)
    exact congrArg₂ X (Fin.ext e) rfl
  · refine (dif_neg (by simpa only [e] using h)).trans (Eq.trans ?_ (dif_neg h).symm)
    refine congrArg₂ Y (Fin.ext ?_) rfl
    show (0 + r.val + 264 - (264 - s)) % 264 - 256 = (r.val + s - 256) % 8
    omega
theorem dn_cat (s : ℕ) (w : BitVec 32) (hw : w.toNat % 264 = s) (h8 : s ≤ 8) (hx : x = Cv (u2 X)) (hy : y = Cv (u2 Y)) (h1 h2 h3) :
    extractStridedSlice ⟨2, ![256, 1280]⟩ ![8, 0] (dynamicRotate 0 w none (concatenate ⟨2, ![264, 1280]⟩ 0 [⟨⟨2, ![8, 1280]⟩, y⟩, ⟨⟨2, ![256, 1280]⟩, x⟩] h1) h2) h3
      = Cv (u2 (dn s Y X)) := by
  rw [concat_rows (by norm_num) hy hx, roll2 _ w s hw (by norm_num), slice_Cv, slice2r _ 8 _ rfl _ (by norm_num)]
  refine congrArg Cv (u2_ext _ _ fun r j => ?_)
  show rcat (show 264 = 8 + 256 by norm_num) Y X ⟨(8 + r.val + 264 - s) % 264, _⟩ j = dn s Y X r j
  have e : (8 + r.val + 264 - s) % 264 = 8 + r.val - s := by omega
  unfold rcat dn
  by_cases h : s ≤ r.val
  · refine (dif_neg (by simp only [e]; omega)).trans (Eq.trans ?_ (dif_pos h).symm)
    refine congrArg₂ X (Fin.ext ?_) rfl
    show (8 + r.val + 264 - s) % 264 - 8 = r.val - s
    omega
  · refine (dif_pos (by simp only [e]; omega)).trans (Eq.trans ?_ (dif_neg h).symm)
    refine congrArg₂ Y (Fin.ext ?_) rfl
    show (8 + r.val + 264 - s) % 264 = (8 + r.val - s) % 8
    omega
end

/-! ## A doubling of the scan -/
section
variable {φ : FTy} {C D : Fin 256 → Fin 1280 → ℝ} {x y : FVec Ideal ⟨2, ![256, 1280]⟩ φ}
theorem catC (m s : ℕ) (hm : 256 = m + s) (hx : x = Cv (u2 C)) (q q') (hq : q = ![s, 0]) (hq' : q' = ![m, 0]) (h1 h2 h3 h) :
    concatenate ⟨2, ![256, 1280]⟩ 0 [⟨⟨2, ![m, 1280]⟩, mulf (extractStridedSlice ⟨2, ![m, 1280]⟩ ![0, 0] x h1) (extractStridedSlice ⟨2, ![m, 1280]⟩ q x h2)⟩,
      ⟨⟨2, ![s, 1280]⟩, extractStridedSlice ⟨2, ![s, 1280]⟩ q' x h3⟩] h = Cv (u2 (stepC s C)) := by
  subst hx
  rw [slice_Cv, slice_Cv, slice_Cv, slice2r _ 0 _ rfl _ (by omega), slice2r _ s _ hq _ (by omega), slice2r _ m _ hq' _ (by omega), mulf_Cv, u2_mul, concat_rows hm rfl rfl]
  refine congrArg Cv (u2_ext _ _ fun r j => ?_)
  show rcat hm _ _ r j = stepC s C r j
  unfold rcat stepC
  by_cases hr : r.val + s < 256
  · refine (dif_pos (show r.val < m by omega)).trans (Eq.trans ?_ (dif_pos hr).symm)
    exact congrArg₂ (· * ·) (congrArg₂ C (Fin.ext (Nat.zero_add _)) rfl) (congrArg₂ C (Fin.ext (Nat.add_comm _ _)) rfl)
  · refine (dif_neg (show ¬r.val < m by omega)).trans (Eq.trans ?_ (dif_neg hr).symm)
    exact congrArg₂ C (Fin.ext (show m + (r.val - m) = r.val by omega)) rfl
theorem catD (m s : ℕ) (hm : 256 = m + s) (hx : x = Cv (u2 C)) (hy : y = Cv (u2 D)) (q q') (hq : q = ![s, 0]) (hq' : q' = ![m, 0]) (h1 h2 h3 h4 h) :
    concatenate ⟨2, ![256, 1280]⟩ 0 [⟨⟨2, ![m, 1280]⟩, addf (extractStridedSlice ⟨2, ![m, 1280]⟩ ![0, 0] y h1)
        (mulf (extractStridedSlice ⟨2, ![m, 1280]⟩ ![0, 0] x h2) (extractStridedSlice ⟨2, ![m, 1280]⟩ q y h3))⟩,
      ⟨⟨2, ![s, 1280]⟩, extractStridedSlice ⟨2, ![s, 1280]⟩ q' y h4⟩] h = Cv (u2 (stepD s C D)) := by
  subst hx hy
  rw [slice_Cv, slice_Cv, slice_Cv, slice_Cv, slice2r _ 0 _ rfl _ (by omega), slice2r _ 0 _ rfl _ (by omega), slice2r _ s _ hq _ (by omega), slice2r _ m _ hq' _ (by omega), mulf_Cv, u2_mul, addf_Cv, u2_add,
    concat_rows hm rfl rfl]
  refine congrArg Cv (u2_ext _ _ fun r j => ?_)
  show rcat hm _ _ r j = stepD s C D r j
  unfold rcat stepD
  by_cases hr : r.val + s < 256
  · refine (dif_pos (show r.val < m by omega)).trans (Eq.trans ?_ (dif_pos hr).symm)
    exact congrArg₂ (· + ·) (congrArg₂ D (Fin.ext (Nat.zero_add _)) rfl)
      (congrArg₂ (· * ·) (congrArg₂ C (Fin.ext (Nat.zero_add _)) rfl) (congrArg₂ D (Fin.ext (Nat.add_comm _ _)) rfl))
  · refine (dif_neg (show ¬r.val < m by omega)).trans (Eq.trans ?_ (dif_neg hr).symm)
    exact congrArg₂ D (Fin.ext (show m + (r.val - m) = r.val by omega)) rfl
/-- The rows `s` further down, `e` past the tile's end. -/
def past (s : ℕ) (e : ℝ) (X : Fin 256 → Fin 1280 → ℝ) (r : Fin 256) (j : Fin 1280) : ℝ := if h : r.val + s < 256 then X ⟨r.val + s, h⟩ j else e
theorem masked (s : ℕ) (e : ℝ) (w : BitVec 32) (hw : w.toNat % 256 = 256 - s) (h0 : 0 < s) (h8 : s ≤ 8) (hx : x = Cv (u2 C)) {M : IVec ⟨2, ![8, 1280]⟩ 1} {v : FVec Ideal ⟨2, ![8, 1280]⟩ φ}
    (hM : ∀ i, M i = if (i 0).val + 248 + s < 256 then 1#1 else 0#1) (hv : ∀ i, v i = ((e : ℝ) : EReal)) (h1 h2 h3 h) :
    concatenate ⟨2, ![256, 1280]⟩ 0 [⟨⟨2, ![248, 1280]⟩, extractStridedSlice ⟨2, ![248, 1280]⟩ ![0, 0] (dynamicRotate 0 w none x h1) h2⟩,
      ⟨⟨2, ![8, 1280]⟩, select M (extractStridedSlice ⟨2, ![8, 1280]⟩ ![248, 0] (dynamicRotate 0 w none x h1) h3) v⟩] h = Cv (u2 (past s e C)) := by
  subst hx
  rw [roll2 _ w (256 - s) hw (by norm_num), slice_Cv, slice_Cv, slice2r _ 0 _ rfl _ (by norm_num), slice2r _ 248 _ rfl _ (by norm_num)]
  have e8 : select M (Cv (u2 fun (i : Fin 8) j => C ⟨(248 + i.val + 256 - (256 - s)) % 256, Nat.mod_lt _ (by norm_num)⟩ j) : FVec Ideal ⟨2, ![8, 1280]⟩ φ) v
      = Cv (u2 fun (i : Fin 8) j => if i.val + 248 + s < 256 then C ⟨(248 + i.val + 256 - (256 - s)) % 256, Nat.mod_lt _ (by norm_num)⟩ j else e) := by
    funext i
    simp only [select, hM, hv]
    by_cases hi : (i 0).val + 248 + s < 256
    · rw [if_pos hi]
      exact congrArg Real.toEReal (if_pos hi : (if (i 0).val + 248 + s < 256 then C ⟨(248 + (i 0).val + 256 - (256 - s)) % 256, Nat.mod_lt _ (by norm_num)⟩ (i 1) else e) = _).symm
    · rw [if_neg hi]
      exact congrArg Real.toEReal (if_neg hi : (if (i 0).val + 248 + s < 256 then C ⟨(248 + (i 0).val + 256 - (256 - s)) % 256, Nat.mod_lt _ (by norm_num)⟩ (i 1) else e) = _).symm
  rw [concat_rows (by norm_num) rfl e8]
  refine congrArg Cv (u2_ext _ _ fun r j => ?_)
  show rcat (show 256 = 248 + 8 by norm_num) _ _ r j = past s e C r j
  unfold rcat past
  by_cases hr : r.val < 248
  · refine (dif_pos hr).trans (Eq.trans ?_ (dif_pos (show r.val + s < 256 by omega)).symm)
    exact congrArg₂ C (Fin.ext (show (0 + r.val + 256 - (256 - s)) % 256 = r.val + s by omega)) rfl
  · refine (dif_neg hr).trans ?_
    by_cases hs : r.val + s < 256
    · refine (if_pos (show r.val - 248 + 248 + s < 256 by omega)).trans (Eq.trans ?_ (dif_pos hs).symm)
      exact congrArg₂ C (Fin.ext (show (248 + (r.val - 248) + 256 - (256 - s)) % 256 = r.val + s by omega)) rfl
    · exact (if_neg (show ¬r.val - 248 + 248 + s < 256 by omega)).trans (by symm; exact dif_neg hs)
theorem step_past (s : ℕ) : (u2 fun r j => C r j * past s 1 C r j) = u2 (stepC s C) := u2_ext _ _ fun r j => by
  show C r j * past s 1 C r j = stepC s C r j
  unfold past stepC
  split <;> ring
theorem stepD_past (s : ℕ) : (u2 fun r j => D r j + C r j * past s 0 D r j) = u2 (stepD s C D) := u2_ext _ _ fun r j => by
  show D r j + C r j * past s 0 D r j = stepD s C D r j
  unfold past stepD
  split <;> ring
theorem mulPast (s : ℕ) {w : FVec Ideal ⟨2, ![256, 1280]⟩ φ} (hx : x = Cv (u2 C)) (hw : w = Cv (u2 (past s 1 C))) : mulf x w = Cv (u2 (stepC s C)) := by
  subst hx hw
  rw [mulf_Cv, u2_mul]; exact congrArg Cv (step_past s)
theorem addPast (s : ℕ) {w : FVec Ideal ⟨2, ![256, 1280]⟩ φ} (hx : x = Cv (u2 C)) (hy : y = Cv (u2 D)) (hw : w = Cv (u2 (past s 0 D))) : addf y (mulf x w) = Cv (u2 (stepD s C D)) := by
  subst hx hy hw
  rw [mulf_Cv, u2_mul, addf_Cv, u2_add]; exact congrArg Cv (stepD_past s)
end

/-! ## Sums by the place in a group of eight rows -/
theorem acc {X : Fin 256 → Fin 1280 → ℝ} {O : Fin 8 → Fin 1280 → ℝ} {x : FVec Ideal ⟨2, ![256, 1280]⟩ .f32} {o : FVec Ideal ⟨3, ![1, 8, 1280]⟩ .f32}
    (hx : x = Cv (u2 X)) (ho : o = Cv (u3 fun _ => O)) (h1 h2 h3 h6) :
    shapeCast ⟨3, ![1, 8, 1280]⟩ (addf (shapeCast ⟨2, ![8, 1280]⟩ o h1)
      (multiReduction .add [0] ⟨2, ![8, 1280]⟩ (shapeCast ⟨3, ![32, 8, 1280]⟩ x h2) 0x00000000#32 h3 (.inl rfl) rfl)) h6
      = (Cv (u3 fun _ b j => O b j + ∑ k : Fin 32, X ⟨k.val * 8 + b.val, by omega⟩ j) : FVec Ideal ⟨3, ![1, 8, 1280]⟩ .f32) := by
  subst hx ho
  rw [cast3_2h, shapeCast_Cv, cast2_3 _ (by norm_num)]
  refine (congrArg (fun z => shapeCast ⟨3, ![1, 8, 1280]⟩ (addf (Cv (u2 O)) z) h6)
    (mred3_0 (fun (i : Fin 32) (k : Fin 8) j => X ⟨i.val * 8 + k.val, by omega⟩ j) rfl h3 (.inl rfl) rfl)).trans ?_
  rw [addf_Cv, u2_add, shapeCast_Cv, cast2_3 _ (by norm_num)]
  refine congrArg Cv (u3_ext _ _ fun i b j => ?_)
  have hi : i = 0 := Subsingleton.elim _ _
  subst hi
  have e : (⟨(0 : Fin 1).val * 8 + b.val, by have := b.isLt; omega⟩ : Fin 8) = b := Fin.ext (by simp)
  show O ⟨(0 : Fin 1).val * 8 + b.val, _⟩ j + ∑ k : Fin 32, X ⟨k.val * 8 + ((0 : Fin 1).val * 8 + b.val), _⟩ j = _
  simp only [e]
  simp
end Cert.Lift.Lru
-- ==== Proof.LruTile.lean ====
module

public import proofs.«01_k».proof.Proof.LruTileOps

@[expose] public section

/-! What one tile of 256 rows computes, from the tile's rows, the rows next to it and the tile that comes after. -/

noncomputable section
namespace Cert.Lift.Lru

/-- A tile: its rows, the eight rows before them (`zt`, `ht`, which count `hist` times), and the first eight rows of the
    tile after it (`af`, `gf`, `df`). -/
structure Tile where
  dout : Fin 256 → Fin 1024 → ℝ
  zz : Fin 256 → Fin 2560 → ℝ
  xc : Fin 256 → Fin 1280 → ℝ
  r : Fin 256 → Fin 1280 → ℝ
  ig : Fin 256 → Fin 1280 → ℝ
  a : Fin 256 → Fin 1280 → ℝ
  mult : Fin 256 → Fin 1280 → ℝ
  hs : Fin 256 → Fin 1280 → ℝ
  zt : Fin 8 → Fin 2560 → ℝ
  ht : Fin 8 → Fin 1280 → ℝ
  hist : ℝ
  af : Fin 8 → Fin 1280 → ℝ
  gf : Fin 8 → Fin 1280 → ℝ
  df : Fin 8 → Fin 1280 → ℝ
  ap : Fin 1280 → ℝ
  wo : Fin 1280 → Fin 1024 → ℝ
  wb : Fin 2 → Fin 640 → Fin 1280 → ℝ
  cw : Fin 4 → Fin 1280 → ℝ

namespace Tile
variable (q : Tile)
/-- The two halves of the projected rows, and the second half of the rows before. -/
def g (r : Fin 256) (j : Fin 1280) : ℝ := q.zz r ⟨0 + j.val, by omega⟩
def x (r : Fin 256) (j : Fin 1280) : ℝ := q.zz r ⟨1280 + j.val, by omega⟩
def xt (r : Fin 8) (j : Fin 1280) : ℝ := q.zt r ⟨1280 + j.val, by omega⟩
def dy (r : Fin 256) (j : Fin 1280) : ℝ := ∑ k, q.dout r k * q.wo j k
/-- The scan's coefficients, its terms and its result. -/
def C : Fin 256 → Fin 1280 → ℝ := up 1 q.a q.af
def D (r : Fin 256) (j : Fin 1280) : ℝ := q.dy r j * gel (q.g r j)
def G (r : Fin 256) (j : Fin 1280) : ℝ := D128 q.C q.D r j + C128 q.C r j * q.gf 0 j
def hp : Fin 256 → Fin 1280 → ℝ := dn 1 (fun i j => q.ht i j * q.hist) q.hs
def dlog (r : Fin 256) (j : Fin 1280) : ℝ := q.G r j * q.hp r j * q.a r j - q.G r j * q.ig r j * q.xc r j * (q.a r j * q.a r j) / q.mult r j
def dpa (r : Fin 256) (j : Fin 1280) : ℝ := (0 - q.dlog r j * (8 * sp (-q.ap j))) * q.r r j * (1 - q.r r j)
def dpx (r : Fin 256) (j : Fin 1280) : ℝ := q.G r j * q.mult r j * q.xc r j * q.ig r j * (1 - q.ig r j)
/-- One half of the channels of the two gates' gradients, side by side. -/
def half (o : ℕ) (ho : o + 640 ≤ 1280) : Fin 256 → Fin 1280 → ℝ :=
  ccat (show 1280 = 640 + 640 by norm_num) (fun i j => q.dpa i ⟨o + j.val, by omega⟩) (fun i j => q.dpx i ⟨o + j.val, by omega⟩)
def dxc (r : Fin 256) (j : Fin 1280) : ℝ := q.G r j * q.mult r j * q.ig r j +
  ccat (show 1280 = 640 + 640 by norm_num) (fun i j => ∑ k, q.half 0 (by norm_num) i k * q.wb 0 j k) (fun i j => ∑ k, q.half 640 (by norm_num) i k * q.wb 1 j k) r j
def y (r : Fin 256) (j : Fin 1280) : ℝ := q.hs r j * gel (q.g r j)
def dz0 (r : Fin 256) (j : Fin 1280) : ℝ := q.dy r j * q.hs r j * dgel (q.g r j)
def dz1 (r : Fin 256) (j : Fin 1280) : ℝ := q.cw 3 j * q.dxc r j + q.cw 2 j * up 1 q.dxc q.df r j + q.cw 1 j * up 2 q.dxc q.df r j + q.cw 0 j * up 3 q.dxc q.df r j
def dz (r : Fin 256) (j : Fin 2560) : ℝ := if h : j.val < 1280 then q.dz0 r ⟨j.val, h⟩ else q.dz1 r ⟨j.val - 1280, by omega⟩
def dpre (r : Fin 256) (j : Fin 2560) : ℝ := if h : j.val < 1280 then q.half 0 (by norm_num) r ⟨j.val, h⟩ else q.half 640 (by norm_num) r ⟨j.val - 1280, by omega⟩
def dap (r : Fin 256) (j : Fin 1280) : ℝ := q.dlog r j * q.r r j * (8 * sg (-q.ap j))
def xb (k : ℕ) : Fin 256 → Fin 1280 → ℝ := dn k (fun i j => q.xt i j * q.hist) q.x
/-- What the tile adds to the sums of the convolution's gradient and of the vectors' gradients. -/
def dcw (k : Fin 4) (r : Fin 256) (j : Fin 1280) : ℝ := if k.val = 3 then q.dxc r j * q.x r j else q.dxc r j * q.xb (3 - k.val) r j
def vec (k : Fin 4) (r : Fin 256) (j : Fin 1280) : ℝ := if k.val = 0 then q.dxc r j else if k.val = 1 then q.dpa r j else if k.val = 2 then q.dpx r j else q.dap r j
/-- The sum of a tile's rows in each place of a group of eight. -/
def byPlace (X : Fin 256 → Fin 1280 → ℝ) (b : Fin 8) (j : Fin 1280) : ℝ := ∑ k : Fin 32, X ⟨k.val * 8 + b.val, by omega⟩ j
/-- The first eight rows. -/
def top (X : Fin 256 → Fin 1280 → ℝ) (b : Fin 8) (j : Fin 1280) : ℝ := X ⟨0 + b.val, by omega⟩ j
end Tile
end Cert.Lift.Lru
-- ==== Proof.LruShapes.lean ====
module

public import proofs.«01_k».proof.Proof.LruOps

@[expose] public section

/-! Rearrangements by heads: the gates' arrays by heads, five planes laid one after another, and the weights of eight heads laid
    as one block-diagonal matrix. -/

set_option maxRecDepth 16384
noncomputable section
namespace Cert.Lift.Lru
open Idealize.ShloMosaic
local notation "F32 " s:max => FVec Ideal s FTy.f32
open Cert.Lift

theorem hd_ch (h : Fin 16) (i : Fin 80) : hd (ch h i) = h := Fin.ext (by show (h.val * 80 + i.val) / 80 = h.val; omega)
theorem pl_ch (h : Fin 16) (i : Fin 80) : pl (ch h i) = i := Fin.ext (by show (h.val * 80 + i.val) % 80 = i.val; omega)
theorem ch_hd_pl (j : Fin 1280) : ch (hd j) (pl j) = j := Fin.ext (by show j.val / 80 * 80 + j.val % 80 = j.val; omega)

/-- A matrix of channels by heads. -/
def heads {n : ℕ} (f : Fin n → Fin 1280 → ℝ) : Fin n → Fin 16 → Fin 80 → ℝ := fun t h i => f t (ch h i)
/-- The numbers of the eight heads' block-diagonal weights. -/
def wbd (w : Fin 16 → Fin 80 → Fin 80 → ℝ) (q : Fin 2) (x y : Fin 640) : ℝ :=
  if x.val / 80 = y.val / 80 then w ⟨q.val * 8 + x.val / 80, by omega⟩ ⟨x.val % 80, by omega⟩ ⟨y.val % 80, by omega⟩ else 0

section
variable {n : ℕ} {φ : FTy}
theorem cast_heads (f : Fin n → Fin 1280 → ℝ) (h) : shapeCast ⟨3, ![n, 16, 80]⟩ (u2 f) h = u3 (heads f) := cast2_3c f (show 1280 = 16 * 80 by norm_num) h
theorem cast_flat (f : Fin n → Fin 1280 → ℝ) (h) : shapeCast ⟨2, ![n, 1280]⟩ (u3 (heads f)) h = u2 f :=
  (cast3_2c _ (show 1280 = 16 * 80 by norm_num) (by norm_num) h).trans
    (congrArg u2 (funext fun t => funext fun j => congrArg (f t) (ch_hd_pl j)))
theorem cast1_heads (f : Fin 1280 → ℝ) (h) : shapeCast ⟨3, ![1, 16, 80]⟩ (u1 f) h = u3 (heads fun _ => f) :=
  u3_ext _ _ fun u k j => (shapeCast_apply _ h _ (Idealize.ShloMosaic.ValueIdx.ix1 (ch k j)) (by
    rw [Shape.rowMajor_val_three, Shape.rowMajor_val_one]
    show k.val * 80 + j.val = (u.val * 16 + k.val) * 80 + j.val
    rw [show u.val = 0 by omega]; simp)).trans rfl
theorem bcast_heads (f : Fin 1 → Fin 1280 → ℝ) (d : Fin 3 → Fin 3) (hd : d = ![0, 1, 2]) (h) :
    broadcastInDim ⟨3, ![n, 16, 80]⟩ d h (u3 (heads f)) = u3 (heads fun _ => f 0) := by
  subst hd
  exact u3_ext _ _ fun t k j => (broadcastInDim_apply _ h _ _ (Idealize.ShloMosaic.ix3 (0 : Fin 1) k j)
    fun x => match x with | ⟨0, _⟩ => rfl | ⟨1, _⟩ => rfl | ⟨2, _⟩ => rfl).trans rfl
theorem bcast0_3 {a b c : ℕ} (f : ℝ) (d) (h) : broadcastInDim ⟨3, ![a, b, c]⟩ d h (u0 f) = u3 fun _ _ _ => f := rfl
theorem bcast2_3 {a b : ℕ} (f : Fin a → Fin b → ℝ) (d : Fin 2 → Fin 3) (hd : d = ![1, 2]) (h) (ha : a ≠ 1) (hb : b ≠ 1) :
    broadcastInDim ⟨3, ![1, a, b]⟩ d h (u2 f) = u3 fun _ => f := by
  subst hd
  exact u3_ext _ _ fun t k j => (broadcastInDim_apply _ h _ _ (Idealize.ShloMosaic.ix2 k j)
    fun x => match x with | ⟨0, _⟩ => (if_neg ha).symm | ⟨1, _⟩ => (if_neg hb).symm).trans rfl
/-- Five arrays by heads laid one after another, and their channels joined. -/
theorem planes5 (f : Fin 5 → Fin 8192 → Fin 1280 → ℝ) (d : Fin 3 → Fin 4) (hd : d = ![1, 2, 3]) (hb) (h) (h') :
    shapeCast ⟨3, ![5, 8192, 1280]⟩ (concatenate ⟨4, ![5, 8192, 16, 80]⟩ 0
      [⟨⟨4, ![1, 8192, 16, 80]⟩, broadcastInDim ⟨4, ![1, 8192, 16, 80]⟩ d hb (Cv (u3 (heads (f 0))) : F32 ⟨3, ![8192, 16, 80]⟩)⟩,
       ⟨⟨4, ![1, 8192, 16, 80]⟩, broadcastInDim ⟨4, ![1, 8192, 16, 80]⟩ d hb (Cv (u3 (heads (f 1))) : F32 ⟨3, ![8192, 16, 80]⟩)⟩,
       ⟨⟨4, ![1, 8192, 16, 80]⟩, broadcastInDim ⟨4, ![1, 8192, 16, 80]⟩ d hb (Cv (u3 (heads (f 2))) : F32 ⟨3, ![8192, 16, 80]⟩)⟩,
       ⟨⟨4, ![1, 8192, 16, 80]⟩, broadcastInDim ⟨4, ![1, 8192, 16, 80]⟩ d hb (Cv (u3 (heads (f 3))) : F32 ⟨3, ![8192, 16, 80]⟩)⟩,
       ⟨⟨4, ![1, 8192, 16, 80]⟩, broadcastInDim ⟨4, ![1, 8192, 16, 80]⟩ d hb (Cv (u3 (heads (f 4))) : F32 ⟨3, ![8192, 16, 80]⟩)⟩] h) h'
      = (Cv (u3 f) : F32 ⟨3, ![5, 8192, 1280]⟩) := by
  subst hd
  funext j
  refine (shapeCast_apply _ h' j (Idealize.ShloMosaic.ix4 (j 0) (j 1) (hd (j 2)) (pl (j 2))) ?_).trans ?_
  · rw [Shape.rowMajor_val_four, Shape.rowMajor_val_three]
    show (((j 0).val * 8192 + (j 1).val) * 16 + (j 2).val / 80) * 80 + (j 2).val % 80 = ((j 0).val * 8192 + (j 1).val) * 1280 + (j 2).val
    omega
  · refine (concatenate_ofFn_apply (t := ⟨4, ![5, 8192, 16, 80]⟩) (s₁ := ⟨4, ![1, 8192, 16, 80]⟩) 0
      (fun q : Fin 5 => broadcastInDim ⟨4, ![1, 8192, 16, 80]⟩ ![1, 2, 3] hb (Cv (u3 (heads (f q))) : F32 ⟨3, ![8192, 16, 80]⟩)) h rfl 1 rfl _
      (j 0) (Nat.div_one _) (Idealize.ShloMosaic.ix4 (0 : Fin 1) (j 1) (hd (j 2)) (pl (j 2))) (Nat.mod_one _).symm
      (fun k hk => match k with | ⟨0, _⟩ => absurd rfl hk | ⟨1, _⟩ => rfl | ⟨2, _⟩ => rfl | ⟨3, _⟩ => rfl)).trans ?_
    refine (broadcastInDim_apply _ hb _ _ (Idealize.ShloMosaic.ix3 (j 1) (hd (j 2)) (pl (j 2)))
      fun x => match x with | ⟨0, _⟩ => rfl | ⟨1, _⟩ => rfl | ⟨2, _⟩ => rfl).trans ?_
    exact congrArg (fun k => ((f (j 0) (j 1) k : ℝ) : EReal)) (ch_hd_pl (j 2))

/-- The unit matrix, by comparing a row's number with a column's. -/
theorem eye (i) (hb) : (uitofp .f32 (cmpi .eq (addi (iotaInDim ⟨2, ![8, 8]⟩ 32 0) (broadcastInDim ⟨2, ![8, 8]⟩ i hb (constantI ⟨0, ![]⟩ 32 0#32))) (iotaInDim ⟨2, ![8, 8]⟩ 32 1)) : F32 ⟨2, ![8, 8]⟩)
    = Cv (u2 fun a b => if a.val = b.val then 1 else 0) := by
  funext j
  rw [Idealize.ShloMosaic.ValueIdx.eq_ix2 j]
  generalize j 0 = a
  generalize j 1 = b
  show FloatOps.uitofp (F := Ideal) .f32 (BitVec.ofBool (decide (BitVec.ofNat 32 a.val + 0#32 = BitVec.ofNat 32 b.val))) = ((if a.val = b.val then (1 : ℝ) else 0 : ℝ) : EReal)
  have e : decide (BitVec.ofNat 32 a.val + 0#32 = BitVec.ofNat 32 b.val) = decide (a.val = b.val) := by
    have h : ∀ a b : Fin 8, decide (BitVec.ofNat 32 a.val + 0#32 = BitVec.ofNat 32 b.val) = decide (a.val = b.val) := by decide
    exact h a b
  rw [e]
  show (((BitVec.ofBool (decide (a.val = b.val))).toNat : ℝ) : EReal) = _
  by_cases hc : a.val = b.val
  · rw [if_pos hc, decide_eq_true hc]; norm_num; rfl
  · rw [if_neg hc, decide_eq_false hc]; norm_num
theorem wbd_host (w : Fin 16 → Fin 80 → Fin 80 → ℝ) (d1 : Fin 4 → Fin 5) (h1 : d1 = ![0, 1, 2, 4]) (d2 : Fin 2 → Fin 5) (h2 : d2 = ![1, 3])
    (d3 : Fin 5 → Fin 5) (h3 : d3 = ![0, 1, 2, 3, 4]) (c1 c2 b1 b2 b3 b4) :
    shapeCast ⟨3, ![2, 640, 640]⟩ (broadcastInDim ⟨5, ![2, 8, 80, 8, 80]⟩ d3 b3 (broadcastInDim ⟨5, ![2, 8, 80, 1, 80]⟩ d1 b1 (shapeCast ⟨4, ![2, 8, 80, 80]⟩ (u3 w) c1))
      * broadcastInDim ⟨5, ![2, 8, 80, 8, 80]⟩ d3 b4 (broadcastInDim ⟨5, ![1, 8, 1, 8, 1]⟩ d2 b2 (u2 fun (a b : Fin 8) => if a.val = b.val then (1 : ℝ) else 0))) c2
      = u3 (wbd w) := by
  subst h1 h2 h3
  refine u3_ext _ _ fun q x y => ?_
  have hx : x.val / 80 < 8 := by omega
  have hy : y.val / 80 < 8 := by omega
  refine (shapeCast_apply _ c2 _ (Idealize.ShloMosaic.ix5 q ⟨x.val / 80, hx⟩ ⟨x.val % 80, by omega⟩ ⟨y.val / 80, hy⟩ ⟨y.val % 80, by omega⟩) ?_).trans ?_
  · rw [Shape.rowMajor_val_five, Shape.rowMajor_val_three]
    show (((q.val * 8 + x.val / 80) * 80 + x.val % 80) * 8 + y.val / 80) * 80 + y.val % 80 = (q.val * 640 + x.val) * 640 + y.val
    omega
  · rw [Pi.mul_apply]
    rw [broadcastInDim_apply _ b3 _ _ (Idealize.ShloMosaic.ix5 q ⟨x.val / 80, hx⟩ ⟨x.val % 80, by omega⟩ (0 : Fin 1) ⟨y.val % 80, by omega⟩)
        (fun k => match k with | ⟨0, _⟩ => rfl | ⟨1, _⟩ => rfl | ⟨2, _⟩ => rfl | ⟨3, _⟩ => rfl | ⟨4, _⟩ => rfl),
      broadcastInDim_apply _ b1 _ _ (Idealize.ShloMosaic.ix4 q ⟨x.val / 80, hx⟩ ⟨x.val % 80, by omega⟩ ⟨y.val % 80, by omega⟩)
        (fun k => match k with | ⟨0, _⟩ => rfl | ⟨1, _⟩ => rfl | ⟨2, _⟩ => rfl | ⟨3, _⟩ => rfl),
      broadcastInDim_apply _ b4 _ _ (Idealize.ShloMosaic.ix5 (0 : Fin 1) ⟨x.val / 80, hx⟩ (0 : Fin 1) ⟨y.val / 80, hy⟩ (0 : Fin 1))
        (fun k => match k with | ⟨0, _⟩ => rfl | ⟨1, _⟩ => rfl | ⟨2, _⟩ => rfl | ⟨3, _⟩ => rfl | ⟨4, _⟩ => rfl),
      broadcastInDim_apply _ b2 _ _ (Idealize.ShloMosaic.ix2 ⟨x.val / 80, hx⟩ ⟨y.val / 80, hy⟩)
        (fun k => match k with | ⟨0, _⟩ => rfl | ⟨1, _⟩ => rfl),
      shapeCast_apply _ c1 _ (Idealize.ShloMosaic.ix3 (⟨q.val * 8 + x.val / 80, by omega⟩ : Fin 16) ⟨x.val % 80, by omega⟩ ⟨y.val % 80, by omega⟩) (by
        rw [Shape.rowMajor_val_four, Shape.rowMajor_val_three]; rfl)]
    show w _ _ _ * (if x.val / 80 = y.val / 80 then (1 : ℝ) else 0) = if x.val / 80 = y.val / 80 then w _ _ _ else 0
    by_cases hc : x.val / 80 = y.val / 80
    · rw [if_pos hc, if_pos hc, mul_one]; rfl
    · rw [if_neg hc, if_neg hc, mul_zero]
end
end Cert.Lift.Lru
-- ==== Proof.LruHost.lean ====
module

public import proofs.«01_k».proof.Proof.LruFrame
public import proofs.«01_k».proof.Proof.LruShapes
public import Idealize.ShloMosaic.Lib.StableHlo.RunLoop

@[expose] public section

/-! What the recurrence's kernel is launched on: the arrays that the program computes before the launch, as real functions of the
    arguments. -/

set_option maxRecDepth 16384
noncomputable section
namespace Cert.LruIdeal.Value
open Cert.LruIdeal Cert.LruIdeal.Gen
open Idealize.ShloMosaic Idealize.ShloMosaic.TcCoe Idealize.ShloMosaic.Tactic Idealize.SL.Sem Idealize.ShloMosaic.StableHlo
local notation "F32 " s:max => FVec Ideal s FTy.f32
open Cert.Lift
open Cert.Lift.Lru

/-- The arguments are the casts of `p`. -/
structure Args (V : Valuation τ sig (Elt Ideal)) (p : Lru.In) : Prop where
  h0 : V (Proc.devRef .tc main_arg0) = (Cv (u2 p.dout) : F32 S8192x1024)
  h1 : V (Proc.devRef .tc main_arg1) = (Cv (u2 p.x) : F32 S8192x1024)
  h2 : V (Proc.devRef .tc main_arg2) = (Cv (u2 p.win) : F32 S1024x2560)
  h3 : V (Proc.devRef .tc main_arg3) = (Cv (u2 p.cw) : F32 S4x1280)
  h4 : V (Proc.devRef .tc main_arg4) = (Cv (u1 p.cb) : F32 S1280)
  h5 : V (Proc.devRef .tc main_arg5) = (Cv (u3 p.wa) : F32 S16x80x80)
  h6 : V (Proc.devRef .tc main_arg6) = (Cv (u1 p.ba) : F32 S1280)
  h7 : V (Proc.devRef .tc main_arg7) = (Cv (u3 p.wx) : F32 S16x80x80)
  h8 : V (Proc.devRef .tc main_arg8) = (Cv (u1 p.bx) : F32 S1280)
  h9 : V (Proc.devRef .tc main_arg9) = (Cv (u1 p.ap) : F32 S1280)
  h10 : V (Proc.devRef .tc main_arg10) = (Cv (u2 p.wo) : F32 S1280x1024)

variable (W : Valuation τ sig (Elt Ideal))
/-- Up to the gates. -/
def V1 : Valuation τ sig (Elt Ideal) := after hostOps0 W
/-- Up to the recurrence. -/
def V2 : Valuation τ sig (Elt Ideal) := after (List.flatten [hostOps0_1, hostOps0_2, hostOps0_3, hostOps0_4, hostOps0_5]) W
/-- Up to the launch. -/
def V3 : Valuation τ sig (Elt Ideal) := after hostOps0_6 W

theorem V_eq (m : (ℓ : Loc nD τ sig) → Buf (Elt Ideal) ℓ) (c : Dev nD) : V0 m c = V3 (V2 (V1 fun b => m (c, b))) := by
  show after (List.flatten [hostOps0, hostOps0_1, hostOps0_2, hostOps0_3, hostOps0_4, hostOps0_5, hostOps0_6]) _ = _
  unfold V3 V2 V1
  rw [← afterL_eq_after_flatten, ← afterL_eq_after_flatten]
  rfl

theorem keep2 (r : Ref sig .tc) (h : r = main_v0 ∨ r = main_v34 ∨ r = main_v48 ∨ r = main_v57 ∨ r = main_arg0 ∨ r = main_arg3 ∨ r = main_arg5 ∨ r = main_arg7 ∨ r = main_arg9 ∨ r = main_arg10) : V2 W (Proc.devRef .tc r) = W (Proc.devRef .tc r) := by
  unfold V2
  rcases h with rfl | rfl | rfl | rfl | rfl | rfl | rfl | rfl | rfl | rfl <;> (simp only [hostOps0_1, hostOps0_2, hostOps0_3, hostOps0_4, hostOps0_5, List.flatten_cons, List.flatten_nil, List.append_nil, List.cons_append, List.nil_append]; after_results)
theorem keep1 (r : Ref sig .tc) (h : r = main_arg0 ∨ r = main_arg3 ∨ r = main_arg5 ∨ r = main_arg7 ∨ r = main_arg9 ∨ r = main_arg10) : V1 W (Proc.devRef .tc r) = W (Proc.devRef .tc r) := by
  unfold V1
  unfold_abbrev_sides
  rcases h with rfl | rfl | rfl | rfl | rfl | rfl <;> after_results
theorem keep3 (r : Ref sig .tc) (h : r = main_arg0 ∨ r = main_v0) : V3 W (Proc.devRef .tc r) = W (Proc.devRef .tc r) := by
  unfold V3
  unfold_abbrev_sides
  rcases h with rfl | rfl <;> after_results

section
variable {W} {p : Lru.In} (A : Args W p)
include A
theorem v0 : V1 W (Proc.devRef .tc main_v0) = (Cv (u2 (Lru.z p)) : F32 ⟨2, ![8192, 2560]⟩) := by
  unfold V1
  unfold_abbrev_sides
  after_results
  rw [A.h1, A.h2]
  exact (hdot_Cv _ _ _ _).trans (congrArg Cv (rdot_nn _ _ _ rfl rfl rfl rfl rfl rfl))
/-- The convolved half under three rows of zeros. -/
theorem v3 : V1 W (Proc.devRef .tc main_v3) = (Cv (u2 (rcat (k := 8195) (m := 3) rfl (fun _ _ => 0) (Lru.xb p))) : F32 ⟨2, ![8195, 1280]⟩) := by
  unfold V1
  unfold_abbrev_sides
  after_results
  rw [A.h1, A.h2]
  refine concat_rows (φ := .f32) (m := 3) (n := 8192) (k := 8195) (c := 1280) rfl ?_ ?_ _
  · dsimp only [S_, S3x1280]
    rw [kzero, broadcastInDim_Cv, bcast0_2]
  · rw [hdot_Cv, rdot_nn _ _ _ rfl rfl rfl rfl rfl rfl]
    refine (slice_Cv _ _ _ _).trans (congrArg Cv ?_)
    exact slice2 _ 1280 _ rfl _ (by norm_num)
theorem row3 (o : ℕ) (ho : o ≤ 3) (q : Fin 2 → ℕ) (hq : q = ![o, 0]) (h) :
    extractStridedSlice ⟨2, ![8192, 1280]⟩ q (Cv (u2 (rcat (k := 8195) (m := 3) rfl (fun _ _ => 0) (Lru.xb p))) : F32 ⟨2, ![8195, 1280]⟩) h
      = (Cv (u2 (back (Lru.xb p) (3 - o))) : F32 ⟨2, ![8192, 1280]⟩) := by
  refine (slice_Cv _ _ _ _).trans (congrArg Cv ((slice2r _ o _ hq _ (by omega)).trans (congrArg u2 (funext fun i => funext fun j => ?_))))
  unfold rcat back
  by_cases hc : o + i.val < 3
  · rw [dif_pos hc, if_neg (by omega)]
  · rw [dif_neg hc, if_pos (by omega)]
    unfold ext
    rw [dif_pos (by omega)]
    exact congrArg₂ (Lru.xb p) (Fin.ext (by show o + i.val - 3 = i.val - (3 - o); omega)) rfl
theorem kcw (o : ℕ) (ho : o < 4) (q : Fin 2 → ℕ) (hq : q = ![o, 0]) (h h') (d : Fin 1 → Fin 2) (hd : d = ![1]) (hb) :
    broadcastInDim ⟨2, ![1, 1280]⟩ d hb (shapeCast ⟨1, ![1280]⟩ (extractStridedSlice ⟨2, ![1, 1280]⟩ q (Cv (u2 p.cw) : F32 ⟨2, ![4, 1280]⟩) h) h')
      = (Cv (u2 fun _ j => p.cw ⟨o, ho⟩ j) : F32 ⟨2, ![1, 1280]⟩) := by
  rw [slice_Cv, slice2r _ o _ hq _ (by omega), shapeCast_Cv, cast2_1, broadcastInDim_Cv, bcast1_2_1 _ _ hd]
  rfl
theorem v6 : V1 W (Proc.devRef .tc main_v6) = (Cv (u2 (back (Lru.xb p) 3)) : F32 ⟨2, ![8192, 1280]⟩) := by
  have e : V1 W (Proc.devRef .tc main_v6) = (extractStridedSlice S8192x1280 ![0, 0] (V1 W (Proc.devRef .tc main_v3) : F32 S8195x1280) slices_S8195x1280_S8192x1280_0_0 : F32 S8192x1280) := by
    unfold V1
    unfold_abbrev_sides
    after_results
  rw [e, v3 A]; exact row3 A 0 (by norm_num) _ rfl _
theorem v7 : V1 W (Proc.devRef .tc main_v7) = (Cv (u2 fun _ j => p.cw 0 j) : F32 ⟨2, ![1, 1280]⟩) := by
  unfold V1
  unfold_abbrev_sides
  after_results
  rw [A.h3]; exact kcw A 0 (by norm_num) _ rfl _ _ _ rfl _
theorem v15 : V1 W (Proc.devRef .tc main_v15) = (Cv (u2 (back (Lru.xb p) 2)) : F32 ⟨2, ![8192, 1280]⟩) := by
  have e : V1 W (Proc.devRef .tc main_v15) = (extractStridedSlice S8192x1280 ![1, 0] (V1 W (Proc.devRef .tc main_v3) : F32 S8195x1280) slices_S8195x1280_S8192x1280_1_0 : F32 S8192x1280) := by
    unfold V1
    unfold_abbrev_sides
    after_results
  rw [e, v3 A]; exact row3 A 1 (by norm_num) _ rfl _
theorem v16 : V1 W (Proc.devRef .tc main_v16) = (Cv (u2 fun _ j => p.cw 1 j) : F32 ⟨2, ![1, 1280]⟩) := by
  unfold V1
  unfold_abbrev_sides
  after_results
  rw [A.h3]; exact kcw A 1 (by norm_num) _ rfl _ _ _ rfl _
theorem v22 : V1 W (Proc.devRef .tc main_v22) = (Cv (u2 (back (Lru.xb p) 1)) : F32 ⟨2, ![8192, 1280]⟩) := by
  have e : V1 W (Proc.devRef .tc main_v22) = (extractStridedSlice S8192x1280 ![2, 0] (V1 W (Proc.devRef .tc main_v3) : F32 S8195x1280) slices_S8195x1280_S8192x1280_2_0 : F32 S8192x1280) := by
    unfold V1
    unfold_abbrev_sides
    after_results
  rw [e, v3 A]; exact row3 A 2 (by norm_num) _ rfl _
theorem v23 : V1 W (Proc.devRef .tc main_v23) = (Cv (u2 fun _ j => p.cw 2 j) : F32 ⟨2, ![1, 1280]⟩) := by
  unfold V1
  unfold_abbrev_sides
  after_results
  rw [A.h3]; exact kcw A 2 (by norm_num) _ rfl _ _ _ rfl _
theorem v29 : V1 W (Proc.devRef .tc main_v29) = (Cv (u2 (back (Lru.xb p) 0)) : F32 ⟨2, ![8192, 1280]⟩) := by
  have e : V1 W (Proc.devRef .tc main_v29) = (extractStridedSlice S8192x1280 ![3, 0] (V1 W (Proc.devRef .tc main_v3) : F32 S8195x1280) slices_S8195x1280_S8192x1280_3_0 : F32 S8192x1280) := by
    unfold V1
    unfold_abbrev_sides
    after_results
  rw [e, v3 A]; exact row3 A 3 (by norm_num) _ rfl _
theorem v30 : V1 W (Proc.devRef .tc main_v30) = (Cv (u2 fun _ j => p.cw 3 j) : F32 ⟨2, ![1, 1280]⟩) := by
  unfold V1
  unfold_abbrev_sides
  after_results
  rw [A.h3]; exact kcw A 3 (by norm_num) _ rfl _ _ _ rfl _
theorem v10 : V1 W (Proc.devRef .tc main_v10) = (Cv (u2 fun _ j => p.cb j) : F32 ⟨2, ![1, 1280]⟩) := by
  unfold V1
  unfold_abbrev_sides
  after_results
  rw [A.h4]
  exact (broadcastInDim_Cv _ _ _ _).trans (congrArg Cv (bcast1_2_1 _ _ rfl _))
theorem v33 : V1 W (Proc.devRef .tc main_v33) = (Cv (u2 (Lru.xc p)) : F32 ⟨2, ![8192, 1280]⟩) := by
  have e : V1 W (Proc.devRef .tc main_v33) = (addf (addf (addf (addf (broadcastInDim S8192x1280 ![0, 1] bcast_S1x1280_S8192x1280_0_1 (V1 W (Proc.devRef .tc main_v10) : F32 S1x1280)) (mulf (broadcastInDim S8192x1280 ![0, 1] bcast_S1x1280_S8192x1280_0_1 (V1 W (Proc.devRef .tc main_v7) : F32 S1x1280)) (V1 W (Proc.devRef .tc main_v6) : F32 S8192x1280))) (mulf (broadcastInDim S8192x1280 ![0, 1] bcast_S1x1280_S8192x1280_0_1 (V1 W (Proc.devRef .tc main_v16) : F32 S1x1280)) (V1 W (Proc.devRef .tc main_v15) : F32 S8192x1280))) (mulf (broadcastInDim S8192x1280 ![0, 1] bcast_S1x1280_S8192x1280_0_1 (V1 W (Proc.devRef .tc main_v23) : F32 S1x1280)) (V1 W (Proc.devRef .tc main_v22) : F32 S8192x1280))) (mulf (broadcastInDim S8192x1280 ![0, 1] bcast_S1x1280_S8192x1280_0_1 (V1 W (Proc.devRef .tc main_v30) : F32 S1x1280)) (V1 W (Proc.devRef .tc main_v29) : F32 S8192x1280)) : F32 S8192x1280) := by
    unfold V1
    unfold_abbrev_sides
    after_results
  rw [e, v10 A, v6 A, v7 A, v15 A, v16 A, v22 A, v23 A, v29 A, v30 A]
  dsimp only [S8192x1280, S1x1280]
  simp (disch := first | rfl | decide) only [broadcastInDim_Cv, bcast2_row, mulf_Cv, addf_Cv, u2_mul, u2_add]
  rfl
theorem v34 : V1 W (Proc.devRef .tc main_v34) = (Cv (u3 (heads (Lru.xc p))) : F32 ⟨3, ![8192, 16, 80]⟩) := by
  have e : V1 W (Proc.devRef .tc main_v34) = (shapeCast S8192x16x80 (V1 W (Proc.devRef .tc main_v33) : F32 S8192x1280) shapeCasts_S8192x1280_S8192x16x80 : F32 S8192x16x80) := by
    unfold V1
    unfold_abbrev_sides
    after_results
    rfl
  rw [e, v33 A]; exact congrArg Cv (cast_heads _ _)
/-- A gate: its product by heads, its bias, and the logistic function. -/
theorem gate_host (w : Fin 16 → Fin 80 → Fin 80 → ℝ) (b : Fin 1280 → ℝ) (X : Lru.Mat) :
    Host.divf (broadcastInDim S8192x16x80 ![] bcast_S_S8192x16x80 (constant S_ .f32 0x3F800000#32)) (addf (broadcastInDim S8192x16x80 ![] bcast_S_S8192x16x80 (constant S_ .f32 0x3F800000#32)) (Host.exp (Host.negf (addf (transpose S8192x16x80 [2, 0, 1] (Host.dotGeneral dot_S16x80x80_S8192x16x80_S16x80x8192_1_2_2_0_0_1 none (Cv (u3 w) : F32 S16x80x80) (Cv (u3 (heads X)) : F32 S8192x16x80)) transposes_S16x80x8192_S8192x16x80_2_0_1) (broadcastInDim S8192x16x80 ![0, 1, 2] bcast_S1x16x80_S8192x16x80_0_1_2 (shapeCast S1x16x80 (Cv (u1 b) : F32 S1280) shapeCasts_S1280_S1x16x80))))))
      = (Cv (u3 (heads fun t j => sg (lin w X t j + b j))) : F32 ⟨3, ![8192, 16, 80]⟩) := by
  rw [hdot_Cv, rdot_b1 _ _ _ rfl rfl rfl rfl rfl rfl]
  dsimp only [S8192x16x80, S1x16x80, S16x80x8192, S1280, S_]
  rw [transpose_Cv, trans3_201, shapeCast_Cv, cast1_heads, broadcastInDim_Cv, bcast_heads _ _ rfl, kone, broadcastInDim_Cv, bcast0_3,
    addf_Cv, negf_Cv, hexp_Cv, addf_Cv, hdivf_Cv _ _ fun i => ?_]
  · refine congrArg Cv (u3_ext _ _ fun t h i => ?_)
    show 1 / (1 + Real.exp (-((∑ k, w h k i * X t (ch h k)) + b (ch h i)))) = sg ((∑ k, w (hd (ch h i)) k (pl (ch h i)) * X t (ch (hd (ch h i)) k)) + b (ch h i))
    rw [hd_ch, pl_ch]
    rfl
  · show (1 : ℝ) + Real.exp _ ≠ 0
    positivity
theorem v48 : V1 W (Proc.devRef .tc main_v48) = (Cv (u3 (heads (Lru.r p))) : F32 ⟨3, ![8192, 16, 80]⟩) := by
  have k := v34 A
  have e : V1 W (Proc.devRef .tc main_v48) = (Host.divf (broadcastInDim S8192x16x80 ![] bcast_S_S8192x16x80 (constant S_ .f32 0x3F800000#32)) (addf (broadcastInDim S8192x16x80 ![] bcast_S_S8192x16x80 (constant S_ .f32 0x3F800000#32)) (Host.exp (Host.negf (addf (transpose S8192x16x80 [2, 0, 1] (Host.dotGeneral (φ₁ := .f32) (φ₂ := .f32) dot_S16x80x80_S8192x16x80_S16x80x8192_1_2_2_0_0_1 none (W (Proc.devRef .tc main_arg5) : F32 S16x80x80) (V1 W (Proc.devRef .tc main_v34) : F32 S8192x16x80)) transposes_S16x80x8192_S8192x16x80_2_0_1) (broadcastInDim S8192x16x80 ![0, 1, 2] bcast_S1x16x80_S8192x16x80_0_1_2 (shapeCast S1x16x80 (W (Proc.devRef .tc main_arg6) : F32 S1280) shapeCasts_S1280_S1x16x80)))))) : F32 S8192x16x80) := by
    unfold V1
    unfold_abbrev_sides
    after_results
    rfl
  rw [e, k, A.h5, A.h6]; exact gate_host A _ _ _
theorem v57 : V1 W (Proc.devRef .tc main_v57) = (Cv (u3 (heads (Lru.ig p))) : F32 ⟨3, ![8192, 16, 80]⟩) := by
  have k := v34 A
  have e : V1 W (Proc.devRef .tc main_v57) = (Host.divf (broadcastInDim S8192x16x80 ![] bcast_S_S8192x16x80 (constant S_ .f32 0x3F800000#32)) (addf (broadcastInDim S8192x16x80 ![] bcast_S_S8192x16x80 (constant S_ .f32 0x3F800000#32)) (Host.exp (Host.negf (addf (transpose S8192x16x80 [2, 0, 1] (Host.dotGeneral (φ₁ := .f32) (φ₂ := .f32) dot_S16x80x80_S8192x16x80_S16x80x8192_1_2_2_0_0_1 none (W (Proc.devRef .tc main_arg7) : F32 S16x80x80) (V1 W (Proc.devRef .tc main_v34) : F32 S8192x16x80)) transposes_S16x80x8192_S8192x16x80_2_0_1) (broadcastInDim S8192x16x80 ![0, 1, 2] bcast_S1x16x80_S8192x16x80_0_1_2 (shapeCast S1x16x80 (W (Proc.devRef .tc main_arg8) : F32 S1280) shapeCasts_S1280_S1x16x80)))))) : F32 S8192x16x80) := by
    unfold V1
    unfold_abbrev_sides
    after_results
    rfl
  rw [e, k, A.h7, A.h8]; exact gate_host A _ _ _
theorem v59 : V1 W (Proc.devRef .tc main_v59) = (Cv (u3 (heads fun t j => -8 * Lru.r p t j)) : F32 ⟨3, ![8192, 16, 80]⟩) := by
  have e : V1 W (Proc.devRef .tc main_v59) = (mulf (broadcastInDim S8192x16x80 ![] bcast_S_S8192x16x80 (constant S_ .f32 0xC1000000#32)) (V1 W (Proc.devRef .tc main_v48) : F32 S8192x16x80) : F32 S8192x16x80) := by
    unfold V1
    unfold_abbrev_sides
    after_results
  rw [e, v48 A]
  dsimp only [S8192x16x80, S_]
  rw [kneg8, broadcastInDim_Cv, bcast0_3, mulf_Cv, u3_mul]
  rfl
theorem v60 : V1 W (Proc.devRef .tc main_v60) = (Cv (u3 (heads fun _ j => -p.ap j)) : F32 ⟨3, ![1, 16, 80]⟩) := by
  unfold V1
  unfold_abbrev_sides
  after_results
  rw [A.h9]
  exact (congrArg Host.negf (congrArg Cv (cast1_heads _ _))).trans (negf_Cv _)
end

section
variable {W} {p : Lru.In}
/-- What the gates leave for the recurrence. -/
structure Mid (W : Valuation τ sig (Elt Ideal)) (p : Lru.In) : Prop where
  k34 : W (Proc.devRef .tc main_v34) = (Cv (u3 (heads (Lru.xc p))) : F32 ⟨3, ![8192, 16, 80]⟩)
  k57 : W (Proc.devRef .tc main_v57) = (Cv (u3 (heads (Lru.ig p))) : F32 ⟨3, ![8192, 16, 80]⟩)
  k59 : W (Proc.devRef .tc main_v59) = (Cv (u3 (heads fun t j => -8 * Lru.r p t j)) : F32 ⟨3, ![8192, 16, 80]⟩)
  k60 : W (Proc.devRef .tc main_v60) = (Cv (u3 (heads fun _ j => -p.ap j)) : F32 ⟨3, ![1, 16, 80]⟩)
variable (A : Mid W p)
include A
theorem v61 : V2 W (Proc.devRef .tc main_v61) = (Cv (u3 (heads fun _ j => sp (-p.ap j))) : F32 ⟨3, ![1, 16, 80]⟩) := by
  have e : V2 W (Proc.devRef .tc main_v61) = (select (cmpf .une (subf (F := Ideal) (φ := .f32) (W (Proc.devRef .tc main_v60) : F32 S1x16x80) (broadcastInDim S1x16x80 ![] bcast_S_S1x16x80 (constant S_ .f32 0x00000000#32))) (subf (F := Ideal) (φ := .f32) (W (Proc.devRef .tc main_v60) : F32 S1x16x80) (broadcastInDim S1x16x80 ![] bcast_S_S1x16x80 (constant S_ .f32 0x00000000#32)))) (addf (W (Proc.devRef .tc main_v60) : F32 S1x16x80) (broadcastInDim S1x16x80 ![] bcast_S_S1x16x80 (constant S_ .f32 0x00000000#32))) (addf (maximumf (W (Proc.devRef .tc main_v60) : F32 S1x16x80) (broadcastInDim S1x16x80 ![] bcast_S_S1x16x80 (constant S_ .f32 0x00000000#32))) (Host.log1p (Host.exp (Host.negf (Host.absf (subf (F := Ideal) (φ := .f32) (W (Proc.devRef .tc main_v60) : F32 S1x16x80) (broadcastInDim S1x16x80 ![] bcast_S_S1x16x80 (constant S_ .f32 0x00000000#32)))))))) : F32 ⟨3, ![1, 16, 80]⟩) := by
    unfold V2
    simp only [hostOps0_1, hostOps0_2, hostOps0_3, hostOps0_4, hostOps0_5, List.flatten_cons, List.flatten_nil, List.append_nil, List.cons_append, List.nil_append]
    after_results
    rfl
  rw [e, select_une, A.k60]
  dsimp only [S1x16x80, S_]
  have s0 : subf (Cv (u3 (heads fun _ j => -p.ap j)) : F32 ⟨3, ![1, 16, 80]⟩) (Cv (u3 fun _ _ _ => 0)) = Cv (u3 (heads fun _ j => -p.ap j)) :=
    (subf_Cv _ _).trans (congrArg Cv (funext fun i => sub_zero _))
  rw [kzero, broadcastInDim_Cv, bcast0_3, s0, habsf_Cv, negf_Cv, hexp_Cv, maximumf_Cv]
  refine (congrArg (addf _) (hlog1p_exp _)).trans ?_
  rw [addf_Cv]
  exact congrArg Cv (funext fun j => sp_stable _)
theorem v63 : V2 W (Proc.devRef .tc main_v63) = (Cv (u3 (heads (Lru.la p))) : F32 ⟨3, ![8192, 16, 80]⟩) := by
  have e : V2 W (Proc.devRef .tc main_v63) = (mulf (W (Proc.devRef .tc main_v59) : F32 S8192x16x80) (broadcastInDim S8192x16x80 ![0, 1, 2] bcast_S1x16x80_S8192x16x80_0_1_2 (V2 W (Proc.devRef .tc main_v61) : F32 S1x16x80)) : F32 ⟨3, ![8192, 16, 80]⟩) := by
    unfold V2
    simp only [hostOps0_1, hostOps0_2, hostOps0_3, hostOps0_4, hostOps0_5, List.flatten_cons, List.flatten_nil, List.append_nil, List.cons_append, List.nil_append]
    after_results
  rw [e, A.k59, v61 A]
  dsimp only [S8192x16x80, S1x16x80]
  rw [broadcastInDim_Cv, bcast_heads _ _ rfl, mulf_Cv, u3_mul]
  rfl
theorem v68 : V2 W (Proc.devRef .tc main_v68) = (Cv (u3 (heads (Lru.mult p))) : F32 ⟨3, ![8192, 16, 80]⟩) := by
  have e : V2 W (Proc.devRef .tc main_v68) = (Host.sqrt (Host.negf (Host.expm1 (mulf (broadcastInDim S8192x16x80 ![] bcast_S_S8192x16x80 (constant S_ .f32 0x40000000#32)) (V2 W (Proc.devRef .tc main_v63) : F32 S8192x16x80)))) : F32 ⟨3, ![8192, 16, 80]⟩) := by
    unfold V2
    simp only [hostOps0_1, hostOps0_2, hostOps0_3, hostOps0_4, hostOps0_5, List.flatten_cons, List.flatten_nil, List.append_nil, List.cons_append, List.nil_append]
    after_results
  rw [e, v63 A]
  dsimp only [S8192x16x80, S_]
  rw [ktwo, broadcastInDim_Cv, bcast0_3, mulf_Cv, u3_mul, hexpm1_Cv, negf_Cv]
  exact hsqrt_Cv _ fun i => (rad_pos p (i 0) (ch (i 1) (i 2))).le
theorem v70 : V2 W (Proc.devRef .tc main_v70) = (Cv (u3 (heads (Lru.inn p))) : F32 ⟨3, ![8192, 16, 80]⟩) := by
  have e : V2 W (Proc.devRef .tc main_v70) = (mulf (V2 W (Proc.devRef .tc main_v68) : F32 S8192x16x80) (mulf (W (Proc.devRef .tc main_v57) : F32 S8192x16x80) (W (Proc.devRef .tc main_v34) : F32 S8192x16x80)) : F32 ⟨3, ![8192, 16, 80]⟩) := by
    unfold V2
    simp only [hostOps0_1, hostOps0_2, hostOps0_3, hostOps0_4, hostOps0_5, List.flatten_cons, List.flatten_nil, List.append_nil, List.cons_append, List.nil_append]
    after_results
  rw [e, v68 A, A.k57, A.k34, mulf_Cv]
  exact mulf_Cv _ _
omit A in
theorem sums3 (f : Fin 8192 → Fin 16 → Fin 80 → ℝ) :
    Host.reduceWindowAdd ![8192, 1, 1] ![1, 1, 1] ![8191, 0, 0] ![0, 0, 0] (Cv (u3 f) : F32 S8192x16x80) (broadcastInDim S_ ![] bcast_S_S_ (constant S_ .f32 0x00000000#32)) reduceWindows_S8192x16x80_S8192x16x80_w8192s1p8191_0_w1s1p0_0_w1s1p0_0 h_S_
      = (Cv (u3 fun t h i => csum (fun u => f u h i) t) : F32 S8192x16x80) := by
  refine cumsum3 f ?_ _ _ _ fun i => (Ideal.ofBits_zero_f32 : Ideal.ofBits .f32 0x00000000#32 = (0 : EReal))
  norm_num
theorem v71 : V2 W (Proc.devRef .tc main_v71) = (Cv (u3 (heads (Lru.cs p))) : F32 ⟨3, ![8192, 16, 80]⟩) := by
  have e : V2 W (Proc.devRef .tc main_v71) = (Host.reduceWindowAdd ![8192, 1, 1] ![1, 1, 1] ![8191, 0, 0] ![0, 0, 0] (V2 W (Proc.devRef .tc main_v63) : F32 S8192x16x80) (broadcastInDim S_ ![] bcast_S_S_ (constant S_ .f32 0x00000000#32)) reduceWindows_S8192x16x80_S8192x16x80_w8192s1p8191_0_w1s1p0_0_w1s1p0_0 h_S_ : F32 ⟨3, ![8192, 16, 80]⟩) := by
    unfold V2
    simp only [hostOps0_1, hostOps0_2, hostOps0_3, hostOps0_4, hostOps0_5, List.flatten_cons, List.flatten_nil, List.append_nil, List.cons_append, List.nil_append]
    after_results
    rfl
  rw [e, v63 A]; exact sums3 _
theorem v76 : V2 W (Proc.devRef .tc main_v76) = (Cv (u3 (heads fun t j => csum (fun u => Real.exp (-Lru.cs p u j) * Lru.inn p u j) t)) : F32 ⟨3, ![8192, 16, 80]⟩) := by
  have e : V2 W (Proc.devRef .tc main_v76) = (Host.reduceWindowAdd ![8192, 1, 1] ![1, 1, 1] ![8191, 0, 0] ![0, 0, 0] (mulf (Host.exp (Host.negf (V2 W (Proc.devRef .tc main_v71) : F32 S8192x16x80))) (V2 W (Proc.devRef .tc main_v70) : F32 S8192x16x80)) (broadcastInDim S_ ![] bcast_S_S_ (constant S_ .f32 0x00000000#32)) reduceWindows_S8192x16x80_S8192x16x80_w8192s1p8191_0_w1s1p0_0_w1s1p0_0 h_S_ : F32 ⟨3, ![8192, 16, 80]⟩) := by
    unfold V2
    simp only [hostOps0_1, hostOps0_2, hostOps0_3, hostOps0_4, hostOps0_5, List.flatten_cons, List.flatten_nil, List.append_nil, List.cons_append, List.nil_append]
    after_results
    rfl
  rw [e, v71 A, v70 A, negf_Cv, hexp_Cv, mulf_Cv]; exact sums3 fun t h i => Real.exp (-Lru.cs p t (ch h i)) * Lru.inn p t (ch h i)
theorem v72 : V2 W (Proc.devRef .tc main_v72) = (Cv (u3 (heads fun t j => Real.exp (Lru.cs p t j))) : F32 ⟨3, ![8192, 16, 80]⟩) := by
  have e : V2 W (Proc.devRef .tc main_v72) = (Host.exp (V2 W (Proc.devRef .tc main_v71) : F32 S8192x16x80) : F32 ⟨3, ![8192, 16, 80]⟩) := by
    unfold V2
    simp only [hostOps0_1, hostOps0_2, hostOps0_3, hostOps0_4, hostOps0_5, List.flatten_cons, List.flatten_nil, List.append_nil, List.cons_append, List.nil_append]
    after_results
  rw [e, v71 A]; exact hexp_Cv _
end
section
variable {W} {p : Lru.In}
/-- What the recurrence leaves for the launch. -/
structure Late (W : Valuation τ sig (Elt Ideal)) (p : Lru.In) : Prop where
  k34 : W (Proc.devRef .tc main_v34) = (Cv (u3 (heads (Lru.xc p))) : F32 ⟨3, ![8192, 16, 80]⟩)
  k48 : W (Proc.devRef .tc main_v48) = (Cv (u3 (heads (Lru.r p))) : F32 ⟨3, ![8192, 16, 80]⟩)
  k57 : W (Proc.devRef .tc main_v57) = (Cv (u3 (heads (Lru.ig p))) : F32 ⟨3, ![8192, 16, 80]⟩)
  k63 : W (Proc.devRef .tc main_v63) = (Cv (u3 (heads (Lru.la p))) : F32 ⟨3, ![8192, 16, 80]⟩)
  k68 : W (Proc.devRef .tc main_v68) = (Cv (u3 (heads (Lru.mult p))) : F32 ⟨3, ![8192, 16, 80]⟩)
  k72 : W (Proc.devRef .tc main_v72) = (Cv (u3 (heads fun t j => Real.exp (Lru.cs p t j))) : F32 ⟨3, ![8192, 16, 80]⟩)
  k76 : W (Proc.devRef .tc main_v76) = (Cv (u3 (heads fun t j => csum (fun u => Real.exp (-Lru.cs p u j) * Lru.inn p u j) t)) : F32 ⟨3, ![8192, 16, 80]⟩)
  k3 : W (Proc.devRef .tc main_arg3) = (Cv (u2 p.cw) : F32 S4x1280)
  k5 : W (Proc.devRef .tc main_arg5) = (Cv (u3 p.wa) : F32 S16x80x80)
  k7 : W (Proc.devRef .tc main_arg7) = (Cv (u3 p.wx) : F32 S16x80x80)
  k9 : W (Proc.devRef .tc main_arg9) = (Cv (u1 p.ap) : F32 S1280)
  k10 : W (Proc.devRef .tc main_arg10) = (Cv (u2 p.wo) : F32 S1280x1024)
variable (A : Late W p)
include A
theorem v78 : V3 W (Proc.devRef .tc main_v78) = (Cv (u2 (Lru.hs p)) : F32 ⟨2, ![8192, 1280]⟩) := by
  have e : V3 W (Proc.devRef .tc main_v78) = (shapeCast S8192x1280 (mulf (W (Proc.devRef .tc main_v72) : F32 S8192x16x80) (W (Proc.devRef .tc main_v76) : F32 S8192x16x80)) shapeCasts_S8192x16x80_S8192x1280 : F32 ⟨2, ![8192, 1280]⟩) := by
    unfold V3
    unfold_abbrev_sides
    after_results
    rfl
  rw [e, A.k72, A.k76, mulf_Cv]
  exact congrArg Cv (cast_flat (Lru.hs p) _)
/-- The five arrays that the kernel reads by planes. -/
def planes (p : Lru.In) : Fin 5 → Lru.Mat := ![Lru.xc p, Lru.r p, Lru.ig p, Lru.a p, Lru.mult p]
theorem v86 : V3 W (Proc.devRef .tc main_v86) = (Cv (u3 (planes p)) : F32 ⟨3, ![5, 8192, 1280]⟩) := by
  have e : V3 W (Proc.devRef .tc main_v86) = (shapeCast S5x8192x1280 (concatenate S5x8192x16x80 0 [⟨S1x8192x16x80, broadcastInDim S1x8192x16x80 ![1, 2, 3] bcast_S8192x16x80_S1x8192x16x80_1_2_3 (W (Proc.devRef .tc main_v34) : F32 S8192x16x80)⟩, ⟨S1x8192x16x80, broadcastInDim S1x8192x16x80 ![1, 2, 3] bcast_S8192x16x80_S1x8192x16x80_1_2_3 (W (Proc.devRef .tc main_v48) : F32 S8192x16x80)⟩, ⟨S1x8192x16x80, broadcastInDim S1x8192x16x80 ![1, 2, 3] bcast_S8192x16x80_S1x8192x16x80_1_2_3 (W (Proc.devRef .tc main_v57) : F32 S8192x16x80)⟩, ⟨S1x8192x16x80, broadcastInDim S1x8192x16x80 ![1, 2, 3] bcast_S8192x16x80_S1x8192x16x80_1_2_3 (Host.exp (W (Proc.devRef .tc main_v63) : F32 S8192x16x80))⟩, ⟨S1x8192x16x80, broadcastInDim S1x8192x16x80 ![1, 2, 3] bcast_S8192x16x80_S1x8192x16x80_1_2_3 (W (Proc.devRef .tc main_v68) : F32 S8192x16x80)⟩] concatenates_S1x8192x16x80_S1x8192x16x80_S1x8192x16x80_S1x8192x16x80_S1x8192x16x80_S5x8192x16x80_d0) shapeCasts_S5x8192x16x80_S5x8192x1280 : F32 ⟨3, ![5, 8192, 1280]⟩) := by
    unfold V3
    unfold_abbrev_sides
    after_results
    rfl
  rw [e, A.k34, A.k48, A.k57, A.k63, A.k68, hexp_Cv]
  exact planes5 (planes p) _ rfl _ _ _
theorem v87 : V3 W (Proc.devRef .tc main_v87) = (Cv (u3 fun _ => p.cw) : F32 ⟨3, ![1, 4, 1280]⟩) := by
  have e : V3 W (Proc.devRef .tc main_v87) = (broadcastInDim S1x4x1280 ![1, 2] bcast_S4x1280_S1x4x1280_1_2 (W (Proc.devRef .tc main_arg3) : F32 S4x1280) : F32 ⟨3, ![1, 4, 1280]⟩) := by
    unfold V3
    unfold_abbrev_sides
    after_results
  rw [e, A.k3]
  exact (broadcastInDim_Cv _ _ _ _).trans (congrArg Cv (bcast2_3 _ _ rfl _ (by norm_num) (by norm_num)))
omit A in
theorem blocks (w : Fin 16 → Fin 80 → Fin 80 → ℝ) : (shapeCast S2x640x640 (mulf (broadcastInDim S2x8x80x8x80 ![0, 1, 2, 3, 4] bcast_S2x8x80x1x80_S2x8x80x8x80_0_1_2_3_4 (broadcastInDim S2x8x80x1x80 ![0, 1, 2, 4] bcast_S2x8x80x80_S2x8x80x1x80_0_1_2_4 (shapeCast S2x8x80x80 (Cv (u3 w) : F32 S16x80x80) shapeCasts_S16x80x80_S2x8x80x80))) (broadcastInDim S2x8x80x8x80 ![0, 1, 2, 3, 4] bcast_S1x8x1x8x1_S2x8x80x8x80_0_1_2_3_4 (broadcastInDim S1x8x1x8x1 ![1, 3] bcast_S8x8_S1x8x1x8x1_1_3 (uitofp .f32 (cmpi .eq (addi (iotaInDim S8x8 32 0) (broadcastInDim S8x8 ![] bcast_S_S8x8 (constantI S_ 32 0#32))) (iotaInDim S8x8 32 1)))))) shapeCasts_S2x8x80x8x80_S2x640x640) = (Cv (u3 (wbd w)) : F32 ⟨3, ![2, 640, 640]⟩) := by
  dsimp only [S8x8, S_]
  rw [eye, shapeCast_Cv, broadcastInDim_Cv, broadcastInDim_Cv, broadcastInDim_Cv, broadcastInDim_Cv, mulf_Cv, shapeCast_Cv]
  exact congrArg Cv (wbd_host w _ rfl _ rfl _ rfl _ _ _ _ _ _)
/-- Both gates' blocks side by side. -/
def wboth (p : Lru.In) (q : Fin 2) (x : Fin 640) (y : Fin 1280) : ℝ :=
  if h : y.val < 640 then wbd p.wa q x ⟨y.val, h⟩ else wbd p.wx q x ⟨y.val - 640, by omega⟩
omit A in
theorem side (f g : Fin 2 → Fin 640 → Fin 640 → ℝ) (h) :
    concatenate ⟨3, ![2, 640, 1280]⟩ 2 [⟨⟨3, ![2, 640, 640]⟩, (Cv (u3 f) : F32 ⟨3, ![2, 640, 640]⟩)⟩, ⟨⟨3, ![2, 640, 640]⟩, (Cv (u3 g) : F32 ⟨3, ![2, 640, 640]⟩)⟩] h
      = (Cv (u3 fun q x (y : Fin 1280) => if h : y.val < 640 then f q x ⟨y.val, h⟩ else g q x ⟨y.val - 640, by omega⟩) : F32 ⟨3, ![2, 640, 1280]⟩) := by
  funext j
  rw [concatenate_pair_apply]
  by_cases hlt : (j 2).val < 640
  · exact (dif_pos hlt).trans (congrArg Real.toEReal (dif_pos hlt : (if h : (j 2).val < 640 then f (j 0) (j 1) ⟨(j 2).val, h⟩ else g (j 0) (j 1) ⟨(j 2).val - 640, by have : (j 2).val < 1280 := (j 2).isLt; omega⟩) = _).symm)
  · exact (dif_neg hlt).trans (congrArg Real.toEReal (dif_neg hlt : (if h : (j 2).val < 640 then f (j 0) (j 1) ⟨(j 2).val, h⟩ else g (j 0) (j 1) ⟨(j 2).val - 640, by have : (j 2).val < 1280 := (j 2).isLt; omega⟩) = _).symm)
theorem v109 : V3 W (Proc.devRef .tc main_v109) = (Cv (u3 (wboth p)) : FVec Ideal ⟨3, ![2, 640, 1280]⟩ .bf16) := by
  have e : V3 W (Proc.devRef .tc main_v109) = (truncf .bf16 (concatenate S2x640x1280 2 [⟨S2x640x640, (shapeCast S2x640x640 (mulf (broadcastInDim S2x8x80x8x80 ![0, 1, 2, 3, 4] bcast_S2x8x80x1x80_S2x8x80x8x80_0_1_2_3_4 (broadcastInDim S2x8x80x1x80 ![0, 1, 2, 4] bcast_S2x8x80x80_S2x8x80x1x80_0_1_2_4 (shapeCast S2x8x80x80 (W (Proc.devRef .tc main_arg5) : F32 S16x80x80) shapeCasts_S16x80x80_S2x8x80x80))) (broadcastInDim S2x8x80x8x80 ![0, 1, 2, 3, 4] bcast_S1x8x1x8x1_S2x8x80x8x80_0_1_2_3_4 (broadcastInDim S1x8x1x8x1 ![1, 3] bcast_S8x8_S1x8x1x8x1_1_3 (uitofp .f32 (cmpi .eq (addi (iotaInDim S8x8 32 0) (broadcastInDim S8x8 ![] bcast_S_S8x8 (constantI S_ 32 0#32))) (iotaInDim S8x8 32 1)))))) shapeCasts_S2x8x80x8x80_S2x640x640)⟩, ⟨S2x640x640, (shapeCast S2x640x640 (mulf (broadcastInDim S2x8x80x8x80 ![0, 1, 2, 3, 4] bcast_S2x8x80x1x80_S2x8x80x8x80_0_1_2_3_4 (broadcastInDim S2x8x80x1x80 ![0, 1, 2, 4] bcast_S2x8x80x80_S2x8x80x1x80_0_1_2_4 (shapeCast S2x8x80x80 (W (Proc.devRef .tc main_arg7) : F32 S16x80x80) shapeCasts_S16x80x80_S2x8x80x80))) (broadcastInDim S2x8x80x8x80 ![0, 1, 2, 3, 4] bcast_S1x8x1x8x1_S2x8x80x8x80_0_1_2_3_4 (broadcastInDim S1x8x1x8x1 ![1, 3] bcast_S8x8_S1x8x1x8x1_1_3 (uitofp .f32 (cmpi .eq (addi (iotaInDim S8x8 32 0) (broadcastInDim S8x8 ![] bcast_S_S8x8 (constantI S_ 32 0#32))) (iotaInDim S8x8 32 1)))))) shapeCasts_S2x8x80x8x80_S2x640x640)⟩] concatenates_S2x640x640_S2x640x640_S2x640x1280_d2 : F32 S2x640x1280) bitsLt_bf16_f32 : FVec Ideal ⟨3, ![2, 640, 1280]⟩ .bf16) := by
    unfold V3
    unfold_abbrev_sides
    after_results
    rfl
  rw [e, A.k5, A.k7, blocks, blocks]
  refine (congrArg (fun x => truncf .bf16 x _) (side _ _ _)).trans (truncf_Cv _ _)
theorem v110 : V3 W (Proc.devRef .tc main_v110) = (Cv (u3 fun _ _ j => p.ap j) : F32 ⟨3, ![1, 1, 1280]⟩) := by
  have e : V3 W (Proc.devRef .tc main_v110) = (shapeCast S1x1x1280 (W (Proc.devRef .tc main_arg9) : F32 S1280) shapeCasts_S1280_S1x1x1280 : F32 ⟨3, ![1, 1, 1280]⟩) := by
    unfold V3
    unfold_abbrev_sides
    after_results
    rfl
  rw [e, A.k9]
  exact congrArg Cv (cast1_3 _ _)
theorem v112 : V3 W (Proc.devRef .tc main_v112) = (Cv (u3 fun _ => p.wo) : FVec Ideal ⟨3, ![1, 1280, 1024]⟩ .bf16) := by
  have e : V3 W (Proc.devRef .tc main_v112) = (truncf .bf16 (broadcastInDim S1x1280x1024 ![1, 2] bcast_S1280x1024_S1x1280x1024_1_2 (W (Proc.devRef .tc main_arg10) : F32 S1280x1024)) bitsLt_bf16_f32 : FVec Ideal ⟨3, ![1, 1280, 1024]⟩ .bf16) := by
    unfold V3
    unfold_abbrev_sides
    after_results
  rw [e, A.k10, broadcastInDim_Cv]
  exact (truncf_Cv _ _).trans (congrArg Cv (bcast2_3 _ _ rfl _ (by norm_num) (by norm_num)))
end

/-- What the kernel is launched on. -/
structure Launched (V : Valuation τ sig (Elt Ideal)) (p : Lru.In) : Prop where
  a0 : V (Proc.devRef .tc main_arg0) = (Cv (u2 p.dout) : F32 ⟨2, ![8192, 1024]⟩)
  v0 : V (Proc.devRef .tc main_v0) = (Cv (u2 (Lru.z p)) : F32 ⟨2, ![8192, 2560]⟩)
  v78 : V (Proc.devRef .tc main_v78) = (Cv (u2 (Lru.hs p)) : F32 ⟨2, ![8192, 1280]⟩)
  v86 : V (Proc.devRef .tc main_v86) = (Cv (u3 (planes p)) : F32 ⟨3, ![5, 8192, 1280]⟩)
  v87 : V (Proc.devRef .tc main_v87) = (Cv (u3 fun _ => p.cw) : F32 ⟨3, ![1, 4, 1280]⟩)
  v109 : V (Proc.devRef .tc main_v109) = (Cv (u3 (wboth p)) : FVec Ideal ⟨3, ![2, 640, 1280]⟩ .bf16)
  v110 : V (Proc.devRef .tc main_v110) = (Cv (u3 fun _ _ j => p.ap j) : F32 ⟨3, ![1, 1, 1280]⟩)
  v112 : V (Proc.devRef .tc main_v112) = (Cv (u3 fun _ => p.wo) : FVec Ideal ⟨3, ![1, 1280, 1024]⟩ .bf16)
theorem launched {p : Lru.In} (m : (ℓ : Loc nD τ sig) → Buf (Elt Ideal) ℓ) (c : Dev nD) (A : Args (fun b => m (c, b)) p) : Launched (V0 m c) p := by
  rw [V_eq]
  have M : Mid (V1 fun b => m (c, b)) p := ⟨v34 A, v57 A, v59 A, v60 A⟩
  have a (r : Ref sig .tc) (h : r = main_arg0 ∨ r = main_arg3 ∨ r = main_arg5 ∨ r = main_arg7 ∨ r = main_arg9 ∨ r = main_arg10) :
      V2 (V1 fun b => m (c, b)) (Proc.devRef .tc r) = m (c, Proc.devRef .tc r) :=
    (keep2 _ r (by rcases h with h | h | h | h | h | h <;> simp [h])).trans (keep1 _ r h)
  have L : Late (V2 (V1 fun b => m (c, b))) p :=
    ⟨(keep2 _ _ (by simp)).trans M.k34, (keep2 _ _ (by simp)).trans (v48 A), (keep2 _ _ (by simp)).trans M.k57, v63 M, v68 M, v72 M, v76 M,
      (a _ (by simp)).trans A.h3, (a _ (by simp)).trans A.h5, (a _ (by simp)).trans A.h7, (a _ (by simp)).trans A.h9, (a _ (by simp)).trans A.h10⟩
  exact ⟨(keep3 _ _ (by simp)).trans ((a _ (by simp)).trans A.h0), (keep3 _ _ (by simp)).trans ((keep2 _ _ (by simp)).trans (v0 A)),
    v78 L, v86 L, v87 L, v109 L, v110 L, v112 L⟩
end Cert.LruIdeal.Value
-- ==== Proof.LruRows.lean ====
module

public import proofs.«01_k».proof.Proof.LruTile
public import proofs.«01_k».proof.Proof.LruHost
public import Idealize.ShloMosaic.Lib.Pointwise.Sums

@[expose] public section

/-! The tiles of the sequence: what the kernel computes on a tile is the tile's part of the mathematics. -/

set_option maxRecDepth 16384
noncomputable section
namespace Cert.Lift.Lru
open Idealize.ShloMosaic
open Cert.LruIdeal.Value (wboth)

/-- Row `r` of tile `T`, and row `b` of the eight before it. -/
def row (T : Fin 32) (r : Fin 256) : Fin 8192 := ⟨T.val * 256 + r.val, by omega⟩
def trow (T : Fin 32) (b : Fin 8) : Fin 8192 := ⟨(32 * T.val - 1) * 8 + b.val, by omega⟩
variable (p : In) (T : Fin 32)
/-- The rows before the first tile count nothing. -/
def counts : ℝ := if T.val = 0 then 0 else 1
/-- Tile `T` of the sequence. -/
def tile : Tile where
  dout r := p.dout (row T r)
  zz r := z p (row T r)
  xc r := xc p (row T r)
  r t := r p (row T t)
  ig r := ig p (row T r)
  a r := a p (row T r)
  mult r := mult p (row T r)
  hs r := hs p (row T r)
  zt b := z p (trow T b)
  ht b := hs p (trow T b)
  hist := counts T
  af b j := ext (a p) ((T.val + 1) * 256 + b.val) j
  gf b j := ext (G p) ((T.val + 1) * 256 + b.val) j
  df b j := ext (dxc p) ((T.val + 1) * 256 + b.val) j
  ap := p.ap
  wo := p.wo
  wb := wboth p
  cw := p.cw

section
variable (f : Mat) (r : Fin 256) (j : Fin 1280)
theorem ext_lt {t : ℕ} (h : t < 8192) : ext f t j = f ⟨t, h⟩ j := dif_pos h
theorem up_rows (s : ℕ) (h0 : 0 < s) (h8 : s ≤ 8) :
    up s (fun r => f (row T r)) (fun b j => ext f ((T.val + 1) * 256 + b.val) j) r j = ext f ((row T r).val + s) j := by
  unfold up
  by_cases h : r.val + s < 256
  · rw [dif_pos h, ext_lt f j (show (row T r).val + s < 8192 by unfold row; simp only; omega)]
    exact congrArg (f · j) (Fin.ext (by unfold row; simp only; omega))
  · rw [dif_neg h]
    exact congrArg (ext f · j) (by unfold row; simp only; omega)
theorem dn_rows (k : ℕ) (h0 : 0 < k) (h8 : k ≤ 8) :
    dn k (fun b j => f (trow T b) j * counts T) (fun r => f (row T r)) r j = back f k (row T r) j := by
  unfold dn back
  by_cases h : k ≤ r.val
  · rw [dif_pos h, if_pos (show k ≤ (row T r).val by unfold row; simp only; omega), ext_lt f j (show (row T r).val - k < 8192 by unfold row; simp only; omega)]
    exact congrArg (f · j) (Fin.ext (by unfold row; simp only; omega))
  · rw [dif_neg h]
    unfold counts
    by_cases hT : T.val = 0
    · simp only [if_pos hT, mul_zero]
      rw [if_neg (show ¬k ≤ (row T r).val by unfold row; simp only; omega)]
    · simp only [if_neg hT, mul_one]
      rw [if_pos (show k ≤ (row T r).val by unfold row; simp only; omega), ext_lt f j (show (row T r).val - k < 8192 by unfold row; simp only; omega)]
      exact congrArg (f · j) (Fin.ext (by unfold row trow; simp only; omega))
end

section
variable (r : Fin 256) (j : Fin 1280)
theorem g_eq : (tile p T).g r j = gate p (row T r) j := congrArg (z p (row T r)) (Fin.ext (Nat.zero_add _))
theorem G_eq : (tile p T).G r j = G p (row T r) j := by
  have w : Window 1 (tile p T).C (tile p T).D (fun r => G p (row T r)) (fun j => ext (G p) ((T.val + 1) * 256 + (0 : Fin 8).val) j) := fun r j => by
    show G p (row T r) j = _
    rw [G_step p (row T r) j, show (tile p T).C r j = ext (a p) ((row T r).val + 1) j from up_rows T (a p) r j 1 (by norm_num) (by norm_num),
      show (tile p T).D r j = dh p (row T r) j from congrArg (fun x => (tile p T).dy r j * gel x) (g_eq p T r j)]
    refine congrArg (fun x => dh p (row T r) j + ext (a p) ((row T r).val + 1) j * x) ?_
    by_cases h : r.val + 1 < 256
    · rw [dif_pos h, ext_lt (G p) j (show (row T r).val + 1 < 8192 by unfold row; simp only; omega)]
      exact congrArg (G p · j) (Fin.ext (by unfold row; simp only; omega))
    · rw [dif_neg h]
      exact congrArg (ext (G p) · j) (by unfold row; simp only [Fin.val_zero]; omega)
  exact scan w r j
theorem dlog_eq : (tile p T).dlog r j = dlog p (row T r) j := by
  unfold Tile.dlog dlog
  rw [G_eq, show (tile p T).hp r j = back (hs p) 1 (row T r) j from dn_rows T (hs p) r j 1 (by norm_num) (by norm_num)]
  rfl
theorem dpa_eq : (tile p T).dpa r j = dpa p (row T r) j := by
  unfold Tile.dpa dpa
  rw [dlog_eq]
  rfl
theorem dpx_eq : (tile p T).dpx r j = dpx p (row T r) j := by
  unfold Tile.dpx dpx
  rw [G_eq]
  rfl
theorem dap_eq : (tile p T).dap r j = dlog p (row T r) j * Lru.r p (row T r) j * (8 * sg (-p.ap j)) := by
  unfold Tile.dap
  rw [dlog_eq]
  rfl
theorem y_eq : (tile p T).y r j = y p (row T r) j := congrArg (fun x => hs p (row T r) j * gel x) (g_eq p T r j)
theorem dz0_eq : (tile p T).dz0 r j = dz0 p (row T r) j := congrArg (fun x => dy p (row T r) j * hs p (row T r) j * dgel x) (g_eq p T r j)
end

/-- One gate's block of weights, against a row. -/
theorem sum_wbd (w : Fin 16 → Fin 80 → Fin 80 → ℝ) (X : Fin 1280 → ℝ) (q : Fin 2) (x : Fin 640) (J : Fin 1280) (hJ : J.val = q.val * 640 + x.val) :
    ∑ k : Fin 640, X ⟨q.val * 640 + k.val, by omega⟩ * wbd w q x k = ∑ i, X (ch (hd J) i) * w (hd J) (pl J) i := by
  refine (Fin.sum_univ_tiles 8 80 rfl fun k : Fin 640 => X ⟨q.val * 640 + k.val, by omega⟩ * wbd w q x k).trans ?_
  rw [Finset.sum_eq_single (⟨x.val / 80, by omega⟩ : Fin 8)]
  · refine Finset.sum_congr rfl fun i _ => ?_
    refine congrArg₂ (· * ·) (congrArg X (Fin.ext ?_)) ?_
    · show q.val * 640 + (x.val / 80 * 80 + i.val) = J.val / 80 * 80 + i.val
      omega
    · unfold wbd
      rw [if_pos (show x.val / 80 = (x.val / 80 * 80 + i.val) / 80 by omega)]
      refine congr (congrArg₂ w (Fin.ext ?_) (Fin.ext ?_)) (Fin.ext ?_)
      · show q.val * 8 + x.val / 80 = J.val / 80
        omega
      · show x.val % 80 = J.val % 80
        omega
      · show (x.val / 80 * 80 + i.val) % 80 = i.val
        omega
  · intro h _ hne
    refine Finset.sum_eq_zero fun i _ => ?_
    unfold wbd
    rw [if_neg (fun e : x.val / 80 = (h.val * 80 + i.val) / 80 => hne (Fin.ext (by simp only; omega))), mul_zero]
  · intro h; exact absurd (Finset.mem_univ _) h
/-- Both gates' blocks of weights, against their rows side by side. -/
theorem sum_both (X Y : Fin 1280 → ℝ) (q : Fin 2) (x : Fin 640) (J : Fin 1280) (hJ : J.val = q.val * 640 + x.val) :
    ∑ k : Fin 1280, (if h : k.val < 640 then X ⟨q.val * 640 + k.val, by omega⟩ else Y ⟨q.val * 640 + (k.val - 640), by omega⟩) * wboth p q x k
      = (∑ i, X (ch (hd J) i) * p.wa (hd J) (pl J) i) + ∑ i, Y (ch (hd J) i) * p.wx (hd J) (pl J) i := by
  rw [← sum_wbd p.wa X q x J hJ, ← sum_wbd p.wx Y q x J hJ]
  refine (Fin.sum_univ_add (a := 640) (b := 640) _).trans (congrArg₂ (· + ·) (Finset.sum_congr rfl fun k _ => ?_) (Finset.sum_congr rfl fun k _ => ?_))
  · have h : (Fin.castAdd 640 k).val < 640 := k.isLt
    unfold wboth
    rw [dif_pos h, dif_pos h]
    rfl
  · have h : ¬(Fin.natAdd 640 k).val < 640 := by simp
    unfold wboth
    rw [dif_neg h, dif_neg h]
    have e : (Fin.natAdd 640 k).val - 640 = k.val := by simp
    exact congrArg₂ (· * ·) (congrArg Y (Fin.ext (by simp only [e]))) (congrArg (wbd p.wx q x) (Fin.ext e))

section
variable (r : Fin 256)
theorem half_eq (q : Fin 2) (o : ℕ) (ho : o = q.val * 640) (h) (k : Fin 1280) : (tile p T).half o h r k
    = if h : k.val < 640 then dpa p (row T r) ⟨q.val * 640 + k.val, by omega⟩ else dpx p (row T r) ⟨q.val * 640 + (k.val - 640), by omega⟩ := by
  subst ho
  unfold Tile.half ccat
  by_cases hk : k.val < 640
  · rw [dif_pos hk, dif_pos hk]
    exact dpa_eq p T r _
  · rw [dif_neg hk, dif_neg hk]
    exact dpx_eq p T r _
theorem dxc_eq (j : Fin 1280) : (tile p T).dxc r j = dxc p (row T r) j := by
  unfold Tile.dxc dxc
  rw [G_eq]
  refine congrArg (fun x => G p (row T r) j * mult p (row T r) j * ig p (row T r) j + x) ?_
  unfold ccat
  by_cases hj : j.val < 640
  · rw [dif_pos hj]
    refine (Finset.sum_congr rfl fun k _ => congrArg (· * _) (half_eq p T r 0 0 rfl _ k)).trans (sum_both p _ _ 0 ⟨j.val, hj⟩ j (by simp))
  · rw [dif_neg hj]
    refine (Finset.sum_congr rfl fun k _ => congrArg (· * _) (half_eq p T r 1 640 rfl _ k)).trans (sum_both p _ _ 1 ⟨j.val - 640, by omega⟩ j (by simp only [Fin.val_one]; omega))
theorem dxc_rows : (tile p T).dxc = fun r => dxc p (row T r) := funext fun r => funext fun j => dxc_eq p T r j
theorem dz1_eq (j : Fin 1280) : (tile p T).dz1 r j = dz1 p (row T r) j := by
  unfold Tile.dz1 dz1
  rw [dxc_rows]
  exact congrArg₂ (· + ·) (congrArg₂ (· + ·) (congrArg₂ (· + ·) rfl (congrArg (p.cw 2 j * ·) (up_rows T (dxc p) r j 1 (by norm_num) (by norm_num))))
    (congrArg (p.cw 1 j * ·) (up_rows T (dxc p) r j 2 (by norm_num) (by norm_num)))) (congrArg (p.cw 0 j * ·) (up_rows T (dxc p) r j 3 (by norm_num) (by norm_num)))
theorem dz_eq (j : Fin 2560) : (tile p T).dz r j = dz p (row T r) j := by
  unfold Tile.dz dz
  by_cases h : j.val < 1280
  · rw [dif_pos h, dif_pos h, dz0_eq]
  · rw [dif_neg h, dif_neg h, dz1_eq]
theorem dpre_eq (j : Fin 2560) : (tile p T).dpre r j = dpre p (row T r) j := by
  unfold Tile.dpre dpre
  by_cases h : j.val < 1280
  · rw [dif_pos h, half_eq p T r 0 0 rfl]
    by_cases h2 : j.val < 640
    · rw [dif_pos (show (⟨j.val, h⟩ : Fin 1280).val < 640 from h2), if_pos (show j.val / 640 % 2 = 0 by omega)]
      exact congrArg (dpa p _) (Fin.ext (by simp only [Fin.val_zero]; omega))
    · rw [dif_neg (show ¬(⟨j.val, h⟩ : Fin 1280).val < 640 from h2), if_neg (show ¬j.val / 640 % 2 = 0 by omega)]
      exact congrArg (dpx p _) (Fin.ext (by simp only [Fin.val_zero]; omega))
  · rw [dif_neg h, half_eq p T r 1 640 rfl]
    by_cases h2 : j.val - 1280 < 640
    · rw [dif_pos (show (⟨j.val - 1280, by omega⟩ : Fin 1280).val < 640 from h2), if_pos (show j.val / 640 % 2 = 0 by omega)]
      exact congrArg (dpa p _) (Fin.ext (by simp only [Fin.val_one]; omega))
    · rw [dif_neg (show ¬(⟨j.val - 1280, by omega⟩ : Fin 1280).val < 640 from h2), if_neg (show ¬j.val / 640 % 2 = 0 by omega)]
      exact congrArg (dpx p _) (Fin.ext (by simp only [Fin.val_one]; omega))
end

/-! ## The sums over the sequence -/

/-- The tile at the `n`-th point: the last tile comes first. -/
def tl (n : ℕ) : Fin 32 := ⟨31 - n, by omega⟩
/-- What the points up to the `n`-th have added up. -/
def run (F : Fin 32 → Fin 256 → Fin 1280 → ℝ) (n : ℕ) (b : Fin 8) (j : Fin 1280) : ℝ := ∑ i ∈ Finset.range (n + 1), Tile.byPlace (F (tl i)) b j
theorem sum_run (F : Fin 32 → Fin 256 → Fin 1280 → ℝ) (f : Mat) (h : ∀ T r j, F T r j = f (row T r) j) (j : Fin 1280) : ∑ b, run F 31 b j = ∑ t, f t j := by
  have e1 : ∑ t, f t j = ∑ T : Fin 32, ∑ r : Fin 256, F T r j :=
    (Fin.sum_univ_tiles 32 256 rfl fun t => f t j).trans (Finset.sum_congr rfl fun T _ => Finset.sum_congr rfl fun r _ => (h T r j).symm)
  have e2 (T : Fin 32) : ∑ r : Fin 256, F T r j = ∑ b : Fin 8, Tile.byPlace (F T) b j :=
    (Fin.sum_univ_tiles 32 8 rfl fun r => F T r j).trans Finset.sum_comm
  unfold run
  rw [e1, Finset.sum_comm, Finset.sum_range (n := 31 + 1) fun i => ∑ b, Tile.byPlace (F (tl i)) b j]
  rw [← Equiv.sum_comp Fin.revPerm fun T : Fin 32 => ∑ r : Fin 256, F T r j]
  refine Finset.sum_congr rfl fun i _ => ?_
  rw [e2]
  refine Finset.sum_congr rfl fun b _ => congrArg (fun T => Tile.byPlace (F T) b j) (Fin.ext ?_)
  show 31 - i.val = 32 - (i.val + 1)
  omega
/-- The parts of the convolution's gradient, and of the vectors' gradients. -/
def dcwAt (k : Fin 4) : Mat := fun t j => dxc p t j * back (xb p) (3 - k.val) t j
def vecAt (k : Fin 4) : Mat := if k.val = 0 then dxc p else if k.val = 1 then dpa p else if k.val = 2 then dpx p else fun t j => dlog p t j * r p t j * (8 * sg (-p.ap j))
theorem dcw_at (k : Fin 4) (r : Fin 256) (j : Fin 1280) : (tile p T).dcw k r j = dcwAt p k (row T r) j := by
  unfold Tile.dcw dcwAt
  rw [dxc_eq]
  by_cases h : k.val = 3
  · rw [if_pos h, h]
    unfold back
    rw [if_pos (Nat.zero_le _), ext_lt (xb p) j (show (row T r).val - (3 - 3) < 8192 from (row T r).isLt)]
    rfl
  · rw [if_neg h]
    exact congrArg (dxc p (row T r) j * ·) (dn_rows T (xb p) r j (3 - k.val) (by omega) (by omega))
theorem vec_at (k : Fin 4) (r : Fin 256) (j : Fin 1280) : (tile p T).vec k r j = vecAt p k (row T r) j := by
  unfold Tile.vec vecAt
  by_cases h0 : k.val = 0
  · rw [if_pos h0, if_pos h0, dxc_eq]
  · rw [if_neg h0, if_neg h0]
    by_cases h1 : k.val = 1
    · rw [if_pos h1, if_pos h1, dpa_eq]
    · rw [if_neg h1, if_neg h1]
      by_cases h2 : k.val = 2
      · rw [if_pos h2, if_pos h2, dpx_eq]
      · rw [if_neg h2, if_neg h2, dap_eq]
theorem sum_dcw (k : Fin 4) (j : Fin 1280) : ∑ b, run (fun T => (tile p T).dcw k) 31 b j = dcw p k j := sum_run _ (dcwAt p k) (fun T r j => dcw_at p T k r j) j
theorem sum_vec (k : Fin 4) (j : Fin 1280) : ∑ b, run (fun T => (tile p T).vec k) 31 b j = ∑ t, vecAt p k t j := sum_run _ (vecAt p k) (fun T r j => vec_at p T k r j) j
end Cert.Lift.Lru
-- ==== Proof.LruPay.lean ====
module

public import proofs.«01_k».proof.Proof.Gen.LruIdeal.Skeleton
public import proofs.«01_k».proof.Proof.LruTile

@[expose] public section

/-! The recurrence's backward kernel on real blocks: the gate, the backward scan of a tile, the gates' gradients, and the
    convolution's. -/

set_option maxRecDepth 16384
noncomputable section
namespace Cert.LruIdeal.Value
open Idealize.ShloMosaic Idealize.SL.Sem Cert.Lift Cert.Lift.Lru
local notation "F32 " s:max => FVec Ideal s FTy.f32
open Cert.LruIdeal Cert.LruIdeal.Gen

/-! ## Constants and casts -/
section
variable {s : Shape}
theorem splat {w : BitVec 32} {r : ℝ} (h : Ideal.ofBits .f32 w = ((r : ℝ) : EReal)) :
    broadcast s (FloatOps.ofBits (F := Ideal) .f32 w) = (Cv fun _ => r : F32 s) := funext fun _ => h
/-- Eight times the kernel's softplus of `-g`. -/
theorem soft (g : s.Idx → ℝ) :
    mulf (Cv fun _ => 8) (addf (maximumf (subf (Cv fun _ => 0) (Cv g)) (Cv fun _ => 0))
      (select (cmpf (φ := .f32) .oeq (addf (Cv fun _ => 1) (exp (subf (Cv fun _ => 0) (absf (subf (Cv fun _ => 0) (Cv g)))))) (Cv fun _ => 1))
        (exp (subf (Cv fun _ => 0) (absf (subf (Cv fun _ => 0) (Cv g)))))
        (divf (mulf (log (addf (Cv fun _ => 1) (exp (subf (Cv fun _ => 0) (absf (subf (Cv fun _ => 0) (Cv g))))))) (exp (subf (Cv fun _ => 0) (absf (subf (Cv fun _ => 0) (Cv g))))))
          (select (cmpf (φ := .f32) .oeq (addf (Cv fun _ => 1) (exp (subf (Cv fun _ => 0) (absf (subf (Cv fun _ => 0) (Cv g)))))) (Cv fun _ => 1)) (Cv fun _ => 1)
            (subf (addf (Cv fun _ => 1) (exp (subf (Cv fun _ => 0) (absf (subf (Cv fun _ => 0) (Cv g)))))) (Cv fun _ => 1))))))
      = (Cv fun i => 8 * sp (-g i) : F32 s) := by
  have ee : exp (subf (Cv fun _ => 0) (absf (subf (Cv fun _ => 0) (Cv g)))) = (Cv fun i => Real.exp (-|-g i|) : F32 s) := by
    simp only [subf_Cv, absf_Cv, exp_Cv]
    refine congrArg Cv (funext fun i => ?_)
    show Real.exp (0 - |0 - g i|) = _
    rw [zero_sub, zero_sub]
  have ew : addf (Cv fun _ => 1) (Cv fun i => Real.exp (-|-g i|)) = (Cv fun i => 1 + Real.exp (-|-g i|) : F32 s) := by rw [addf_Cv]; rfl
  have hw : ∀ i : s.Idx, 1 + Real.exp (-|-g i|) ≠ 1 := fun i => by have := Real.exp_pos (-|-g i|); linarith
  rw [ee, ew, select_oeq _ _ hw, select_oeq _ _ hw, log_Cv _ (fun i => by have := Real.exp_pos (-|-g i|); linarith)]
  simp only [subf_Cv, mulf_Cv]
  rw [divf_Cv _ ((fun i => 1 + Real.exp (-|-g i|)) - fun _ => 1) (fun i => sub_ne_zero.2 (hw i))]
  simp only [maximumf_Cv, addf_Cv, mulf_Cv]
  refine congrArg Cv (funext fun i => ?_)
  show 8 * (max (0 - g i) 0 + Real.log (1 + Real.exp (-|-g i|)) * Real.exp (-|-g i|) / (1 + Real.exp (-|-g i|) - 1)) = 8 * sp (-g i)
  rw [zero_sub, add_sub_cancel_left, mul_div_cancel_right₀ _ (Real.exp_ne_zero _), sp_stable]
theorem ncub : Named.named (F := Ideal) κ "gelu_cubic" (φ := .f32) 0x3D372713#32 = ((cub : ℝ) : EReal) := rfl
theorem ncub3 : Named.named (F := Ideal) κ "gelu_cubic_3" (φ := .f32) 0x3E095D4F#32 = ((3 * cub : ℝ) : EReal) := by
  rw [show (3 * cub : ℝ) = 26829 / 200000 by unfold cub; norm_num]; rfl
theorem splat_cub : broadcast s (Named.named (F := Ideal) κ "gelu_cubic" (φ := .f32) 0x3D372713#32) = (Cv fun _ => cub : F32 s) := funext fun _ => ncub
theorem splat_cub3 : broadcast s (Named.named (F := Ideal) κ "gelu_cubic_3" (φ := .f32) 0x3E095D4F#32) = (Cv fun _ => 3 * cub : F32 s) := funext fun _ => ncub3
end
section
variable (X Y Z A B : Fin 256 → Fin 1280 → ℝ) (E H : Fin 8 → Fin 1280 → ℝ)
theorem p7 : k0_pay7 (F := Ideal) (Cv (φ := .f32) (u2 X)) = Cv (u2 X) := by
  show shapeCast _ _ _ = _; exact cast_same _ _
theorem p8 : k0_pay8 (F := Ideal) (Cv (φ := .f32) (u2 X)) = Cv (u2 X) := by
  show shapeCast _ _ _ = _; exact cast_same _ _
theorem p18 : k0_pay18 (F := Ideal) (Cv (φ := .f32) (u2 X)) = Cv (u2 X) := by
  show shapeCast _ _ _ = _; exact cast_same _ _
theorem p11 : k0_pay11 (F := Ideal) (Cv (φ := .f32) (u3 fun _ => X)) = Cv (u2 X) := cast3_2h _ _
theorem p12 : k0_pay12 (F := Ideal) (Cv (φ := .f32) (u3 fun _ => X)) = Cv (u2 X) := cast3_2h _ _
theorem p13 : k0_pay13 (F := Ideal) (Cv (φ := .f32) (u3 fun _ => X)) = Cv (u2 X) := cast3_2h _ _
theorem p14 : k0_pay14 (F := Ideal) (Cv (φ := .f32) (u3 fun _ => X)) = Cv (u2 X) := cast3_2h _ _
theorem p15 : k0_pay15 (F := Ideal) (Cv (φ := .f32) (u3 fun _ => X)) = Cv (u2 X) := cast3_2h _ _
theorem p16 (f : Fin 1280 → ℝ) : k0_pay16 (F := Ideal) (Cv (φ := .f32) (u3 fun _ _ => f)) = Cv (u2 fun _ => f) := congrArg Cv (cast3_2' _ _)
/-- Rows before the first tile count nothing. -/
def hist (i : grid0.Coords) : ℝ := if (i 0).val = 31 then 0 else 1
theorem p9 (i : grid0.Coords) : k0_pay9 (F := Ideal) i = ((hist i : ℝ) : EReal) := by
  have e : ∀ a : Fin 32, Scalar.cmpi .eq (Scalar.subi 31#32 (BitVec.ofNat 32 a.val)) 0#32 = if a.val = 31 then 1#1 else 0#1 := by decide
  dsimp only [k0_pay9]
  rw [show Scalar.cmpi .eq (Scalar.subi 31#32 (BitVec.ofNat 32 (i 0).val)) 0#32 = _ from e (i 0)]
  unfold hist
  by_cases h : (i 0).val = 31
  · rw [if_pos h, if_pos h]; exact czero
  · rw [if_neg h, if_neg h]; exact cone

/-! ## The gate -/
theorem p17 (f : Fin 1280 → ℝ) : k0_pay17 (F := Ideal) (Cv (φ := .f32) (u2 fun _ => f)) (Scalar.ofBits .f32 0x00000000#32) = Cv (u2 fun _ j => 8 * sp (-f j)) := by
  dsimp only [k0_pay17]
  rw [splat czero, splat cone, splat ceight]
  exact soft (u2 fun (_ : Fin 1) => f)
theorem p19 : k0_pay19 (F := Ideal) (Cv (φ := .f32) (u2 X)) = Cv (u2 fun r j => th (X r j)) := by
  dsimp only [k0_pay19]
  rw [splat_cub, splat ckap]
  simp only [mulf_Cv, addf_Cv, tanh_Cv]
  refine congrArg Cv (funext fun i => ?_)
  show Real.tanh (kap * (X _ _ + cub * X _ _ * X _ _ * X _ _)) = th (X _ _)
  unfold th
  simp only [mul_assoc]
theorem p20 : k0_pay20 (F := Ideal) (Cv (φ := .f32) (u2 X)) = Cv (u2 fun r j => gel (X r j)) := by
  dsimp only [k0_pay20]
  rw [p19, splat chalf, splat cone]
  simp only [mulf_Cv, addf_Cv]
  refine congrArg Cv (funext fun i => ?_)
  show 1 / 2 * X _ _ * (1 + th (X _ _)) = gel (X _ _)
  unfold gel; ring
theorem p21 : k0_pay21 (F := Ideal) (Cv (φ := .f32) (u2 X)) = Cv (u2 fun r j => 1 / 2 * (1 + th (X r j))) := by
  dsimp only [k0_pay21]
  rw [p19, splat chalf, splat cone]
  simp only [mulf_Cv, addf_Cv]
  rfl
theorem p22 : k0_pay22 (F := Ideal) (Cv (φ := .f32) (u2 X)) (Cv (φ := .f32) (u2 Y)) = Cv (u2 fun r j => X r j * Y r j) := rfl
theorem p23 : k0_pay23 (F := Ideal) (Cv (φ := .f32) (u2 X)) = Cv (u2 X) := rfl
theorem p58 : k0_pay58 (F := Ideal) (Cv (φ := .f32) (u2 X)) = Cv (u2 X) := rfl
section
variable (P : Fin 256 → Fin 1024 → ℝ) (W : Fin 1280 → Fin 1024 → ℝ)
theorem p24 : k0_pay24 (F := Ideal) (Cv (φ := .f32) (u2 P)) (Cv (φ := .bf16) (u3 fun _ => W)) = Cv (u2 fun r j => ∑ k, P r k * W j k) := by
  dsimp only [k0_pay24, S256x1280, S1280x1024, S256x1024]
  rw [truncf_Cv, cast3_2h, matmul_Cv, rdot_nt _ _ _ rfl rfl rfl rfl rfl rfl]
theorem p25 : k0_pay25 (F := Ideal) (Cv (φ := .f32) (u2 X)) (Cv (φ := .f32) (u2 P)) (Cv (φ := .bf16) (u3 fun _ => W)) = Cv (u2 fun r j => (∑ k, P r k * W j k) * X r j) := by
  dsimp only [k0_pay25]
  rw [p24, mulf_Cv, u2_mul]
theorem p26 : k0_pay26 (F := Ideal) (Cv (φ := .f32) (u2 X)) (Cv (φ := .f32) (u2 Y)) (Cv (φ := .f32) (u2 fun r j => th (X r j))) (Cv (φ := .f32) (u2 fun r j => 1 / 2 * (1 + th (X r j))))
    (Cv (φ := .f32) (u2 P)) (Cv (φ := .bf16) (u3 fun _ => W)) = Cv (u2 fun r j => (∑ k, P r k * W j k) * Y r j * dgel (X r j)) := by
  dsimp only [k0_pay26]
  rw [p24, splat chalf, splat cone, splat ckap, splat_cub3]
  simp only [mulf_Cv, addf_Cv, subf_Cv]
  rfl
end

/-! ## The backward scan -/
theorem p27 : k0_pay27 (F := Ideal) (Cv (φ := .f32) (u2 X)) (Cv (φ := .f32) (u2 E)) = Cv (u2 (up 1 X E)) := by
  dsimp only [k0_pay27]
  exact up_cat 1 263#32 rfl (by norm_num) (by norm_num) rfl rfl _ _ _
theorem m28 (i : S8x1280.Idx) : k0_pay28 i = BitVec.ofNat 32 (i 0).val + 248#32 := by
  show BitVec.ofNat 32 (0 * 8 + (i 0).val) + 248#32 = _
  rw [Nat.zero_mul, Nat.zero_add]
theorem m29 (i : S8x1280.Idx) : k0_pay29 i = if (i 0).val + 248 + 1 < 256 then 1#1 else 0#1 := by
  have e : ∀ a : Fin 8, IntOp.cmpi .slt (BitVec.ofNat 32 a.val + 248#32) 255#32 = if a.val + 248 + 1 < 256 then 1#1 else 0#1 := by decide
  show IntOp.cmpi .slt (k0_pay28 i) 255#32 = _
  rw [m28]; exact e (i 0)
theorem m31 (i : S8x1280.Idx) : k0_pay31 k0_pay28 i = if (i 0).val + 248 + 2 < 256 then 1#1 else 0#1 := by
  have e : ∀ a : Fin 8, IntOp.cmpi .slt (BitVec.ofNat 32 a.val + 248#32) 254#32 = if a.val + 248 + 2 < 256 then 1#1 else 0#1 := by decide
  show IntOp.cmpi .slt (k0_pay28 i) 254#32 = _
  rw [m28]; exact e (i 0)
theorem m34 (i : S8x1280.Idx) : k0_pay34 k0_pay28 i = if (i 0).val + 248 + 4 < 256 then 1#1 else 0#1 := by
  have e : ∀ a : Fin 8, IntOp.cmpi .slt (BitVec.ofNat 32 a.val + 248#32) 252#32 = if a.val + 248 + 4 < 256 then 1#1 else 0#1 := by decide
  show IntOp.cmpi .slt (k0_pay28 i) 252#32 = _
  rw [m28]; exact e (i 0)
section
variable (C D : Fin 256 → Fin 1280 → ℝ)
theorem p30 : k0_pay30 (F := Ideal) (Cv (φ := .f32) (u2 C)) k0_pay29 255#32 = Cv (u2 (C1 C)) :=
  mulPast 1 rfl (masked 1 1 255#32 rfl (by norm_num) (by norm_num) rfl m29 (fun _ => cone) _ _ _ _)
theorem p32 : k0_pay32 (F := Ideal) (Cv (φ := .f32) (u2 D)) (Cv (φ := .f32) (u2 C)) k0_pay28 k0_pay29 255#32 = Cv (u2 (D2 C D)) := by
  dsimp only [k0_pay32]
  rw [p30]
  exact addPast 2 rfl (addPast 1 rfl rfl (masked 1 0 255#32 rfl (by norm_num) (by norm_num) rfl m29 (fun _ => czero) _ _ _ _))
    (masked 2 0 254#32 rfl (by norm_num) (by norm_num) (addPast 1 rfl rfl (masked 1 0 255#32 rfl (by norm_num) (by norm_num) rfl m29 (fun _ => czero) _ _ _ _)) m31 (fun _ => czero) _ _ _ _)
theorem p33 : k0_pay33 (F := Ideal) (Cv (φ := .f32) (u2 C)) k0_pay28 k0_pay29 255#32 = Cv (u2 (C2 C)) := by
  dsimp only [k0_pay33]
  rw [p30]
  exact mulPast 2 rfl (masked 2 1 254#32 rfl (by norm_num) (by norm_num) rfl m31 (fun _ => cone) _ _ _ _)
theorem p35 : k0_pay35 (F := Ideal) (Cv (φ := .f32) (u2 C)) k0_pay28 k0_pay29 255#32 = Cv (u2 (past 4 1 (C2 C))) := by
  dsimp only [k0_pay35]
  rw [p33]
  exact masked 4 1 252#32 rfl (by norm_num) (by norm_num) rfl m34 (fun _ => cone) _ _ _ _
theorem p36 : k0_pay36 (F := Ideal) (Cv (φ := .f32) (u2 D)) (Cv (φ := .f32) (u2 C)) k0_pay28 k0_pay29 255#32 = mulf (Cv (u2 (C2 C))) (Cv (u2 (past 4 0 (D2 C D)))) := by
  dsimp only [k0_pay36]
  rw [p33, p32]
  exact congrArg (mulf _) (masked 4 0 252#32 rfl (by norm_num) (by norm_num) rfl m34 (fun _ => czero) _ _ _ _)
theorem p37 : k0_pay37 (F := Ideal) (Cv (φ := .f32) (u2 (C2 C))) (Cv (φ := .f32) (u2 (past 4 1 (C2 C)))) = Cv (u2 (C4 C)) := mulPast 4 rfl rfl
theorem p38 : k0_pay38 (F := Ideal) (Cv (φ := .f32) (u2 (C2 C))) (Cv (φ := .f32) (u2 (past 4 1 (C2 C)))) = Cv (u2 (C8 C)) := catC 248 8 rfl (p37 C) _ _ rfl rfl _ _ _ concatenates_S248x1280_S8x1280_S256x1280_d0
theorem p39 : k0_pay39 (F := Ideal) (Cv (φ := .f32) (u2 (C2 C))) (Cv (φ := .f32) (u2 (past 4 1 (C2 C)))) = Cv (u2 (C16 C)) := catC 240 16 rfl (p38 C) _ _ rfl rfl _ _ _ concatenates_S240x1280_S16x1280_S256x1280_d0
theorem p40 : k0_pay40 (F := Ideal) (Cv (φ := .f32) (u2 (C2 C))) (Cv (φ := .f32) (u2 (past 4 1 (C2 C)))) = Cv (u2 (C32 C)) := catC 224 32 rfl (p39 C) _ _ rfl rfl _ _ _ concatenates_S224x1280_S32x1280_S256x1280_d0
theorem p41 : k0_pay41 (F := Ideal) (Cv (φ := .f32) (u2 (C2 C))) (Cv (φ := .f32) (u2 (past 4 1 (C2 C)))) = Cv (u2 (C64 C)) := catC 192 64 rfl (p40 C) _ _ rfl rfl _ _ _ concatenates_S192x1280_S64x1280_S256x1280_d0
theorem p42 : k0_pay42 (F := Ideal) (Cv (φ := .f32) (u2 (D2 C D))) (Cv (φ := .f32) (u2 (C2 C))) (Cv (φ := .f32) (u2 (past 4 1 (C2 C)))) (mulf (Cv (u2 (C2 C))) (Cv (u2 (past 4 0 (D2 C D))))) = Cv (u2 (D128 C D)) := by
  dsimp only [k0_pay42]
  rw [show addf (Cv (u2 (D2 C D))) (mulf (Cv (u2 (C2 C))) (Cv (u2 (past 4 0 (D2 C D))))) = (Cv (u2 (D4 C D)) : F32 S256x1280) from addPast 4 rfl rfl rfl, p37, p38, p39, p40, p41]
  exact catD 128 128 rfl rfl (catD 192 64 rfl rfl (catD 224 32 rfl rfl (catD 240 16 rfl rfl (catD 248 8 rfl rfl rfl _ _ rfl rfl _ _ _ _ _) _ _ rfl rfl _ _ _ _ _) _ _ rfl rfl _ _ _ _ _) _ _ rfl rfl _ _ _ _ _) _ _ rfl rfl _ _ _ _ _
/-- The products over the widest windows. -/
def wide (X : Fin 256 → Fin 1280 → ℝ) (i : Fin 128) (j : Fin 1280) : ℝ := X ⟨0 + i.val, by omega⟩ j * X ⟨128 + i.val, by omega⟩ j
theorem p43 : k0_pay43 (F := Ideal) (Cv (φ := .f32) (u2 (C2 C))) (Cv (φ := .f32) (u2 (past 4 1 (C2 C)))) = Cv (u2 (wide (C64 C))) := by
  dsimp only [k0_pay43]
  rw [p41]
  dsimp only [S128x1280, S256x1280]
  rw [slice_Cv, slice_Cv, slice2r _ 0 _ rfl _ (by norm_num), slice2r _ 128 _ rfl _ (by norm_num), mulf_Cv, u2_mul]
  rfl
/-- The scan's result on a tile. -/
def scanned (g0 : Fin 1280 → ℝ) (r : Fin 256) (j : Fin 1280) : ℝ := D128 C D r j + C128 C r j * g0 j
theorem p44 (g0 : Fin 1280 → ℝ) : k0_pay44 (F := Ideal) (Cv (φ := .f32) (u2 (C64 C))) (Cv (φ := .f32) (u2 (D128 C D))) (Cv (φ := .f32) (u2 (wide (C64 C)))) (Cv (φ := .f32) (u2 fun _ => g0))
    = Cv (u2 (scanned C D g0)) := by
  dsimp only [k0_pay44, S128x1280, S256x1280, S1x1280]
  have e : (Cv (u2 (wide (C64 C))) : F32 ⟨2, ![128, 1280]⟩)
      = mulf (extractStridedSlice ⟨2, ![128, 1280]⟩ ![0, 0] (Cv (u2 (C64 C)) : F32 ⟨2, ![256, 1280]⟩) slices_S256x1280_o0_0_S128x1280)
        (extractStridedSlice ⟨2, ![128, 1280]⟩ ![128, 0] (Cv (u2 (C64 C)) : F32 ⟨2, ![256, 1280]⟩) slices_S256x1280_o128_0_S128x1280) := by
    rw [slice_Cv, slice_Cv, slice2r _ 0 _ rfl _ (by norm_num), slice2r _ 128 _ rfl _ (by norm_num), mulf_Cv, u2_mul]
    rfl
  rw [e, catC 128 128 rfl rfl _ _ rfl rfl, broadcastTo_Cv, bto_row, mulf_Cv, u2_mul, addf_Cv, u2_add]
  rfl
theorem p45 (g0 : Fin 1280 → ℝ) : k0_pay45 (F := Ideal) (Cv (φ := .f32) (u2 (C64 C))) (Cv (φ := .f32) (u2 (D128 C D))) (Cv (φ := .f32) (u2 (wide (C64 C)))) (Cv (φ := .f32) (u2 fun _ => g0))
    = Cv (u2 (Tile.top (scanned C D g0))) := by
  dsimp only [k0_pay45]
  rw [p44]
  refine (cast_same _ _).trans ?_
  dsimp only [S8x1280, S256x1280]
  rw [slice_Cv, slice2r _ 0 _ rfl _ (by norm_num)]
  rfl
theorem p46 : k0_pay46 (F := Ideal) (Cv (φ := .f32) (u2 C)) = Cv (u2 (Tile.top C)) := by
  dsimp only [k0_pay46]
  refine (cast_same _ _).trans ?_
  dsimp only [S8x1280, S256x1280]
  rw [slice_Cv, slice2r _ 0 _ rfl _ (by norm_num)]
  rfl
theorem p57 : k0_pay57 (F := Ideal) (Cv (φ := .f32) (u2 C)) = Cv (u2 (Tile.top C)) := by
  dsimp only [k0_pay57]
  refine (cast_same _ _).trans ?_
  dsimp only [S8x1280, S256x1280]
  rw [slice_Cv, slice2r _ 0 _ rfl _ (by norm_num)]
  rfl
end
end
end Cert.LruIdeal.Value
-- ==== Proof.LruPay2.lean ====
module

public import proofs.«01_k».proof.Proof.LruPay

@[expose] public section

/-! The recurrence's backward kernel on real blocks, after the scan: the gates' gradients, the convolution's, and the sums. -/

set_option maxRecDepth 16384
noncomputable section
namespace Cert.LruIdeal.Value
open Idealize.ShloMosaic Idealize.SL.Sem Cert.Lift Cert.Lift.Lru
open Cert.LruIdeal Cert.LruIdeal.Gen

theorem mul2 {a b : ℕ} (X Y : Fin a → Fin b → ℝ) : mulf (Cv (φ := .f32) (u2 X)) (Cv (u2 Y)) = Cv (u2 fun t j => X t j * Y t j) := mulf_Cv _ _
theorem div2 {a b : ℕ} (X Y : Fin a → Fin b → ℝ) (h : ∀ t j, Y t j ≠ 0) : divf (Cv (φ := .f32) (u2 X)) (Cv (u2 Y)) = Cv (u2 fun t j => X t j / Y t j) :=
  divf_Cv _ _ fun i => h (i 0) (i 1)
theorem sig8 {s : Shape} (g : s.Idx → ℝ) : mulf (Cv fun _ => 8) (divf (Cv fun _ => 1) (addf (Cv fun _ => 1) (exp (Cv g)))) = (Cv fun i => 8 * (1 / (1 + Real.exp (g i))) : FVec Ideal s .f32) := by
  rw [exp_Cv, addf_Cv, divf_Cv (fun _ => 1) ((fun _ => 1) + fun i => Real.exp (g i)) fun i => ne_of_gt (add_pos one_pos (Real.exp_pos _)), mulf_Cv]
  rfl
section
variable (C D : Fin 256 → Fin 1280 → ℝ) (g0 : Fin 1280 → ℝ) (xc r ig a mult hs : Fin 256 → Fin 1280 → ℝ) (ht : Fin 8 → Fin 1280 → ℝ) (η : ℝ) (ap : Fin 1280 → ℝ)
theorem p47 : k0_pay47 (F := Ideal) (Cv (φ := .f32) (u2 ig)) (Cv (φ := .f32) (u2 mult)) (Cv (φ := .f32) (u2 (C64 C))) (Cv (φ := .f32) (u2 (D128 C D))) (Cv (φ := .f32) (u2 (wide (C64 C)))) (Cv (φ := .f32) (u2 fun _ => g0))
    = Cv (u2 fun t j => scanned C D g0 t j * mult t j * ig t j) := by
  dsimp only [k0_pay47]
  rw [p44]
  simp only [mulf_Cv, u2_mul]
theorem p50 : k0_pay50 (F := Ideal) (Cv (φ := .f32) (u2 xc)) (Cv (φ := .f32) (u2 ig)) (Cv (φ := .f32) (u2 mult)) (Cv (φ := .f32) (u2 (C64 C))) (Cv (φ := .f32) (u2 (D128 C D))) (Cv (φ := .f32) (u2 (wide (C64 C)))) (Cv (φ := .f32) (u2 fun _ => g0))
    = Cv (u2 fun t j => scanned C D g0 t j * mult t j * xc t j * ig t j * (1 - ig t j)) := by
  dsimp only [k0_pay50]
  rw [p44, splat cone]
  simp only [mulf_Cv, subf_Cv]
  rfl
/-- The gradient at the logarithm of the decay. -/
def dlogOf (t : Fin 256) (j : Fin 1280) : ℝ :=
  scanned C D g0 t j * dn 1 (fun i j => ht i j * η) hs t j * a t j - scanned C D g0 t j * ig t j * xc t j * (a t j * a t j) / mult t j
theorem p48 (hm : ∀ t j, mult t j ≠ 0) : k0_pay48 (F := Ideal) ((η : ℝ) : EReal) (Cv (φ := .f32) (u2 xc)) (Cv (φ := .f32) (u2 ig)) (Cv (φ := .f32) (u2 a)) (Cv (φ := .f32) (u2 mult)) (Cv (φ := .f32) (u2 hs))
    (Cv (φ := .f32) (u2 (C64 C))) (Cv (φ := .f32) (u2 (D128 C D))) (Cv (φ := .f32) (u2 (wide (C64 C)))) (Cv (φ := .f32) (u2 fun _ => g0)) (Cv (φ := .f32) (u2 ht))
    = Cv (u2 (dlogOf C D g0 xc ig a mult hs ht η)) := by
  have e : mulf (shapeCast S8x1280 (Cv (u2 ht) : FVec Ideal S8x1280 .f32) shapeCasts_S8x1280_S8x1280) (broadcast S8x1280 (((η : ℝ) : EReal) : Ideal .f32)) = Cv (u2 fun i j => ht i j * η) := by
    rw [cast_same]
    exact (mulf_Cv (u2 ht) (u2 fun _ _ => η)).trans rfl
  have e2 : extractStridedSlice S256x1280 ![8, 0] (dynamicRotate 0 1#32 none (concatenate S264x1280 0 [⟨S8x1280, mulf (shapeCast S8x1280 (Cv (u2 ht) : FVec Ideal S8x1280 .f32) shapeCasts_S8x1280_S8x1280)
      (broadcast S8x1280 (((η : ℝ) : EReal) : Ideal .f32))⟩, ⟨S256x1280, (Cv (u2 hs) : FVec Ideal S256x1280 .f32)⟩] concatenates_S8x1280_S256x1280_S264x1280_d0) rotates_S264x1280_d0) slices_S264x1280_o8_0_S256x1280
      = Cv (u2 (dn 1 (fun i j => ht i j * η) hs)) := dn_cat 1 1#32 rfl (by norm_num) rfl e _ _ _
  dsimp only [k0_pay48]
  rw [p44, e2]
  simp only [mulf_Cv, u2_mul]
  rw [div2 _ _ hm, subf_Cv]
  rfl
theorem p49 (hm : ∀ t j, mult t j ≠ 0) : k0_pay49 (F := Ideal) ((η : ℝ) : EReal) (Cv (φ := .f32) (u2 xc)) (Cv (φ := .f32) (u2 r)) (Cv (φ := .f32) (u2 ig)) (Cv (φ := .f32) (u2 a)) (Cv (φ := .f32) (u2 mult))
    (Cv (φ := .f32) (u2 fun _ j => 8 * sp (-ap j))) (Cv (φ := .f32) (u2 hs))
    (Cv (φ := .f32) (u2 (C64 C))) (Cv (φ := .f32) (u2 (D128 C D))) (Cv (φ := .f32) (u2 (wide (C64 C)))) (Cv (φ := .f32) (u2 fun _ => g0)) (Cv (φ := .f32) (u2 ht))
    = Cv (u2 fun t j => (0 - dlogOf C D g0 xc ig a mult hs ht η t j * (8 * sp (-ap j))) * r t j * (1 - r t j)) := by
  dsimp only [k0_pay49]
  rw [p48 _ _ _ _ _ _ _ _ _ _ hm, splat czero, splat cone]
  dsimp only [S256x1280, S1x1280]
  simp only [broadcastTo_Cv, bto_row, mulf_Cv, subf_Cv]
  rfl
theorem p51 (hm : ∀ t j, mult t j ≠ 0) : k0_pay51 (F := Ideal) ((η : ℝ) : EReal) (Cv (φ := .f32) (u2 xc)) (Cv (φ := .f32) (u2 r)) (Cv (φ := .f32) (u2 ig)) (Cv (φ := .f32) (u2 a)) (Cv (φ := .f32) (u2 mult))
    (Cv (φ := .f32) (u2 hs))
    (Cv (φ := .f32) (u2 (C64 C))) (Cv (φ := .f32) (u2 (D128 C D))) (Cv (φ := .f32) (u2 (wide (C64 C)))) (Cv (φ := .f32) (u2 fun _ => g0)) (Cv (φ := .f32) (u2 ht))
    = Cv (u2 fun t j => dlogOf C D g0 xc ig a mult hs ht η t j * r t j) := by
  dsimp only [k0_pay51]
  rw [p48 _ _ _ _ _ _ _ _ _ _ hm, mulf_Cv, u2_mul]
end

section
variable (A B X Y : Fin 256 → Fin 1280 → ℝ) (E : Fin 8 → Fin 1280 → ℝ) (ap : Fin 1280 → ℝ) (W0 W1 : Fin 640 → Fin 1280 → ℝ)
theorem p52 : k0_pay52 (F := Ideal) (Cv (φ := .f32) (u2 A)) (Cv (φ := .f32) (u3 fun _ _ => ap)) = Cv (u2 fun t j => A t j * (8 * sg (-ap j))) := by
  dsimp only [k0_pay52]
  rw [splat czero, splat cone, splat ceight]
  dsimp only [S256x1280, S1x1280, S1x1x1280]
  rw [shapeCast_Cv, cast3_2']
  rw [subf_Cv, subf_Cv, sig8]
  refine (congrArg (fun z : (⟨2, ![1, 1280]⟩ : Shape).Idx → ℝ => mulf (Cv (u2 A)) (broadcastTo ⟨2, ![256, 1280]⟩ (Cv z) broadcasts_S1x1280_S256x1280)) (a₂ := u2 fun _ j => 8 * sg (-ap j)) (funext fun i => ?_)).trans ?_
  rotate_left
  · rw [broadcastTo_Cv, bto_row, mulf_Cv, u2_mul]
  show 8 * (1 / (1 + Real.exp (0 - (0 - ap (i 1))))) = 8 * sg (-ap (i 1))
  unfold sg
  rw [zero_sub, zero_sub]
/-- One half of the channels of two tiles, side by side. -/
def sides (o : ℕ) (ho : o + 640 ≤ 1280) : Fin 256 → Fin 1280 → ℝ :=
  ccat (show 1280 = 640 + 640 by norm_num) (fun i j => A i ⟨o + j.val, by omega⟩) (fun i j => B i ⟨o + j.val, by omega⟩)
theorem p53 : k0_pay53 (F := Ideal) (Cv (φ := .f32) (u2 A)) (Cv (φ := .f32) (u2 B)) = Cv (u2 (sides A B 0 (by norm_num))) := by
  dsimp only [k0_pay53, S256x1280, S256x640]
  rw [slice_Cv, slice_Cv, slice2 _ 0 _ rfl _ (by norm_num), slice2 _ 0 _ rfl _ (by norm_num), concat_cols (by norm_num) rfl rfl]
  rfl
theorem p54 : k0_pay54 (F := Ideal) (Cv (φ := .f32) (u2 A)) (Cv (φ := .f32) (u2 B)) = Cv (u2 (sides A B 640 (by norm_num))) := by
  dsimp only [k0_pay54, S256x1280, S256x640]
  rw [slice_Cv, slice_Cv, slice2 _ 640 _ rfl _ (by norm_num), slice2 _ 640 _ rfl _ (by norm_num), concat_cols (by norm_num) rfl rfl]
  rfl
/-- The products of the two halves with the gates' weights, added to `X`. -/
def through (t : Fin 256) (j : Fin 1280) : ℝ := X t j + ccat (show 1280 = 640 + 640 by norm_num)
  (fun i j => ∑ k, sides A B 0 (by norm_num) i k * W0 j k) (fun i j => ∑ k, sides A B 640 (by norm_num) i k * W1 j k) t j
theorem p55 : k0_pay55 (F := Ideal) (Cv (φ := .f32) (u2 X)) (Cv (φ := .f32) (u2 A)) (Cv (φ := .f32) (u2 B)) (Cv (φ := .bf16) (u3 fun _ => W0)) (Cv (φ := .bf16) (u3 fun _ => W1))
    = Cv (u2 (through A B X W0 W1)) := by
  dsimp only [k0_pay55]
  rw [p53, p54]
  dsimp only [S256x1280, S256x640, S640x1280, S1x640x1280]
  rw [cast3_2h, cast3_2h, matmul_Cv, matmul_Cv, rdot_nt _ _ _ rfl rfl rfl rfl rfl rfl, rdot_nt _ _ _ rfl rfl rfl rfl rfl rfl, concat_cols (by norm_num) rfl rfl, addf_Cv, u2_add]
  rfl
theorem p59 (w3 w2 w1 w0 : Fin 1280 → ℝ) : k0_pay59 (F := Ideal) (Cv (φ := .f32) (u2 (through A B X W0 W1)))
    (k0_pay56 (Cv (φ := .f32) (u2 X)) (Cv (φ := .f32) (u2 A)) (Cv (φ := .f32) (u2 B)) (Cv (φ := .bf16) (u3 fun _ => W0)) (Cv (φ := .bf16) (u3 fun _ => W1)) (Cv (φ := .f32) (u2 E)))
    (Cv (φ := .f32) (u3 fun _ _ => w3)) (Cv (φ := .f32) (u3 fun _ _ => w2)) (Cv (φ := .f32) (u3 fun _ _ => w1)) (Cv (φ := .f32) (u3 fun _ _ => w0))
    = Cv (u2 fun t j => w3 j * through A B X W0 W1 t j + w2 j * up 1 (through A B X W0 W1) E t j + w1 j * up 2 (through A B X W0 W1) E t j + w0 j * up 3 (through A B X W0 W1) E t j) := by
  dsimp only [k0_pay59, k0_pay56]
  rw [p55]
  dsimp only [S256x1280, S264x1280, S8x1280, S1x1280, S1x1x1280]
  rw [up_cat 1 263#32 rfl (by norm_num) (by norm_num) rfl rfl, up_cat 2 262#32 rfl (by norm_num) (by norm_num) rfl rfl, up_cat 3 261#32 rfl (by norm_num) (by norm_num) rfl rfl]
  simp only [shapeCast_Cv, cast3_2', broadcastTo_Cv, bto_row, mulf_Cv, u2_mul, addf_Cv, u2_add]
  rfl
end

/-! ## The sums -/
section
variable (X Y : Fin 256 → Fin 1280 → ℝ) (E O : Fin 8 → Fin 1280 → ℝ)
theorem p60 : k0_pay60 (F := Ideal) (Cv (φ := .f32) (u2 X)) (Cv (φ := .f32) (u2 Y)) (Cv (φ := .f32) (u3 fun _ => O)) = Cv (u3 fun _ b j => O b j + Tile.byPlace (fun t j => Y t j * X t j) b j) :=
  acc (mul2 Y X) rfl _ _ _ _
theorem p66 : k0_pay66 (F := Ideal) (Cv (φ := .f32) (u2 X)) (Cv (φ := .f32) (u3 fun _ => O)) = Cv (u3 fun _ b j => O b j + Tile.byPlace X b j) := acc rfl rfl _ _ _ _
theorem p67 : k0_pay67 (F := Ideal) (Cv (φ := .f32) (u2 X)) (Cv (φ := .f32) (u3 fun _ => O)) = Cv (u3 fun _ b j => O b j + Tile.byPlace X b j) := acc rfl rfl _ _ _ _
theorem p68 : k0_pay68 (F := Ideal) (Cv (φ := .f32) (u2 X)) (Cv (φ := .f32) (u3 fun _ => O)) = Cv (u3 fun _ b j => O b j + Tile.byPlace X b j) := acc rfl rfl _ _ _ _
theorem p1 : k0_pay1 (F := Ideal) (Cv (φ := .f32) (u2 X)) (Cv (φ := .f32) (u3 fun _ => O)) = Cv (u3 fun _ b j => O b j + Tile.byPlace X b j) := acc rfl rfl _ _ _ _
variable (i : grid0.Coords)
theorem hist_rows : mulf (shapeCast S8x1280 (Cv (u2 E) : FVec Ideal S8x1280 .f32) shapeCasts_S8x1280_S8x1280) (broadcast S8x1280 (k0_pay9 (F := Ideal) i)) = Cv (u2 fun b j => E b j * hist i) := by
  rw [cast_same, p9]
  exact (mulf_Cv (u2 E) (u2 fun _ _ => hist i)).trans rfl
theorem p61 : k0_pay61 (F := Ideal) (k0_pay10 i (Cv (φ := .f32) (u2 X)) (Cv (φ := .f32) (u2 E))) (Cv (φ := .f32) (u2 Y)) (Cv (φ := .f32) (u3 fun _ => O))
    = Cv (u3 fun _ b j => O b j + Tile.byPlace (fun t j => Y t j * dn 1 (fun b j => E b j * hist i) X t j) b j) := by
  dsimp only [k0_pay61, k0_pay10]
  exact acc ((congrArg (mulf _) (dn_cat 1 1#32 rfl (by norm_num) (p8 X) (hist_rows E i) _ _ _)).trans (mul2 Y _)) rfl _ _ _ _
theorem p62 : k0_pay62 (F := Ideal) (k0_pay10 i (Cv (φ := .f32) (u2 X)) (Cv (φ := .f32) (u2 E))) (Cv (φ := .f32) (u2 Y)) (Cv (φ := .f32) (u3 fun _ => O))
    = Cv (u3 fun _ b j => O b j + Tile.byPlace (fun t j => Y t j * dn 2 (fun b j => E b j * hist i) X t j) b j) := by
  dsimp only [k0_pay62, k0_pay10]
  exact acc ((congrArg (mulf _) (dn_cat 2 2#32 rfl (by norm_num) (p8 X) (hist_rows E i) _ _ _)).trans (mul2 Y _)) rfl _ _ _ _
theorem p65 : k0_pay65 (F := Ideal) (Cv (φ := .f32) (u2 Y)) (k0_pay63 (Cv (φ := .f32) (u3 fun _ => O))) (k0_pay64 (k0_pay10 i (Cv (φ := .f32) (u2 X)) (Cv (φ := .f32) (u2 E))))
    = Cv (u3 fun _ b j => O b j + Tile.byPlace (fun t j => Y t j * dn 3 (fun b j => E b j * hist i) X t j) b j) := by
  dsimp only [k0_pay65, k0_pay64, k0_pay63, k0_pay10]
  exact acc ((congrArg (mulf _) (dn_cat 3 3#32 rfl (by norm_num) (p8 X) (hist_rows E i) _ _ _)).trans (mul2 Y _)) rfl _ _ _ _
theorem zero8 : broadcast S8x1280 (Scalar.ofBits (F := Ideal) .f32 0x00000000#32) = Cv (u2 fun _ _ => 0) := funext fun _ => czero
theorem p2 : k0_pay2 (F := Ideal) = Cv (u2 fun _ _ => 0) := by dsimp only [k0_pay2]; rw [cast_same]; exact zero8
theorem p3 : k0_pay3 (F := Ideal) = Cv (u2 fun _ _ => 0) := by dsimp only [k0_pay3]; rw [cast_same]; exact zero8
theorem p4 : k0_pay4 (F := Ideal) = Cv (u2 fun _ _ => 0) := by dsimp only [k0_pay4]; rw [cast_same]; exact zero8
theorem p5 : k0_pay5 (F := Ideal) = Cv (u3 fun _ _ _ => 0) := funext fun _ => czero
theorem p6 : k0_pay6 (F := Ideal) = Cv (u3 fun _ _ _ => 0) := funext fun _ => czero
end
end Cert.LruIdeal.Value
-- ==== Proof.LruTiles.lean ====
module

public import proofs.«01_k».proof.Proof.LruFrame
public import proofs.«01_k».proof.Proof.LruPay2
public import Idealize.ShloMosaic.Lib.Pipeline.ValueKit
public import Idealize.ShloMosaic.Lib.Pipeline.ReadBack

@[expose] public section

/-! One point of the recurrence's backward kernel: from a tile's blocks, and what the point before left, to what it leaves. -/

set_option maxRecDepth 16384
noncomputable section
namespace Cert.LruIdeal.Value
open Idealize.ShloMosaic Idealize.SL.Sem Cert.Lift Cert.Lift.Lru
local notation "F32 " s:max => FVec Ideal s FTy.f32
local notation "B16 " s:max => FVec Ideal s FTy.bf16
open Cert.LruIdeal Cert.LruIdeal.Gen Cert.LruIdeal.Run

/-! ## Loads of parts of a block -/
section
variable (Y : Fin 256 → Fin 2560 → ℝ) (E : Fin 8 → Fin 2560 → ℝ) (g : Fin 8 → Fin 1280 → ℝ) (P : Fin 5 → Fin 256 → Fin 1280 → ℝ) (O : Fin 4 → Fin 8 → Fin 1280 → ℝ)
  (w : Fin 2 → Fin 640 → Fin 1280 → ℝ) (cw : Fin 4 → Fin 1280 → ℝ)
theorem ldz0 (inb) : View.ld (Val := Elt Ideal) (e' := .f32) (Cv (u2 Y) : F32 S256x2560) (Rect.unit (s := S256x2560) ![0, 0] ![256, 1280] inb) = (Cv (u2 fun r j => Y r ⟨0 + j.val, by omega⟩) : F32 S256x1280) := by
  refine funext fun (y : S256x1280.Idx) => ?_
  show (Cv (u2 Y) : F32 S256x2560) ((Rect.unit (s := S256x2560) ![0, 0] ![256, 1280] inb).emb y) = _
  refine congrArg Real.toEReal (congrArg₂ Y (Fin.ext ?_) (Fin.ext ?_)) <;> blk_simp
theorem ldz1 (inb) : View.ld (Val := Elt Ideal) (e' := .f32) (Cv (u2 Y) : F32 S256x2560) (Rect.unit (s := S256x2560) ![0, 1280] ![256, 1280] inb) = (Cv (u2 fun r j => Y r ⟨1280 + j.val, by omega⟩) : F32 S256x1280) := by
  refine funext fun (y : S256x1280.Idx) => ?_
  show (Cv (u2 Y) : F32 S256x2560) ((Rect.unit (s := S256x2560) ![0, 1280] ![256, 1280] inb).emb y) = _
  refine congrArg Real.toEReal (congrArg₂ Y (Fin.ext ?_) (Fin.ext ?_)) <;> blk_simp
theorem pz0 (inb) (x : S256x1280.Idx) : (Cv (u2 fun r j => Y r ⟨0 + j.val, by omega⟩) : B16 S256x1280) x = (Cv (u2 Y) : B16 S256x2560) ((Rect.unit (s := S256x2560) ![0, 0] ![256, 1280] inb).emb x) := by
  refine congrArg Real.toEReal (congrArg₂ Y (Fin.ext ?_) (Fin.ext ?_)) <;> blk_simp
theorem pz1 (inb) (x : S256x1280.Idx) : (Cv (u2 fun r j => Y r ⟨1280 + j.val, by omega⟩) : B16 S256x1280) x = (Cv (u2 Y) : B16 S256x2560) ((Rect.unit (s := S256x2560) ![0, 1280] ![256, 1280] inb).emb x) := by
  refine congrArg Real.toEReal (congrArg₂ Y (Fin.ext ?_) (Fin.ext ?_)) <;> blk_simp
theorem ldt (inb) : View.ld (Val := Elt Ideal) (e' := .f32) (Cv (u2 E) : F32 S8x2560) (Rect.unit (s := S8x2560) ![0, 1280] ![8, 1280] inb) = (Cv (u2 fun r j => E r ⟨1280 + j.val, by omega⟩) : F32 S8x1280) := by
  refine funext fun (y : S8x1280.Idx) => ?_
  show (Cv (u2 E) : F32 S8x2560) ((Rect.unit (s := S8x2560) ![0, 1280] ![8, 1280] inb).emb y) = _
  refine congrArg Real.toEReal (congrArg₂ E (Fin.ext ?_) (Fin.ext ?_)) <;> blk_simp
theorem ldg (inb) : View.ld (Val := Elt Ideal) (e' := .f32) (Cv (u2 g) : F32 S8x1280) (Rect.unit (s := S8x1280) ![0, 0] ![1, 1280] inb) = (Cv (u2 fun _ => g 0) : F32 S1x1280) := by
  refine funext fun (y : S1x1280.Idx) => ?_
  have h0 : (y 0).val = 0 := by have : (y 0).val < 1 := (y 0).isLt; omega
  show (Cv (u2 g) : F32 S8x1280) ((Rect.unit (s := S8x1280) ![0, 0] ![1, 1280] inb).emb y) = _
  refine congrArg Real.toEReal (congrArg₂ g (Fin.ext ?_) (Fin.ext ?_)) <;> blk_simp
  rfl
theorem ldp (k : ℕ) (hk : k < 5) (inb) : View.ld (Val := Elt Ideal) (e' := .f32) (Cv (u3 P) : F32 S5x256x1280) (Rect.unit (s := S5x256x1280) ![k, 0, 0] ![1, 256, 1280] inb) = (Cv (u3 fun _ => P ⟨k, hk⟩) : F32 S1x256x1280) := by
  refine funext fun (y : S1x256x1280.Idx) => ?_
  have h0 : (y 0).val = 0 := by have : (y 0).val < 1 := (y 0).isLt; omega
  show (Cv (u3 P) : F32 S5x256x1280) ((Rect.unit (s := S5x256x1280) ![k, 0, 0] ![1, 256, 1280] inb).emb y) = _
  refine congrArg Real.toEReal (congr (congrArg₂ P (Fin.ext ?_) (Fin.ext ?_)) (Fin.ext ?_)) <;> blk_simp
theorem ldo (k : ℕ) (hk : k < 4) (inb) : View.ld (Val := Elt Ideal) (e' := .f32) (Cv (u3 O) : F32 S4x8x1280) (Rect.unit (s := S4x8x1280) ![k, 0, 0] ![1, 8, 1280] inb) = (Cv (u3 fun _ => O ⟨k, hk⟩) : F32 S1x8x1280) := by
  refine funext fun (y : S1x8x1280.Idx) => ?_
  have h0 : (y 0).val = 0 := by have : (y 0).val < 1 := (y 0).isLt; omega
  show (Cv (u3 O) : F32 S4x8x1280) ((Rect.unit (s := S4x8x1280) ![k, 0, 0] ![1, 8, 1280] inb).emb y) = _
  refine congrArg Real.toEReal (congr (congrArg₂ O (Fin.ext ?_) (Fin.ext ?_)) (Fin.ext ?_)) <;> blk_simp
theorem ldw (k : ℕ) (hk : k < 2) (inb) : View.ld (Val := Elt Ideal) (e' := .bf16) (Cv (u3 w) : B16 S2x640x1280) (Rect.unit (s := S2x640x1280) ![k, 0, 0] ![1, 640, 1280] inb) = (Cv (u3 fun _ => w ⟨k, hk⟩) : B16 S1x640x1280) := by
  refine funext fun (y : S1x640x1280.Idx) => ?_
  have h0 : (y 0).val = 0 := by have : (y 0).val < 1 := (y 0).isLt; omega
  show (Cv (u3 w) : B16 S2x640x1280) ((Rect.unit (s := S2x640x1280) ![k, 0, 0] ![1, 640, 1280] inb).emb y) = _
  refine congrArg Real.toEReal (congr (congrArg₂ w (Fin.ext ?_) (Fin.ext ?_)) (Fin.ext ?_)) <;> blk_simp
theorem ldc (k : ℕ) (hk : k < 4) (inb) : View.ld (Val := Elt Ideal) (e' := .f32) (Cv (u3 fun _ => cw) : F32 S1x4x1280) (Rect.unit (s := S1x4x1280) ![0, k, 0] ![1, 1, 1280] inb) = (Cv (u3 fun _ _ => cw ⟨k, hk⟩) : F32 S1x1x1280) := by
  refine funext fun (y : S1x1x1280.Idx) => ?_
  have h0 : (y 1).val = 0 := by have : (y 1).val < 1 := (y 1).isLt; omega
  show (Cv (u3 fun _ => cw) : F32 S1x4x1280) ((Rect.unit (s := S1x4x1280) ![0, k, 0] ![1, 1, 1280] inb).emb y) = _
  refine congrArg Real.toEReal (congrArg₂ cw (Fin.ext ?_) (Fin.ext ?_)) <;> blk_simp
end

theorem _root_.Cert.Lift.Lru.Tile.dz_left (q : Tile) : (fun r (j : Fin 1280) => q.dz r ⟨0 + j.val, by omega⟩) = q.dz0 := funext fun r => funext fun j =>
  (dif_pos (show 0 + j.val < 1280 by omega)).trans (congrArg (q.dz0 r) (Fin.ext (Nat.zero_add _)))
theorem _root_.Cert.Lift.Lru.Tile.dz_right (q : Tile) : (fun r (j : Fin 1280) => q.dz r ⟨1280 + j.val, by omega⟩) = q.dz1 := funext fun r => funext fun j =>
  (dif_neg (show ¬1280 + j.val < 1280 by omega)).trans (congrArg (q.dz1 r) (Fin.ext (Nat.add_sub_cancel_left _ _)))
theorem _root_.Cert.Lift.Lru.Tile.dpre_left (q : Tile) : (fun r (j : Fin 1280) => q.dpre r ⟨0 + j.val, by omega⟩) = q.half 0 (by norm_num) := funext fun r => funext fun j =>
  (dif_pos (show 0 + j.val < 1280 by omega)).trans (congrArg (q.half 0 (by norm_num) r) (Fin.ext (Nat.zero_add _)))
theorem _root_.Cert.Lift.Lru.Tile.dpre_right (q : Tile) : (fun r (j : Fin 1280) => q.dpre r ⟨1280 + j.val, by omega⟩) = q.half 640 (by norm_num) := funext fun r => funext fun j =>
  (dif_neg (show ¬1280 + j.val < 1280 by omega)).trans (congrArg (q.half 640 (by norm_num) r) (Fin.ext (Nat.add_sub_cancel_left _ _)))
/-- The five planes of a tile. -/
def tplanes (q : Tile) : Fin 5 → Fin 256 → Fin 1280 → ℝ := ![q.xc, q.r, q.ig, q.a, q.mult]
theorem ldp0 (q : Tile) (inb) : View.ld (Val := Elt Ideal) (e' := .f32) (Cv (u3 (tplanes q)) : F32 S5x256x1280) (Rect.unit (s := S5x256x1280) ![0, 0, 0] ![1, 256, 1280] inb) = (Cv (u3 fun _ => q.xc) : F32 S1x256x1280) := (ldp (tplanes q) 0 (show 0 < 5 by norm_num) inb).trans rfl
theorem ldp1 (q : Tile) (inb) : View.ld (Val := Elt Ideal) (e' := .f32) (Cv (u3 (tplanes q)) : F32 S5x256x1280) (Rect.unit (s := S5x256x1280) ![1, 0, 0] ![1, 256, 1280] inb) = (Cv (u3 fun _ => q.r) : F32 S1x256x1280) := (ldp (tplanes q) 1 (show 1 < 5 by norm_num) inb).trans rfl
theorem ldp2 (q : Tile) (inb) : View.ld (Val := Elt Ideal) (e' := .f32) (Cv (u3 (tplanes q)) : F32 S5x256x1280) (Rect.unit (s := S5x256x1280) ![2, 0, 0] ![1, 256, 1280] inb) = (Cv (u3 fun _ => q.ig) : F32 S1x256x1280) := (ldp (tplanes q) 2 (show 2 < 5 by norm_num) inb).trans rfl
theorem ldp3 (q : Tile) (inb) : View.ld (Val := Elt Ideal) (e' := .f32) (Cv (u3 (tplanes q)) : F32 S5x256x1280) (Rect.unit (s := S5x256x1280) ![3, 0, 0] ![1, 256, 1280] inb) = (Cv (u3 fun _ => q.a) : F32 S1x256x1280) := (ldp (tplanes q) 3 (show 3 < 5 by norm_num) inb).trans rfl
theorem ldp4 (q : Tile) (inb) : View.ld (Val := Elt Ideal) (e' := .f32) (Cv (u3 (tplanes q)) : F32 S5x256x1280) (Rect.unit (s := S5x256x1280) ![4, 0, 0] ![1, 256, 1280] inb) = (Cv (u3 fun _ => q.mult) : F32 S1x256x1280) := (ldp (tplanes q) 4 (show 4 < 5 by norm_num) inb).trans rfl

/-- Stores that cover an array, each a part of `G`, leave `G`, over any earlier stores. -/
theorem canon2 {s : Shape} {e : EltTy} (G : s.Idx → Elt Ideal e) (p0 p1 : View.Piece (Elt Ideal) s e) (h0 : ∀ x, p0.2 x = G (p0.1.emb x)) (h1 : ∀ x, p1.2 x = G (p1.1.emb x))
    (cover : ∀ y, ∃ p ∈ [p0, p1], y ∈ p.1.set) : View.canon [p0, p1] = G :=
  funext fun y => View.canon_append_of_piecesOf G [] [p0, p1] ⟨h0, h1, trivial⟩ y (cover y)
theorem canon4 {s : Shape} {e : EltTy} (G : s.Idx → Elt Ideal e) (p0 p1 p2 p3 : View.Piece (Elt Ideal) s e) (L : List (View.Piece (Elt Ideal) s e)) (h0 : ∀ x, p0.2 x = G (p0.1.emb x)) (h1 : ∀ x, p1.2 x = G (p1.1.emb x))
    (h2 : ∀ x, p2.2 x = G (p2.1.emb x)) (h3 : ∀ x, p3.2 x = G (p3.1.emb x))
    (cover : ∀ y, ∃ p ∈ [p0, p1, p2, p3], y ∈ p.1.set) : View.canon (p0 :: p1 :: p2 :: p3 :: L) = G :=
  funext fun y => View.canon_append_of_piecesOf G L [p0, p1, p2, p3] ⟨h0, h1, h2, h3, trivial⟩ y (cover y)
section
variable (m : (ℓ : Loc nD τ sig) → Buf (Elt Ideal) ℓ) (c : Dev nD) (t : Fin cfg0.N) (q : Tile) (O S : Fin 4 → Fin 8 → Fin 1280 → ℝ)
/-- The blocks of point `t` are those of the tile. -/
structure Loads : Prop where
  b0 : (iblk m c 0 t : F32 S256x1024) = Cv (φ := .f32) (u2 q.dout)
  b1 : (iblk m c 1 t : F32 S256x2560) = Cv (φ := .f32) (u2 q.zz)
  b2 : (iblk m c 2 t : F32 S256x1280) = Cv (φ := .f32) (u2 q.hs)
  b3 : (iblk m c 3 t : F32 S5x256x1280) = Cv (φ := .f32) (u3 (tplanes q))
  b4 : (iblk m c 4 t : F32 S8x2560) = Cv (φ := .f32) (u2 q.zt)
  b5 : (iblk m c 5 t : F32 S8x1280) = Cv (φ := .f32) (u2 q.ht)
  b6 : (iblk m c 6 t : F32 S1x4x1280) = Cv (φ := .f32) (u3 fun _ => q.cw)
  b7 : (iblk m c 7 t : B16 S2x640x1280) = Cv (φ := .bf16) (u3 q.wb)
  b8 : (iblk m c 8 t : F32 S1x1x1280) = Cv (φ := .f32) (u3 fun _ _ => q.ap)
  b9 : (iblk m c 9 t : B16 S1x1280x1024) = Cv (φ := .bf16) (u3 fun _ => q.wo)
  hh : hist (grid0.coords t) = q.hist
  hm : ∀ r j, q.mult r j ≠ 0
/-- What the point before left. -/
structure After (prev : Left Ideal) : Prop where
  o : prev.2.2.2.2.1 = Cv (φ := .f32) (u3 O)
  s : prev.2.2.2.2.2.1 = Cv (φ := .f32) (u3 S)
  a : prev.2.2.2.2.2.2.1 = Cv (φ := .f32) (u2 q.af)
  g : prev.2.2.2.2.2.2.2.1 = Cv (φ := .f32) (u2 q.gf)
  d : prev.2.2.2.2.2.2.2.2 = Cv (φ := .f32) (u2 q.df)
variable {m c t q O S}
variable (L : Loads m c t q) (h : ¬cond0_0 (grid0.coords t)) {prev : Left Ideal} (A : After q O S prev)
include L A
theorem yB : (leftB m c t h prev).2.2.2.1 = Cv (φ := .bf16) (u2 q.y) := by
  dsimp only [leftB, readBack]; unfold runB kernelRun0_B; frame_out
  rw [L.b1, L.b2, ldz0, p7, p18, p20, p22]
  rfl
theorem gB : (leftB m c t h prev).2.2.2.2.2.2.2.1 = Cv (φ := .f32) (u2 (Tile.top q.G)) := by
  dsimp only [leftB, readBack]; unfold runB kernelRun0_B; frame_out
  simp only [read_unread_whole]
  rw [L.b0, L.b1, L.b3, L.b9, A.a, A.g, ldz0, p7, ldp3, ldg, p14, p20, p25, p27, p33, p35, p32, p36, p42, p43, p41, p45]
  rfl
set_option maxHeartbeats 1600000 in
/-- What a later point leaves besides `yB` and `gB`. -/
theorem outB : (leftB m c t h prev).1 = Cv (φ := .bf16) (u2 q.dz) ∧
    (leftB m c t h prev).2.1 = Cv (φ := .bf16) (u2 q.dpre) ∧
    (leftB m c t h prev).2.2.1 = Cv (φ := .bf16) (u2 q.xc) ∧
    (leftB m c t h prev).2.2.2.2.1 = Cv (φ := .f32) (u3 fun k b j => O k b j + Tile.byPlace (q.dcw k) b j) ∧
    (leftB m c t h prev).2.2.2.2.2.1 = Cv (φ := .f32) (u3 fun k b j => S k b j + Tile.byPlace (q.vec k) b j) ∧
    (leftB m c t h prev).2.2.2.2.2.2.1 = Cv (φ := .f32) (u2 (Tile.top q.a)) ∧
    (leftB m c t h prev).2.2.2.2.2.2.2.2 = Cv (φ := .f32) (u2 (Tile.top q.dxc)) := by
  refine ⟨?_, ?_, ?_, ?_, ?_, ?_, ?_⟩ <;>
    (dsimp only [leftB, readBack]; unfold runB kernelRun0_B; frame_out
     try simp only [read_unread_whole]
     (try rw [L.b0]); (try rw [L.b1]); (try rw [L.b2]); (try rw [L.b3]); (try rw [L.b4]); (try rw [L.b5]); (try rw [L.b6]); (try rw [L.b7]); (try rw [L.b8]); (try rw [L.b9]); (try rw [A.o]); (try rw [A.s]); (try rw [A.a]); (try rw [A.g]); (try rw [A.d])
     simp (disch := decide) only [ldz0, ldz1, ldt, ldg, ldp0, ldp1, ldp2, ldp3, ldp4, ldo, ldw, ldc, p7, p8, p9, p11, p12, p13, p14, p15, p16, p17, p18, p19, p20, p21, p22, p23, p25, p26, p27, p32, p33, p35, p36, p41, p42, p43, p45, p46, p47, p49 (hm := L.hm), p50, p51 (hm := L.hm), p52, p53, p54, p55, p57, p58, p59, p60, p61, p62, p65, p66, p67, p68, p1, L.hh])
  · refine canon2 (s := S256x2560) (e := .bf16) (Cv (φ := .bf16) (u2 q.dz)) _ _ (fun x => ?_) (fun x => ?_) ?_
    rotate_right
    · exact View.cover_of_tiledL (s := S256x2560) _ S256x1280.size (by sl_kernel_rfl)
    · exact (congrFun (congrArg (fun f => Cv (φ := .bf16) (u2 f)) q.dz_right) x).symm.trans (pz1 q.dz inb_S256x2560_S256x1280_0_1280 x)
    · exact (congrFun (congrArg (fun f => Cv (φ := .bf16) (u2 f)) q.dz_left) x).symm.trans (pz0 q.dz inb_S256x2560_S256x1280_0_0 x)
  · refine canon2 (s := S256x2560) (e := .bf16) (Cv (φ := .bf16) (u2 q.dpre)) _ _ (fun x => ?_) (fun x => ?_) ?_
    rotate_right
    · exact View.cover_of_tiledL (s := S256x2560) _ S256x1280.size (by sl_kernel_rfl)
    · exact (congrFun (congrArg (fun f => Cv (φ := .bf16) (u2 f)) q.dpre_right) x).symm.trans (pz1 q.dpre inb_S256x2560_S256x1280_0_1280 x)
    · exact (congrFun (congrArg (fun f => Cv (φ := .bf16) (u2 f)) q.dpre_left) x).symm.trans (pz0 q.dpre inb_S256x2560_S256x1280_0_0 x)
  · refine canon4 (s := S4x8x1280) (e := .f32) (Cv (φ := .f32) (u3 fun k b j => O k b j + Tile.byPlace (q.dcw k) b j)) _ _ _ _ [] (fun x => ?_) (fun x => ?_) (fun x => ?_) (fun x => ?_) ?_
    rotate_right
    · exact View.cover_of_tiledL (s := S4x8x1280) _ S1x8x1280.size (by sl_kernel_rfl)
    · exact (congrFun (ldo (fun k b j => O k b j + Tile.byPlace (q.dcw k) b j) 0 (by norm_num) inb_S4x8x1280_S1x8x1280_0_0_0) x).symm
    · exact (congrFun (ldo (fun k b j => O k b j + Tile.byPlace (q.dcw k) b j) 1 (by norm_num) inb_S4x8x1280_S1x8x1280_1_0_0) x).symm
    · exact (congrFun (ldo (fun k b j => O k b j + Tile.byPlace (q.dcw k) b j) 2 (by norm_num) inb_S4x8x1280_S1x8x1280_2_0_0) x).symm
    · exact (congrFun (ldo (fun k b j => O k b j + Tile.byPlace (q.dcw k) b j) 3 (by norm_num) inb_S4x8x1280_S1x8x1280_3_0_0) x).symm
  · refine canon4 (s := S4x8x1280) (e := .f32) (Cv (φ := .f32) (u3 fun k b j => S k b j + Tile.byPlace (q.vec k) b j)) _ _ _ _ [] (fun x => ?_) (fun x => ?_) (fun x => ?_) (fun x => ?_) ?_
    rotate_right
    · exact View.cover_of_tiledL (s := S4x8x1280) _ S1x8x1280.size (by sl_kernel_rfl)
    · exact (congrFun (ldo (fun k b j => S k b j + Tile.byPlace (q.vec k) b j) 3 (by norm_num) inb_S4x8x1280_S1x8x1280_3_0_0) x).symm
    · exact (congrFun (ldo (fun k b j => S k b j + Tile.byPlace (q.vec k) b j) 2 (by norm_num) inb_S4x8x1280_S1x8x1280_2_0_0) x).symm
    · exact (congrFun (ldo (fun k b j => S k b j + Tile.byPlace (q.vec k) b j) 1 (by norm_num) inb_S4x8x1280_S1x8x1280_1_0_0) x).symm
    · exact (congrFun (ldo (fun k b j => S k b j + Tile.byPlace (q.vec k) b j) 0 (by norm_num) inb_S4x8x1280_S1x8x1280_0_0_0) x).symm
  · rfl
end
/-- The first point's tile, which no tile comes after. -/
structure First (q : Tile) : Prop where
  a : q.af = fun _ _ => 0
  g : q.gf = fun _ _ => 0
  d : q.df = fun _ _ => 0
theorem e2 {q : Tile} (A : First q) : k0_pay2 (F := Ideal) = Cv (u2 q.af) := by rw [A.a]; exact p2
theorem e3 {q : Tile} (A : First q) : k0_pay3 (F := Ideal) = Cv (u2 q.gf) := by rw [A.g]; exact p3
theorem e4 {q : Tile} (A : First q) : k0_pay4 (F := Ideal) = Cv (u2 q.df) := by rw [A.d]; exact p4
section
variable {m : (ℓ : Loc nD τ sig) → Buf (Elt Ideal) ℓ} {c : Dev nD} {t : Fin cfg0.N} {q : Tile} (L : Loads m c t q) (h : cond0_0 (grid0.coords t)) (A : First q)
include L A
theorem yA : (leftA m c t h).2.2.2.1 = Cv (φ := .bf16) (u2 q.y) := by
  dsimp only [leftA, readBack]; unfold runA kernelRun0_A; frame_out
  rw [L.b1, L.b2, ldz0, p7, p18, p20, p22]
  rfl
theorem gA : (leftA m c t h).2.2.2.2.2.2.2.1 = Cv (φ := .f32) (u2 (Tile.top q.G)) := by
  dsimp only [leftA, readBack]; unfold runA kernelRun0_A; frame_out
  try simp (disch := first | rfl | decide) only [↓View.readCov_skip, ↓View.readCov_fill]
  rw [L.b0, L.b1, L.b3, L.b9, e2 A, e3 A, ldz0, p7, ldp3, ldg, p14, p20, p25, p27, p33, p35, p32, p36, p42, p43, p41, p45]
  rfl
set_option maxHeartbeats 1600000 in
/-- What a first point leaves besides `yA` and `gA`. -/
theorem outA : (leftA m c t h).1 = Cv (φ := .bf16) (u2 q.dz) ∧
    (leftA m c t h).2.1 = Cv (φ := .bf16) (u2 q.dpre) ∧
    (leftA m c t h).2.2.1 = Cv (φ := .bf16) (u2 q.xc) ∧
    (leftA m c t h).2.2.2.2.1 = Cv (φ := .f32) (u3 fun k b j => 0 + Tile.byPlace (q.dcw k) b j) ∧
    (leftA m c t h).2.2.2.2.2.1 = Cv (φ := .f32) (u3 fun k b j => 0 + Tile.byPlace (q.vec k) b j) ∧
    (leftA m c t h).2.2.2.2.2.2.1 = Cv (φ := .f32) (u2 (Tile.top q.a)) ∧
    (leftA m c t h).2.2.2.2.2.2.2.2 = Cv (φ := .f32) (u2 (Tile.top q.dxc)) := by
  refine ⟨?_, ?_, ?_, ?_, ?_, ?_, ?_⟩ <;>
    (dsimp only [leftA, readBack]; unfold runA kernelRun0_A; frame_out
     try simp (disch := first | rfl | decide) only [↓View.readCov_skip, ↓View.readCov_fill]
     (try rw [L.b0]); (try rw [L.b1]); (try rw [L.b2]); (try rw [L.b3]); (try rw [L.b4]); (try rw [L.b5]); (try rw [L.b6]); (try rw [L.b7]); (try rw [L.b8]); (try rw [L.b9]); skip
     simp (disch := decide) only [e2 A, e3 A, e4 A, p5, p6, ldz0, ldz1, ldt, ldg, ldp0, ldp1, ldp2, ldp3, ldp4, ldo, ldw, ldc, p7, p8, p9, p11, p12, p13, p14, p15, p16, p17, p18, p19, p20, p21, p22, p23, p25, p26, p27, p32, p33, p35, p36, p41, p42, p43, p45, p46, p47, p49 (hm := L.hm), p50, p51 (hm := L.hm), p52, p53, p54, p55, p57, p58, p59, p60, p61, p62, p65, p66, p67, p68, p1, L.hh])
  · refine canon2 (s := S256x2560) (e := .bf16) (Cv (φ := .bf16) (u2 q.dz)) _ _ (fun x => ?_) (fun x => ?_) ?_
    rotate_right
    · exact View.cover_of_tiledL (s := S256x2560) _ S256x1280.size (by sl_kernel_rfl)
    · exact (congrFun (congrArg (fun f => Cv (φ := .bf16) (u2 f)) q.dz_right) x).symm.trans (pz1 q.dz inb_S256x2560_S256x1280_0_1280 x)
    · exact (congrFun (congrArg (fun f => Cv (φ := .bf16) (u2 f)) q.dz_left) x).symm.trans (pz0 q.dz inb_S256x2560_S256x1280_0_0 x)
  · refine canon2 (s := S256x2560) (e := .bf16) (Cv (φ := .bf16) (u2 q.dpre)) _ _ (fun x => ?_) (fun x => ?_) ?_
    rotate_right
    · exact View.cover_of_tiledL (s := S256x2560) _ S256x1280.size (by sl_kernel_rfl)
    · exact (congrFun (congrArg (fun f => Cv (φ := .bf16) (u2 f)) q.dpre_right) x).symm.trans (pz1 q.dpre inb_S256x2560_S256x1280_0_1280 x)
    · exact (congrFun (congrArg (fun f => Cv (φ := .bf16) (u2 f)) q.dpre_left) x).symm.trans (pz0 q.dpre inb_S256x2560_S256x1280_0_0 x)
  · refine canon4 (s := S4x8x1280) (e := .f32) (Cv (φ := .f32) (u3 fun k b j => 0 + Tile.byPlace (q.dcw k) b j)) _ _ _ _ _ (fun x => ?_) (fun x => ?_) (fun x => ?_) (fun x => ?_) ?_
    rotate_right
    · exact View.cover_of_tiledL (s := S4x8x1280) _ S1x8x1280.size (by sl_kernel_rfl)
    · exact (congrFun (ldo (fun k b j => 0 + Tile.byPlace (q.dcw k) b j) 0 (by norm_num) inb_S4x8x1280_S1x8x1280_0_0_0) x).symm
    · exact (congrFun (ldo (fun k b j => 0 + Tile.byPlace (q.dcw k) b j) 1 (by norm_num) inb_S4x8x1280_S1x8x1280_1_0_0) x).symm
    · exact (congrFun (ldo (fun k b j => 0 + Tile.byPlace (q.dcw k) b j) 2 (by norm_num) inb_S4x8x1280_S1x8x1280_2_0_0) x).symm
    · exact (congrFun (ldo (fun k b j => 0 + Tile.byPlace (q.dcw k) b j) 3 (by norm_num) inb_S4x8x1280_S1x8x1280_3_0_0) x).symm
  · refine canon4 (s := S4x8x1280) (e := .f32) (Cv (φ := .f32) (u3 fun k b j => 0 + Tile.byPlace (q.vec k) b j)) _ _ _ _ _ (fun x => ?_) (fun x => ?_) (fun x => ?_) (fun x => ?_) ?_
    rotate_right
    · exact View.cover_of_tiledL (s := S4x8x1280) _ S1x8x1280.size (by sl_kernel_rfl)
    · exact (congrFun (ldo (fun k b j => 0 + Tile.byPlace (q.vec k) b j) 3 (by norm_num) inb_S4x8x1280_S1x8x1280_3_0_0) x).symm
    · exact (congrFun (ldo (fun k b j => 0 + Tile.byPlace (q.vec k) b j) 2 (by norm_num) inb_S4x8x1280_S1x8x1280_2_0_0) x).symm
    · exact (congrFun (ldo (fun k b j => 0 + Tile.byPlace (q.vec k) b j) 1 (by norm_num) inb_S4x8x1280_S1x8x1280_1_0_0) x).symm
    · exact (congrFun (ldo (fun k b j => 0 + Tile.byPlace (q.vec k) b j) 0 (by norm_num) inb_S4x8x1280_S1x8x1280_0_0_0) x).symm
  · rfl
end
end Cert.LruIdeal.Value
-- ==== Proof.LruPoints.lean ====
module

public import proofs.«01_k».proof.Proof.LruRows
public import proofs.«01_k».proof.Proof.LruTiles
public import Idealize.ShloMosaic.Lib.Pipeline.ValueKit
public import Idealize.ShloMosaic.Lib.Pipeline.ReadBack

@[expose] public section

/-! The points of the grid in their order: each loads its tile's blocks and the eight rows before it, and leaves its rows,
    the sums up to it, and its first rows for the next point. -/

set_option maxRecDepth 16384
noncomputable section
namespace Cert.LruIdeal.Value
open Idealize.ShloMosaic Idealize.SL.Sem Cert.Lift Cert.Lift.Lru
local notation "F32 " s:max => FVec Ideal s FTy.f32
open Cert.LruIdeal Cert.LruIdeal.Gen Cert.LruIdeal.Run
variable {m : (ℓ : Loc nD τ sig) → Buf (Elt Ideal) ℓ} {p : Lru.In} {c : Dev nD}

/-! ## The blocks -/

theorem idx : ∀ t : Fin cfg0.N, win0_0.index t = ![31 - t.val, 0] ∧ win0_1.index t = ![31 - t.val, 0] ∧ win0_2.index t = ![31 - t.val, 0]
    ∧ win0_3.index t = ![0, 31 - t.val, 0] ∧ win0_4.index t = ![32 * (31 - t.val) - 1, 0] ∧ win0_5.index t = ![32 * (31 - t.val) - 1, 0]
    ∧ win0_6.index t = ![0, 0, 0] ∧ win0_7.index t = ![0, 0, 0] ∧ win0_8.index t = ![0, 0, 0] ∧ win0_9.index t = ![0, 0, 0] :=
  (by decide +kernel : ∀ t : Fin grid0.N, win0_0.index t = ![31 - t.val, 0] ∧ win0_1.index t = ![31 - t.val, 0] ∧ win0_2.index t = ![31 - t.val, 0]
    ∧ win0_3.index t = ![0, 31 - t.val, 0] ∧ win0_4.index t = ![32 * (31 - t.val) - 1, 0] ∧ win0_5.index t = ![32 * (31 - t.val) - 1, 0]
    ∧ win0_6.index t = ![0, 0, 0] ∧ win0_7.index t = ![0, 0, 0] ∧ win0_8.index t = ![0, 0, 0] ∧ win0_9.index t = ![0, 0, 0])
theorem idxo : ∀ t : Fin cfg0.N, win0_10.index t = ![31 - t.val, 0] ∧ win0_11.index t = ![31 - t.val, 0] ∧ win0_12.index t = ![31 - t.val, 0]
    ∧ win0_13.index t = ![31 - t.val, 0] ∧ win0_14.index t = ![0, 0, 0] ∧ win0_15.index t = ![0, 0, 0] :=
  (by decide +kernel : ∀ t : Fin grid0.N, win0_10.index t = ![31 - t.val, 0] ∧ win0_11.index t = ![31 - t.val, 0] ∧ win0_12.index t = ![31 - t.val, 0]
    ∧ win0_13.index t = ![31 - t.val, 0] ∧ win0_14.index t = ![0, 0, 0] ∧ win0_15.index t = ![0, 0, 0])
theorem coords_eq : ∀ t : Fin cfg0.N, ((grid0.coords t) 0).val = t.val := (by decide +kernel : ∀ t : Fin grid0.N, ((grid0.coords t) 0).val = t.val)
theorem congr3 {A B C : ℕ} (f : Fin A → Fin B → Fin C → ℝ) {a a' : Fin A} {b b' : Fin B} {d d' : Fin C} (ha : a = a') (hb : b = b') (hd : d = d') : f a b d = f a' b' d' := by
  subst ha hb hd; rfl
theorem planes_rows (T : Fin 32) (k : Fin 5) (r : Fin 256) : planes p k (row T r) = tplanes (tile p T) k r := by
  match k with
  | ⟨0, _⟩ => rfl
  | ⟨1, _⟩ => rfl
  | ⟨2, _⟩ => rfl
  | ⟨3, _⟩ => rfl
  | ⟨4, _⟩ => rfl

section
variable (L : Launched (V0 m c) p) (t : Fin cfg0.N)
include L
theorem blk0 : (iblk m c 0 t : F32 S256x1024) = Cv (φ := .f32) (u2 (tile p (tl t.val)).dout) := by
  refine funext fun (y : S256x1024.Idx) => ?_
  unfold iblk
  rw [show Gen.V m c (Pipeline.arrRef spec0 0) = _ from L.a0]
  refine congrArg Real.toEReal (congrArg₂ p.dout (Fin.ext ?_) (Fin.ext ?_)) <;> blk_simp [idx t] <;> simp only [row, tl] <;> omega
theorem blk1 : (iblk m c 1 t : F32 S256x2560) = Cv (φ := .f32) (u2 (tile p (tl t.val)).zz) := by
  refine funext fun (y : S256x2560.Idx) => ?_
  unfold iblk
  rw [show Gen.V m c (Pipeline.arrRef spec0 1) = _ from L.v0]
  refine congrArg Real.toEReal (congrArg₂ (Lru.z p) (Fin.ext ?_) (Fin.ext ?_)) <;> blk_simp [idx t] <;> simp only [row, tl] <;> omega
theorem blk2 : (iblk m c 2 t : F32 S256x1280) = Cv (φ := .f32) (u2 (tile p (tl t.val)).hs) := by
  refine funext fun (y : S256x1280.Idx) => ?_
  unfold iblk
  rw [show Gen.V m c (Pipeline.arrRef spec0 2) = _ from L.v78]
  refine congrArg Real.toEReal (congrArg₂ (Lru.hs p) (Fin.ext ?_) (Fin.ext ?_)) <;> blk_simp [idx t] <;> simp only [row, tl] <;> omega
theorem blk3 : (iblk m c 3 t : F32 S5x256x1280) = Cv (φ := .f32) (u3 (tplanes (tile p (tl t.val)))) := by
  refine Eq.trans ?_ (congrArg (Cv (φ := .f32)) (congrArg u3 (funext fun k => funext fun r => planes_rows (p := p) (tl t.val) k r)))
  refine funext fun (y : S5x256x1280.Idx) => ?_
  unfold iblk
  rw [show Gen.V m c (Pipeline.arrRef spec0 3) = _ from L.v86]
  refine congrArg Real.toEReal (congr3 (planes p) (Fin.ext ?_) (Fin.ext ?_) (Fin.ext ?_)) <;> blk_simp [idx t] <;> simp only [row, tl] <;> omega
theorem blk4 : (iblk m c 4 t : F32 S8x2560) = Cv (φ := .f32) (u2 (tile p (tl t.val)).zt) := by
  refine funext fun (y : S8x2560.Idx) => ?_
  unfold iblk
  rw [show Gen.V m c (Pipeline.arrRef spec0 4) = _ from L.v0]
  refine congrArg Real.toEReal (congrArg₂ (Lru.z p) (Fin.ext ?_) (Fin.ext ?_)) <;> blk_simp [idx t] <;> simp only [trow, tl] <;> omega
theorem blk5 : (iblk m c 5 t : F32 S8x1280) = Cv (φ := .f32) (u2 (tile p (tl t.val)).ht) := by
  refine funext fun (y : S8x1280.Idx) => ?_
  unfold iblk
  rw [show Gen.V m c (Pipeline.arrRef spec0 5) = _ from L.v78]
  refine congrArg Real.toEReal (congrArg₂ (Lru.hs p) (Fin.ext ?_) (Fin.ext ?_)) <;> blk_simp [idx t] <;> simp only [trow, tl] <;> omega
theorem blk6 : (iblk m c 6 t : F32 S1x4x1280) = Cv (φ := .f32) (u3 fun _ => p.cw) := by
  refine funext fun (y : S1x4x1280.Idx) => ?_
  unfold iblk
  rw [show Gen.V m c (Pipeline.arrRef spec0 6) = _ from L.v87]
  refine congrArg Real.toEReal (congrArg₂ p.cw (Fin.ext ?_) (Fin.ext ?_)) <;> blk_simp [idx t]
theorem blk7 : (iblk m c 7 t : FVec Ideal S2x640x1280 .bf16) = Cv (φ := .bf16) (u3 (wboth p)) := by
  refine funext fun (y : S2x640x1280.Idx) => ?_
  unfold iblk
  rw [show Gen.V m c (Pipeline.arrRef spec0 7) = _ from L.v109]
  refine congrArg Real.toEReal (congr3 (wboth p) (Fin.ext ?_) (Fin.ext ?_) (Fin.ext ?_)) <;> blk_simp [idx t]
theorem blk8 : (iblk m c 8 t : F32 S1x1x1280) = Cv (φ := .f32) (u3 fun _ _ => p.ap) := by
  refine funext fun (y : S1x1x1280.Idx) => ?_
  unfold iblk
  rw [show Gen.V m c (Pipeline.arrRef spec0 8) = _ from L.v110]
  refine congrArg Real.toEReal (congrArg p.ap (Fin.ext ?_))
  blk_simp [idx t]
theorem blk9 : (iblk m c 9 t : FVec Ideal S1x1280x1024 .bf16) = Cv (φ := .bf16) (u3 fun _ => p.wo) := by
  refine funext fun (y : S1x1280x1024.Idx) => ?_
  unfold iblk
  rw [show Gen.V m c (Pipeline.arrRef spec0 9) = _ from L.v112]
  refine congrArg Real.toEReal (congrArg₂ p.wo (Fin.ext ?_) (Fin.ext ?_)) <;> blk_simp [idx t]
theorem loads : Loads m c t (tile p (tl t.val)) where
  b0 := blk0 L t
  b1 := blk1 L t
  b2 := blk2 L t
  b3 := blk3 L t
  b4 := blk4 L t
  b5 := blk5 L t
  b6 := blk6 L t
  b7 := blk7 L t
  b8 := blk8 L t
  b9 := blk9 L t
  hh := by
    have ht : t.val < 32 := lt_of_lt_of_eq t.isLt N_0
    show (if ((grid0.coords t) 0).val = 31 then (0 : ℝ) else 1) = if (31 - t.val) = 0 then 0 else 1
    rw [coords_eq t]
    by_cases h : t.val = 31
    · rw [if_pos h, if_pos (by omega)]
    · rw [if_neg h, if_neg (by omega)]
  hm r j := (mult_pos p (row (tl t.val) r) j).ne'
end

/-! ## The points in order -/

/-- What the `n`-th point leaves. -/
structure Outs (p : Lru.In) (n : ℕ) (w : Left Ideal) : Prop where
  dz : w.1 = Cv (φ := .bf16) (u2 (tile p (tl n)).dz)
  dpre : w.2.1 = Cv (φ := .bf16) (u2 (tile p (tl n)).dpre)
  xc : w.2.2.1 = Cv (φ := .bf16) (u2 (tile p (tl n)).xc)
  y : w.2.2.2.1 = Cv (φ := .bf16) (u2 (tile p (tl n)).y)
  o : w.2.2.2.2.1 = Cv (φ := .f32) (u3 fun k => run (fun T => (tile p T).dcw k) n)
  s : w.2.2.2.2.2.1 = Cv (φ := .f32) (u3 fun k => run (fun T => (tile p T).vec k) n)
  a : w.2.2.2.2.2.2.1 = Cv (φ := .f32) (u2 (Tile.top (tile p (tl n)).a))
  g : w.2.2.2.2.2.2.2.1 = Cv (φ := .f32) (u2 (Tile.top (tile p (tl n)).G))
  d : w.2.2.2.2.2.2.2.2 = Cv (φ := .f32) (u2 (Tile.top (tile p (tl n)).dxc))
theorem ext_past (f : Lru.Mat) (b : Fin 8) (j : Fin 1280) : ext f (((tl 0).val + 1) * 256 + b.val) j = 0 :=
  dif_neg (show ¬((31 - 0 + 1) * 256 + b.val < 8192) by omega)
theorem first : First (tile p (tl 0)) :=
  ⟨funext fun b => funext fun j => ext_past _ b j, funext fun b => funext fun j => ext_past _ b j, funext fun b => funext fun j => ext_past _ b j⟩
/-- The next tile in time is the tile of the point before. -/
theorem top_next (F : Fin 256 → Fin 1280 → ℝ) (f : Lru.Mat) (n : ℕ) (hn : n + 1 < 32) (h : ∀ r j, F r j = f (row (tl n) r) j) :
    Tile.top F = fun b j => ext f (((tl (n + 1)).val + 1) * 256 + b.val) j := funext fun b => funext fun j => by
  unfold Tile.top
  rw [h, ext_lt f j (show ((tl (n + 1)).val + 1) * 256 + b.val < 8192 by unfold tl; simp only; omega)]
  exact congrArg (f · j) (Fin.ext (by unfold row tl; simp only; omega))
theorem Outs.after {n : ℕ} (hn : n + 1 < 32) {o : Left Ideal} (h : Outs p n o) :
    After (tile p (tl (n + 1))) (fun k => run (fun T => (tile p T).dcw k) n) (fun k => run (fun T => (tile p T).vec k) n) o where
  o := h.o
  s := h.s
  a := h.a.trans (congrArg (fun x => Cv (φ := .f32) (u2 x)) (top_next _ (Lru.a p) n hn fun _ _ => rfl))
  g := h.g.trans (congrArg (fun x => Cv (φ := .f32) (u2 x)) (top_next _ (Lru.G p) n hn fun r j => G_eq p (tl n) r j))
  d := h.d.trans (congrArg (fun x => Cv (φ := .f32) (u2 x)) (top_next _ (Lru.dxc p) n hn fun r j => dxc_eq p (tl n) r j))
theorem run_zero (F : Fin 32 → Fin 256 → Fin 1280 → ℝ) (b : Fin 8) (j : Fin 1280) : 0 + Tile.byPlace (F (tl 0)) b j = run F 0 b j := by
  unfold run
  rw [Finset.sum_range_succ, Finset.sum_range_zero]
theorem run_succ (F : Fin 32 → Fin 256 → Fin 1280 → ℝ) (n : ℕ) (b : Fin 8) (j : Fin 1280) : run F n b j + Tile.byPlace (F (tl (n + 1))) b j = run F (n + 1) b j :=
  (Finset.sum_range_succ (fun i => Tile.byPlace (F (tl i)) b j) (n + 1)).symm
theorem outs (L : Launched (V0 m c) p) (n : ℕ) (hn : n < cfg0.N) : Outs p n (outsAt m c n hn) := by
  induction n with
  | zero =>
    rw [outsAt_zero]
    have l := loads L ⟨0, hn⟩
    have h : cond0_0 (grid0.coords (⟨0, hn⟩ : Fin cfg0.N)) := (hcond0_0 ⟨0, hn⟩).mpr (Nat.zero_mod _)
    obtain ⟨dz₁, dpre₁, xc₁, o₁, s₁, a₁, d₁⟩ := outA l h first
    exact ⟨dz₁, dpre₁, xc₁, yA l h first,
      o₁.trans (congrArg (fun x => Cv (φ := .f32) (u3 x)) (funext fun k => funext fun b => funext fun j => run_zero (fun T => (tile p T).dcw k) b j)),
      s₁.trans (congrArg (fun x => Cv (φ := .f32) (u3 x)) (funext fun k => funext fun b => funext fun j => run_zero (fun T => (tile p T).vec k) b j)),
      a₁, gA l h first, d₁⟩
  | succ n ih =>
    rw [outsAt_succ]
    have l := loads L ⟨n + 1, hn⟩
    have h := later ⟨n + 1, hn⟩ n.succ_ne_zero
    have A := (ih (Nat.lt_of_succ_lt hn)).after (lt_of_lt_of_eq hn N_0)
    obtain ⟨dz₁, dpre₁, xc₁, o₁, s₁, a₁, d₁⟩ := outB l h A
    exact ⟨dz₁, dpre₁, xc₁, yB l h A,
      o₁.trans (congrArg (fun x => Cv (φ := .f32) (u3 x)) (funext fun k => funext fun b => funext fun j => run_succ (fun T => (tile p T).dcw k) n b j)),
      s₁.trans (congrArg (fun x => Cv (φ := .f32) (u3 x)) (funext fun k => funext fun b => funext fun j => run_succ (fun T => (tile p T).vec k) n b j)),
      a₁, gB l h A, d₁⟩
end Cert.LruIdeal.Value
-- ==== Proof.LruKernel.lean ====
module

public import proofs.«01_k».proof.Proof.LruPoints

@[expose] public section

/-! The recurrence's backward kernel as a whole: what its arrays hold at the end, and what the host reads from them. -/

set_option maxRecDepth 16384
noncomputable section
namespace Cert.LruIdeal.Value
open Idealize.ShloMosaic Idealize.ShloMosaic.TcCoe Idealize.SL.Sem Cert.Lift Cert.Lift.Lru
local notation "F32 " s:max => FVec Ideal s FTy.f32
local notation "B16 " s:max => FVec Ideal s FTy.bf16
open Idealize.ShloMosaic.Pipeline (Dat)
open Cert.LruIdeal Cert.LruIdeal.Gen Cert.LruIdeal.Run
variable {m : (ℓ : Loc nD τ sig) → Buf (Elt Ideal) ℓ} {p : Lru.In} {c : Dev nD}

/-- The last point. -/
def tlast : Fin cfg0.N := ⟨31, lt_of_lt_of_eq (by decide) N_0.symm⟩
section
variable (L : Launched (V0 m c) p)
include L
theorem final_dz : (dats m 0 c).arrAt 10 (cfgs 0).N = (Cv (u2 (Lru.dz p)) : B16 S8192x2560) := by
  refine (dats m 0 c).arrAt_eq_of_covers 10 _ (by decide +kernel) fun t hf y => ?_
  blk_simp
  rw [after10, (outs L t.val t.isLt).dz, show (tile p (tl t.val)).dz = fun r => Lru.dz p (row (tl t.val) r) from funext fun r => funext fun j => dz_eq p _ r j]
  refine congrArg Real.toEReal (congrArg₂ (Lru.dz p) (Fin.ext ?_) (Fin.ext ?_)) <;> blk_simp [idxo t] <;> simp only [row, tl] <;> omega
theorem final_dpre : (dats m 0 c).arrAt 11 (cfgs 0).N = (Cv (u2 (Lru.dpre p)) : B16 S8192x2560) := by
  refine (dats m 0 c).arrAt_eq_of_covers 11 _ (by decide +kernel) fun t hf y => ?_
  blk_simp
  rw [after11, (outs L t.val t.isLt).dpre, show (tile p (tl t.val)).dpre = fun r => Lru.dpre p (row (tl t.val) r) from funext fun r => funext fun j => dpre_eq p _ r j]
  refine congrArg Real.toEReal (congrArg₂ (Lru.dpre p) (Fin.ext ?_) (Fin.ext ?_)) <;> blk_simp [idxo t] <;> simp only [row, tl] <;> omega
theorem final_xc : (dats m 0 c).arrAt 12 (cfgs 0).N = (Cv (u2 (Lru.xc p)) : B16 S8192x1280) := by
  refine (dats m 0 c).arrAt_eq_of_covers 12 _ (by decide +kernel) fun t hf y => ?_
  blk_simp
  rw [after12, (outs L t.val t.isLt).xc, show (tile p (tl t.val)).xc = fun r => Lru.xc p (row (tl t.val) r) from funext fun r => funext fun j => rfl]
  refine congrArg Real.toEReal (congrArg₂ (Lru.xc p) (Fin.ext ?_) (Fin.ext ?_)) <;> blk_simp [idxo t] <;> simp only [row, tl] <;> omega
theorem final_y : (dats m 0 c).arrAt 13 (cfgs 0).N = (Cv (u2 (Lru.y p)) : B16 S8192x1280) := by
  refine (dats m 0 c).arrAt_eq_of_covers 13 _ (by decide +kernel) fun t hf y => ?_
  blk_simp
  rw [after13, (outs L t.val t.isLt).y, show (tile p (tl t.val)).y = fun r => Lru.y p (row (tl t.val) r) from funext fun r => funext fun j => y_eq p _ r j]
  refine congrArg Real.toEReal (congrArg₂ (Lru.y p) (Fin.ext ?_) (Fin.ext ?_)) <;> blk_simp [idxo t] <;> simp only [row, tl] <;> omega
theorem final_o : (dats m 0 c).arrAt 14 (cfgs 0).N = (Cv (u3 fun k => run (fun T => (tile p T).dcw k) 31) : F32 S4x8x1280) := by
  refine (dats m 0 c).arrAt_eq_of_after_last 14 tlast (by decide +kernel) _ fun j => ?_
  blk_simp
  rw [after14, (outs L tlast.val tlast.isLt).o]
  rfl
theorem final_s : (dats m 0 c).arrAt 15 (cfgs 0).N = (Cv (u3 fun k => run (fun T => (tile p T).vec k) 31) : F32 S4x8x1280) := by
  refine (dats m 0 c).arrAt_eq_of_after_last 15 tlast (by decide +kernel) _ fun j => ?_
  blk_simp
  rw [after15, (outs L tlast.val tlast.isLt).s]
  rfl
end

/-! ## The host's last lines -/

/-- The host's sum over the eight places. -/
theorem rsum3_1 {a b n : ℕ} (f : Fin a → Fin b → Fin n → ℝ) {ax} (hx : ax = [1]) (h : (⟨3, ![a, b, n]⟩ : Shape).ReducesTo ax ⟨2, ![a, n]⟩) :
    rsum h (u3 f) = u2 fun i j => ∑ k, f i k j := by
  subst hx; funext j
  have := Ideal.hostReduceAdd_r3_a1 h (Cv (u3 f) : F32 _) 0 j
  rw [zero_add] at this
  exact_mod_cast ((coe_sum _ _).trans (zero_add _).symm).trans (this.trans (coe_sum _ _).symm)
theorem sums_o (h : S4x8x1280.ReducesTo ([1] : List (Fin 3)) S4x1280) (hu) : Host.reduceAdd (Cv (u3 fun k => run (fun T => (tile p T).dcw k) 31) : F32 S4x8x1280) (constant S_ .f32 0#32) h hu
    = (Cv (u2 (Lru.dcw p)) : F32 S4x1280) := by
  refine (reduceAdd_Cv _ _ _ _ Ideal.ofBits_zero_f32).trans (congrArg Cv ?_)
  refine (rsum3_1 _ rfl _).trans ?_
  exact congrArg u2 (funext fun k => funext fun j => sum_dcw p k j)
theorem sums_s (h : S4x8x1280.ReducesTo ([1] : List (Fin 3)) S4x1280) (hu) : Host.reduceAdd (Cv (u3 fun k => run (fun T => (tile p T).vec k) 31) : F32 S4x8x1280) (constant S_ .f32 0#32) h hu
    = (Cv (u2 fun k j => ∑ t, vecAt p k t j) : F32 S4x1280) := by
  refine (reduceAdd_Cv _ _ _ _ Ideal.ofBits_zero_f32).trans (congrArg Cv ?_)
  refine (rsum3_1 _ rfl _).trans ?_
  exact congrArg u2 (funext fun k => funext fun j => sum_vec p k j)
/-- One of the four vectors. -/
theorem vec_row (f : Fin 4 → Fin 1280 → ℝ) (k : Fin 4) (q : Fin 2 → ℕ) (hq : q = ![k.val, 0]) (h h') :
    shapeCast ⟨1, ![1280]⟩ (extractStridedSlice ⟨2, ![1, 1280]⟩ q (Cv (u2 f) : F32 ⟨2, ![4, 1280]⟩) h) h' = Cv (u1 (f k)) := by
  rw [slice_Cv, slice2r _ k.val _ hq _ (by omega), shapeCast_Cv, cast2_1]
  exact congrArg (fun i => Cv (u1 (f i))) (Fin.ext (by simp))

section
variable (A : Args (fun b => m (c, b)) p)
include A
theorem tail_o : Pipeline.afterTail₀ cfgs (dats m) 0 (V0 m) [hostOps1] c main_v115 = (Cv (u2 (Lru.dcw p)) : F32 S4x1280) := by
  unfold Pipeline.afterTail₀
  show StableHlo.after hostOps1 _ (Proc.tc.devRef main_v115) = _
  unfold_abbrev_sides
  after_results
  rw [show Pipeline.withArrays _ _ _ _ (Proc.tc.devRef main_v113_4) = _ from ((dats m 0 c).withArrays_arrAt sharedIn0 (V0 m c) (A_eq m c) 14).trans (final_o (launched m c A))]
  exact sums_o _ _
theorem tail_b : Pipeline.afterTail₀ cfgs (dats m) 0 (V0 m) [hostOps1] c main_v117 = (Cv (u1 (Lru.dcb p)) : F32 S1280) := by
  unfold Pipeline.afterTail₀
  show StableHlo.after hostOps1 _ (Proc.tc.devRef main_v117) = _
  unfold_abbrev_sides
  after_results
  rw [show Pipeline.withArrays _ _ _ _ (Proc.tc.devRef main_v113_5) = _ from ((dats m 0 c).withArrays_arrAt sharedIn0 (V0 m c) (A_eq m c) 15).trans (final_s (launched m c A)), sums_s]
  exact vec_row (fun k j => ∑ t, vecAt p k t j) 0 _ rfl _ _
theorem tail_ba : Pipeline.afterTail₀ cfgs (dats m) 0 (V0 m) [hostOps1] c main_v119 = (Cv (u1 (Lru.dba p)) : F32 S1280) := by
  unfold Pipeline.afterTail₀
  show StableHlo.after hostOps1 _ (Proc.tc.devRef main_v119) = _
  unfold_abbrev_sides
  after_results
  rw [show Pipeline.withArrays _ _ _ _ (Proc.tc.devRef main_v113_5) = _ from ((dats m 0 c).withArrays_arrAt sharedIn0 (V0 m c) (A_eq m c) 15).trans (final_s (launched m c A)), sums_s]
  exact vec_row (fun k j => ∑ t, vecAt p k t j) 1 _ rfl _ _
theorem tail_bx : Pipeline.afterTail₀ cfgs (dats m) 0 (V0 m) [hostOps1] c main_v121 = (Cv (u1 (Lru.dbx p)) : F32 S1280) := by
  unfold Pipeline.afterTail₀
  show StableHlo.after hostOps1 _ (Proc.tc.devRef main_v121) = _
  unfold_abbrev_sides
  after_results
  rw [show Pipeline.withArrays _ _ _ _ (Proc.tc.devRef main_v113_5) = _ from ((dats m 0 c).withArrays_arrAt sharedIn0 (V0 m c) (A_eq m c) 15).trans (final_s (launched m c A)), sums_s]
  exact vec_row (fun k j => ∑ t, vecAt p k t j) 2 _ rfl _ _
theorem tail_ap : Pipeline.afterTail₀ cfgs (dats m) 0 (V0 m) [hostOps1] c main_v123 = (Cv (u1 (Lru.dap p)) : F32 S1280) := by
  unfold Pipeline.afterTail₀
  show StableHlo.after hostOps1 _ (Proc.tc.devRef main_v123) = _
  unfold_abbrev_sides
  after_results
  rw [show Pipeline.withArrays _ _ _ _ (Proc.tc.devRef main_v113_5) = _ from ((dats m 0 c).withArrays_arrAt sharedIn0 (V0 m c) (A_eq m c) 15).trans (final_s (launched m c A)), sums_s]
  exact vec_row (fun k j => ∑ t, vecAt p k t j) 3 _ rfl _ _
end
theorem runK (m : (ℓ : Loc nD τ sig) → Buf (Elt Ideal) ℓ) (ρ : Dev nD → PrngReg) (p : Lru.In) (hA : ∀ c : Dev nD, Args (fun b => m (c, b)) p) :
    θ_run defs (onTc (τ := τ) (main (F := Ideal))) ⟨m, fun _ => 0, ρ⟩ fun r => ∀ c : Dev nD,
      r.2.mem ((c.tc : Thread nD τ).loc main_v113_0) = (Cv (u2 (Lru.dz p)) : B16 S8192x2560)
      ∧ r.2.mem ((c.tc : Thread nD τ).loc main_v113_1) = (Cv (u2 (Lru.dpre p)) : B16 S8192x2560)
      ∧ r.2.mem ((c.tc : Thread nD τ).loc main_v113_2) = (Cv (u2 (Lru.xc p)) : B16 S8192x1280)
      ∧ r.2.mem ((c.tc : Thread nD τ).loc main_v113_3) = (Cv (u2 (Lru.y p)) : B16 S8192x1280)
      ∧ r.2.mem ((c.tc : Thread nD τ).loc main_v115) = (Cv (u2 (Lru.dcw p)) : F32 S4x1280)
      ∧ r.2.mem ((c.tc : Thread nD τ).loc main_v117) = (Cv (u1 (Lru.dcb p)) : F32 S1280)
      ∧ r.2.mem ((c.tc : Thread nD τ).loc main_v119) = (Cv (u1 (Lru.dba p)) : F32 S1280)
      ∧ r.2.mem ((c.tc : Thread nD τ).loc main_v121) = (Cv (u1 (Lru.dbx p)) : F32 S1280)
      ∧ r.2.mem ((c.tc : Thread nD τ).loc main_v123) = (Cv (u1 (Lru.dap p)) : F32 S1280) := by
  refine (θ_run defs _ _).mono (fun r h c => ?_) (run_quiescent m ρ)
  have L := launched m c (hA c)
  exact ⟨((h.1 c).1 10).trans (final_dz L), ((h.1 c).1 11).trans (final_dpre L), ((h.1 c).1 12).trans (final_xc L), ((h.1 c).1 13).trans (final_y L),
    ((h.1 c).2 main_v115 (by decide)).trans (tail_o (hA c)), ((h.1 c).2 main_v117 (by decide)).trans (tail_b (hA c)),
    ((h.1 c).2 main_v119 (by decide)).trans (tail_ba (hA c)), ((h.1 c).2 main_v121 (by decide)).trans (tail_bx (hA c)),
    ((h.1 c).2 main_v123 (by decide)).trans (tail_ap (hA c))⟩
end Cert.LruIdeal.Value
-- ==== Proof.LruClaim.lean ====
module

public import proofs.«01_k».proof.Defs
public import proofs.«01_k».proof.Proof.LruBits
public import proofs.«01_k».proof.Proof.LruRef3
public import proofs.«01_k».proof.Proof.LruKernel
public import proofs.«01_k».proof.Proof.HostRef
public import Idealize.ShloMosaic.Lib.Claim

@[expose] public section

/-! The claim of the recurrence's gradients: the kernel and the reference, put together. -/

set_option maxRecDepth 16384
noncomputable section
namespace Cert.LruPair
open Idealize.ShloMosaic Idealize.ShloMosaic.TcCoe Idealize.SL.Sem Cert.Lift

/-- The two named constants of the gate are the rationals they stand for. -/
theorem preserves : preserves_Lru_LruIdeal :=
  ⟨IdealRules.named_const.statement Cert.LruIdeal.κ "gelu_cubic" .f32 0x3D372713#32 ((8943 / 200000 : ℝ) : EReal) rfl,
    IdealRules.named_const.statement Cert.LruIdeal.κ "gelu_cubic_3" .f32 0x3E095D4F#32 ((26829 / 200000 : ℝ) : EReal) rfl⟩

instance : Cert.Pre_finite_lru.Facts where
  bcast_S_S8192x1024 := by decide
  bcast_S_S1024x2560 := by decide
  bcast_S_S4x1280 := by decide
  bcast_S_S1280 := by decide
  bcast_S_S16x80x80 := by decide
  bcast_S_S1280x1024 := by decide

theorem real3 {a b n : ℕ} {d : Fin 0 → Fin 3} {hb} (x : FVec Ideal ⟨3, ![a, b, n]⟩ .f32)
    (h : cmpf .olt (Host.absf x) (broadcastInDim ⟨3, ![a, b, n]⟩ d hb (constant (F := Ideal) ⟨0, ![]⟩ .f32 0x7F800000#32)) = fun _ => 1#1) :
    ∃ X, x = (Cv (u3 X) : FVec Ideal ⟨3, ![a, b, n]⟩ .f32) := by
  obtain ⟨X, hX⟩ := exists_u3 fun i => (x i).toReal
  exact ⟨X, (finite_Cv x h).trans (congrArg Cv hX)⟩

/-- Both programs return the same gradients of the same real arguments. -/
theorem value : algebraic_LruIdeal_LruRefIdeal_pre_finite_lru := by
  intro m g m' g' hpre hm
  have one (c : Dev 1) : c = 0 := Subsingleton.elim (α := Fin 1) c 0
  obtain ⟨h0, h1, h2, h3, h4, h5, h6, h7, h8, h9, h10⟩ := hpre 0
  obtain ⟨dout, e0⟩ := real2 _ h0
  obtain ⟨x, e1⟩ := real2 _ h1
  obtain ⟨win, e2⟩ := real2 _ h2
  obtain ⟨cw, e3⟩ := real2 _ h3
  obtain ⟨cb, e4⟩ := real1 _ h4
  obtain ⟨wa, e5⟩ := real3 _ h5
  obtain ⟨ba, e6⟩ := real1 _ h6
  obtain ⟨wx, e7⟩ := real3 _ h7
  obtain ⟨bx, e8⟩ := real1 _ h8
  obtain ⟨ap, e9⟩ := real1 _ h9
  obtain ⟨wo, e10⟩ := real2 _ h10
  let p : Lru.In := ⟨dout, x, win, cw, cb, wa, ba, wx, bx, ap, wo⟩
  have A (c : Dev Cert.LruIdeal.nD) : Cert.LruIdeal.Value.Args (fun b => m (c, b)) p := by
    rw [one c]
    exact ⟨e0, e1, e2, e3, e4, e5, e6, e7, e8, e9, e10⟩
  have B (c : Dev Cert.LruRefIdeal.nD) : Cert.LruRefIdeal.Value.Args (StableHlo.launchContents m' c) p :=
    ⟨((hm c).1).trans (A c).h0,
      ((hm c).2.1).trans (A c).h1,
      ((hm c).2.2.1).trans (A c).h2,
      ((hm c).2.2.2.1).trans (A c).h3,
      ((hm c).2.2.2.2.1).trans (A c).h4,
      ((hm c).2.2.2.2.2.1).trans (A c).h5,
      ((hm c).2.2.2.2.2.2.1).trans (A c).h6,
      ((hm c).2.2.2.2.2.2.2.1).trans (A c).h7,
      ((hm c).2.2.2.2.2.2.2.2.1).trans (A c).h8,
      ((hm c).2.2.2.2.2.2.2.2.2.1).trans (A c).h9,
      ((hm c).2.2.2.2.2.2.2.2.2.2).trans (A c).h10⟩
  refine ⟨fun _ => (Cv (u2 (Lru.dz p)) : FVec Ideal Cert.LruIdeal.S8192x2560 .bf16), fun _ => (Cv (u2 (Lru.dpre p)) : FVec Ideal Cert.LruIdeal.S8192x2560 .bf16), fun _ => (Cv (u2 (Lru.xc p)) : FVec Ideal Cert.LruIdeal.S8192x1280 .bf16), fun _ => (Cv (u2 (Lru.y p)) : FVec Ideal Cert.LruIdeal.S8192x1280 .bf16), fun _ => (Cv (u2 (Lru.dcw p)) : FVec Ideal Cert.LruIdeal.S4x1280 .f32), fun _ => (Cv (u1 (Lru.dcb p)) : FVec Ideal Cert.LruIdeal.S1280 .f32), fun _ => (Cv (u1 (Lru.dba p)) : FVec Ideal Cert.LruIdeal.S1280 .f32), fun _ => (Cv (u1 (Lru.dbx p)) : FVec Ideal Cert.LruIdeal.S1280 .f32), fun _ => (Cv (u1 (Lru.dap p)) : FVec Ideal Cert.LruIdeal.S1280 .f32), ?_, ?_⟩
  · exact (θ_run _ _ _).mono (fun r h c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2, h.2.1 c⟩)
      (θ_run_and (Cert.LruIdeal.Value.runK m g p A) (Cert.LruIdeal.Run.frame m g))
  · exact (θ_run _ _ _).mono (fun r h c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2, (h.2 c).2.2.2.2.2.2.2.2.2⟩)
      (θ_run_and (Cert.LruRefIdeal.Value.runR m' g' p B) (Cert.LruRefIdeal.Value.run m' g'))

end Cert.LruPair
-- ==== Proof.FfnSpec.lean ====
module

public import proofs.«01_k».proof.Proof.Shapes

@[expose] public section

/-! The gradients of the gated feed-forward block over the reals: what both programs compute. A row `x` is normalised and
    scaled by `g`; the block adds to it half of the product with `Wd` of `silu (xn Wg) * (xn Wu)`. `d` is the cotangent of
    the block's result. Each cotangent of a hidden entry is a function of the hidden column alone, so it is stated over any
    set of columns. -/

noncomputable section
namespace Cert.Lift

namespace Ffn
section
variable {n : ℕ} (d : Fin 1024 → ℝ) (Wd : Fin n → Fin 1024 → ℝ) (a u : Fin n → ℝ)
/-- The cotangent of the hidden row, -/
def dhid (f : Fin n) : ℝ := ∑ j, 1 / 2 * d j * Wd f j
/-- of the second product (`a` and `u` are the two products), -/
def dup (f : Fin n) : ℝ := dhid d Wd f * (a f * sig (a f))
/-- and of the first. -/
def dgate (f : Fin n) : ℝ := dhid d Wd f * u f * (sig (a f) * (1 + a f * (1 - sig (a f))))
/-- The hidden row. -/
def hid (f : Fin n) : ℝ := a f * sig (a f) * u f
end
section
variable {n : ℕ} (g : Fin 1024 → ℝ) (Wg Wu : Fin 1024 → Fin n → ℝ) (Wd : Fin n → Fin 1024 → ℝ) (d x : Fin 1024 → ℝ)
def lin (W : Fin 1024 → Fin n → ℝ) (f : Fin n) : ℝ := ∑ k, nrm x g k * W k f
/-- The cotangent of the normalised and scaled row, -/
def dxn (j : Fin 1024) : ℝ :=
  (∑ f, dgate d Wd (lin g x Wg) (lin g x Wu) f * Wg j f) + ∑ f, dup d Wd (lin g x Wg) f * Wu j f
/-- and of the row. -/
def dx (j : Fin 1024) : ℝ := d j + rmsBwd x (fun j => dxn g Wg Wu Wd d x j * g j) j
end
section
variable {n m : ℕ} (g : Fin 1024 → ℝ) (Wg Wu : Fin 1024 → Fin m → ℝ) (Wd : Fin m → Fin 1024 → ℝ) (D X : Fin n → Fin 1024 → ℝ)
def dH (r : Fin n) (j : Fin 1024) : ℝ := dx g Wg Wu Wd (D r) (X r) j
def dG (j : Fin 1024) : ℝ := ∑ r, dxn g Wg Wu Wd (D r) (X r) j * (X r j * rho (X r))
def dWg (k : Fin 1024) (f : Fin m) : ℝ := ∑ r, dgate (D r) Wd (lin g (X r) Wg) (lin g (X r) Wu) f * nrm (X r) g k
def dWu (k : Fin 1024) (f : Fin m) : ℝ := ∑ r, dup (D r) Wd (lin g (X r) Wg) f * nrm (X r) g k
def dWd (f : Fin m) (j : Fin 1024) : ℝ := ∑ r, hid (lin g (X r) Wg) (lin g (X r) Wu) f * (1 / 2 * D r j)
end
end Ffn
end Cert.Lift
-- ==== Proof.FfnRef.lean ====
module

public import proofs.«01_k».proof.Proof.Gen.FfnRefIdeal.Run
public import proofs.«01_k».proof.Proof.Gen.FfnRefIdeal
public import Idealize.ShloMosaic.Lib.Pipeline.ValueKit
public import proofs.«01_k».proof.Proof.FfnSpec
public import proofs.«01_k».proof.Proof.HostRef

@[expose] public section

/-! The reference of the feed-forward block: its gradients as real functions of real arguments. -/

set_option maxRecDepth 16384
noncomputable section
namespace Cert.FfnRefIdeal.Value
open Cert.FfnRefIdeal Cert.FfnRefIdeal.Gen Idealize.ShloMosaic Idealize.ShloMosaic.TcCoe Idealize.SL.Sem Idealize.ShloMosaic.StableHlo
local notation "F32 " s:max => FVec Ideal s FTy.f32
open Cert.Lift
variable (m : (ℓ : Loc nD τ sig) → Buf (Elt Ideal) ℓ)

theorem ty0 (c : Dev nD) : ((c.tc : Thread nD τ).loc main_arg0).ty = ⟨S8192x1024, .f32⟩ := rfl
theorem ty1 (c : Dev nD) : ((c.tc : Thread nD τ).loc main_arg1).ty = ⟨S8192x1024, .f32⟩ := rfl
theorem ty2 (c : Dev nD) : ((c.tc : Thread nD τ).loc main_arg2).ty = ⟨S1024, .f32⟩ := rfl
theorem ty3 (c : Dev nD) : ((c.tc : Thread nD τ).loc main_arg3).ty = ⟨S1024x2816, .f32⟩ := rfl
theorem ty4 (c : Dev nD) : ((c.tc : Thread nD τ).loc main_arg4).ty = ⟨S1024x2816, .f32⟩ := rfl
theorem ty5 (c : Dev nD) : ((c.tc : Thread nD τ).loc main_arg5).ty = ⟨S2816x1024, .f32⟩ := rfl
theorem ty6 (c : Dev nD) : ((c.tc : Thread nD τ).loc main_v60).ty = ⟨S8192x1024, .f32⟩ := rfl

theorem ty7 (c : Dev nD) : ((c.tc : Thread nD τ).loc main_v37).ty = ⟨S1024x2816, .f32⟩ := rfl

theorem up_ref {n : ℕ} (d : Fin 1024 → ℝ) (Wd : Fin n → Fin 1024 → ℝ) (a : Fin n → ℝ) (f : Fin n) :
    a f * Lift.sig (a f) * Ffn.dhid d Wd f = Ffn.dup d Wd a f := mul_comm _ _
theorem gate_ref {n : ℕ} (d : Fin 1024 → ℝ) (Wd : Fin n → Fin 1024 → ℝ) (a u : Fin n → ℝ) (f : Fin n) :
    Ffn.dhid d Wd f * u f * Lift.sig (a f) + a f * (Ffn.dhid d Wd f * u f) * (Lift.sig (a f) * (1 - Lift.sig (a f))) = Ffn.dgate d Wd a u f := by
  unfold Ffn.dgate; ring
theorem gate_ref' {n : ℕ} (d : Fin 1024 → ℝ) (Wd : Fin n → Fin 1024 → ℝ) (a u : Fin n → ℝ) (f : Fin n) :
    Ffn.dhid d Wd f * u f * Lift.sig (a f) + a f * (Ffn.dhid d Wd f * u f * (Lift.sig (a f) * (1 - Lift.sig (a f)))) = Ffn.dgate d Wd a u f := by
  unfold Ffn.dgate; ring
theorem xn_ref {n : ℕ} (g : Fin 1024 → ℝ) (Wg Wu : Fin 1024 → Fin n → ℝ) (Wd : Fin n → Fin 1024 → ℝ) (d x : Fin 1024 → ℝ) (j : Fin 1024) :
    (∑ f, Ffn.dup d Wd (Ffn.lin g x Wg) f * Wu j f) + ∑ f, Ffn.dgate d Wd (Ffn.lin g x Wg) (Ffn.lin g x Wu) f * Wg j f = Ffn.dxn g Wg Wu Wd d x j := add_comm _ _
set_option maxHeartbeats 4000000
theorem runR (ρ : Dev nD → PrngReg)
   (D X : Fin 8192 → Fin 1024 → ℝ) (g : Fin 1024 → ℝ) (Wg Wu : Fin 1024 → Fin 2816 → ℝ) (Wd : Fin 2816 → Fin 1024 → ℝ)
   (hD : ∀ (c : Dev nD), m ((c.tc : Thread nD τ).loc main_arg0) = (Cv (u2 D) : F32 S8192x1024))
   (hX : ∀ (c : Dev nD), m ((c.tc : Thread nD τ).loc main_arg1) = (Cv (u2 X) : F32 S8192x1024))
   (hg : ∀ (c : Dev nD), m ((c.tc : Thread nD τ).loc main_arg2) = (Cv (u1 g) : F32 S1024))
   (hWg : ∀ (c : Dev nD), m ((c.tc : Thread nD τ).loc main_arg3) = (Cv (u2 Wg) : F32 S1024x2816))
   (hWu : ∀ (c : Dev nD), m ((c.tc : Thread nD τ).loc main_arg4) = (Cv (u2 Wu) : F32 S1024x2816))
   (hWd : ∀ (c : Dev nD), m ((c.tc : Thread nD τ).loc main_arg5) = (Cv (u2 Wd) : F32 S2816x1024)) :
    θ_run defs (onTc (τ := τ) (main (F := Ideal))) ⟨m, fun _ => 0, ρ⟩ fun r => ∀ c : Dev nD,
      r.2.mem ((c.tc : Thread nD τ).loc main_v60) = (Cv (u2 (Ffn.dH g Wg Wu Wd D X)) : F32 S8192x1024)
      ∧ r.2.mem ((c.tc : Thread nD τ).loc main_v45) = (Cv (u1 (Ffn.dG g Wg Wu Wd D X)) : F32 S1024)
      ∧ r.2.mem ((c.tc : Thread nD τ).loc main_v37) = (Cv (u2 (Ffn.dWg g Wg Wu Wd D X)) : F32 S1024x2816)
      ∧ r.2.mem ((c.tc : Thread nD τ).loc main_v33) = (Cv (u2 (Ffn.dWu g Wg Wd D X)) : F32 S1024x2816)
      ∧ r.2.mem ((c.tc : Thread nD τ).loc main_v28) = (Cv (u2 (Ffn.dWd g Wg Wu D X)) : F32 S2816x1024) := by
  have e1 : ∀ r f, (∑ k, X r k * rho (X r) * g k * Wg k f) = Ffn.lin g (X r) Wg f := fun _ _ => rfl
  have e2 : ∀ r f, (∑ k, X r k * rho (X r) * g k * Wu k f) = Ffn.lin g (X r) Wu f := fun _ _ => rfl
  have e3 : ∀ r f, (∑ k, 1 / 2 * D r k * Wd f k) = Ffn.dhid (D r) Wd f := fun _ _ => rfl
  refine (θ_run defs _ _).mono (fun r h c => ⟨(h c).1.trans ?_, (h c).2.1.trans ?_, (h c).2.2.1.trans ?_, (h c).2.2.2.1.trans ?_, (h c).2.2.2.2.1.trans ?_⟩) (run m ρ)
  on_goal 1 => clear h; unfold res_main_v60; rw [hD, hX, hg, hWg, hWu, hWd]
  on_goal 2 => clear h; unfold res_main_v45; rw [hD, hX, hg, hWg, hWu, hWd]
  on_goal 3 => clear h; unfold res_main_v37; rw [hD, hX, hg, hWg, hWu, hWd]
  on_goal 4 => clear h; rw [hD, hX, hg, hWg, hWd]
  on_goal 5 => clear h; rw [hD, hX, hg, hWg, hWu]
  all_goals
    dsimp only [ty0, ty1, ty2, ty3, ty4, ty5, ty6, ty7, S8192x1024, S8192x1, S1x1024, S8192, S1024, S_, S8192x2816, S1024x2816, S2816x1024]
    simp (disch := first | rfl | decide | norm_num1) only [k1024, keps, kneghalf, khalf, kone, kzero, mulf_Cv, addf_Cv, subf_Cv, negf_Cv, u2_neg, reduceAdd_Cv0, broadcastInDim_Cv, shapeCast_Cv, bcast0_1, bcast0_2, bcast1_2_0, bcast1_2_1, bcast2_row, bcast2_col,
      cast1_col, cast1_row, cast2_same, rsum1, rsum2_1, rsum2_0, u1_mul, u2_mul, u2_add, u2_sub, rsqrt_ms2, div_ms2, hdivf2, hexp2, hsig2, transpose_Cv, trans2, hdot_Cv, rdot_nn, rdot_nt, rdot_tn]
  · refine congrArg Cv (congrArg u2 (funext fun i => funext fun j => ?_))
    simp only [e1, e2, e3, up_ref, gate_ref, gate_ref', xn_ref]
    refine (rms_chain (X i) (fun j => Ffn.dxn g Wg Wu Wd (D i) (X i) j * g j) (D i j) j).trans ?_
    rfl
  · refine congrArg Cv (congrArg u1 (funext fun j => ?_))
    simp only [e1, e2, e3, up_ref, gate_ref, gate_ref', xn_ref]
    rw [Fin.sum_univ_one]
    exact Finset.sum_congr rfl fun r _ => mul_comm _ _
  · refine congrArg Cv (congrArg u2 (funext fun i => funext fun j => ?_))
    refine Finset.sum_congr rfl fun k _ => ?_
    simp only [e1, e2, e3, up_ref, gate_ref, gate_ref', xn_ref]
    rfl
  · refine congrArg Cv (congrArg u2 (funext fun i => funext fun j => ?_))
    refine Finset.sum_congr rfl fun k _ => ?_
    simp only [e1, e2, e3, up_ref, gate_ref, gate_ref', xn_ref]
    rfl
  · refine congrArg Cv (congrArg u2 (funext fun i => funext fun j => ?_))
    refine Finset.sum_congr rfl fun k _ => ?_
    simp only [e1, e2, e3, up_ref, gate_ref, gate_ref', xn_ref]
    exact mul_comm _ _
end Cert.FfnRefIdeal.Value
-- ==== Proof.FfnPay.lean ====
module

public import proofs.«01_k».proof.Proof.Gen.FfnIdeal.Skeleton
public import proofs.«01_k».proof.Proof.FfnSpec
public import proofs.«01_k».proof.Proof.KTensor
public import Idealize.ShloMosaic.Lib.Pipeline.ValueKit

@[expose] public section

/-! The two bodies of the feed-forward block's gradients on real blocks of 512 rows and 704 hidden columns. -/

set_option maxRecDepth 16384
noncomputable section
namespace Cert.FfnIdeal.Pay
open Idealize.ShloMosaic Cert.Lift
open Cert.FfnIdeal Cert.FfnIdeal.Gen

section
variable (D XN X : Fin 512 → Fin 1024 → ℝ) (g : Fin 1024 → ℝ) (A U : Fin 512 → Fin 704 → ℝ) (W V Z : Fin 704 → Fin 1024 → ℝ)
theorem pay5 : k0_pay5 (F := Ideal) (Cv (φ := .bf16) (u2 XN)) = Cv (u2 XN) := by
  dsimp only [k0_pay5, S512x1024]
  simp only [shapeCast_Cv, cast2_same]
theorem pay6 : k0_pay6 (F := Ideal) (Cv (φ := .f32) (u2 D)) = Cv (u2 fun r j => 1 / 2 * D r j) := by
  dsimp only [k0_pay6, S512x1024]
  simp only [splat2 chalf, mulf_Cv, u2_mul, truncf_Cv]
theorem pay7 : k0_pay7 (F := Ideal) (Cv (φ := .bf16) (u3 fun _ => A)) = Cv (u2 A) := by
  dsimp only [k0_pay7, S512x704]
  simp only [cast3_2h, extf_Cv]
theorem pay8 : k0_pay8 (F := Ideal) (Cv (φ := .bf16) (u3 fun _ => U)) = Cv (u2 U) := pay7 U
theorem pay9 : k0_pay9 (F := Ideal) (Cv (φ := .bf16) (u3 fun _ => A)) = Cv (u2 fun r f => Lift.sig (A r f)) := by
  dsimp only [k0_pay9]
  rw [pay7]
  dsimp only [S512x704]
  simp (disch := first | rfl | decide | norm_num1) only [splat2 czero, splat2 cone, subf_Cv, u2_sub, zero_sub, Lift.exp2, addf_Cv, u2_add, sig2]
theorem pay10 : k0_pay10 (F := Ideal) (Cv (φ := .bf16) (u3 fun _ => A)) = Cv (u2 fun r f => A r f * Lift.sig (A r f)) := by
  dsimp only [k0_pay10]
  rw [pay7, pay9]
  dsimp only [S512x704]
  simp only [mulf_Cv, u2_mul]
theorem pay11 : k0_pay11 (F := Ideal) (Cv (φ := .f32) (u2 D)) (Cv (φ := .bf16) (u4 fun _ _ => Z)) = Cv (u2 fun r => Ffn.dhid (D r) Z) := by
  dsimp only [k0_pay11]
  rw [pay6]
  dsimp only [S512x1024, S704x1024, S512x704]
  simp (disch := first | rfl | decide) only [shapeCast_Cv, cast4_2, matmul_Cv, rdot_nt]
  rfl
/-- A block added to one slice of 704 rows. -/
theorem accum (B : FVec Ideal S1x704x1024 .f32) (P : Fin 704 → Fin 1024 → ℝ) (h h' y) :
    shapeCast S1x704x1024 (addf (shapeCast S704x1024 B h) (Cv (φ := .f32) (u2 P) : FVec Ideal S704x1024 .f32)) h' y
      = B y + ((P (y 1) (y 2) : ℝ) : EReal) := by
  obtain ⟨u, i, j, rfl⟩ : ∃ u i j, y = ValueIdx.ix3 u i j := ⟨y 0, y 1, y 2, ValueIdx.eq_ix3 y⟩
  obtain rfl : u = 0 := Subsingleton.elim _ _
  refine (ValueIdx.shapeCast_ab_1ab_apply _ h' 0 i j).trans ?_
  exact congrArg₂ (HAdd.hAdd (α := EReal)) ((ValueIdx.shapeCast_1ab_ab_apply _ h i j).trans rfl) rfl
theorem pay12 (B : FVec Ideal S1x704x1024 .f32) (y : S1x704x1024.Idx) :
    k0_pay13 (F := Ideal) (k0_pay12 (F := Ideal) (Cv (φ := .f32) (u2 D)) (Cv (φ := .bf16) (u3 fun _ => A)) (Cv (φ := .bf16) (u3 fun _ => U)) B) y
      = B y + ((∑ r, Ffn.hid (A r) (U r) (y 1) * (1 / 2 * D r (y 2)) : ℝ) : EReal) := by
  dsimp only [k0_pay13, k0_pay12]
  rw [pay6, pay10, pay8]
  refine (congrArg (fun M => shapeCast S1x704x1024 (addf _ M) _ y) ?_).trans (accum B (fun f j => ∑ r, Ffn.hid (A r) (U r) f * (1 / 2 * D r j)) shapeCasts_S1x704x1024_S704x1024 shapeCasts_S704x1024_S1x704x1024 y)
  dsimp only [S512x1024, S704x1024, S512x704]
  simp (disch := first | rfl | decide) only [mulf_Cv, u2_mul, truncf_Cv, matmul_Cv, rdot_tn]
  rfl
theorem pay14 : k0_pay14 (F := Ideal) (Cv (φ := .f32) (u2 fun r f => A r f * Lift.sig (A r f))) (Cv (φ := .f32) (u2 fun r => Ffn.dhid (D r) Z))
    = Cv (u2 fun r => Ffn.dup (D r) Z (A r)) := by
  dsimp only [k0_pay14, S512x704]
  simp only [mulf_Cv, u2_mul, truncf_Cv]
  rfl
theorem pay15 : k0_pay15 (F := Ideal) (Cv (φ := .f32) (u2 A)) (Cv (φ := .f32) (u2 U)) (Cv (φ := .f32) (u2 fun r f => Lift.sig (A r f))) (Cv (φ := .f32) (u2 fun r => Ffn.dhid (D r) Z))
    = Cv (u2 fun r => Ffn.dgate (D r) Z (A r) (U r)) := by
  dsimp only [k0_pay15, S512x704]
  simp only [splat2 cone, mulf_Cv, u2_mul, subf_Cv, u2_sub, addf_Cv, u2_add, truncf_Cv]
  rfl
theorem pay16 (B : FVec Ideal S1x704x1024 .f32) (y : S1x704x1024.Idx) :
    k0_pay16 (F := Ideal) (Cv (φ := .bf16) (u2 XN)) (Cv (φ := .f32) (u2 A)) (Cv (φ := .f32) (u2 U)) (Cv (φ := .f32) (u2 fun r f => Lift.sig (A r f))) (Cv (φ := .f32) (u2 fun r => Ffn.dhid (D r) Z)) B y
      = B y + ((∑ r, Ffn.dgate (D r) Z (A r) (U r) (y 1) * XN r (y 2) : ℝ) : EReal) := by
  dsimp only [k0_pay16]
  rw [pay15]
  refine (congrArg (fun M => shapeCast S1x704x1024 (addf _ M) _ y) ?_).trans (accum B (fun f j => ∑ r, Ffn.dgate (D r) Z (A r) (U r) f * XN r j) shapeCasts_S1x704x1024_S704x1024 shapeCasts_S704x1024_S1x704x1024 y)
  dsimp only [S512x1024, S704x1024, S512x704]
  simp (disch := first | rfl | decide) only [matmul_Cv, rdot_tn]
theorem pay17 (B : FVec Ideal S1x704x1024 .f32) (y : S1x704x1024.Idx) :
    k0_pay17 (F := Ideal) (Cv (φ := .bf16) (u2 XN)) (Cv (φ := .f32) (u2 fun r f => A r f * Lift.sig (A r f))) (Cv (φ := .f32) (u2 fun r => Ffn.dhid (D r) Z)) B y
      = B y + ((∑ r, Ffn.dup (D r) Z (A r) (y 1) * XN r (y 2) : ℝ) : EReal) := by
  dsimp only [k0_pay17]
  rw [pay14]
  refine (congrArg (fun M => shapeCast S1x704x1024 (addf _ M) _ y) ?_).trans (accum B (fun f j => ∑ r, Ffn.dup (D r) Z (A r) f * XN r j) shapeCasts_S1x704x1024_S704x1024 shapeCasts_S704x1024_S1x704x1024 y)
  dsimp only [S512x1024, S704x1024, S512x704]
  simp (disch := first | rfl | decide) only [matmul_Cv, rdot_tn]
theorem pay18 : k0_pay18 (F := Ideal) (Cv (φ := .f32) (u2 A)) (Cv (φ := .f32) (u2 U)) (Cv (φ := .f32) (u2 fun r f => Lift.sig (A r f))) (Cv (φ := .f32) (u2 fun r => Ffn.dhid (D r) Z)) (Cv (φ := .bf16) (u4 fun _ _ => W))
      = Cv (u2 fun r j => ∑ f, Ffn.dgate (D r) Z (A r) (U r) f * W f j) := by
  dsimp only [k0_pay18]
  rw [pay15]
  dsimp only [S512x1024, S704x1024, S512x704]
  simp (disch := first | rfl | decide) only [shapeCast_Cv, cast4_2, matmul_Cv, rdot_nn]
/-- What one chunk of hidden columns adds to the cotangent of the normalised row. -/
def part (W V Z : Fin 704 → Fin 1024 → ℝ) (d : Fin 1024 → ℝ) (a u : Fin 704 → ℝ) (j : Fin 1024) : ℝ :=
  (∑ f, Ffn.dgate d Z a u f * W f j) + ∑ f, Ffn.dup d Z a f * V f j
theorem pay1 : k0_pay1 (F := Ideal) (Cv (φ := .bf16) (u2 fun r => Ffn.dup (D r) Z (A r))) (Cv (φ := .f32) (u2 fun r j => ∑ f, Ffn.dgate (D r) Z (A r) (U r) f * W f j)) (Cv (φ := .bf16) (u4 fun _ _ => V))
      = Cv (u3 fun _ r => part W V Z (D r) (A r) (U r)) := by
  dsimp only [k0_pay1, S512x1024, S704x1024, S512x704, S1x512x1024]
  simp (disch := first | rfl | decide) only [shapeCast_Cv, cast4_2, matmul_Cv, rdot_nn, addf_Cv, u2_add, truncf_Cv, cast2_3u]
  rfl

/-! ## The last chunk's body -/
theorem last7 : @k1_pay7 = @k0_pay5 := rfl
theorem last9 : @k1_pay9 = @k0_pay7 := rfl
theorem last10 : @k1_pay10 = @k0_pay8 := rfl
theorem last11 : @k1_pay11 = @k0_pay9 := rfl
theorem last12 : @k1_pay12 = @k0_pay10 := rfl
theorem last13 : @k1_pay13 = @k0_pay11 := rfl
theorem last14 : @k1_pay14 = @k0_pay12 := rfl
theorem last15 : @k1_pay15 = @k0_pay13 := rfl
theorem last16 : @k1_pay16 = @k0_pay14 := rfl
theorem last18 : @k1_pay18 = @k0_pay16 := rfl
theorem last19 : @k1_pay19 = @k0_pay17 := rfl
theorem last20 : @k1_pay20 = @k0_pay18 := rfl
variable (S0 S1 S2 T : Fin 512 → Fin 1024 → ℝ)
theorem pay21 : k1_pay21 (F := Ideal) (Cv (φ := .bf16) (u2 fun r => Ffn.dup (D r) Z (A r))) (Cv (φ := .f32) (u2 fun r j => ∑ f, Ffn.dgate (D r) Z (A r) (U r) f * W f j)) (Cv (φ := .bf16) (u4 fun _ _ => V))
    (Cv (φ := .bf16) (u3 fun _ => S0)) (Cv (φ := .bf16) (u3 fun _ => S1)) (Cv (φ := .bf16) (u3 fun _ => S2))
      = Cv (u2 fun r j => part W V Z (D r) (A r) (U r) j + S0 r j + S1 r j + S2 r j) := by
  dsimp only [k1_pay21, S512x1024, S704x1024, S512x704, S1x512x1024]
  simp (disch := first | rfl | decide) only [shapeCast_Cv, cast4_2, cast3_2, matmul_Cv, rdot_nn, addf_Cv, u2_add, extf_Cv]
  rfl
theorem pay22 : k1_pay22 (F := Ideal) (Cv (φ := .f32) (u2 X)) = Cv (u2 fun r _ => rho (X r)) := by
  dsimp only [k1_pay22, S512x1024, S512x1, S512]
  simp (disch := first | rfl | decide | norm_num1) only [splat2 c1024, splat2 ceps, mulf_Cv, u2_mul, mred2_1, shapeCast_Cv, cast1_col, divf2, addf_Cv, u2_add, ms_fold]
theorem pay23 : k1_pay23 (F := Ideal) (Cv (φ := .f32) (u2 X)) = Cv (u2 fun r j => X r j * rho (X r)) := by
  dsimp only [k1_pay23, S512x1024]
  rw [pay22]
  simp only [broadcastTo_Cv, bto_col, mulf_Cv, u2_mul]
/-- The gradient of the block's rows, from the cotangent of the normalised rows. -/
theorem pay24 (v36 v62 v63 v67 v71 v75) (hT : k1_pay21 (F := Ideal) v36 v62 v63 v67 v71 v75 = Cv (u2 T)) :
    k1_pay1 (F := Ideal) (Cv (φ := .f32) (u2 D)) (Cv (φ := .f32) (u2 fun r _ => rho (X r))) (k1_pay24 (F := Ideal) v36 v62 v63 v67 v71 v75 (Cv (φ := .f32) (u2 X)) (Cv (φ := .f32) (u3 fun _ _ => g)))
      = Cv (u2 fun r j => D r j + rmsBwd (X r) (fun j => T r j * g j) j) := by
  dsimp only [k1_pay24, k1_pay1]
  rw [hT, pay23]
  dsimp only [S512x1024, S1x1024, S512x1, S512]
  simp (disch := first | rfl | decide | norm_num1) only [splat2 c1024, shapeCast_Cv, cast3_2', cast1_col, broadcastTo_Cv, bto_row, bto_col, mulf_Cv, u2_mul, mred2_1, divf2, subf_Cv, u2_sub, addf_Cv, u2_add]
  rfl
/-- Row `8 i + k` of a block of 512 rows. -/
def row8 (i : Fin 64) (k : Fin 8) : Fin 512 := ⟨i.val * 8 + k.val, by omega⟩
theorem pay2 (B : FVec Ideal S8x1024 .f32) (y : S8x1024.Idx) : k1_pay2 (F := Ideal) (Cv (φ := .f32) (u2 T)) (Cv (φ := .f32) (u2 fun r j => X r j * rho (X r))) B y
    = B y + ((∑ i : Fin 64, T (row8 i (y 0)) (y 1) * (X (row8 i (y 0)) (y 1) * rho (X (row8 i (y 0)))) : ℝ) : EReal) := by
  dsimp only [k1_pay2]
  rw [cast_same]
  dsimp only [S512x1024, S64x8x1024, S8x1024]
  simp (disch := first | rfl | decide | norm_num1) only [shapeCast_Cv, mulf_Cv, u2_mul, cast2_3, mred3_0]
  rfl
end
theorem pay3 : k1_pay3 (F := Ideal) = Cv (u2 fun _ _ => 0) := by
  funext y; exact Ideal.ofBits_zero_f32
end Cert.FfnIdeal.Pay
-- ==== Proof.FfnTiles0.lean ====
module

public import proofs.«01_k».proof.Proof.Gen.FfnIdeal.Frame
public import proofs.«01_k».proof.Proof.FfnPay
public import Idealize.ShloMosaic.Lib.Pipeline.ReadBack

@[expose] public section

/-! The first call of the feed-forward block's gradients: for each of three chunks of hidden columns, sixteen blocks of 512
    rows add their parts of the weights' gradients and write their part of the rows' cotangent. -/

set_option maxRecDepth 16384
noncomputable section
namespace Cert.FfnIdeal.Value
open Idealize.ShloMosaic Idealize.ShloMosaic.TcCoe Idealize.SL.Sem Cert.Lift
local notation "B16 " s:max => FVec Ideal s FTy.bf16
open Idealize.ShloMosaic.Pipeline (Dat)
open Cert.FfnIdeal Cert.FfnIdeal.Gen Cert.FfnIdeal.Pay

theorem idx0 : ∀ t : Fin cfg0.N, win0_0.index t = ![t.val % 16, 0] ∧ win0_1.index t = ![t.val % 16, 0] ∧ win0_2.index t = ![t.val / 16, t.val % 16, 0] ∧ win0_3.index t = ![t.val / 16, t.val % 16, 0]
    ∧ win0_4.index t = ![0, t.val / 16, 0, 0] ∧ win0_5.index t = ![0, t.val / 16, 0, 0] ∧ win0_6.index t = ![0, t.val / 16, 0, 0]
    ∧ win0_7.index t = ![t.val / 16, 0, 0] ∧ win0_8.index t = ![t.val / 16, 0, 0] ∧ win0_9.index t = ![t.val / 16, 0, 0] ∧ win0_10.index t = ![t.val / 16, t.val % 16, 0] :=
  (by decide +kernel : ∀ t : Fin grid0.N, win0_0.index t = ![t.val % 16, 0] ∧ win0_1.index t = ![t.val % 16, 0] ∧ win0_2.index t = ![t.val / 16, t.val % 16, 0] ∧ win0_3.index t = ![t.val / 16, t.val % 16, 0]
    ∧ win0_4.index t = ![0, t.val / 16, 0, 0] ∧ win0_5.index t = ![0, t.val / 16, 0, 0] ∧ win0_6.index t = ![0, t.val / 16, 0, 0]
    ∧ win0_7.index t = ![t.val / 16, 0, 0] ∧ win0_8.index t = ![t.val / 16, 0, 0] ∧ win0_9.index t = ![t.val / 16, 0, 0] ∧ win0_10.index t = ![t.val / 16, t.val % 16, 0])
/-- Row `r` of the block of grid point `t`, and the point's chunk. -/
def row0 (t : Fin cfg0.N) (r : Fin 512) : Fin 8192 := ⟨t.val % 16 * 512 + r.val, by omega⟩
def chunk0 (t : Fin cfg0.N) : Fin 4 := ⟨t.val / 16, by have := lt_of_lt_of_eq t.isLt N_0; omega⟩

section
variable (E : (c : Dev nD) → (b : Ref sig .tc) → Buf (Elt Ideal) ((c : Thread nD τ).loc b))
   (XN D : Fin 8192 → Fin 1024 → ℝ) (A U : Fin 4 → Fin 8192 → Fin 704 → ℝ) (W V Z : Fin 4 → Fin 704 → Fin 1024 → ℝ)
   (hXN : ∀ c : Dev nD, E c main_v29 = (Cv (u2 XN) : B16 S8192x1024))
   (hD : ∀ c : Dev nD, E c main_arg0 = (Cv (u2 D) : FVec Ideal S8192x1024 .f32))
   (hA : ∀ c : Dev nD, E c main_v16 = (Cv (u3 A) : B16 S4x8192x704))
   (hU : ∀ c : Dev nD, E c main_v20 = (Cv (u3 U) : B16 S4x8192x704))
   (hW : ∀ c : Dev nD, E c main_v23 = (Cv (u4 fun _ => W) : B16 S1x4x704x1024))
   (hV : ∀ c : Dev nD, E c main_v26 = (Cv (u4 fun _ => V) : B16 S1x4x704x1024))
   (hZ : ∀ c : Dev nD, E c main_v28 = (Cv (u4 fun _ => Z) : B16 S1x4x704x1024))
   (c : Dev nD) (t : Fin cfg0.N)
include hXN in
theorem blk0_0 : (iblk0 E c 0 t : B16 S512x1024) = (Cv (u2 fun r => XN (row0 t r)) : B16 S512x1024) := by
  refine funext fun (y : S512x1024.Idx) => ?_
  unfold iblk0
  rw [show E c (Pipeline.arrRef spec0 0) = _ from hXN c]
  refine congrArg Real.toEReal (congrArg₂ XN (Fin.ext ?_) (Fin.ext ?_)) <;> blk_simp [idx0 t] <;> simp only [row0] <;> omega
include hD in
theorem blk0_1 : (iblk0 E c 1 t : FVec Ideal S512x1024 .f32) = (Cv (u2 fun r => D (row0 t r)) : FVec Ideal S512x1024 .f32) := by
  refine funext fun (y : S512x1024.Idx) => ?_
  unfold iblk0
  rw [show E c (Pipeline.arrRef spec0 1) = _ from hD c]
  refine congrArg Real.toEReal (congrArg₂ D (Fin.ext ?_) (Fin.ext ?_)) <;> blk_simp [idx0 t] <;> simp only [row0] <;> omega
theorem congr3 {α β γ δ : Type} (f : α → β → γ → δ) {a a' : α} {b b' : β} {d d' : γ} (h : a = a') (h' : b = b') (h'' : d = d') : f a b d = f a' b' d' := by
  subst h h' h''; rfl
include hA in
theorem blk0_2 : (iblk0 E c 2 t : B16 S1x512x704) = (Cv (u3 fun _ r => A (chunk0 t) (row0 t r)) : B16 S1x512x704) := by
  refine funext fun (y : S1x512x704.Idx) => ?_
  unfold iblk0
  rw [show E c (Pipeline.arrRef spec0 2) = _ from hA c]
  refine congrArg Real.toEReal (congr3 A (Fin.ext ?_) (Fin.ext ?_) (Fin.ext ?_)) <;> blk_simp [idx0 t] <;> simp only [row0, chunk0] <;> omega
include hU in
theorem blk0_3 : (iblk0 E c 3 t : B16 S1x512x704) = (Cv (u3 fun _ r => U (chunk0 t) (row0 t r)) : B16 S1x512x704) := by
  refine funext fun (y : S1x512x704.Idx) => ?_
  unfold iblk0
  rw [show E c (Pipeline.arrRef spec0 3) = _ from hU c]
  refine congrArg Real.toEReal (congr3 U (Fin.ext ?_) (Fin.ext ?_) (Fin.ext ?_)) <;> blk_simp [idx0 t] <;> simp only [row0, chunk0] <;> omega
include hW in
theorem blk0_4 : (iblk0 E c 4 t : B16 S1x1x704x1024) = (Cv (u4 fun _ _ => W (chunk0 t)) : B16 S1x1x704x1024) := by
  refine funext fun (y : S1x1x704x1024.Idx) => ?_
  unfold iblk0
  rw [show E c (Pipeline.arrRef spec0 4) = _ from hW c]
  refine congrArg Real.toEReal (congr3 W (Fin.ext ?_) (Fin.ext ?_) (Fin.ext ?_)) <;> blk_simp [idx0 t] <;> simp only [chunk0] <;> omega
include hV in
theorem blk0_5 : (iblk0 E c 5 t : B16 S1x1x704x1024) = (Cv (u4 fun _ _ => V (chunk0 t)) : B16 S1x1x704x1024) := by
  refine funext fun (y : S1x1x704x1024.Idx) => ?_
  unfold iblk0
  rw [show E c (Pipeline.arrRef spec0 5) = _ from hV c]
  refine congrArg Real.toEReal (congr3 V (Fin.ext ?_) (Fin.ext ?_) (Fin.ext ?_)) <;> blk_simp [idx0 t] <;> simp only [chunk0] <;> omega
include hZ in
theorem blk0_6 : (iblk0 E c 6 t : B16 S1x1x704x1024) = (Cv (u4 fun _ _ => Z (chunk0 t)) : B16 S1x1x704x1024) := by
  refine funext fun (y : S1x1x704x1024.Idx) => ?_
  unfold iblk0
  rw [show E c (Pipeline.arrRef spec0 6) = _ from hZ c]
  refine congrArg Real.toEReal (congr3 Z (Fin.ext ?_) (Fin.ext ?_) (Fin.ext ?_)) <;> blk_simp [idx0 t] <;> simp only [chunk0] <;> omega
/-- The gradients of the weights, one chunk, from the rows in a list of rows. -/
def gateW (R : ℕ) (row : Fin R → Fin 8192) (q : Fin 4) (f : Fin 704) (j : Fin 1024) : ℝ := ∑ r, Ffn.dgate (D (row r)) (Z q) (A q (row r)) (U q (row r)) f * XN (row r) j
def upW (R : ℕ) (row : Fin R → Fin 8192) (q : Fin 4) (f : Fin 704) (j : Fin 1024) : ℝ := ∑ r, Ffn.dup (D (row r)) (Z q) (A q (row r)) f * XN (row r) j
def downW (R : ℕ) (row : Fin R → Fin 8192) (q : Fin 4) (f : Fin 704) (j : Fin 1024) : ℝ := ∑ r, Ffn.hid (A q (row r)) (U q (row r)) f * (1 / 2 * D (row r) j)
theorem zero_at (y : S1x704x1024.Idx) : k0_pay2 (F := Ideal) y = (0 : EReal) := Ideal.ofBits_zero_f32
include hXN hD hA hU hZ in
theorem out7_first (h : t.val % 16 = 0) (y : S1x704x1024.Idx) :
    (outsAt0 E c t.val t.isLt).1 y = 0 + ((gateW XN D A U Z 512 (row0 t) (chunk0 t) (y 1) (y 2) : ℝ) : EReal) := by
  rw [outsAt0_A E c t h]; frame_out
  rw [blk0_0 E XN hXN, blk0_1 E D hD, blk0_2 E A hA, blk0_3 E U hU, blk0_6 E Z hZ, pay5, pay7, pay8, pay9, pay11, pay16, zero_at]; rfl
include hXN hD hA hU hZ in
theorem out7_later (h : ¬ t.val % 16 = 0) (y : S1x704x1024.Idx) :
    (outsAt0 E c t.val t.isLt).1 y = (outsAt0 E c (t.val - 1) (Nat.lt_of_le_of_lt (Nat.sub_le _ _) t.isLt)).1 y + ((gateW XN D A U Z 512 (row0 t) (chunk0 t) (y 1) (y 2) : ℝ) : EReal) := by
  rw [outsAt0_B E c t h]; frame_out
  rw [blk0_0 E XN hXN, blk0_1 E D hD, blk0_2 E A hA, blk0_3 E U hU, blk0_6 E Z hZ, pay5, pay7, pay8, pay9, pay11, pay16]; rfl
include hXN hD hA hU hZ in
theorem out8_first (h : t.val % 16 = 0) (y : S1x704x1024.Idx) :
    (outsAt0 E c t.val t.isLt).2.1 y = 0 + ((upW XN D A Z 512 (row0 t) (chunk0 t) (y 1) (y 2) : ℝ) : EReal) := by
  rw [outsAt0_A E c t h]; frame_out
  rw [blk0_0 E XN hXN, blk0_1 E D hD, blk0_2 E A hA, blk0_6 E Z hZ, pay5, pay10, pay11, pay17, show k0_pay3 (F := Ideal) y = 0 from zero_at y]; rfl
include hXN hD hA hU hZ in
theorem out8_later (h : ¬ t.val % 16 = 0) (y : S1x704x1024.Idx) :
    (outsAt0 E c t.val t.isLt).2.1 y = (outsAt0 E c (t.val - 1) (Nat.lt_of_le_of_lt (Nat.sub_le _ _) t.isLt)).2.1 y + ((upW XN D A Z 512 (row0 t) (chunk0 t) (y 1) (y 2) : ℝ) : EReal) := by
  rw [outsAt0_B E c t h]; frame_out
  rw [blk0_0 E XN hXN, blk0_1 E D hD, blk0_2 E A hA, blk0_6 E Z hZ, pay5, pay10, pay11, pay17]; rfl
include hXN hD hA hU hZ in
theorem out9_first (h : t.val % 16 = 0) (y : S1x704x1024.Idx) :
    (outsAt0 E c t.val t.isLt).2.2.1 y = 0 + ((downW D A U 512 (row0 t) (chunk0 t) (y 1) (y 2) : ℝ) : EReal) := by
  rw [outsAt0_A E c t h]; frame_out
  rw [blk0_1 E D hD, blk0_2 E A hA, blk0_3 E U hU, pay12, show k0_pay4 (F := Ideal) y = 0 from zero_at y]; rfl
include hXN hD hA hU hZ in
theorem out9_later (h : ¬ t.val % 16 = 0) (y : S1x704x1024.Idx) :
    (outsAt0 E c t.val t.isLt).2.2.1 y = (outsAt0 E c (t.val - 1) (Nat.lt_of_le_of_lt (Nat.sub_le _ _) t.isLt)).2.2.1 y + ((downW D A U 512 (row0 t) (chunk0 t) (y 1) (y 2) : ℝ) : EReal) := by
  rw [outsAt0_B E c t h]; frame_out
  rw [blk0_1 E D hD, blk0_2 E A hA, blk0_3 E U hU, pay12]; rfl
include hD hA hU hW hV hZ in
theorem out10 : (outsAt0 E c t.val t.isLt).2.2.2 = (Cv (u3 fun _ r => part (W (chunk0 t)) (V (chunk0 t)) (Z (chunk0 t)) (D (row0 t r)) (A (chunk0 t) (row0 t r)) (U (chunk0 t) (row0 t r))) : B16 S1x512x1024) := by
  refine funext fun (y : S1x512x1024.Idx) => ?_
  by_cases h : t.val % 16 = 0
  · rw [outsAt0_A E c t h]; frame_out
    rw [blk0_1 E D hD, blk0_2 E A hA, blk0_3 E U hU, blk0_4 E W hW, blk0_5 E V hV, blk0_6 E Z hZ, pay7, pay8, pay9, pay10, pay11, pay14, pay18, pay1]
  · rw [outsAt0_B E c t h]; frame_out
    rw [blk0_1 E D hD, blk0_2 E A hA, blk0_3 E U hU, blk0_4 E W hW, blk0_5 E V hV, blk0_6 E Z hZ, pay7, pay8, pay9, pay10, pay11, pay14, pay18, pay1]
end
end Cert.FfnIdeal.Value
-- ==== Proof.FfnSums0.lean ====
module

public import proofs.«01_k».proof.Proof.FfnTiles0

@[expose] public section

/-! What the first call of the feed-forward block's gradients leaves in its four results: three of the four chunks of every
    weight's gradient, and three parts of the rows' cotangent. -/

set_option maxRecDepth 16384
noncomputable section
namespace Cert.FfnIdeal.Value
open Idealize.ShloMosaic Idealize.ShloMosaic.TcCoe Idealize.SL.Sem Cert.Lift
open Idealize.ShloMosaic.Pipeline (Dat)
open Cert.FfnIdeal Cert.FfnIdeal.Gen Cert.FfnIdeal.Pay

section
variable (E : (c : Dev nD) → (b : Ref sig .tc) → Buf (Elt Ideal) ((c : Thread nD τ).loc b))
   (XN D : Fin 8192 → Fin 1024 → ℝ) (A U : Fin 4 → Fin 8192 → Fin 704 → ℝ) (W V Z : Fin 4 → Fin 704 → Fin 1024 → ℝ)
   (hXN : ∀ c : Dev nD, E c main_v29 = (Cv (u2 XN) : FVec Ideal S8192x1024 .bf16))
   (hD : ∀ c : Dev nD, E c main_arg0 = (Cv (u2 D) : FVec Ideal S8192x1024 .f32))
   (hA : ∀ c : Dev nD, E c main_v16 = (Cv (u3 A) : FVec Ideal S4x8192x704 .bf16))
   (hU : ∀ c : Dev nD, E c main_v20 = (Cv (u3 U) : FVec Ideal S4x8192x704 .bf16))
   (hW : ∀ c : Dev nD, E c main_v23 = (Cv (u4 fun _ => W) : FVec Ideal S1x4x704x1024 .bf16))
   (hV : ∀ c : Dev nD, E c main_v26 = (Cv (u4 fun _ => V) : FVec Ideal S1x4x704x1024 .bf16))
   (hZ : ∀ c : Dev nD, E c main_v28 = (Cv (u4 fun _ => Z) : FVec Ideal S1x4x704x1024 .bf16))
   (c : Dev nD)
/-- The sixteen blocks of a chunk hold all rows. -/
theorem rows_sum (F : Fin 4 → Fin 8192 → ℝ) (t : Fin cfg0.N) (p : Fin 16 → Fin cfg0.N) (hp : ∀ s, (p s).val = 16 * (t.val / 16) + s.val) :
    (0 : EReal) + ∑ s, ((∑ r, F (chunk0 (p s)) (row0 (p s) r) : ℝ) : EReal) = ((∑ r, F (chunk0 t) r : ℝ) : EReal) := by
  refine (zero_add (M := EReal) _).trans ((coe_sum _ _).symm.trans (congrArg Real.toEReal ?_))
  refine Eq.trans ?_ (Fin.sum_univ_tiles 16 512 rfl (F (chunk0 t))).symm
  refine Finset.sum_congr rfl fun s _ => Finset.sum_congr rfl fun r _ => congrArg₂ F (Fin.ext ?_) (Fin.ext ?_)
  · simp only [chunk0, hp]; omega
  · simp only [row0, hp]; omega

include hXN hD hA hU hZ in
theorem run0_7 (t : Fin cfg0.N) (hr : t.val % 16 = 15) (y : S1x704x1024.Idx) :
    (outsAt0 E c t.val t.isLt).1 y = ((gateW XN D A U Z 8192 id (chunk0 t) (y 1) (y 2) : ℝ) : EReal) := by
  refine (Pipeline.eq_sum_fin_of_reset_step_apply_of_flush (M := EReal) (fun n h => (outsAt0 E c n h).1) 16 (fun _ => 0)
    (fun t y => ((gateW XN D A U Z 512 (row0 t) (chunk0 t) (y 1) (y 2) : ℝ) : EReal))
    (fun t h y => out7_first E XN D A U Z hXN hD hA hU hZ c t h y) (fun t h y => out7_later E XN D A U Z hXN hD hA hU hZ c t h y) t hr y).trans ?_
  exact rows_sum (fun q r => Ffn.dgate (D r) (Z q) (A q r) (U q r) (y 1) * XN r (y 2)) t _ fun s => rfl
include hXN hD hA hU hZ in
theorem final0_7 (i : S4x704x1024.Idx) (hi : (i 0).val < 3) :
    (dat0 E c).arrAt 7 cfg0.N i = (Cv (u3 (gateW XN D A U Z 8192 id)) : FVec Ideal S4x704x1024 .f32) i := by
  refine ((dat0 E c).arrAt_apply_of_coversWhere 7 (Cv (u3 (gateW XN D A U Z 8192 id)) : FVec Ideal S4x704x1024 .f32) (P := fun j => (j 0).val < 3)
    (fun β => β (0 : Fin 3) < 3) (by decide +kernel) (fun t hf y => ?_) (fun j => by blk_simp [Pipeline.Window.cell_apply]; rw [Nat.div_one]) i).trans (if_pos hi)
  blk_simp
  rw [after0_7]
  refine (run0_7 E XN D A U Z hXN hD hA hU hZ c t ((Gen.flush0_7 t).mp hf) _).trans ?_
  refine congrArg Real.toEReal (congr3 (gateW XN D A U Z 8192 id) (Fin.ext ?_) (Fin.ext ?_) (Fin.ext ?_)) <;> blk_simp [idx0 t] <;> simp only [chunk0] <;> omega

include hXN hD hA hU hZ in
theorem run0_8 (t : Fin cfg0.N) (hr : t.val % 16 = 15) (y : S1x704x1024.Idx) :
    (outsAt0 E c t.val t.isLt).2.1 y = ((upW XN D A Z 8192 id (chunk0 t) (y 1) (y 2) : ℝ) : EReal) := by
  refine (Pipeline.eq_sum_fin_of_reset_step_apply_of_flush (M := EReal) (fun n h => (outsAt0 E c n h).2.1) 16 (fun _ => 0)
    (fun t y => ((upW XN D A Z 512 (row0 t) (chunk0 t) (y 1) (y 2) : ℝ) : EReal))
    (fun t h y => out8_first E XN D A U Z hXN hD hA hU hZ c t h y) (fun t h y => out8_later E XN D A U Z hXN hD hA hU hZ c t h y) t hr y).trans ?_
  exact rows_sum (fun q r => Ffn.dup (D r) (Z q) (A q r) (y 1) * XN r (y 2)) t _ fun s => rfl
include hXN hD hA hU hZ in
theorem final0_8 (i : S4x704x1024.Idx) (hi : (i 0).val < 3) :
    (dat0 E c).arrAt 8 cfg0.N i = (Cv (u3 (upW XN D A Z 8192 id)) : FVec Ideal S4x704x1024 .f32) i := by
  refine ((dat0 E c).arrAt_apply_of_coversWhere 8 (Cv (u3 (upW XN D A Z 8192 id)) : FVec Ideal S4x704x1024 .f32) (P := fun j => (j 0).val < 3)
    (fun β => β (0 : Fin 3) < 3) (by decide +kernel) (fun t hf y => ?_) (fun j => by blk_simp [Pipeline.Window.cell_apply]; rw [Nat.div_one]) i).trans (if_pos hi)
  blk_simp
  rw [after0_8]
  refine (run0_8 E XN D A U Z hXN hD hA hU hZ c t ((Gen.flush0_8 t).mp hf) _).trans ?_
  refine congrArg Real.toEReal (congr3 (upW XN D A Z 8192 id) (Fin.ext ?_) (Fin.ext ?_) (Fin.ext ?_)) <;> blk_simp [idx0 t] <;> simp only [chunk0] <;> omega

include hXN hD hA hU hZ in
theorem run0_9 (t : Fin cfg0.N) (hr : t.val % 16 = 15) (y : S1x704x1024.Idx) :
    (outsAt0 E c t.val t.isLt).2.2.1 y = ((downW D A U 8192 id (chunk0 t) (y 1) (y 2) : ℝ) : EReal) := by
  refine (Pipeline.eq_sum_fin_of_reset_step_apply_of_flush (M := EReal) (fun n h => (outsAt0 E c n h).2.2.1) 16 (fun _ => 0)
    (fun t y => ((downW D A U 512 (row0 t) (chunk0 t) (y 1) (y 2) : ℝ) : EReal))
    (fun t h y => out9_first E XN D A U Z hXN hD hA hU hZ c t h y) (fun t h y => out9_later E XN D A U Z hXN hD hA hU hZ c t h y) t hr y).trans ?_
  exact rows_sum (fun q r => Ffn.hid (A q r) (U q r) (y 1) * (1 / 2 * D r (y 2))) t _ fun s => rfl
include hXN hD hA hU hZ in
theorem final0_9 (i : S4x704x1024.Idx) (hi : (i 0).val < 3) :
    (dat0 E c).arrAt 9 cfg0.N i = (Cv (u3 (downW D A U 8192 id)) : FVec Ideal S4x704x1024 .f32) i := by
  refine ((dat0 E c).arrAt_apply_of_coversWhere 9 (Cv (u3 (downW D A U 8192 id)) : FVec Ideal S4x704x1024 .f32) (P := fun j => (j 0).val < 3)
    (fun β => β (0 : Fin 3) < 3) (by decide +kernel) (fun t hf y => ?_) (fun j => by blk_simp [Pipeline.Window.cell_apply]; rw [Nat.div_one]) i).trans (if_pos hi)
  blk_simp
  rw [after0_9]
  refine (run0_9 E XN D A U Z hXN hD hA hU hZ c t ((Gen.flush0_9 t).mp hf) _).trans ?_
  refine congrArg Real.toEReal (congr3 (downW D A U 8192 id) (Fin.ext ?_) (Fin.ext ?_) (Fin.ext ?_)) <;> blk_simp [idx0 t] <;> simp only [chunk0] <;> omega

include hD hA hU hW hV hZ in
theorem final0_10 : (dat0 E c).arrAt 10 cfg0.N = (Cv (u3 fun k r => part (W (k.castLE (by decide))) (V (k.castLE (by decide))) (Z (k.castLE (by decide))) (D r) (A (k.castLE (by decide)) r) (U (k.castLE (by decide)) r)) : FVec Ideal S3x8192x1024 .bf16) := by
  refine (dat0 E c).arrAt_eq_of_covers 10 _ (by decide +kernel) fun t hf y => ?_
  blk_simp
  rw [after0_10, out10 E D A U W V Z hD hA hU hW hV hZ c t]
  refine congrArg Real.toEReal (congr3 (fun (q : Fin 4) (r : Fin 8192) (j : Fin 1024) => part (W q) (V q) (Z q) (D r) (A q r) (U q r) j) (Fin.ext ?_) (Fin.ext ?_) (Fin.ext ?_))
  · show (chunk0 t).val = ((win0_10.blk t).view.emb y 0).val
    blk_simp [idx0 t]; simp only [chunk0]
  · blk_simp [idx0 t]; simp only [row0]
  · blk_simp [idx0 t]
end
end Cert.FfnIdeal.Value
-- ==== Proof.FfnTiles1.lean ====
module

public import proofs.«01_k».proof.Proof.FfnSums0

@[expose] public section

/-! The last call of the feed-forward block's gradients: the fourth chunk of hidden columns, the sum of the four parts of the
    rows' cotangent, and the normalisation's gradient. -/

set_option maxRecDepth 16384
noncomputable section
namespace Cert.FfnIdeal.Value
open Idealize.ShloMosaic Idealize.ShloMosaic.TcCoe Idealize.SL.Sem Cert.Lift
local notation "F32 " s:max => FVec Ideal s FTy.f32
local notation "B16 " s:max => FVec Ideal s FTy.bf16
open Idealize.ShloMosaic.Pipeline (Dat)
open Cert.FfnIdeal Cert.FfnIdeal.Gen Cert.FfnIdeal.Pay

theorem idx1 : ∀ t : Fin cfg1.N, win1_0.index t = ![t.val, 0] ∧ win1_1.index t = ![t.val, 0] ∧ win1_2.index t = ![3, t.val, 0] ∧ win1_3.index t = ![3, t.val, 0]
    ∧ win1_4.index t = ![0, 3, 0, 0] ∧ win1_5.index t = ![0, 3, 0, 0] ∧ win1_6.index t = ![0, 3, 0, 0] ∧ win1_7.index t = ![0, t.val, 0] ∧ win1_8.index t = ![t.val, 0]
    ∧ win1_9.index t = ![0, 0, 0] ∧ win1_10.index t = ![t.val, 0] ∧ win1_11.index t = ![0, 0] ∧ win1_12.index t = ![3, 0, 0] ∧ win1_13.index t = ![3, 0, 0] ∧ win1_14.index t = ![3, 0, 0] :=
  (by decide +kernel : ∀ t : Fin grid1.N, win1_0.index t = ![t.val, 0] ∧ win1_1.index t = ![t.val, 0] ∧ win1_2.index t = ![3, t.val, 0] ∧ win1_3.index t = ![3, t.val, 0]
    ∧ win1_4.index t = ![0, 3, 0, 0] ∧ win1_5.index t = ![0, 3, 0, 0] ∧ win1_6.index t = ![0, 3, 0, 0] ∧ win1_7.index t = ![0, t.val, 0] ∧ win1_8.index t = ![t.val, 0]
    ∧ win1_9.index t = ![0, 0, 0] ∧ win1_10.index t = ![t.val, 0] ∧ win1_11.index t = ![0, 0] ∧ win1_12.index t = ![3, 0, 0] ∧ win1_13.index t = ![3, 0, 0] ∧ win1_14.index t = ![3, 0, 0])
/-- Row `r` of the block of grid point `t`. -/
def row1 (t : Fin cfg1.N) (r : Fin 512) : Fin 8192 := ⟨t.val * 512 + r.val, by have := lt_of_lt_of_eq t.isLt N_1; omega⟩

section
variable (E : (c : Dev nD) → (b : Ref sig .tc) → Buf (Elt Ideal) ((c : Thread nD τ).loc b))
   (XN D X : Fin 8192 → Fin 1024 → ℝ) (A U : Fin 4 → Fin 8192 → Fin 704 → ℝ) (W V Z : Fin 4 → Fin 704 → Fin 1024 → ℝ)
   (S : Fin 3 → Fin 8192 → Fin 1024 → ℝ) (g : Fin 1024 → ℝ)
   (hXN : ∀ c : Dev nD, E c main_v29 = (Cv (u2 XN) : B16 S8192x1024))
   (hD : ∀ c : Dev nD, E c main_arg0 = (Cv (u2 D) : F32 S8192x1024))
   (hA : ∀ c : Dev nD, E c main_v16 = (Cv (u3 A) : B16 S4x8192x704))
   (hU : ∀ c : Dev nD, E c main_v20 = (Cv (u3 U) : B16 S4x8192x704))
   (hW : ∀ c : Dev nD, E c main_v23 = (Cv (u4 fun _ => W) : B16 S1x4x704x1024))
   (hV : ∀ c : Dev nD, E c main_v26 = (Cv (u4 fun _ => V) : B16 S1x4x704x1024))
   (hZ : ∀ c : Dev nD, E c main_v28 = (Cv (u4 fun _ => Z) : B16 S1x4x704x1024))
   (hS : ∀ c : Dev nD, E c main_v30_3 = (Cv (u3 S) : B16 S3x8192x1024))
   (hX : ∀ c : Dev nD, E c main_arg1 = (Cv (u2 X) : F32 S8192x1024))
   (hg : ∀ c : Dev nD, E c main_v31 = (Cv (u3 fun _ _ => g) : F32 S1x1x1024))
   (c : Dev nD) (t : Fin cfg1.N)
include hXN in
theorem blk1_0 : (iblk1 E c 0 t : B16 S512x1024) = (Cv (u2 fun r => XN (row1 t r)) : B16 S512x1024) := by
  refine funext fun (y : S512x1024.Idx) => ?_
  unfold iblk1
  rw [show E c (Pipeline.arrRef spec1 0) = _ from hXN c]
  refine congrArg Real.toEReal (congrArg₂ XN (Fin.ext ?_) (Fin.ext ?_)) <;> blk_simp [idx1 t] <;> simp only [row1]
include hD in
theorem blk1_1 : (iblk1 E c 1 t : F32 S512x1024) = (Cv (u2 fun r => D (row1 t r)) : F32 S512x1024) := by
  refine funext fun (y : S512x1024.Idx) => ?_
  unfold iblk1
  rw [show E c (Pipeline.arrRef spec1 1) = _ from hD c]
  refine congrArg Real.toEReal (congrArg₂ D (Fin.ext ?_) (Fin.ext ?_)) <;> blk_simp [idx1 t] <;> simp only [row1]
include hA in
theorem blk1_2 : (iblk1 E c 2 t : B16 S1x512x704) = (Cv (u3 fun _ r => A 3 (row1 t r)) : B16 S1x512x704) := by
  refine funext fun (y : S1x512x704.Idx) => ?_
  unfold iblk1
  rw [show E c (Pipeline.arrRef spec1 2) = _ from hA c]
  refine congrArg Real.toEReal (congr3 A (Fin.ext ?_) (Fin.ext ?_) (Fin.ext ?_)) <;> blk_simp [idx1 t] <;> first | rfl | (simp only [row1])
include hU in
theorem blk1_3 : (iblk1 E c 3 t : B16 S1x512x704) = (Cv (u3 fun _ r => U 3 (row1 t r)) : B16 S1x512x704) := by
  refine funext fun (y : S1x512x704.Idx) => ?_
  unfold iblk1
  rw [show E c (Pipeline.arrRef spec1 3) = _ from hU c]
  refine congrArg Real.toEReal (congr3 U (Fin.ext ?_) (Fin.ext ?_) (Fin.ext ?_)) <;> blk_simp [idx1 t] <;> first | rfl | (simp only [row1])
include hW in
theorem blk1_4 : (iblk1 E c 4 t : B16 S1x1x704x1024) = (Cv (u4 fun _ _ => W 3) : B16 S1x1x704x1024) := by
  refine funext fun (y : S1x1x704x1024.Idx) => ?_
  unfold iblk1
  rw [show E c (Pipeline.arrRef spec1 4) = _ from hW c]
  refine congrArg Real.toEReal (congr3 W (Fin.ext ?_) (Fin.ext ?_) (Fin.ext ?_)) <;> blk_simp [idx1 t] <;> rfl
include hV in
theorem blk1_5 : (iblk1 E c 5 t : B16 S1x1x704x1024) = (Cv (u4 fun _ _ => V 3) : B16 S1x1x704x1024) := by
  refine funext fun (y : S1x1x704x1024.Idx) => ?_
  unfold iblk1
  rw [show E c (Pipeline.arrRef spec1 5) = _ from hV c]
  refine congrArg Real.toEReal (congr3 V (Fin.ext ?_) (Fin.ext ?_) (Fin.ext ?_)) <;> blk_simp [idx1 t] <;> rfl
include hZ in
theorem blk1_6 : (iblk1 E c 6 t : B16 S1x1x704x1024) = (Cv (u4 fun _ _ => Z 3) : B16 S1x1x704x1024) := by
  refine funext fun (y : S1x1x704x1024.Idx) => ?_
  unfold iblk1
  rw [show E c (Pipeline.arrRef spec1 6) = _ from hZ c]
  refine congrArg Real.toEReal (congr3 Z (Fin.ext ?_) (Fin.ext ?_) (Fin.ext ?_)) <;> blk_simp [idx1 t] <;> rfl
include hS in
theorem blk1_7 : (iblk1 E c 7 t : B16 S3x512x1024) = (Cv (u3 fun q r => S q (row1 t r)) : B16 S3x512x1024) := by
  refine funext fun (y : S3x512x1024.Idx) => ?_
  unfold iblk1
  rw [show E c (Pipeline.arrRef spec1 7) = _ from hS c]
  refine congrArg Real.toEReal (congr3 S (Fin.ext ?_) (Fin.ext ?_) (Fin.ext ?_)) <;> blk_simp [idx1 t] <;> simp only [row1]
include hX in
theorem blk1_8 : (iblk1 E c 8 t : F32 S512x1024) = (Cv (u2 fun r => X (row1 t r)) : F32 S512x1024) := by
  refine funext fun (y : S512x1024.Idx) => ?_
  unfold iblk1
  rw [show E c (Pipeline.arrRef spec1 8) = _ from hX c]
  refine congrArg Real.toEReal (congrArg₂ X (Fin.ext ?_) (Fin.ext ?_)) <;> blk_simp [idx1 t] <;> simp only [row1]
include hg in
theorem blk1_9 : (iblk1 E c 9 t : F32 S1x1x1024) = (Cv (u3 fun _ _ => g) : F32 S1x1x1024) := by
  refine funext fun (y : S1x1x1024.Idx) => ?_
  unfold iblk1
  rw [show E c (Pipeline.arrRef spec1 9) = _ from hg c]
  refine congrArg Real.toEReal (congrArg g (Fin.ext ?_)) <;> blk_simp [idx1 t]
/-- The parts the earlier chunks left, as the last call reads them. -/
theorem ldS (R : Fin 3 → Fin 512 → Fin 1024 → ℝ) (q : Fin 3) (n : ℕ) (hn : n = q.val) (inb) : View.ld (Val := Elt Ideal) (e' := .bf16) (S := S3x512x1024) (Cv (u3 R) : B16 S3x512x1024) (Rect.unit (s := S3x512x1024) ![n, 0, 0] ![1, 512, 1024] inb)
    = (Cv (u3 fun _ => R q) : B16 S1x512x1024) := by
  subst hn
  refine funext fun (y : S1x512x1024.Idx) => ?_
  show (Cv (u3 R) : B16 S3x512x1024) ((Rect.unit (s := S3x512x1024) ![q.val, 0, 0] ![1, 512, 1024] inb).emb y) = _
  refine congrArg Real.toEReal (congr3 R (Fin.ext ?_) (Fin.ext ?_) (Fin.ext ?_)) <;> blk_simp
/-- The whole cotangent of a normalised row. -/
def cot (r : Fin 8192) (j : Fin 1024) : ℝ := part (W 3) (V 3) (Z 3) (D r) (A 3 r) (U 3 r) j + S 0 r j + S 1 r j + S 2 r j

include hXN hD hA hU hZ in
theorem out12_first (h : t.val % 16 = 0) (y : S1x704x1024.Idx) :
    (outsAt1 E c t.val t.isLt).2.2.1 y = 0 + ((gateW XN D A U Z 512 (row1 t) 3 (y 1) (y 2) : ℝ) : EReal) := by
  rw [outsAt1_A E c t h]; frame_out
  rw [blk1_0 E XN hXN, blk1_1 E D hD, blk1_2 E A hA, blk1_3 E U hU, blk1_6 E Z hZ, last7, last9, last10, last11, last13, last18, pay5, pay7, pay8, pay9, pay11, pay16, show k1_pay4 (F := Ideal) y = 0 from zero_at y]; rfl
include hXN hD hA hU hZ in
theorem out12_later (h : ¬ t.val % 16 = 0) (y : S1x704x1024.Idx) :
    (outsAt1 E c t.val t.isLt).2.2.1 y = (outsAt1 E c (t.val - 1) (Nat.lt_of_le_of_lt (Nat.sub_le _ _) t.isLt)).2.2.1 y + ((gateW XN D A U Z 512 (row1 t) 3 (y 1) (y 2) : ℝ) : EReal) := by
  rw [outsAt1_B E c t h]; frame_out
  rw [blk1_0 E XN hXN, blk1_1 E D hD, blk1_2 E A hA, blk1_3 E U hU, blk1_6 E Z hZ, last7, last9, last10, last11, last13, last18, pay5, pay7, pay8, pay9, pay11, pay16]; rfl
include hXN hD hA hU hZ in
theorem out13_first (h : t.val % 16 = 0) (y : S1x704x1024.Idx) :
    (outsAt1 E c t.val t.isLt).2.2.2.1 y = 0 + ((upW XN D A Z 512 (row1 t) 3 (y 1) (y 2) : ℝ) : EReal) := by
  rw [outsAt1_A E c t h]; frame_out
  rw [blk1_0 E XN hXN, blk1_1 E D hD, blk1_2 E A hA, blk1_6 E Z hZ, last7, last12, last13, last19, pay5, pay10, pay11, pay17, show k1_pay5 (F := Ideal) y = 0 from zero_at y]; rfl
include hXN hD hA hU hZ in
theorem out13_later (h : ¬ t.val % 16 = 0) (y : S1x704x1024.Idx) :
    (outsAt1 E c t.val t.isLt).2.2.2.1 y = (outsAt1 E c (t.val - 1) (Nat.lt_of_le_of_lt (Nat.sub_le _ _) t.isLt)).2.2.2.1 y + ((upW XN D A Z 512 (row1 t) 3 (y 1) (y 2) : ℝ) : EReal) := by
  rw [outsAt1_B E c t h]; frame_out
  rw [blk1_0 E XN hXN, blk1_1 E D hD, blk1_2 E A hA, blk1_6 E Z hZ, last7, last12, last13, last19, pay5, pay10, pay11, pay17]; rfl
include hXN hD hA hU hZ in
theorem out14_first (h : t.val % 16 = 0) (y : S1x704x1024.Idx) :
    (outsAt1 E c t.val t.isLt).2.2.2.2 y = 0 + ((downW D A U 512 (row1 t) 3 (y 1) (y 2) : ℝ) : EReal) := by
  rw [outsAt1_A E c t h]; frame_out
  rw [blk1_1 E D hD, blk1_2 E A hA, blk1_3 E U hU, last14, last15, pay12, show k1_pay6 (F := Ideal) y = 0 from zero_at y]; rfl
include hXN hD hA hU hZ in
theorem out14_later (h : ¬ t.val % 16 = 0) (y : S1x704x1024.Idx) :
    (outsAt1 E c t.val t.isLt).2.2.2.2 y = (outsAt1 E c (t.val - 1) (Nat.lt_of_le_of_lt (Nat.sub_le _ _) t.isLt)).2.2.2.2 y + ((downW D A U 512 (row1 t) 3 (y 1) (y 2) : ℝ) : EReal) := by
  rw [outsAt1_B E c t h]; frame_out
  rw [blk1_1 E D hD, blk1_2 E A hA, blk1_3 E U hU, last14, last15, pay12]; rfl
/-- The cotangent of the rows of one block. -/
def cot1 (r : Fin 512) : Fin 1024 → ℝ := cot D A U W V Z S (row1 t r)
include hD hA hU hW hV hZ hS hX hg in
theorem out10_1 : (outsAt1 E c t.val t.isLt).1 = (Cv (u2 fun r j => D (row1 t r) j + rmsBwd (X (row1 t r)) (fun j => cot D A U W V Z S (row1 t r) j * g j) j) : F32 S512x1024) := by
  refine funext fun (y : S512x1024.Idx) => ?_
  by_cases h : t.val % 16 = 0
  · rw [outsAt1_A E c t h]; frame_out
    rw [blk1_1 E D hD, blk1_2 E A hA, blk1_3 E U hU, blk1_4 E W hW, blk1_5 E V hV, blk1_6 E Z hZ, blk1_7 E S hS, blk1_8 E X hX, blk1_9 E g hg, ldS _ 0 0 rfl, ldS _ 1 1 rfl, ldS _ 2 2 rfl, last9, last10, last11, last12, last13, last16, last20, pay7, pay8, pay9, pay10, pay11, pay14, pay18, pay22, pay24 _ _ _ (cot1 D A U W V Z S t) _ _ _ _ _ _ (pay21 _ _ _ _ _ _ _ _ _)]; rfl
  · rw [outsAt1_B E c t h]; frame_out
    rw [blk1_1 E D hD, blk1_2 E A hA, blk1_3 E U hU, blk1_4 E W hW, blk1_5 E V hV, blk1_6 E Z hZ, blk1_7 E S hS, blk1_8 E X hX, blk1_9 E g hg, ldS _ 0 0 rfl, ldS _ 1 1 rfl, ldS _ 2 2 rfl, last9, last10, last11, last12, last13, last16, last20, pay7, pay8, pay9, pay10, pay11, pay14, pay18, pay22, pay24 _ _ _ (cot1 D A U W V Z S t) _ _ _ _ _ _ (pay21 _ _ _ _ _ _ _ _ _)]; rfl
/-- What block `t` adds to the scale's gradient. -/
def part11 (k : Fin 8) (j : Fin 1024) : ℝ :=
  ∑ i : Fin 64, cot D A U W V Z S (row1 t (row8 i k)) j * (X (row1 t (row8 i k)) j * rho (X (row1 t (row8 i k))))
include hD hA hU hW hV hZ hS hX in
theorem out11_first (h : t.val % 16 = 0) (y : S8x1024.Idx) :
    (outsAt1 E c t.val t.isLt).2.1 y = 0 + ((part11 D X A U W V Z S t (y 0) (y 1) : ℝ) : EReal) := by
  rw [outsAt1_A E c t h]; frame_out
  rw [blk1_1 E D hD, blk1_2 E A hA, blk1_3 E U hU, blk1_4 E W hW, blk1_5 E V hV, blk1_6 E Z hZ, blk1_7 E S hS, blk1_8 E X hX, ldS _ 0 0 rfl, ldS _ 1 1 rfl, ldS _ 2 2 rfl, last9, last10, last11, last12, last13, last16, last20, pay7, pay8, pay9, pay10, pay11, pay14, pay18, pay21, pay23, pay2, show k1_pay3 (F := Ideal) y = (0 : EReal) from Ideal.ofBits_zero_f32]; rfl
include hD hA hU hW hV hZ hS hX in
theorem out11_later (h : ¬ t.val % 16 = 0) (y : S8x1024.Idx) :
    (outsAt1 E c t.val t.isLt).2.1 y = (outsAt1 E c (t.val - 1) (Nat.lt_of_le_of_lt (Nat.sub_le _ _) t.isLt)).2.1 y + ((part11 D X A U W V Z S t (y 0) (y 1) : ℝ) : EReal) := by
  rw [outsAt1_B E c t h]; frame_out
  rw [blk1_1 E D hD, blk1_2 E A hA, blk1_3 E U hU, blk1_4 E W hW, blk1_5 E V hV, blk1_6 E Z hZ, blk1_7 E S hS, blk1_8 E X hX, ldS _ 0 0 rfl, ldS _ 1 1 rfl, ldS _ 2 2 rfl, last9, last10, last11, last12, last13, last16, last20, pay7, pay8, pay9, pay10, pay11, pay14, pay18, pay21, pay23, pay2]; rfl
end
end Cert.FfnIdeal.Value
-- ==== Proof.FfnSums1.lean ====
module

public import proofs.«01_k».proof.Proof.FfnTiles1

@[expose] public section

/-! What the last call of the feed-forward block's gradients leaves in its five results. -/

set_option maxRecDepth 16384
noncomputable section
namespace Cert.FfnIdeal.Value
open Idealize.ShloMosaic Idealize.ShloMosaic.TcCoe Idealize.SL.Sem Cert.Lift
local notation "F32 " s:max => FVec Ideal s FTy.f32
open Idealize.ShloMosaic.Pipeline (Dat)
open Cert.FfnIdeal Cert.FfnIdeal.Gen Cert.FfnIdeal.Pay

/-- The last grid point. -/
def last1 : Fin cfg1.N := ⟨15, by rw [show cfg1.N = 16 from N_1]; decide⟩
/-- The sixteen blocks hold all rows. -/
theorem rows_all (F : Fin 8192 → ℝ) : ∑ r, F r = ∑ t : Fin cfg1.N, ∑ r, F (row1 t r) := by
  refine (Fin.sum_univ_tiles 16 512 rfl F).trans ?_
  exact Fintype.sum_equiv (finCongr N_1.symm) _ _ fun t => rfl
theorem rows_eight (F : Fin 8192 → ℝ) : ∑ r, F r = ∑ k : Fin 8, ∑ t : Fin cfg1.N, ∑ i : Fin 64, F (row1 t (row8 i k)) := by
  rw [rows_all]
  refine Eq.trans ?_ Finset.sum_comm
  exact Finset.sum_congr rfl fun t _ => ((Fin.sum_univ_tiles 64 8 rfl fun r : Fin 512 => F (row1 t r)).trans Finset.sum_comm)

section
variable (E : (c : Dev nD) → (b : Ref sig .tc) → Buf (Elt Ideal) ((c : Thread nD τ).loc b))
   (XN D X : Fin 8192 → Fin 1024 → ℝ) (A U : Fin 4 → Fin 8192 → Fin 704 → ℝ) (W V Z : Fin 4 → Fin 704 → Fin 1024 → ℝ)
   (S : Fin 3 → Fin 8192 → Fin 1024 → ℝ) (g : Fin 1024 → ℝ)
   (hXN : ∀ c : Dev nD, E c main_v29 = (Cv (u2 XN) : FVec Ideal S8192x1024 .bf16))
   (hD : ∀ c : Dev nD, E c main_arg0 = (Cv (u2 D) : F32 S8192x1024))
   (hA : ∀ c : Dev nD, E c main_v16 = (Cv (u3 A) : FVec Ideal S4x8192x704 .bf16))
   (hU : ∀ c : Dev nD, E c main_v20 = (Cv (u3 U) : FVec Ideal S4x8192x704 .bf16))
   (hW : ∀ c : Dev nD, E c main_v23 = (Cv (u4 fun _ => W) : FVec Ideal S1x4x704x1024 .bf16))
   (hV : ∀ c : Dev nD, E c main_v26 = (Cv (u4 fun _ => V) : FVec Ideal S1x4x704x1024 .bf16))
   (hZ : ∀ c : Dev nD, E c main_v28 = (Cv (u4 fun _ => Z) : FVec Ideal S1x4x704x1024 .bf16))
   (hS : ∀ c : Dev nD, E c main_v30_3 = (Cv (u3 S) : FVec Ideal S3x8192x1024 .bf16))
   (hX : ∀ c : Dev nD, E c main_arg1 = (Cv (u2 X) : F32 S8192x1024))
   (hg : ∀ c : Dev nD, E c main_v31 = (Cv (u3 fun _ _ => g) : F32 S1x1x1024))
   (c : Dev nD)
include hXN in
include hXN hD hA hU hZ in
theorem run1_12 (t : Fin cfg1.N) (hr : t.val % 16 = 15) (y : S1x704x1024.Idx) :
    (outsAt1 E c t.val t.isLt).2.2.1 y = ((gateW XN D A U Z 8192 id 3 (y 1) (y 2) : ℝ) : EReal) := by
  have ht : t = last1 := Fin.ext (by have := lt_of_lt_of_eq t.isLt N_1; show t.val = 15; omega)
  subst ht
  refine (Pipeline.eq_sum_fin_of_reset_step_apply_last (M := EReal) (fun n h => (outsAt1 E c n h).2.2.1) 16 (fun _ => 0)
    (fun t y => ((gateW XN D A U Z 512 (row1 t) 3 (y 1) (y 2) : ℝ) : EReal))
    (fun t h y => out12_first E XN D A U Z hXN hD hA hU hZ c t h y) (fun t h y => out12_later E XN D A U Z hXN hD hA hU hZ c t h y) (le_of_eq N_1) last1 rfl y).trans ?_
  exact (zero_add (M := EReal) _).trans ((coe_sum _ _).symm.trans (congrArg Real.toEReal (rows_all (fun r => Ffn.dgate (D r) (Z 3) (A 3 r) (U 3 r) (y 1) * XN r (y 2))).symm))
include hXN hD hA hU hZ in
/-- The fourth chunk is written here, the others stay as they were. -/
theorem final1_12 (h0 : ∀ i : S4x704x1024.Idx, (i 0).val < 3 → E c main_v32_2 i = (Cv (u3 (gateW XN D A U Z 8192 id)) : F32 S4x704x1024) i) :
    (dat1 E c).arrAt 12 cfg1.N = (Cv (u3 (gateW XN D A U Z 8192 id)) : F32 S4x704x1024) := by
  refine (dat1 E c).arrAt_eq_of_coversWhere_of_agree 12 _ (fun β => β (0 : Fin 3) = 3) (by decide +kernel) (fun t hf y => ?_) (fun j hj => ?_)
  · blk_simp
    rw [after1_12]
    refine (run1_12 E XN D A U Z hXN hD hA hU hZ c t ((Gen.flush1_12 t).mp hf) _).trans ?_
    refine congrArg Real.toEReal (congr3 (gateW XN D A U Z 8192 id) (Fin.ext ?_) (Fin.ext ?_) (Fin.ext ?_)) <;> blk_simp [idx1 t] <;> first | rfl | omega
  · refine h0 _ ?_
    blk_simp [Pipeline.Window.cell_apply] at hj
    rw [Nat.div_one] at hj
    have := (j (0 : Fin 3)).isLt
    blk_simp at this
    blk_simp
    omega
include hXN hD hA hU hZ in
theorem run1_13 (t : Fin cfg1.N) (hr : t.val % 16 = 15) (y : S1x704x1024.Idx) :
    (outsAt1 E c t.val t.isLt).2.2.2.1 y = ((upW XN D A Z 8192 id 3 (y 1) (y 2) : ℝ) : EReal) := by
  have ht : t = last1 := Fin.ext (by have := lt_of_lt_of_eq t.isLt N_1; show t.val = 15; omega)
  subst ht
  refine (Pipeline.eq_sum_fin_of_reset_step_apply_last (M := EReal) (fun n h => (outsAt1 E c n h).2.2.2.1) 16 (fun _ => 0)
    (fun t y => ((upW XN D A Z 512 (row1 t) 3 (y 1) (y 2) : ℝ) : EReal))
    (fun t h y => out13_first E XN D A U Z hXN hD hA hU hZ c t h y) (fun t h y => out13_later E XN D A U Z hXN hD hA hU hZ c t h y) (le_of_eq N_1) last1 rfl y).trans ?_
  exact (zero_add (M := EReal) _).trans ((coe_sum _ _).symm.trans (congrArg Real.toEReal (rows_all (fun r => Ffn.dup (D r) (Z 3) (A 3 r) (y 1) * XN r (y 2))).symm))
include hXN hD hA hU hZ in
/-- The fourth chunk is written here, the others stay as they were. -/
theorem final1_13 (h0 : ∀ i : S4x704x1024.Idx, (i 0).val < 3 → E c main_v32_3 i = (Cv (u3 (upW XN D A Z 8192 id)) : F32 S4x704x1024) i) :
    (dat1 E c).arrAt 13 cfg1.N = (Cv (u3 (upW XN D A Z 8192 id)) : F32 S4x704x1024) := by
  refine (dat1 E c).arrAt_eq_of_coversWhere_of_agree 13 _ (fun β => β (0 : Fin 3) = 3) (by decide +kernel) (fun t hf y => ?_) (fun j hj => ?_)
  · blk_simp
    rw [after1_13]
    refine (run1_13 E XN D A U Z hXN hD hA hU hZ c t ((Gen.flush1_13 t).mp hf) _).trans ?_
    refine congrArg Real.toEReal (congr3 (upW XN D A Z 8192 id) (Fin.ext ?_) (Fin.ext ?_) (Fin.ext ?_)) <;> blk_simp [idx1 t] <;> first | rfl | omega
  · refine h0 _ ?_
    blk_simp [Pipeline.Window.cell_apply] at hj
    rw [Nat.div_one] at hj
    have := (j (0 : Fin 3)).isLt
    blk_simp at this
    blk_simp
    omega
include hXN hD hA hU hZ in
theorem run1_14 (t : Fin cfg1.N) (hr : t.val % 16 = 15) (y : S1x704x1024.Idx) :
    (outsAt1 E c t.val t.isLt).2.2.2.2 y = ((downW D A U 8192 id 3 (y 1) (y 2) : ℝ) : EReal) := by
  have ht : t = last1 := Fin.ext (by have := lt_of_lt_of_eq t.isLt N_1; show t.val = 15; omega)
  subst ht
  refine (Pipeline.eq_sum_fin_of_reset_step_apply_last (M := EReal) (fun n h => (outsAt1 E c n h).2.2.2.2) 16 (fun _ => 0)
    (fun t y => ((downW D A U 512 (row1 t) 3 (y 1) (y 2) : ℝ) : EReal))
    (fun t h y => out14_first E XN D A U Z hXN hD hA hU hZ c t h y) (fun t h y => out14_later E XN D A U Z hXN hD hA hU hZ c t h y) (le_of_eq N_1) last1 rfl y).trans ?_
  exact (zero_add (M := EReal) _).trans ((coe_sum _ _).symm.trans (congrArg Real.toEReal (rows_all (fun r => Ffn.hid (A 3 r) (U 3 r) (y 1) * (1 / 2 * D r (y 2)))).symm))
include hXN hD hA hU hZ in
/-- The fourth chunk is written here, the others stay as they were. -/
theorem final1_14 (h0 : ∀ i : S4x704x1024.Idx, (i 0).val < 3 → E c main_v32_4 i = (Cv (u3 (downW D A U 8192 id)) : F32 S4x704x1024) i) :
    (dat1 E c).arrAt 14 cfg1.N = (Cv (u3 (downW D A U 8192 id)) : F32 S4x704x1024) := by
  refine (dat1 E c).arrAt_eq_of_coversWhere_of_agree 14 _ (fun β => β (0 : Fin 3) = 3) (by decide +kernel) (fun t hf y => ?_) (fun j hj => ?_)
  · blk_simp
    rw [after1_14]
    refine (run1_14 E XN D A U Z hXN hD hA hU hZ c t ((Gen.flush1_14 t).mp hf) _).trans ?_
    refine congrArg Real.toEReal (congr3 (downW D A U 8192 id) (Fin.ext ?_) (Fin.ext ?_) (Fin.ext ?_)) <;> blk_simp [idx1 t] <;> first | rfl | omega
  · refine h0 _ ?_
    blk_simp [Pipeline.Window.cell_apply] at hj
    rw [Nat.div_one] at hj
    have := (j (0 : Fin 3)).isLt
    blk_simp at this
    blk_simp
    omega
include hD hA hU hW hV hZ hS hX hg in
theorem final1_10 : (dat1 E c).arrAt 10 cfg1.N = (Cv (u2 fun r j => D r j + rmsBwd (X r) (fun j => cot D A U W V Z S r j * g j) j) : F32 S8192x1024) := by
  refine (dat1 E c).arrAt_eq_of_covers 10 _ (by decide +kernel) fun t hf y => ?_
  blk_simp
  rw [after1_10, out10_1 E D X A U W V Z S g hD hA hU hW hV hZ hS hX hg c t]
  refine congrArg Real.toEReal (congrArg₂ (fun r j => D r j + rmsBwd (X r) (fun j => cot D A U W V Z S r j * g j) j) (Fin.ext ?_) (Fin.ext ?_)) <;> blk_simp [idx1 t] <;> simp only [row1]
include hD hA hU hW hV hZ hS hX in
theorem final1_11 : (dat1 E c).arrAt 11 cfg1.N = (Cv (u2 fun k j => ∑ t : Fin cfg1.N, part11 D X A U W V Z S t k j) : F32 S8x1024) := by
  refine (dat1 E c).arrAt_eq_of_after_last 11 last1 (by decide +kernel) _ fun j => ?_
  blk_simp
  rw [after1_11, Pipeline.eq_sum_fin_of_reset_step_apply_last (M := EReal) (fun n h => (outsAt1 E c n h).2.1) 16 (fun _ => 0)
    (fun t y => ((part11 D X A U W V Z S t (y 0) (y 1) : ℝ) : EReal))
    (fun t h y => out11_first E D X A U W V Z S hD hA hU hW hV hZ hS hX c t h y) (fun t h y => out11_later E D X A U W V Z S hD hA hU hW hV hZ hS hX c t h y) (le_of_eq N_1) last1 rfl j]
  exact (zero_add (M := EReal) _).trans (coe_sum _ _).symm
end
end Cert.FfnIdeal.Value
-- ==== Proof.FfnHost.lean ====
module

public import proofs.«01_k».proof.Proof.FfnSums1
public import proofs.«01_k».proof.Proof.HostRef

@[expose] public section

/-! What the host prepares for the feed-forward block's gradients: the normalised rows, both projections and the weights, cut
    into four chunks of hidden columns. -/

set_option maxRecDepth 16384
noncomputable section
namespace Cert.Lift
open Idealize.ShloMosaic ValueIdx
/-- Rows cut into groups of `b`, under a leading axis of one. -/
theorem cast2_4r {a b c n : ℕ} (f : Fin n → Fin c → ℝ) (hn : n = a * b) (h) :
    shapeCast ⟨4, ![1, a, b, c]⟩ (u2 f) h
      = u4 fun _ i k j => f ⟨i.val * b + k.val, by have := i.isLt; have := k.isLt; nlinarith⟩ j := by
  subst hn
  refine u4_ext _ _ fun u i k j => ?_
  refine (shapeCast_apply _ h _ (ValueIdx.ix2 ⟨i.val * b + k.val, by have := i.isLt; have := k.isLt; nlinarith⟩ j) ?_).trans rfl
  rw [Shape.rowMajor_val_four, Shape.rowMajor_val_two]
  show (i.val * b + k.val) * c + j.val = ((u.val * a + i.val) * b + k.val) * c + j.val
  rw [show u.val = 0 by omega]; simp
end Cert.Lift
namespace Cert.FfnIdeal.Value
open Idealize.ShloMosaic Idealize.ShloMosaic.TcCoe Idealize.SL.Sem Cert.Lift
open Cert.FfnIdeal Cert.FfnIdeal.Gen Cert.FfnIdeal.Pay
local notation "F32 " s:max => FVec Ideal s FTy.f32
local notation "B16 " s:max => FVec Ideal s FTy.bf16

/-- Column `f` of chunk `q`. -/
def fcol (q : Fin 4) (f : Fin 704) : Fin 2816 := ⟨q.val * 704 + f.val, by omega⟩
variable (m : (ℓ : Loc nD τ sig) → Buf (Elt Ideal) ℓ) (ρ : Dev nD → PrngReg)
section
variable (D X : Fin 8192 → Fin 1024 → ℝ) (g : Fin 1024 → ℝ) (Wg Wu : Fin 1024 → Fin 2816 → ℝ) (Wd : Fin 2816 → Fin 1024 → ℝ)
   (hD : ∀ (c : Dev nD), m ((c.tc : Thread nD τ).loc main_arg0) = (Cv (u2 D) : F32 S8192x1024))
   (hX : ∀ (c : Dev nD), m ((c.tc : Thread nD τ).loc main_arg1) = (Cv (u2 X) : F32 S8192x1024))
   (hg : ∀ (c : Dev nD), m ((c.tc : Thread nD τ).loc main_arg2) = (Cv (u1 g) : F32 S1024))
   (hWg : ∀ (c : Dev nD), m ((c.tc : Thread nD τ).loc main_arg3) = (Cv (u2 Wg) : F32 S1024x2816))
   (hWu : ∀ (c : Dev nD), m ((c.tc : Thread nD τ).loc main_arg4) = (Cv (u2 Wu) : F32 S1024x2816))
   (hWd : ∀ (c : Dev nD), m ((c.tc : Thread nD τ).loc main_arg5) = (Cv (u2 Wd) : F32 S2816x1024))
   (c : Dev nD)
/-- The chunks of a projection's columns, and of the weights. -/
def proj (W : Fin 1024 → Fin 2816 → ℝ) (q : Fin 4) (r : Fin 8192) (f : Fin 704) : ℝ := Ffn.lin g (X r) W (fcol q f)
def cols (W : Fin 1024 → Fin 2816 → ℝ) (q : Fin 4) (f : Fin 704) (j : Fin 1024) : ℝ := W j (fcol q f)
def rows (W : Fin 2816 → Fin 1024 → ℝ) (q : Fin 4) (f : Fin 704) (j : Fin 1024) : ℝ := W (fcol q f) j
include hX hg in
theorem V_xn : V1 m ρ c main_v29 = (Cv (u2 fun r => nrm (X r) g) : B16 S8192x1024) := by
  show StableHlo.after hostOps0 (fun b => m (c, b)) (Proc.tc.devRef main_v29) = _
  unfold_abbrev_sides
  after_results
  rw [hX c, hg c]
  dsimp only [S8192x1024, S8192x1, S1x1024, S8192, S1024, S_]
  simp (disch := first | rfl | decide | norm_num1) only [k1024, keps, kzero, mulf_Cv, addf_Cv, reduceAdd_Cv0, broadcastInDim_Cv, bcast0_2, bcast1_2_0, bcast1_2_1, bcast2_row, bcast2_col, rsum2_1, u2_mul, u2_add, rsqrt_ms2, div_ms2, hdivf2, truncf_Cv]
  rfl
include hX hg hWg in
theorem V_a : V1 m ρ c main_v16 = (Cv (u3 (proj X g Wg)) : B16 S4x8192x704) := by
  show StableHlo.after hostOps0 (fun b => m (c, b)) (Proc.tc.devRef main_v16) = _
  unfold_abbrev_sides
  after_results
  rw [hX c, hg c, hWg c]
  refine (show _ = transpose S4x8192x704 [1, 0, 2] (shapeCast S8192x4x704 (truncf .bf16 (Host.dotGeneral dot_S8192x1024_S1024x2816_S8192x2816_1_0_0_1_n_n none _ (Cv (u2 Wg) : F32 S1024x2816) : F32 S8192x2816) bitsLt_bf16_f32)
    shapeCasts_S8192x2816_S8192x4x704) transposes_S8192x4x704_S4x8192x704_1_0_2 from rfl).trans ?_
  dsimp only [S8192x1024, S8192x1, S1x1024, S8192, S1024, S_, S1024x2816, S8192x2816, S8192x4x704, S4x8192x704]
  simp (disch := first | rfl | decide | norm_num1) only [k1024, keps, kzero, mulf_Cv, addf_Cv, reduceAdd_Cv0, broadcastInDim_Cv, bcast0_2, bcast1_2_0, bcast1_2_1, bcast2_row, bcast2_col, rsum2_1, u2_mul, u2_add, rsqrt_ms2, div_ms2, hdivf2, hdot_Cv, rdot_nn, truncf_Cv, shapeCast_Cv, cast2_3c, transpose_Cv, trans3]
  rfl
include hX hg hWu in
theorem V_u : V1 m ρ c main_v20 = (Cv (u3 (proj X g Wu)) : B16 S4x8192x704) := by
  show StableHlo.after hostOps0 (fun b => m (c, b)) (Proc.tc.devRef main_v20) = _
  unfold_abbrev_sides
  after_results
  rw [hX c, hg c, hWu c]
  refine (show _ = transpose S4x8192x704 [1, 0, 2] (shapeCast S8192x4x704 (truncf .bf16 (Host.dotGeneral dot_S8192x1024_S1024x2816_S8192x2816_1_0_0_1_n_n none _ (Cv (u2 Wu) : F32 S1024x2816) : F32 S8192x2816) bitsLt_bf16_f32)
    shapeCasts_S8192x2816_S8192x4x704) transposes_S8192x4x704_S4x8192x704_1_0_2 from rfl).trans ?_
  dsimp only [S8192x1024, S8192x1, S1x1024, S8192, S1024, S_, S1024x2816, S8192x2816, S8192x4x704, S4x8192x704]
  simp (disch := first | rfl | decide | norm_num1) only [k1024, keps, kzero, mulf_Cv, addf_Cv, reduceAdd_Cv0, broadcastInDim_Cv, bcast0_2, bcast1_2_0, bcast1_2_1, bcast2_row, bcast2_col, rsum2_1, u2_mul, u2_add, rsqrt_ms2, div_ms2, hdivf2, hdot_Cv, rdot_nn, truncf_Cv, shapeCast_Cv, cast2_3c, transpose_Cv, trans3]
  rfl
include hWg in
theorem V_wg : V1 m ρ c main_v23 = (Cv (u4 fun _ => cols Wg) : B16 S1x4x704x1024) := by
  show StableHlo.after hostOps0 (fun b => m (c, b)) (Proc.tc.devRef main_v23) = _
  unfold_abbrev_sides
  after_results
  rw [hWg c]
  refine (show _ = shapeCast S1x4x704x1024 (transpose S2816x1024 [1, 0] (Cv (u2 Wg) : B16 S1024x2816) transposes_S1024x2816_S2816x1024_1_0) shapeCasts_S2816x1024_S1x4x704x1024 from rfl).trans ?_
  dsimp only [S1024x2816, S2816x1024, S1x4x704x1024]
  simp (disch := first | rfl | decide) only [transpose_Cv, trans2, shapeCast_Cv, cast2_4r]
  rfl
include hWu in
theorem V_wu : V1 m ρ c main_v26 = (Cv (u4 fun _ => cols Wu) : B16 S1x4x704x1024) := by
  show StableHlo.after hostOps0 (fun b => m (c, b)) (Proc.tc.devRef main_v26) = _
  unfold_abbrev_sides
  after_results
  rw [hWu c]
  refine (show _ = shapeCast S1x4x704x1024 (transpose S2816x1024 [1, 0] (Cv (u2 Wu) : B16 S1024x2816) transposes_S1024x2816_S2816x1024_1_0) shapeCasts_S2816x1024_S1x4x704x1024 from rfl).trans ?_
  dsimp only [S1024x2816, S2816x1024, S1x4x704x1024]
  simp (disch := first | rfl | decide) only [transpose_Cv, trans2, shapeCast_Cv, cast2_4r]
  rfl
include hWd in
theorem V_wd : V1 m ρ c main_v28 = (Cv (u4 fun _ => rows Wd) : B16 S1x4x704x1024) := by
  show StableHlo.after hostOps0 (fun b => m (c, b)) (Proc.tc.devRef main_v28) = _
  unfold_abbrev_sides
  after_results
  rw [hWd c]
  refine (show _ = shapeCast S1x4x704x1024 (Cv (u2 Wd) : B16 S2816x1024) shapeCasts_S2816x1024_S1x4x704x1024 from rfl).trans ?_
  dsimp only [S2816x1024, S1x4x704x1024]
  simp (disch := first | rfl | decide) only [shapeCast_Cv, cast2_4r]
  rfl
include hD in
theorem V_d : V1 m ρ c main_arg0 = (Cv (u2 D) : F32 S8192x1024) := (W1_args m ρ c main_arg0 (by decide)).trans (hD c)
end
end Cert.FfnIdeal.Value
-- ==== Proof.FfnRun.lean ====
module

public import proofs.«01_k».proof.Proof.Gen.FfnIdeal.Frame

@[expose] public section

/-! The run of the feed-forward block's gradients with everything it leaves: each buffer ends at its contents after the last
    stretch of host operations. -/

set_option maxRecDepth 16384
noncomputable section
namespace Cert.FfnIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- From any memory the run ends, and every buffer outside the regions holds what the last stretch leaves. -/
theorem run_all : θ_run defs (onTc (τ := τ) (main (F := F))) ⟨m, fun _ => 0, ρ⟩ (fun r => ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)
end Cert.FfnIdeal.Value
-- ==== Proof.FfnKernel.lean ====
module

public import proofs.«01_k».proof.Proof.FfnHost
public import proofs.«01_k».proof.Proof.FfnRun

@[expose] public section

/-! The five results of the feed-forward block's gradients, as the two calls and the host leave them. -/

set_option maxRecDepth 16384
noncomputable section
namespace Cert.FfnIdeal.Value
open Idealize.ShloMosaic Idealize.ShloMosaic.TcCoe Idealize.SL.Sem Cert.Lift
local notation "F32 " s:max => FVec Ideal s FTy.f32
open Cert.FfnIdeal Cert.FfnIdeal.Gen Cert.FfnIdeal.Pay

/-- The chunks hold all columns. -/
theorem sum_cols (F : Fin 2816 → ℝ) : ∑ f, F f = ∑ q : Fin 4, ∑ f, F (fcol q f) := Fin.sum_univ_tiles 4 704 rfl F
theorem fcol_div (f : Fin 2816) (h h') : fcol ⟨f.val / 704, h⟩ ⟨f.val % 704, h'⟩ = f := Fin.ext (Nat.div_add_mod' _ _)
variable (m : (ℓ : Loc nD τ sig) → Buf (Elt Ideal) ℓ) (ρ : Dev nD → PrngReg)
/-- What neither the first call nor the host after it writes. -/
theorem keep (c : Dev nD) (r : Ref sig .tc) (h1 : r ∉ hostOps1_W) (h2 : ∀ w : Fin cfg0.W, Pipeline.arrRef spec0 w = r → (cfg0.win w).isOut = false) : V3 m ρ c r = V1 m ρ c r :=
  (W3_of m ρ c r h1).trans (W2_of m ρ c r h2)
section
variable (D X : Fin 8192 → Fin 1024 → ℝ) (g : Fin 1024 → ℝ) (Wg Wu : Fin 1024 → Fin 2816 → ℝ) (Wd : Fin 2816 → Fin 1024 → ℝ)
   (hD : ∀ (c : Dev nD), m ((c.tc : Thread nD τ).loc main_arg0) = (Cv (u2 D) : F32 S8192x1024))
   (hX : ∀ (c : Dev nD), m ((c.tc : Thread nD τ).loc main_arg1) = (Cv (u2 X) : F32 S8192x1024))
   (hg : ∀ (c : Dev nD), m ((c.tc : Thread nD τ).loc main_arg2) = (Cv (u1 g) : F32 S1024))
   (hWg : ∀ (c : Dev nD), m ((c.tc : Thread nD τ).loc main_arg3) = (Cv (u2 Wg) : F32 S1024x2816))
   (hWu : ∀ (c : Dev nD), m ((c.tc : Thread nD τ).loc main_arg4) = (Cv (u2 Wu) : F32 S1024x2816))
   (hWd : ∀ (c : Dev nD), m ((c.tc : Thread nD τ).loc main_arg5) = (Cv (u2 Wd) : F32 S2816x1024))
   (c : Dev nD)
/-- The parts of the rows' cotangent the first call leaves. -/
def slab (k : Fin 3) (r : Fin 8192) (j : Fin 1024) : ℝ :=
  part (cols Wg (k.castLE (by decide))) (cols Wu (k.castLE (by decide))) (rows Wd (k.castLE (by decide))) (D r) (proj X g Wg (k.castLE (by decide)) r) (proj X g Wu (k.castLE (by decide)) r) j
theorem cot_eq (r : Fin 8192) (j : Fin 1024) : cot D (proj X g Wg) (proj X g Wu) (cols Wg) (cols Wu) (rows Wd) (slab D X g Wg Wu Wd) r j = Ffn.dxn g Wg Wu Wd (D r) (X r) j := by
  simp only [Ffn.dxn, sum_cols, Fin.sum_univ_four]
  have e : ∀ q : Fin 4, part (cols Wg q) (cols Wu q) (rows Wd q) (D r) (proj X g Wg q r) (proj X g Wu q r) j
      = (∑ f, Ffn.dgate (D r) Wd (Ffn.lin g (X r) Wg) (Ffn.lin g (X r) Wu) (fcol q f) * Wg j (fcol q f)) + ∑ f, Ffn.dup (D r) Wd (Ffn.lin g (X r) Wg) (fcol q f) * Wu j (fcol q f) := fun q => rfl
  have e' : ∀ k : Fin 3, slab D X g Wg Wu Wd k r j = part (cols Wg (k.castLE (by decide))) (cols Wu (k.castLE (by decide))) (rows Wd (k.castLE (by decide))) (D r) (proj X g Wg (k.castLE (by decide)) r) (proj X g Wu (k.castLE (by decide)) r) j := fun k => rfl
  rw [cot, e', e', e', e, e, e, e]
  show (∑ f, Ffn.dgate (D r) Wd _ _ (fcol 3 f) * Wg j (fcol 3 f)) + (∑ f, Ffn.dup (D r) Wd _ (fcol 3 f) * Wu j (fcol 3 f))
    + ((∑ f, Ffn.dgate (D r) Wd _ _ (fcol 0 f) * Wg j (fcol 0 f)) + ∑ f, Ffn.dup (D r) Wd _ (fcol 0 f) * Wu j (fcol 0 f))
    + ((∑ f, Ffn.dgate (D r) Wd _ _ (fcol 1 f) * Wg j (fcol 1 f)) + ∑ f, Ffn.dup (D r) Wd _ (fcol 1 f) * Wu j (fcol 1 f))
    + ((∑ f, Ffn.dgate (D r) Wd _ _ (fcol 2 f) * Wg j (fcol 2 f)) + ∑ f, Ffn.dup (D r) Wd _ (fcol 2 f) * Wu j (fcol 2 f)) = _
  ring
theorem gateW_eq (k : Fin 1024) (f : Fin 2816) (h h') : gateW (fun r => nrm (X r) g) D (proj X g Wg) (proj X g Wu) (rows Wd) 8192 id ⟨f.val / 704, h⟩ ⟨f.val % 704, h'⟩ k = Ffn.dWg g Wg Wu Wd D X k f := by
  show ∑ r, Ffn.dgate (D r) Wd (Ffn.lin g (X r) Wg) (Ffn.lin g (X r) Wu) (fcol ⟨f.val / 704, h⟩ ⟨f.val % 704, h'⟩) * nrm (X r) g k = _
  rw [fcol_div]; rfl
theorem upW_eq (k : Fin 1024) (f : Fin 2816) (h h') : upW (fun r => nrm (X r) g) D (proj X g Wg) (rows Wd) 8192 id ⟨f.val / 704, h⟩ ⟨f.val % 704, h'⟩ k = Ffn.dWu g Wg Wd D X k f := by
  show ∑ r, Ffn.dup (D r) Wd (Ffn.lin g (X r) Wg) (fcol ⟨f.val / 704, h⟩ ⟨f.val % 704, h'⟩) * nrm (X r) g k = _
  rw [fcol_div]; rfl
theorem downW_eq (j : Fin 1024) (f : Fin 2816) (h h') : downW D (proj X g Wg) (proj X g Wu) 8192 id ⟨f.val / 704, h⟩ ⟨f.val % 704, h'⟩ j = Ffn.dWd g Wg Wu D X f j := by
  show ∑ r, Ffn.hid (Ffn.lin g (X r) Wg) (Ffn.lin g (X r) Wu) (fcol ⟨f.val / 704, h⟩ ⟨f.val % 704, h'⟩) * (1 / 2 * D r j) = _
  rw [fcol_div]; rfl
include hD hX hg hWg hWu hWd in
theorem V_slab : V3 m ρ c main_v30_3 = (Cv (u3 (slab D X g Wg Wu Wd)) : FVec Ideal S3x8192x1024 .bf16) :=
  (W3_of m ρ c main_v30_3 (by decide)).trans ((W2_arr m ρ c 10).trans (final0_10 (V1 m ρ) D (proj X g Wg) (proj X g Wu) (cols Wg) (cols Wu) (rows Wd)
    (V_d m ρ D hD) (V_a m ρ X g Wg hX hg hWg) (V_u m ρ X g Wu hX hg hWu) (V_wg m ρ Wg hWg) (V_wu m ρ Wu hWu) (V_wd m ρ Wd hWd) c))
include hg in
theorem V_scale : V3 m ρ c main_v31 = (Cv (u3 fun _ _ => g) : F32 S1x1x1024) := by
  have e := (W2_args m ρ c main_arg2 (by decide)).trans (hg c)
  show StableHlo.after hostOps1 (W2 m ρ c) (Proc.tc.devRef main_v31) = _
  unfold_abbrev_sides
  after_results
  rw [e]; exact congrArg Cv (cast1_3 g _)
include hD hX hg hWg hWu hWd in
theorem V_part7 (i : S4x704x1024.Idx) (hi : (i 0).val < 3) : V3 m ρ c main_v32_2 i = (Cv (u3 (gateW (fun r => nrm (X r) g) D (proj X g Wg) (proj X g Wu) (rows Wd) 8192 id)) : F32 S4x704x1024) i := by
  have e : W2 m ρ c (Proc.devRef .tc main_v30_0) = (dat0 (V1 m ρ) c).arrAt 7 cfg0.N := W2_arr m ρ c 7
  refine Eq.trans ?_ (final0_7 (V1 m ρ) (fun r => nrm (X r) g) D (proj X g Wg) (proj X g Wu) (rows Wd)
    (V_xn m ρ X g hX hg) (V_d m ρ D hD) (V_a m ρ X g Wg hX hg hWg) (V_u m ρ X g Wu hX hg hWu) (V_wd m ρ Wd hWd) c i hi)
  refine congrFun (?_ : V3 m ρ c main_v32_2 = _) i
  show StableHlo.after hostOps1 (W2 m ρ c) (Proc.tc.devRef main_v32_2) = _
  unfold_abbrev_sides
  after_results
  exact e
include hD hX hg hWg hWu hWd in
theorem V_part8 (i : S4x704x1024.Idx) (hi : (i 0).val < 3) : V3 m ρ c main_v32_3 i = (Cv (u3 (upW (fun r => nrm (X r) g) D (proj X g Wg) (rows Wd) 8192 id)) : F32 S4x704x1024) i := by
  have e : W2 m ρ c (Proc.devRef .tc main_v30_1) = (dat0 (V1 m ρ) c).arrAt 8 cfg0.N := W2_arr m ρ c 8
  refine Eq.trans ?_ (final0_8 (V1 m ρ) (fun r => nrm (X r) g) D (proj X g Wg) (proj X g Wu) (rows Wd)
    (V_xn m ρ X g hX hg) (V_d m ρ D hD) (V_a m ρ X g Wg hX hg hWg) (V_u m ρ X g Wu hX hg hWu) (V_wd m ρ Wd hWd) c i hi)
  refine congrFun (?_ : V3 m ρ c main_v32_3 = _) i
  show StableHlo.after hostOps1 (W2 m ρ c) (Proc.tc.devRef main_v32_3) = _
  unfold_abbrev_sides
  after_results
  exact e
include hD hX hg hWg hWu hWd in
theorem V_part9 (i : S4x704x1024.Idx) (hi : (i 0).val < 3) : V3 m ρ c main_v32_4 i = (Cv (u3 (downW D (proj X g Wg) (proj X g Wu) 8192 id)) : F32 S4x704x1024) i := by
  have e : W2 m ρ c (Proc.devRef .tc main_v30_2) = (dat0 (V1 m ρ) c).arrAt 9 cfg0.N := W2_arr m ρ c 9
  refine Eq.trans ?_ (final0_9 (V1 m ρ) (fun r => nrm (X r) g) D (proj X g Wg) (proj X g Wu) (rows Wd)
    (V_xn m ρ X g hX hg) (V_d m ρ D hD) (V_a m ρ X g Wg hX hg hWg) (V_u m ρ X g Wu hX hg hWu) (V_wd m ρ Wd hWd) c i hi)
  refine congrFun (?_ : V3 m ρ c main_v32_4 = _) i
  show StableHlo.after hostOps1 (W2 m ρ c) (Proc.tc.devRef main_v32_4) = _
  unfold_abbrev_sides
  after_results
  exact e
include hD hX hg hWg hWu hWd in
theorem W_12 : W4 m ρ c (Proc.devRef .tc main_v32_2) = (Cv (u3 (gateW (fun r => nrm (X r) g) D (proj X g Wg) (proj X g Wu) (rows Wd) 8192 id)) : F32 S4x704x1024) :=
  (W4_arr m ρ c 12).trans (final1_12 (V3 m ρ) (fun r => nrm (X r) g) D (proj X g Wg) (proj X g Wu) (rows Wd)
    (fun c => (keep m ρ c main_v29 (by decide) (by decide)).trans (V_xn m ρ X g hX hg c)) (fun c => (keep m ρ c main_arg0 (by decide) (by decide)).trans (V_d m ρ D hD c))
    (fun c => (keep m ρ c main_v16 (by decide) (by decide)).trans (V_a m ρ X g Wg hX hg hWg c)) (fun c => (keep m ρ c main_v20 (by decide) (by decide)).trans (V_u m ρ X g Wu hX hg hWu c))
    (fun c => (keep m ρ c main_v28 (by decide) (by decide)).trans (V_wd m ρ Wd hWd c)) c (V_part7 m ρ D X g Wg Wu Wd hD hX hg hWg hWu hWd c))
include hD hX hg hWg hWu hWd in
theorem W_13 : W4 m ρ c (Proc.devRef .tc main_v32_3) = (Cv (u3 (upW (fun r => nrm (X r) g) D (proj X g Wg) (rows Wd) 8192 id)) : F32 S4x704x1024) :=
  (W4_arr m ρ c 13).trans (final1_13 (V3 m ρ) (fun r => nrm (X r) g) D (proj X g Wg) (proj X g Wu) (rows Wd)
    (fun c => (keep m ρ c main_v29 (by decide) (by decide)).trans (V_xn m ρ X g hX hg c)) (fun c => (keep m ρ c main_arg0 (by decide) (by decide)).trans (V_d m ρ D hD c))
    (fun c => (keep m ρ c main_v16 (by decide) (by decide)).trans (V_a m ρ X g Wg hX hg hWg c)) (fun c => (keep m ρ c main_v20 (by decide) (by decide)).trans (V_u m ρ X g Wu hX hg hWu c))
    (fun c => (keep m ρ c main_v28 (by decide) (by decide)).trans (V_wd m ρ Wd hWd c)) c (V_part8 m ρ D X g Wg Wu Wd hD hX hg hWg hWu hWd c))
include hD hX hg hWg hWu hWd in
theorem W_14 : W4 m ρ c (Proc.devRef .tc main_v32_4) = (Cv (u3 (downW D (proj X g Wg) (proj X g Wu) 8192 id)) : F32 S4x704x1024) :=
  (W4_arr m ρ c 14).trans (final1_14 (V3 m ρ) (fun r => nrm (X r) g) D (proj X g Wg) (proj X g Wu) (rows Wd)
    (fun c => (keep m ρ c main_v29 (by decide) (by decide)).trans (V_xn m ρ X g hX hg c)) (fun c => (keep m ρ c main_arg0 (by decide) (by decide)).trans (V_d m ρ D hD c))
    (fun c => (keep m ρ c main_v16 (by decide) (by decide)).trans (V_a m ρ X g Wg hX hg hWg c)) (fun c => (keep m ρ c main_v20 (by decide) (by decide)).trans (V_u m ρ X g Wu hX hg hWu c))
    (fun c => (keep m ρ c main_v28 (by decide) (by decide)).trans (V_wd m ρ Wd hWd c)) c (V_part9 m ρ D X g Wg Wu Wd hD hX hg hWg hWu hWd c))
include hD hX hg hWg hWu hWd in
theorem W_10 : W4 m ρ c (Proc.devRef .tc main_v32_0) = (Cv (u2 (Ffn.dH g Wg Wu Wd D X)) : F32 S8192x1024) := by
  refine ((W4_arr m ρ c 10).trans (final1_10 (V3 m ρ) D X (proj X g Wg) (proj X g Wu) (cols Wg) (cols Wu) (rows Wd) (slab D X g Wg Wu Wd) g
    (fun c => (keep m ρ c main_arg0 (by decide) (by decide)).trans (V_d m ρ D hD c)) (fun c => (keep m ρ c main_v16 (by decide) (by decide)).trans (V_a m ρ X g Wg hX hg hWg c))
    (fun c => (keep m ρ c main_v20 (by decide) (by decide)).trans (V_u m ρ X g Wu hX hg hWu c)) (fun c => (keep m ρ c main_v23 (by decide) (by decide)).trans (V_wg m ρ Wg hWg c))
    (fun c => (keep m ρ c main_v26 (by decide) (by decide)).trans (V_wu m ρ Wu hWu c)) (fun c => (keep m ρ c main_v28 (by decide) (by decide)).trans (V_wd m ρ Wd hWd c))
    (V_slab m ρ D X g Wg Wu Wd hD hX hg hWg hWu hWd) (fun c => (W3_args m ρ c main_arg1 (by decide)).trans (hX c)) (V_scale m ρ g hg) c)).trans ?_
  refine congrArg Cv (congrArg u2 (funext fun r => funext fun j => ?_))
  simp only [cot_eq]; rfl
include hD hX hg hWg hWu hWd in
theorem W_11 : W4 m ρ c (Proc.devRef .tc main_v32_1) = (Cv (u2 fun k j => ∑ t : Fin cfg1.N, ∑ i : Fin 64,
    Ffn.dxn g Wg Wu Wd (D (row1 t (row8 i k))) (X (row1 t (row8 i k))) j * (X (row1 t (row8 i k)) j * rho (X (row1 t (row8 i k))))) : F32 S8x1024) := by
  refine ((W4_arr m ρ c 11).trans (final1_11 (V3 m ρ) D X (proj X g Wg) (proj X g Wu) (cols Wg) (cols Wu) (rows Wd) (slab D X g Wg Wu Wd)
    (fun c => (keep m ρ c main_arg0 (by decide) (by decide)).trans (V_d m ρ D hD c)) (fun c => (keep m ρ c main_v16 (by decide) (by decide)).trans (V_a m ρ X g Wg hX hg hWg c))
    (fun c => (keep m ρ c main_v20 (by decide) (by decide)).trans (V_u m ρ X g Wu hX hg hWu c)) (fun c => (keep m ρ c main_v23 (by decide) (by decide)).trans (V_wg m ρ Wg hWg c))
    (fun c => (keep m ρ c main_v26 (by decide) (by decide)).trans (V_wu m ρ Wu hWu c)) (fun c => (keep m ρ c main_v28 (by decide) (by decide)).trans (V_wd m ρ Wd hWd c))
    (V_slab m ρ D X g Wg Wu Wd hD hX hg hWg hWu hWd) (fun c => (W3_args m ρ c main_arg1 (by decide)).trans (hX c)) c)).trans ?_
  refine congrArg Cv (congrArg u2 (funext fun r => funext fun j => ?_))
  simp only [part11, cot_eq]
include hD hX hg hWg hWu hWd in
theorem runK : θ_run defs (onTc (τ := τ) (main (F := Ideal))) ⟨m, fun _ => 0, ρ⟩ fun r => ∀ c : Dev nD,
      r.2.mem ((c.tc : Thread nD τ).loc main_v32_0) = (Cv (u2 (Ffn.dH g Wg Wu Wd D X)) : F32 S8192x1024)
      ∧ r.2.mem ((c.tc : Thread nD τ).loc main_v33) = (Cv (u1 (Ffn.dG g Wg Wu Wd D X)) : F32 S1024)
      ∧ r.2.mem ((c.tc : Thread nD τ).loc main_v35) = (Cv (u2 (Ffn.dWg g Wg Wu Wd D X)) : F32 S1024x2816)
      ∧ r.2.mem ((c.tc : Thread nD τ).loc main_v37) = (Cv (u2 (Ffn.dWu g Wg Wd D X)) : F32 S1024x2816)
      ∧ r.2.mem ((c.tc : Thread nD τ).loc main_v38) = (Cv (u2 (Ffn.dWd g Wg Wu D X)) : F32 S2816x1024) := by
  refine (θ_run defs _ _).mono (fun r h c => ⟨((h c _ (mem_uc main_v32_0 (by decide))).trans (W5_of m ρ c main_v32_0 (by decide))).trans (W_10 m ρ D X g Wg Wu Wd hD hX hg hWg hWu hWd c),
    (h c _ (mem_uc main_v33 (by decide))).trans ?_, (h c _ (mem_uc main_v35 (by decide))).trans ?_, (h c _ (mem_uc main_v37 (by decide))).trans ?_, (h c _ (mem_uc main_v38 (by decide))).trans ?_⟩) (run_all m ρ)
  · have e := W_11 m ρ D X g Wg Wu Wd hD hX hg hWg hWu hWd c
    show StableHlo.after hostOps2 (W4 m ρ c) (Proc.tc.devRef main_v33) = _
    unfold_abbrev_sides
    after_results
    rw [e]
    refine (reduceAdd_Cv _ _ _ _ Ideal.ofBits_zero_f32).trans (congrArg Cv ?_)
    rw [rsum2_0 _ rfl]
    exact congrArg u1 (funext fun j => (rows_eight fun r => Ffn.dxn g Wg Wu Wd (D r) (X r) j * (X r j * rho (X r))).symm)
  · have e := W_12 m ρ D X g Wg Wu Wd hD hX hg hWg hWu hWd c
    show StableHlo.after hostOps2 (W4 m ρ c) (Proc.tc.devRef main_v35) = _
    unfold_abbrev_sides
    after_results
    rw [e]
    refine (show _ = transpose S1024x2816 [1, 0] (shapeCast S2816x1024 (Cv (u3 (gateW (fun r => nrm (X r) g) D (proj X g Wg) (proj X g Wu) (rows Wd) 8192 id)) : F32 S4x704x1024) shapeCasts_S4x704x1024_S2816x1024) transposes_S2816x1024_S1024x2816_1_0 from rfl).trans ?_
    dsimp only [S1024x2816, S2816x1024, S4x704x1024]
    simp (disch := first | rfl | decide | norm_num1) only [shapeCast_Cv, cast3_2r, transpose_Cv, trans2]
    exact congrArg Cv (congrArg u2 (funext fun k => funext fun f => gateW_eq D X g Wg Wu Wd k f _ _))
  · have e := W_13 m ρ D X g Wg Wu Wd hD hX hg hWg hWu hWd c
    show StableHlo.after hostOps2 (W4 m ρ c) (Proc.tc.devRef main_v37) = _
    unfold_abbrev_sides
    after_results
    rw [e]
    refine (show _ = transpose S1024x2816 [1, 0] (shapeCast S2816x1024 (Cv (u3 (upW (fun r => nrm (X r) g) D (proj X g Wg) (rows Wd) 8192 id)) : F32 S4x704x1024) shapeCasts_S4x704x1024_S2816x1024) transposes_S2816x1024_S1024x2816_1_0 from rfl).trans ?_
    dsimp only [S1024x2816, S2816x1024, S4x704x1024]
    simp (disch := first | rfl | decide | norm_num1) only [shapeCast_Cv, cast3_2r, transpose_Cv, trans2]
    exact congrArg Cv (congrArg u2 (funext fun k => funext fun f => upW_eq D X g Wg Wd k f _ _))
  · have e := W_14 m ρ D X g Wg Wu Wd hD hX hg hWg hWu hWd c
    show StableHlo.after hostOps2 (W4 m ρ c) (Proc.tc.devRef main_v38) = _
    unfold_abbrev_sides
    after_results
    rw [e]
    refine (show _ = shapeCast S2816x1024 (Cv (u3 (downW D (proj X g Wg) (proj X g Wu) 8192 id)) : F32 S4x704x1024) shapeCasts_S4x704x1024_S2816x1024 from rfl).trans ?_
    dsimp only [S2816x1024, S4x704x1024]
    simp (disch := first | rfl | decide | norm_num1) only [shapeCast_Cv, cast3_2r]
    exact congrArg Cv (congrArg u2 (funext fun f => funext fun j => downW_eq D X g Wg Wu j f _ _))
end
end Cert.FfnIdeal.Value
-- ==== Proof.FfnClaim.lean ====
module

public import proofs.«01_k».proof.Defs
public import proofs.«01_k».proof.Proof.Gen.Ffn.Frame
public import proofs.«01_k».proof.Proof.Gen.Pre_finite_ffn
public import proofs.«01_k».proof.Proof.FfnRef
public import proofs.«01_k».proof.Proof.FfnKernel
public import Idealize.ShloMosaic.Lib.Claim

@[expose] public section

/-! The claims of the feed-forward block's gradients, put together. -/

set_option maxRecDepth 16384
noncomputable section
namespace Cert.Ffn
open Idealize.ShloMosaic Idealize.ShloMosaic.TcCoe Idealize.SL.Sem Cert.Lift
local notation "F32 " s:max => FVec Ideal s FTy.f32

theorem frame_reference : Cert.quiescent_FfnRefIdeal := fun m g _ =>
  (θ_run _ _ _).mono (fun r h => ⟨fun c => (h c).2.2.2.2.2, sem_eq_zero_of_no_sems (by decide) r.2⟩) (Cert.FfnRefIdeal.Value.run m g)

/-- Both programs return the same gradients of the same real arguments. -/
theorem value : algebraic_FfnIdeal_FfnRefIdeal_pre_finite_ffn := by
  intro m g m' g' hpre hm
  have one (c : Dev 1) : c = 0 := Subsingleton.elim (α := Fin 1) c 0
  obtain ⟨h0, h1, h2, h3, h4, h5⟩ := hpre 0
  obtain ⟨D, e0⟩ := real2 _ h0
  obtain ⟨X, e1⟩ := real2 _ h1
  obtain ⟨G, e2⟩ := real1 _ h2
  obtain ⟨Wg, e3⟩ := real2 _ h3
  obtain ⟨Wu, e4⟩ := real2 _ h4
  obtain ⟨Wd, e5⟩ := real2 _ h5
  have a0 (c : Dev Cert.FfnIdeal.nD) : m (c.tc.loc Cert.FfnIdeal.main_arg0) = (Cv (u2 D) : F32 Cert.FfnIdeal.S8192x1024) := by
    rw [one c]; exact e0
  have a1 (c : Dev Cert.FfnIdeal.nD) : m (c.tc.loc Cert.FfnIdeal.main_arg1) = (Cv (u2 X) : F32 Cert.FfnIdeal.S8192x1024) := by
    rw [one c]; exact e1
  have a2 (c : Dev Cert.FfnIdeal.nD) : m (c.tc.loc Cert.FfnIdeal.main_arg2) = (Cv (u1 G) : F32 Cert.FfnIdeal.S1024) := by
    rw [one c]; exact e2
  have a3 (c : Dev Cert.FfnIdeal.nD) : m (c.tc.loc Cert.FfnIdeal.main_arg3) = (Cv (u2 Wg) : F32 Cert.FfnIdeal.S1024x2816) := by
    rw [one c]; exact e3
  have a4 (c : Dev Cert.FfnIdeal.nD) : m (c.tc.loc Cert.FfnIdeal.main_arg4) = (Cv (u2 Wu) : F32 Cert.FfnIdeal.S1024x2816) := by
    rw [one c]; exact e4
  have a5 (c : Dev Cert.FfnIdeal.nD) : m (c.tc.loc Cert.FfnIdeal.main_arg5) = (Cv (u2 Wd) : F32 Cert.FfnIdeal.S2816x1024) := by
    rw [one c]; exact e5
  refine ⟨fun _ => (Cv (u2 (Ffn.dH G Wg Wu Wd D X)) : F32 Cert.FfnIdeal.S8192x1024), fun _ => (Cv (u1 (Ffn.dG G Wg Wu Wd D X)) : F32 Cert.FfnIdeal.S1024), fun _ => (Cv (u2 (Ffn.dWg G Wg Wu Wd D X)) : F32 Cert.FfnIdeal.S1024x2816), fun _ => (Cv (u2 (Ffn.dWu G Wg Wd D X)) : F32 Cert.FfnIdeal.S1024x2816), fun _ => (Cv (u2 (Ffn.dWd G Wg Wu D X)) : F32 Cert.FfnIdeal.S2816x1024), ?_, ?_⟩
  · exact (θ_run _ _ _).mono (fun r h c => ⟨(h.1 c).1, (h.1 c).2.1, (h.1 c).2.2.1, (h.1 c).2.2.2.1, (h.1 c).2.2.2.2, h.2 c⟩)
      (θ_run_and (Cert.FfnIdeal.Value.runK m g D X G Wg Wu Wd a0 a1 a2 a3 a4 a5) (Cert.FfnIdeal.Gen.unchanged m g))
  · exact (θ_run _ _ _).mono (fun r h c => ⟨(h.1 c).1, (h.1 c).2.1, (h.1 c).2.2.1, (h.1 c).2.2.2.1, (h.1 c).2.2.2.2, (h.2 c).2.2.2.2.2⟩)
      (θ_run_and (Cert.FfnRefIdeal.Value.runR m' g' D X G Wg Wu Wd (fun c => (hm c).1.trans (a0 c)) (fun c => (hm c).2.1.trans (a1 c)) (fun c => (hm c).2.2.1.trans (a2 c)) (fun c => (hm c).2.2.2.1.trans (a3 c)) (fun c => (hm c).2.2.2.2.1.trans (a4 c)) (fun c => (hm c).2.2.2.2.2.trans (a5 c))) (Cert.FfnRefIdeal.Value.run m' g'))

end Cert.Ffn
-- ==== Proof.LruInSpec.lean ====
module

public import proofs.«01_k».proof.Proof.Rms
public import Idealize.ShloMosaic.Lib.Pipeline.ValueKit

@[expose] public section

/-! The gradients of the recurrence's first projection and its norm, over the reals: the incoming gradient goes back through
    the projection's weights and the normalisation of each row, and the residual's gradient is added. -/

noncomputable section
namespace Cert.LruIn
open Cert.Lift Idealize.ShloMosaic

variable {n : ℕ} (g : Fin 1024 → ℝ) (W : Fin 1024 → Fin 2560 → ℝ) (Z : Fin n → Fin 2560 → ℝ) (D X : Fin n → Fin 1024 → ℝ)

/-- The gradient of a row after the norm. -/
def dxn (z : Fin 2560 → ℝ) (j : Fin 1024) : ℝ := ∑ c, z c * W j c
/-- The gradient of the block's input. -/
def dH (r : Fin n) (j : Fin 1024) : ℝ := D r j + rmsBwd (X r) (fun j => dxn W (Z r) j * g j) j
/-- The gradient of the norm's scale. -/
def dG (j : Fin 1024) : ℝ := ∑ r, dxn W (Z r) j * (X r j * rho (X r))

/-- Column `k` of the `q`-th group of 640. -/
def col (q : Fin 4) (k : Fin 640) : Fin 2560 := ⟨q.val * 640 + k.val, by omega⟩
/-- The projection's sum goes group by group. -/
theorem dxn_groups (z : Fin 2560 → ℝ) (j : Fin 1024) :
    (∑ k, z (col 0 k) * W j (col 0 k)) + (∑ k, z (col 1 k) * W j (col 1 k)) + (∑ k, z (col 2 k) * W j (col 2 k)) + (∑ k, z (col 3 k) * W j (col 3 k)) = dxn W z j := by
  exact ((Fin.sum_univ_tiles 4 640 rfl fun c => z c * W j c).trans (Fin.sum_univ_four _)).symm

end Cert.LruIn
-- ==== Proof.LruInRef.lean ====
module

public import proofs.«01_k».proof.Proof.Gen.LruInRefIdeal.Run
public import proofs.«01_k».proof.Proof.Gen.LruInRefIdeal
public import Idealize.ShloMosaic.Lib.Pipeline.ValueKit
public import proofs.«01_k».proof.Proof.LruInSpec
public import proofs.«01_k».proof.Proof.HostRef

@[expose] public section

/-! The reference of the recurrence's first projection and its norm: its gradients as real functions of real arguments. -/

set_option maxRecDepth 16384
noncomputable section
namespace Cert.LruInRefIdeal.Value
open Cert.LruInRefIdeal Cert.LruInRefIdeal.Gen Idealize.ShloMosaic Idealize.ShloMosaic.TcCoe Idealize.SL.Sem Idealize.ShloMosaic.StableHlo
open Cert.Lift
variable (m : (ℓ : Loc nD τ sig) → Buf (Elt Ideal) ℓ)

theorem ty0 (c : Dev nD) : ((c.tc : Thread nD τ).loc main_arg0).ty = ⟨S8192x2560, .bf16⟩ := rfl
theorem ty1 (c : Dev nD) : ((c.tc : Thread nD τ).loc main_arg1).ty = ⟨S8192x1024, .f32⟩ := rfl
theorem ty2 (c : Dev nD) : ((c.tc : Thread nD τ).loc main_arg2).ty = ⟨S8192x1024, .f32⟩ := rfl
theorem ty3 (c : Dev nD) : ((c.tc : Thread nD τ).loc main_arg3).ty = ⟨S1024, .f32⟩ := rfl
theorem ty4 (c : Dev nD) : ((c.tc : Thread nD τ).loc main_arg4).ty = ⟨S1024x2560, .f32⟩ := rfl
theorem ty5 (c : Dev nD) : ((c.tc : Thread nD τ).loc main_v39).ty = ⟨S8192x1024, .f32⟩ := rfl
set_option maxHeartbeats 4000000
theorem runR (ρ : Dev nD → PrngReg)
   (Z : Fin 8192 → Fin 2560 → ℝ) (D X : Fin 8192 → Fin 1024 → ℝ) (g : Fin 1024 → ℝ) (W : Fin 1024 → Fin 2560 → ℝ)
   (hZ : ∀ (c : Dev nD), m ((c.tc : Thread nD τ).loc main_arg0) = (Cv (u2 Z) : FVec Ideal S8192x2560 .bf16))
   (hD : ∀ (c : Dev nD), m ((c.tc : Thread nD τ).loc main_arg1) = (Cv (u2 D) : FVec Ideal S8192x1024 .f32))
   (hX : ∀ (c : Dev nD), m ((c.tc : Thread nD τ).loc main_arg2) = (Cv (u2 X) : FVec Ideal S8192x1024 .f32))
   (hg : ∀ (c : Dev nD), m ((c.tc : Thread nD τ).loc main_arg3) = (Cv (u1 g) : FVec Ideal S1024 .f32))
   (hW : ∀ (c : Dev nD), m ((c.tc : Thread nD τ).loc main_arg4) = (Cv (u2 W) : FVec Ideal S1024x2560 .f32)) :
    θ_run defs (onTc (τ := τ) (main (F := Ideal))) ⟨m, fun _ => 0, ρ⟩ fun r => ∀ c : Dev nD,
      r.2.mem ((c.tc : Thread nD τ).loc main_v39) = (Cv (u2 (LruIn.dH g W Z D X)) : FVec Ideal S8192x1024 .f32)
      ∧ r.2.mem ((c.tc : Thread nD τ).loc main_v24) = (Cv (u1 (LruIn.dG W Z X)) : FVec Ideal S1024 .f32) := by
  have e1 : ∀ r j, (∑ c, Z r c * W j c) = LruIn.dxn W (Z r) j := fun _ _ => rfl
  refine (θ_run defs _ _).mono (fun r h c => ⟨(h c).1.trans ?_, (h c).2.1.trans ?_⟩) (run m ρ)
  · clear h; unfold res_main_v39; rw [hZ, hD, hX, hg, hW]
    dsimp only [ty0, ty1, ty2, ty3, ty4, ty5, S8192x1024, S8192x1, S1x1024, S8192, S1024, S_, S8192x2560, S1024x2560]
    simp (disch := first | rfl | decide | norm_num1) only [k1024, keps, kneghalf, kzero, extf_Cv, mulf_Cv, addf_Cv, reduceAdd_Cv0, broadcastInDim_Cv, shapeCast_Cv, bcast0_1, bcast0_2, bcast1_2_0, bcast1_2_1, bcast2_row, bcast2_col,
      cast1_col, cast1_row, cast2_same, rsum1, rsum2_1, rsum2_0, u1_mul, u2_mul, u2_add, rsqrt_ms2, div_ms2, hdivf2, hdot_Cv, rdot_nt]
    refine congrArg Cv (congrArg u2 (funext fun i => funext fun j => ?_))
    simp only [e1]
    exact rms_chain (X i) (fun j => LruIn.dxn W (Z i) j * g j) (D i j) j
  · clear h; rw [hZ, hX, hW]
    dsimp only [ty0, ty1, ty2, ty3, ty4, ty5, S8192x1024, S8192x1, S1x1024, S8192, S1024, S_, S8192x2560, S1024x2560]
    simp (disch := first | rfl | decide | norm_num1) only [k1024, keps, kneghalf, kzero, extf_Cv, mulf_Cv, addf_Cv, reduceAdd_Cv0, broadcastInDim_Cv, shapeCast_Cv, bcast0_1, bcast0_2, bcast1_2_0, bcast1_2_1, bcast2_row, bcast2_col,
      cast1_col, cast1_row, cast2_same, rsum1, rsum2_1, rsum2_0, u1_mul, u2_mul, u2_add, rsqrt_ms2, div_ms2, hdivf2, hdot_Cv, rdot_nt]
    refine congrArg Cv (congrArg u1 (funext fun j => ?_))
    simp only [e1]
    rw [Fin.sum_univ_one]
    exact Finset.sum_congr rfl fun r _ => mul_comm _ _
end Cert.LruInRefIdeal.Value
-- ==== Proof.LruInKernel.lean ====
module

public import proofs.«01_k».proof.Proof.Gen.LruInIdeal.Frame
public import proofs.«01_k».proof.Proof.LruInSpec
public import proofs.«01_k».proof.Proof.Shapes
public import Idealize.ShloMosaic.Lib.Pipeline.ValueKit
public import Idealize.ShloMosaic.Lib.Pipeline.ReadBack

@[expose] public section

/-! The kernel of the recurrence's first projection and its norm: one block of 512 rows per grid point writes its rows of
    the gradient and adds its part of the scale's gradient. -/

set_option maxRecDepth 16384
noncomputable section
namespace Cert.LruInIdeal.Value
open Idealize.ShloMosaic Idealize.ShloMosaic.TcCoe Idealize.SL.Sem Cert.Lift
local notation "F32 " s:max => FVec Ideal s FTy.f32
local notation "B16 " s:max => FVec Ideal s FTy.bf16
open Idealize.ShloMosaic.Pipeline (Dat)
open Cert.LruInIdeal Cert.LruInIdeal.Gen
variable (m : (ℓ : Loc nD τ sig) → Buf (Elt Ideal) ℓ)

open Cert.LruIn (col)

/-! ## The body's results on real blocks -/
section
variable (X D V : Fin 512 → Fin 1024 → ℝ) (g : Fin 1024 → ℝ) (Z : Fin 512 → Fin 2560 → ℝ) (W : Fin 1024 → Fin 2560 → ℝ)
theorem group (q : Fin 4) (h) : matmul (φ₁ := .bf16) (φ₂ := .bf16) dot_S512x640_S1024x640_S512x1024_1_1_0_0_n_n none (Cv (u2 fun r k => Z r (col q k)))
    (shapeCast ⟨2, ![1024, 640]⟩ (Cv (φ := .bf16) (u4 fun (_ : Fin 1) (_ : Fin 1) j k => W j (col q k))) h) (constant ⟨2, ![512, 1024]⟩ .f32 0#32)
    = Cv (u2 fun r j => ∑ k, Z r (col q k) * W j (col q k)) := by
  simp (disch := first | rfl | decide) only [shapeCast_Cv, cast4_2, matmul_Cv, rdot_nt]
theorem pay6 : k0_pay6 (F := Ideal) (Cv (φ := .bf16) (u2 fun r k => Z r (col 0 k))) (Cv (φ := .bf16) (u4 fun _ _ j k => W j (col 0 k)))
    (Cv (φ := .bf16) (u2 fun r k => Z r (col 1 k))) (Cv (φ := .bf16) (u4 fun _ _ j k => W j (col 1 k)))
    (Cv (φ := .bf16) (u2 fun r k => Z r (col 2 k))) (Cv (φ := .bf16) (u4 fun _ _ j k => W j (col 2 k)))
    (Cv (φ := .bf16) (u2 fun r k => Z r (col 3 k))) (Cv (φ := .bf16) (u4 fun _ _ j k => W j (col 3 k)))
    = Cv (u2 fun r => LruIn.dxn W (Z r)) := by
  dsimp only [k0_pay6, S512x1024, S1024x640]
  rw [group Z W 0, group Z W 1, group Z W 2, group Z W 3]
  simp only [addf_Cv, u2_add]
  exact congrArg Cv (congrArg u2 (funext fun r => funext fun j => LruIn.dxn_groups W (Z r) j))
theorem pay7 : k0_pay7 (F := Ideal) (Cv (φ := .f32) (u2 X)) = Cv (u2 fun r _ => (∑ k, X r k * X r k) / 1024) := by
  dsimp only [k0_pay7, S512x1024, S512x1, S512]
  simp (disch := first | rfl | decide | norm_num1) only [splat2 c1024, mulf_Cv, u2_mul, mred2_1, shapeCast_Cv, cast1_col, divf2]
theorem pay8 : k0_pay8 (F := Ideal) = Cv (u2 fun _ _ => 8796093 / 8796093022208) := by
  dsimp only [k0_pay8, S512x1]
  simp only [splat2 ceps]
theorem pay1 : k0_pay1 (F := Ideal) (Cv (φ := .f32) (u2 fun r _ => (∑ k, X r k * X r k) / 1024)) (Cv (φ := .f32) (u2 fun _ _ => 8796093 / 8796093022208)) = Cv (u2 fun r _ => rho (X r)) := by
  dsimp only [k0_pay1, S512x1]
  simp only [addf_Cv, u2_add, ms_fold]
theorem pay2 : k0_pay2 (F := Ideal) (Cv (φ := .f32) (u2 X)) (Cv (φ := .f32) (u2 fun r _ => (∑ k, X r k * X r k) / 1024)) (Cv (φ := .f32) (u2 fun _ _ => 8796093 / 8796093022208)) = Cv (u2 fun r j => X r j * rho (X r)) := by
  dsimp only [k0_pay2]
  rw [pay1]
  dsimp only [S512x1024, S512x1]
  simp only [broadcastTo_Cv, bto_col, mulf_Cv, u2_mul]
theorem pay3 : k0_pay3 (F := Ideal) (Cv (φ := .f32) (u2 V)) (Cv (φ := .f32) (u2 X)) (Cv (φ := .f32) (u2 fun r _ => (∑ k, X r k * X r k) / 1024)) (Cv (φ := .f32) (u2 fun _ _ => 8796093 / 8796093022208))
    (Cv (φ := .f32) (u3 fun _ _ => g)) (Cv (φ := .f32) (u2 D)) = Cv (u2 fun r j => D r j + rmsBwd (X r) (fun j => V r j * g j) j) := by
  dsimp only [k0_pay3]
  rw [pay1, pay2]
  dsimp only [S512x1024, S512x1, S512, S1x1024]
  simp (disch := first | rfl | decide | norm_num1) only [splat2 c1024, shapeCast_Cv, cast3_2', cast1_col, broadcastTo_Cv, bto_row, bto_col, mulf_Cv, u2_mul, mred2_1, divf2, subf_Cv, u2_sub, addf_Cv, u2_add]
  rfl
/-- Row `8 i + k` of a block of 512 rows. -/
def row8 (i : Fin 64) (k : Fin 8) : Fin 512 := ⟨i.val * 8 + k.val, by omega⟩
theorem pay5 (B : F32 S8x1024) (y : S8x1024.Idx) : k0_pay5 (F := Ideal) (Cv (φ := .f32) (u2 V)) (Cv (φ := .f32) (u2 X)) (Cv (φ := .f32) (u2 fun r _ => (∑ k, X r k * X r k) / 1024))
    (Cv (φ := .f32) (u2 fun _ _ => 8796093 / 8796093022208)) B y
    = B y + ((∑ i : Fin 64, V (row8 i (y 0)) (y 1) * (X (row8 i (y 0)) (y 1) * rho (X (row8 i (y 0)))) : ℝ) : EReal) := by
  dsimp only [k0_pay5]
  rw [pay2, cast_same]
  dsimp only [S512x1024, S64x8x1024, S8x1024]
  simp (disch := first | rfl | decide | norm_num1) only [shapeCast_Cv, mulf_Cv, u2_mul, cast2_3, mred3_0]
  rfl
end

theorem idx : ∀ t : Fin cfg0.N, win0_0.index t = ![t.val, 0] ∧ win0_1.index t = ![t.val, 0] ∧ win0_2.index t = ![0, 0, 0] ∧ win0_3.index t = ![t.val, 0]
    ∧ win0_4.index t = ![0, 0, 0, 0] ∧ win0_5.index t = ![t.val, 0] :=
  (by decide +kernel : ∀ t : Fin grid0.N, win0_0.index t = ![t.val, 0] ∧ win0_1.index t = ![t.val, 0] ∧ win0_2.index t = ![0, 0, 0] ∧ win0_3.index t = ![t.val, 0]
    ∧ win0_4.index t = ![0, 0, 0, 0] ∧ win0_5.index t = ![t.val, 0])

section
variable (Z : Fin 8192 → Fin 2560 → ℝ) (D X : Fin 8192 → Fin 1024 → ℝ) (g : Fin 1024 → ℝ) (W : Fin 1024 → Fin 2560 → ℝ)
   (hZ : ∀ (c : Dev nD), m ((c.tc : Thread nD τ).loc main_arg0) = (Cv (u2 Z) : B16 S8192x2560))
   (hD : ∀ (c : Dev nD), m ((c.tc : Thread nD τ).loc main_arg1) = (Cv (u2 D) : F32 S8192x1024))
   (hX : ∀ (c : Dev nD), m ((c.tc : Thread nD τ).loc main_arg2) = (Cv (u2 X) : F32 S8192x1024))
   (hg : ∀ (c : Dev nD), m ((c.tc : Thread nD τ).loc main_arg3) = (Cv (u1 g) : F32 S1024))
   (hW : ∀ (c : Dev nD), m ((c.tc : Thread nD τ).loc main_arg4) = (Cv (u2 W) : F32 S1024x2560))
   (c : Dev nD) (t : Fin cfg0.N)
include hZ in
theorem V_z : Gen.V m c main_arg0 = (Cv (u2 Z) : B16 S8192x2560) := by
  rw [V_main_arg0]; exact hZ c
include hD in
theorem V_d : Gen.V m c main_arg1 = (Cv (u2 D) : F32 S8192x1024) := by
  rw [V_main_arg1]; exact hD c
include hX in
theorem V_x : Gen.V m c main_arg2 = (Cv (u2 X) : F32 S8192x1024) := by
  rw [V_main_arg2]; exact hX c
include hg in
theorem V_g : Gen.V m c main_v4 = (Cv (u3 fun _ _ j => g j) : F32 S1x1x1024) := by
  show StableHlo.after hostOps0 (fun b => m (c, b)) (Proc.tc.devRef main_v4) = _
  unfold_abbrev_sides
  after_results
  rw [hg c]; exact congrArg Cv (cast1_3 g _)
include hW in
theorem V_w : Gen.V m c main_v3 = (Cv (u4 fun _ q j k => W j (col q k)) : B16 S1x4x1024x640) := by
  show StableHlo.after hostOps0 (fun b => m (c, b)) (Proc.tc.devRef main_v3) = _
  unfold_abbrev_sides
  after_results
  rw [hW c]
  refine (show _ = broadcastInDim S1x4x1024x640 ![1, 2, 3] bcast_S4x1024x640_S1x4x1024x640_1_2_3 (transpose S4x1024x640 [1, 0, 2] (shapeCast S1024x4x640 (Cv (u2 W) : B16 S1024x2560) shapeCasts_S1024x2560_S1024x4x640)
    transposes_S1024x4x640_S4x1024x640_1_0_2) from rfl).trans ?_
  dsimp only [S1024x2560, S1024x4x640, S4x1024x640]
  simp (disch := first | rfl | decide) only [shapeCast_Cv, cast2_3c, transpose_Cv, trans3]
  rw [broadcastInDim_Cv]; rfl
/-- Row `r` of block `t`. -/
def rowAt (r : Fin 512) : Fin 8192 := ⟨t.val * 512 + r.val, by have := lt_of_lt_of_eq t.isLt N_0; omega⟩
include hZ in
theorem blk0 : (iblk m c 0 t : B16 S512x2560) = (Cv (u2 fun r => Z (rowAt t r)) : B16 S512x2560) := by
  refine funext fun (y : S512x2560.Idx) => ?_
  unfold iblk
  rw [show Gen.V m c (Pipeline.arrRef spec0 0) = _ from V_z m Z hZ c]
  refine congrArg Real.toEReal (congrArg₂ Z (Fin.ext ?_) (Fin.ext ?_)) <;> blk_simp [idx t] <;> simp only [rowAt] <;> omega
include hX in
theorem blk1 : (iblk m c 1 t : F32 S512x1024) = (Cv (u2 fun r => X (rowAt t r)) : F32 S512x1024) := by
  refine funext fun (y : S512x1024.Idx) => ?_
  unfold iblk
  rw [show Gen.V m c (Pipeline.arrRef spec0 1) = _ from V_x m X hX c]
  refine congrArg Real.toEReal (congrArg₂ X (Fin.ext ?_) (Fin.ext ?_)) <;> blk_simp [idx t] <;> simp only [rowAt] <;> omega
include hg in
theorem blk2 : (iblk m c 2 t : F32 S1x1x1024) = (Cv (u3 fun _ _ => g) : F32 S1x1x1024) := by
  refine funext fun (y : S1x1x1024.Idx) => ?_
  unfold iblk
  rw [show Gen.V m c (Pipeline.arrRef spec0 2) = _ from V_g m g hg c]
  refine congrArg Real.toEReal (congrArg g (Fin.ext ?_))
  blk_simp [idx t]
include hD in
theorem blk3 : (iblk m c 3 t : F32 S512x1024) = (Cv (u2 fun r => D (rowAt t r)) : F32 S512x1024) := by
  refine funext fun (y : S512x1024.Idx) => ?_
  unfold iblk
  rw [show Gen.V m c (Pipeline.arrRef spec0 3) = _ from V_d m D hD c]
  refine congrArg Real.toEReal (congrArg₂ D (Fin.ext ?_) (Fin.ext ?_)) <;> blk_simp [idx t] <;> simp only [rowAt] <;> omega
theorem w_congr {q q' : Fin 4} {j j' : Fin 1024} {k k' : Fin 640} (hq : q = q') (hj : j = j') (hk : k = k') : W j (col q k) = W j' (col q' k') := by
  subst hq hj hk; rfl
include hW in
theorem blk4 : (iblk m c 4 t : B16 S1x4x1024x640) = (Cv (u4 fun _ q j k => W j (col q k)) : B16 S1x4x1024x640) := by
  refine funext fun (y : S1x4x1024x640.Idx) => ?_
  unfold iblk
  rw [show Gen.V m c (Pipeline.arrRef spec0 4) = _ from V_w m W hW c]
  refine congrArg Real.toEReal (w_congr W (Fin.ext ?_) (Fin.ext ?_) (Fin.ext ?_)) <;> blk_simp [idx t]
/-- The `q`-th group of columns of a block of rows, and of the block of weights. -/
theorem ldz (Y : Fin 512 → Fin 2560 → ℝ) (q : Fin 4) (n : ℕ) (hn : n = q.val * 640) (inb) : View.ld (Val := Elt Ideal) (e' := .bf16) (S := S512x2560) (Cv (u2 Y) : B16 S512x2560) (Rect.unit (s := S512x2560) ![0, n] ![512, 640] inb)
    = (Cv (u2 fun r k => Y r (col q k)) : B16 S512x640) := by
  subst hn
  refine funext fun (y : S512x640.Idx) => ?_
  show (Cv (u2 Y) : B16 S512x2560) ((Rect.unit (s := S512x2560) ![0, q.val * 640] ![512, 640] inb).emb y) = _
  refine congrArg Real.toEReal (congrArg₂ Y (Fin.ext ?_) (Fin.ext ?_)) <;> blk_simp <;> simp only [col]
theorem ldw (q : Fin 4) (n : ℕ) (hn : n = q.val) (inb) : View.ld (Val := Elt Ideal) (e' := .bf16) (S := S1x4x1024x640) (Cv (u4 fun _ q j k => W j (col q k)) : B16 S1x4x1024x640) (Rect.unit (s := S1x4x1024x640) ![0, n, 0, 0] ![1, 1, 1024, 640] inb)
    = (Cv (u4 fun _ _ j k => W j (col q k)) : B16 S1x1x1024x640) := by
  subst hn
  refine funext fun (y : S1x1x1024x640.Idx) => ?_
  show (Cv (u4 fun _ q j k => W j (col q k)) : B16 S1x4x1024x640) ((Rect.unit (s := S1x4x1024x640) ![0, q.val, 0, 0] ![1, 1, 1024, 640] inb).emb y) = _
  refine congrArg Real.toEReal (w_congr W (Fin.ext ?_) (Fin.ext ?_) (Fin.ext ?_)) <;> blk_simp
include hZ hD hX hg hW in
theorem final5 : (dats m 0 c).arrAt 5 (cfgs 0).N = (Cv (u2 (LruIn.dH g W Z D X)) : F32 S8192x1024) := by
  refine (dats m 0 c).arrAt_eq_of_covers 5 _ (by decide +kernel) fun t hf y => ?_
  blk_simp
  rw [after0_5]
  have e : (outsAt0 m c t.val t.isLt).1 = (Cv (u2 fun r => LruIn.dH g W Z D X (rowAt t r)) : F32 S512x1024) := by
    refine funext fun (y : S512x1024.Idx) => ?_
    by_cases h : t.val % 16 = 0
    · rw [outsAt0_A m c t h]; frame_out
      rw [blk0 m Z hZ, blk1 m X hX, blk2 m g hg, blk3 m D hD, blk4 m W hW, ldz _ 0 0 rfl, ldz _ 1 640 rfl, ldz _ 2 1280 rfl, ldz _ 3 1920 rfl,
        ldw W 0 0 rfl, ldw W 1 1 rfl, ldw W 2 2 rfl, ldw W 3 3 rfl, pay6, pay7, pay8, pay3]; rfl
    · rw [outsAt0_B m c t h]; frame_out
      rw [blk0 m Z hZ, blk1 m X hX, blk2 m g hg, blk3 m D hD, blk4 m W hW, ldz _ 0 0 rfl, ldz _ 1 640 rfl, ldz _ 2 1280 rfl, ldz _ 3 1920 rfl,
        ldw W 0 0 rfl, ldw W 1 1 rfl, ldw W 2 2 rfl, ldw W 3 3 rfl, pay6, pay7, pay8, pay3]; rfl
  rw [e]
  refine congrArg Real.toEReal (congrArg₂ (LruIn.dH g W Z D X) (Fin.ext ?_) (Fin.ext ?_)) <;> blk_simp [idx t] <;> simp only [rowAt] <;> omega
/-- What block `t` adds to the scale's gradient. -/
def part (k : Fin 8) (j : Fin 1024) : ℝ :=
  ∑ i : Fin 64, LruIn.dxn W (Z (rowAt t (row8 i k))) j * (X (rowAt t (row8 i k)) j * rho (X (rowAt t (row8 i k))))
theorem pay4 : k0_pay4 (F := Ideal) = Cv (u2 fun _ _ => 0) := by
  funext y; exact Ideal.ofBits_zero_f32
include hZ hD hX hg hW in
theorem final6 : (dats m 0 c).arrAt 6 (cfgs 0).N = (Cv (u2 fun k j => ∑ t : Fin cfg0.N, part Z X W t k j) : F32 S8x1024) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0)
    (fun t j => ((part Z X W t (j 0) (j 1) : ℝ) : EReal))
    (fun t h j => by
      rw [outsAt0_A m c t h]; frame_out
      rw [blk0 m Z hZ, blk1 m X hX, blk4 m W hW, ldz _ 0 0 rfl, ldz _ 1 640 rfl, ldz _ 2 1280 rfl, ldz _ 3 1920 rfl,
        ldw W 0 0 rfl, ldw W 1 1 rfl, ldw W 2 2 rfl, ldw W 3 3 rfl, pay6, pay7, pay8, pay5, pay4]; rfl)
    (fun t h j => by
      rw [outsAt0_B m c t h]; frame_out
      rw [blk0 m Z hZ, blk1 m X hX, blk4 m W hW, ldz _ 0 0 rfl, ldz _ 1 640 rfl, ldz _ 2 1280 rfl, ldz _ 3 1920 rfl,
        ldw W 0 0 rfl, ldw W 1 1 rfl, ldw W 2 2 rfl, ldw W 3 3 rfl, pay6, pay7, pay8, pay5]; rfl)
    (le_of_eq N_0) t0_15 rfl j]
  exact (zero_add (M := EReal) _).trans (coe_sum _ _).symm

theorem arrs_inj : Function.Injective (Pipeline.arrRef (cfgs 0).spec) := (by decide +kernel : Function.Injective (Pipeline.arrRef spec0))
theorem sum_rows (F : Fin 8192 → ℝ) : ∑ r, F r = ∑ t : Fin cfg0.N, ∑ i : Fin 512, F (rowAt t i) := by
  refine (Fin.sum_univ_tiles 16 512 rfl F).trans ?_
  exact Fintype.sum_equiv (finCongr N_0.symm) _ _ fun t => rfl
theorem dG_eq (j : Fin 1024) : ∑ k : Fin 8, ∑ t : Fin cfg0.N, part Z X W t k j = LruIn.dG W Z X j := by
  simp only [LruIn.dG, part, sum_rows]
  rw [Finset.sum_comm]
  exact Finset.sum_congr rfl fun t _ => Finset.sum_comm.trans (Fin.sum_univ_tiles 64 8 rfl fun r : Fin 512 =>
    LruIn.dxn W (Z (rowAt t r)) j * (X (rowAt t r) j * rho (X (rowAt t r)))).symm
include hZ hD hX hg hW in
theorem runK (ρ : Dev nD → PrngReg) : θ_run defs (onTc (τ := τ) (main (F := Ideal))) ⟨m, fun _ => 0, ρ⟩ fun r => ∀ c : Dev nD,
      r.2.mem ((c.tc : Thread nD τ).loc main_v5_0) = (Cv (u2 (LruIn.dH g W Z D X)) : F32 S8192x1024)
      ∧ r.2.mem ((c.tc : Thread nD τ).loc main_v6) = (Cv (u1 (LruIn.dG W Z X)) : F32 S1024) := by
  refine (θ_run defs _ _).mono (fun r h c => ⟨((h c).1 5).trans (final5 m Z D X g W hZ hD hX hg hW c), ((h c).2 main_v6 (by decide)).trans ?_⟩) (run_main m ρ)
  unfold Pipeline.afterTail₀
  show StableHlo.after hostOps1 _ (Proc.tc.devRef main_v6) = _
  unfold_abbrev_sides
  after_results
  rw [show Pipeline.withArrays _ _ _ _ (Proc.tc.devRef main_v5_1) = _ from (Pipeline.withArrays_arr (cfgs 0).spec arrs_inj c _ _ 6).trans (final6 m Z D X g W hZ hD hX hg hW c)]
  refine (reduceAdd_Cv _ _ _ _ Ideal.ofBits_zero_f32).trans (congrArg Cv ?_)
  rw [rsum2_0 _ rfl]
  exact congrArg u1 (funext fun j => dG_eq Z X W j)
end
end Cert.LruInIdeal.Value
-- ==== Proof.LruInClaim.lean ====
module

public import proofs.«01_k».proof.Defs
public import proofs.«01_k».proof.Proof.Gen.LruIn.Frame
public import proofs.«01_k».proof.Proof.Gen.Pre_finite_in
public import proofs.«01_k».proof.Proof.LruInRef
public import proofs.«01_k».proof.Proof.LruInKernel
public import Idealize.ShloMosaic.Lib.Claim

@[expose] public section

/-! The claims of the gradients of the recurrence's first projection and its norm, put together. -/

set_option maxRecDepth 16384
noncomputable section
namespace Cert.LruIn
open Idealize.ShloMosaic Idealize.ShloMosaic.TcCoe Idealize.SL.Sem Cert.Lift

theorem frame_reference : Cert.quiescent_LruInRefIdeal := fun m g _ =>
  (θ_run _ _ _).mono (fun r h => ⟨fun c => (h c).2.2, sem_eq_zero_of_no_sems (by decide) r.2⟩) (Cert.LruInRefIdeal.Value.run m g)

/-- Both programs return the same gradients of the same real arguments. -/
theorem value : algebraic_LruInIdeal_LruInRefIdeal_pre_finite_in := by
  intro m g m' g' hpre hm
  have one (c : Dev 1) : c = 0 := Subsingleton.elim (α := Fin 1) c 0
  obtain ⟨h0, h1, h2, h3, h4⟩ := hpre 0
  obtain ⟨Z, e0⟩ := real2 _ h0
  obtain ⟨D, e1⟩ := real2 _ h1
  obtain ⟨X, e2⟩ := real2 _ h2
  obtain ⟨G, e3⟩ := real1 _ h3
  obtain ⟨W, e4⟩ := real2 _ h4
  have a0 (c : Dev Cert.LruInIdeal.nD) : m (c.tc.loc Cert.LruInIdeal.main_arg0) = (Cv (u2 Z) : FVec Ideal Cert.LruInIdeal.S8192x2560 .bf16) := by
    rw [one c]; exact e0
  have a1 (c : Dev Cert.LruInIdeal.nD) : m (c.tc.loc Cert.LruInIdeal.main_arg1) = (Cv (u2 D) : FVec Ideal Cert.LruInIdeal.S8192x1024 .f32) := by
    rw [one c]; exact e1
  have a2 (c : Dev Cert.LruInIdeal.nD) : m (c.tc.loc Cert.LruInIdeal.main_arg2) = (Cv (u2 X) : FVec Ideal Cert.LruInIdeal.S8192x1024 .f32) := by
    rw [one c]; exact e2
  have a3 (c : Dev Cert.LruInIdeal.nD) : m (c.tc.loc Cert.LruInIdeal.main_arg3) = (Cv (u1 G) : FVec Ideal Cert.LruInIdeal.S1024 .f32) := by
    rw [one c]; exact e3
  have a4 (c : Dev Cert.LruInIdeal.nD) : m (c.tc.loc Cert.LruInIdeal.main_arg4) = (Cv (u2 W) : FVec Ideal Cert.LruInIdeal.S1024x2560 .f32) := by
    rw [one c]; exact e4
  refine ⟨fun _ => (Cv (u2 (LruIn.dH G W Z D X)) : FVec Ideal Cert.LruInIdeal.S8192x1024 .f32), fun _ => (Cv (u1 (LruIn.dG W Z X)) : FVec Ideal Cert.LruInIdeal.S1024 .f32), ?_, ?_⟩
  · exact (θ_run _ _ _).mono (fun r h c => ⟨(h.1 c).1, (h.1 c).2, h.2 c⟩)
      (θ_run_and (Cert.LruInIdeal.Value.runK m Z D X G W a0 a1 a2 a3 a4 g) (Cert.LruInIdeal.Gen.unchanged m g))
  · exact (θ_run _ _ _).mono (fun r h c => ⟨(h.1 c).1, (h.1 c).2, (h.2 c).2.2⟩)
      (θ_run_and (Cert.LruInRefIdeal.Value.runR m' g' Z D X G W (fun c => (hm c).1.trans (a0 c)) (fun c => (hm c).2.1.trans (a1 c)) (fun c => (hm c).2.2.1.trans (a2 c)) (fun c => (hm c).2.2.2.1.trans (a3 c)) (fun c => (hm c).2.2.2.2.trans (a4 c))) (Cert.LruInRefIdeal.Value.run m' g'))

end Cert.LruIn
-- ==== Proof.PoolSpec.lean ====
module

public import proofs.«01_k».proof.Proof.LruSpec
public import proofs.«01_k».proof.Proof.Rms

@[expose] public section

/-! The mathematics of the pooling layer's gradient, in real numbers: the channels' four groups with their windows,
    the mean over a window that looks back, and every gradient in one form that both programs reach. -/

noncomputable section
namespace Cert.Lift.Pool
open Cert.Lift
open Cert.Lift.Lru (csum rcs rcs_tele)

/-- A number for each position and channel. -/
abbrev Mat := Fin 8192 → Fin 1024 → ℝ
/-- The arguments of both programs. -/
structure In where
  d : Fin 8192 → Fin 1024 → ℝ
  x : Fin 8192 → Fin 1024 → ℝ
  g : Fin 1024 → ℝ
  w : Fin 4 → Fin 256 → Fin 256 → ℝ
  b : Fin 1024 → ℝ
  s : Fin 1024 → ℝ

/-- A channel's group, its place there, and the channel at a place of a group. -/
def grp (j : Fin 1024) : Fin 4 := ⟨j.val / 256, by omega⟩
def lane (j : Fin 1024) : Fin 256 := ⟨j.val % 256, by omega⟩
def col (q : Fin 4) (k : Fin 256) : Fin 1024 := ⟨q.val * 256 + k.val, by omega⟩
theorem grp_col (q : Fin 4) (k : Fin 256) : grp (col q k) = q := Fin.ext (by show (q.val * 256 + k.val) / 256 = q.val; omega)
theorem lane_col (q : Fin 4) (k : Fin 256) : lane (col q k) = k := Fin.ext (by show (q.val * 256 + k.val) % 256 = k.val; omega)
theorem col_grp (j : Fin 1024) : col (grp j) (lane j) = j := Fin.ext (Nat.div_add_mod' j.val 256)

/-- The length of a group's window, and how many of its positions there are at position `t`. -/
def win (q : Fin 4) : ℕ := 2 ^ (q.val + 1)
def cnt (n t : ℕ) : ℝ := ((min (t + 1) n : ℕ) : ℝ)
theorem win_pos (q : Fin 4) : 0 < win q := Nat.pos_of_ne_zero (by unfold win; positivity)
theorem cnt_ne {n : ℕ} (h : 0 < n) (t : ℕ) : cnt n t ≠ 0 := by
  unfold cnt
  exact_mod_cast (show (min (t + 1) n) ≠ 0 by omega)

/-- The entry `n` positions back or on, and zero where there is none. -/
def back (n : ℕ) (f : Fin 8192 → ℝ) (t : Fin 8192) : ℝ := if h : n ≤ t.val then f ⟨t.val - n, by omega⟩ else 0
def ahead (n : ℕ) (f : Fin 8192 → ℝ) (t : Fin 8192) : ℝ := if h : t.val + n < 8192 then f ⟨t.val + n, h⟩ else 0
/-- The mean over the window that ends at `t`, less the entry itself. -/
def pooled (n : ℕ) (f : Fin 8192 → ℝ) (t : Fin 8192) : ℝ := (csum f t - back n (csum f) t) / cnt n t.val - f t

variable (p : In)
def xn : Mat := fun t => nrm (p.x t) p.g
def u : Mat := fun t j => pooled (win (grp j)) (fun s => xn p s j) t
def y : Mat := fun t j => ∑ k, u p t (col (grp j) k) * p.w (grp j) k (lane j)
def dpre : Mat := fun t j => p.d t j * p.s j
def du : Mat := fun t j => ∑ k, dpre p t (col (grp j) k) * p.w (grp j) (lane j) k
def v : Mat := fun t j => du p t j / cnt (win (grp j)) t.val
/-- The sum over the window that begins at `t`. -/
def wsum (n : ℕ) (f : Fin 8192 → ℝ) (t : Fin 8192) : ℝ := ∑ k ∈ Finset.range n, ahead k f t
def dxn : Mat := fun t j => wsum (win (grp j)) (fun s => v p s j) t - du p t j
def dX : Mat := fun t j => p.d t j + rmsBwd (p.x t) (fun k => dxn p t k * p.g k) j
def dG : Fin 1024 → ℝ := fun j => ∑ t, dxn p t j * (p.x t j * rho (p.x t))
def dB : Fin 1024 → ℝ := fun j => ∑ t, dpre p t j
def dS : Fin 1024 → ℝ := fun j => ∑ t, p.d t j * (y p t j + p.b j)

/-- The sums from a position on, of entries less those a window on, are sums over windows. -/
theorem rcs_window (n : ℕ) (f : Fin 8192 → ℝ) (t : Fin 8192) : rcs (fun s => f s - ahead n f s) t = wsum n f t := by
  let F : ℕ → ℝ := fun s => if h : s < 8192 then f ⟨s, h⟩ else 0
  refine (rcs_tele (fun s => f s - ahead n f s) (fun s => ∑ k ∈ Finset.range n, F (s + k)) ?_ (fun s => ?_) t).trans rfl
  · exact Finset.sum_eq_zero fun k _ => dif_neg (by omega)
  · have h1 := Finset.sum_range_succ (fun k => F (s.val + k)) n
    have h2 := Finset.sum_range_succ' (fun k => F (s.val + k)) n
    have e0 : F (s.val + 0) = f s := dif_pos s.isLt
    have en : F (s.val + n) = ahead n f s := rfl
    have es : ∑ k ∈ Finset.range n, F (s.val + (k + 1)) = ∑ k ∈ Finset.range n, F (s.val + 1 + k) :=
      Finset.sum_congr rfl fun k _ => congrArg F (by omega)
    show f s - ahead n f s = ∑ k ∈ Finset.range n, F (s.val + k) - ∑ k ∈ Finset.range n, F (s.val + 1 + k)
    linarith
end Cert.Lift.Pool
-- ==== Proof.PoolOps.lean ====
module

public import proofs.«01_k».proof.Proof.LruOps
public import proofs.«01_k».proof.Proof.PoolSpec

@[expose] public section

/-! Operations of the pooling layer's host programs on real arrays: the positions' counts, the mean over a window by
    differences of running sums, the groups laid side by side, and the groups put back among the channels. -/

set_option maxRecDepth 16384
noncomputable section
namespace Cert.Lift.Pool
open Idealize.ShloMosaic Cert.Lift
local notation "F32 " s:max => FVec Ideal s FTy.f32
open Cert.Lift.Lru (csum rcs rcat concat_rows slice2r pad_rows pad_cols)

/-- A small number counted up to a bound, as a word. -/
theorem min_word (t n : ℕ) (ht : t < 8192) (hn : n ≤ 16) : (IntOp.minsi (IntOp.addi (BitVec.ofNat 32 t) 1#32) (BitVec.ofNat 32 n)).toInt = ((min (t + 1) n : ℕ) : ℤ) := by
  have e : IntOp.addi (BitVec.ofNat 32 t) 1#32 = BitVec.ofNat 32 (t + 1) := (BitVec.ofNat_add t 1).symm
  have i (k : ℕ) (hk : k ≤ 8192) : (BitVec.ofNat 32 k).toInt = (k : ℤ) := by
    have e : (BitVec.ofNat 32 k).toNat = k := by rw [BitVec.toNat_ofNat]; exact Nat.mod_eq_of_lt (by omega)
    rw [BitVec.toInt_eq_toNat_of_lt (by omega), e]
  rw [e]
  unfold IntOp.minsi
  simp only [BitVec.slt, i (t + 1) (by omega), i n (by omega)]
  split <;> rename_i h <;> simp only [decide_eq_true_eq, decide_eq_false_iff_not] at h
  · rw [i _ (by omega)]; omega
  · rw [i _ (by omega)]; omega
theorem count (n : ℕ) (hn : n ≤ 16) (w : BitVec 32) (hw : w = BitVec.ofNat 32 n) (d : Fin 1 → Fin 2) (hd : d = ![0]) (hb) (e1 e2 : Fin 0 → Fin 1) (h1 h2) :
    broadcastInDim ⟨2, ![8192, 1]⟩ d hb (sitofp .f32 (minsi (addi (iotaInDim ⟨1, ![8192]⟩ 32 0) (broadcastInDim ⟨1, ![8192]⟩ e1 h1 (constantI ⟨0, ![]⟩ 32 1#32)))
      (broadcastInDim ⟨1, ![8192]⟩ e2 h2 (constantI ⟨0, ![]⟩ 32 w))) : F32 ⟨1, ![8192]⟩) = (Cv (u2 fun t _ => cnt n t.val) : F32 ⟨2, ![8192, 1]⟩) := by
  subst hw
  have e : (sitofp .f32 (minsi (addi (iotaInDim ⟨1, ![8192]⟩ 32 0) (broadcastInDim ⟨1, ![8192]⟩ e1 h1 (constantI ⟨0, ![]⟩ 32 1#32)))
      (broadcastInDim ⟨1, ![8192]⟩ e2 h2 (constantI ⟨0, ![]⟩ 32 (BitVec.ofNat 32 n)))) : F32 ⟨1, ![8192]⟩) = (Cv (u1 fun t => cnt n t.val) : F32 ⟨1, ![8192]⟩) := by
    funext j
    show (((IntOp.minsi (IntOp.addi (BitVec.ofNat 32 (j 0).val) 1#32) (BitVec.ofNat 32 n)).toInt : ℝ) : EReal) = ((cnt n (j 0).val : ℝ) : EReal)
    rw [min_word _ n (j 0).isLt hn]
    rfl
  rw [e, broadcastInDim_Cv, bcast1_2_0 _ _ hd]

/-- The mean over a window that looks back, for a group of channels. -/
theorem group_host (n m : ℕ) (hn : 0 < n) (hnm : 8192 = n + m) (F : Fin 8192 → Fin 256 → ℝ) {x f : F32 ⟨2, ![8192, 256]⟩} {a : F32 ⟨2, ![8192, 1]⟩}
    (hx : x = Cv (u2 fun t k => csum (fun s => F s k) t)) (ha : a = Cv (u2 fun t _ => cnt n t.val)) (hf : f = Cv (u2 F))
    (q : Fin 2 → ℕ) (hq : q = ![0, 0]) (hs) (ez : Fin 0 → Fin 2) (hz) (hc) (d : Fin 2 → Fin 2) (hd : d = ![0, 1]) (hb) :
    subf (Host.divf (subf x (concatenate ⟨2, ![8192, 256]⟩ 0 [⟨⟨2, ![n, 256]⟩, broadcastInDim ⟨2, ![n, 256]⟩ ez hz (constant ⟨0, ![]⟩ .f32 0#32 : F32 ⟨0, ![]⟩)⟩,
      ⟨⟨2, ![m, 256]⟩, extractStridedSlice ⟨2, ![m, 256]⟩ q x hs⟩] hc)) (broadcastInDim ⟨2, ![8192, 256]⟩ d hb a)) f
      = (Cv (u2 fun t k => pooled n (fun s => F s k) t) : F32 ⟨2, ![8192, 256]⟩) := by
  subst hx ha hf hq
  rw [kzero, broadcastInDim_Cv, bcast0_2, slice_Cv, slice2r _ 0 _ rfl _ (by omega), concat_rows hnm rfl rfl, subf_Cv, broadcastInDim_Cv, bcast2_col _ _ hd,
    hdivf_Cv _ (u2 fun (t : Fin 8192) (_ : Fin 256) => cnt n t.val) (fun i => cnt_ne hn _), subf_Cv]
  refine congrArg Cv (u2_ext _ _ fun t k => ?_)
  show (csum (fun s => F s k) t - rcat hnm _ _ t k) / cnt n t.val - F t k = _
  unfold pooled back rcat
  by_cases h : n ≤ t.val
  · rw [dif_pos h, dif_neg (by omega)]
    exact congrArg (fun z => (csum (fun s => F s k) t - csum (fun s => F s k) z) / cnt n t.val - F t k) (Fin.ext (by simp))
  · rw [dif_neg h, dif_pos (by omega)]

/-- Four groups side by side. -/
theorem groups (f : Fin 4 → Fin 8192 → Fin 256 → ℝ) {x0 x1 x2 x3 : F32 ⟨2, ![8192, 256]⟩} (h0 : x0 = Cv (u2 (f 0))) (h1 : x1 = Cv (u2 (f 1)))
    (h2 : x2 = Cv (u2 (f 2))) (h3 : x3 = Cv (u2 (f 3))) (d : Fin 2 → Fin 3) (hd : d = ![0, 2]) (hb) (h) :
    concatenate ⟨3, ![8192, 4, 256]⟩ 1 [⟨⟨3, ![8192, 1, 256]⟩, (broadcastInDim ⟨3, ![8192, 1, 256]⟩ d hb x0 : F32 ⟨3, ![8192, 1, 256]⟩)⟩,
      ⟨⟨3, ![8192, 1, 256]⟩, (broadcastInDim ⟨3, ![8192, 1, 256]⟩ d hb x1 : F32 ⟨3, ![8192, 1, 256]⟩)⟩,
      ⟨⟨3, ![8192, 1, 256]⟩, (broadcastInDim ⟨3, ![8192, 1, 256]⟩ d hb x2 : F32 ⟨3, ![8192, 1, 256]⟩)⟩,
      ⟨⟨3, ![8192, 1, 256]⟩, (broadcastInDim ⟨3, ![8192, 1, 256]⟩ d hb x3 : F32 ⟨3, ![8192, 1, 256]⟩)⟩] h
      = (Cv (u3 fun t q k => f q t k) : F32 ⟨3, ![8192, 4, 256]⟩) := by
  subst h0 h1 h2 h3 hd
  funext j
  refine (concatenate_ofFn_apply (t := ⟨3, ![8192, 4, 256]⟩) (s₁ := ⟨3, ![8192, 1, 256]⟩) 1
    (fun n : Fin 4 => (broadcastInDim ⟨3, ![8192, 1, 256]⟩ ![0, 2] hb (Cv (u2 (f n)) : F32 ⟨2, ![8192, 256]⟩) : F32 ⟨3, ![8192, 1, 256]⟩)) h rfl 1 rfl j
    (j 1) (Nat.div_one _) (Idealize.ShloMosaic.ix3 (j 0) 0 (j 2)) (Nat.mod_one _).symm
    (fun k hk => match k with | ⟨0, _⟩ => rfl | ⟨1, _⟩ => absurd rfl hk | ⟨2, _⟩ => rfl)).trans ?_
  rfl

/-- Four groups put back among the channels. -/
theorem pads4 (f : Fin 4 → Fin 8192 → Fin 256 → ℝ) {x0 x1 x2 x3 : F32 ⟨2, ![8192, 256]⟩} (h0 : x0 = Cv (u2 (f 0))) (h1 : x1 = Cv (u2 (f 1)))
    (h2 : x2 = Cv (u2 (f 2))) (h3 : x3 = Cv (u2 (f 3))) (v : (⟨0, ![]⟩ : Shape).Idx → Ideal .f32) (hv : ∀ i, v i = (0 : EReal)) (p0 p1 p2 p3 hu) :
    addf (addf (addf (pad ⟨2, ![8192, 1024]⟩ ![0, 768] ![0, 0] ![0, 0] x3 v p3 hu) (pad ⟨2, ![8192, 1024]⟩ ![0, 512] ![0, 256] ![0, 0] x2 v p2 hu))
      (pad ⟨2, ![8192, 1024]⟩ ![0, 256] ![0, 512] ![0, 0] x1 v p1 hu)) (pad ⟨2, ![8192, 1024]⟩ ![0, 0] ![0, 768] ![0, 0] x0 v p0 hu)
      = (Cv (u2 fun t j => f (grp j) t (lane j)) : F32 ⟨2, ![8192, 1024]⟩) := by
  subst h0 h1 h2 h3
  rw [pad_cols _ 768 0 (show 1024 = 768 + 256 + 0 from rfl) _ _ _ hv, pad_cols _ 512 256 (show 1024 = 512 + 256 + 256 from rfl) _ _ _ hv, pad_cols _ 256 512 (show 1024 = 256 + 256 + 512 from rfl) _ _ _ hv, pad_cols _ 0 768 (show 1024 = 0 + 256 + 768 from rfl) _ _ _ hv, addf_Cv, addf_Cv, addf_Cv]
  refine congrArg Cv (u2_ext _ _ fun t j => ?_)
  obtain ⟨q, k, rfl⟩ : ∃ q k, j = col q k := ⟨_, _, (col_grp j).symm⟩
  rw [grp_col, lane_col]
  have hk := k.isLt
  show (if h : 768 ≤ (col q k).val ∧ (col q k).val - 768 < 256 then f 3 t ⟨(col q k).val - 768, h.2⟩ else 0) + (if h : 512 ≤ (col q k).val ∧ (col q k).val - 512 < 256 then f 2 t ⟨(col q k).val - 512, h.2⟩ else 0)
    + (if h : 256 ≤ (col q k).val ∧ (col q k).val - 256 < 256 then f 1 t ⟨(col q k).val - 256, h.2⟩ else 0) + (if h : 0 ≤ (col q k).val ∧ (col q k).val - 0 < 256 then f 0 t ⟨(col q k).val - 0, h.2⟩ else 0) = _
  match q with
  | 0 =>
    have e : (col 0 k).val = k.val := by simp [col]
    rw [dif_neg (by omega), dif_neg (by omega), dif_neg (by omega), dif_pos (by omega), zero_add, zero_add, zero_add]
    exact congrArg (f 0 t) (Fin.ext (by simp only [e]; omega))
  | 1 =>
    have e : (col 1 k).val = 256 + k.val := by simp [col]
    rw [dif_neg (by omega), dif_neg (by omega), dif_pos (by omega), dif_neg (by omega), zero_add, zero_add, add_zero]
    exact congrArg (f 1 t) (Fin.ext (by simp only [e]; omega))
  | 2 =>
    have e : (col 2 k).val = 512 + k.val := by simp [col]
    rw [dif_neg (by omega), dif_pos (by omega), dif_neg (by omega), dif_neg (by omega), zero_add, add_zero, add_zero]
    exact congrArg (f 2 t) (Fin.ext (by simp only [e]; omega))
  | 3 =>
    have e : (col 3 k).val = 768 + k.val := by simp [col]
    rw [dif_pos (by omega), dif_neg (by omega), dif_neg (by omega), dif_neg (by omega), add_zero, add_zero, add_zero]
    exact congrArg (f 3 t) (Fin.ext (by simp only [e]; omega))

/-- An array less itself from `n` rows on. -/
theorem less_ahead (n m : ℕ) (hnm : 8192 = 0 + m + n) (F : Fin 8192 → Fin 256 → ℝ) {x y : F32 ⟨2, ![8192, 256]⟩}
    (hx : x = Cv (u2 F)) (hy : y = Host.negf x) (q : Fin 2 → ℕ) (hq : q = ![n, 0]) (hs) (v : (⟨0, ![]⟩ : Shape).Idx → Ideal .f32) (hv : ∀ i, v i = (0 : EReal)) (hp hu) :
    addf x (pad ⟨2, ![8192, 256]⟩ ![0, 0] ![n, 0] ![0, 0] (extractStridedSlice ⟨2, ![m, 256]⟩ q y hs) v hp hu)
      = (Cv (u2 fun t k => F t k - ahead n (fun s => F s k) t) : F32 ⟨2, ![8192, 256]⟩) := by
  subst hy hx
  rw [negf_Cv, slice_Cv, u2_neg, slice2r _ n _ hq _ (by omega), pad_rows _ 0 n hnm _ _ _ hv, addf_Cv]
  refine congrArg Cv (u2_ext _ _ fun t k => ?_)
  show F t k + (if h : 0 ≤ t.val ∧ t.val - 0 < m then -F ⟨n + (t.val - 0), by have := h.2; omega⟩ k else 0) = _
  unfold ahead
  by_cases h : t.val + n < 8192
  · rw [dif_pos h, dif_pos (by omega), sub_eq_add_neg]
    exact congrArg (fun z => F t k + -F z k) (Fin.ext (by show n + (t.val - 0) = t.val + n; omega))
  · rw [dif_neg h, dif_neg (by omega), add_zero, sub_zero]
end Cert.Lift.Pool
-- ==== Proof.PoolRef.lean ====
module

public import proofs.«01_k».proof.Proof.Gen.PoolRefIdeal.Run
public import proofs.«01_k».proof.Proof.Gen.PoolRefIdeal
public import Idealize.ShloMosaic.Lib.Pipeline.ValueKit
public import proofs.«01_k».proof.Proof.PoolOps

@[expose] public section

/-! The reference of the pooling layer's gradient: each of its arrays as a real function of the arguments. -/

set_option maxRecDepth 16384
noncomputable section
namespace Cert.PoolRefIdeal.Value
open Cert.PoolRefIdeal Cert.PoolRefIdeal.Gen Idealize.ShloMosaic Idealize.ShloMosaic.TcCoe Idealize.SL.Sem Idealize.ShloMosaic.StableHlo
local notation "F32 " s:max => FVec Ideal s FTy.f32
open Cert.Lift
open Cert.Lift.Lru (csum rcs cumsum2 rcumsum2 rdot_b1 rdot_b2 trans3_201 trans3_120)
open Cert.Lift.Pool (count group_host groups pads4 less_ahead grp lane col cnt cnt_ne ahead rcs_window)

/-- The arguments are the casts of `p`. -/
structure Args (V : Valuation τ sig (Elt Ideal)) (p : Pool.In) : Prop where
  h0 : V (Proc.devRef .tc main_arg0) = (Cv (u2 p.d) : F32 S8192x1024)
  h1 : V (Proc.devRef .tc main_arg1) = (Cv (u2 p.x) : F32 S8192x1024)
  h2 : V (Proc.devRef .tc main_arg2) = (Cv (u1 p.g) : F32 S1024)
  h3 : V (Proc.devRef .tc main_arg3) = (Cv (u3 p.w) : F32 S4x256x256)
  h4 : V (Proc.devRef .tc main_arg4) = (Cv (u1 p.b) : F32 S1024)
  h5 : V (Proc.devRef .tc main_arg5) = (Cv (u1 p.s) : F32 S1024)

variable {V : Valuation τ sig (Elt Ideal)} {p : Pool.In} (A : Args V p)
include A

theorem r7 : res_main_v7 V = (Cv (u2 fun t _ => ms (p.x t)) : F32 ⟨2, ![8192, 1]⟩) := by
  have e : mulf (V (Proc.devRef .tc main_arg1) : F32 S8192x1024) (V (Proc.devRef .tc main_arg1)) = (Cv (u2 fun t j => p.x t j * p.x t j) : F32 ⟨2, ![8192, 1024]⟩) := by
    rw [A.h1]; rfl
  unfold res_main_v7; rw [e]
  dsimp only [S8192x1024, S8192x1, S8192, S_]
  simp (disch := first | rfl | decide | norm_num1) only [k1024, keps, kzero, mulf_Cv, addf_Cv, reduceAdd_Cv0, broadcastInDim_Cv, shapeCast_Cv, bcast0_1, bcast0_2, bcast1_2_0, cast1_col, rsum2_1, u1_mul, u2_mul, u2_add, hdivf2]
  rfl
theorem r8 : res_main_v8 V = (Cv (u2 fun t _ => rho (p.x t)) : F32 ⟨2, ![8192, 1]⟩) := by
  unfold res_main_v8; rw [r7 A]; exact rsqrt_ms2 p.x
theorem r13 : res_main_v13 V = (Cv (u2 fun t j => p.x t j * rho (p.x t)) : F32 ⟨2, ![8192, 1024]⟩) := by
  unfold res_main_v13; rw [r8 A, A.h1, broadcastInDim_Cv, bcast2_col _ _ rfl]
  rfl
theorem r14 : res_main_v14 V = (Cv (u2 fun _ j => p.g j) : F32 ⟨2, ![1, 1024]⟩) := by
  unfold res_main_v14; rw [A.h2]
  exact (broadcastInDim_Cv _ _ _ _).trans (congrArg Cv (bcast1_2_1 _ _ rfl _))
theorem r16 : res_main_v16 V = (Cv (u2 (Pool.xn p)) : F32 ⟨2, ![8192, 1024]⟩) := by
  unfold res_main_v16; rw [r13 A, r14 A]
  dsimp only [S8192x1024, S1x1024]
  simp (disch := first | rfl | decide) only [broadcastInDim_Cv, bcast2_row, mulf_Cv, u2_mul]
  rfl
theorem r17 : res_main_v17 V = (Cv (u2 fun t j => csum (fun s => Pool.xn p s j) t) : F32 ⟨2, ![8192, 1024]⟩) := by
  unfold res_main_v17; rw [r16 A]
  exact cumsum2 _ rfl _ _ _ fun i => Ideal.ofBits_zero_f32

/-! ## The groups, their counts and their means -/
theorem part (q : Fin 4) (o : Fin 2 → ℕ) (ho : o = ![0, q.val * 256]) (f : Pool.Mat) (h) :
    extractStridedSlice ⟨2, ![8192, 256]⟩ o (Cv (u2 f) : F32 ⟨2, ![8192, 1024]⟩) h = (Cv (u2 fun t k => f t (col q k)) : F32 ⟨2, ![8192, 256]⟩) := by
  rw [slice_Cv, slice2 _ (q.val * 256) _ ho _ (by have := q.isLt; omega)]
  rfl
theorem r19 : res_main_v19 V = (Cv (u2 fun t k => csum (fun s => Pool.xn p s (col 0 k)) t) : F32 ⟨2, ![8192, 256]⟩) := by
  unfold res_main_v19; rw [r17 A]; exact part A 0 _ rfl _ _
theorem r35 : res_main_v35 V = (Cv (u2 fun t k => csum (fun s => Pool.xn p s (col 1 k)) t) : F32 ⟨2, ![8192, 256]⟩) := by
  unfold res_main_v35; rw [r17 A]; exact part A 1 _ rfl _ _
theorem r51 : res_main_v51 V = (Cv (u2 fun t k => csum (fun s => Pool.xn p s (col 2 k)) t) : F32 ⟨2, ![8192, 256]⟩) := by
  unfold res_main_v51; rw [r17 A]; exact part A 2 _ rfl _ _
theorem r67 : res_main_v67 V = (Cv (u2 fun t k => csum (fun s => Pool.xn p s (col 3 k)) t) : F32 ⟨2, ![8192, 256]⟩) := by
  unfold res_main_v67; rw [r17 A]; exact part A 3 _ rfl _ _
omit A in
theorem r29 : res_main_v29 V = (Cv (u2 fun t _ => cnt 2 t.val) : F32 ⟨2, ![8192, 1]⟩) := by
  unfold res_main_v29 res_main_v18; exact count 2 (by norm_num) _ rfl _ rfl _ _ _ _ _
omit A in
theorem r45 : res_main_v45 V = (Cv (u2 fun t _ => cnt 4 t.val) : F32 ⟨2, ![8192, 1]⟩) := by
  unfold res_main_v45 res_main_v18; exact count 4 (by norm_num) _ rfl _ rfl _ _ _ _ _
omit A in
theorem r61 : res_main_v61 V = (Cv (u2 fun t _ => cnt 8 t.val) : F32 ⟨2, ![8192, 1]⟩) := by
  unfold res_main_v61 res_main_v18; exact count 8 (by norm_num) _ rfl _ rfl _ _ _ _ _
omit A in
theorem r77 : res_main_v77 V = (Cv (u2 fun t _ => cnt 16 t.val) : F32 ⟨2, ![8192, 1]⟩) := by
  unfold res_main_v77 res_main_v18; exact count 16 (by norm_num) _ rfl _ rfl _ _ _ _ _
theorem r99 : res_main_v99 V = (Cv (u2 p.d) : F32 ⟨2, ![8192, 1024]⟩) := by
  unfold res_main_v99; rw [A.h0]; exact (shapeCast_Cv (t := ⟨2, ![8192, 1024]⟩) (u2 p.d) _).trans (congrArg Cv (cast2_same _ _))
theorem r95 : res_main_v95 V = (Cv (u2 fun _ j => p.s j) : F32 ⟨2, ![1, 1024]⟩) := by
  unfold res_main_v95; rw [A.h5]
  exact (broadcastInDim_Cv _ _ _ _).trans (congrArg Cv (bcast1_2_1 _ _ rfl _))
theorem r104 : res_main_v104 V = (Cv (u2 (Pool.dpre p)) : F32 ⟨2, ![8192, 1024]⟩) := by
  unfold res_main_v104; rw [r99 A, r95 A]
  dsimp only [S8192x1024, S1x1024]
  simp (disch := first | rfl | decide) only [broadcastInDim_Cv, bcast2_row, mulf_Cv, u2_mul]
  rfl
theorem r94 : res_main_v94 V = (Cv (u2 fun t j => Pool.y p t j + p.b j) : F32 ⟨2, ![8192, 1024]⟩) := by
  unfold res_main_v94
  rw [A.h3, A.h4, r16 A]
  have g0 := group_host 2 8190 (by norm_num) rfl (fun t k => Pool.xn p t (col 0 k)) (r19 A) (r29 (V := V)) (part A 0 ![0, 0] rfl (Pool.xn p) slices_S8192x1024_S8192x256_0_0)
    ![0, 0] rfl slices_S8192x256_S8190x256_0_0 ![] bcast_S_S2x256 concatenates_S2x256_S8190x256_S8192x256_d0 ![0, 1] rfl bcast_S8192x1_S8192x256_0_1
  have g1 := group_host 4 8188 (by norm_num) rfl (fun t k => Pool.xn p t (col 1 k)) (r35 A) (r45 (V := V)) (part A 1 ![0, 256] rfl (Pool.xn p) slices_S8192x1024_S8192x256_0_256)
    ![0, 0] rfl slices_S8192x256_S8188x256_0_0 ![] bcast_S_S4x256 concatenates_S4x256_S8188x256_S8192x256_d0 ![0, 1] rfl bcast_S8192x1_S8192x256_0_1
  have g2 := group_host 8 8184 (by norm_num) rfl (fun t k => Pool.xn p t (col 2 k)) (r51 A) (r61 (V := V)) (part A 2 ![0, 512] rfl (Pool.xn p) slices_S8192x1024_S8192x256_0_512)
    ![0, 0] rfl slices_S8192x256_S8184x256_0_0 ![] bcast_S_S8x256 concatenates_S8x256_S8184x256_S8192x256_d0 ![0, 1] rfl bcast_S8192x1_S8192x256_0_1
  have g3 := group_host 16 8176 (by norm_num) rfl (fun t k => Pool.xn p t (col 3 k)) (r67 A) (r77 (V := V)) (part A 3 ![0, 768] rfl (Pool.xn p) slices_S8192x1024_S8192x256_0_768)
    ![0, 0] rfl slices_S8192x256_S8176x256_0_0 ![] bcast_S_S16x256 concatenates_S16x256_S8176x256_S8192x256_d0 ![0, 1] rfl bcast_S8192x1_S8192x256_0_1
  have e := groups (fun q t k => Pool.u p t (col q k)) (g0.trans ?_) (g1.trans ?_) (g2.trans ?_) (g3.trans ?_) ![0, 2] rfl bcast_S8192x256_S8192x1x256_0_2
    concatenates_S8192x1x256_S8192x1x256_S8192x1x256_S8192x1x256_S8192x4x256_d1
  rotate_left
  iterate 4 (refine congrArg Cv (u2_ext _ _ fun t k => ?_); show _ = Pool.u p t _; unfold Pool.u; rw [Pool.grp_col]; rfl)
  dsimp only [S8192x256, S8192x1x256, S8192x4x256, S8192x1, S8192x1024, S2x256, S4x256, S8x256, S16x256, S8190x256, S8188x256, S8184x256, S8176x256, S_] at e ⊢
  rw [e, hdot_Cv, rdot_b1 _ _ _ rfl rfl rfl rfl rfl rfl, transpose_Cv, trans3_201, shapeCast_Cv]
  erw [cast3_2c (n := 1024) (fun k i j => ∑ l, p.w i l j * Pool.u p k (col i l)) rfl (by norm_num)]
  dsimp only [S1x1024, S_, S1024]
  simp (disch := first | rfl | decide) only [kzero, broadcastInDim_Cv, bcast0_2, bcast1_2_1, bcast2_row, addf_Cv, u2_add]
  refine congrArg Cv (u2_ext _ _ fun t j => ?_)
  show (∑ k, p.w (grp j) k (lane j) * Pool.u p t (col (grp j) k)) + 0 + p.b j = Pool.y p t j + p.b j
  rw [add_zero, Pool.y]
  exact congrArg (· + p.b j) (Finset.sum_congr rfl fun k _ => mul_comm _ _)
/-! ## The gradient's means over windows -/
theorem r112 : res_main_v112 V = (Cv (u3 fun t q k => Pool.du p t (col q k)) : F32 ⟨3, ![8192, 4, 256]⟩) := by
  unfold res_main_v112; rw [r104 A, A.h3, shapeCast_Cv, show shapeCast _ _ _ = _ from cast2_3c (b := 4) (c := 256) (Pool.dpre p) rfl shapeCasts_S8192x1024_S8192x4x256, transpose_Cv, trans3_120, hdot_Cv, rdot_b2 _ _ _ rfl rfl rfl rfl rfl rfl, transpose_Cv, trans3 _ _ rfl]
  refine congrArg Cv (u3_ext _ _ fun t q k => ?_)
  show (∑ i, Pool.dpre p t (col q i) * p.w q k i) = Pool.du p t (col q k)
  unfold Pool.du; rw [Pool.grp_col, Pool.lane_col]
theorem grp3 (q : Fin 4) (o : Fin 3 → ℕ) (ho : o = ![0, q.val, 0]) (h h') :
    shapeCast ⟨2, ![8192, 256]⟩ (extractStridedSlice ⟨3, ![8192, 1, 256]⟩ o (Cv (u3 fun t q k => Pool.du p t (col q k)) : F32 ⟨3, ![8192, 4, 256]⟩) h) h'
      = (Cv (u2 fun t k => Pool.du p t (col q k)) : F32 ⟨2, ![8192, 256]⟩) := by
  subst ho
  rw [slice_Cv, shapeCast_Cv]
  refine congrArg Cv (u2_ext _ _ fun t k => ?_)
  refine (shapeCast_apply _ h' _ (Idealize.ShloMosaic.ix3 t 0 k) ?_).trans ?_
  · rw [Shape.rowMajor_val_three, Shape.rowMajor_val_two]
    show (t.val * 1 + 0) * 256 + k.val = t.val * 256 + k.val
    omega
  · refine congrArg₂ (Pool.du p) (Fin.ext (by show 0 + t.val = t.val; omega)) (congrArg₂ col (Fin.ext ?_) (Fin.ext (by show 0 + k.val = k.val; omega)))
    show q.val + 0 = q.val
    omega
theorem r114 : res_main_v114 V = (Cv (u2 fun t k => Pool.du p t (col 0 k)) : F32 ⟨2, ![8192, 256]⟩) := by
  unfold res_main_v114; rw [r112 A]; exact grp3 A 0 _ rfl _ _
theorem r116 : res_main_v116 V = (Cv (u2 fun t k => Pool.du p t (col 1 k)) : F32 ⟨2, ![8192, 256]⟩) := by
  unfold res_main_v116; rw [r112 A]; exact grp3 A 1 _ rfl _ _
theorem r118 : res_main_v118 V = (Cv (u2 fun t k => Pool.du p t (col 2 k)) : F32 ⟨2, ![8192, 256]⟩) := by
  unfold res_main_v118; rw [r112 A]; exact grp3 A 2 _ rfl _ _
theorem r120 : res_main_v120 V = (Cv (u2 fun t k => Pool.du p t (col 3 k)) : F32 ⟨2, ![8192, 256]⟩) := by
  unfold res_main_v120; rw [r112 A]; exact grp3 A 3 _ rfl _ _
theorem mean (q : Fin 4) (n : ℕ) (hn : n = Pool.win q) (d : Fin 2 → Fin 2) (hd : d = ![0, 1]) (h) :
    Host.divf (Cv (u2 fun t k => Pool.du p t (col q k)) : F32 ⟨2, ![8192, 256]⟩) (broadcastInDim ⟨2, ![8192, 256]⟩ d h (Cv (u2 fun t _ => cnt n t.val) : F32 ⟨2, ![8192, 1]⟩))
      = (Cv (u2 fun t k => Pool.v p t (col q k)) : F32 ⟨2, ![8192, 256]⟩) := by
  subst hn
  rw [broadcastInDim_Cv, bcast2_col _ _ hd, hdivf_Cv _ (u2 fun (t : Fin 8192) (_ : Fin 256) => cnt (Pool.win q) t.val) fun i => cnt_ne (Pool.win_pos q) _]
  refine congrArg Cv (u2_ext _ _ fun t k => ?_)
  show _ = Pool.v p t _
  unfold Pool.v; rw [Pool.grp_col]
  rfl
theorem r159 : res_main_v159 V = (Cv (u2 fun t k => Pool.v p t (col 0 k)) : F32 ⟨2, ![8192, 256]⟩) := by
  unfold res_main_v159; rw [r114 A, r29]; exact mean A 0 _ rfl _ rfl _
theorem r147 : res_main_v147 V = (Cv (u2 fun t k => Pool.v p t (col 1 k)) : F32 ⟨2, ![8192, 256]⟩) := by
  unfold res_main_v147; rw [r116 A, r45]; exact mean A 1 _ rfl _ rfl _
theorem r135 : res_main_v135 V = (Cv (u2 fun t k => Pool.v p t (col 2 k)) : F32 ⟨2, ![8192, 256]⟩) := by
  unfold res_main_v135; rw [r118 A, r61]; exact mean A 2 _ rfl _ rfl _
theorem r124 : res_main_v124 V = (Cv (u2 fun t k => Pool.v p t (col 3 k)) : F32 ⟨2, ![8192, 256]⟩) := by
  unfold res_main_v124; rw [r120 A, r77]; exact mean A 3 _ rfl _ rfl _
theorem r168 : res_main_v168 V = (Cv (u2 (Pool.dxn p)) : F32 ⟨2, ![8192, 1024]⟩) := by
  unfold res_main_v168
  have z : ∀ i, (constant S_ .f32 0x00000000#32 : F32 S_) i = (0 : EReal) := fun i => Ideal.ofBits_zero_f32
  have n (q : Fin 4) {x : F32 ⟨2, ![8192, 256]⟩} (hx : x = Cv (u2 fun t k => Pool.du p t (col q k))) : Host.negf x = Cv (u2 fun t k => -Pool.du p t (col q k)) := by
    rw [hx, negf_Cv, u2_neg]
  have l := pads4 (fun q t k => -Pool.du p t (col q k)) (n 0 (r114 A)) (n 1 (r116 A)) (n 2 (r118 A)) (n 3 (r120 A)) _ z
    pads_S8192x256_S8192x1024_000_07680 pads_S8192x256_S8192x1024_000_2565120 pads_S8192x256_S8192x1024_000_5122560 pads_S8192x256_S8192x1024_000_76800 h_S_
  have w := pads4 (fun q t k => Pool.v p t (col q k) - ahead (Pool.win q) (fun s => Pool.v p s (col q k)) t)
    (less_ahead 2 8190 rfl _ (r159 A) (show _ = Host.negf (res_main_v159 V) from (show res_main_v160 V = Host.negf (res_main_v159 V) from rfl)) ![2, 0] rfl slices_S8192x256_S8190x256_2_0 _ z pads_S8190x256_S8192x256_020_000 h_S_)
    (less_ahead 4 8188 rfl _ (r147 A) (show _ = Host.negf (res_main_v147 V) from (show res_main_v148 V = Host.negf (res_main_v147 V) from rfl)) ![4, 0] rfl slices_S8192x256_S8188x256_4_0 _ z pads_S8188x256_S8192x256_040_000 h_S_)
    (less_ahead 8 8184 rfl _ (r135 A) (show _ = Host.negf (res_main_v135 V) from (show res_main_v136 V = Host.negf (res_main_v135 V) from rfl)) ![8, 0] rfl slices_S8192x256_S8184x256_8_0 _ z pads_S8184x256_S8192x256_080_000 h_S_)
    (less_ahead 16 8176 rfl _ (r124 A) (show _ = Host.negf (res_main_v124 V) from (show res_main_v125 V = Host.negf (res_main_v124 V) from rfl)) ![16, 0] rfl slices_S8192x256_S8176x256_16_0 _ z pads_S8176x256_S8192x256_0160_000 h_S_) _ z
    pads_S8192x256_S8192x1024_000_07680 pads_S8192x256_S8192x1024_000_2565120 pads_S8192x256_S8192x1024_000_5122560 pads_S8192x256_S8192x1024_000_76800 h_S_
  dsimp only [S8192x256, S8192x1024, S8190x256, S8188x256, S8184x256, S8176x256, S_] at l w ⊢
  rw [l, w]
  refine (congrArg (addf _) (rcumsum2 (n := 8192) (m := 8191) (c := 1024) _ rfl _ _ _ fun i => Ideal.ofBits_zero_f32)).trans ?_
  refine (addf_Cv _ _).trans (congrArg Cv (u2_ext _ _ fun t j => ?_))
  show -Pool.du p t (col (grp j) (lane j)) + rcs (fun s => Pool.v p s (col (grp j) (lane j)) - ahead (Pool.win (grp j)) (fun s => Pool.v p s (col (grp j) (lane j))) s) t = Pool.dxn p t j
  rw [Pool.col_grp, rcs_window]
  unfold Pool.dxn
  ring
/-! ## The gradient through the norm, and the sums -/
theorem r173 : res_main_v173 V = (Cv (u2 fun t j => Pool.dxn p t j * p.g j) : F32 ⟨2, ![8192, 1024]⟩) := by
  unfold res_main_v173; rw [r168 A, r14 A, broadcastInDim_Cv, bcast2_row _ _ rfl]
  rfl
theorem r185 : res_main_v185 V = (Cv (u2 fun t _ => ∑ _k : Fin 1, (∑ k, p.x t k * (Pool.dxn p t k * p.g k)) * (-(1 / 2) * (rho (p.x t) / ms (p.x t))) / 1024) : F32 ⟨2, ![8192, 1024]⟩) := by
  have e : mulf (V (Proc.devRef .tc main_arg1) : F32 S8192x1024) (res_main_v173 V) = (Cv (u2 fun t j => p.x t j * (Pool.dxn p t j * p.g j)) : F32 ⟨2, ![8192, 1024]⟩) := by
    rw [A.h1, r173 A]; rfl
  have d : Host.divf (res_main_v8 V : F32 S8192x1) (res_main_v7 V) = (Cv (u2 fun t _ => rho (p.x t) / ms (p.x t)) : F32 ⟨2, ![8192, 1]⟩) := by
    rw [r8 A, r7 A]; exact hdivf_Cv _ _ fun i => (ms_pos _).ne'
  have s : (shapeCast S8192x1 (Host.reduceAdd (mulf (V (Proc.devRef .tc main_arg1) : F32 S8192x1024) (res_main_v173 V)) (constant S_ .f32 0x00000000#32) reducesTo_S8192x1024_S8192_d1 h_S_) shapeCasts_S8192_S8192x1 : F32 S8192x1)
      = (Cv (u2 fun t _ => ∑ k, p.x t k * (Pool.dxn p t k * p.g k)) : F32 ⟨2, ![8192, 1]⟩) := by
    rw [e, kzero, reduceAdd_Cv0, rsum2_1 _ rfl]; exact congrArg Cv (cast1_col _ _)
  refine (show res_main_v185 V = broadcastInDim S8192x1024 ![0] bcast_S8192_S8192x1024_0 (Host.reduceAdd (Host.divf (mulf
      (shapeCast S8192x1 (Host.reduceAdd (mulf (V (Proc.devRef .tc main_arg1) : F32 S8192x1024) (res_main_v173 V)) (constant S_ .f32 0x00000000#32) reducesTo_S8192x1024_S8192_d1 h_S_) shapeCasts_S8192_S8192x1 : F32 S8192x1)
      (mulf (broadcastInDim S8192x1 ![] bcast_S_S8192x1 (constant S_ .f32 0xBF000000#32)) (Host.divf (res_main_v8 V : F32 S8192x1) (res_main_v7 V)))) (broadcastInDim S8192x1 ![] bcast_S_S8192x1 (constant S_ .f32 0x44800000#32)))
      (constant S_ .f32 0x00000000#32) reducesTo_S8192x1_S8192_d1 h_S_) from rfl).trans ?_
  rw [s, d, kzero, k1024, kneghalf]
  dsimp only [S8192x1024, S8192x1, S8192, S_]
  simp (disch := first | rfl | decide | norm_num1) only [mulf_Cv, reduceAdd_Cv0, broadcastInDim_Cv, bcast0_2, bcast1_2_0, rsum2_1, u2_mul, hdivf2]
theorem sums (f : Pool.Mat) (h0 h1 : (0 : ℕ) < (⟨0, ![]⟩ : Shape).numel) (c : (⟨1, ![1024]⟩ : Shape).ShapeCasts ⟨2, ![1, 1024]⟩)
    (a : (⟨2, ![8192, 1024]⟩ : Shape).ReducesTo ([0] : List (Fin 2)) ⟨1, ![1024]⟩) (b : (⟨2, ![1, 1024]⟩ : Shape).ReducesTo ([0] : List (Fin 2)) ⟨1, ![1024]⟩) :
    Host.reduceAdd (shapeCast ⟨2, ![1, 1024]⟩ (Host.reduceAdd (Cv (u2 f) : F32 ⟨2, ![8192, 1024]⟩) (constant ⟨0, ![]⟩ .f32 0#32) a h0) c) (constant ⟨0, ![]⟩ .f32 0#32) b h1
      = (Cv (u1 fun j => ∑ t, f t j) : F32 ⟨1, ![1024]⟩) := by
  rw [kzero, reduceAdd_Cv0, rsum2_0 _ rfl, shapeCast_Cv, cast1_row, reduceAdd_Cv0, rsum2_0 _ rfl]
  exact congrArg Cv (congrArg u1 (funext fun j => Fin.sum_univ_one _))
omit A in
theorem runR (m : (ℓ : Loc nD τ sig) → Buf (Elt Ideal) ℓ) (ρ : Dev nD → PrngReg) (hA : ∀ c : Dev nD, Args (fun b => m (c, b)) p) :
    θ_run defs (onTc (τ := τ) (main (F := Ideal))) ⟨m, fun _ => 0, ρ⟩ fun r => ∀ c : Dev nD,
      r.2.mem ((c.tc : Thread nD τ).loc main_v189) = (Cv (u2 (Pool.dX p)) : F32 S8192x1024)
      ∧ r.2.mem ((c.tc : Thread nD τ).loc main_v190) = (Cv (u2 (Pool.dpre p)) : FVec Ideal S8192x1024 .bf16)
      ∧ r.2.mem ((c.tc : Thread nD τ).loc main_v174) = (Cv (u1 (Pool.dG p)) : F32 S1024)
      ∧ r.2.mem ((c.tc : Thread nD τ).loc main_v108) = (Cv (u1 (Pool.dB p)) : F32 S1024)
      ∧ r.2.mem ((c.tc : Thread nD τ).loc main_v105) = (Cv (u1 (Pool.dS p)) : F32 S1024) := by
  refine (θ_run defs _ _).mono (fun r h c => ?_) (run m ρ)
  have A : Args (launchContents m c) p := hA c
  refine ⟨(h c).1.trans ?_, (h c).2.1.trans ?_, (h c).2.2.1.trans ?_, (h c).2.2.2.1.trans ?_, (h c).2.2.2.2.1.trans ?_⟩ <;> clear h
  · rw [r173 A, r185 A, r8 A, A.h0, A.h1, broadcastInDim_Cv, bcast2_col _ _ rfl]
    refine congrArg Cv (u2_ext _ _ fun t j => ?_)
    refine (rms_chain (p.x t) (fun j => Pool.dxn p t j * p.g j) (p.d t j) j).trans rfl
  · rw [r104 A]; exact truncf_Cv _ _
  · rw [r13 A, r168 A]
    refine (sums A (fun t j => p.x t j * rho (p.x t) * Pool.dxn p t j) _ _ _ _ _).trans (congrArg Cv (congrArg u1 (funext fun j => Finset.sum_congr rfl fun t _ => ?_)))
    exact mul_comm _ _
  · rw [r104 A]; exact sums A (Pool.dpre p) _ _ _ _ _
  · rw [r94 A, r99 A]
    refine (sums A (fun t j => (Pool.y p t j + p.b j) * p.d t j) _ _ _ _ _).trans (congrArg Cv (congrArg u1 (funext fun j => Finset.sum_congr rfl fun t _ => ?_)))
    exact mul_comm _ _
end Cert.PoolRefIdeal.Value
-- ==== Proof.PoolHost.lean ====
module

public import proofs.«01_k».proof.Proof.Gen.PoolIdeal.Frame
public import proofs.«01_k».proof.Proof.PoolOps
public import Idealize.ShloMosaic.Lib.Pipeline.ValueKit
public import Idealize.ShloMosaic.Lib.Pipeline.ReadBack
public import Idealize.ShloMosaic.Lib.StableHlo.RunLoop

@[expose] public section

/-! What the pooling layer's kernel is launched on: the arrays that the program computes before the launch, as real
    functions of the arguments. -/

set_option maxRecDepth 16384
noncomputable section
namespace Cert.PoolIdeal.Value
open Cert.PoolIdeal Cert.PoolIdeal.Gen
open Idealize.ShloMosaic Idealize.ShloMosaic.TcCoe Idealize.ShloMosaic.Tactic Idealize.SL.Sem Idealize.ShloMosaic.StableHlo
local notation "F32 " s:max => FVec Ideal s FTy.f32
open Cert.Lift
open Cert.Lift.Lru (csum cumsum2)
open Cert.Lift.Pool (count group_host groups grp lane col cnt)

/-- The arguments are the casts of `p`. -/
structure Args (V : Valuation τ sig (Elt Ideal)) (p : Pool.In) : Prop where
  h0 : V (Proc.devRef .tc main_arg0) = (Cv (u2 p.d) : F32 S8192x1024)
  h1 : V (Proc.devRef .tc main_arg1) = (Cv (u2 p.x) : F32 S8192x1024)
  h2 : V (Proc.devRef .tc main_arg2) = (Cv (u1 p.g) : F32 S1024)
  h3 : V (Proc.devRef .tc main_arg3) = (Cv (u3 p.w) : F32 S4x256x256)
  h4 : V (Proc.devRef .tc main_arg4) = (Cv (u1 p.b) : F32 S1024)
  h5 : V (Proc.devRef .tc main_arg5) = (Cv (u1 p.s) : F32 S1024)

variable (W : Valuation τ sig (Elt Ideal))
/-- Up to the running sum, and up to the launch. -/
def V1 : Valuation τ sig (Elt Ideal) := after hostOps0 W
def V2 : Valuation τ sig (Elt Ideal) := after hostOps0_1 W
def V3 : Valuation τ sig (Elt Ideal) := after hostOps0_2 W
theorem V_eq (m : (ℓ : Loc nD τ sig) → Buf (Elt Ideal) ℓ) (c : Dev nD) : V0 m c = V3 (V2 (V1 fun b => m (c, b))) := by
  show after (List.flatten [hostOps0, hostOps0_1, hostOps0_2]) _ = _
  unfold V3 V2 V1
  rw [← afterL_eq_after_flatten]
  rfl
theorem keep1 (r : Ref sig .tc) (h : r = main_arg0 ∨ r = main_arg1 ∨ r = main_arg2 ∨ r = main_arg3 ∨ r = main_arg4 ∨ r = main_arg5) : V1 W (Proc.devRef .tc r) = W (Proc.devRef .tc r) := by
  unfold V1
  unfold_abbrev_sides
  rcases h with rfl | rfl | rfl | rfl | rfl | rfl <;> after_results
theorem keep2 (r : Ref sig .tc) (h : r = main_v12 ∨ r = main_arg0 ∨ r = main_arg1 ∨ r = main_arg2 ∨ r = main_arg3 ∨ r = main_arg4 ∨ r = main_arg5) : V2 W (Proc.devRef .tc r) = W (Proc.devRef .tc r) := by
  unfold V2
  unfold_abbrev_sides
  rcases h with rfl | rfl | rfl | rfl | rfl | rfl | rfl <;> after_results
theorem keep3 (r : Ref sig .tc) (h : r = main_arg0 ∨ r = main_arg1) : V3 W (Proc.devRef .tc r) = W (Proc.devRef .tc r) := by
  unfold V3
  unfold_abbrev_sides
  rcases h with rfl | rfl <;> after_results

variable {W} {p : Pool.In}
/-! ## The norm and its running sum -/
section
variable (A : Args W p)
include A
theorem v8 : V1 W (Proc.devRef .tc main_v8) = (Cv (u2 fun t _ => rho (p.x t)) : F32 ⟨2, ![8192, 1024]⟩) := by
  unfold V1
  unfold_abbrev_sides
  after_results
  have e : mulf (W (Proc.devRef .tc main_arg1) : F32 S8192x1024) (W (Proc.devRef .tc main_arg1)) = (Cv (u2 fun t j => p.x t j * p.x t j) : F32 ⟨2, ![8192, 1024]⟩) := by
    rw [A.h1]; rfl
  rw [e]
  dsimp only [S8192x1024, S8192x1, S8192, S_]
  simp (disch := first | rfl | decide | norm_num1) only [k1024, keps, kzero, addf_Cv, reduceAdd_Cv0, broadcastInDim_Cv, bcast0_2, bcast1_2_0, bcast2_col, rsum2_1, u2_add, hdivf2, rsqrt_ms2]
theorem v12 : V1 W (Proc.devRef .tc main_v12) = (Cv (u2 (Pool.xn p)) : F32 ⟨2, ![8192, 1024]⟩) := by
  have e : V1 W (Proc.devRef .tc main_v12) = (mulf (mulf (W (Proc.devRef .tc main_arg1) : F32 S8192x1024) (V1 W (Proc.devRef .tc main_v8) : F32 S8192x1024))
      (broadcastInDim S8192x1024 ![0, 1] bcast_S1x1024_S8192x1024_0_1 (broadcastInDim S1x1024 ![1] bcast_S1024_S1x1024_1 (W (Proc.devRef .tc main_arg2) : F32 S1024))) : F32 S8192x1024) := by
    unfold V1
    unfold_abbrev_sides
    after_results
  rw [e, v8 A, A.h1, A.h2]
  rfl
end
/-- What the running sum leaves. -/
theorem v13 (h : W (Proc.devRef .tc main_v12) = (Cv (u2 (Pool.xn p)) : F32 ⟨2, ![8192, 1024]⟩)) :
    V2 W (Proc.devRef .tc main_v13) = (Cv (u2 fun t j => csum (fun s => Pool.xn p s j) t) : F32 ⟨2, ![8192, 1024]⟩) := by
  have e : V2 W (Proc.devRef .tc main_v13) = (Host.reduceWindowAdd ![8192, 1] ![1, 1] ![8191, 0] ![0, 0] (W (Proc.devRef .tc main_v12) : F32 S8192x1024)
      (broadcastInDim S_ ![] bcast_S_S_ (constant S_ .f32 0x00000000#32)) reduceWindows_S8192x1024_S8192x1024_w8192s1p8191_0_w1s1p0_0 h_S_ : F32 S8192x1024) := by
    unfold V2
    unfold_abbrev_sides
    after_results
    rfl
  rw [e, h]
  exact cumsum2 (n := 8192) (m := 8191) (c := 1024) _ rfl _ _ _ fun i => Ideal.ofBits_zero_f32

/-! ## The groups' means -/
/-- What the rest of the host's lines read. -/
structure Mid (V : Valuation τ sig (Elt Ideal)) (p : Pool.In) : Prop extends Args V p where
  k12 : V (Proc.devRef .tc main_v12) = (Cv (u2 (Pool.xn p)) : F32 ⟨2, ![8192, 1024]⟩)
  k13 : V (Proc.devRef .tc main_v13) = (Cv (u2 fun t j => csum (fun s => Pool.xn p s j) t) : F32 ⟨2, ![8192, 1024]⟩)
section
variable (A : Mid W p)
include A
omit A in
theorem part (q : Fin 4) (o : Fin 2 → ℕ) (ho : o = ![0, q.val * 256]) (f : Pool.Mat) (h) :
    extractStridedSlice ⟨2, ![8192, 256]⟩ o (Cv (u2 f) : F32 ⟨2, ![8192, 1024]⟩) h = (Cv (u2 fun t k => f t (col q k)) : F32 ⟨2, ![8192, 256]⟩) := by
  rw [slice_Cv, slice2 _ (q.val * 256) _ ho _ (by have := q.isLt; omega)]
  rfl
theorem v15 : V3 W (Proc.devRef .tc main_v15) = (Cv (u2 fun t k => csum (fun s => Pool.xn p s (col 0 k)) t) : F32 ⟨2, ![8192, 256]⟩) := by
  unfold V3
  unfold_abbrev_sides
  after_results
  rw [A.k13]
  exact part 0 _ rfl _ _
theorem v28 : V3 W (Proc.devRef .tc main_v28) = (Cv (u2 fun t k => Pool.xn p t (col 0 k)) : F32 ⟨2, ![8192, 256]⟩) := by
  unfold V3
  unfold_abbrev_sides
  after_results
  rw [A.k12]
  exact part 0 _ rfl _ _
omit A in
theorem v24 : V3 W (Proc.devRef .tc main_v24) = (Cv (u2 fun t _ => cnt 2 t.val) : F32 ⟨2, ![8192, 1]⟩) := by
  unfold V3
  unfold_abbrev_sides
  after_results
  exact count 2 (by norm_num) _ rfl _ rfl _ _ _ _ _
theorem v29 : V3 W (Proc.devRef .tc main_v29) = (Cv (u2 fun t k => Pool.u p t (col 0 k)) : F32 ⟨2, ![8192, 256]⟩) := by
  have e : V3 W (Proc.devRef .tc main_v29) = (subf (Host.divf (subf (V3 W (Proc.devRef .tc main_v15) : F32 S8192x256) (concatenate S8192x256 0 [⟨S2x256, broadcastInDim S2x256 ![] bcast_S_S2x256 (constant S_ .f32 0x00000000#32)⟩,
      ⟨S8190x256, extractStridedSlice S8190x256 ![0, 0] (V3 W (Proc.devRef .tc main_v15) : F32 S8192x256) slices_S8192x256_S8190x256_0_0⟩] concatenates_S2x256_S8190x256_S8192x256_d0))
      (broadcastInDim S8192x256 ![0, 1] bcast_S8192x1_S8192x256_0_1 (V3 W (Proc.devRef .tc main_v24) : F32 S8192x1))) (V3 W (Proc.devRef .tc main_v28) : F32 S8192x256) : F32 S8192x256) := by
    unfold V3
    unfold_abbrev_sides
    after_results
  refine e.trans ((group_host 2 8190 (by norm_num) rfl (fun t k => Pool.xn p t (col 0 k)) (v15 A) v24 (v28 A) _ rfl _ _ _ _ _ rfl _).trans (congrArg Cv (u2_ext _ _ fun t k => ?_)))
  show _ = Pool.u p t _
  unfold Pool.u; rw [Pool.grp_col]
  rfl
theorem v30 : V3 W (Proc.devRef .tc main_v30) = (Cv (u2 fun t k => csum (fun s => Pool.xn p s (col 1 k)) t) : F32 ⟨2, ![8192, 256]⟩) := by
  unfold V3
  unfold_abbrev_sides
  after_results
  rw [A.k13]
  exact part 1 _ rfl _ _
theorem v43 : V3 W (Proc.devRef .tc main_v43) = (Cv (u2 fun t k => Pool.xn p t (col 1 k)) : F32 ⟨2, ![8192, 256]⟩) := by
  unfold V3
  unfold_abbrev_sides
  after_results
  rw [A.k12]
  exact part 1 _ rfl _ _
omit A in
theorem v39 : V3 W (Proc.devRef .tc main_v39) = (Cv (u2 fun t _ => cnt 4 t.val) : F32 ⟨2, ![8192, 1]⟩) := by
  unfold V3
  unfold_abbrev_sides
  after_results
  exact count 4 (by norm_num) _ rfl _ rfl _ _ _ _ _
theorem v44 : V3 W (Proc.devRef .tc main_v44) = (Cv (u2 fun t k => Pool.u p t (col 1 k)) : F32 ⟨2, ![8192, 256]⟩) := by
  have e : V3 W (Proc.devRef .tc main_v44) = (subf (Host.divf (subf (V3 W (Proc.devRef .tc main_v30) : F32 S8192x256) (concatenate S8192x256 0 [⟨S4x256, broadcastInDim S4x256 ![] bcast_S_S4x256 (constant S_ .f32 0x00000000#32)⟩,
      ⟨S8188x256, extractStridedSlice S8188x256 ![0, 0] (V3 W (Proc.devRef .tc main_v30) : F32 S8192x256) slices_S8192x256_S8188x256_0_0⟩] concatenates_S4x256_S8188x256_S8192x256_d0))
      (broadcastInDim S8192x256 ![0, 1] bcast_S8192x1_S8192x256_0_1 (V3 W (Proc.devRef .tc main_v39) : F32 S8192x1))) (V3 W (Proc.devRef .tc main_v43) : F32 S8192x256) : F32 S8192x256) := by
    unfold V3
    unfold_abbrev_sides
    after_results
  refine e.trans ((group_host 4 8188 (by norm_num) rfl (fun t k => Pool.xn p t (col 1 k)) (v30 A) v39 (v43 A) _ rfl _ _ _ _ _ rfl _).trans (congrArg Cv (u2_ext _ _ fun t k => ?_)))
  show _ = Pool.u p t _
  unfold Pool.u; rw [Pool.grp_col]
  rfl
theorem v45 : V3 W (Proc.devRef .tc main_v45) = (Cv (u2 fun t k => csum (fun s => Pool.xn p s (col 2 k)) t) : F32 ⟨2, ![8192, 256]⟩) := by
  unfold V3
  unfold_abbrev_sides
  after_results
  rw [A.k13]
  exact part 2 _ rfl _ _
theorem v58 : V3 W (Proc.devRef .tc main_v58) = (Cv (u2 fun t k => Pool.xn p t (col 2 k)) : F32 ⟨2, ![8192, 256]⟩) := by
  unfold V3
  unfold_abbrev_sides
  after_results
  rw [A.k12]
  exact part 2 _ rfl _ _
omit A in
theorem v54 : V3 W (Proc.devRef .tc main_v54) = (Cv (u2 fun t _ => cnt 8 t.val) : F32 ⟨2, ![8192, 1]⟩) := by
  unfold V3
  unfold_abbrev_sides
  after_results
  exact count 8 (by norm_num) _ rfl _ rfl _ _ _ _ _
theorem v59 : V3 W (Proc.devRef .tc main_v59) = (Cv (u2 fun t k => Pool.u p t (col 2 k)) : F32 ⟨2, ![8192, 256]⟩) := by
  have e : V3 W (Proc.devRef .tc main_v59) = (subf (Host.divf (subf (V3 W (Proc.devRef .tc main_v45) : F32 S8192x256) (concatenate S8192x256 0 [⟨S8x256, broadcastInDim S8x256 ![] bcast_S_S8x256 (constant S_ .f32 0x00000000#32)⟩,
      ⟨S8184x256, extractStridedSlice S8184x256 ![0, 0] (V3 W (Proc.devRef .tc main_v45) : F32 S8192x256) slices_S8192x256_S8184x256_0_0⟩] concatenates_S8x256_S8184x256_S8192x256_d0))
      (broadcastInDim S8192x256 ![0, 1] bcast_S8192x1_S8192x256_0_1 (V3 W (Proc.devRef .tc main_v54) : F32 S8192x1))) (V3 W (Proc.devRef .tc main_v58) : F32 S8192x256) : F32 S8192x256) := by
    unfold V3
    unfold_abbrev_sides
    after_results
  refine e.trans ((group_host 8 8184 (by norm_num) rfl (fun t k => Pool.xn p t (col 2 k)) (v45 A) v54 (v58 A) _ rfl _ _ _ _ _ rfl _).trans (congrArg Cv (u2_ext _ _ fun t k => ?_)))
  show _ = Pool.u p t _
  unfold Pool.u; rw [Pool.grp_col]
  rfl
theorem v60 : V3 W (Proc.devRef .tc main_v60) = (Cv (u2 fun t k => csum (fun s => Pool.xn p s (col 3 k)) t) : F32 ⟨2, ![8192, 256]⟩) := by
  unfold V3
  unfold_abbrev_sides
  after_results
  rw [A.k13]
  exact part 3 _ rfl _ _
theorem v73 : V3 W (Proc.devRef .tc main_v73) = (Cv (u2 fun t k => Pool.xn p t (col 3 k)) : F32 ⟨2, ![8192, 256]⟩) := by
  unfold V3
  unfold_abbrev_sides
  after_results
  rw [A.k12]
  exact part 3 _ rfl _ _
omit A in
theorem v69 : V3 W (Proc.devRef .tc main_v69) = (Cv (u2 fun t _ => cnt 16 t.val) : F32 ⟨2, ![8192, 1]⟩) := by
  unfold V3
  unfold_abbrev_sides
  after_results
  exact count 16 (by norm_num) _ rfl _ rfl _ _ _ _ _
theorem v74 : V3 W (Proc.devRef .tc main_v74) = (Cv (u2 fun t k => Pool.u p t (col 3 k)) : F32 ⟨2, ![8192, 256]⟩) := by
  have e : V3 W (Proc.devRef .tc main_v74) = (subf (Host.divf (subf (V3 W (Proc.devRef .tc main_v60) : F32 S8192x256) (concatenate S8192x256 0 [⟨S16x256, broadcastInDim S16x256 ![] bcast_S_S16x256 (constant S_ .f32 0x00000000#32)⟩,
      ⟨S8176x256, extractStridedSlice S8176x256 ![0, 0] (V3 W (Proc.devRef .tc main_v60) : F32 S8192x256) slices_S8192x256_S8176x256_0_0⟩] concatenates_S16x256_S8176x256_S8192x256_d0))
      (broadcastInDim S8192x256 ![0, 1] bcast_S8192x1_S8192x256_0_1 (V3 W (Proc.devRef .tc main_v69) : F32 S8192x1))) (V3 W (Proc.devRef .tc main_v73) : F32 S8192x256) : F32 S8192x256) := by
    unfold V3
    unfold_abbrev_sides
    after_results
  refine e.trans ((group_host 16 8176 (by norm_num) rfl (fun t k => Pool.xn p t (col 3 k)) (v60 A) v69 (v73 A) _ rfl _ _ _ _ _ rfl _).trans (congrArg Cv (u2_ext _ _ fun t k => ?_)))
  show _ = Pool.u p t _
  unfold Pool.u; rw [Pool.grp_col]
  rfl
theorem v81 : V3 W (Proc.devRef .tc main_v81) = (Cv (u2 (Pool.u p)) : FVec Ideal ⟨2, ![8192, 1024]⟩ .bf16) := by
  have e : V3 W (Proc.devRef .tc main_v81) = (shapeCast S8192x1024 (truncf .bf16 (concatenate S8192x4x256 1 [⟨S8192x1x256, (broadcastInDim S8192x1x256 ![0, 2] bcast_S8192x256_S8192x1x256_0_2 (V3 W (Proc.devRef .tc main_v29) : F32 S8192x256) : F32 S8192x1x256)⟩,
      ⟨S8192x1x256, (broadcastInDim S8192x1x256 ![0, 2] bcast_S8192x256_S8192x1x256_0_2 (V3 W (Proc.devRef .tc main_v44) : F32 S8192x256) : F32 S8192x1x256)⟩,
      ⟨S8192x1x256, (broadcastInDim S8192x1x256 ![0, 2] bcast_S8192x256_S8192x1x256_0_2 (V3 W (Proc.devRef .tc main_v59) : F32 S8192x256) : F32 S8192x1x256)⟩,
      ⟨S8192x1x256, (broadcastInDim S8192x1x256 ![0, 2] bcast_S8192x256_S8192x1x256_0_2 (V3 W (Proc.devRef .tc main_v74) : F32 S8192x256) : F32 S8192x1x256)⟩] concatenates_S8192x1x256_S8192x1x256_S8192x1x256_S8192x1x256_S8192x4x256_d1 : F32 S8192x4x256) bitsLt_bf16_f32) shapeCasts_S8192x4x256_S8192x1024 : FVec Ideal S8192x1024 .bf16) := by
    unfold V3
    unfold_abbrev_sides
    after_results
    rfl
  rw [e, groups (fun q t k => Pool.u p t (col q k)) (v29 A) (v44 A) (v59 A) (v74 A) _ rfl, truncf_Cv, shapeCast_Cv]
  erw [cast3_2c (n := 1024) (fun t q k => Pool.u p t (col q k)) rfl (by norm_num)]
  exact congrArg Cv (u2_ext _ _ fun t j => congrArg (Pool.u p t) (Pool.col_grp j))
theorem v82 : V3 W (Proc.devRef .tc main_v82) = (Cv (u3 fun _ _ j => p.g j) : F32 ⟨3, ![1, 1, 1024]⟩) := by
  unfold V3
  unfold_abbrev_sides
  after_results
  rw [A.h2]; exact congrArg Cv (cast1_3 p.g _)
theorem v84 : V3 W (Proc.devRef .tc main_v84) = (Cv (u4 fun _ q i j => p.w q i j) : FVec Ideal ⟨4, ![1, 4, 256, 256]⟩ .bf16) := by
  unfold V3
  unfold_abbrev_sides
  after_results
  rw [A.h3]; rfl
theorem v85 : V3 W (Proc.devRef .tc main_v85) = (Cv (u3 fun _ _ j => p.b j) : F32 ⟨3, ![1, 1, 1024]⟩) := by
  unfold V3
  unfold_abbrev_sides
  after_results
  rw [A.h4]; exact congrArg Cv (cast1_3 p.b _)
theorem v86 : V3 W (Proc.devRef .tc main_v86) = (Cv (u3 fun _ _ j => p.s j) : F32 ⟨3, ![1, 1, 1024]⟩) := by
  unfold V3
  unfold_abbrev_sides
  after_results
  rw [A.h5]; exact congrArg Cv (cast1_3 p.s _)
end

/-- What the kernel is launched on. -/
structure Launched (V : Valuation τ sig (Elt Ideal)) (p : Pool.In) : Prop where
  a0 : V (Proc.devRef .tc main_arg0) = (Cv (u2 p.d) : F32 S8192x1024)
  a1 : V (Proc.devRef .tc main_arg1) = (Cv (u2 p.x) : F32 S8192x1024)
  v81 : V (Proc.devRef .tc main_v81) = (Cv (u2 (Pool.u p)) : FVec Ideal ⟨2, ![8192, 1024]⟩ .bf16)
  v82 : V (Proc.devRef .tc main_v82) = (Cv (u3 fun _ _ j => p.g j) : F32 ⟨3, ![1, 1, 1024]⟩)
  v84 : V (Proc.devRef .tc main_v84) = (Cv (u4 fun _ q i j => p.w q i j) : FVec Ideal ⟨4, ![1, 4, 256, 256]⟩ .bf16)
  v85 : V (Proc.devRef .tc main_v85) = (Cv (u3 fun _ _ j => p.b j) : F32 ⟨3, ![1, 1, 1024]⟩)
  v86 : V (Proc.devRef .tc main_v86) = (Cv (u3 fun _ _ j => p.s j) : F32 ⟨3, ![1, 1, 1024]⟩)
theorem launched (m : (ℓ : Loc nD τ sig) → Buf (Elt Ideal) ℓ) (c : Dev nD) (A : Args (fun b => m (c, b)) p) : Launched (V0 m c) p := by
  rw [V_eq]
  have k (r : Ref sig .tc) (h : r = main_arg0 ∨ r = main_arg1 ∨ r = main_arg2 ∨ r = main_arg3 ∨ r = main_arg4 ∨ r = main_arg5) :
      V2 (V1 fun b => m (c, b)) (Proc.devRef .tc r) = m (c, Proc.devRef .tc r) := (keep2 _ r (Or.inr h)).trans (keep1 _ r h)
  have M : Mid (V2 (V1 fun b => m (c, b))) p :=
    { h0 := (k _ (by simp)).trans A.h0, h1 := (k _ (by simp)).trans A.h1, h2 := (k _ (by simp)).trans A.h2, h3 := (k _ (by simp)).trans A.h3
      h4 := (k _ (by simp)).trans A.h4, h5 := (k _ (by simp)).trans A.h5
      k12 := (keep2 _ _ (by simp)).trans (v12 A), k13 := Value.v13 (v12 A) }
  exact ⟨(keep3 _ _ (by simp)).trans M.h0, (keep3 _ _ (by simp)).trans M.h1, Value.v81 M, Value.v82 M, Value.v84 M, Value.v85 M, Value.v86 M⟩
end Cert.PoolIdeal.Value
-- ==== Proof.PoolPay.lean ====
module

public import proofs.«01_k».proof.Proof.Gen.PoolIdeal.Frame
public import proofs.«01_k».proof.Proof.PoolOps
public import Idealize.ShloMosaic.Lib.Pipeline.ValueKit

@[expose] public section

/-! What the pooling layer's kernel computes of one block of 512 rows. -/

set_option maxRecDepth 16384
noncomputable section
namespace Cert.PoolIdeal.Value
open Idealize.ShloMosaic Idealize.ShloMosaic.TcCoe Idealize.SL.Sem Cert.Lift
local notation "F32 " s:max => FVec Ideal s FTy.f32
open Cert.PoolIdeal Cert.PoolIdeal.Gen
open Cert.Lift.Pool (col grp lane col_grp cnt cnt_ne win win_pos)
open Cert.Lift.Lru (slice2r rcat concat_rows roll2)

/-! ## The products by groups -/
section
variable (U D X V : Fin 512 → Fin 1024 → ℝ) (w : Fin 4 → Fin 256 → Fin 256 → ℝ) (s g b : Fin 1024 → ℝ)
theorem cols {φ : FTy} (q : Fin 4) (o : Fin 2 → ℕ) (ho : o = ![0, q.val * 256]) (h) :
    extractStridedSlice ⟨2, ![512, 256]⟩ o (Cv (u2 U) : FVec Ideal ⟨2, ![512, 1024]⟩ φ) h = (Cv (u2 fun r k => U r (col q k)) : FVec Ideal ⟨2, ![512, 256]⟩ φ) := by
  rw [slice_Cv, slice2 _ (q.val * 256) _ ho _ (by have := q.isLt; omega)]
  rfl
theorem group (q : Fin 4) (o : Fin 2 → ℕ) (ho : o = ![0, q.val * 256]) (h h') : matmul (φ₁ := .bf16) (φ₂ := .bf16) dot_S512x256_S256x256_S512x256_1_0_0_1_n_n none
    (extractStridedSlice ⟨2, ![512, 256]⟩ o (Cv (φ := .bf16) (u2 U)) h) (shapeCast ⟨2, ![256, 256]⟩ (Cv (φ := .bf16) (u4 fun (_ : Fin 1) (_ : Fin 1) => w q)) h') (constant ⟨2, ![512, 256]⟩ .f32 0#32)
    = Cv (u2 fun r k => ∑ i, U r (col q i) * w q i k) := by
  rw [cols U q o ho]
  simp (disch := first | rfl | decide) only [shapeCast_Cv, cast4_2, matmul_Cv, rdot_nn]
theorem groupT (q : Fin 4) (o : Fin 2 → ℕ) (ho : o = ![0, q.val * 256]) (h h') : matmul (φ₁ := .bf16) (φ₂ := .bf16) dot_S512x256_S256x256_S512x256_1_1_0_0_n_n none
    (extractStridedSlice ⟨2, ![512, 256]⟩ o (Cv (φ := .bf16) (u2 U)) h) (shapeCast ⟨2, ![256, 256]⟩ (Cv (φ := .bf16) (u4 fun (_ : Fin 1) (_ : Fin 1) => w q)) h') (constant ⟨2, ![512, 256]⟩ .f32 0#32)
    = Cv (u2 fun r k => ∑ i, U r (col q i) * w q k i) := by
  rw [cols U q o ho]
  simp (disch := first | rfl | decide) only [shapeCast_Cv, cast4_2, matmul_Cv, rdot_nt]
theorem pay5 : k0_pay5 (F := Ideal) (Cv (φ := .bf16) (u2 U)) (Cv (φ := .bf16) (u4 fun _ _ => w 0)) (Cv (φ := .bf16) (u4 fun _ _ => w 1)) (Cv (φ := .bf16) (u4 fun _ _ => w 2)) (Cv (φ := .bf16) (u4 fun _ _ => w 3))
    = Cv (u2 fun r j => ∑ i, U r (col (grp j) i) * w (grp j) i (lane j)) := by
  dsimp only [k0_pay5]
  rw [cast_same]
  dsimp only [S512x1024, S512x256, S256x256]
  rw [group U w 0 ![0, 0] rfl, group U w 1 ![0, 256] rfl, group U w 2 ![0, 512] rfl, group U w 3 ![0, 768] rfl]
  exact concat4 (fun q r k => ∑ i, U r (col q i) * w q i k) rfl (by norm_num) _
theorem pay6 : k0_pay6 (F := Ideal) (Cv (φ := .f32) (u2 D)) (Cv (φ := .f32) (u3 fun _ _ => s)) = Cv (u2 fun r j => D r j * s j) := by
  dsimp only [k0_pay6, S512x1024, S1x1024]
  simp (disch := first | rfl | decide) only [shapeCast_Cv, cast3_2', broadcastTo_Cv, bto_row, mulf_Cv, u2_mul]
theorem pay7 : k0_pay7 (F := Ideal) (Cv (φ := .f32) (u2 D)) (Cv (φ := .f32) (u3 fun _ _ => s)) = Cv (u2 fun r j => D r j * s j) := by
  dsimp only [k0_pay7]
  rw [pay6]; rfl
theorem pay8 : k0_pay8 (F := Ideal) (Cv (φ := .bf16) (u2 U)) (Cv (φ := .bf16) (u4 fun _ _ => w 0)) (Cv (φ := .bf16) (u4 fun _ _ => w 1)) (Cv (φ := .bf16) (u4 fun _ _ => w 2)) (Cv (φ := .bf16) (u4 fun _ _ => w 3))
    = Cv (u2 fun r j => ∑ i, U r (col (grp j) i) * w (grp j) (lane j) i) := by
  dsimp only [k0_pay8, S512x1024, S512x256, S256x256]
  rw [groupT U w 0 ![0, 0] rfl, groupT U w 1 ![0, 256] rfl, groupT U w 2 ![0, 512] rfl, groupT U w 3 ![0, 768] rfl]
  exact concat4 (fun q r k => ∑ i, U r (col q i) * w q k i) rfl (by norm_num) _

/-! ## The windows' lengths -/
theorem row_word (n i : ℕ) (hn : n < 16) (hi : i < 512) :
    (IntOp.addi (IntOp.addi (BitVec.ofNat 32 i) (IntOp.muli (IntOp.subi 15#32 (BitVec.ofNat 32 n)) 512#32)) 1#32).toInt = (((15 - n) * 512 + i + 1 : ℕ) : ℤ) := by
  have e : (IntOp.addi (IntOp.addi (BitVec.ofNat 32 i) (IntOp.muli (IntOp.subi 15#32 (BitVec.ofNat 32 n)) 512#32)) 1#32).toNat = (15 - n) * 512 + i + 1 := by
    show (BitVec.ofNat 32 i + (15#32 - BitVec.ofNat 32 n) * 512#32 + 1#32).toNat = _
    simp only [BitVec.toNat_add, BitVec.toNat_mul, BitVec.toNat_sub, BitVec.toNat_ofNat]
    omega
  rw [BitVec.toInt_eq_toNat_of_lt (by omega), e]
theorem pay9 (n : ℕ) (hn : n < 16) : k0_pay9 (F := Ideal) (BitVec.ofNat 32 n) = Cv (u2 fun i _ => (((15 - n) * 512 + i.val + 1 : ℕ) : ℝ)) := by
  funext y
  show (((IntOp.addi (IntOp.addi (BitVec.ofNat 32 (0 * 512 + (y 0).val)) (IntOp.muli (IntOp.subi 15#32 (BitVec.ofNat 32 n)) 512#32)) 1#32).toInt : ℝ) : EReal) = (((((15 - n) * 512 + (y 0).val + 1 : ℕ) : ℝ)) : EReal)
  rw [Nat.zero_mul, Nat.zero_add]
  rw [row_word n _ hn (y 0).isLt]
  rfl
theorem word_lt : ∀ j : Fin 1024, (IntOp.cmpi .slt (BitVec.ofNat 32 j.val) 256#32 = 1#1 ↔ j.val < 256) ∧ (IntOp.cmpi .slt (BitVec.ofNat 32 j.val) 512#32 = 1#1 ↔ j.val < 512)
    ∧ (IntOp.cmpi .slt (BitVec.ofNat 32 j.val) 768#32 = 1#1 ↔ j.val < 768) := by decide +kernel
theorem cfour : Ideal.ofBits .f32 0x40800000#32 = ((4 : ℝ) : EReal) := by
  simp [Ideal.ofBits, Ideal.ieee, -EReal.coe_mul]; norm_num
theorem csixteen : Ideal.ofBits .f32 0x41800000#32 = ((16 : ℝ) : EReal) := by
  simp [Ideal.ofBits, Ideal.ieee, -EReal.coe_mul]; norm_num
theorem lengths : select (k0_pay10) (broadcast S512x1024 (Scalar.ofBits (F := Ideal) .f32 0x40000000#32)) (select (k0_pay11) (broadcast S512x1024 (Scalar.ofBits (F := Ideal) .f32 0x40800000#32))
    (select (cmpi .slt (iota .tc S512x1024 32 [1] iota_S512x1024_d1_w32) k0_pay12) (broadcast S512x1024 (Scalar.ofBits (F := Ideal) .f32 0x41000000#32)) (broadcast S512x1024 (Scalar.ofBits (F := Ideal) .f32 0x41800000#32))))
    = (Cv (u2 fun _ j => ((win (grp j) : ℕ) : ℝ)) : F32 ⟨2, ![512, 1024]⟩) := by
  funext y
  show (if IntOp.cmpi .slt (BitVec.ofNat 32 (0 * 1024 + (y 1).val)) 256#32 = 1#1 then Ideal.ofBits .f32 0x40000000#32 else if IntOp.cmpi .slt (BitVec.ofNat 32 (0 * 1024 + (y 1).val)) 512#32 = 1#1 then Ideal.ofBits .f32 0x40800000#32
    else if IntOp.cmpi .slt (BitVec.ofNat 32 (0 * 1024 + (y 1).val)) 768#32 = 1#1 then Ideal.ofBits .f32 0x41000000#32 else Ideal.ofBits .f32 0x41800000#32) = (((win (grp (y 1)) : ℕ) : ℝ) : EReal)
  simp only [Nat.zero_mul, Nat.zero_add]
  obtain ⟨h1, h2, h3⟩ := word_lt (y 1)
  rw [ctwo, cfour, Lru.ceight, csixteen]
  simp only [h1, h2, h3]
  have hj := (y 1).isLt
  have e (k : ℕ) (hk : (y 1).val / 256 = k) : win (grp (y 1)) = 2 ^ (k + 1) := by unfold win grp; rw [← hk]
  split_ifs with a a' a''
  · rw [e 0 (by omega)]; norm_num
  · rw [e 1 (by omega)]; norm_num
  · rw [e 2 (by omega)]; norm_num
  · rw [e 3 (by have : (y 1).val < 1024 := hj; omega)]; norm_num
theorem minimumf_Cv {S : Shape} {φ : FTy} (f h : S.Idx → ℝ) : minimumf (Cv f : FVec Ideal S φ) (Cv h) = Cv fun i => min (f i) (h i) :=
  funext fun _ => (EReal.coe_strictMono.monotone.map_min).symm
theorem pay13 (n : ℕ) (hn : n < 16) : k0_pay13 (F := Ideal) (Cv (φ := .f32) (u2 D)) (k0_pay9 (BitVec.ofNat 32 n)) (iota .tc S512x1024 32 [1] iota_S512x1024_d1_w32) k0_pay10 k0_pay11 k0_pay12
    = Cv (u2 fun i j => D i j / cnt (win (grp j)) ((15 - n) * 512 + i.val)) := by
  dsimp only [k0_pay13]
  rw [lengths, pay9 n hn, show broadcast S512x1024 (Scalar.ofBits (F := Ideal) .f32 0x3F800000#32) = (Cv (u2 fun _ _ => 1) : F32 ⟨2, ![512, 1024]⟩) from splat2 cone]
  dsimp only [S512x1024]
  rw [minimumf_Cv, show (fun i => min (u2 (fun (i : Fin 512) (_ : Fin 1024) => (((15 - n) * 512 + i.val + 1 : ℕ) : ℝ)) i) (u2 (fun (_ : Fin 512) (j : Fin 1024) => ((win (grp j) : ℕ) : ℝ)) i))
    = u2 (fun (i : Fin 512) (j : Fin 1024) => cnt (win (grp j)) ((15 - n) * 512 + i.val)) from u2_ext _ _ fun i j => (Nat.cast_min _ _).symm,
    divf_Cv (u2 fun _ _ => 1) (u2 fun (i : Fin 512) (j : Fin 1024) => cnt (win (grp j)) ((15 - n) * 512 + i.val)) fun i => cnt_ne (win_pos _) _, mulf_Cv]
  exact congrArg Cv (u2_ext _ _ fun i j => (div_eq_mul_one_div _ _).symm)
end

/-! ## Sums over windows by doubling -/
section
variable {b : ℕ}
def ws (n : ℕ) (E : Fin 528 → Fin b → ℝ) (i : Fin 528) (j : Fin b) : ℝ := ∑ k ∈ Finset.range n, E ⟨(i.val + k) % 528, Nat.mod_lt _ (by norm_num)⟩ j
theorem ws_one (E : Fin 528 → Fin b → ℝ) : ws 1 E = E := by
  funext i j
  refine (Finset.sum_range_one _).trans (congrArg (fun i => E i j) (Fin.ext ?_))
  exact Nat.mod_eq_of_lt i.isLt
theorem double (n n' : ℕ) (hn' : n' = n + n) (E : Fin 528 → Fin b → ℝ) (w : BitVec 32) (s : ℕ) (hs : w.toNat % 528 = s) (h : s + n = 528) (hr) :
    addf (Cv (u2 (ws n E)) : F32 ⟨2, ![528, b]⟩) (dynamicRotate 0 w none (Cv (u2 (ws n E))) hr) = Cv (u2 (ws n' E)) := by
  subst hn'
  rw [roll2 _ w s hs (by norm_num), addf_Cv]
  refine congrArg Cv (u2_ext _ _ fun i j => ?_)
  show ws n E i j + ws n E ⟨(i.val + 528 - s) % 528, _⟩ j = _
  refine Eq.trans ?_ (Finset.sum_range_add _ n n).symm
  refine congrArg₂ (HAdd.hAdd (α := ℝ)) rfl (Finset.sum_congr rfl fun k _ => congrArg (fun i => E i j) (Fin.ext ?_))
  show ((i.val + 528 - s) % 528 + k) % 528 = (i.val + (n + k)) % 528
  omega
end
theorem right {b c : ℕ} (hb : b = 256 + c) (n : ℕ) (E : Fin 528 → Fin b → ℝ) (q : Fin 2 → ℕ) (hq : q = ![0, 256]) (h) :
    extractStridedSlice ⟨2, ![528, c]⟩ q (Cv (u2 (ws n E)) : F32 ⟨2, ![528, b]⟩) h = (Cv (u2 (ws n fun i (j : Fin c) => E i ⟨256 + j.val, by omega⟩)) : F32 ⟨2, ![528, c]⟩) := by
  rw [slice_Cv, slice2 _ 256 _ hq _ (by omega)]
  rfl
theorem left {b : ℕ} (F : Fin 528 → Fin b → ℝ) (hb : 256 ≤ b) (q q' : Fin 2 → ℕ) (hq : q = ![0, 0]) (hq' : q' = ![0, 0]) (h h') :
    extractStridedSlice ⟨2, ![512, 256]⟩ q' (extractStridedSlice ⟨2, ![528, 256]⟩ q (Cv (u2 F) : F32 ⟨2, ![528, b]⟩) h) h'
      = (Cv (u2 fun i (j : Fin 256) => F ⟨i.val, by omega⟩ ⟨j.val, by omega⟩) : F32 ⟨2, ![512, 256]⟩) := by
  rw [slice_Cv, slice2 _ 0 _ hq _ (by omega), slice_Cv, slice2r _ 0 _ hq' _ (by omega)]
  exact congrArg Cv (u2_ext _ _ fun i j => congrArg₂ F (Fin.ext (Nat.zero_add _)) (Fin.ext (Nat.zero_add _)))
theorem top (F : Fin 528 → Fin 256 → ℝ) (q : Fin 2 → ℕ) (hq : q = ![0, 0]) (h) :
    extractStridedSlice ⟨2, ![512, 256]⟩ q (Cv (u2 F) : F32 ⟨2, ![528, 256]⟩) h = (Cv (u2 fun i j => F ⟨i.val, by omega⟩ j) : F32 ⟨2, ![512, 256]⟩) := by
  rw [slice_Cv, slice2r _ 0 _ hq _ (by omega)]
  exact congrArg Cv (u2_ext _ _ fun i j => congrArg₂ F (Fin.ext (Nat.zero_add _)) rfl)
theorem pay15 (DU V : Fin 512 → Fin 1024 → ℝ) (H : Fin 16 → Fin 1024 → ℝ) (v53 : F32 S512x1024) (v54 : IVec S512x1024 32) (v56 v58 : IVec S512x1024 1) (v59 : IVec S512x1024 32)
    (hV : k0_pay13 (F := Ideal) (Cv (φ := .f32) (u2 DU)) v53 v54 v56 v58 v59 = Cv (u2 V)) :
    k0_pay15 (F := Ideal) (Cv (φ := .f32) (u2 DU)) v53 v54 v56 v58 v59 (Cv (φ := .f32) (u2 H))
      = Cv (u2 fun i j => ws (win (grp j)) (rcat (show 528 = 512 + 16 from rfl) V H) ⟨i.val, by omega⟩ j - DU i j) := by
  dsimp only [k0_pay15]
  rw [hV]
  dsimp only [S512x1024, S528x1024, S16x1024, S528x768, S528x512, S528x256, S512x256]
  rw [concat_rows (show 528 = 512 + 16 from rfl) rfl rfl]
  generalize rcat (show 528 = 512 + 16 from rfl) V H = E
  rw [← ws_one E, double 1 2 rfl E 527#32 527 (by decide) rfl, right (c := 768) rfl 2 E _ rfl, double 2 4 rfl _ 526#32 526 (by decide) rfl, right (c := 512) rfl 4 _ _ rfl,
    double 4 8 rfl _ 524#32 524 (by decide) rfl, right (c := 256) rfl 8 _ _ rfl, double 8 16 rfl _ 520#32 520 (by decide) rfl,
    left _ (by norm_num) _ _ rfl rfl, left _ (by norm_num) _ _ rfl rfl, left _ (by norm_num) _ _ rfl rfl, top _ _ rfl]
  have e (q : Fin 4) (n : ℕ) (hn : n = win q) (f : Fin 256 → Fin 1024) (hf : ∀ k, f k = col q k) :
      (Cv (u2 fun (i : Fin 512) k => ws n (fun i k => E i (f k)) ⟨i.val, by omega⟩ k) : F32 ⟨2, ![512, 256]⟩) = Cv (u2 fun i k => ws (win q) E ⟨i.val, by omega⟩ (col q k)) := by
    subst hn
    refine congrArg Cv (u2_ext _ _ fun i k => ?_)
    show ws (win q) (fun i k => E i (f k)) ⟨i.val, _⟩ k = _
    simp only [hf]
    rfl
  rw [ws_one]
  refine (congrArg (subf · _) (?_ : _ = (Cv (u2 fun i j => ws (win (grp j)) E ⟨i.val, by omega⟩ j) : F32 ⟨2, ![512, 1024]⟩))).trans rfl
  refine Eq.trans ?_ ((concat4 (fun q (i : Fin 512) k => ws (win q) E ⟨i.val, by omega⟩ (col q k)) rfl (by norm_num) concatenates_S512x256_S512x256_S512x256_S512x256_S512x1024_d1).trans
    (congrArg Cv (u2_ext _ _ fun i j => congrArg (ws (win (grp j)) E _) (col_grp j))))
  rw [← e 0 2 rfl (fun k => ⟨k.val, by omega⟩) (fun k => Fin.ext (by simp [col])), ← e 1 4 rfl (fun k => ⟨256 + k.val, by omega⟩) (fun k => Fin.ext (by simp [col])),
    ← e 2 8 rfl (fun k => ⟨256 + (256 + k.val), by omega⟩) (fun k => Fin.ext (by simp [col]; omega)), ← e 3 16 rfl (fun k => ⟨256 + (256 + (256 + k.val)), by omega⟩) (fun k => Fin.ext (by simp [col]; omega))]
  rfl

/-! ## The norm's gradients -/
section
variable (D X V Q : Fin 512 → Fin 1024 → ℝ) (s g b : Fin 1024 → ℝ)
theorem pay14 (DU : Fin 512 → Fin 1024 → ℝ) (v53 : F32 S512x1024) (v54 : IVec S512x1024 32) (v56 v58 : IVec S512x1024 1) (v59 : IVec S512x1024 32)
    (hV : k0_pay13 (F := Ideal) (Cv (φ := .f32) (u2 DU)) v53 v54 v56 v58 v59 = Cv (u2 V)) :
    k0_pay14 (F := Ideal) (Cv (φ := .f32) (u2 DU)) v53 v54 v56 v58 v59 = Cv (u2 fun (i : Fin 16) j => V ⟨i.val, by omega⟩ j) := by
  dsimp only [k0_pay14]
  rw [hV, cast_same]
  dsimp only [S512x1024, S16x1024]
  rw [slice_Cv, slice2r _ 0 _ rfl _ (by omega)]
  exact congrArg Cv (u2_ext _ _ fun i j => congrArg₂ V (Fin.ext (Nat.zero_add _)) rfl)
theorem pay16 : k0_pay16 (F := Ideal) (Cv (φ := .f32) (u2 X)) = Cv (u2 fun r j => X r j * X r j) := rfl
theorem pay17 : k0_pay17 (F := Ideal) (Cv (φ := .f32) (u2 fun r j => X r j * X r j)) = Cv (u2 fun r _ => rho (X r)) := by
  dsimp only [k0_pay17, S512x1024, S512x1, S512]
  simp (disch := first | rfl | norm_num1) only [splat2 c1024, splat2 ceps, mred2_1, shapeCast_Cv, cast1_col, divf2, addf_Cv, u2_add, ms_fold]
theorem pay18 : k0_pay18 (F := Ideal) (Cv (φ := .f32) (u2 X)) (Cv (φ := .f32) (u2 fun r j => X r j * X r j)) = Cv (u2 fun r j => X r j * rho (X r)) := by
  dsimp only [k0_pay18]
  rw [pay17]
  dsimp only [S512x1024, S512x1]
  simp only [broadcastTo_Cv, bto_col, mulf_Cv, u2_mul]
theorem pay19 : k0_pay19 (F := Ideal) (Cv (φ := .f32) (u2 D)) (Cv (φ := .f32) (u2 V)) (Cv (φ := .f32) (u2 X)) (Cv (φ := .f32) (u2 fun r j => X r j * X r j)) (Cv (φ := .f32) (u3 fun _ _ => g))
    = Cv (u2 fun r j => D r j + rmsBwd (X r) (fun j => V r j * g j) j) := by
  dsimp only [k0_pay19]
  rw [pay17, pay18]
  dsimp only [S512x1024, S512x1, S512, S1x1024]
  simp (disch := first | rfl | decide | norm_num1) only [splat2 c1024, shapeCast_Cv, cast3_2', cast1_col, broadcastTo_Cv, bto_row, bto_col, mulf_Cv, u2_mul, mred2_1, divf2, subf_Cv, u2_sub, addf_Cv, u2_add]
  rfl

/-- Row `8 i + k` of a block of 512 rows; the rows of a block added by eights. -/
def row8 (i : Fin 64) (k : Fin 8) : Fin 512 := ⟨i.val * 8 + k.val, by omega⟩
def eights (F : Fin 512 → Fin 1024 → ℝ) (k : Fin 8) (j : Fin 1024) : ℝ := ∑ i : Fin 64, F (row8 i k) j
theorem by8 (F : Fin 512 → Fin 1024 → ℝ) (h) (h1) : multiReduction .add [0] S8x1024 (shapeCast S64x8x1024 (Cv (φ := .f32) (u2 F) : F32 S512x1024) h) 0x00000000#32 h1 (.inl rfl) rfl = (Cv (u2 (eights F)) : F32 S8x1024) := by
  dsimp only [S512x1024, S64x8x1024, S8x1024]
  rw [shapeCast_Cv, cast2_3 _ (by norm_num)]
  exact mred3_0 _ rfl _ _ _
/-- A row of the array of sums, with a block's part added. -/
theorem onto (B : F32 S1x8x1024) (f : Fin 8 → Fin 1024 → ℝ) (h h') (y : S1x8x1024.Idx) :
    shapeCast S1x8x1024 (addf (shapeCast S8x1024 B h) (Cv (u2 f)) : F32 S8x1024) h' y = B y + ((f (y 1) (y 2) : ℝ) : EReal) := by
  obtain ⟨u, i, j, rfl⟩ : ∃ u i j, y = ValueIdx.ix3 u i j := ⟨y 0, y 1, y 2, ValueIdx.eq_ix3 y⟩
  obtain rfl : u = 0 := Subsingleton.elim _ _
  refine (ValueIdx.shapeCast_ab_1ab_apply _ h' 0 i j).trans ?_
  exact congrArg₂ (HAdd.hAdd (α := EReal)) ((ValueIdx.shapeCast_1ab_ab_apply _ h i j).trans rfl) rfl
theorem onto8 (B : F32 S1x8x1024) (F : F32 S512x1024) (f : Fin 512 → Fin 1024 → ℝ) (hF : F = Cv (u2 f)) (y : S1x8x1024.Idx) :
    shapeCast S1x8x1024 (addf (shapeCast S8x1024 B shapeCasts_S1x8x1024_S8x1024) (multiReduction .add [0] S8x1024 (shapeCast S64x8x1024 F shapeCasts_S512x1024_S64x8x1024) 0x00000000#32 reduces_S64x8x1024_S8x1024 (.inl rfl) rfl) : F32 S8x1024) shapeCasts_S8x1024_S1x8x1024 y
      = B y + ((eights f (y 1) (y 2) : ℝ) : EReal) := by
  subst hF
  refine (congrArg (fun z : F32 S8x1024 => shapeCast S1x8x1024 (addf (shapeCast S8x1024 B shapeCasts_S1x8x1024_S8x1024) z : F32 S8x1024) shapeCasts_S8x1024_S1x8x1024 y) (by8 f _ _)).trans ?_
  exact onto B (eights f) _ _ y
theorem pay20 (B : F32 S1x8x1024) (y : S1x8x1024.Idx) : k0_pay20 (F := Ideal) (Cv (φ := .f32) (u2 V)) (Cv (φ := .f32) (u2 X)) (Cv (φ := .f32) (u2 fun r j => X r j * X r j)) B y
    = B y + ((eights (fun r j => V r j * (X r j * rho (X r))) (y 1) (y 2) : ℝ) : EReal) := by
  dsimp only [k0_pay20]
  rw [pay18]
  exact onto8 B _ (fun r j => V r j * (X r j * rho (X r))) rfl y
theorem pay22 (B : F32 S1x8x1024) (y : S1x8x1024.Idx) : k0_pay1 (F := Ideal) (k0_pay21 B) (k0_pay22 (Cv (φ := .f32) (u2 Q))) y
    = B y + ((eights Q (y 1) (y 2) : ℝ) : EReal) := onto8 B _ Q rfl y
theorem pay2 (B : F32 S1x8x1024) (y : S1x8x1024.Idx) : k0_pay2 (F := Ideal) (Cv (φ := .f32) (u2 D)) (Cv (φ := .f32) (u2 V)) B (Cv (φ := .f32) (u3 fun _ _ => b)) y
    = B y + ((eights (fun r j => D r j * (V r j + b j)) (y 1) (y 2) : ℝ) : EReal) := by
  dsimp only [k0_pay2]
  refine onto8 B _ (fun r j => D r j * (V r j + b j)) ?_ y
  dsimp only [S512x1024, S1x1024]
  simp (disch := first | rfl | decide) only [shapeCast_Cv, cast3_2', broadcastTo_Cv, bto_row, mulf_Cv, u2_mul, addf_Cv, u2_add]
theorem pay3 : k0_pay3 (F := Ideal) = Cv (u2 fun _ _ => 0) := by
  dsimp only [k0_pay3]
  rw [cast_same]
  funext y; exact Ideal.ofBits_zero_f32
theorem pay4 : k0_pay4 (F := Ideal) = Cv (u3 fun _ _ _ => 0) := by
  funext y; exact Ideal.ofBits_zero_f32
end
end Cert.PoolIdeal.Value
-- ==== Proof.PoolKernel.lean ====
module

public import proofs.«01_k».proof.Proof.PoolHost
public import proofs.«01_k».proof.Proof.PoolPay
public import Idealize.ShloMosaic.Lib.Pointwise.Sums

@[expose] public section

/-! The pooling layer's kernel as a whole. It walks the blocks of 512 rows from the last to the first and keeps the first
    sixteen rows of the block that it has just seen, which the windows of the next block reach. -/

set_option maxRecDepth 16384
noncomputable section
namespace Cert.PoolIdeal.Value
open Idealize.ShloMosaic Idealize.ShloMosaic.TcCoe Idealize.SL.Sem Cert.Lift
local notation "F32 " s:max => FVec Ideal s FTy.f32
local notation "B16 " s:max => FVec Ideal s FTy.bf16
open Idealize.ShloMosaic.Pipeline (Dat)
open Cert.PoolIdeal Cert.PoolIdeal.Gen
open Cert.Lift.Pool (col grp lane cnt win ahead)
open Cert.Lift.Lru (slice2r rcat)
variable {m : (ℓ : Loc nD τ sig) → Buf (Elt Ideal) ℓ} {p : Pool.In} {c : Dev nD}

theorem idx : ∀ t : Fin cfg0.N, win0_0.index t = ![15 - t.val, 0] ∧ win0_1.index t = ![15 - t.val, 0] ∧ win0_2.index t = ![15 - t.val, 0] ∧ win0_3.index t = ![0, 0, 0]
    ∧ win0_4.index t = ![0, 0, 0, 0] ∧ win0_5.index t = ![0, 0, 0] ∧ win0_6.index t = ![0, 0, 0] ∧ win0_7.index t = ![15 - t.val, 0] ∧ win0_8.index t = ![15 - t.val, 0] :=
  (by decide +kernel : ∀ t : Fin grid0.N, win0_0.index t = ![15 - t.val, 0] ∧ win0_1.index t = ![15 - t.val, 0] ∧ win0_2.index t = ![15 - t.val, 0] ∧ win0_3.index t = ![0, 0, 0]
    ∧ win0_4.index t = ![0, 0, 0, 0] ∧ win0_5.index t = ![0, 0, 0] ∧ win0_6.index t = ![0, 0, 0] ∧ win0_7.index t = ![15 - t.val, 0] ∧ win0_8.index t = ![15 - t.val, 0])
theorem pt : ∀ t : Fin cfg0.N, (grid0.coords t 0).val = t.val := (by decide +kernel : ∀ t : Fin grid0.N, (grid0.coords t 0).val = t.val)
theorem lt16 (t : Fin cfg0.N) : t.val < 16 := lt_of_lt_of_eq t.isLt N_0
/-- Row `r` of the block of point `t`. -/
def rowAt (t : Fin cfg0.N) (r : Fin 512) : Fin 8192 := ⟨(15 - t.val) * 512 + r.val, by omega⟩

/-! ## The blocks -/
section
variable (L : Launched (V0 m c) p) (t : Fin cfg0.N)
include L
theorem blk0 : (iblk m c 0 t : F32 S512x1024) = (Cv (u2 fun r => p.d (rowAt t r)) : F32 S512x1024) := by
  refine funext fun (y : S512x1024.Idx) => ?_
  unfold iblk
  rw [show Gen.V m c (Pipeline.arrRef spec0 0) = _ from L.a0]
  refine congrArg Real.toEReal (congrArg₂ p.d (Fin.ext ?_) (Fin.ext ?_)) <;> blk_simp [idx t] <;> simp only [rowAt] <;> omega
theorem blk1 : (iblk m c 1 t : F32 S512x1024) = (Cv (u2 fun r => p.x (rowAt t r)) : F32 S512x1024) := by
  refine funext fun (y : S512x1024.Idx) => ?_
  unfold iblk
  rw [show Gen.V m c (Pipeline.arrRef spec0 1) = _ from L.a1]
  refine congrArg Real.toEReal (congrArg₂ p.x (Fin.ext ?_) (Fin.ext ?_)) <;> blk_simp [idx t] <;> simp only [rowAt] <;> omega
theorem blk2 : (iblk m c 2 t : B16 S512x1024) = (Cv (u2 fun r => Pool.u p (rowAt t r)) : B16 S512x1024) := by
  refine funext fun (y : S512x1024.Idx) => ?_
  unfold iblk
  rw [show Gen.V m c (Pipeline.arrRef spec0 2) = _ from L.v81]
  refine congrArg Real.toEReal (congrArg₂ (Pool.u p) (Fin.ext ?_) (Fin.ext ?_)) <;> blk_simp [idx t] <;> simp only [rowAt] <;> omega
theorem blk3 : (iblk m c 3 t : F32 S1x1x1024) = (Cv (u3 fun _ _ => p.g) : F32 S1x1x1024) := by
  refine funext fun (y : S1x1x1024.Idx) => ?_
  unfold iblk
  rw [show Gen.V m c (Pipeline.arrRef spec0 3) = _ from L.v82]
  refine congrArg Real.toEReal (congrArg p.g (Fin.ext ?_))
  blk_simp [idx t]
omit L in
theorem w_congr {q q' : Fin 4} {i i' k k' : Fin 256} (hq : q = q') (hi : i = i') (hk : k = k') : p.w q i k = p.w q' i' k' := by
  subst hq hi hk; rfl
theorem blk4 : (iblk m c 4 t : B16 S1x4x256x256) = (Cv (u4 fun _ q i k => p.w q i k) : B16 S1x4x256x256) := by
  refine funext fun (y : S1x4x256x256.Idx) => ?_
  unfold iblk
  rw [show Gen.V m c (Pipeline.arrRef spec0 4) = _ from L.v84]
  refine congrArg Real.toEReal (w_congr (Fin.ext ?_) (Fin.ext ?_) (Fin.ext ?_)) <;> blk_simp [idx t]
theorem blk5 : (iblk m c 5 t : F32 S1x1x1024) = (Cv (u3 fun _ _ => p.b) : F32 S1x1x1024) := by
  refine funext fun (y : S1x1x1024.Idx) => ?_
  unfold iblk
  rw [show Gen.V m c (Pipeline.arrRef spec0 5) = _ from L.v85]
  refine congrArg Real.toEReal (congrArg p.b (Fin.ext ?_))
  blk_simp [idx t]
theorem blk6 : (iblk m c 6 t : F32 S1x1x1024) = (Cv (u3 fun _ _ => p.s) : F32 S1x1x1024) := by
  refine funext fun (y : S1x1x1024.Idx) => ?_
  unfold iblk
  rw [show Gen.V m c (Pipeline.arrRef spec0 6) = _ from L.v86]
  refine congrArg Real.toEReal (congrArg p.s (Fin.ext ?_))
  blk_simp [idx t]
end
/-- The weights of group `q`. -/
theorem ldw (q : Fin 4) (n : ℕ) (hn : n = q.val) (inb) : View.ld (Val := Elt Ideal) (e' := .bf16) (S := S1x4x256x256) (Cv (u4 fun _ q i k => p.w q i k) : B16 S1x4x256x256) (Rect.unit (s := S1x4x256x256) ![0, n, 0, 0] ![1, 1, 256, 256] inb)
    = (Cv (u4 fun _ _ => p.w q) : B16 S1x1x256x256) := by
  subst hn
  refine funext fun (y : S1x1x256x256.Idx) => ?_
  show (Cv (u4 fun _ q i k => p.w q i k) : B16 S1x4x256x256) ((Rect.unit (s := S1x4x256x256) ![0, q.val, 0, 0] ![1, 1, 256, 256] inb).emb y) = _
  refine congrArg Real.toEReal (w_congr (Fin.ext ?_) (Fin.ext ?_) (Fin.ext ?_)) <;> blk_simp

/-! ## One point's values -/
section
variable (t : Fin cfg0.N)
/-- The rows that the windows of point `t`'s block reach in the next block. -/
def head (p : Pool.In) (i : Fin 16) (j : Fin 1024) : ℝ := if h : (15 - t.val + 1) * 512 + i.val < 8192 then Pool.v p ⟨(15 - t.val + 1) * 512 + i.val, h⟩ j else 0
theorem reach (r : Fin 512) (j : Fin 1024) (k : ℕ) (hk : k < 16) :
    rcat (show 528 = 512 + 16 from rfl) (fun r => Pool.v p (rowAt t r)) (head t p) ⟨(r.val + k) % 528, Nat.mod_lt _ (by norm_num)⟩ j = ahead k (fun s => Pool.v p s j) (rowAt t r) := by
  have ht := lt16 t
  have e : (r.val + k) % 528 = r.val + k := Nat.mod_eq_of_lt (by omega)
  simp only [e]
  unfold rcat ahead
  by_cases h : r.val + k < 512
  · rw [dif_pos h, dif_pos (show (rowAt t r).val + k < 8192 by simp only [rowAt]; omega)]
    exact congrArg (fun s => Pool.v p s j) (Fin.ext (by simp only [rowAt]; omega))
  · rw [dif_neg h]
    unfold head
    by_cases h' : (rowAt t r).val + k < 8192
    · rw [dif_pos h', dif_pos (by simp only [rowAt] at h'; omega)]
      exact congrArg (fun s => Pool.v p s j) (Fin.ext (by simp only [rowAt]; omega))
    · rw [dif_neg h', dif_neg (by simp only [rowAt] at h'; omega)]
theorem windows (r : Fin 512) (j : Fin 1024) : ws (win (grp j)) (rcat (show 528 = 512 + 16 from rfl) (fun r => Pool.v p (rowAt t r)) (head t p)) ⟨r.val, by omega⟩ j - Pool.du p (rowAt t r) j = Pool.dxn p (rowAt t r) j := by
  refine congrArg (· - Pool.du p (rowAt t r) j) (Finset.sum_congr rfl fun k hk => reach t r j k ?_)
  have h1 : win (grp j) ≤ 2 ^ 4 := Nat.pow_le_pow_right (by norm_num) (by have := (grp j).isLt; omega)
  have h2 := Finset.mem_range.1 hk
  omega
theorem du_t : k0_pay8 (F := Ideal) (k0_pay7 (Cv (φ := .f32) (u2 fun r => p.d (rowAt t r))) (Cv (φ := .f32) (u3 fun _ _ => p.s))) (Cv (φ := .bf16) (u4 fun _ _ => p.w 0)) (Cv (φ := .bf16) (u4 fun _ _ => p.w 1))
    (Cv (φ := .bf16) (u4 fun _ _ => p.w 2)) (Cv (φ := .bf16) (u4 fun _ _ => p.w 3)) = Cv (u2 fun r => Pool.du p (rowAt t r)) := by
  rw [pay7, pay8]; rfl
theorem v_t : k0_pay13 (F := Ideal) (Cv (φ := .f32) (u2 fun r => Pool.du p (rowAt t r))) (k0_pay9 (BitVec.ofNat 32 t.val)) (iota .tc S512x1024 32 [1] iota_S512x1024_d1_w32) k0_pay10 k0_pay11 k0_pay12
    = Cv (u2 fun r => Pool.v p (rowAt t r)) := by
  rw [pay13 _ _ (lt16 t)]; rfl
theorem dxn_t : k0_pay15 (F := Ideal) (Cv (φ := .f32) (u2 fun r => Pool.du p (rowAt t r))) (k0_pay9 (BitVec.ofNat 32 t.val)) (iota .tc S512x1024 32 [1] iota_S512x1024_d1_w32) k0_pay10 k0_pay11 k0_pay12 (Cv (φ := .f32) (u2 (head t p)))
    = Cv (u2 fun r => Pool.dxn p (rowAt t r)) := by
  rw [pay15 _ _ _ _ _ _ _ _ (v_t t)]
  exact congrArg Cv (u2_ext _ _ fun r j => windows t r j)
theorem head_t : k0_pay14 (F := Ideal) (Cv (φ := .f32) (u2 fun r => Pool.du p (rowAt t r))) (k0_pay9 (BitVec.ofNat 32 t.val)) (iota .tc S512x1024 32 [1] iota_S512x1024_d1_w32) k0_pay10 k0_pay11 k0_pay12
    = Cv (u2 fun (i : Fin 16) => Pool.v p (rowAt t ⟨i.val, by omega⟩)) := pay14 _ _ _ _ _ _ _ (v_t t)
theorem y_t : k0_pay5 (F := Ideal) (Cv (φ := .bf16) (u2 fun r => Pool.u p (rowAt t r))) (Cv (φ := .bf16) (u4 fun _ _ => p.w 0)) (Cv (φ := .bf16) (u4 fun _ _ => p.w 1))
    (Cv (φ := .bf16) (u4 fun _ _ => p.w 2)) (Cv (φ := .bf16) (u4 fun _ _ => p.w 3)) = Cv (u2 fun r => Pool.y p (rowAt t r)) := by
  rw [pay5]; rfl
theorem dpre_t : k0_pay6 (F := Ideal) (Cv (φ := .f32) (u2 fun r => p.d (rowAt t r))) (Cv (φ := .f32) (u3 fun _ _ => p.s)) = Cv (u2 fun r => Pool.dpre p (rowAt t r)) := by
  rw [pay6]; rfl
theorem dpreb_t : k0_pay7 (F := Ideal) (Cv (φ := .f32) (u2 fun r => p.d (rowAt t r))) (Cv (φ := .f32) (u3 fun _ _ => p.s)) = Cv (u2 fun r => Pool.dpre p (rowAt t r)) := by
  rw [pay7]; rfl
theorem head_first (h : t.val % 16 = 0) : (Cv (u2 fun _ _ => 0) : F32 S16x1024) = Cv (u2 (head t p)) := by
  have ht := lt16 t
  refine congrArg Cv (u2_ext _ _ fun i j => ?_)
  show (0 : ℝ) = head t p i j
  unfold head
  rw [dif_neg (by omega)]
end

section
variable (L : Launched (V0 m c) p) (t : Fin cfg0.N)
include L
/-- What a point keeps. -/
theorem kept : (outsAt0 m c t.val t.isLt).2.2.2 = (Cv (u2 fun (i : Fin 16) => Pool.v p (rowAt t ⟨i.val, by omega⟩)) : F32 S16x1024) := by
  refine funext fun (y : S16x1024.Idx) => ?_
  by_cases h : t.val % 16 = 0
  · rw [outsAt0_A m c t h]; frame_out
    rw [blk0 L, blk4 L, blk6 L, ldw 0 0 rfl, ldw 1 1 rfl, ldw 2 2 rfl, ldw 3 3 rfl, du_t, pt t, head_t]
  · rw [outsAt0_B m c t h]; frame_out
    rw [blk0 L, blk4 L, blk6 L, ldw 0 0 rfl, ldw 1 1 rfl, ldw 2 2 rfl, ldw 3 3 rfl, du_t, pt t, head_t]
/-- What a later point reads of the point before. -/
theorem head_later (h : ¬ t.val % 16 = 0) : (outsAt0 m c (t.val - 1) (Nat.lt_of_le_of_lt (Nat.sub_le _ _) t.isLt)).2.2.2 = (Cv (u2 (head t p)) : F32 S16x1024) := by
  have ht := lt16 t
  have hp : 0 < t.val := Nat.pos_of_ne_zero fun e => h (by rw [e])
  refine (kept L ⟨t.val - 1, Nat.lt_of_le_of_lt (Nat.sub_le _ _) t.isLt⟩).trans (congrArg Cv (u2_ext _ _ fun i j => ?_))
  refine Eq.trans ?_ (dif_pos (show (15 - t.val + 1) * 512 + i.val < 8192 by omega)).symm
  refine congrArg (fun s => Pool.v p s j) (Fin.ext ?_)
  show (15 - (t.val - 1)) * 512 + i.val = (15 - t.val + 1) * 512 + i.val
  omega
theorem final7 : (dats m 0 c).arrAt 7 (cfgs 0).N = (Cv (u2 (Pool.dX p)) : F32 S8192x1024) := by
  refine (dats m 0 c).arrAt_eq_of_covers 7 _ (by decide +kernel) fun t hf y => ?_
  blk_simp
  rw [after0_7]
  have e : (outsAt0 m c t.val t.isLt).1 = (Cv (u2 fun r => Pool.dX p (rowAt t r)) : F32 S512x1024) := by
    refine funext fun (y : S512x1024.Idx) => ?_
    by_cases h : t.val % 16 = 0
    · rw [outsAt0_A m c t h]; frame_out
      rw [blk0 L, blk1 L, blk3 L, blk4 L, blk6 L, ldw 0 0 rfl, ldw 1 1 rfl, ldw 2 2 rfl, ldw 3 3 rfl, du_t, pt t, pay3, head_first t h, dxn_t, pay16, pay19]; rfl
    · rw [outsAt0_B m c t h]; frame_out
      simp only [read_unread_whole]
      rw [head_later L t h, blk0 L, blk1 L, blk3 L, blk4 L, blk6 L, ldw 0 0 rfl, ldw 1 1 rfl, ldw 2 2 rfl, ldw 3 3 rfl, du_t, pt t, dxn_t, pay16, pay19]; rfl
  rw [e]
  refine congrArg Real.toEReal (congrArg₂ (Pool.dX p) (Fin.ext ?_) (Fin.ext ?_)) <;> blk_simp [idx t] <;> simp only [rowAt] <;> omega
theorem final8 : (dats m 0 c).arrAt 8 (cfgs 0).N = (Cv (u2 (Pool.dpre p)) : B16 S8192x1024) := by
  refine (dats m 0 c).arrAt_eq_of_covers 8 _ (by decide +kernel) fun t hf y => ?_
  blk_simp
  rw [after0_8]
  have e : (outsAt0 m c t.val t.isLt).2.1 = (Cv (u2 fun r => Pool.dpre p (rowAt t r)) : B16 S512x1024) := by
    refine funext fun (y : S512x1024.Idx) => ?_
    by_cases h : t.val % 16 = 0
    · rw [outsAt0_A m c t h]; frame_out
      rw [blk0 L, blk6 L, dpreb_t]
    · rw [outsAt0_B m c t h]; frame_out
      rw [blk0 L, blk6 L, dpreb_t]
  rw [e]
  refine congrArg Real.toEReal (congrArg₂ (Pool.dpre p) (Fin.ext ?_) (Fin.ext ?_)) <;> blk_simp [idx t] <;> simp only [rowAt] <;> omega
end

/-! ## The sums over all rows -/
/-- The rows' terms of the three sums, for the scale of the norm, the bias and the layer's scale. -/
def term (p : Pool.In) (q : Fin 3) (s : Fin 8192) (j : Fin 1024) : ℝ := match q with
  | ⟨0, _⟩ => Pool.dxn p s j * (p.x s j * rho (p.x s))
  | ⟨1, _⟩ => Pool.dpre p s j
  | ⟨2, _⟩ => p.d s j * (Pool.y p s j + p.b j)
def tally (p : Pool.In) (t : Fin cfg0.N) (q : Fin 3) (k : Fin 8) (j : Fin 1024) : ℝ := eights (fun r => term p q (rowAt t r)) k j
/-- One row of the array of sums with a point's part added, in the whole array. -/
theorem pieces (B : F32 S3x8x1024) (f : Fin 3 → Fin 8 → Fin 1024 → ℝ) (q : ℕ) (hq : q < 3) (inb) (W : F32 S1x8x1024)
    (hW : ∀ y : S1x8x1024.Idx, W y = View.ld (Val := Elt Ideal) (e' := .f32) B (Rect.unit (s := S3x8x1024) ![q, 0, 0] ![1, 8, 1024] inb) y + ((f ⟨q, hq⟩ (y 1) (y 2) : ℝ) : EReal)) (x : S1x8x1024.Idx) :
    W x = (fun y : S3x8x1024.Idx => B y + ((f (y 0) (y 1) (y 2) : ℝ) : EReal)) ((Rect.unit (s := S3x8x1024) ![q, 0, 0] ![1, 8, 1024] inb).emb x) := by
  refine (hW x).trans (congrArg₂ (HAdd.hAdd (α := EReal)) rfl (congrArg Real.toEReal ?_))
  have e0 : ((Rect.unit (s := S3x8x1024) ![q, 0, 0] ![1, 8, 1024] inb).emb x) 0 = (⟨q, hq⟩ : Fin 3) := Fin.ext (by blk_simp)
  have e1 : ((Rect.unit (s := S3x8x1024) ![q, 0, 0] ![1, 8, 1024] inb).emb x) 1 = x 1 := Fin.ext (by blk_simp)
  have e2 : ((Rect.unit (s := S3x8x1024) ![q, 0, 0] ![1, 8, 1024] inb).emb x) 2 = x 2 := Fin.ext (by blk_simp)
  rw [e0, e1, e2]
/-- The stores of the three rows, over any earlier stores. -/
abbrev three (W0 W1 W2 : F32 S1x8x1024) (inb0 : ∀ a, (![0, 0, 0] : Fin 3 → ℕ) a + (![1, 8, 1024] : Fin 3 → ℕ) a ≤ S3x8x1024.size a) (inb1 : ∀ a, (![1, 0, 0] : Fin 3 → ℕ) a + (![1, 8, 1024] : Fin 3 → ℕ) a ≤ S3x8x1024.size a)
    (inb2 : ∀ a, (![2, 0, 0] : Fin 3 → ℕ) a + (![1, 8, 1024] : Fin 3 → ℕ) a ≤ S3x8x1024.size a) : List (View.Piece (Elt Ideal) S3x8x1024 .f32) :=
  [⟨Rect.unit (s := S3x8x1024) ![2, 0, 0] ![1, 8, 1024] inb2, W2⟩, ⟨Rect.unit (s := S3x8x1024) ![1, 0, 0] ![1, 8, 1024] inb1, W1⟩, ⟨Rect.unit (s := S3x8x1024) ![0, 0, 0] ![1, 8, 1024] inb0, W0⟩]
theorem canon3 (G : F32 S3x8x1024) (W0 W1 W2 : F32 S1x8x1024) (l : List (View.Piece (Elt Ideal) S3x8x1024 .f32)) (inb0 inb1 inb2)
    (h0 : ∀ x : S1x8x1024.Idx, W0 x = G ((Rect.unit (s := S3x8x1024) ![0, 0, 0] ![1, 8, 1024] inb0).emb x))
    (h1 : ∀ x : S1x8x1024.Idx, W1 x = G ((Rect.unit (s := S3x8x1024) ![1, 0, 0] ![1, 8, 1024] inb1).emb x))
    (h2 : ∀ x : S1x8x1024.Idx, W2 x = G ((Rect.unit (s := S3x8x1024) ![2, 0, 0] ![1, 8, 1024] inb2).emb x)) (y : S3x8x1024.Idx) :
    View.canon (three W0 W1 W2 inb0 inb1 inb2 ++ l) y = G y := by
  have hp : View.PiecesOf (Val := Elt Ideal) (s := S3x8x1024) (e := .f32) G (three W0 W1 W2 inb0 inb1 inb2) := ⟨h2, h1, h0, trivial⟩
  exact View.canon_append_of_piecesOf G l _ hp y (View.cover_of_tiledL (three W0 W1 W2 inb0 inb1 inb2) ![1, 8, 1024] (by sl_kernel_rfl) y)
section
variable (L : Launched (V0 m c) p) (t : Fin cfg0.N)
include L
theorem sums_later (h : ¬ t.val % 16 = 0) (y : S3x8x1024.Idx) :
    (outsAt0 m c t.val t.isLt).2.2.1 y = (outsAt0 m c (t.val - 1) (Nat.lt_of_le_of_lt (Nat.sub_le _ _) t.isLt)).2.2.1 y + ((tally p t (y 0) (y 1) (y 2) : ℝ) : EReal) := by
  rw [outsAt0_B m c t h]; frame_out
  simp only [read_unread_whole]
  rw [head_later L t h, blk0 L, blk1 L, blk2 L, blk4 L, blk5 L, blk6 L, ldw 0 0 rfl, ldw 1 1 rfl, ldw 2 2 rfl, ldw 3 3 rfl, du_t, pt t, dxn_t, pay16, dpre_t, y_t]
  generalize (outsAt0 m c (t.val - 1) _).2.2.1 = B
  refine (canon3 (fun y => B y + ((tally p t (y 0) (y 1) (y 2) : ℝ) : EReal)) _ _ _ [] _ _ _
    (pieces B (tally p t) 0 (by decide) _ _ fun y => ?_) (pieces B (tally p t) 1 (by decide) _ _ fun y => ?_) (pieces B (tally p t) 2 (by decide) _ _ fun y => ?_) y).trans rfl
  · exact pay20 _ _ _ y
  · exact pay22 _ _ y
  · exact pay2 _ _ _ _ y
theorem sums_first (h : t.val % 16 = 0) (y : S3x8x1024.Idx) :
    (outsAt0 m c t.val t.isLt).2.2.1 y = 0 + ((tally p t (y 0) (y 1) (y 2) : ℝ) : EReal) := by
  rw [outsAt0_A m c t h]; frame_out
  rw [blk0 L, blk1 L, blk2 L, blk4 L, blk5 L, blk6 L, ldw 0 0 rfl, ldw 1 1 rfl, ldw 2 2 rfl, ldw 3 3 rfl, du_t, pt t, pay3, head_first t h, dxn_t, pay16, dpre_t, y_t]
  simp (disch := first | rfl | decide) only [↓View.readCov_skip, ↓View.readCov_fill]
  rw [pay4]
  refine (canon3 (fun y => (Cv (u3 fun _ _ _ => 0) : F32 S3x8x1024) y + ((tally p t (y 0) (y 1) (y 2) : ℝ) : EReal)) _ _ _ _ _ _ _
    (pieces _ (tally p t) 0 (by decide) _ _ fun y => ?_) (pieces _ (tally p t) 1 (by decide) _ _ fun y => ?_) (pieces _ (tally p t) 2 (by decide) _ _ fun y => ?_) y).trans rfl
  · exact pay20 _ _ _ y
  · exact pay22 _ _ y
  · exact pay2 _ _ _ _ y
theorem final9 : (dats m 0 c).arrAt 9 (cfgs 0).N = (Cv (u3 fun q k j => ∑ t : Fin cfg0.N, tally p t q k j) : F32 S3x8x1024) := by
  refine (dats m 0 c).arrAt_eq_of_after_last 9 t0_15 (by decide +kernel) _ fun j => ?_
  blk_simp
  rw [after0_9, Pipeline.eq_sum_fin_of_reset_step_apply_last (fun n h => (outsAt0 m c n h).2.2.1) 16 (fun _ => 0)
    (fun t j => ((tally p t (j 0) (j 1) (j 2) : ℝ) : EReal)) (fun t h j => sums_first L t h j) (fun t h j => sums_later L t h j) (le_of_eq N_0) t0_15 rfl j]
  exact (zero_add (M := EReal) _).trans (coe_sum _ _).symm
end

/-! ## The host's last lines -/
theorem sum_rows (F : Fin 8192 → ℝ) : ∑ s, F s = ∑ t : Fin cfg0.N, ∑ r : Fin 512, F (rowAt t r) := by
  refine (Fin.sum_univ_tiles 16 512 rfl F).trans ?_
  refine Fintype.sum_equiv (Fin.revPerm.trans (finCongr N_0.symm)) _ _ fun t => Finset.sum_congr rfl fun r _ => congrArg F (Fin.ext ?_)
  show t.val * 512 + r.val = (15 - (16 - (t.val + 1))) * 512 + r.val
  omega
theorem sum_eq (q : Fin 3) (j : Fin 1024) : ∑ k : Fin 8, ∑ t : Fin cfg0.N, tally p t q k j = ∑ s, term p q s j := by
  rw [sum_rows, Finset.sum_comm]
  exact Finset.sum_congr rfl fun t _ => Finset.sum_comm.trans (Fin.sum_univ_tiles 64 8 rfl fun r : Fin 512 => term p q (rowAt t r) j).symm
theorem rsum3_1 {a b n : ℕ} (f : Fin a → Fin b → Fin n → ℝ) {ax} (hx : ax = [1]) (h : (⟨3, ![a, b, n]⟩ : Shape).ReducesTo ax ⟨2, ![a, n]⟩) :
    rsum h (u3 f) = u2 fun i j => ∑ k, f i k j := by
  subst hx; funext j
  have := Ideal.hostReduceAdd_r3_a1 h (Cv (u3 f) : F32 _) 0 j
  rw [zero_add] at this
  exact_mod_cast ((coe_sum _ _).trans (zero_add _).symm).trans (this.trans (coe_sum _ _).symm)
theorem sums (h : S3x8x1024.ReducesTo ([1] : List (Fin 3)) S3x1024) (hu) : Host.reduceAdd (Cv (u3 fun q k j => ∑ t : Fin cfg0.N, tally p t q k j) : F32 S3x8x1024) (constant S_ .f32 0#32) h hu
    = (Cv (u2 fun q j => ∑ s, term p q s j) : F32 S3x1024) := by
  refine (reduceAdd_Cv _ _ _ _ Ideal.ofBits_zero_f32).trans (congrArg Cv ?_)
  dsimp only [S3x8x1024, S3x1024] at h ⊢
  rw [rsum3_1 _ rfl h]
  exact u2_ext _ _ fun q j => sum_eq q j
theorem vec_row (f : Fin 3 → Fin 1024 → ℝ) (k : Fin 3) (q : Fin 2 → ℕ) (hq : q = ![k.val, 0]) (h h') :
    shapeCast ⟨1, ![1024]⟩ (extractStridedSlice ⟨2, ![1, 1024]⟩ q (Cv (u2 f) : F32 ⟨2, ![3, 1024]⟩) h) h' = Cv (u1 (f k)) := by
  rw [slice_Cv, slice2r _ k.val _ hq _ (by omega), shapeCast_Cv, Lru.cast2_1]
  exact congrArg (fun i => Cv (u1 (f i))) (Fin.ext (by simp))
theorem arrs_inj : Function.Injective (Pipeline.arrRef (cfgs 0).spec) := (by decide +kernel : Function.Injective (Pipeline.arrRef spec0))
section
variable (L : Launched (V0 m c) p)
include L
theorem tail_g : Pipeline.afterTail₀ cfgs (dats m) 0 (V0 m) [hostOps1] c main_v90 = (Cv (u1 (Pool.dG p)) : F32 S1024) := by
  unfold Pipeline.afterTail₀
  show StableHlo.after hostOps1 _ (Proc.tc.devRef main_v90) = _
  unfold_abbrev_sides
  after_results
  rw [show Pipeline.withArrays _ _ _ _ (Proc.tc.devRef main_v87_2) = _ from (Pipeline.withArrays_arr (cfgs 0).spec arrs_inj c _ _ 9).trans (final9 L), sums]
  exact vec_row (fun q j => ∑ s, term p q s j) 0 _ rfl _ _
theorem tail_b : Pipeline.afterTail₀ cfgs (dats m) 0 (V0 m) [hostOps1] c main_v92 = (Cv (u1 (Pool.dB p)) : F32 S1024) := by
  unfold Pipeline.afterTail₀
  show StableHlo.after hostOps1 _ (Proc.tc.devRef main_v92) = _
  unfold_abbrev_sides
  after_results
  rw [show Pipeline.withArrays _ _ _ _ (Proc.tc.devRef main_v87_2) = _ from (Pipeline.withArrays_arr (cfgs 0).spec arrs_inj c _ _ 9).trans (final9 L), sums]
  exact vec_row (fun q j => ∑ s, term p q s j) 1 _ rfl _ _
theorem tail_s : Pipeline.afterTail₀ cfgs (dats m) 0 (V0 m) [hostOps1] c main_v94 = (Cv (u1 (Pool.dS p)) : F32 S1024) := by
  unfold Pipeline.afterTail₀
  show StableHlo.after hostOps1 _ (Proc.tc.devRef main_v94) = _
  unfold_abbrev_sides
  after_results
  rw [show Pipeline.withArrays _ _ _ _ (Proc.tc.devRef main_v87_2) = _ from (Pipeline.withArrays_arr (cfgs 0).spec arrs_inj c _ _ 9).trans (final9 L), sums]
  exact vec_row (fun q j => ∑ s, term p q s j) 2 _ rfl _ _
end
theorem runK (m : (ℓ : Loc nD τ sig) → Buf (Elt Ideal) ℓ) (ρ : Dev nD → PrngReg) (p : Pool.In) (hA : ∀ c : Dev nD, Args (fun b => m (c, b)) p) :
    θ_run defs (onTc (τ := τ) (main (F := Ideal))) ⟨m, fun _ => 0, ρ⟩ fun r => ∀ c : Dev nD,
      r.2.mem ((c.tc : Thread nD τ).loc main_v87_0) = (Cv (u2 (Pool.dX p)) : F32 S8192x1024)
      ∧ r.2.mem ((c.tc : Thread nD τ).loc main_v87_1) = (Cv (u2 (Pool.dpre p)) : B16 S8192x1024)
      ∧ r.2.mem ((c.tc : Thread nD τ).loc main_v90) = (Cv (u1 (Pool.dG p)) : F32 S1024)
      ∧ r.2.mem ((c.tc : Thread nD τ).loc main_v92) = (Cv (u1 (Pool.dB p)) : F32 S1024)
      ∧ r.2.mem ((c.tc : Thread nD τ).loc main_v94) = (Cv (u1 (Pool.dS p)) : F32 S1024) :=
  (θ_run defs _ _).mono (fun r h c => ⟨((h c).1 7).trans (final7 (launched m c (hA c))), ((h c).1 8).trans (final8 (launched m c (hA c))),
    ((h c).2 main_v90 (by decide)).trans (tail_g (launched m c (hA c))), ((h c).2 main_v92 (by decide)).trans (tail_b (launched m c (hA c))),
    ((h c).2 main_v94 (by decide)).trans (tail_s (launched m c (hA c)))⟩) (run_main m ρ)
end Cert.PoolIdeal.Value
-- ==== Proof.PoolClaim.lean ====
module

public import proofs.«01_k».proof.Defs
public import proofs.«01_k».proof.Proof.Gen.Pool.Frame
public import proofs.«01_k».proof.Proof.Gen.Pre_finite_pool
public import proofs.«01_k».proof.Proof.PoolRef
public import proofs.«01_k».proof.Proof.PoolKernel
public import proofs.«01_k».proof.Proof.HostRef
public import Idealize.ShloMosaic.Lib.Claim

@[expose] public section

/-! The claims of the pooled projection's gradients: the reference's frame, and its results against the kernel's. -/

set_option maxRecDepth 16384
noncomputable section
namespace Cert.Pool
open Idealize.ShloMosaic Idealize.ShloMosaic.TcCoe Idealize.SL.Sem Cert.Lift

theorem frame_reference : Cert.quiescent_PoolRefIdeal := fun m g _ =>
  (θ_run _ _ _).mono (fun r h => ⟨fun c => (h c).2.2.2.2.2, sem_eq_zero_of_no_sems (by decide) r.2⟩) (Cert.PoolRefIdeal.Value.run m g)

/-- A finite array of three axes is an array of reals. -/
theorem real3 {a b n : ℕ} {d : Fin 0 → Fin 3} {hb} (x : FVec Ideal ⟨3, ![a, b, n]⟩ .f32)
    (h : cmpf .olt (Host.absf x) (broadcastInDim ⟨3, ![a, b, n]⟩ d hb (constant (F := Ideal) ⟨0, ![]⟩ .f32 0x7F800000#32)) = fun _ => 1#1) :
    ∃ X, x = (Cv (u3 X) : FVec Ideal ⟨3, ![a, b, n]⟩ .f32) := by
  obtain ⟨X, hX⟩ := exists_u3 fun i => (x i).toReal
  exact ⟨X, (finite_Cv x h).trans (congrArg Cv hX)⟩

/-- Both programs return the same gradients of the same real arguments. -/
theorem value : algebraic_PoolIdeal_PoolRefIdeal_pre_finite_pool := by
  intro m g m' g' hpre hm
  have one (c : Dev 1) : c = 0 := Subsingleton.elim (α := Fin 1) c 0
  obtain ⟨h0, h1, h2, h3, h4, h5⟩ := hpre 0
  obtain ⟨d, e0⟩ := real2 _ h0
  obtain ⟨x, e1⟩ := real2 _ h1
  obtain ⟨gn, e2⟩ := real1 _ h2
  obtain ⟨w, e3⟩ := real3 _ h3
  obtain ⟨b, e4⟩ := real1 _ h4
  obtain ⟨s, e5⟩ := real1 _ h5
  let p : Pool.In := ⟨d, x, gn, w, b, s⟩
  have A (c : Dev Cert.PoolIdeal.nD) : Cert.PoolIdeal.Value.Args (fun b => m (c, b)) p := by
    rw [one c]
    exact ⟨e0, e1, e2, e3, e4, e5⟩
  have B (c : Dev Cert.PoolRefIdeal.nD) : Cert.PoolRefIdeal.Value.Args (fun b => m' (c, b)) p :=
    have ⟨q0, q1, q2, q3, q4, q5⟩ := hm c
    ⟨q0.trans (A c).h0, q1.trans (A c).h1, q2.trans (A c).h2, q3.trans (A c).h3, q4.trans (A c).h4, q5.trans (A c).h5⟩
  refine ⟨fun _ => (Cv (u2 (Pool.dX p)) : FVec Ideal Cert.PoolIdeal.S8192x1024 .f32), fun _ => (Cv (u2 (Pool.dpre p)) : FVec Ideal Cert.PoolIdeal.S8192x1024 .bf16),
    fun _ => (Cv (u1 (Pool.dG p)) : FVec Ideal Cert.PoolIdeal.S1024 .f32), fun _ => (Cv (u1 (Pool.dB p)) : FVec Ideal Cert.PoolIdeal.S1024 .f32),
    fun _ => (Cv (u1 (Pool.dS p)) : FVec Ideal Cert.PoolIdeal.S1024 .f32), ?_, ?_⟩
  · refine (θ_run _ _ _).mono (fun r h c => ?_) (θ_run_and (Cert.PoolIdeal.Value.runK m g p A) (Cert.PoolIdeal.Gen.unchanged m g))
    have ⟨r0, r1, r2, r3, r4⟩ := h.1 c
    exact ⟨r0, r1, r2, r3, r4, h.2 c⟩
  · refine (θ_run _ _ _).mono (fun r h c => ?_) (θ_run_and (Cert.PoolRefIdeal.Value.runR m' g' B) (Cert.PoolRefIdeal.Value.run m' g'))
    have ⟨r0, r1, r2, r3, r4⟩ := h.1 c
    exact ⟨r0, r1, r2, r3, r4, (h.2 c).2.2.2.2.2⟩

end Cert.Pool
-- ==== Proof.PleFwdRef.lean ====
module

public import proofs.«01_k».proof.Proof.Gen.PleFwdRefIdeal.Run
public import proofs.«01_k».proof.Proof.Gen.PleFwdRefIdeal
public import Idealize.ShloMosaic.Lib.Pipeline.ValueKit
public import proofs.«01_k».proof.Proof.PleSpec
public import proofs.«01_k».proof.Proof.HostRef

@[expose] public section

/-! The reference of the embedding block as a real function of real arguments. -/

set_option maxRecDepth 16384
noncomputable section
namespace Cert.PleFwdRefIdeal.Value
open Cert.PleFwdRefIdeal Cert.PleFwdRefIdeal.Gen Idealize.ShloMosaic Idealize.ShloMosaic.TcCoe Idealize.SL.Sem Idealize.ShloMosaic.StableHlo
open Cert.Lift
variable (m : (ℓ : Loc nD τ sig) → Buf (Elt Ideal) ℓ)

theorem ty0 (c : Dev nD) : ((c.tc : Thread nD τ).loc main_arg0).ty = ⟨S8192x1024, .f32⟩ := rfl
theorem ty1 (c : Dev nD) : ((c.tc : Thread nD τ).loc main_arg1).ty = ⟨S1024, .f32⟩ := rfl
theorem ty2 (c : Dev nD) : ((c.tc : Thread nD τ).loc main_arg2).ty = ⟨S8192x256, .f32⟩ := rfl
theorem ty3 (c : Dev nD) : ((c.tc : Thread nD τ).loc main_arg3).ty = ⟨S1024x1024, .f32⟩ := rfl
theorem ty4 (c : Dev nD) : ((c.tc : Thread nD τ).loc main_arg4).ty = ⟨S256x1024, .f32⟩ := rfl

set_option maxHeartbeats 4000000
theorem runR (ρ : Dev nD → PrngReg)
   (X : Fin 8192 → Fin 1024 → ℝ) (g : Fin 1024 → ℝ) (P : Fin 8192 → Fin 256 → ℝ) (Wg : Fin 1024 → Fin 1024 → ℝ) (Wp : Fin 256 → Fin 1024 → ℝ)
   (hX : ∀ (c : Dev nD), m ((c.tc : Thread nD τ).loc main_arg0) = (Cv (u2 X) : FVec Ideal S8192x1024 .f32))
   (hg : ∀ (c : Dev nD), m ((c.tc : Thread nD τ).loc main_arg1) = (Cv (u1 g) : FVec Ideal S1024 .f32))
   (hP : ∀ (c : Dev nD), m ((c.tc : Thread nD τ).loc main_arg2) = (Cv (u2 P) : FVec Ideal S8192x256 .f32))
   (hWg : ∀ (c : Dev nD), m ((c.tc : Thread nD τ).loc main_arg3) = (Cv (u2 Wg) : FVec Ideal S1024x1024 .f32))
   (hWp : ∀ (c : Dev nD), m ((c.tc : Thread nD τ).loc main_arg4) = (Cv (u2 Wp) : FVec Ideal S256x1024 .f32)) :
    θ_run defs (onTc (τ := τ) (main (F := Ideal))) ⟨m, fun _ => 0, ρ⟩ fun r => ∀ c : Dev nD,
      r.2.mem ((c.tc : Thread nD τ).loc main_v22) = (Cv (u2 (Ple.out g Wg Wp X P)) : FVec Ideal S8192x1024 .f32) := by
  refine (θ_run defs _ _).mono (fun r h c => (h c).1.trans ?_) (run m ρ)
  clear h
  rw [hX, hg, hP, hWg, hWp]
  dsimp only [ty0, ty1, ty2, ty3, ty4, S8192x1024, S8192x1, S1x1024, S8192, S1024, S_, S8192x256, S256x1024, S1024x1024]
  simp (disch := first | rfl | decide | norm_num1) only [k1024, keps, kone, kzero, mulf_Cv, addf_Cv, negf_Cv, u2_neg, reduceAdd_Cv0, broadcastInDim_Cv, shapeCast_Cv, bcast0_2, bcast1_2_0, bcast1_2_1, bcast2_row, bcast2_col,
    rsum2_1, u2_mul, u2_add, rsqrt_ms2, div_ms2, hdivf2, hexp2, hsig2, hdot_Cv, rdot_nn]
  rfl
end Cert.PleFwdRefIdeal.Value
-- ==== Proof.PleFwdKernel.lean ====
module

public import proofs.«01_k».proof.Proof.Gen.PleFwdIdeal.Frame
public import proofs.«01_k».proof.Proof.PleSpec
public import Idealize.ShloMosaic.Lib.Pipeline.ValueKit
public import Idealize.ShloMosaic.Lib.Pipeline.ReadBack

@[expose] public section

/-! The kernel of the embedding block: one block of 1024 rows per grid point writes its rows of the result. -/

set_option maxRecDepth 16384
noncomputable section
namespace Cert.PleFwdIdeal.Value
open Idealize.ShloMosaic Idealize.ShloMosaic.TcCoe Idealize.SL.Sem Cert.Lift
local notation "F32 " s:max => FVec Ideal s FTy.f32
local notation "B16 " s:max => FVec Ideal s FTy.bf16
open Idealize.ShloMosaic.Pipeline (Dat)
open Cert.PleFwdIdeal Cert.PleFwdIdeal.Gen
open Cert.Lift.Ple (col proj_concat wp_congr)
variable (m : (ℓ : Loc nD τ sig) → Buf (Elt Ideal) ℓ)

section
variable (X : Fin 1024 → Fin 1024 → ℝ) (g : Fin 1024 → ℝ) (P : Fin 1024 → Fin 256 → ℝ) (Wg : Fin 1024 → Fin 1024 → ℝ) (Wp : Fin 256 → Fin 1024 → ℝ)
theorem gates : k0_pay2 (F := Ideal) (Cv (φ := .f32) (u2 X)) (Cv (φ := .f32) (u3 fun _ _ => g)) (Cv (φ := .bf16) (u3 fun _ => Wg))
    = Cv (u2 fun r => Ple.gate g Wg (X r)) := by
  dsimp only [k0_pay2, S1024x1024, S1024x1, S1024, S1x1024]
  simp (disch := first | rfl | decide | norm_num1) only [splat2 c1024, splat2 ceps, splat2 czero, splat2 cone, mulf_Cv, u2_mul, mred2_1, shapeCast_Cv, cast1_col, cast3_2', cast3_2, divf2, addf_Cv, u2_add, ms_fold,
    broadcastTo_Cv, bto_col, bto_row, truncf_Cv, matmul_Cv, rdot_nn, subf_Cv, u2_sub, zero_sub, exp2, sig2]
  rfl
theorem embedding : k0_pay3 (F := Ideal) (Cv (φ := .f32) (u4 fun _ _ => P)) = Cv (u2 P) := by
  dsimp only [k0_pay3, S1024x256]
  simp only [shapeCast_Cv, cast4_2, truncf_Cv]
theorem first_group : k0_pay4 (F := Ideal) (Cv (φ := .f32) (u4 fun _ _ => P)) (Cv (φ := .bf16) (u4 fun _ _ k j => Wp k (col 0 j)))
    = Cv (u2 fun i j => ∑ k, P i k * Wp k (col 0 j)) := by
  dsimp only [k0_pay4]
  rw [embedding]
  dsimp only [S1024x256, S256x256]
  simp (disch := first | rfl | decide) only [shapeCast_Cv, cast4_2, matmul_Cv, rdot_nn]
theorem other_group (h) (q : Fin 4) : matmul (φ₁ := .bf16) (φ₂ := .bf16) dot_S1024x256_S256x256_S1024x256_1_0_0_1_n_n none (Cv (u2 P))
    (shapeCast ⟨2, ![256, 256]⟩ (Cv (φ := .bf16) (u4 fun (_ : Fin 1) (_ : Fin 1) k j => Wp k (col q j))) h) (constant ⟨2, ![1024, 256]⟩ .f32 0#32)
    = Cv (u2 fun i j => ∑ k, P i k * Wp k (col q j)) := by
  simp (disch := first | rfl | decide) only [shapeCast_Cv, cast4_2, matmul_Cv, rdot_nn]
theorem rows : k0_pay1 (F := Ideal) (Cv (φ := .f32) (u2 X)) (Cv (φ := .f32) (u2 fun r => Ple.gate g Wg (X r))) (Cv (φ := .bf16) (u2 P)) (Cv (φ := .f32) (u2 fun i j => ∑ k, P i k * Wp k (col 0 j)))
    (Cv (φ := .bf16) (u4 fun _ _ k j => Wp k (col 1 j))) (Cv (φ := .bf16) (u4 fun _ _ k j => Wp k (col 2 j))) (Cv (φ := .bf16) (u4 fun _ _ k j => Wp k (col 3 j)))
    = Cv (u2 (Ple.out g Wg Wp X P)) := by
  dsimp only [k0_pay1, S1024x1024, S1024x256, S256x256, S1x1x256x256]
  rw [other_group P Wp _ 1, other_group P Wp _ 2, other_group P Wp _ 3, proj_concat]
  simp only [mulf_Cv, u2_mul, addf_Cv, u2_add]
  rfl
end

theorem idx : ∀ t : Fin cfg0.N, win0_0.index t = ![t.val, 0] ∧ win0_1.index t = ![0, 0, 0] ∧ win0_2.index t = ![0, 0, t.val, 0] ∧ win0_3.index t = ![0, 0, 0]
    ∧ win0_4.index t = ![0, 0, 0, 0] ∧ win0_5.index t = ![t.val, 0] :=
  (by decide +kernel : ∀ t : Fin grid0.N, win0_0.index t = ![t.val, 0] ∧ win0_1.index t = ![0, 0, 0] ∧ win0_2.index t = ![0, 0, t.val, 0] ∧ win0_3.index t = ![0, 0, 0]
    ∧ win0_4.index t = ![0, 0, 0, 0] ∧ win0_5.index t = ![t.val, 0])

section
variable (X : Fin 8192 → Fin 1024 → ℝ) (g : Fin 1024 → ℝ) (P : Fin 8192 → Fin 256 → ℝ) (Wg : Fin 1024 → Fin 1024 → ℝ) (Wp : Fin 256 → Fin 1024 → ℝ)
   (hX : ∀ (c : Dev nD), m ((c.tc : Thread nD τ).loc main_arg0) = (Cv (u2 X) : F32 S8192x1024))
   (hg : ∀ (c : Dev nD), m ((c.tc : Thread nD τ).loc main_arg1) = (Cv (u1 g) : F32 S1024))
   (hP : ∀ (c : Dev nD), m ((c.tc : Thread nD τ).loc main_arg2) = (Cv (u2 P) : F32 S8192x256))
   (hWg : ∀ (c : Dev nD), m ((c.tc : Thread nD τ).loc main_arg3) = (Cv (u2 Wg) : F32 S1024x1024))
   (hWp : ∀ (c : Dev nD), m ((c.tc : Thread nD τ).loc main_arg4) = (Cv (u2 Wp) : F32 S256x1024))
   (c : Dev nD) (t : Fin cfg0.N)
include hX in
theorem V_x : V m c main_arg0 = (Cv (u2 X) : F32 S8192x1024) := by
  rw [V_main_arg0]; exact hX c
include hg in
theorem V_g : V m c main_v0 = (Cv (u3 fun _ _ j => g j) : F32 S1x1x1024) := by
  show StableHlo.after hostOps0 (fun b => m (c, b)) (Proc.tc.devRef main_v0) = _
  unfold_abbrev_sides
  after_results
  rw [hg c]; exact congrArg Cv (cast1_3 g _)
include hP in
theorem V_p : V m c main_v1 = (Cv (u4 fun _ _ => P) : F32 S1x1x8192x256) := by
  show StableHlo.after hostOps0 (fun b => m (c, b)) (Proc.tc.devRef main_v1) = _
  unfold_abbrev_sides
  after_results
  rw [hP c]; rfl
include hWg in
theorem V_wg : V m c main_v3 = (Cv (u3 fun _ => Wg) : B16 S1x1024x1024) := by
  show StableHlo.after hostOps0 (fun b => m (c, b)) (Proc.tc.devRef main_v3) = _
  unfold_abbrev_sides
  after_results
  rw [hWg c]; rfl
include hWp in
theorem V_wp : V m c main_v7 = (Cv (u4 fun _ q k j => Wp k (col q j)) : B16 S1x4x256x256) := by
  show StableHlo.after hostOps0 (fun b => m (c, b)) (Proc.tc.devRef main_v7) = _
  unfold_abbrev_sides
  after_results
  rw [hWp c]
  refine (show _ = broadcastInDim S1x4x256x256 ![1, 2, 3] bcast_S4x256x256_S1x4x256x256_1_2_3 (transpose S4x256x256 [1, 0, 2] (shapeCast S256x4x256 (Cv (u2 Wp) : B16 S256x1024) shapeCasts_S256x1024_S256x4x256)
    transposes_S256x4x256_S4x256x256_1_0_2) from rfl).trans ?_
  dsimp only [S256x1024, S256x4x256, S4x256x256]
  simp (disch := first | rfl | decide) only [shapeCast_Cv, cast2_3c, transpose_Cv, trans3]
  rw [broadcastInDim_Cv]; rfl
/-- Row `r` of block `t`. -/
def rowAt (r : Fin 1024) : Fin 8192 := ⟨t.val * 1024 + r.val, by have := lt_of_lt_of_eq t.isLt N_0; omega⟩
include hX in
theorem blk0 : (iblk m c 0 t : F32 S1024x1024) = (Cv (u2 fun r => X (rowAt t r)) : F32 S1024x1024) := by
  refine funext fun (y : S1024x1024.Idx) => ?_
  unfold iblk
  rw [show V m c (Pipeline.arrRef spec0 0) = _ from V_x m X hX c]
  refine congrArg Real.toEReal (congrArg₂ X (Fin.ext ?_) (Fin.ext ?_)) <;> blk_simp [idx t] <;> simp only [rowAt] <;> omega
include hg in
theorem blk1 : (iblk m c 1 t : F32 S1x1x1024) = (Cv (u3 fun _ _ => g) : F32 S1x1x1024) := by
  refine funext fun (y : S1x1x1024.Idx) => ?_
  unfold iblk
  rw [show V m c (Pipeline.arrRef spec0 1) = _ from V_g m g hg c]
  refine congrArg Real.toEReal (congrArg g (Fin.ext ?_))
  blk_simp [idx t]
include hP in
theorem blk2 : (iblk m c 2 t : F32 S1x1x1024x256) = (Cv (u4 fun _ _ r => P (rowAt t r)) : F32 S1x1x1024x256) := by
  refine funext fun (y : S1x1x1024x256.Idx) => ?_
  unfold iblk
  rw [show V m c (Pipeline.arrRef spec0 2) = _ from V_p m P hP c]
  refine congrArg Real.toEReal (congrArg₂ P (Fin.ext ?_) (Fin.ext ?_)) <;> blk_simp [idx t] <;> simp only [rowAt] <;> omega
include hWg in
theorem blk3 : (iblk m c 3 t : B16 S1x1024x1024) = (Cv (u3 fun _ => Wg) : B16 S1x1024x1024) := by
  refine funext fun (y : S1x1024x1024.Idx) => ?_
  unfold iblk
  rw [show V m c (Pipeline.arrRef spec0 3) = _ from V_wg m Wg hWg c]
  refine congrArg Real.toEReal (congrArg₂ Wg (Fin.ext ?_) (Fin.ext ?_)) <;> blk_simp [idx t]
include hWp in
theorem blk4 : (iblk m c 4 t : B16 S1x4x256x256) = (Cv (u4 fun _ q k j => Wp k (col q j)) : B16 S1x4x256x256) := by
  refine funext fun (y : S1x4x256x256.Idx) => ?_
  unfold iblk
  rw [show V m c (Pipeline.arrRef spec0 4) = _ from V_wp m Wp hWp c]
  refine congrArg Real.toEReal (wp_congr Wp (Fin.ext ?_) (Fin.ext ?_) (Fin.ext ?_)) <;> blk_simp [idx t]
/-- The `q`-th group of columns of the block of projection weights. -/
theorem ld4 (q : Fin 4) (n : ℕ) (hn : n = q.val) (inb) : View.ld (Val := Elt Ideal) (e' := .bf16) (S := S1x4x256x256) (Cv (u4 fun _ q k j => Wp k (col q j)) : B16 S1x4x256x256) (Rect.unit (s := S1x4x256x256) ![0, n, 0, 0] ![1, 1, 256, 256] inb)
    = (Cv (u4 fun _ _ k j => Wp k (col q j)) : B16 S1x1x256x256) := by
  subst hn
  refine funext fun (y : S1x1x256x256.Idx) => ?_
  show (Cv (u4 fun _ q k j => Wp k (col q j)) : B16 S1x4x256x256) ((Rect.unit (s := S1x4x256x256) ![0, q.val, 0, 0] ![1, 1, 256, 256] inb).emb y) = _
  refine congrArg Real.toEReal (wp_congr Wp (Fin.ext ?_) (Fin.ext ?_) (Fin.ext ?_)) <;> blk_simp
include hX hg hP hWg hWp in
theorem final5 : (dats m 0 c).arrAt 5 (cfgs 0).N = (Cv (u2 (Ple.out g Wg Wp X P)) : F32 S8192x1024) := by
  refine (dats m 0 c).arrAt_eq_of_covers 5 _ (by decide +kernel) fun t hf y => ?_
  blk_simp
  rw [after0_5]
  have e : out0_5 (iblk m c 0 t) (iblk m c 1 t) (iblk m c 2 t) (iblk m c 3 t) (iblk m c 4 t) = (Cv (u2 fun r => Ple.out g Wg Wp X P (rowAt t r)) : F32 S1024x1024) := by
    refine funext fun (y : S1024x1024.Idx) => ?_
    frame_out
    rw [blk0 m X hX, blk1 m g hg, blk2 m P hP, blk3 m Wg hWg, blk4 m Wp hWp, ld4 Wp 0 0 rfl, ld4 Wp 1 1 rfl, ld4 Wp 2 2 rfl, ld4 Wp 3 3 rfl,
      gates, embedding, first_group, rows]; rfl
  rw [e]
  refine congrArg Real.toEReal (congrArg₂ (Ple.out g Wg Wp X P) (Fin.ext ?_) (Fin.ext ?_)) <;> blk_simp [idx t] <;> simp only [rowAt] <;> omega
include hX hg hP hWg hWp in
theorem runK (ρ : Dev nD → PrngReg) : θ_run defs (onTc (τ := τ) (main (F := Ideal))) ⟨m, fun _ => 0, ρ⟩ fun r => ∀ c : Dev nD,
      r.2.mem ((c.tc : Thread nD τ).loc main_v8) = (Cv (u2 (Ple.out g Wg Wp X P)) : F32 S8192x1024) :=
  (θ_run defs _ _).mono (fun r h c => ((h c).1 5).trans (final5 m X g P Wg Wp hX hg hP hWg hWp c)) (run_main m ρ)
end
end Cert.PleFwdIdeal.Value
-- ==== Proof.PleFwdClaim.lean ====
module

public import proofs.«01_k».proof.Defs
public import proofs.«01_k».proof.Proof.Gen.PleFwd.Frame
public import proofs.«01_k».proof.Proof.Gen.Pre_finite_ple_fwd
public import proofs.«01_k».proof.Proof.PleFwdRef
public import proofs.«01_k».proof.Proof.PleFwdKernel
public import Idealize.ShloMosaic.Lib.Claim

@[expose] public section

/-! The claims of the per-layer embedding block, put together. -/

set_option maxRecDepth 16384
noncomputable section
namespace Cert.PleFwd
open Idealize.ShloMosaic Idealize.ShloMosaic.TcCoe Idealize.SL.Sem Cert.Lift

theorem frame_reference : Cert.quiescent_PleFwdRefIdeal := fun m g _ =>
  (θ_run _ _ _).mono (fun r h => ⟨fun c => (h c).2, sem_eq_zero_of_no_sems (by decide) r.2⟩) (Cert.PleFwdRefIdeal.Value.run m g)

/-- Both programs return the same gradients of the same real arguments. -/
theorem value : algebraic_PleFwdIdeal_PleFwdRefIdeal_pre_finite_ple_fwd := by
  intro m g m' g' hpre hm
  have one (c : Dev 1) : c = 0 := Subsingleton.elim (α := Fin 1) c 0
  obtain ⟨h0, h1, h2, h3, h4⟩ := hpre 0
  obtain ⟨X, e0⟩ := real2 _ h0
  obtain ⟨G, e1⟩ := real1 _ h1
  obtain ⟨P, e2⟩ := real2 _ h2
  obtain ⟨Wg, e3⟩ := real2 _ h3
  obtain ⟨Wp, e4⟩ := real2 _ h4
  have a0 (c : Dev Cert.PleFwdIdeal.nD) : m (c.tc.loc Cert.PleFwdIdeal.main_arg0) = (Cv (u2 X) : FVec Ideal Cert.PleFwdIdeal.S8192x1024 .f32) := by
    rw [one c]; exact e0
  have a1 (c : Dev Cert.PleFwdIdeal.nD) : m (c.tc.loc Cert.PleFwdIdeal.main_arg1) = (Cv (u1 G) : FVec Ideal Cert.PleFwdIdeal.S1024 .f32) := by
    rw [one c]; exact e1
  have a2 (c : Dev Cert.PleFwdIdeal.nD) : m (c.tc.loc Cert.PleFwdIdeal.main_arg2) = (Cv (u2 P) : FVec Ideal Cert.PleFwdIdeal.S8192x256 .f32) := by
    rw [one c]; exact e2
  have a3 (c : Dev Cert.PleFwdIdeal.nD) : m (c.tc.loc Cert.PleFwdIdeal.main_arg3) = (Cv (u2 Wg) : FVec Ideal Cert.PleFwdIdeal.S1024x1024 .f32) := by
    rw [one c]; exact e3
  have a4 (c : Dev Cert.PleFwdIdeal.nD) : m (c.tc.loc Cert.PleFwdIdeal.main_arg4) = (Cv (u2 Wp) : FVec Ideal Cert.PleFwdIdeal.S256x1024 .f32) := by
    rw [one c]; exact e4
  refine ⟨fun _ => (Cv (u2 (Ple.out G Wg Wp X P)) : FVec Ideal Cert.PleFwdIdeal.S8192x1024 .f32), ?_, ?_⟩
  · exact (θ_run _ _ _).mono (fun r h c => ⟨(h.1 c), h.2 c⟩)
      (θ_run_and (Cert.PleFwdIdeal.Value.runK m X G P Wg Wp a0 a1 a2 a3 a4 g) (Cert.PleFwdIdeal.Gen.unchanged m g))
  · exact (θ_run _ _ _).mono (fun r h c => ⟨(h.1 c), (h.2 c).2⟩)
      (θ_run_and (Cert.PleFwdRefIdeal.Value.runR m' g' X G P Wg Wp (fun c => (hm c).1.trans (a0 c)) (fun c => (hm c).2.1.trans (a1 c)) (fun c => (hm c).2.2.1.trans (a2 c)) (fun c => (hm c).2.2.2.1.trans (a3 c)) (fun c => (hm c).2.2.2.2.trans (a4 c))) (Cert.PleFwdRefIdeal.Value.run m' g'))

end Cert.PleFwd
-- ==== Proof.PoolFwdSpec.lean ====
module

public import proofs.«01_k».proof.Proof.PoolSpec

@[expose] public section

/-! The mathematics of the pooling layer itself: its result, and a window's sum as a difference of two running sums. -/

noncomputable section
namespace Cert.Lift.Pool
open Cert.Lift
open Cert.Lift.Lru (csum csum_zero csum_succ)

/-- The layer's result, added onto its input. -/
def out (p : In) : Mat := fun t j => p.x t j + (y p t j + p.b j) * p.s j

theorem back_step (n : ℕ) (f : Fin 8192 → ℝ) (t : Fin 8192) : back n (csum f) t = back (n + 1) (csum f) t + back n f t := by
  unfold back
  by_cases h : n + 1 ≤ t.val
  · rw [dif_pos (show n ≤ t.val by omega), dif_pos h, dif_pos (show n ≤ t.val by omega)]
    have e : (⟨t.val - n, by omega⟩ : Fin 8192) = ⟨t.val - (n + 1) + 1, by omega⟩ := Fin.ext (by show t.val - n = t.val - (n + 1) + 1; omega)
    rw [e, csum_succ]
  · by_cases h' : n ≤ t.val
    · rw [dif_pos h', dif_neg h, dif_pos h', zero_add]
      have e : (⟨t.val - n, by omega⟩ : Fin 8192) = ⟨0, by omega⟩ := Fin.ext (by show t.val - n = 0; omega)
      rw [e, csum_zero]
    · rw [dif_neg h', dif_neg h, dif_neg h', zero_add]
/-- A running sum less itself a window before is the window's sum. -/
theorem csum_window (n : ℕ) (f : Fin 8192 → ℝ) (t : Fin 8192) : csum f t - back n (csum f) t = ∑ k ∈ Finset.range n, back k f t := by
  induction n with
  | zero =>
    have e : back 0 (csum f) t = csum f t := dif_pos (Nat.zero_le _)
    rw [e, sub_self, Finset.sum_range_zero]
  | succ n ih =>
    rw [Finset.sum_range_succ, ← ih, back_step n f t]
    ring
end Cert.Lift.Pool
-- ==== Proof.PoolFwdRef.lean ====
module

public import proofs.«01_k».proof.Proof.Gen.PoolFwdRefIdeal.Run
public import proofs.«01_k».proof.Proof.Gen.PoolFwdRefIdeal
public import Idealize.ShloMosaic.Lib.Pipeline.ValueKit
public import proofs.«01_k».proof.Proof.PoolOps
public import proofs.«01_k».proof.Proof.PoolFwdSpec
public import proofs.«01_k».proof.Proof.HostRef

@[expose] public section

/-! The reference of the pooling layer: the norm, the four groups' means over windows, and both results. -/

set_option maxRecDepth 16384
noncomputable section
namespace Cert.PoolFwdRefIdeal.Value
open Cert.PoolFwdRefIdeal Cert.PoolFwdRefIdeal.Gen Idealize.ShloMosaic Idealize.ShloMosaic.TcCoe Idealize.SL.Sem Idealize.ShloMosaic.StableHlo
local notation "F32 " s:max => FVec Ideal s FTy.f32
open Cert.Lift
open Cert.Lift.Lru (csum cumsum2 rdot_b1 trans3_201)
open Cert.Lift.Pool (count group_host groups grp lane col win win_pos pooled)

/-- The norm of every row. -/
def hnorm (x : F32 S8192x1024) (g : F32 S1024) : F32 S8192x1024 :=
  mulf (mulf x (broadcastInDim S8192x1024 ![0, 1] bcast_S8192x1_S8192x1024_0_1 (Host.rsqrt (addf (Host.divf (broadcastInDim S8192x1 ![0] bcast_S8192_S8192x1_0
      (Host.reduceAdd (mulf x x) (constant S_ .f32 0x00000000#32) reducesTo_S8192x1024_S8192_d1 h_S_)) (broadcastInDim S8192x1 ![] bcast_S_S8192x1 (constant S_ .f32 0x44800000#32)))
    (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 g))
/-- Its running sums. -/
def hcum (y : F32 S8192x1024) : F32 S8192x1024 :=
  Host.reduceWindowAdd ![8192, 1] ![1, 1] ![8191, 0] ![0, 0] y (broadcastInDim S_ ![] bcast_S_S_ (constant S_ .f32 0x00000000#32)) reduceWindows_S8192x1024_S8192x1024_w8192s1p8191_0_w1s1p0_0 h_S_
/-- One group's means over windows of `n` positions, less the entries. -/
def mean (n m : ℕ) (w : BitVec 32) (o : Fin 2 → ℕ) (hs : S8192x1024.Slices o S8192x256) (hn : S_.BroadcastsInDim ⟨2, ![n, 256]⟩ ![]) (hm : S8192x256.Slices ![0, 0] ⟨2, ![m, 256]⟩)
    (hc : Shape.Concatenates [⟨2, ![n, 256]⟩, ⟨2, ![m, 256]⟩] S8192x256 0) (y t : F32 S8192x1024) : F32 S8192x256 :=
  subf (Host.divf (subf (extractStridedSlice S8192x256 o t hs) (concatenate S8192x256 0 [⟨⟨2, ![n, 256]⟩, (broadcastInDim ⟨2, ![n, 256]⟩ ![] hn (constant S_ .f32 0x00000000#32 : F32 S_))⟩,
      ⟨⟨2, ![m, 256]⟩, (extractStridedSlice ⟨2, ![m, 256]⟩ ![0, 0] (extractStridedSlice S8192x256 o t hs) hm)⟩] hc))
    (broadcastInDim S8192x256 ![0, 1] bcast_S8192x1_S8192x256_0_1 (broadcastInDim S8192x1 ![0] bcast_S8192_S8192x1_0 (sitofp .f32 (minsi (addi (iotaInDim S8192 32 0)
      (broadcastInDim S8192 ![] bcast_S_S8192 (constantI S_ 32 1#32))) (broadcastInDim S8192 ![] bcast_S_S8192 (constantI S_ 32 w)))))))
    (extractStridedSlice S8192x256 o y hs)
/-- The four groups side by side. -/
def hpool (y t : F32 S8192x1024) : F32 S8192x4x256 :=
  concatenate S8192x4x256 1 [⟨S8192x1x256, (broadcastInDim S8192x1x256 ![0, 2] bcast_S8192x256_S8192x1x256_0_2 (mean 2 8190 2#32 ![0, 0] slices_S8192x1024_S8192x256_0_0 bcast_S_S2x256 slices_S8192x256_S8190x256_0_0 concatenates_S2x256_S8190x256_S8192x256_d0 y t) : F32 S8192x1x256)⟩,
    ⟨S8192x1x256, (broadcastInDim S8192x1x256 ![0, 2] bcast_S8192x256_S8192x1x256_0_2 (mean 4 8188 4#32 ![0, 256] slices_S8192x1024_S8192x256_0_256 bcast_S_S4x256 slices_S8192x256_S8188x256_0_0 concatenates_S4x256_S8188x256_S8192x256_d0 y t) : F32 S8192x1x256)⟩,
    ⟨S8192x1x256, (broadcastInDim S8192x1x256 ![0, 2] bcast_S8192x256_S8192x1x256_0_2 (mean 8 8184 8#32 ![0, 512] slices_S8192x1024_S8192x256_0_512 bcast_S_S8x256 slices_S8192x256_S8184x256_0_0 concatenates_S8x256_S8184x256_S8192x256_d0 y t) : F32 S8192x1x256)⟩,
    ⟨S8192x1x256, (broadcastInDim S8192x1x256 ![0, 2] bcast_S8192x256_S8192x1x256_0_2 (mean 16 8176 16#32 ![0, 768] slices_S8192x1024_S8192x256_0_768 bcast_S_S16x256 slices_S8192x256_S8176x256_0_0 concatenates_S16x256_S8176x256_S8192x256_d0 y t) : F32 S8192x1x256)⟩]
    concatenates_S8192x1x256_S8192x1x256_S8192x1x256_S8192x1x256_S8192x4x256_d1

theorem hnorm_Cv (x : Pool.Mat) (g : Fin 1024 → ℝ) : hnorm (Cv (u2 x)) (Cv (u1 g)) = Cv (u2 fun t => nrm (x t) g) := by
  unfold hnorm
  dsimp only [S8192x1024, S8192x1, S8192, S1x1024, S1024, S_]
  simp (disch := first | rfl | decide | norm_num1) only [k1024, keps, kzero, mulf_Cv, addf_Cv, reduceAdd_Cv0, broadcastInDim_Cv, bcast0_2, bcast1_2_0, bcast1_2_1, bcast2_row, bcast2_col, rsum2_1, u2_mul, u2_add, rsqrt_ms2, hdivf2]
  rfl
theorem hcum_Cv (f : Pool.Mat) : hcum (Cv (u2 f)) = Cv (u2 fun t j => csum (fun s => f s j) t) := cumsum2 _ rfl _ _ _ fun i => Ideal.ofBits_zero_f32
theorem part (q : Fin 4) (o : Fin 2 → ℕ) (ho : o = ![0, q.val * 256]) (f : Pool.Mat) (h) :
    extractStridedSlice ⟨2, ![8192, 256]⟩ o (Cv (u2 f) : F32 ⟨2, ![8192, 1024]⟩) h = (Cv (u2 fun t k => f t (col q k)) : F32 ⟨2, ![8192, 256]⟩) := by
  rw [slice_Cv, slice2 _ (q.val * 256) _ ho _ (by have := q.isLt; omega)]
  rfl
theorem mean_Cv (q : Fin 4) (n m : ℕ) (hq : n = win q) (hnm : 8192 = n + m) (w : BitVec 32) (hw : w = BitVec.ofNat 32 n) (o : Fin 2 → ℕ) (ho : o = ![0, q.val * 256]) (hs hn hm hc) (f : Pool.Mat) :
    mean n m w o hs hn hm hc (Cv (u2 f)) (Cv (u2 fun t j => csum (fun s => f s j) t)) = Cv (u2 fun t k => pooled (win q) (fun s => f s (col q k)) t) := by
  have h16 : n ≤ 16 := hq ▸ (Nat.pow_le_pow_right (by norm_num) (by have := q.isLt; omega) : 2 ^ (q.val + 1) ≤ 2 ^ 4)
  have e := group_host n m (hq ▸ win_pos q) hnm (fun t k => f t (col q k)) (part q o ho (fun t j => csum (fun s => f s j) t) hs) (count n h16 w hw ![0] rfl bcast_S8192_S8192x1_0 ![] ![] bcast_S_S8192 bcast_S_S8192)
    (part q o ho f hs) ![0, 0] rfl hm ![] hn hc ![0, 1] rfl bcast_S8192x1_S8192x256_0_1
  exact e.trans (by rw [hq])
theorem hpool_Cv (f : Pool.Mat) : hpool (Cv (u2 f)) (Cv (u2 fun t j => csum (fun s => f s j) t)) = Cv (u3 fun t q k => pooled (win q) (fun s => f s (col q k)) t) :=
  groups (fun q t k => pooled (win q) (fun s => f s (col q k)) t) (mean_Cv 0 2 8190 rfl rfl _ rfl _ rfl _ _ _ _ f) (mean_Cv 1 4 8188 rfl rfl _ rfl _ rfl _ _ _ _ f)
    (mean_Cv 2 8 8184 rfl rfl _ rfl _ rfl _ _ _ _ f) (mean_Cv 3 16 8176 rfl rfl _ rfl _ rfl _ _ _ _ f) _ rfl _ _
theorem pooled_u (p : Pool.In) : (fun t q k => pooled (win q) (fun s => nrm (p.x s) p.g (col q k)) t) = fun t q k => Pool.u p t (col q k) := by
  funext t q k
  unfold Pool.u; rw [Pool.grp_col]; rfl
theorem flat (p : Pool.In) (h) : shapeCast S8192x1024 (Cv (u3 fun t q k => Pool.u p t (col q k)) : F32 S8192x4x256) h = (Cv (u2 (Pool.u p)) : F32 S8192x1024) := by
  dsimp only [S8192x1024, S8192x4x256]
  rw [shapeCast_Cv]
  refine congrArg Cv (u2_ext _ _ fun t j => ?_)
  refine (shapeCast_apply _ h _ (Idealize.ShloMosaic.ix3 t (grp j) (lane j)) ?_).trans (congrArg (Pool.u p t) (Pool.col_grp j))
  rw [Shape.rowMajor_val_three, Shape.rowMajor_val_two]
  show (t.val * 4 + j.val / 256) * 256 + j.val % 256 = t.val * 1024 + j.val
  omega

/-- The arguments are the casts of `p`. -/
structure Args (V : Valuation τ sig (Elt Ideal)) (p : Pool.In) : Prop where
  h0 : V (Proc.devRef .tc main_arg0) = (Cv (u2 p.x) : F32 S8192x1024)
  h1 : V (Proc.devRef .tc main_arg1) = (Cv (u1 p.g) : F32 S1024)
  h2 : V (Proc.devRef .tc main_arg2) = (Cv (u3 p.w) : F32 S4x256x256)
  h3 : V (Proc.devRef .tc main_arg3) = (Cv (u1 p.b) : F32 S1024)
  h4 : V (Proc.devRef .tc main_arg4) = (Cv (u1 p.s) : F32 S1024)
theorem means (p : Pool.In) : hpool (hnorm (Cv (u2 p.x)) (Cv (u1 p.g))) (hcum (hnorm (Cv (u2 p.x)) (Cv (u1 p.g)))) = Cv (u3 fun t q k => Pool.u p t (col q k)) := by
  rw [hnorm_Cv, hcum_Cv, hpool_Cv, pooled_u]
section
variable {m : (ℓ : Loc nD τ sig) → Buf (Elt Ideal) ℓ} {p : Pool.In} {c : Dev nD} (A : Args (fun b => m (c, b)) p)
include A
theorem saved : res_main_v91 m c = (Cv (u2 (Pool.u p)) : FVec Ideal S8192x1024 .bf16) := by
  let x : F32 S8192x1024 := m ((c.tc : Thread nD τ).loc main_arg0)
  let y : F32 S8192x1024 := hnorm x (m ((c.tc : Thread nD τ).loc main_arg1))
  refine (show res_main_v91 m c = truncf .bf16 (shapeCast S8192x1024 (hpool y (hcum y)) shapeCasts_S8192x4x256_S8192x1024) bitsLt_bf16_f32 from rfl).trans ?_
  dsimp only [y, x]
  rw [show m ((c.tc : Thread nD τ).loc main_arg0) = _ from A.h0, show m ((c.tc : Thread nD τ).loc main_arg1) = _ from A.h1, means, flat]
  exact truncf_Cv _ _
theorem result : res_main_v89 m c = (Cv (u2 (Pool.out p)) : F32 S8192x1024) := by
  let x : F32 S8192x1024 := m ((c.tc : Thread nD τ).loc main_arg0)
  let y : F32 S8192x1024 := hnorm x (m ((c.tc : Thread nD τ).loc main_arg1))
  refine (show res_main_v89 m c = addf x (mulf (addf (shapeCast S8192x1024 (transpose S8192x4x256 [2, 0, 1] (Host.dotGeneral dot_S4x256x256_S8192x4x256_S4x256x8192_1_2_2_0_0_1 none (m ((c.tc : Thread nD τ).loc main_arg2) : F32 S4x256x256) (hpool y (hcum y)))
      transposes_S4x256x8192_S8192x4x256_2_0_1) shapeCasts_S8192x4x256_S8192x1024) (broadcastInDim S8192x1024 ![0, 1] bcast_S1x1024_S8192x1024_0_1 (broadcastInDim S1x1024 ![1] bcast_S1024_S1x1024_1 (m ((c.tc : Thread nD τ).loc main_arg3) : F32 S1024))))
    (broadcastInDim S8192x1024 ![0, 1] bcast_S1x1024_S8192x1024_0_1 (broadcastInDim S1x1024 ![1] bcast_S1024_S1x1024_1 (m ((c.tc : Thread nD τ).loc main_arg4) : F32 S1024)))) from rfl).trans ?_
  dsimp only [y, x]
  rw [show m ((c.tc : Thread nD τ).loc main_arg0) = _ from A.h0, show m ((c.tc : Thread nD τ).loc main_arg1) = _ from A.h1, show m ((c.tc : Thread nD τ).loc main_arg2) = _ from A.h2,
    show m ((c.tc : Thread nD τ).loc main_arg3) = _ from A.h3, show m ((c.tc : Thread nD τ).loc main_arg4) = _ from A.h4, means]
  dsimp only [S8192x1024, S8192x4x256, S4x256x256, S4x256x8192, S1x1024, S1024]
  rw [hdot_Cv, rdot_b1 _ _ _ rfl rfl rfl rfl rfl rfl, transpose_Cv, trans3_201, shapeCast_Cv]
  erw [cast3_2c (n := 1024) (fun k i j => ∑ l, p.w i l j * Pool.u p k (col i l)) rfl (by norm_num)]
  simp (disch := first | rfl | decide) only [broadcastInDim_Cv, bcast1_2_1, bcast2_row, addf_Cv, mulf_Cv, u2_mul, u2_add]
  refine congrArg Cv (u2_ext _ _ fun t j => ?_)
  show p.x t j + ((∑ k, p.w (grp j) k (lane j) * Pool.u p t (col (grp j) k)) + p.b j) * p.s j = p.x t j + (Pool.y p t j + p.b j) * p.s j
  rw [Pool.y]
  exact congrArg (fun z => p.x t j + (z + p.b j) * p.s j) (Finset.sum_congr rfl fun k _ => mul_comm _ _)
end
theorem runR (m : (ℓ : Loc nD τ sig) → Buf (Elt Ideal) ℓ) (ρ : Dev nD → PrngReg) (p : Pool.In) (hA : ∀ c : Dev nD, Args (fun b => m (c, b)) p) :
    θ_run defs (onTc (τ := τ) (main (F := Ideal))) ⟨m, fun _ => 0, ρ⟩ fun r => ∀ c : Dev nD,
      r.2.mem ((c.tc : Thread nD τ).loc main_v89) = (Cv (u2 (Pool.out p)) : F32 S8192x1024)
      ∧ r.2.mem ((c.tc : Thread nD τ).loc main_v91) = (Cv (u2 (Pool.u p)) : FVec Ideal S8192x1024 .bf16) :=
  (θ_run defs _ _).mono (fun r h c => ⟨(h c).1.trans (result (hA c)), (h c).2.1.trans (saved (hA c))⟩) (run m ρ)
end Cert.PoolFwdRefIdeal.Value
-- ==== Proof.PoolFwdPay.lean ====
module

public import proofs.«01_k».proof.Proof.Gen.PoolFwdIdeal.Frame
public import proofs.«01_k».proof.Proof.PoolPay

@[expose] public section

/-! What the pooling layer's forward kernel computes of one block of 512 rows and the sixteen rows before it. -/

set_option maxRecDepth 16384
noncomputable section
namespace Cert.PoolFwdIdeal.Value
open Idealize.ShloMosaic Idealize.ShloMosaic.TcCoe Idealize.SL.Sem Cert.Lift
local notation "F32 " s:max => FVec Ideal s FTy.f32
open Cert.PoolFwdIdeal Cert.PoolFwdIdeal.Gen
open Cert.Lift.Pool (col grp lane col_grp cnt cnt_ne win win_pos)
open Cert.Lift.Lru (slice2r rcat concat_rows roll2)

/-! ## Sums over windows that look back, by doubling -/
section
variable {b : ℕ}
def wb (n : ℕ) (E : Fin 528 → Fin b → ℝ) (i : Fin 528) (j : Fin b) : ℝ := ∑ k ∈ Finset.range n, E ⟨(i.val + 528 - k) % 528, Nat.mod_lt _ (by norm_num)⟩ j
theorem wb_one (E : Fin 528 → Fin b → ℝ) : wb 1 E = E := by
  funext i j
  refine (Finset.sum_range_one _).trans (congrArg (fun i => E i j) (Fin.ext ?_))
  show (i.val + 528 - 0) % 528 = i.val
  omega
theorem twice (n n' : ℕ) (hn' : n' = n + n) (h8 : n ≤ 8) (E : Fin 528 → Fin b → ℝ) (w : BitVec 32) (hs : w.toNat % 528 = n) (hr) :
    addf (Cv (u2 (wb n E)) : F32 ⟨2, ![528, b]⟩) (dynamicRotate 0 w none (Cv (u2 (wb n E))) hr) = Cv (u2 (wb n' E)) := by
  subst hn'
  rw [roll2 _ w n hs (by norm_num), addf_Cv]
  refine congrArg Cv (u2_ext _ _ fun i j => ?_)
  show wb n E i j + wb n E ⟨(i.val + 528 - n) % 528, _⟩ j = _
  refine Eq.trans ?_ (Finset.sum_range_add _ n n).symm
  refine congrArg₂ (HAdd.hAdd (α := ℝ)) rfl (Finset.sum_congr rfl fun k hk => congrArg (fun i => E i j) (Fin.ext ?_))
  have := Finset.mem_range.1 hk
  show ((i.val + 528 - n) % 528 + 528 - k) % 528 = (i.val + 528 - (n + k)) % 528
  omega
end
theorem rest {b c : ℕ} (hb : b = 256 + c) (n : ℕ) (E : Fin 528 → Fin b → ℝ) (q : Fin 2 → ℕ) (hq : q = ![0, 256]) (h) :
    extractStridedSlice ⟨2, ![528, c]⟩ q (Cv (u2 (wb n E)) : F32 ⟨2, ![528, b]⟩) h = (Cv (u2 (wb n fun i (j : Fin c) => E i ⟨256 + j.val, by omega⟩)) : F32 ⟨2, ![528, c]⟩) := by
  rw [slice_Cv, slice2 _ 256 _ hq _ (by omega)]
  rfl
theorem below (F : Fin 528 → Fin 256 → ℝ) (q : Fin 2 → ℕ) (hq : q = ![16, 0]) (h) :
    extractStridedSlice ⟨2, ![512, 256]⟩ q (Cv (u2 F) : F32 ⟨2, ![528, 256]⟩) h = (Cv (u2 fun i j => F ⟨16 + i.val, by omega⟩ j) : F32 ⟨2, ![512, 256]⟩) := by
  rw [slice_Cv, slice2r _ 16 _ hq _ (by omega)]
theorem near {b : ℕ} (F : Fin 528 → Fin b → ℝ) (hb : 256 ≤ b) (q : Fin 2 → ℕ) (hq : q = ![0, 0]) (h) :
    extractStridedSlice ⟨2, ![528, 256]⟩ q (Cv (u2 F) : F32 ⟨2, ![528, b]⟩) h = (Cv (u2 fun i (j : Fin 256) => F i ⟨j.val, by omega⟩) : F32 ⟨2, ![528, 256]⟩) := by
  rw [slice_Cv, slice2 _ 0 _ hq _ (by omega)]
  exact congrArg Cv (u2_ext _ _ fun i j => congrArg (F i) (Fin.ext (Nat.zero_add _)))

/-! ## The norm, and the block with the rows before it -/
section
variable (X : Fin 512 → Fin 1024 → ℝ) (g : Fin 1024 → ℝ) (H : Fin 16 → Fin 1024 → ℝ)
theorem pay2 : k0_pay2 (F := Ideal) = Cv (u2 fun _ _ => 0) := by
  dsimp only [k0_pay2]
  rw [cast_same]
  funext y; exact Ideal.ofBits_zero_f32
theorem pay3 : k0_pay3 (F := Ideal) (Cv (φ := .f32) (u2 X)) (Cv (φ := .f32) (u3 fun _ _ => g)) = Cv (u2 fun r => nrm (X r) g) := by
  dsimp only [k0_pay3, S512x1024, S512x1, S512, S1x1024]
  simp (disch := first | rfl | decide | norm_num1) only [splat2 c1024, splat2 ceps, mulf_Cv, u2_mul, mred2_1, shapeCast_Cv, cast1_col, cast3_2', divf2, addf_Cv, u2_add, ms_fold, broadcastTo_Cv, bto_col, bto_row]
  rfl
theorem pay4 : k0_pay4 (F := Ideal) (Cv (φ := .f32) (u2 X)) (Cv (φ := .f32) (u3 fun _ _ => g)) = Cv (u2 fun (i : Fin 16) => nrm (X ⟨496 + i.val, by omega⟩) g) := by
  dsimp only [k0_pay4]
  rw [pay3, cast_same]
  dsimp only [S512x1024, S16x1024]
  rw [slice_Cv, slice2r _ 496 _ rfl _ (by omega)]
/-- The sixteen rows before a block, and the block. -/
abbrev ext (X : Fin 512 → Fin 1024 → ℝ) (g : Fin 1024 → ℝ) (H : Fin 16 → Fin 1024 → ℝ) : Fin 528 → Fin 1024 → ℝ := rcat (show 528 = 16 + 512 from rfl) H fun r => nrm (X r) g
theorem pay5 : k0_pay5 (F := Ideal) (Cv (φ := .f32) (u2 X)) (Cv (φ := .f32) (u3 fun _ _ => g)) (Cv (φ := .f32) (u2 H)) = Cv (u2 (wb 2 (ext X g H))) := by
  dsimp only [k0_pay5]
  rw [pay3]
  dsimp only [S512x1024, S528x1024, S16x1024]
  rw [concat_rows (show 528 = 16 + 512 from rfl) rfl rfl, ← wb_one (rcat _ H _), twice 1 2 rfl (by norm_num) _ 1#32 (by decide)]
theorem pay6 : k0_pay6 (F := Ideal) (Cv (φ := .f32) (u2 X)) (Cv (φ := .f32) (u3 fun _ _ => g)) (Cv (φ := .f32) (u2 H)) = Cv (u2 (wb 4 fun i (j : Fin 768) => ext X g H i ⟨256 + j.val, by omega⟩)) := by
  dsimp only [k0_pay6]
  rw [pay5]
  dsimp only [S528x1024, S528x768]
  rw [rest (c := 768) rfl 2 _ _ rfl, twice 2 4 rfl (by norm_num) _ 2#32 (by decide)]
theorem pay7 : k0_pay7 (F := Ideal) (Cv (φ := .f32) (u2 X)) (Cv (φ := .f32) (u3 fun _ _ => g)) (Cv (φ := .f32) (u2 H)) = Cv (u2 (wb 8 fun i (j : Fin 512) => ext X g H i ⟨256 + (256 + j.val), by omega⟩)) := by
  dsimp only [k0_pay7]
  rw [pay6]
  dsimp only [S528x768, S528x512]
  rw [rest (c := 512) rfl 4 _ _ rfl, twice 4 8 rfl (by norm_num) _ 4#32 (by decide)]
theorem pay8 : k0_pay8 (F := Ideal) (Cv (φ := .f32) (u2 X)) (Cv (φ := .f32) (u3 fun _ _ => g)) (Cv (φ := .f32) (u2 H)) = Cv (u2 (wb 16 fun i (j : Fin 256) => ext X g H i ⟨256 + (256 + (256 + j.val)), by omega⟩)) := by
  dsimp only [k0_pay8]
  rw [pay7]
  dsimp only [S528x512, S528x256]
  rw [rest (c := 256) rfl 8 _ _ rfl, twice 8 16 rfl (by norm_num) _ 8#32 (by decide)]
theorem pay9 : k0_pay9 (F := Ideal) (Cv (φ := .f32) (u2 X)) (Cv (φ := .f32) (u3 fun _ _ => g)) (Cv (φ := .f32) (u2 H)) = Cv (u2 fun i (k : Fin 256) => wb 2 (ext X g H) i ⟨k.val, by omega⟩) := by
  dsimp only [k0_pay9]
  rw [pay5]
  dsimp only [S528x1024, S528x256]
  rw [near _ (by norm_num) _ rfl]
end

/-! ## The means -/
theorem row_word (n i : ℕ) (hn : n < 16) (hi : i < 512) :
    (IntOp.addi (IntOp.addi (BitVec.ofNat 32 i) (IntOp.muli (BitVec.ofNat 32 n) 512#32)) 1#32).toInt = ((n * 512 + i + 1 : ℕ) : ℤ) := by
  have e : (IntOp.addi (IntOp.addi (BitVec.ofNat 32 i) (IntOp.muli (BitVec.ofNat 32 n) 512#32)) 1#32).toNat = n * 512 + i + 1 := by
    show (BitVec.ofNat 32 i + BitVec.ofNat 32 n * 512#32 + 1#32).toNat = _
    simp only [BitVec.toNat_add, BitVec.toNat_mul, BitVec.toNat_ofNat]
    omega
  rw [BitVec.toInt_eq_toNat_of_lt (by omega), e]
theorem positions (n : ℕ) (hn : n < 16) : (sitofp .f32 (addi (addi (iota .tc S512x1024 32 [0] iota_S512x1024_d0_w32) (broadcast S512x1024 (Scalar.muli (BitVec.ofNat 32 n) 512#32))) (broadcast S512x1024 1#32)) : F32 S512x1024)
    = Cv (u2 fun i _ => ((n * 512 + i.val + 1 : ℕ) : ℝ)) := by
  funext y
  show (((IntOp.addi (IntOp.addi (BitVec.ofNat 32 (0 * 512 + (y 0).val)) (IntOp.muli (BitVec.ofNat 32 n) 512#32)) 1#32).toInt : ℝ) : EReal) = ((((n * 512 + (y 0).val + 1 : ℕ) : ℝ)) : EReal)
  rw [Nat.zero_mul, Nat.zero_add, row_word n _ hn (y 0).isLt]
  rfl
theorem lengths : select (cmpi .slt (iota .tc S512x1024 32 [1] iota_S512x1024_d1_w32) (broadcast S512x1024 256#32)) (broadcast S512x1024 (Scalar.ofBits (F := Ideal) .f32 0x40000000#32))
    (select (cmpi .slt (iota .tc S512x1024 32 [1] iota_S512x1024_d1_w32) (broadcast S512x1024 512#32)) (broadcast S512x1024 (Scalar.ofBits (F := Ideal) .f32 0x40800000#32))
    (select (cmpi .slt (iota .tc S512x1024 32 [1] iota_S512x1024_d1_w32) (broadcast S512x1024 768#32)) (broadcast S512x1024 (Scalar.ofBits (F := Ideal) .f32 0x41000000#32)) (broadcast S512x1024 (Scalar.ofBits (F := Ideal) .f32 0x41800000#32))))
    = (Cv (u2 fun _ j => ((win (grp j) : ℕ) : ℝ)) : F32 ⟨2, ![512, 1024]⟩) := Cert.PoolIdeal.Value.lengths
theorem sums (E : Fin 528 → Fin 1024 → ℝ) (h) : concatenate S512x1024 1 [⟨S512x256, (Cv (u2 fun i (k : Fin 256) => wb 2 E ⟨16 + i.val, by omega⟩ ⟨k.val, by omega⟩) : F32 S512x256)⟩,
      ⟨S512x256, (Cv (u2 fun i (k : Fin 256) => wb 4 (fun i (j : Fin 768) => E i ⟨256 + j.val, by omega⟩) ⟨16 + i.val, by omega⟩ ⟨k.val, by omega⟩) : F32 S512x256)⟩,
      ⟨S512x256, (Cv (u2 fun i (k : Fin 256) => wb 8 (fun i (j : Fin 512) => E i ⟨256 + (256 + j.val), by omega⟩) ⟨16 + i.val, by omega⟩ ⟨k.val, by omega⟩) : F32 S512x256)⟩,
      ⟨S512x256, (Cv (u2 fun i (k : Fin 256) => wb 16 (fun i (j : Fin 256) => E i ⟨256 + (256 + (256 + j.val)), by omega⟩) ⟨16 + i.val, by omega⟩ k) : F32 S512x256)⟩] h
    = (Cv (u2 fun i j => wb (win (grp j)) E ⟨16 + i.val, by omega⟩ j) : F32 S512x1024) := by
  have e (q : Fin 4) (n : ℕ) (hn : n = win q) (f : Fin 256 → Fin 1024) (hf : ∀ k, f k = col q k) :
      (Cv (u2 fun (i : Fin 512) k => wb n (fun i k => E i (f k)) ⟨16 + i.val, by omega⟩ k) : F32 ⟨2, ![512, 256]⟩) = Cv (u2 fun i k => wb (win q) E ⟨16 + i.val, by omega⟩ (col q k)) := by
    subst hn
    refine congrArg Cv (u2_ext _ _ fun i k => ?_)
    show wb (win q) (fun i k => E i (f k)) ⟨16 + i.val, _⟩ k = _
    simp only [hf]
    rfl
  refine Eq.trans ?_ ((concat4 (fun q (i : Fin 512) k => wb (win q) E ⟨16 + i.val, by omega⟩ (col q k)) rfl (by norm_num) h).trans
    (congrArg Cv (u2_ext _ _ fun i j => congrArg (wb (win (grp j)) E _) (col_grp j))))
  rw [← e 0 2 rfl (fun k => ⟨k.val, by omega⟩) (fun k => Fin.ext (by simp [col])), ← e 1 4 rfl (fun k => ⟨256 + k.val, by omega⟩) (fun k => Fin.ext (by simp [col])),
    ← e 2 8 rfl (fun k => ⟨256 + (256 + k.val), by omega⟩) (fun k => Fin.ext (by simp [col]; omega)), ← e 3 16 rfl (fun k => ⟨256 + (256 + (256 + k.val)), by omega⟩) (fun k => Fin.ext (by simp [col]; omega))]
  rfl
theorem pay10 (n : ℕ) (hn : n < 16) (N : Fin 512 → Fin 1024 → ℝ) (E : Fin 528 → Fin 1024 → ℝ) :
    k0_pay10 (F := Ideal) (BitVec.ofNat 32 n) (Cv (φ := .f32) (u2 N)) (Cv (φ := .f32) (u2 (wb 4 fun i (j : Fin 768) => E i ⟨256 + j.val, by omega⟩))) (Cv (φ := .f32) (u2 (wb 8 fun i (j : Fin 512) => E i ⟨256 + (256 + j.val), by omega⟩)))
      (Cv (φ := .f32) (u2 (wb 16 fun i (j : Fin 256) => E i ⟨256 + (256 + (256 + j.val)), by omega⟩))) (Cv (φ := .f32) (u2 fun i (k : Fin 256) => wb 2 E i ⟨k.val, by omega⟩))
      = Cv (u2 fun r j => wb (win (grp j)) E ⟨16 + r.val, by omega⟩ j / cnt (win (grp j)) (n * 512 + r.val) - N r j) := by
  dsimp only [k0_pay10]
  rw [lengths, positions n hn, show broadcast S512x1024 (Scalar.ofBits (F := Ideal) .f32 0x3F800000#32) = (Cv (u2 fun _ _ => 1) : F32 ⟨2, ![512, 1024]⟩) from splat2 cone]
  have s := sums E concatenates_S512x256_S512x256_S512x256_S512x256_S512x1024_d1
  dsimp only [S512x1024, S528x768, S528x512, S528x256, S512x256] at s ⊢
  rw [near _ (by norm_num) _ rfl, near _ (by norm_num) _ rfl, below _ _ rfl, below _ _ rfl, below _ _ rfl, below _ _ rfl, s]
  rw [Cert.PoolIdeal.Value.minimumf_Cv, show (fun i => min (u2 (fun (i : Fin 512) (_ : Fin 1024) => ((n * 512 + i.val + 1 : ℕ) : ℝ)) i) (u2 (fun (_ : Fin 512) (j : Fin 1024) => ((win (grp j) : ℕ) : ℝ)) i))
    = u2 (fun (i : Fin 512) (j : Fin 1024) => cnt (win (grp j)) (n * 512 + i.val)) from u2_ext _ _ fun i j => (Nat.cast_min _ _).symm,
    divf_Cv (u2 fun _ _ => 1) (u2 fun (i : Fin 512) (j : Fin 1024) => cnt (win (grp j)) (n * 512 + i.val)) fun i => cnt_ne (win_pos _) _, mulf_Cv, subf_Cv, truncf_Cv]
  exact congrArg Cv (u2_ext _ _ fun i j => congrArg (· - N i j) (div_eq_mul_one_div _ _).symm)

/-! ## The products by groups -/
theorem group (U : Fin 512 → Fin 1024 → ℝ) (w : Fin 4 → Fin 256 → Fin 256 → ℝ) (q : Fin 4) (o : Fin 2 → ℕ) (ho : o = ![0, q.val * 256]) (h h') : matmul (φ₁ := .bf16) (φ₂ := .bf16) dot_S512x256_S256x256_S512x256_1_0_0_1_n_n none
    (extractStridedSlice ⟨2, ![512, 256]⟩ o (Cv (φ := .bf16) (u2 U)) h) (shapeCast ⟨2, ![256, 256]⟩ (Cv (φ := .bf16) (u4 fun (_ : Fin 1) (_ : Fin 1) => w q)) h') (constant ⟨2, ![512, 256]⟩ .f32 0#32)
    = Cv (u2 fun r k => ∑ i, U r (col q i) * w q i k) := Cert.PoolIdeal.Value.group U w q o ho h h'
theorem rows (X U : Fin 512 → Fin 1024 → ℝ) (w : Fin 4 → Fin 256 → Fin 256 → ℝ) (b s : Fin 1024 → ℝ) (a : BitVec 32) (v17 : F32 S512x1024) (v29 : F32 S528x768) (v33 : F32 S528x512) (v37 v38 : F32 S528x256)
    (hU : k0_pay10 a v17 v29 v33 v37 v38 = Cv (u2 U)) :
    k0_pay1 (F := Ideal) (Cv (φ := .f32) (u2 X)) (k0_pay10 a v17 v29 v33 v37 v38) (k0_pay11 a v17 v29 v33 v37 v38 (Cv (φ := .bf16) (u4 fun _ _ => w 0))) (k0_pay12 a v17 v29 v33 v37 v38)
      (Cv (φ := .bf16) (u4 fun _ _ => w 1)) (Cv (φ := .bf16) (u4 fun _ _ => w 2)) (Cv (φ := .bf16) (u4 fun _ _ => w 3)) (Cv (φ := .f32) (u3 fun _ _ => b)) (Cv (φ := .f32) (u3 fun _ _ => s))
      = Cv (u2 fun r j => X r j + ((∑ i, U r (col (grp j) i) * w (grp j) i (lane j)) + b j) * s j) := by
  dsimp only [k0_pay1, k0_pay11, k0_pay12]
  rw [hU]
  have e := concat4 (φ := .f32) (fun q (r : Fin 512) k => ∑ i, U r (col q i) * w q i k) rfl (by norm_num) concatenates_S512x256_S512x256_S512x256_S512x256_S512x1024_d1
  dsimp only [S512x1024, S512x256, S256x256, S1x1024] at e ⊢
  rw [group U w 0 ![0, 0] rfl, group U w 1 ![0, 256] rfl, group U w 2 ![0, 512] rfl, group U w 3 ![0, 768] rfl, e]
  simp (disch := first | rfl | decide) only [shapeCast_Cv, cast3_2', broadcastTo_Cv, bto_row, mulf_Cv, u2_mul, addf_Cv, u2_add]
  rfl
end Cert.PoolFwdIdeal.Value
-- ==== Proof.PoolFwdKernel.lean ====
module

public import proofs.«01_k».proof.Proof.PoolFwdSpec
public import proofs.«01_k».proof.Proof.PoolFwdPay
public import Idealize.ShloMosaic.Lib.Pipeline.ReadBack

@[expose] public section

/-! The pooling layer's forward kernel as a whole. It walks the blocks of 512 rows in order and keeps the last sixteen
    normalised rows of the block that it has just seen, which the windows of the next block reach. -/

set_option maxRecDepth 16384
noncomputable section
namespace Cert.PoolFwdIdeal.Value
open Idealize.ShloMosaic Idealize.ShloMosaic.TcCoe Idealize.SL.Sem Cert.Lift
local notation "F32 " s:max => FVec Ideal s FTy.f32
local notation "B16 " s:max => FVec Ideal s FTy.bf16
open Idealize.ShloMosaic.Pipeline (Dat)
open Cert.PoolFwdIdeal Cert.PoolFwdIdeal.Gen
open Cert.Lift.Pool (col grp lane cnt win back)
open Cert.Lift.Lru (rcat)
variable {m : (ℓ : Loc nD τ sig) → Buf (Elt Ideal) ℓ} {p : Pool.In} {c : Dev nD}

theorem idx : ∀ t : Fin cfg0.N, win0_0.index t = ![t.val, 0] ∧ win0_1.index t = ![0, 0, 0] ∧ win0_2.index t = ![0, 0, 0, 0] ∧ win0_3.index t = ![0, 0, 0]
    ∧ win0_4.index t = ![0, 0, 0] ∧ win0_5.index t = ![t.val, 0] ∧ win0_6.index t = ![t.val, 0] :=
  (by decide +kernel : ∀ t : Fin grid0.N, win0_0.index t = ![t.val, 0] ∧ win0_1.index t = ![0, 0, 0] ∧ win0_2.index t = ![0, 0, 0, 0] ∧ win0_3.index t = ![0, 0, 0]
    ∧ win0_4.index t = ![0, 0, 0] ∧ win0_5.index t = ![t.val, 0] ∧ win0_6.index t = ![t.val, 0])
theorem pt : ∀ t : Fin cfg0.N, (grid0.coords t 0).val = t.val := (by decide +kernel : ∀ t : Fin grid0.N, (grid0.coords t 0).val = t.val)
theorem lt16 (t : Fin cfg0.N) : t.val < 16 := lt_of_lt_of_eq t.isLt N_0
/-- Row `r` of the block of point `t`. -/
def rowAt (t : Fin cfg0.N) (r : Fin 512) : Fin 8192 := ⟨t.val * 512 + r.val, by have := lt16 t; omega⟩

/-- The arguments are the casts of `p`. -/
structure Args (V : Valuation τ sig (Elt Ideal)) (p : Pool.In) : Prop where
  h0 : V (Proc.devRef .tc main_arg0) = (Cv (u2 p.x) : F32 S8192x1024)
  h1 : V (Proc.devRef .tc main_arg1) = (Cv (u1 p.g) : F32 S1024)
  h2 : V (Proc.devRef .tc main_arg2) = (Cv (u3 p.w) : F32 S4x256x256)
  h3 : V (Proc.devRef .tc main_arg3) = (Cv (u1 p.b) : F32 S1024)
  h4 : V (Proc.devRef .tc main_arg4) = (Cv (u1 p.s) : F32 S1024)

/-! ## The blocks -/
section
variable (A : Args (fun b => m (c, b)) p) (t : Fin cfg0.N)
include A
theorem V_x : Gen.V m c main_arg0 = (Cv (u2 p.x) : F32 S8192x1024) := by
  rw [V_main_arg0]; exact A.h0
theorem V_g : Gen.V m c main_v0 = (Cv (u3 fun _ _ j => p.g j) : F32 S1x1x1024) := by
  show StableHlo.after hostOps0 (fun b => m (c, b)) (Proc.tc.devRef main_v0) = _
  unfold_abbrev_sides
  after_results
  rw [A.h1]; exact congrArg Cv (cast1_3 p.g _)
theorem V_w : Gen.V m c main_v2 = (Cv (u4 fun _ q i k => p.w q i k) : B16 S1x4x256x256) := by
  show StableHlo.after hostOps0 (fun b => m (c, b)) (Proc.tc.devRef main_v2) = _
  unfold_abbrev_sides
  after_results
  rw [A.h2, truncf_Cv]
  refine (broadcastInDim_Cv _ _ _ _).trans ?_
  rfl
theorem V_b : Gen.V m c main_v3 = (Cv (u3 fun _ _ j => p.b j) : F32 S1x1x1024) := by
  show StableHlo.after hostOps0 (fun b => m (c, b)) (Proc.tc.devRef main_v3) = _
  unfold_abbrev_sides
  after_results
  rw [A.h3]; exact congrArg Cv (cast1_3 p.b _)
theorem V_s : Gen.V m c main_v4 = (Cv (u3 fun _ _ j => p.s j) : F32 S1x1x1024) := by
  show StableHlo.after hostOps0 (fun b => m (c, b)) (Proc.tc.devRef main_v4) = _
  unfold_abbrev_sides
  after_results
  rw [A.h4]; exact congrArg Cv (cast1_3 p.s _)
theorem blk0 : (iblk m c 0 t : F32 S512x1024) = (Cv (u2 fun r => p.x (rowAt t r)) : F32 S512x1024) := by
  refine funext fun (y : S512x1024.Idx) => ?_
  unfold iblk
  rw [show Gen.V m c (Pipeline.arrRef spec0 0) = _ from V_x A]
  refine congrArg Real.toEReal (congrArg₂ p.x (Fin.ext ?_) (Fin.ext ?_)) <;> blk_simp [idx t] <;> simp only [rowAt] <;> omega
theorem blk1 : (iblk m c 1 t : F32 S1x1x1024) = (Cv (u3 fun _ _ => p.g) : F32 S1x1x1024) := by
  refine funext fun (y : S1x1x1024.Idx) => ?_
  unfold iblk
  rw [show Gen.V m c (Pipeline.arrRef spec0 1) = _ from V_g A]
  refine congrArg Real.toEReal (congrArg p.g (Fin.ext ?_))
  blk_simp [idx t]
omit A in
theorem w_congr {q q' : Fin 4} {i i' k k' : Fin 256} (hq : q = q') (hi : i = i') (hk : k = k') : p.w q i k = p.w q' i' k' := by
  subst hq hi hk; rfl
theorem blk2 : (iblk m c 2 t : B16 S1x4x256x256) = (Cv (u4 fun _ q i k => p.w q i k) : B16 S1x4x256x256) := by
  refine funext fun (y : S1x4x256x256.Idx) => ?_
  unfold iblk
  rw [show Gen.V m c (Pipeline.arrRef spec0 2) = _ from V_w A]
  refine congrArg Real.toEReal (w_congr (Fin.ext ?_) (Fin.ext ?_) (Fin.ext ?_)) <;> blk_simp [idx t]
theorem blk3 : (iblk m c 3 t : F32 S1x1x1024) = (Cv (u3 fun _ _ => p.b) : F32 S1x1x1024) := by
  refine funext fun (y : S1x1x1024.Idx) => ?_
  unfold iblk
  rw [show Gen.V m c (Pipeline.arrRef spec0 3) = _ from V_b A]
  refine congrArg Real.toEReal (congrArg p.b (Fin.ext ?_))
  blk_simp [idx t]
theorem blk4 : (iblk m c 4 t : F32 S1x1x1024) = (Cv (u3 fun _ _ => p.s) : F32 S1x1x1024) := by
  refine funext fun (y : S1x1x1024.Idx) => ?_
  unfold iblk
  rw [show Gen.V m c (Pipeline.arrRef spec0 4) = _ from V_s A]
  refine congrArg Real.toEReal (congrArg p.s (Fin.ext ?_))
  blk_simp [idx t]
end
/-- The weights of group `q`. -/
theorem ldw (q : Fin 4) (n : ℕ) (hn : n = q.val) (inb) : View.ld (Val := Elt Ideal) (e' := .bf16) (S := S1x4x256x256) (Cv (u4 fun _ q i k => p.w q i k) : B16 S1x4x256x256) (Rect.unit (s := S1x4x256x256) ![0, n, 0, 0] ![1, 1, 256, 256] inb)
    = (Cv (u4 fun _ _ => p.w q) : B16 S1x1x256x256) := by
  subst hn
  refine funext fun (y : S1x1x256x256.Idx) => ?_
  show (Cv (u4 fun _ q i k => p.w q i k) : B16 S1x4x256x256) ((Rect.unit (s := S1x4x256x256) ![0, q.val, 0, 0] ![1, 1, 256, 256] inb).emb y) = _
  refine congrArg Real.toEReal (w_congr (Fin.ext ?_) (Fin.ext ?_) (Fin.ext ?_)) <;> blk_simp

/-! ## One point's values -/
section
variable (t : Fin cfg0.N)
/-- The sixteen normalised rows before point `t`'s block, and zeros before the first block. -/
def before (p : Pool.In) (i : Fin 16) (j : Fin 1024) : ℝ := if h : t.val = 0 then 0 else Pool.xn p ⟨t.val * 512 - 16 + i.val, by have := lt16 t; omega⟩ j
theorem reach (r : Fin 512) (j : Fin 1024) (k : ℕ) (hk : k < 16) :
    ext (fun r => p.x (rowAt t r)) p.g (before t p) ⟨(16 + r.val + 528 - k) % 528, Nat.mod_lt _ (by norm_num)⟩ j = back k (fun s => Pool.xn p s j) (rowAt t r) := by
  have ht := lt16 t
  have e : (16 + r.val + 528 - k) % 528 = 16 + r.val - k := by omega
  simp only [ext, e]
  unfold rcat back
  by_cases h : 16 + r.val - k < 16
  · rw [dif_pos h]
    unfold before
    by_cases h' : t.val = 0
    · rw [dif_pos h']
      by_cases hr : k = r.val
      · omega
      · rw [dif_neg (by simp only [rowAt]; omega)]
    · rw [dif_neg h', dif_pos (by simp only [rowAt]; omega)]
      exact congrArg (fun s => Pool.xn p s j) (Fin.ext (by simp only [rowAt]; omega))
  · rw [dif_neg h, dif_pos (by simp only [rowAt]; omega)]
    exact congrArg (fun s => Pool.xn p s j) (Fin.ext (by simp only [rowAt]; omega))
theorem windows (r : Fin 512) (j : Fin 1024) : wb (win (grp j)) (ext (fun r => p.x (rowAt t r)) p.g (before t p)) ⟨16 + r.val, by omega⟩ j / cnt (win (grp j)) (t.val * 512 + r.val) - nrm (p.x (rowAt t r)) p.g j = Pool.u p (rowAt t r) j := by
  unfold Pool.u Pool.pooled
  rw [Pool.csum_window]
  refine congrArg (fun z => z / cnt (win (grp j)) (t.val * 512 + r.val) - nrm (p.x (rowAt t r)) p.g j) (Finset.sum_congr rfl fun k hk => reach t r j k ?_)
  have h1 : win (grp j) ≤ 2 ^ 4 := Nat.pow_le_pow_right (by norm_num) (by have := (grp j).isLt; omega)
  have h2 := Finset.mem_range.1 hk
  omega
theorem u_t : k0_pay10 (F := Ideal) (BitVec.ofNat 32 t.val) (k0_pay3 (Cv (φ := .f32) (u2 fun r => p.x (rowAt t r))) (Cv (φ := .f32) (u3 fun _ _ => p.g)))
    (k0_pay6 (Cv (φ := .f32) (u2 fun r => p.x (rowAt t r))) (Cv (φ := .f32) (u3 fun _ _ => p.g)) (Cv (φ := .f32) (u2 (before t p)))) (k0_pay7 (Cv (φ := .f32) (u2 fun r => p.x (rowAt t r))) (Cv (φ := .f32) (u3 fun _ _ => p.g)) (Cv (φ := .f32) (u2 (before t p))))
    (k0_pay8 (Cv (φ := .f32) (u2 fun r => p.x (rowAt t r))) (Cv (φ := .f32) (u3 fun _ _ => p.g)) (Cv (φ := .f32) (u2 (before t p)))) (k0_pay9 (Cv (φ := .f32) (u2 fun r => p.x (rowAt t r))) (Cv (φ := .f32) (u3 fun _ _ => p.g)) (Cv (φ := .f32) (u2 (before t p))))
    = Cv (u2 fun r => Pool.u p (rowAt t r)) := by
  rw [pay3, pay6, pay7, pay8, pay9, pay10 _ (lt16 t)]
  exact congrArg Cv (u2_ext _ _ fun r j => windows t r j)
theorem before_first (h : t.val % 16 = 0) : (Cv (u2 fun _ _ => 0) : F32 S16x1024) = Cv (u2 (before t p)) := by
  have ht := lt16 t
  refine congrArg Cv (u2_ext _ _ fun i j => ?_)
  show (0 : ℝ) = before t p i j
  unfold before
  rw [dif_pos (by omega)]
end

section
variable (A : Args (fun b => m (c, b)) p) (t : Fin cfg0.N)
include A
/-- What a point keeps. -/
theorem kept : (outsAt0 m c t.val t.isLt).2.2 = (Cv (u2 fun (i : Fin 16) => Pool.xn p (rowAt t ⟨496 + i.val, by omega⟩)) : F32 S16x1024) := by
  refine funext fun (y : S16x1024.Idx) => ?_
  by_cases h : t.val % 16 = 0
  · rw [outsAt0_A m c t h]; frame_out
    rw [blk0 A, blk1 A, pay4]; rfl
  · rw [outsAt0_B m c t h]; frame_out
    rw [blk0 A, blk1 A, pay4]; rfl
/-- What a later point reads of the point before. -/
theorem before_later (h : ¬ t.val % 16 = 0) : (outsAt0 m c (t.val - 1) (Nat.lt_of_le_of_lt (Nat.sub_le _ _) t.isLt)).2.2 = (Cv (u2 (before t p)) : F32 S16x1024) := by
  have ht := lt16 t
  have hp : ¬ t.val = 0 := fun e => h (by rw [e])
  refine (kept A ⟨t.val - 1, Nat.lt_of_le_of_lt (Nat.sub_le _ _) t.isLt⟩).trans (congrArg Cv (u2_ext _ _ fun i j => ?_))
  refine Eq.trans ?_ (dif_neg hp).symm
  refine congrArg (fun s => Pool.xn p s j) (Fin.ext ?_)
  show (t.val - 1) * 512 + (496 + i.val) = t.val * 512 - 16 + i.val
  omega
theorem final5 : (dats m 0 c).arrAt 5 (cfgs 0).N = (Cv (u2 (Pool.out p)) : F32 S8192x1024) := by
  refine (dats m 0 c).arrAt_eq_of_covers 5 _ (by decide +kernel) fun t hf y => ?_
  blk_simp
  rw [after0_5]
  have e : (outsAt0 m c t.val t.isLt).1 = (Cv (u2 fun r => Pool.out p (rowAt t r)) : F32 S512x1024) := by
    refine funext fun (y : S512x1024.Idx) => ?_
    by_cases h : t.val % 16 = 0
    · rw [outsAt0_A m c t h]; frame_out
      rw [blk0 A, blk1 A, blk2 A, blk3 A, blk4 A, ldw 0 0 rfl, ldw 1 1 rfl, ldw 2 2 rfl, ldw 3 3 rfl, pt t, pay2, before_first t h, rows _ _ _ _ _ _ _ _ _ _ _ (u_t t)]; rfl
    · rw [outsAt0_B m c t h]; frame_out
      simp only [read_unread_whole]
      rw [before_later A t h, blk0 A, blk1 A, blk2 A, blk3 A, blk4 A, ldw 0 0 rfl, ldw 1 1 rfl, ldw 2 2 rfl, ldw 3 3 rfl, pt t, rows _ _ _ _ _ _ _ _ _ _ _ (u_t t)]; rfl
  rw [e]
  refine congrArg Real.toEReal (congrArg₂ (Pool.out p) (Fin.ext ?_) (Fin.ext ?_)) <;> blk_simp [idx t] <;> simp only [rowAt] <;> omega
theorem final6 : (dats m 0 c).arrAt 6 (cfgs 0).N = (Cv (u2 (Pool.u p)) : B16 S8192x1024) := by
  refine (dats m 0 c).arrAt_eq_of_covers 6 _ (by decide +kernel) fun t hf y => ?_
  blk_simp
  rw [after0_6]
  have e : (outsAt0 m c t.val t.isLt).2.1 = (Cv (u2 fun r => Pool.u p (rowAt t r)) : B16 S512x1024) := by
    refine funext fun (y : S512x1024.Idx) => ?_
    by_cases h : t.val % 16 = 0
    · rw [outsAt0_A m c t h]; frame_out
      rw [blk0 A, blk1 A, pt t, pay2, before_first t h, u_t]
    · rw [outsAt0_B m c t h]; frame_out
      simp only [read_unread_whole]
      rw [before_later A t h, blk0 A, blk1 A, pt t, u_t]
  rw [e]
  refine congrArg Real.toEReal (congrArg₂ (Pool.u p) (Fin.ext ?_) (Fin.ext ?_)) <;> blk_simp [idx t] <;> simp only [rowAt] <;> omega
end
theorem runK (m : (ℓ : Loc nD τ sig) → Buf (Elt Ideal) ℓ) (ρ : Dev nD → PrngReg) (p : Pool.In) (hA : ∀ c : Dev nD, Args (fun b => m (c, b)) p) :
    θ_run defs (onTc (τ := τ) (main (F := Ideal))) ⟨m, fun _ => 0, ρ⟩ fun r => ∀ c : Dev nD,
      r.2.mem ((c.tc : Thread nD τ).loc main_v5_0) = (Cv (u2 (Pool.out p)) : F32 S8192x1024)
      ∧ r.2.mem ((c.tc : Thread nD τ).loc main_v5_1) = (Cv (u2 (Pool.u p)) : B16 S8192x1024) :=
  (θ_run defs _ _).mono (fun r h c => ⟨((h c).1 5).trans (final5 (hA c)), ((h c).1 6).trans (final6 (hA c))⟩) (run_main m ρ)
end Cert.PoolFwdIdeal.Value
-- ==== Proof.PoolFwdClaim.lean ====
module

public import proofs.«01_k».proof.Defs
public import proofs.«01_k».proof.Proof.Gen.PoolFwd.Frame
public import proofs.«01_k».proof.Proof.Gen.Pre_finite_pool_fwd
public import proofs.«01_k».proof.Proof.PoolFwdRef
public import proofs.«01_k».proof.Proof.PoolFwdKernel
public import proofs.«01_k».proof.Proof.PoolClaim

@[expose] public section

/-! The claims of the pooling layer itself: the reference's frame, and its results against the kernel's. -/

set_option maxRecDepth 16384
noncomputable section
namespace Cert.PoolFwd
open Idealize.ShloMosaic Idealize.ShloMosaic.TcCoe Idealize.SL.Sem Cert.Lift

theorem frame_reference : Cert.quiescent_PoolFwdRefIdeal := fun m g _ =>
  (θ_run _ _ _).mono (fun r h => ⟨fun c => (h c).2.2, sem_eq_zero_of_no_sems (by decide) r.2⟩) (Cert.PoolFwdRefIdeal.Value.run m g)

/-- Both programs return the same arrays of the same real arguments. -/
theorem value : algebraic_PoolFwdIdeal_PoolFwdRefIdeal_pre_finite_pool_fwd := by
  intro m g m' g' hpre hm
  have one (c : Dev 1) : c = 0 := Subsingleton.elim (α := Fin 1) c 0
  obtain ⟨h0, h1, h2, h3, h4⟩ := hpre 0
  obtain ⟨x, e0⟩ := real2 _ h0
  obtain ⟨gn, e1⟩ := real1 _ h1
  obtain ⟨w, e2⟩ := Cert.Pool.real3 _ h2
  obtain ⟨b, e3⟩ := real1 _ h3
  obtain ⟨s, e4⟩ := real1 _ h4
  let p : Pool.In := ⟨fun _ _ => 0, x, gn, w, b, s⟩
  have A (c : Dev Cert.PoolFwdIdeal.nD) : Cert.PoolFwdIdeal.Value.Args (fun b => m (c, b)) p := by
    rw [one c]
    exact ⟨e0, e1, e2, e3, e4⟩
  have B (c : Dev Cert.PoolFwdRefIdeal.nD) : Cert.PoolFwdRefIdeal.Value.Args (fun b => m' (c, b)) p :=
    have ⟨q0, q1, q2, q3, q4⟩ := hm c
    ⟨q0.trans (A c).h0, q1.trans (A c).h1, q2.trans (A c).h2, q3.trans (A c).h3, q4.trans (A c).h4⟩
  refine ⟨fun _ => (Cv (u2 (Pool.out p)) : FVec Ideal Cert.PoolFwdIdeal.S8192x1024 .f32), fun _ => (Cv (u2 (Pool.u p)) : FVec Ideal Cert.PoolFwdIdeal.S8192x1024 .bf16), ?_, ?_⟩
  · refine (θ_run _ _ _).mono (fun r h c => ?_) (θ_run_and (Cert.PoolFwdIdeal.Value.runK m g p A) (Cert.PoolFwdIdeal.Gen.unchanged m g))
    have ⟨r0, r1⟩ := h.1 c
    exact ⟨r0, r1, h.2 c⟩
  · refine (θ_run _ _ _).mono (fun r h c => ?_) (θ_run_and (Cert.PoolFwdRefIdeal.Value.runR m' g' p B) (Cert.PoolFwdRefIdeal.Value.run m' g'))
    have ⟨r0, r1⟩ := h.1 c
    exact ⟨r0, r1, (h.2 c).2.2⟩

end Cert.PoolFwd
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.FinalClaim
public import proofs.«01_k».proof.Proof.Gen.Ple
public import proofs.«01_k».proof.Proof.Gen.Ple.Frame
public import proofs.«01_k».proof.Proof.Gen.PleIdeal
public import proofs.«01_k».proof.Proof.Gen.PleIdeal.Frame
public import proofs.«01_k».proof.Proof.Gen.PleRefIdeal
public import proofs.«01_k».proof.Proof.Gen.PleRefIdeal.Run
public import proofs.«01_k».proof.Proof.PleClaim
public import proofs.«01_k».proof.Proof.Gen.Lru
public import proofs.«01_k».proof.Proof.Gen.LruIdeal
public import proofs.«01_k».proof.Proof.Gen.LruRefIdeal
public import proofs.«01_k».proof.Proof.Gen.LruRefIdeal.Run
public import proofs.«01_k».proof.Proof.LruClaim
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.FfnClaim
public import proofs.«01_k».proof.Proof.Gen.LruIn
public import proofs.«01_k».proof.Proof.Gen.LruIn.Frame
public import proofs.«01_k».proof.Proof.Gen.LruInIdeal
public import proofs.«01_k».proof.Proof.Gen.LruInIdeal.Frame
public import proofs.«01_k».proof.Proof.Gen.LruInRefIdeal
public import proofs.«01_k».proof.Proof.Gen.LruInRefIdeal.Run
public import proofs.«01_k».proof.Proof.LruInClaim
public import proofs.«01_k».proof.Proof.Gen.Pool
public import proofs.«01_k».proof.Proof.Gen.Pool.Frame
public import proofs.«01_k».proof.Proof.Gen.PoolIdeal
public import proofs.«01_k».proof.Proof.Gen.PoolIdeal.Frame
public import proofs.«01_k».proof.Proof.Gen.PoolRefIdeal
public import proofs.«01_k».proof.Proof.Gen.PoolRefIdeal.Run
public import proofs.«01_k».proof.Proof.PoolClaim
public import proofs.«01_k».proof.Proof.Gen.PleFwd
public import proofs.«01_k».proof.Proof.Gen.PleFwd.Frame
public import proofs.«01_k».proof.Proof.Gen.PleFwdIdeal
public import proofs.«01_k».proof.Proof.Gen.PleFwdIdeal.Frame
public import proofs.«01_k».proof.Proof.Gen.PleFwdRefIdeal
public import proofs.«01_k».proof.Proof.Gen.PleFwdRefIdeal.Run
public import proofs.«01_k».proof.Proof.PleFwdClaim
public import proofs.«01_k».proof.Proof.Gen.PoolFwd
public import proofs.«01_k».proof.Proof.Gen.PoolFwd.Frame
public import proofs.«01_k».proof.Proof.Gen.PoolFwdIdeal
public import proofs.«01_k».proof.Proof.Gen.PoolFwdIdeal.Frame
public import proofs.«01_k».proof.Proof.Gen.PoolFwdRefIdeal
public import proofs.«01_k».proof.Proof.Gen.PoolFwdRefIdeal.Run
public import proofs.«01_k».proof.Proof.PoolFwdClaim

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Ple.Gen.facts, Cert.PleIdeal.Gen.facts, Cert.PleRefIdeal.Gen.facts,
  Cert.Lru.Gen.facts, Cert.LruIdeal.Gen.facts, Cert.LruRefIdeal.Gen.facts,
  Cert.Ffn.Gen.facts, Cert.FfnIdeal.Gen.facts, Cert.FfnRefIdeal.Gen.facts,
  Cert.LruIn.Gen.facts, Cert.LruInIdeal.Gen.facts, Cert.LruInRefIdeal.Gen.facts,
  Cert.Pool.Gen.facts, Cert.PoolIdeal.Gen.facts, Cert.PoolRefIdeal.Gen.facts,
  Cert.PleFwd.Gen.facts, Cert.PleFwdIdeal.Gen.facts, Cert.PleFwdRefIdeal.Gen.facts,
  Cert.PoolFwd.Gen.facts, Cert.PoolFwdIdeal.Gen.facts, Cert.PoolFwdRefIdeal.Gen.facts,
  inferInstance, Cert.Pre_finite_ple.Gen.facts, inferInstance,
  Cert.Pre_finite_ffn.Gen.facts, Cert.Pre_finite_in.Gen.facts, Cert.Pre_finite_pool.Gen.facts,
  Cert.Pre_finite_ple_fwd.Gen.facts, Cert.Pre_finite_pool_fwd.Gen.facts,
  fun m ρ _ => Cert.Kernel.Gen.frame m ρ,
  fun m ρ _ => Cert.KernelIdeal.Gen.frame m ρ,
  fun m ρ _ => Cert.KernelIdeal.Gen.frame m ρ,
  fun m ρ _ => Cert.Final.frame_R m ρ,
  fun m ρ _ => Cert.Final.frame_R m ρ,
  fun m ρ _ => Cert.Ple.Gen.frame m ρ,
  fun m ρ _ => Cert.PleIdeal.Gen.frame m ρ,
  fun m ρ _ => Cert.PleIdeal.Gen.frame m ρ,
  Cert.Ple.frame_reference,
  fun m ρ _ => Cert.Ple.frame_reference m ρ trivial,
  Cert.LruPair.frame_kernel,
  fun m ρ _ => Cert.LruIdeal.Run.frame m ρ,
  fun m ρ _ => Cert.LruIdeal.Run.frame m ρ,
  Cert.LruPair.frame_reference,
  fun m ρ _ => Cert.LruPair.frame_reference m ρ trivial,
  fun m ρ _ => Cert.Ffn.Gen.frame m ρ,
  fun m ρ _ => Cert.FfnIdeal.Gen.frame m ρ,
  fun m ρ _ => Cert.FfnIdeal.Gen.frame m ρ,
  Cert.Ffn.frame_reference,
  fun m ρ _ => Cert.Ffn.frame_reference m ρ trivial,
  fun m ρ _ => Cert.LruIn.Gen.frame m ρ,
  fun m ρ _ => Cert.LruInIdeal.Gen.frame m ρ,
  fun m ρ _ => Cert.LruInIdeal.Gen.frame m ρ,
  Cert.LruIn.frame_reference,
  fun m ρ _ => Cert.LruIn.frame_reference m ρ trivial,
  fun m ρ _ => Cert.Pool.Gen.frame m ρ,
  fun m ρ _ => Cert.PoolIdeal.Gen.frame m ρ,
  fun m ρ _ => Cert.PoolIdeal.Gen.frame m ρ,
  Cert.Pool.frame_reference,
  fun m ρ _ => Cert.Pool.frame_reference m ρ trivial,
  fun m ρ _ => Cert.PleFwd.Gen.frame m ρ,
  fun m ρ _ => Cert.PleFwdIdeal.Gen.frame m ρ,
  fun m ρ _ => Cert.PleFwdIdeal.Gen.frame m ρ,
  Cert.PleFwd.frame_reference,
  fun m ρ _ => Cert.PleFwd.frame_reference m ρ trivial,
  fun m ρ _ => Cert.PoolFwd.Gen.frame m ρ,
  fun m ρ _ => Cert.PoolFwdIdeal.Gen.frame m ρ,
  fun m ρ _ => Cert.PoolFwdIdeal.Gen.frame m ρ,
  Cert.PoolFwd.frame_reference,
  fun m ρ _ => Cert.PoolFwd.frame_reference m ρ trivial,
  trivial,
  Cert.Final.value,
  trivial,
  Cert.Ple.value,
  Cert.LruPair.preserves,
  Cert.LruPair.value,
  trivial,
  Cert.Ffn.value,
  trivial,
  Cert.LruIn.value,
  trivial,
  Cert.Pool.value,
  trivial,
  Cert.PleFwd.value,
  trivial,
  Cert.PoolFwd.value⟩

end Cert.Proof

end
